-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8)
      ∧ r.2.mem ((c.tc : Thread Cert.Fwd.nD Cert.Fwd.τ).loc Cert.Fwd.main_arg9) = m ((c.tc : Thread Cert.Fwd.nD Cert.Fwd.τ).loc Cert.Fwd.main_arg9)
      ∧ r.2.mem ((c.tc : Thread Cert.Fwd.nD Cert.Fwd.τ).loc Cert.Fwd.main_arg10) = m ((c.tc : Thread Cert.Fwd.nD Cert.Fwd.τ).loc Cert.Fwd.main_arg10))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
      ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6)
      ∧ r.2.mem ((c.tc : Thread Cert.FwdReferenceIdeal.nD Cert.FwdReferenceIdeal.τ).loc Cert.FwdReferenceIdeal.main_arg7) = m ((c.tc : Thread Cert.FwdReferenceIdeal.nD Cert.FwdReferenceIdeal.τ).loc Cert.FwdReferenceIdeal.main_arg7)
      ∧ r.2.mem ((c.tc : Thread Cert.FwdReferenceIdeal.nD Cert.FwdReferenceIdeal.τ).loc Cert.FwdReferenceIdeal.main_arg8) = m ((c.tc : Thread Cert.FwdReferenceIdeal.nD Cert.FwdReferenceIdeal.τ).loc Cert.FwdReferenceIdeal.main_arg8)
      ∧ r.2.mem ((c.tc : Thread Cert.FwdReferenceIdeal.nD Cert.FwdReferenceIdeal.τ).loc Cert.FwdReferenceIdeal.main_arg9) = m ((c.tc : Thread Cert.FwdReferenceIdeal.nD Cert.FwdReferenceIdeal.τ).loc Cert.FwdReferenceIdeal.main_arg9)
      ∧ r.2.mem ((c.tc : Thread Cert.FwdReferenceIdeal.nD Cert.FwdReferenceIdeal.τ).loc Cert.FwdReferenceIdeal.main_arg10) = m ((c.tc : Thread Cert.FwdReferenceIdeal.nD Cert.FwdReferenceIdeal.τ).loc Cert.FwdReferenceIdeal.main_arg10))
      ∧ r.2.sem = fun _ => 0)

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_v10) = v1 c
          ∧ r.2.mem ((c.tc : Thread Cert.DownReferenceIdeal.nD Cert.DownReferenceIdeal.τ).loc Cert.DownReferenceIdeal.main_v11) = v2 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Dact_DactIdeal : Prop :=
  True

def algebraic_DactIdeal_DactReferenceIdeal [hDactIdeal : Cert.DactIdeal.Facts] [hDactReferenceIdeal : Cert.DactReferenceIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactIdeal m →
    (∀ c : Dev Cert.DactIdeal.nD,
      m' ((c.tc : Thread Cert.DactReferenceIdeal.nD Cert.DactReferenceIdeal.τ).loc Cert.DactReferenceIdeal.main_arg0) = m ((c.tc : Thread Cert.DactIdeal.nD Cert.DactIdeal.τ).loc Cert.DactIdeal.main_arg0)
      ∧ m' ((c.tc : Thread Cert.DactReferenceIdeal.nD Cert.DactReferenceIdeal.τ).loc Cert.DactReferenceIdeal.main_arg1) = m ((c.tc : Thread Cert.DactIdeal.nD Cert.DactIdeal.τ).loc Cert.DactIdeal.main_arg1)
      ∧ m' ((c.tc : Thread Cert.DactReferenceIdeal.nD Cert.DactReferenceIdeal.τ).loc Cert.DactReferenceIdeal.main_arg2) = m ((c.tc : Thread Cert.DactIdeal.nD Cert.DactIdeal.τ).loc Cert.DactIdeal.main_arg2)
      ∧ m' ((c.tc : Thread Cert.DactReferenceIdeal.nD Cert.DactReferenceIdeal.τ).loc Cert.DactReferenceIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v12) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2)
          ∧ r.2.mem ((c.tc : Thread Cert.DactReferenceIdeal.nD Cert.DactReferenceIdeal.τ).loc Cert.DactReferenceIdeal.main_arg3) = m' ((c.tc : Thread Cert.DactReferenceIdeal.nD Cert.DactReferenceIdeal.τ).loc Cert.DactReferenceIdeal.main_arg3))

def preserves_Fwd_FwdIdeal : Prop :=
  IdealRules.named_const.Statement Cert.FwdIdeal.κ "slope" .f32 0x4119999A#32 ((48 / 5 : ℝ) : EReal)

def algebraic_FwdIdeal_FwdReferenceIdeal [hFwdIdeal : Cert.FwdIdeal.Facts] [hFwdReferenceIdeal : Cert.FwdReferenceIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)
      ∧ m' ((c.tc : Thread Cert.FwdReferenceIdeal.nD Cert.FwdReferenceIdeal.τ).loc Cert.FwdReferenceIdeal.main_arg3) = m ((c.tc : Thread Cert.FwdIdeal.nD Cert.FwdIdeal.τ).loc Cert.FwdIdeal.main_arg3)
      ∧ m' ((c.tc : Thread Cert.FwdReferenceIdeal.nD Cert.FwdReferenceIdeal.τ).loc Cert.FwdReferenceIdeal.main_arg4) = m ((c.tc : Thread Cert.FwdIdeal.nD Cert.FwdIdeal.τ).loc Cert.FwdIdeal.main_arg4)
      ∧ m' ((c.tc : Thread Cert.FwdReferenceIdeal.nD Cert.FwdReferenceIdeal.τ).loc Cert.FwdReferenceIdeal.main_arg5) = m ((c.tc : Thread Cert.FwdIdeal.nD Cert.FwdIdeal.τ).loc Cert.FwdIdeal.main_arg5)
      ∧ m' ((c.tc : Thread Cert.FwdReferenceIdeal.nD Cert.FwdReferenceIdeal.τ).loc Cert.FwdReferenceIdeal.main_arg6) = m ((c.tc : Thread Cert.FwdIdeal.nD Cert.FwdIdeal.τ).loc Cert.FwdIdeal.main_arg6)
      ∧ m' ((c.tc : Thread Cert.FwdReferenceIdeal.nD Cert.FwdReferenceIdeal.τ).loc Cert.FwdReferenceIdeal.main_arg7) = m ((c.tc : Thread Cert.FwdIdeal.nD Cert.FwdIdeal.τ).loc Cert.FwdIdeal.main_arg7)
      ∧ m' ((c.tc : Thread Cert.FwdReferenceIdeal.nD Cert.FwdReferenceIdeal.τ).loc Cert.FwdReferenceIdeal.main_arg8) = m ((c.tc : Thread Cert.FwdIdeal.nD Cert.FwdIdeal.τ).loc Cert.FwdIdeal.main_arg8)
      ∧ m' ((c.tc : Thread Cert.FwdReferenceIdeal.nD Cert.FwdReferenceIdeal.τ).loc Cert.FwdReferenceIdeal.main_arg9) = m ((c.tc : Thread Cert.FwdIdeal.nD Cert.FwdIdeal.τ).loc Cert.FwdIdeal.main_arg9)
      ∧ m' ((c.tc : Thread Cert.FwdReferenceIdeal.nD Cert.FwdReferenceIdeal.τ).loc Cert.FwdReferenceIdeal.main_arg10) = m ((c.tc : Thread Cert.FwdIdeal.nD Cert.FwdIdeal.τ).loc Cert.FwdIdeal.main_arg10)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)) (v2 : (c : Dev Cert.FwdIdeal.nD) → Buf (Elt Ideal) ((c.tc : Thread Cert.FwdIdeal.nD Cert.FwdIdeal.τ).loc Cert.FwdIdeal.main_v0_2)) (v3 : (c : Dev Cert.FwdIdeal.nD) → Buf (Elt Ideal) ((c.tc : Thread Cert.FwdIdeal.nD Cert.FwdIdeal.τ).loc Cert.FwdIdeal.main_v0_3)) (v4 : (c : Dev Cert.FwdIdeal.nD) → Buf (Elt Ideal) ((c.tc : Thread Cert.FwdIdeal.nD Cert.FwdIdeal.τ).loc Cert.FwdIdeal.main_v0_4)) (v5 : (c : Dev Cert.FwdIdeal.nD) → Buf (Elt Ideal) ((c.tc : Thread Cert.FwdIdeal.nD Cert.FwdIdeal.τ).loc Cert.FwdIdeal.main_v0_5)) (v6 : (c : Dev Cert.FwdIdeal.nD) → Buf (Elt Ideal) ((c.tc : Thread Cert.FwdIdeal.nD Cert.FwdIdeal.τ).loc Cert.FwdIdeal.main_v0_6)) (v7 : (c : Dev Cert.FwdIdeal.nD) → Buf (Elt Ideal) ((c.tc : Thread Cert.FwdIdeal.nD Cert.FwdIdeal.τ).loc Cert.FwdIdeal.main_v0_7)) (v8 : (c : Dev Cert.FwdIdeal.nD) → Buf (Elt Ideal) ((c.tc : Thread Cert.FwdIdeal.nD Cert.FwdIdeal.τ).loc Cert.FwdIdeal.main_v0_8)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_v0_2) = v2 c
          ∧ r.2.mem ((c.tc : Thread Cert.FwdIdeal.nD Cert.FwdIdeal.τ).loc Cert.FwdIdeal.main_v0_3) = v3 c
          ∧ r.2.mem ((c.tc : Thread Cert.FwdIdeal.nD Cert.FwdIdeal.τ).loc Cert.FwdIdeal.main_v0_4) = v4 c
          ∧ r.2.mem ((c.tc : Thread Cert.FwdIdeal.nD Cert.FwdIdeal.τ).loc Cert.FwdIdeal.main_v0_5) = v5 c
          ∧ r.2.mem ((c.tc : Thread Cert.FwdIdeal.nD Cert.FwdIdeal.τ).loc Cert.FwdIdeal.main_v0_6) = v6 c
          ∧ r.2.mem ((c.tc : Thread Cert.FwdIdeal.nD Cert.FwdIdeal.τ).loc Cert.FwdIdeal.main_v0_7) = v7 c
          ∧ r.2.mem ((c.tc : Thread Cert.FwdIdeal.nD Cert.FwdIdeal.τ).loc Cert.FwdIdeal.main_v0_8) = v8 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
          ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
          ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v82) = v0 c
          ∧ r.2.mem ((c.tc : Thread Cert.FwdReferenceIdeal.nD Cert.FwdReferenceIdeal.τ).loc Cert.FwdReferenceIdeal.main_v85) = v1 c
          ∧ r.2.mem ((c.tc : Thread Cert.FwdReferenceIdeal.nD Cert.FwdReferenceIdeal.τ).loc Cert.FwdReferenceIdeal.main_v73) = v2 c
          ∧ r.2.mem ((c.tc : Thread Cert.FwdReferenceIdeal.nD Cert.FwdReferenceIdeal.τ).loc Cert.FwdReferenceIdeal.main_v86) = v3 c
          ∧ r.2.mem ((c.tc : Thread Cert.FwdReferenceIdeal.nD Cert.FwdReferenceIdeal.τ).loc Cert.FwdReferenceIdeal.main_v87) = v4 c
          ∧ r.2.mem ((c.tc : Thread Cert.FwdReferenceIdeal.nD Cert.FwdReferenceIdeal.τ).loc Cert.FwdReferenceIdeal.main_v57) = v5 c
          ∧ r.2.mem ((c.tc : Thread Cert.FwdReferenceIdeal.nD Cert.FwdReferenceIdeal.τ).loc Cert.FwdReferenceIdeal.main_v18) = v6 c
          ∧ r.2.mem ((c.tc : Thread Cert.FwdReferenceIdeal.nD Cert.FwdReferenceIdeal.τ).loc Cert.FwdReferenceIdeal.main_v37) = v7 c
          ∧ r.2.mem ((c.tc : Thread Cert.FwdReferenceIdeal.nD Cert.FwdReferenceIdeal.τ).loc Cert.FwdReferenceIdeal.main_v56) = v8 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5)
          ∧ r.2.mem ((c.tc : Thread Cert.FwdReferenceIdeal.nD Cert.FwdReferenceIdeal.τ).loc Cert.FwdReferenceIdeal.main_arg6) = m' ((c.tc : Thread Cert.FwdReferenceIdeal.nD Cert.FwdReferenceIdeal.τ).loc Cert.FwdReferenceIdeal.main_arg6)
          ∧ r.2.mem ((c.tc : Thread Cert.FwdReferenceIdeal.nD Cert.FwdReferenceIdeal.τ).loc Cert.FwdReferenceIdeal.main_arg7) = m' ((c.tc : Thread Cert.FwdReferenceIdeal.nD Cert.FwdReferenceIdeal.τ).loc Cert.FwdReferenceIdeal.main_arg7)
          ∧ r.2.mem ((c.tc : Thread Cert.FwdReferenceIdeal.nD Cert.FwdReferenceIdeal.τ).loc Cert.FwdReferenceIdeal.main_arg8) = m' ((c.tc : Thread Cert.FwdReferenceIdeal.nD Cert.FwdReferenceIdeal.τ).loc Cert.FwdReferenceIdeal.main_arg8)
          ∧ r.2.mem ((c.tc : Thread Cert.FwdReferenceIdeal.nD Cert.FwdReferenceIdeal.τ).loc Cert.FwdReferenceIdeal.main_arg9) = m' ((c.tc : Thread Cert.FwdReferenceIdeal.nD Cert.FwdReferenceIdeal.τ).loc Cert.FwdReferenceIdeal.main_arg9)
          ∧ r.2.mem ((c.tc : Thread Cert.FwdReferenceIdeal.nD Cert.FwdReferenceIdeal.τ).loc Cert.FwdReferenceIdeal.main_arg10) = m' ((c.tc : Thread Cert.FwdReferenceIdeal.nD Cert.FwdReferenceIdeal.τ).loc Cert.FwdReferenceIdeal.main_arg10))

def Claim : Prop :=
  ∃ (hDown : Cert.Down.Facts) (hDownIdeal : Cert.DownIdeal.Facts) (hDownReferenceIdeal : Cert.DownReferenceIdeal.Facts) (hDact : Cert.Dact.Facts) (hDactIdeal : Cert.DactIdeal.Facts) (hDactReferenceIdeal : Cert.DactReferenceIdeal.Facts) (hFwd : Cert.Fwd.Facts) (hFwdIdeal : Cert.FwdIdeal.Facts) (hFwdReferenceIdeal : Cert.FwdReferenceIdeal.Facts),
    quiescent_Down (hDown := hDown)
    ∧ quiescent_DownIdeal (hDownIdeal := hDownIdeal)
    ∧ quiescent_DownReferenceIdeal (hDownReferenceIdeal := hDownReferenceIdeal)
    ∧ quiescent_Dact (hDact := hDact)
    ∧ quiescent_DactIdeal (hDactIdeal := hDactIdeal)
    ∧ quiescent_DactReferenceIdeal (hDactReferenceIdeal := hDactReferenceIdeal)
    ∧ quiescent_Fwd (hFwd := hFwd)
    ∧ quiescent_FwdIdeal (hFwdIdeal := hFwdIdeal)
    ∧ quiescent_FwdReferenceIdeal (hFwdReferenceIdeal := hFwdReferenceIdeal)
    ∧ preserves_Down_DownIdeal
    ∧ algebraic_DownIdeal_DownReferenceIdeal (hDownIdeal := hDownIdeal) (hDownReferenceIdeal := hDownReferenceIdeal)
    ∧ preserves_Dact_DactIdeal
    ∧ algebraic_DactIdeal_DactReferenceIdeal (hDactIdeal := hDactIdeal) (hDactReferenceIdeal := hDactReferenceIdeal)
    ∧ preserves_Fwd_FwdIdeal
    ∧ algebraic_FwdIdeal_FwdReferenceIdeal (hFwdIdeal := hFwdIdeal) (hFwdReferenceIdeal := hFwdReferenceIdeal)
-- ==== Down.lean ====
abbrev S4608x4352 : Shape := ⟨2, ![4608, 4352]⟩
abbrev S2048x4352 : Shape := ⟨2, ![2048, 4352]⟩
abbrev S4608x2048 : Shape := ⟨2, ![4608, 2048]⟩
abbrev S1x1 : Shape := ⟨2, ![1, 1]⟩
abbrev S512x4352 : Shape := ⟨2, ![512, 4352]⟩
abbrev S1024x4352 : Shape := ⟨2, ![1024, 4352]⟩
abbrev S512x1024 : Shape := ⟨2, ![512, 1024]⟩
abbrev S8x512 : Shape := ⟨2, ![8, 512]⟩
abbrev S512x512 : Shape := ⟨2, ![512, 512]⟩
abbrev S32x512 : Shape := ⟨2, ![32, 512]⟩
abbrev S1x8x512 : Shape := ⟨3, ![1, 8, 512]⟩
abbrev S1 : Shape := ⟨1, ![1]⟩
abbrev S1x1x1 : Shape := ⟨3, ![1, 1, 1]⟩

abbrev nBuf : Space → Nat
  | .hbm => 6
  | .vmem => 11
  | .smem => 1
  | _ => 0

abbrev bufTy : (tb : Table) → Fin (tcTables nBuf tb) → BufTy
  | .hbm, ⟨0, _⟩ => ⟨S4608x4352, .bf16⟩
  | .hbm, ⟨1, _⟩ => ⟨S2048x4352, .bf16⟩
  | .hbm, ⟨2, _⟩ => ⟨S4608x2048, .bf16⟩
  | .hbm, ⟨3, _⟩ => ⟨S4608x2048, .f32⟩
  | .hbm, ⟨4, _⟩ => ⟨S4608x2048, .bf16⟩
  | .hbm, ⟨5, _⟩ => ⟨S1x1, .f32⟩
  | .local _ .vmem, ⟨0, _⟩ => ⟨S512x4352, .bf16⟩
  | .local _ .vmem, ⟨1, _⟩ => ⟨S512x4352, .bf16⟩
  | .local _ .vmem, ⟨2, _⟩ => ⟨S1024x4352, .bf16⟩
  | .local _ .vmem, ⟨3, _⟩ => ⟨S1024x4352, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x512, .f32⟩
  | .local _ .smem, ⟨0, _⟩ => ⟨S1x1, .f32⟩
  | _, _ => ⟨S4608x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![2, 9], ![false, false]⟩

def k0_cond2 (i : grid0.Coords) : BitVec 1 :=
  let arg0 : BitVec 32 := BitVec.ofNat 32 (i 0).val
  let c1_i32 : BitVec 32 := 1#32
  let v655 : BitVec 1 := Scalar.cmpi .eq arg0 c1_i32
  let arg1 : BitVec 32 := BitVec.ofNat 32 (i 1).val
  let c8_i32 : BitVec 32 := 8#32
  let v656 : BitVec 1 := Scalar.cmpi .eq arg1 c8_i32
  let v657 : BitVec 1 := Scalar.andi v655 v656
  let v658 : BitVec 32 := Scalar.extui v657
  let c0_i32_254 : BitVec 32 := 0#32
  let v659 : BitVec 1 := Scalar.cmpi .ne v658 c0_i32_254
  v659

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== DownReferenceIdeal.lean ====
abbrev S4608x4352 : Shape := ⟨2, ![4608, 4352]⟩
abbrev S2048x4352 : Shape := ⟨2, ![2048, 4352]⟩
abbrev S4608x2048 : Shape := ⟨2, ![4608, 2048]⟩
abbrev S_ : Shape := ⟨0, ![]⟩
abbrev S1x1 : Shape := ⟨2, ![1, 1]⟩

abbrev nBuf : Space → Nat
  | .hbm => 19
  | .vmem => 0
  | .smem => 0
  | _ => 0

abbrev bufTy : (tb : Table) → Fin (tcTables nBuf tb) → BufTy
  | .hbm, ⟨0, _⟩ => ⟨S4608x4352, .bf16⟩
  | .hbm, ⟨1, _⟩ => ⟨S2048x4352, .bf16⟩
  | .hbm, ⟨2, _⟩ => ⟨S4608x2048, .bf16⟩
  | .hbm, ⟨3, _⟩ => ⟨S4608x2048, .f32⟩
  | .hbm, ⟨4, _⟩ => ⟨S4608x2048, .f32⟩
  | .hbm, ⟨5, _⟩ => ⟨S4608x2048, .f32⟩
  | .hbm, ⟨6, _⟩ => ⟨S4608x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4608x2048, .f32⟩
  | .hbm, ⟨13, _⟩ => ⟨S4608x2048, .f32⟩
  | .hbm, ⟨14, _⟩ => ⟨S_, .f32⟩
  | .hbm, ⟨15, _⟩ => ⟨S4608x2048, .f32⟩
  | .hbm, ⟨16, _⟩ => ⟨S4608x2048, .f32⟩
  | .hbm, ⟨17, _⟩ => ⟨S4608x2048, .bf16⟩
  | .hbm, ⟨18, _⟩ => ⟨S1x1, .f32⟩
  | _, _ => ⟨S4608x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Dact.lean ====
abbrev S4608x2048 : Shape := ⟨2, ![4608, 2048]⟩
abbrev S2048x4352 : Shape := ⟨2, ![2048, 4352]⟩
abbrev S4608x4352 : Shape := ⟨2, ![4608, 4352]⟩
abbrev S8704x4608 : Shape := ⟨2, ![8704, 4608]⟩
abbrev S2304x2048 : Shape := ⟨2, ![2304, 2048]⟩
abbrev S2048x256 : Shape := ⟨2, ![2048, 256]⟩
abbrev S2304x256 : Shape := ⟨2, ![2304, 256]⟩
abbrev S512x2304 : Shape := ⟨2, ![512, 2304]⟩
abbrev S384x2048 : Shape := ⟨2, ![384, 2048]⟩
abbrev S384x256 : Shape := ⟨2, ![384, 256]⟩
abbrev S256x384 : Shape := ⟨2, ![256, 384]⟩

abbrev nBuf : Space → Nat
  | .hbm => 5
  | .vmem => 10
  | .smem => 0
  | _ => 0

abbrev bufTy : (tb : Table) → Fin (tcTables nBuf tb) → BufTy
  | .hbm, ⟨0, _⟩ => ⟨S4608x2048, .bf16⟩
  | .hbm, ⟨1, _⟩ => ⟨S2048x4352, .bf16⟩
  | .hbm, ⟨2, _⟩ => ⟨S4608x4352, .f32⟩
  | .hbm, ⟨3, _⟩ => ⟨S4608x4352, .f32⟩
  | .hbm, ⟨4, _⟩ => ⟨S8704x4608, .bf16⟩
  | .local _ .vmem, ⟨0, _⟩ => ⟨S2304x2048, .bf16⟩
  | .local _ .vmem, ⟨1, _⟩ => ⟨S2304x2048, .bf16⟩
  | .local _ .vmem, ⟨2, _⟩ => ⟨S2048x256, .bf16⟩
  | .local _ .vmem, ⟨3, _⟩ => ⟨S2048x256, .bf16⟩
  | .local _ .vmem, ⟨4, _⟩ => ⟨S2304x256, .f32⟩
  | .local _ .vmem, ⟨5, _⟩ => ⟨S2304x256, .f32⟩
  | .local _ .vmem, ⟨6, _⟩ => ⟨S2304x256, .f32⟩
  | .local _ .vmem, ⟨7, _⟩ => ⟨S2304x256, .f32⟩
  | .local _ .vmem, ⟨8, _⟩ => ⟨S512x2304, .bf16⟩
  | .local _ .vmem, ⟨9, _⟩ => ⟨S512x2304, .bf16⟩
  | _, _ => ⟨S4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2304x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2304x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DactReferenceIdeal.lean ====
abbrev S4608x2048 : Shape := ⟨2, ![4608, 2048]⟩
abbrev S2048x4352 : Shape := ⟨2, ![2048, 4352]⟩
abbrev S4608x4352 : Shape := ⟨2, ![4608, 4352]⟩
abbrev S4352x4608 : Shape := ⟨2, ![4352, 4608]⟩
abbrev S17x256x4608 : Shape := ⟨3, ![17, 256, 4608]⟩
abbrev S17x1x256x4608 : Shape := ⟨4, ![17, 1, 256, 4608]⟩
abbrev S17x2x256x4608 : Shape := ⟨4, ![17, 2, 256, 4608]⟩
abbrev S8704x4608 : Shape := ⟨2, ![8704, 4608]⟩

abbrev nBuf : Space → Nat
  | .hbm => 17
  | .vmem => 0
  | .smem => 0
  | _ => 0

abbrev bufTy : (tb : Table) → Fin (tcTables nBuf tb) → BufTy
  | .hbm, ⟨0, _⟩ => ⟨S4608x2048, .bf16⟩
  | .hbm, ⟨1, _⟩ => ⟨S2048x4352, .bf16⟩
  | .hbm, ⟨2, _⟩ => ⟨S4608x4352, .f32⟩
  | .hbm, ⟨3, _⟩ => ⟨S4608x4352, .f32⟩
  | .hbm, ⟨4, _⟩ => ⟨S4608x4352, .f32⟩
  | .hbm, ⟨5, _⟩ => ⟨S4608x4352, .f32⟩
  | .hbm, ⟨6, _⟩ => ⟨S4608x4352, .bf16⟩
  | .hbm, ⟨7, _⟩ => ⟨S4352x4608, .bf16⟩
  | .hbm, ⟨8, _⟩ => ⟨S4608x4352, .f32⟩
  | .hbm, ⟨9, _⟩ => ⟨S4608x4352, .bf16⟩
  | .hbm, ⟨10, _⟩ => ⟨S4352x4608, .bf16⟩
  | .hbm, ⟨11, _⟩ => ⟨S17x256x4608, .bf16⟩
  | .hbm, ⟨12, _⟩ => ⟨S17x256x4608, .bf16⟩
  | .hbm, ⟨13, _⟩ => ⟨S17x1x256x4608, .bf16⟩
  | .hbm, ⟨14, _⟩ => ⟨S17x1x256x4608, .bf16⟩
  | .hbm, ⟨15, _⟩ => ⟨S17x2x256x4608, .bf16⟩
  | .hbm, ⟨16, _⟩ => ⟨S8704x4608, .bf16⟩
  | _, _ => ⟨S4608x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Fwd.lean ====
abbrev S4608x2048 : Shape := ⟨2, ![4608, 2048]⟩
abbrev S6x768 : Shape := ⟨2, ![6, 768]⟩
abbrev S4352x1024 : Shape := ⟨2, ![4352, 1024]⟩
abbrev S4352x16 : Shape := ⟨2, ![4352, 16]⟩
abbrev S4352x2048 : Shape := ⟨2, ![4352, 2048]⟩
abbrev S2048x2176 : Shape := ⟨2, ![2048, 2176]⟩
abbrev S2048x34 : Shape := ⟨2, ![2048, 34]⟩
abbrev S2048x4352 : Shape := ⟨2, ![2048, 4352]⟩
abbrev S4608x4352 : Shape := ⟨2, ![4608, 4352]⟩
abbrev S4352x4608 : Shape := ⟨2, ![4352, 4608]⟩
abbrev S1152x2048 : Shape := ⟨2, ![1152, 2048]⟩
abbrev S64x1024 : Shape := ⟨2, ![64, 1024]⟩
abbrev S64x16 : Shape := ⟨2, ![64, 16]⟩
abbrev S64x2048 : Shape := ⟨2, ![64, 2048]⟩
abbrev S512x128 : Shape := ⟨2, ![512, 128]⟩
abbrev S512x34 : Shape := ⟨2, ![512, 34]⟩
abbrev S512x256 : Shape := ⟨2, ![512, 256]⟩
abbrev S1152x256 : Shape := ⟨2, ![1152, 256]⟩
abbrev S256x1152 : Shape := ⟨2, ![256, 1152]⟩
abbrev S4608x128 : Shape := ⟨2, ![4608, 128]⟩
abbrev S256x2048 : Shape := ⟨2, ![256, 2048]⟩
abbrev S1x128 : Shape := ⟨2, ![1, 128]⟩
abbrev S128x128 : Shape := ⟨2, ![128, 128]⟩
abbrev S32x16 : Shape := ⟨2, ![32, 16]⟩
abbrev S32x128 : Shape := ⟨2, ![32, 128]⟩
abbrev S8x128 : Shape := ⟨2, ![8, 128]⟩
abbrev S32x1 : Shape := ⟨2, ![32, 1]⟩
abbrev S32 : Shape := ⟨1, ![32]⟩
abbrev S32x34 : Shape := ⟨2, ![32, 34]⟩
abbrev S384x2048 : Shape := ⟨2, ![384, 2048]⟩
abbrev S384x256 : Shape := ⟨2, ![384, 256]⟩
abbrev S256x384 : Shape := ⟨2, ![256, 384]⟩

abbrev nBuf : Space → Nat
  | .hbm => 20
  | .vmem => 44
  | .smem => 0
  | _ => 0

abbrev bufTy : (tb : Table) → Fin (tcTables nBuf tb) → BufTy
  | .hbm, ⟨0, _⟩ => ⟨S4608x2048, .fp8e4m3⟩
  | .hbm, ⟨1, _⟩ => ⟨S6x768, .f32⟩
  | .hbm, ⟨2, _⟩ => ⟨S4352x1024, .i8⟩
  | .hbm, ⟨3, _⟩ => ⟨S4352x16, .f32⟩
  | .hbm, ⟨4, _⟩ => ⟨S4352x2048, .bf16⟩
  | .hbm, ⟨5, _⟩ => ⟨S4352x1024, .i8⟩
  | .hbm, ⟨6, _⟩ => ⟨S4352x16, .f32⟩
  | .hbm, ⟨7, _⟩ => ⟨S4352x2048, .bf16⟩
  | .hbm, ⟨8, _⟩ => ⟨S2048x2176, .i8⟩
  | .hbm, ⟨9, _⟩ => ⟨S2048x34, .f32⟩
  | .hbm, ⟨10, _⟩ => ⟨S2048x4352, .bf16⟩
  | .hbm, ⟨11, _⟩ => ⟨S4608x4352, .f32⟩
  | .hbm, ⟨12, _⟩ => ⟨S4608x4352, .f32⟩
  | .hbm, ⟨13, _⟩ => ⟨S4608x4352, .f32⟩
  | .hbm, ⟨14, _⟩ => ⟨S4608x4352, .bf16⟩
  | .hbm, ⟨15, _⟩ => ⟨S4352x4608, .bf16⟩
  | .hbm, ⟨16, _⟩ => ⟨S2048x4352, .bf16⟩
  | .hbm, ⟨17, _⟩ => ⟨S4352x16, .f32⟩
  | .hbm, ⟨18, _⟩ => ⟨S4352x16, .f32⟩
  | .hbm, ⟨19, _⟩ => ⟨S2048x34, .f32⟩
  | .local _ .vmem, ⟨0, _⟩ => ⟨S1152x2048, .fp8e4m3⟩
  | .local _ .vmem, ⟨1, _⟩ => ⟨S1152x2048, .fp8e4m3⟩
  | .local _ .vmem, ⟨2, _⟩ => ⟨S6x768, .f32⟩
  | .local _ .vmem, ⟨3, _⟩ => ⟨S64x1024, .i8⟩
  | .local _ .vmem, ⟨4, _⟩ => ⟨S64x1024, .i8⟩
  | .local _ .vmem, ⟨5, _⟩ => ⟨S64x16, .f32⟩
  | .local _ .vmem, ⟨6, _⟩ => ⟨S64x16, .f32⟩
  | .local _ .vmem, ⟨7, _⟩ => ⟨S64x2048, .bf16⟩
  | .local _ .vmem, ⟨8, _⟩ => ⟨S64x2048, .bf16⟩
  | .local _ .vmem, ⟨9, _⟩ => ⟨S64x1024, .i8⟩
  | .local _ .vmem, ⟨10, _⟩ => ⟨S64x1024, .i8⟩
  | .local _ .vmem, ⟨11, _⟩ => ⟨S64x16, .f32⟩
  | .local _ .vmem, ⟨12, _⟩ => ⟨S64x16, .f32⟩
  | .local _ .vmem, ⟨13, _⟩ => ⟨S64x2048, .bf16⟩
  | .local _ .vmem, ⟨14, _⟩ => ⟨S64x2048, .bf16⟩
  | .local _ .vmem, ⟨15, _⟩ => ⟨S512x128, .i8⟩
  | .local _ .vmem, ⟨16, _⟩ => ⟨S512x128, .i8⟩
  | .local _ .vmem, ⟨17, _⟩ => ⟨S512x34, .f32⟩
  | .local _ .vmem, ⟨18, _⟩ => ⟨S512x34, .f32⟩
  | .local _ .vmem, ⟨19, _⟩ => ⟨S512x256, .bf16⟩
  | .local _ .vmem, ⟨20, _⟩ => ⟨S512x256, .bf16⟩
  | .local _ .vmem, ⟨21, _⟩ => ⟨S1152x256, .f32⟩
  | .local _ .vmem, ⟨22, _⟩ => ⟨S1152x256, .f32⟩
  | .local _ .vmem, ⟨23, _⟩ => ⟨S1152x256, .f32⟩
  | .local _ .vmem, ⟨24, _⟩ => ⟨S1152x256, .f32⟩
  | .local _ .vmem, ⟨25, _⟩ => ⟨S1152x256, .f32⟩
  | .local _ .vmem, ⟨26, _⟩ => ⟨S1152x256, .f32⟩
  | .local _ .vmem, ⟨27, _⟩ => ⟨S1152x256, .bf16⟩
  | .local _ .vmem, ⟨28, _⟩ => ⟨S1152x256, .bf16⟩
  | .local _ .vmem, ⟨29, _⟩ => ⟨S256x1152, .bf16⟩
  | .local _ .vmem, ⟨30, _⟩ => ⟨S256x1152, .bf16⟩
  | .local _ .vmem, ⟨31, _⟩ => ⟨S512x256, .bf16⟩
  | .local _ .vmem, ⟨32, _⟩ => ⟨S512x256, .bf16⟩
  | .local _ .vmem, ⟨33, _⟩ => ⟨S64x16, .f32⟩
  | .local _ .vmem, ⟨34, _⟩ => ⟨S64x16, .f32⟩
  | .local _ .vmem, ⟨35, _⟩ => ⟨S64x16, .f32⟩
  | .local _ .vmem, ⟨36, _⟩ => ⟨S64x16, .f32⟩
  | .local _ .vmem, ⟨37, _⟩ => ⟨S2048x34, .f32⟩
  | .local _ .vmem, ⟨38, _⟩ => ⟨S4608x2048, .bf16⟩
  | .local _ .vmem, ⟨39, _⟩ => ⟨S4608x128, .f32⟩
  | .local _ .vmem, ⟨40, _⟩ => ⟨S256x2048, .bf16⟩
  | .local _ .vmem, ⟨41, _⟩ => ⟨S256x2048, .bf16⟩
  | .local _ .vmem, ⟨42, _⟩ => ⟨S256x2048, .bf16⟩
  | .local _ .vmem, ⟨43, _⟩ => ⟨S256x2048, .bf16⟩
  | _, _ => ⟨S4608x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37

abbrev nD : Nat := 1
abbrev τ : Topo := Topo.v7x

variable {F : FTy → Type} [FloatOps F]

abbrev grid0 : Pipeline.Grid := ⟨2, ![18, 4], ![false, false]⟩

def k0_mult1 (i : grid0.Coords) : BitVec 32 :=
  let arg1 : BitVec 32 := BitVec.ofNat 32 (i 1).val
  let c1152_i32 : BitVec 32 := 1152#32
  let v0 : BitVec 32 := Scalar.muli arg1 c1152_i32
  v0
def k0_mult2 (i : grid0.Coords) : BitVec 32 :=
  let arg1 : BitVec 32 := BitVec.ofNat 32 (i 1).val
  let c64_i32 : BitVec 32 := 64#32
  let v2 : BitVec 32 := Scalar.muli arg1 c64_i32
  v2
def k0_cond2 (i : grid0.Coords) : BitVec 1 :=
  let arg0 : BitVec 32 := BitVec.ofNat 32 (i 0).val
  let c0_i32_2 : BitVec 32 := 0#32
  let v9 : BitVec 1 := Scalar.cmpi .eq arg0 c0_i32_2
  let v10 : BitVec 32 := Scalar.extui v9
  let c0_i32_3 : BitVec 32 := 0#32
  let v11 : BitVec 1 := Scalar.cmpi .ne v10 c0_i32_3
  v11

def k0_off1 (i : grid0.Coords) : Fin 2 → Nat :=
  let arg1 : BitVec 32 := BitVec.ofNat 32 (i 1).val
  let c1152_i32 : BitVec 32 := 1152#32
  let v0 : BitVec 32 := Scalar.muli arg1 c1152_i32
  let v1 : BitVec 32 := v0
  let v44 : Index := Scalar.indexCast v1
  let c0_21 : Index := 0#32
  ![v44.toNat, 0]
def k0_off2 (i : grid0.Coords) (c0_i32_42 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v101 : BitVec 32 := Scalar.addi v3 c0_i32_42
  let v102 : Index := Scalar.indexCast v101
  let c0_43 : Index := 0#32
  ![v102.toNat, 0]
def k0_off3 (i : grid0.Coords) (c0_i32_56 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v141 : BitVec 32 := Scalar.addi v3 c0_i32_56
  let v142 : Index := Scalar.indexCast v141
  let c128_57 : Index := 128#32
  ![v142.toNat, 128]
def k0_off4 (i : grid0.Coords) (c0_i32_78 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v201 : BitVec 32 := Scalar.addi v3 c0_i32_78
  let v202 : Index := Scalar.indexCast v201
  let c256_79 : Index := 256#32
  ![v202.toNat, 256]
def k0_off5 (i : grid0.Coords) (c0_i32_92 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v241 : BitVec 32 := Scalar.addi v3 c0_i32_92
  let v242 : Index := Scalar.indexCast v241
  let c384_93 : Index := 384#32
  ![v242.toNat, 384]
def k0_off6 (i : grid0.Coords) (c0_i32_113 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v301 : BitVec 32 := Scalar.addi v3 c0_i32_113
  let v302 : Index := Scalar.indexCast v301
  let c512_114 : Index := 512#32
  ![v302.toNat, 512]
def k0_off7 (i : grid0.Coords) (c0_i32_127 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v341 : BitVec 32 := Scalar.addi v3 c0_i32_127
  let v342 : Index := Scalar.indexCast v341
  let c640_128 : Index := 640#32
  ![v342.toNat, 640]
def k0_off8 (i : grid0.Coords) (c0_i32_148 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v401 : BitVec 32 := Scalar.addi v3 c0_i32_148
  let v402 : Index := Scalar.indexCast v401
  let c768_149 : Index := 768#32
  ![v402.toNat, 768]
def k0_off9 (i : grid0.Coords) (c0_i32_161 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v441 : BitVec 32 := Scalar.addi v3 c0_i32_161
  let v442 : Index := Scalar.indexCast v441
  let c896_162 : Index := 896#32
  ![v442.toNat, 896]
def k0_off10 (i : grid0.Coords) (c0_i32_182 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v501 : BitVec 32 := Scalar.addi v3 c0_i32_182
  let v502 : Index := Scalar.indexCast v501
  let c1024_183 : Index := 1024#32
  ![v502.toNat, 1024]
def k0_off11 (i : grid0.Coords) (c0_i32_195 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v541 : BitVec 32 := Scalar.addi v3 c0_i32_195
  let v542 : Index := Scalar.indexCast v541
  let c1152_196 : Index := 1152#32
  ![v542.toNat, 1152]
def k0_off12 (i : grid0.Coords) (c0_i32_216 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v601 : BitVec 32 := Scalar.addi v3 c0_i32_216
  let v602 : Index := Scalar.indexCast v601
  let c1280_217 : Index := 1280#32
  ![v602.toNat, 1280]
def k0_off13 (i : grid0.Coords) (c0_i32_229 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v641 : BitVec 32 := Scalar.addi v3 c0_i32_229
  let v642 : Index := Scalar.indexCast v641
  let c1408_230 : Index := 1408#32
  ![v642.toNat, 1408]
def k0_off14 (i : grid0.Coords) (c0_i32_250 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v701 : BitVec 32 := Scalar.addi v3 c0_i32_250
  let v702 : Index := Scalar.indexCast v701
  let c1536_251 : Index := 1536#32
  ![v702.toNat, 1536]
def k0_off15 (i : grid0.Coords) (c0_i32_263 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v741 : BitVec 32 := Scalar.addi v3 c0_i32_263
  let v742 : Index := Scalar.indexCast v741
  let c1664_264 : Index := 1664#32
  ![v742.toNat, 1664]
def k0_off16 (i : grid0.Coords) (c0_i32_284 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v801 : BitVec 32 := Scalar.addi v3 c0_i32_284
  let v802 : Index := Scalar.indexCast v801
  let c1792_285 : Index := 1792#32
  ![v802.toNat, 1792]
def k0_off17 (i : grid0.Coords) (c0_i32_297 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v841 : BitVec 32 := Scalar.addi v3 c0_i32_297
  let v842 : Index := Scalar.indexCast v841
  let c1920_298 : Index := 1920#32
  ![v842.toNat, 1920]
def k0_cond3 (i : grid0.Coords) : BitVec 1 :=
  let arg0 : BitVec 32 := BitVec.ofNat 32 (i 0).val
  let c0_i32_4 : BitVec 32 := 0#32
  let v12 : BitVec 1 := Scalar.cmpi .sgt arg0 c0_i32_4
  let c2_i32 : BitVec 32 := 2#32
  let c0_i32_5 : BitVec 32 := 0#32
  let v13 : BitVec 1 := Scalar.cmpi .eq c2_i32 c0_i32_5
  let c1_i32 : BitVec 32 := 1#32
  let v14 : BitVec 32 := Scalar.select v13 c1_i32 c2_i32
  let v15 : BitVec 32 := Scalar.remsi arg0 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c0_i32_9 : BitVec 32 := 0#32
  let v23 : BitVec 1 := Scalar.cmpi .eq v22 c0_i32_9
  let v24 : BitVec 1 := Scalar.andi v12 v23
  let v25 : BitVec 32 := Scalar.extui v24
  let c0_i32_10 : BitVec 32 := 0#32
  let v26 : BitVec 1 := Scalar.cmpi .ne v25 c0_i32_10
  v26

def k0_off18 (i : grid0.Coords) (c0_i32_39 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v95 : BitVec 32 := Scalar.addi v3 c0_i32_39
  let v96 : Index := Scalar.indexCast v95
  let c0_40 : Index := 0#32
  ![v96.toNat, 0]
def k0_off19 (i : grid0.Coords) (c0_i32_53 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v135 : BitVec 32 := Scalar.addi v3 c0_i32_53
  let v136 : Index := Scalar.indexCast v135
  let c128_54 : Index := 128#32
  ![v136.toNat, 128]
def k0_off20 (i : grid0.Coords) (c0_i32_75 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v195 : BitVec 32 := Scalar.addi v3 c0_i32_75
  let v196 : Index := Scalar.indexCast v195
  let c256_76 : Index := 256#32
  ![v196.toNat, 256]
def k0_off21 (i : grid0.Coords) (c0_i32_89 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v235 : BitVec 32 := Scalar.addi v3 c0_i32_89
  let v236 : Index := Scalar.indexCast v235
  let c384_90 : Index := 384#32
  ![v236.toNat, 384]
def k0_off22 (i : grid0.Coords) (c0_i32_110 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v295 : BitVec 32 := Scalar.addi v3 c0_i32_110
  let v296 : Index := Scalar.indexCast v295
  let c512_111 : Index := 512#32
  ![v296.toNat, 512]
def k0_off23 (i : grid0.Coords) (c0_i32_124 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v335 : BitVec 32 := Scalar.addi v3 c0_i32_124
  let v336 : Index := Scalar.indexCast v335
  let c640_125 : Index := 640#32
  ![v336.toNat, 640]
def k0_off24 (i : grid0.Coords) (c0_i32_145 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v395 : BitVec 32 := Scalar.addi v3 c0_i32_145
  let v396 : Index := Scalar.indexCast v395
  let c768_146 : Index := 768#32
  ![v396.toNat, 768]
def k0_off25 (i : grid0.Coords) (c0_i32_158 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v435 : BitVec 32 := Scalar.addi v3 c0_i32_158
  let v436 : Index := Scalar.indexCast v435
  let c896_159 : Index := 896#32
  ![v436.toNat, 896]
def k0_off26 (i : grid0.Coords) (c0_i32_179 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v495 : BitVec 32 := Scalar.addi v3 c0_i32_179
  let v496 : Index := Scalar.indexCast v495
  let c1024_180 : Index := 1024#32
  ![v496.toNat, 1024]
def k0_off27 (i : grid0.Coords) (c0_i32_192 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v535 : BitVec 32 := Scalar.addi v3 c0_i32_192
  let v536 : Index := Scalar.indexCast v535
  let c1152_193 : Index := 1152#32
  ![v536.toNat, 1152]
def k0_off28 (i : grid0.Coords) (c0_i32_213 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v595 : BitVec 32 := Scalar.addi v3 c0_i32_213
  let v596 : Index := Scalar.indexCast v595
  let c1280_214 : Index := 1280#32
  ![v596.toNat, 1280]
def k0_off29 (i : grid0.Coords) (c0_i32_226 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v635 : BitVec 32 := Scalar.addi v3 c0_i32_226
  let v636 : Index := Scalar.indexCast v635
  let c1408_227 : Index := 1408#32
  ![v636.toNat, 1408]
def k0_off30 (i : grid0.Coords) (c0_i32_247 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v695 : BitVec 32 := Scalar.addi v3 c0_i32_247
  let v696 : Index := Scalar.indexCast v695
  let c1536_248 : Index := 1536#32
  ![v696.toNat, 1536]
def k0_off31 (i : grid0.Coords) (c0_i32_260 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v735 : BitVec 32 := Scalar.addi v3 c0_i32_260
  let v736 : Index := Scalar.indexCast v735
  let c1664_261 : Index := 1664#32
  ![v736.toNat, 1664]
def k0_off32 (i : grid0.Coords) (c0_i32_281 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v795 : BitVec 32 := Scalar.addi v3 c0_i32_281
  let v796 : Index := Scalar.indexCast v795
  let c1792_282 : Index := 1792#32
  ![v796.toNat, 1792]
def k0_off33 (i : grid0.Coords) (c0_i32_294 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v835 : BitVec 32 := Scalar.addi v3 c0_i32_294
  let v836 : Index := Scalar.indexCast v835
  let c1920_295 : Index := 1920#32
  ![v836.toNat, 1920]
def k0_mult3 (i : grid0.Coords) : BitVec 32 :=
  let arg1 : BitVec 32 := BitVec.ofNat 32 (i 1).val
  let c512_i32 : BitVec 32 := 512#32
  let v3262 : BitVec 32 := Scalar.muli arg1 c512_i32
  let c0_i32_1227 : BitVec 32 := 0#32
  let v3263 : BitVec 32 := Scalar.addi v3262 c0_i32_1227
  v3263
def k0_off34 (i : grid0.Coords) (c0_i32_1227 : BitVec 32) : Fin 2 → Nat :=
  let arg1 : BitVec 32 := BitVec.ofNat 32 (i 1).val
  let c512_i32 : BitVec 32 := 512#32
  let v3262 : BitVec 32 := Scalar.muli arg1 c512_i32
  let v3263 : BitVec 32 := Scalar.addi v3262 c0_i32_1227
  let v3264 : BitVec 32 := v3263
  let v3265 : Index := Scalar.indexCast v3264
  let c0_1228 : Index := 0#32
  ![v3265.toNat, 0]
def k0_mult4 (i : grid0.Coords) : BitVec 32 :=
  let arg1 : BitVec 32 := BitVec.ofNat 32 (i 1).val
  let c512_i32_1276 : BitVec 32 := 512#32
  let v3380 : BitVec 32 := Scalar.muli arg1 c512_i32_1276
  let c32_i32_1277 : BitVec 32 := 32#32
  let v3381 : BitVec 32 := Scalar.addi v3380 c32_i32_1277
  v3381
def k0_mult5 (i : grid0.Coords) : BitVec 32 :=
  let arg1 : BitVec 32 := BitVec.ofNat 32 (i 1).val
  let c512_i32_1325 : BitVec 32 := 512#32
  let v3498 : BitVec 32 := Scalar.muli arg1 c512_i32_1325
  let c64_i32_1326 : BitVec 32 := 64#32
  let v3499 : BitVec 32 := Scalar.addi v3498 c64_i32_1326
  v3499
def k0_mult6 (i : grid0.Coords) : BitVec 32 :=
  let arg1 : BitVec 32 := BitVec.ofNat 32 (i 1).val
  let c512_i32_1374 : BitVec 32 := 512#32
  let v3616 : BitVec 32 := Scalar.muli arg1 c512_i32_1374
  let c96_i32 : BitVec 32 := 96#32
  let v3617 : BitVec 32 := Scalar.addi v3616 c96_i32
  v3617
def k0_mult7 (i : grid0.Coords) : BitVec 32 :=
  let arg1 : BitVec 32 := BitVec.ofNat 32 (i 1).val
  let c512_i32_1423 : BitVec 32 := 512#32
  let v3734 : BitVec 32 := Scalar.muli arg1 c512_i32_1423
  let c128_i32 : BitVec 32 := 128#32
  let v3735 : BitVec 32 := Scalar.addi v3734 c128_i32
  v3735
def k0_mult8 (i : grid0.Coords) : BitVec 32 :=
  let arg1 : BitVec 32 := BitVec.ofNat 32 (i 1).val
  let c512_i32_1471 : BitVec 32 := 512#32
  let v3852 : BitVec 32 := Scalar.muli arg1 c512_i32_1471
  let c160_i32 : BitVec 32 := 160#32
  let v3853 : BitVec 32 := Scalar.addi v3852 c160_i32
  v3853
def k0_mult9 (i : grid0.Coords) : BitVec 32 :=
  let arg1 : BitVec 32 := BitVec.ofNat 32 (i 1).val
  let c512_i32_1519 : BitVec 32 := 512#32
  let v3970 : BitVec 32 := Scalar.muli arg1 c512_i32_1519
  let c192_i32 : BitVec 32 := 192#32
  let v3971 : BitVec 32 := Scalar.addi v3970 c192_i32
  v3971
def k0_mult10 (i : grid0.Coords) : BitVec 32 :=
  let arg1 : BitVec 32 := BitVec.ofNat 32 (i 1).val
  let c512_i32_1567 : BitVec 32 := 512#32
  let v4088 : BitVec 32 := Scalar.muli arg1 c512_i32_1567
  let c224_i32 : BitVec 32 := 224#32
  let v4089 : BitVec 32 := Scalar.addi v4088 c224_i32
  v4089
def k0_mult11 (i : grid0.Coords) : BitVec 32 :=
  let arg1 : BitVec 32 := BitVec.ofNat 32 (i 1).val
  let c512_i32_1616 : BitVec 32 := 512#32
  let v4206 : BitVec 32 := Scalar.muli arg1 c512_i32_1616
  let c256_i32 : BitVec 32 := 256#32
  let v4207 : BitVec 32 := Scalar.addi v4206 c256_i32
  v4207
def k0_mult12 (i : grid0.Coords) : BitVec 32 :=
  let arg1 : BitVec 32 := BitVec.ofNat 32 (i 1).val
  let c512_i32_1664 : BitVec 32 := 512#32
  let v4324 : BitVec 32 := Scalar.muli arg1 c512_i32_1664
  let c288_i32 : BitVec 32 := 288#32
  let v4325 : BitVec 32 := Scalar.addi v4324 c288_i32
  v4325
def k0_mult13 (i : grid0.Coords) : BitVec 32 :=
  let arg1 : BitVec 32 := BitVec.ofNat 32 (i 1).val
  let c512_i32_1712 : BitVec 32 := 512#32
  let v4442 : BitVec 32 := Scalar.muli arg1 c512_i32_1712
  let c320_i32 : BitVec 32 := 320#32
  let v4443 : BitVec 32 := Scalar.addi v4442 c320_i32
  v4443
def k0_mult14 (i : grid0.Coords) : BitVec 32 :=
  let arg1 : BitVec 32 := BitVec.ofNat 32 (i 1).val
  let c512_i32_1760 : BitVec 32 := 512#32
  let v4560 : BitVec 32 := Scalar.muli arg1 c512_i32_1760
  let c352_i32 : BitVec 32 := 352#32
  let v4561 : BitVec 32 := Scalar.addi v4560 c352_i32
  v4561
def k0_mult15 (i : grid0.Coords) : BitVec 32 :=
  let arg1 : BitVec 32 := BitVec.ofNat 32 (i 1).val
  let c512_i32_1809 : BitVec 32 := 512#32
  let v4678 : BitVec 32 := Scalar.muli arg1 c512_i32_1809
  let c384_i32 : BitVec 32 := 384#32
  let v4679 : BitVec 32 := Scalar.addi v4678 c384_i32
  v4679
def k0_mult16 (i : grid0.Coords) : BitVec 32 :=
  let arg1 : BitVec 32 := BitVec.ofNat 32 (i 1).val
  let c512_i32_1857 : BitVec 32 := 512#32
  let v4796 : BitVec 32 := Scalar.muli arg1 c512_i32_1857
  let c416_i32 : BitVec 32 := 416#32
  let v4797 : BitVec 32 := Scalar.addi v4796 c416_i32
  v4797
def k0_mult17 (i : grid0.Coords) : BitVec 32 :=
  let arg1 : BitVec 32 := BitVec.ofNat 32 (i 1).val
  let c512_i32_1905 : BitVec 32 := 512#32
  let v4914 : BitVec 32 := Scalar.muli arg1 c512_i32_1905
  let c448_i32 : BitVec 32 := 448#32
  let v4915 : BitVec 32 := Scalar.addi v4914 c448_i32
  v4915
def k0_mult18 (i : grid0.Coords) : BitVec 32 :=
  let arg1 : BitVec 32 := BitVec.ofNat 32 (i 1).val
  let c512_i32_1953 : BitVec 32 := 512#32
  let v5032 : BitVec 32 := Scalar.muli arg1 c512_i32_1953
  let c480_i32 : BitVec 32 := 480#32
  let v5033 : BitVec 32 := Scalar.addi v5032 c480_i32
  v5033
def k0_off35 (i : grid0.Coords) (c0_i32_2000 : BitVec 32) : Fin 2 → Nat :=
  let arg1 : BitVec 32 := BitVec.ofNat 32 (i 1).val
  let c1152_i32 : BitVec 32 := 1152#32
  let v0 : BitVec 32 := Scalar.muli arg1 c1152_i32
  let v1 : BitVec 32 := v0
  let v5148 : BitVec 32 := Scalar.addi v1 c0_i32_2000
  let v5149 : Index := Scalar.indexCast v5148
  let c0_2001 : Index := 0#32
  ![v5149.toNat, 0]
def k0_off36 (i : grid0.Coords) (c0_i32_2008 : BitVec 32) (c0_i32_2009 : BitVec 32) : Fin 2 → Nat :=
  let arg1 : BitVec 32 := BitVec.ofNat 32 (i 1).val
  let c1152_i32 : BitVec 32 := 1152#32
  let v0 : BitVec 32 := Scalar.muli arg1 c1152_i32
  let v1 : BitVec 32 := v0
  let v5155 : BitVec 32 := Scalar.addi v1 c0_i32_2008
  let v5156 : BitVec 32 := Scalar.addi v5155 c0_i32_2009
  let v5157 : Index := Scalar.indexCast v5156
  let c0_2010 : Index := 0#32
  ![v5157.toNat, 0]
def k0_cond4 (i : grid0.Coords) : BitVec 1 :=
  let arg0 : BitVec 32 := BitVec.ofNat 32 (i 0).val
  let c0_i32_11 : BitVec 32 := 0#32
  let v27 : BitVec 1 := Scalar.cmpi .sgt arg0 c0_i32_11
  let c2_i32_12 : BitVec 32 := 2#32
  let c0_i32_13 : BitVec 32 := 0#32
  let v28 : BitVec 1 := Scalar.cmpi .eq c2_i32_12 c0_i32_13
  let c1_i32_14 : BitVec 32 := 1#32
  let v29 : BitVec 32 := Scalar.select v28 c1_i32_14 c2_i32_12
  let v30 : BitVec 32 := Scalar.remsi arg0 v29
  let c0_i32_16 : BitVec 32 := 0#32
  let v32 : BitVec 1 := Scalar.cmpi .slt v30 c0_i32_16
  let c0_i32_17 : BitVec 32 := 0#32
  let v33 : BitVec 1 := Scalar.cmpi .slt v29 c0_i32_17
  let v34 : BitVec 1 := Scalar.xori v32 v33
  let c0_i32_15 : BitVec 32 := 0#32
  let v31 : BitVec 1 := Scalar.cmpi .ne v30 c0_i32_15
  let v35 : BitVec 1 := Scalar.andi v34 v31
  let v36 : BitVec 32 := Scalar.addi v30 v29
  let v37 : BitVec 32 := Scalar.select v35 v36 v30
  let c1_i32_18 : BitVec 32 := 1#32
  let v38 : BitVec 1 := Scalar.cmpi .eq v37 c1_i32_18
  let v39 : BitVec 1 := Scalar.andi v27 v38
  let v40 : BitVec 32 := Scalar.extui v39
  let c0_i32_19 : BitVec 32 := 0#32
  let v41 : BitVec 1 := Scalar.cmpi .ne v40 c0_i32_19
  v41

def k0_off37 (i : grid0.Coords) (c0_i32_39 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v95 : BitVec 32 := Scalar.addi v3 c0_i32_39
  let v96 : Index := Scalar.indexCast v95
  let c0_40 : Index := 0#32
  ![v96.toNat, 0]
def k0_off38 (i : grid0.Coords) (c0_i32_53 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v135 : BitVec 32 := Scalar.addi v3 c0_i32_53
  let v136 : Index := Scalar.indexCast v135
  let c128_54 : Index := 128#32
  ![v136.toNat, 128]
def k0_off39 (i : grid0.Coords) (c0_i32_75 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v195 : BitVec 32 := Scalar.addi v3 c0_i32_75
  let v196 : Index := Scalar.indexCast v195
  let c256_76 : Index := 256#32
  ![v196.toNat, 256]
def k0_off40 (i : grid0.Coords) (c0_i32_89 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v235 : BitVec 32 := Scalar.addi v3 c0_i32_89
  let v236 : Index := Scalar.indexCast v235
  let c384_90 : Index := 384#32
  ![v236.toNat, 384]
def k0_off41 (i : grid0.Coords) (c0_i32_110 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v295 : BitVec 32 := Scalar.addi v3 c0_i32_110
  let v296 : Index := Scalar.indexCast v295
  let c512_111 : Index := 512#32
  ![v296.toNat, 512]
def k0_off42 (i : grid0.Coords) (c0_i32_124 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v335 : BitVec 32 := Scalar.addi v3 c0_i32_124
  let v336 : Index := Scalar.indexCast v335
  let c640_125 : Index := 640#32
  ![v336.toNat, 640]
def k0_off43 (i : grid0.Coords) (c0_i32_145 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v395 : BitVec 32 := Scalar.addi v3 c0_i32_145
  let v396 : Index := Scalar.indexCast v395
  let c768_146 : Index := 768#32
  ![v396.toNat, 768]
def k0_off44 (i : grid0.Coords) (c0_i32_158 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v435 : BitVec 32 := Scalar.addi v3 c0_i32_158
  let v436 : Index := Scalar.indexCast v435
  let c896_159 : Index := 896#32
  ![v436.toNat, 896]
def k0_off45 (i : grid0.Coords) (c0_i32_179 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v495 : BitVec 32 := Scalar.addi v3 c0_i32_179
  let v496 : Index := Scalar.indexCast v495
  let c1024_180 : Index := 1024#32
  ![v496.toNat, 1024]
def k0_off46 (i : grid0.Coords) (c0_i32_192 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v535 : BitVec 32 := Scalar.addi v3 c0_i32_192
  let v536 : Index := Scalar.indexCast v535
  let c1152_193 : Index := 1152#32
  ![v536.toNat, 1152]
def k0_off47 (i : grid0.Coords) (c0_i32_213 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v595 : BitVec 32 := Scalar.addi v3 c0_i32_213
  let v596 : Index := Scalar.indexCast v595
  let c1280_214 : Index := 1280#32
  ![v596.toNat, 1280]
def k0_off48 (i : grid0.Coords) (c0_i32_226 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v635 : BitVec 32 := Scalar.addi v3 c0_i32_226
  let v636 : Index := Scalar.indexCast v635
  let c1408_227 : Index := 1408#32
  ![v636.toNat, 1408]
def k0_off49 (i : grid0.Coords) (c0_i32_247 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v695 : BitVec 32 := Scalar.addi v3 c0_i32_247
  let v696 : Index := Scalar.indexCast v695
  let c1536_248 : Index := 1536#32
  ![v696.toNat, 1536]
def k0_off50 (i : grid0.Coords) (c0_i32_260 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v735 : BitVec 32 := Scalar.addi v3 c0_i32_260
  let v736 : Index := Scalar.indexCast v735
  let c1664_261 : Index := 1664#32
  ![v736.toNat, 1664]
def k0_off51 (i : grid0.Coords) (c0_i32_281 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v795 : BitVec 32 := Scalar.addi v3 c0_i32_281
  let v796 : Index := Scalar.indexCast v795
  let c1792_282 : Index := 1792#32
  ![v796.toNat, 1792]
def k0_off52 (i : grid0.Coords) (c0_i32_294 : BitVec 32) : Fin 2 → Nat :=
  let arg1 : BitVec 32 := BitVec.ofNat 32 (i 1).val
  let c64_i32 : BitVec 32 := 64#32
  let v2 : BitVec 32 := Scalar.muli arg1 c64_i32
  let v3 : BitVec 32 := v2
  let v835 : BitVec 32 := Scalar.addi v3 c0_i32_294
  let v836 : Index := Scalar.indexCast v835
  let c1920_295 : Index := 1920#32
  ![v836.toNat, 1920]
def k0_mult19 (i : grid0.Coords) : BitVec 32 :=
  let arg1 : BitVec 32 := BitVec.ofNat 32 (i 1).val
  let c512_i32 : BitVec 32 := 512#32
  let v3262 : BitVec 32 := Scalar.muli arg1 c512_i32
  let c0_i32_1227 : BitVec 32 := 0#32
  let v3263 : BitVec 32 := Scalar.addi v3262 c0_i32_1227
  v3263
def k0_off53 (i : grid0.Coords) (c0_i32_1227 : BitVec 32) : Fin 2 → Nat :=
  let arg1 : BitVec 32 := BitVec.ofNat 32 (i 1).val
  let c512_i32 : BitVec 32 := 512#32
  let v3262 : BitVec 32 := Scalar.muli arg1 c512_i32
  let v3263 : BitVec 32 := Scalar.addi v3262 c0_i32_1227
  let v3264 : BitVec 32 := v3263
  let v3265 : Index := Scalar.indexCast v3264
  let c0_1228 : Index := 0#32
  ![v3265.toNat, 0]
def k0_mult20 (i : grid0.Coords) : BitVec 32 :=
  let arg1 : BitVec 32 := BitVec.ofNat 32 (i 1).val
  let c512_i32_1276 : BitVec 32 := 512#32
  let v3380 : BitVec 32 := Scalar.muli arg1 c512_i32_1276
  let c32_i32_1277 : BitVec 32 := 32#32
  let v3381 : BitVec 32 := Scalar.addi v3380 c32_i32_1277
  v3381
def k0_mult21 (i : grid0.Coords) : BitVec 32 :=
  let arg1 : BitVec 32 := BitVec.ofNat 32 (i 1).val
  let c512_i32_1325 : BitVec 32 := 512#32
  let v3498 : BitVec 32 := Scalar.muli arg1 c512_i32_1325
  let c64_i32_1326 : BitVec 32 := 64#32
  let v3499 : BitVec 32 := Scalar.addi v3498 c64_i32_1326
  v3499
def k0_mult22 (i : grid0.Coords) : BitVec 32 :=
  let arg1 : BitVec 32 := BitVec.ofNat 32 (i 1).val
  let c512_i32_1374 : BitVec 32 := 512#32
  let v3616 : BitVec 32 := Scalar.muli arg1 c512_i32_1374
  let c96_i32 : BitVec 32 := 96#32
  let v3617 : BitVec 32 := Scalar.addi v3616 c96_i32
  v3617
def k0_mult23 (i : grid0.Coords) : BitVec 32 :=
  let arg1 : BitVec 32 := BitVec.ofNat 32 (i 1).val
  let c512_i32_1423 : BitVec 32 := 512#32
  let v3734 : BitVec 32 := Scalar.muli arg1 c512_i32_1423
  let c128_i32 : BitVec 32 := 128#32
  let v3735 : BitVec 32 := Scalar.addi v3734 c128_i32
  v3735
def k0_mult24 (i : grid0.Coords) : BitVec 32 :=
  let arg1 : BitVec 32 := BitVec.ofNat 32 (i 1).val
  let c512_i32_1471 : BitVec 32 := 512#32
  let v3852 : BitVec 32 := Scalar.muli arg1 c512_i32_1471
  let c160_i32 : BitVec 32 := 160#32
  let v3853 : BitVec 32 := Scalar.addi v3852 c160_i32
  v3853
def k0_mult25 (i : grid0.Coords) : BitVec 32 :=
  let arg1 : BitVec 32 := BitVec.ofNat 32 (i 1).val
  let c512_i32_1519 : BitVec 32 := 512#32
  let v3970 : BitVec 32 := Scalar.muli arg1 c512_i32_1519
  let c192_i32 : BitVec 32 := 192#32
  let v3971 : BitVec 32 := Scalar.addi v3970 c192_i32
  v3971
def k0_mult26 (i : grid0.Coords) : BitVec 32 :=
  let arg1 : BitVec 32 := BitVec.ofNat 32 (i 1).val
  let c512_i32_1567 : BitVec 32 := 512#32
  let v4088 : BitVec 32 := Scalar.muli arg1 c512_i32_1567
  let c224_i32 : BitVec 32 := 224#32
  let v4089 : BitVec 32 := Scalar.addi v4088 c224_i32
  v4089
def k0_mult27 (i : grid0.Coords) : BitVec 32 :=
  let arg1 : BitVec 32 := BitVec.ofNat 32 (i 1).val
  let c512_i32_1616 : BitVec 32 := 512#32
  let v4206 : BitVec 32 := Scalar.muli arg1 c512_i32_1616
  let c256_i32 : BitVec 32 := 256#32
  let v4207 : BitVec 32 := Scalar.addi v4206 c256_i32
  v4207
def k0_mult28 (i : grid0.Coords) : BitVec 32 :=
  let arg1 : BitVec 32 := BitVec.ofNat 32 (i 1).val
  let c512_i32_1664 : BitVec 32 := 512#32
  let v4324 : BitVec 32 := Scalar.muli arg1 c512_i32_1664
  let c288_i32 : BitVec 32 := 288#32
  let v4325 : BitVec 32 := Scalar.addi v4324 c288_i32
  v4325
def k0_mult29 (i : grid0.Coords) : BitVec 32 :=
  let arg1 : BitVec 32 := BitVec.ofNat 32 (i 1).val
  let c512_i32_1712 : BitVec 32 := 512#32
  let v4442 : BitVec 32 := Scalar.muli arg1 c512_i32_1712
  let c320_i32 : BitVec 32 := 320#32
  let v4443 : BitVec 32 := Scalar.addi v4442 c320_i32
  v4443
def k0_mult30 (i : grid0.Coords) : BitVec 32 :=
  let arg1 : BitVec 32 := BitVec.ofNat 32 (i 1).val
  let c512_i32_1760 : BitVec 32 := 512#32
  let v4560 : BitVec 32 := Scalar.muli arg1 c512_i32_1760
  let c352_i32 : BitVec 32 := 352#32
  let v4561 : BitVec 32 := Scalar.addi v4560 c352_i32
  v4561
def k0_mult31 (i : grid0.Coords) : BitVec 32 :=
  let arg1 : BitVec 32 := BitVec.ofNat 32 (i 1).val
  let c512_i32_1809 : BitVec 32 := 512#32
  let v4678 : BitVec 32 := Scalar.muli arg1 c512_i32_1809
  let c384_i32 : BitVec 32 := 384#32
  let v4679 : BitVec 32 := Scalar.addi v4678 c384_i32
  v4679
def k0_mult32 (i : grid0.Coords) : BitVec 32 :=
  let arg1 : BitVec 32 := BitVec.ofNat 32 (i 1).val
  let c512_i32_1857 : BitVec 32 := 512#32
  let v4796 : BitVec 32 := Scalar.muli arg1 c512_i32_1857
  let c416_i32 : BitVec 32 := 416#32
  let v4797 : BitVec 32 := Scalar.addi v4796 c416_i32
  v4797
def k0_mult33 (i : grid0.Coords) : BitVec 32 :=
  let arg1 : BitVec 32 := BitVec.ofNat 32 (i 1).val
  let c512_i32_1905 : BitVec 32 := 512#32
  let v4914 : BitVec 32 := Scalar.muli arg1 c512_i32_1905
  let c448_i32 : BitVec 32 := 448#32
  let v4915 : BitVec 32 := Scalar.addi v4914 c448_i32
  v4915
def k0_mult34 (i : grid0.Coords) : BitVec 32 :=
  let arg1 : BitVec 32 := BitVec.ofNat 32 (i 1).val
  let c512_i32_1953 : BitVec 32 := 512#32
  let v5032 : BitVec 32 := Scalar.muli arg1 c512_i32_1953
  let c480_i32 : BitVec 32 := 480#32
  let v5033 : BitVec 32 := Scalar.addi v5032 c480_i32
  v5033
def k0_off54 (i : grid0.Coords) (c0_i32_2000 : BitVec 32) : Fin 2 → Nat :=
  let arg1 : BitVec 32 := BitVec.ofNat 32 (i 1).val
  let c1152_i32 : BitVec 32 := 1152#32
  let v0 : BitVec 32 := Scalar.muli arg1 c1152_i32
  let v1 : BitVec 32 := v0
  let v5148 : BitVec 32 := Scalar.addi v1 c0_i32_2000
  let v5149 : Index := Scalar.indexCast v5148
  let c0_2001 : Index := 0#32
  ![v5149.toNat, 0]
def k0_off55 (i : grid0.Coords) (c0_i32_2008 : BitVec 32) (c0_i32_2009 : BitVec 32) : Fin 2 → Nat :=
  let arg1 : BitVec 32 := BitVec.ofNat 32 (i 1).val
  let c1152_i32 : BitVec 32 := 1152#32
  let v0 : BitVec 32 := Scalar.muli arg1 c1152_i32
  let v1 : BitVec 32 := v0
  let v5155 : BitVec 32 := Scalar.addi v1 c0_i32_2008
  let v5156 : BitVec 32 := Scalar.addi v5155 c0_i32_2009
  let v5157 : Index := Scalar.indexCast v5156
  let c0_2010 : Index := 0#32
  ![v5157.toNat, 0]
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .slt arg0 c17_i32
  let c4_i32 : BitVec 32 := 4#32
  let v1 : BitVec 32 := Scalar.muli arg0 c4_i32
  let v2 : BitVec 32 := Scalar.addi v1 arg1
  let c67_i32 : BitVec 32 := 67#32
  let v3 : BitVec 32 := Scalar.select v0 v2 c67_i32
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .slt arg0 c17_i32
  let c4_i32 : BitVec 32 := 4#32
  let v1 : BitVec 32 := Scalar.muli arg0 c4_i32
  let v2 : BitVec 32 := Scalar.addi v1 arg1
  let c67_i32 : BitVec 32 := 67#32
  let v3 : BitVec 32 := Scalar.select v0 v2 c67_i32
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .slt arg0 c17_i32
  let c4_i32 : BitVec 32 := 4#32
  let v1 : BitVec 32 := Scalar.muli arg0 c4_i32
  let v2 : BitVec 32 := Scalar.addi v1 arg1
  let c67_i32 : BitVec 32 := 67#32
  let v3 : BitVec 32 := Scalar.select v0 v2 c67_i32
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .slt arg0 c17_i32
  let c4_i32 : BitVec 32 := 4#32
  let v1 : BitVec 32 := Scalar.muli arg0 c4_i32
  let v2 : BitVec 32 := Scalar.addi v1 arg1
  let c67_i32 : BitVec 32 := 67#32
  let v3 : BitVec 32 := Scalar.select v0 v2 c67_i32
  let c0_i32 : BitVec 32 := 0#32
  let c0_i32_0 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .slt arg0 c17_i32
  let c4_i32 : BitVec 32 := 4#32
  let v1 : BitVec 32 := Scalar.muli arg0 c4_i32
  let v2 : BitVec 32 := Scalar.addi v1 arg1
  let c67_i32 : BitVec 32 := 67#32
  let v3 : BitVec 32 := Scalar.select v0 v2 c67_i32
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .slt arg0 c17_i32
  let c4_i32 : BitVec 32 := 4#32
  let v1 : BitVec 32 := Scalar.muli arg0 c4_i32
  let v2 : BitVec 32 := Scalar.addi v1 arg1
  let c67_i32 : BitVec 32 := 67#32
  let v3 : BitVec 32 := Scalar.select v0 v2 c67_i32
  let c0_i32 : BitVec 32 := 0#32
  let c0_i32_0 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_17 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .slt arg0 c17_i32
  let c4_i32 : BitVec 32 := 4#32
  let v1 : BitVec 32 := Scalar.muli arg0 c4_i32
  let v2 : BitVec 32 := Scalar.addi v1 arg1
  let c67_i32 : BitVec 32 := 67#32
  let v3 : BitVec 32 := Scalar.select v0 v2 c67_i32
  let c0_i32 : BitVec 32 := 0#32
  let c0_i32_0 : BitVec 32 := 0#32
  ![v3.toNat, c0_i32.toNat]

def cc0_transform_18 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .slt arg0 c17_i32
  let c4_i32 : BitVec 32 := 4#32
  let v1 : BitVec 32 := Scalar.muli arg0 c4_i32
  let v2 : BitVec 32 := Scalar.addi v1 arg1
  let c67_i32 : BitVec 32 := 67#32
  let v3 : BitVec 32 := Scalar.select v0 v2 c67_i32
  let c0_i32 : BitVec 32 := 0#32
  let c0_i32_0 : BitVec 32 := 0#32
  ![v3.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1152x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S6x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x34 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1152x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1152x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1152x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1152x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1152 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x16 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S64x16 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S2048x34 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== FwdIdeal.lean ====
variable {F : FTy → Type} [FloatOps F] [Named F]
def κ : String → Option EReal := fun
  | "slope" => some ((48 / 5 : ℝ) : EReal)
  | _ => none
-- ==== FwdReferenceIdeal.lean ====
abbrev S4608x2048 : Shape := ⟨2, ![4608, 2048]⟩
abbrev S6x768 : Shape := ⟨2, ![6, 768]⟩
abbrev S4352x1024 : Shape := ⟨2, ![4352, 1024]⟩
abbrev S4352x16 : Shape := ⟨2, ![4352, 16]⟩
abbrev S4352x2048 : Shape := ⟨2, ![4352, 2048]⟩
abbrev S2048x2176 : Shape := ⟨2, ![2048, 2176]⟩
abbrev S2048x34 : Shape := ⟨2, ![2048, 34]⟩
abbrev S2048x4352 : Shape := ⟨2, ![2048, 4352]⟩
abbrev S4352x16x64 : Shape := ⟨3, ![4352, 16, 64]⟩
abbrev S4352x16x128 : Shape := ⟨3, ![4352, 16, 128]⟩
abbrev S_ : Shape := ⟨0, ![]⟩
abbrev S2048x34x64 : Shape := ⟨3, ![2048, 34, 64]⟩
abbrev S2048x34x128 : Shape := ⟨3, ![2048, 34, 128]⟩
abbrev S4608 : Shape := ⟨1, ![4608]⟩
abbrev S4608x1 : Shape := ⟨2, ![4608, 1]⟩
abbrev S4608x4352 : Shape := ⟨2, ![4608, 4352]⟩
abbrev S4352x4608 : Shape := ⟨2, ![4352, 4608]⟩

abbrev nBuf : Space → Nat
  | .hbm => 124
  | .vmem => 17
  | .smem => 0
  | _ => 0

abbrev bufTy : (tb : Table) → Fin (tcTables nBuf tb) → BufTy
  | .hbm, ⟨0, _⟩ => ⟨S4608x2048, .fp8e4m3⟩
  | .hbm, ⟨1, _⟩ => ⟨S6x768, .f32⟩
  | .hbm, ⟨2, _⟩ => ⟨S4352x1024, .i8⟩
  | .hbm, ⟨3, _⟩ => ⟨S4352x16, .f32⟩
  | .hbm, ⟨4, _⟩ => ⟨S4352x2048, .bf16⟩
  | .hbm, ⟨5, _⟩ => ⟨S4352x1024, .i8⟩
  | .hbm, ⟨6, _⟩ => ⟨S4352x16, .f32⟩
  | .hbm, ⟨7, _⟩ => ⟨S4352x2048, .bf16⟩
  | .hbm, ⟨8, _⟩ => ⟨S2048x2176, .i8⟩
  | .hbm, ⟨9, _⟩ => ⟨S2048x34, .f32⟩
  | .hbm, ⟨10, _⟩ => ⟨S2048x4352, .bf16⟩
  | .hbm, ⟨11, _⟩ => ⟨S4608x2048, .bf16⟩
  | .hbm, ⟨12, _⟩ => ⟨S4352x1024, .f32⟩
  | .hbm, ⟨13, _⟩ => ⟨S4352x1024, .f32⟩
  | .hbm, ⟨14, _⟩ => ⟨S4352x1024, .f32⟩
  | .hbm, ⟨15, _⟩ => ⟨S4352x1024, .f32⟩
  | .hbm, ⟨16, _⟩ => ⟨S2048x2176, .f32⟩
  | .hbm, ⟨17, _⟩ => ⟨S2048x2176, .f32⟩
  | .hbm, ⟨18, _⟩ => ⟨S4352x2048, .f32⟩
  | .hbm, ⟨19, _⟩ => ⟨S4352x2048, .f32⟩
  | .hbm, ⟨20, _⟩ => ⟨S2048x4352, .f32⟩
  | .hbm, ⟨21, _⟩ => ⟨S4352x16x64, .f32⟩
  | .hbm, ⟨22, _⟩ => ⟨S4352x16x64, .f32⟩
  | .hbm, ⟨23, _⟩ => ⟨S4352x16x128, .f32⟩
  | .hbm, ⟨24, _⟩ => ⟨S4352x2048, .f32⟩
  | .hbm, ⟨25, _⟩ => ⟨S4352x16x128, .f32⟩
  | .hbm, ⟨26, _⟩ => ⟨S4352x2048, .f32⟩
  | .hbm, ⟨27, _⟩ => ⟨S4352x2048, .f32⟩
  | .hbm, ⟨28, _⟩ => ⟨S_, .f32⟩
  | .hbm, ⟨29, _⟩ => ⟨S4352x2048, .f32⟩
  | .hbm, ⟨30, _⟩ => ⟨S4352x2048, .f32⟩
  | .hbm, ⟨31, _⟩ => ⟨S4352x2048, .f32⟩
  | .hbm, ⟨32, _⟩ => ⟨S_, .f32⟩
  | .hbm, ⟨33, _⟩ => ⟨S4352x2048, .f32⟩
  | .hbm, ⟨34, _⟩ => ⟨S4352x2048, .f32⟩
  | .hbm, ⟨35, _⟩ => ⟨S_, .f32⟩
  | .hbm, ⟨36, _⟩ => ⟨S4352x2048, .f32⟩
  | .hbm, ⟨37, _⟩ => ⟨S4352x2048, .f32⟩
  | .hbm, ⟨38, _⟩ => ⟨S4352x2048, .f32⟩
  | .hbm, ⟨39, _⟩ => ⟨S4352x2048, .f32⟩
  | .hbm, ⟨40, _⟩ => ⟨S4352x16x128, .f32⟩
  | .hbm, ⟨41, _⟩ => ⟨S_, .f32⟩
  | .hbm, ⟨42, _⟩ => ⟨S4352x16, .f32⟩
  | .hbm, ⟨43, _⟩ => ⟨S4352x2048, .bf16⟩
  | .hbm, ⟨44, _⟩ => ⟨S4352x16x64, .f32⟩
  | .hbm, ⟨45, _⟩ => ⟨S4352x16x64, .f32⟩
  | .hbm, ⟨46, _⟩ => ⟨S4352x16x128, .f32⟩
  | .hbm, ⟨47, _⟩ => ⟨S4352x2048, .f32⟩
  | .hbm, ⟨48, _⟩ => ⟨S4352x16x128, .f32⟩
  | .hbm, ⟨49, _⟩ => ⟨S4352x2048, .f32⟩
  | .hbm, ⟨50, _⟩ => ⟨S4352x2048, .f32⟩
  | .hbm, ⟨51, _⟩ => ⟨S_, .f32⟩
  | .hbm, ⟨52, _⟩ => ⟨S4352x2048, .f32⟩
  | .hbm, ⟨53, _⟩ => ⟨S4352x2048, .f32⟩
  | .hbm, ⟨54, _⟩ => ⟨S4352x2048, .f32⟩
  | .hbm, ⟨55, _⟩ => ⟨S_, .f32⟩
  | .hbm, ⟨56, _⟩ => ⟨S4352x2048, .f32⟩
  | .hbm, ⟨57, _⟩ => ⟨S4352x2048, .f32⟩
  | .hbm, ⟨58, _⟩ => ⟨S_, .f32⟩
  | .hbm, ⟨59, _⟩ => ⟨S4352x2048, .f32⟩
  | .hbm, ⟨60, _⟩ => ⟨S4352x2048, .f32⟩
  | .hbm, ⟨61, _⟩ => ⟨S4352x2048, .f32⟩
  | .hbm, ⟨62, _⟩ => ⟨S4352x2048, .f32⟩
  | .hbm, ⟨63, _⟩ => ⟨S4352x16x128, .f32⟩
  | .hbm, ⟨64, _⟩ => ⟨S_, .f32⟩
  | .hbm, ⟨65, _⟩ => ⟨S4352x16, .f32⟩
  | .hbm, ⟨66, _⟩ => ⟨S4352x2048, .bf16⟩
  | .hbm, ⟨67, _⟩ => ⟨S2048x34x64, .f32⟩
  | .hbm, ⟨68, _⟩ => ⟨S2048x34x64, .f32⟩
  | .hbm, ⟨69, _⟩ => ⟨S2048x34x128, .f32⟩
  | .hbm, ⟨70, _⟩ => ⟨S2048x4352, .f32⟩
  | .hbm, ⟨71, _⟩ => ⟨S2048x34x128, .f32⟩
  | .hbm, ⟨72, _⟩ => ⟨S2048x4352, .f32⟩
  | .hbm, ⟨73, _⟩ => ⟨S2048x4352, .f32⟩
  | .hbm, ⟨74, _⟩ => ⟨S_, .f32⟩
  | .hbm, ⟨75, _⟩ => ⟨S2048x4352, .f32⟩
  | .hbm, ⟨76, _⟩ => ⟨S2048x4352, .f32⟩
  | .hbm, ⟨77, _⟩ => ⟨S2048x4352, .f32⟩
  | .hbm, ⟨78, _⟩ => ⟨S_, .f32⟩
  | .hbm, ⟨79, _⟩ => ⟨S2048x4352, .f32⟩
  | .hbm, ⟨80, _⟩ => ⟨S2048x4352, .f32⟩
  | .hbm, ⟨81, _⟩ => ⟨S_, .f32⟩
  | .hbm, ⟨82, _⟩ => ⟨S2048x4352, .f32⟩
  | .hbm, ⟨83, _⟩ => ⟨S2048x4352, .f32⟩
  | .hbm, ⟨84, _⟩ => ⟨S2048x4352, .f32⟩
  | .hbm, ⟨85, _⟩ => ⟨S2048x4352, .f32⟩
  | .hbm, ⟨86, _⟩ => ⟨S2048x34x128, .f32⟩
  | .hbm, ⟨87, _⟩ => ⟨S_, .f32⟩
  | .hbm, ⟨88, _⟩ => ⟨S2048x34, .f32⟩
  | .hbm, ⟨89, _⟩ => ⟨S2048x4352, .bf16⟩
  | .hbm, ⟨90, _⟩ => ⟨S4608, .f32⟩
  | .hbm, ⟨91, _⟩ => ⟨S4608x1, .f32⟩
  | .hbm, ⟨92, _⟩ => ⟨S4608x4352, .f32⟩
  | .hbm, ⟨93, _⟩ => ⟨S4608x4352, .f32⟩
  | .hbm, ⟨94, _⟩ => ⟨S4608x4352, .f32⟩
  | .hbm, ⟨95, _⟩ => ⟨S4608x4352, .f32⟩
  | .hbm, ⟨96, _⟩ => ⟨S4608x4352, .f32⟩
  | .hbm, ⟨97, _⟩ => ⟨S4608x4352, .f32⟩
  | .hbm, ⟨98, _⟩ => ⟨S4608x4352, .f32⟩
  | .hbm, ⟨99, _⟩ => ⟨S4608x4352, .f32⟩
  | .hbm, ⟨100, _⟩ => ⟨S_, .f32⟩
  | .hbm, ⟨101, _⟩ => ⟨S4608x4352, .f32⟩
  | .hbm, ⟨102, _⟩ => ⟨S4608x4352, .f32⟩
  | .hbm, ⟨103, _⟩ => ⟨S_, .f32⟩
  | .hbm, ⟨104, _⟩ => ⟨S4608x4352, .f32⟩
  | .hbm, ⟨105, _⟩ => ⟨S4608x4352, .f32⟩
  | .hbm, ⟨106, _⟩ => ⟨S4608x4352, .f32⟩
  | .hbm, ⟨107, _⟩ => ⟨S4608x4352, .f32⟩
  | .hbm, ⟨108, _⟩ => ⟨S4608x4352, .f32⟩
  | .hbm, ⟨109, _⟩ => ⟨S_, .f32⟩
  | .hbm, ⟨110, _⟩ => ⟨S4608x4352, .f32⟩
  | .hbm, ⟨111, _⟩ => ⟨S4608x4352, .f32⟩
  | .hbm, ⟨112, _⟩ => ⟨S4608x4352, .f32⟩
  | .hbm, ⟨113, _⟩ => ⟨S_, .f32⟩
  | .hbm, ⟨114, _⟩ => ⟨S4608x4352, .f32⟩
  | .hbm, ⟨115, _⟩ => ⟨S4608x4352, .f32⟩
  | .hbm, ⟨116, _⟩ => ⟨S4608x4352, .f32⟩
  | .hbm, ⟨117, _⟩ => ⟨S4608x4352, .f32⟩
  | .hbm, ⟨118, _⟩ => ⟨S4608x4352, .f32⟩
  | .hbm, ⟨119, _⟩ => ⟨S4608x4352, .f32⟩
  | .hbm, ⟨120, _⟩ => ⟨S4608x4352, .f32⟩
  | .hbm, ⟨121, _⟩ => ⟨S4608x4352, .f32⟩
  | .hbm, ⟨122, _⟩ => ⟨S4608x4352, .bf16⟩
  | .hbm, ⟨123, _⟩ => ⟨S4352x4608, .bf16⟩
  | .local _ .vmem, ⟨0, _⟩ => ⟨S4608x2048, .fp8e4m3⟩
  | .local _ .vmem, ⟨1, _⟩ => ⟨S4352x1024, .i8⟩
  | .local _ .vmem, ⟨2, _⟩ => ⟨S4352x1024, .i8⟩
  | .local _ .vmem, ⟨3, _⟩ => ⟨S2048x2176, .i8⟩
  | .local _ .vmem, ⟨4, _⟩ => ⟨S4352x2048, .bf16⟩
  | .local _ .vmem, ⟨5, _⟩ => ⟨S4352x2048, .bf16⟩
  | .local _ .vmem, ⟨6, _⟩ => ⟨S2048x4352, .bf16⟩
  | .local _ .vmem, ⟨7, _⟩ => ⟨S4608x2048, .bf16⟩
  | .local _ .vmem, ⟨8, _⟩ => ⟨S4352x1024, .f32⟩
  | .local _ .vmem, ⟨9, _⟩ => ⟨S4352x1024, .f32⟩
  | .local _ .vmem, ⟨10, _⟩ => ⟨S4352x1024, .f32⟩
  | .local _ .vmem, ⟨11, _⟩ => ⟨S4352x1024, .f32⟩
  | .local _ .vmem, ⟨12, _⟩ => ⟨S2048x2176, .f32⟩
  | .local _ .vmem, ⟨13, _⟩ => ⟨S2048x2176, .f32⟩
  | .local _ .vmem, ⟨14, _⟩ => ⟨S4352x2048, .f32⟩
  | .local _ .vmem, ⟨15, _⟩ => ⟨S4352x2048, .f32⟩
  | .local _ .vmem, ⟨16, _⟩ => ⟨S2048x4352, .f32⟩
  | _, _ => ⟨S4608x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_11 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_13 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_14 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F] [Named F]

def κ : String → Option EReal := fun
  | "gamma" => some ((-1 / 10 : ℝ) : EReal)
  | "stretch" => some ((6 / 5 : ℝ) : EReal)
  | _ => none

abbrev grid0 : Pipeline.Grid := .none

abbrev stage0_0 : Fin 1 → Memref sig .tc .vmem S4608x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4352x1024 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4352x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2176 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4352x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4352x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x4352 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4352x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4352x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4352x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x2176 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x2176 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4352x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4352x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2048x4352 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.DownIdeal.Block.lean ====
/-
  What one grid point of the down-projection kernel leaves, over the extended reals, of its three input blocks: the
  product block, the scaled error block, and the carried loss accumulator, whose total grows by the block's squared errors.
  The body computes two halves of 512 columns, each in sixteen strips of 32 rows.
-/
module

public import proofs.«01_k».proof.Defs
public import proofs.«01_k».proof.Proof.Gen.DownIdeal.Value
public import Idealize.ShloMosaic.Lib.Pipeline.Value
public import Idealize.ShloMosaic.Lib.ValueIdx
public import Idealize.ShloMosaic.PureOps.Ideal.Laws

@[expose] public section

noncomputable section

namespace Cert.DownIdeal.Block

open Cert.DownIdeal Cert.DownIdeal.Gen Idealize.ShloMosaic Idealize.ShloMosaic.TcCoe Idealize.SL.Sem
open Idealize.ShloMosaic.ValueIdx

/-- The two zero starts of a whole load. -/
theorem hz : (![0, 0] : Fin 2 → Nat) = fun _ => 0 := funext fun a => by fin_cases a <;> rfl

/-! ## The half product read at an index -/

abbrev D := dot_S512x4352_S512x4352_S512x512_1_1_0_0_n_n

/-- The left factor is read at the result's row. -/
theorem lhs0 (i : S512x512.Idx) (q : D.contr.Idx) : (D.lhsIdx i q 0).val = (i 0).val := by
  unfold DotDims.lhsIdx
  rw [dif_neg (show ¬(0 : Fin S512x4352.rank) ∈ D.lhsBatch by decide), dif_pos (show (0 : Fin S512x4352.rank) ∈ D.lhsNonContracting by decide)]
  rfl
/-- The left factor is read along the contracted axis. -/
theorem lhs1 (i : S512x512.Idx) (q : D.contr.Idx) : (D.lhsIdx i q 1).val = (q ⟨0, by decide⟩).val :=
  D.lhsIdx_val_of_single rfl i q
/-- The right factor is read at the result's column. -/
theorem rhs0 (i : S512x512.Idx) (q : D.contr.Idx) : (D.rhsIdx i q 0).val = (i 1).val := by
  unfold DotDims.rhsIdx
  rw [dif_neg (show ¬(0 : Fin S512x4352.rank) ∈ D.rhsBatch by decide), dif_pos (show (0 : Fin S512x4352.rank) ∈ D.rhsNonContracting by decide)]
  rfl
/-- The right factor is read along the contracted axis. -/
theorem rhs1 (i : S512x512.Idx) (q : D.contr.Idx) : (D.rhsIdx i q 1).val = (q ⟨0, by decide⟩).val :=
  D.rhsIdx_val_of_single rfl i q

/-- The half's product at a row and a column is the sum over the 4352 features. -/
theorem pay3_apply (x w : Vec Ideal S512x4352 .bf16) (i : S512x512.Idx) :
    k0_pay3 (F := Ideal) x w i
      = ∑ k : Fin 4352, x (ix2 ⟨(i 0).val, idx2_lt0 i⟩ k) * w (ix2 ⟨(i 1).val, idx2_lt1 i⟩ k) := by
  unfold k0_pay3
  simp only [matmul]
  rw [Ideal.matmul_constant_zero_apply, ← Equiv.sum_comp (contrEquiv1 D 4352 rfl rfl).symm]
  refine Finset.sum_congr rfl fun k _ => ?_
  have hk := contrEquiv1_symm_val D 4352 rfl rfl k
  have el : D.lhsIdx i ((contrEquiv1 D 4352 rfl rfl).symm k) = ix2 ⟨(i 0).val, idx2_lt0 i⟩ k := funext fun a => Fin.ext (by
    match a with
    | ⟨0, _⟩ => exact lhs0 _ _
    | ⟨1, _⟩ => exact (lhs1 _ _).trans hk)
  have er : D.rhsIdx i ((contrEquiv1 D 4352 rfl rfl).symm k) = ix2 ⟨(i 1).val, idx2_lt1 i⟩ k := funext fun a => Fin.ext (by
    match a with
    | ⟨0, _⟩ => exact rhs0 _ _
    | ⟨1, _⟩ => exact (rhs1 _ _).trans hk)
  rw [el, er]

/-! ## The blocks as functions of the input blocks -/

variable (x0 : Vec Ideal S512x4352 .bf16) (x1 : Vec Ideal S1024x4352 .bf16) (x2 : Vec Ideal S512x1024 .bf16)

/-- The product block. -/
def Y : Vec Ideal S512x1024 .f32 := fun y =>
  ∑ k : Fin 4352, x0 (ix2 ⟨(y 0).val, idx2_lt0 y⟩ k) * x1 (ix2 ⟨(y 1).val, idx2_lt1 y⟩ k)

/-- The error block. -/
def Err : Vec Ideal S512x1024 .f32 := fun y => Y x0 x1 y - x2 y

/-- The scaled error block: twice the error over the number of tokens. -/
def DY : Vec Ideal S512x1024 .bf16 := fun y =>
  Ideal.div (Ideal.ofBits .f32 0x40000000#32 * Err x0 x1 x2 y) (Ideal.ofBits .f32 0x45900000#32)

/-- One half's product. -/
abbrev half (o : Nat) (h0 : ∀ a, (![0, 0] : Fin 2 → Nat) a + S512x4352.size a ≤ S512x4352.size a)
    (h1 : ∀ a, (![o, 0] : Fin 2 → Nat) a + S512x4352.size a ≤ S1024x4352.size a) : FVec Ideal S512x512 .f32 :=
  k0_pay3 (F := Ideal) (View.ld x0 (Rect.unit (s := S512x4352) ![0, 0] S512x4352.size h0))
    (View.ld x1 (Rect.unit (s := S1024x4352) ![o, 0] S512x4352.size h1))

/-- One strip's error. -/
abbrev strip (r o : Nat) (h0 : ∀ a, (![0, 0] : Fin 2 → Nat) a + S512x4352.size a ≤ S512x4352.size a)
    (h1 : ∀ a, (![o, 0] : Fin 2 → Nat) a + S512x4352.size a ≤ S1024x4352.size a)
    (hs : S512x512.Slices ![r, 0] S32x512) (h3 : ∀ a, (![r, o] : Fin 2 → Nat) a + S32x512.size a ≤ S512x1024.size a) :
    FVec Ideal S32x512 .f32 :=
  subf (extractStridedSlice S32x512 ![r, 0] (half x0 x1 o h0 h1) hs)
    (extf .f32 (View.ld x2 (Rect.unit (s := S512x1024) ![r, o] S32x512.size h3) : FVec Ideal S32x512 .bf16) bitsLt_bf16_f32)

section Tile

variable (r o : Nat) (h0 : ∀ a, (![0, 0] : Fin 2 → Nat) a + S512x4352.size a ≤ S512x4352.size a)
    (h1 : ∀ a, (![o, 0] : Fin 2 → Nat) a + S512x4352.size a ≤ S1024x4352.size a)
    (hs : S512x512.Slices ![r, 0] S32x512) (h3 : ∀ a, (![r, o] : Fin 2 → Nat) a + S32x512.size a ≤ S512x1024.size a)

/-- A strip of a half's product is a tile of `Y`. -/
theorem tile_y (x : S32x512.Idx) :
    extractStridedSlice S32x512 ![r, 0] (half x0 x1 o h0 h1) hs x
      = Y x0 x1 ((Rect.unit (s := S512x1024) ![r, o] S32x512.size h3).emb x) := by
  have e0 : (((Rect.unit (s := S512x1024) ![r, o] S32x512.size h3).emb x) 0).val = r + (x 0).val := by
    show r + 1 * (x 0).val = _; omega
  have e1 : (((Rect.unit (s := S512x1024) ![r, o] S32x512.size h3).emb x) 1).val = o + (x 1).val := by
    show o + 1 * (x 1).val = _; omega
  unfold extractStridedSlice half
  rw [pay3_apply]
  unfold Y
  refine Finset.sum_congr rfl fun k _ => congrArg₂ (· * ·) (congrArg x0 ?_) (congrArg x1 ?_)
  · funext a; apply Fin.ext
    match a with
    | ⟨0, _⟩ => show 0 + 1 * (r + (x 0).val) = (((Rect.unit (s := S512x1024) ![r, o] S32x512.size h3).emb x) 0).val; rw [e0]; omega
    | ⟨1, _⟩ => show 0 + 1 * k.val = k.val; omega
  · funext a; apply Fin.ext
    match a with
    | ⟨0, _⟩ => show o + 1 * (0 + (x 1).val) = (((Rect.unit (s := S512x1024) ![r, o] S32x512.size h3).emb x) 1).val; rw [e1]; omega
    | ⟨1, _⟩ => show 0 + 1 * k.val = k.val; omega

/-- A strip's error is a tile of the error block. -/
theorem tile_err (x : S32x512.Idx) :
    strip x0 x1 x2 r o h0 h1 hs h3 x = Err x0 x1 x2 ((Rect.unit (s := S512x1024) ![r, o] S32x512.size h3).emb x) := by
  unfold strip Err
  rw [subf_apply, tile_y x0 x1 r o h0 h1 hs h3 x, extf_apply]
  rfl

/-- A strip's scaled error is a tile of `DY`. -/
theorem tile_dy (x : S32x512.Idx) :
    (truncf .bf16 (divf (mulf (broadcast S32x512 (Scalar.ofBits (F := Ideal) .f32 0x40000000#32)) (strip x0 x1 x2 r o h0 h1 hs h3))
      (broadcast S32x512 (Scalar.ofBits (F := Ideal) .f32 0x45900000#32))) bitsLt_bf16_f32 : FVec Ideal S32x512 .bf16) x
      = DY x0 x1 x2 ((Rect.unit (s := S512x1024) ![r, o] S32x512.size h3).emb x) := by
  rw [truncf_apply, divf_apply, mulf_apply, tile_err]
  rfl

end Tile

/-! ## The carried accumulator: totals -/

/-- The 32 rows' squares folded onto eight. -/
abbrev fold8 (e : FVec Ideal S32x512 .f32) : FVec Ideal S8x512 .f32 :=
  addf (addf (extractStridedSlice S8x512 ![0, 0] (mulf e e) slices_S32x512_o0_0_S8x512)
      (extractStridedSlice S8x512 ![8, 0] (mulf e e) slices_S32x512_o8_0_S8x512))
    (addf (extractStridedSlice S8x512 ![16, 0] (mulf e e) slices_S32x512_o16_0_S8x512)
      (extractStridedSlice S8x512 ![24, 0] (mulf e e) slices_S32x512_o24_0_S8x512))

/-- The total of an accumulator. -/
def tot (v : Vec Ideal S8x512 .f32) : EReal := ∑ j : S8x512.Idx, v j

/-- A squared error of the block at row `a`, column `b` (zero outside it). -/
def sq (a b : ℕ) : EReal :=
  if h : a < 512 ∧ b < 1024 then Err x0 x1 x2 (ix2 ⟨a, h.1⟩ ⟨b, h.2⟩) * Err x0 x1 x2 (ix2 ⟨a, h.1⟩ ⟨b, h.2⟩) else 0

/-- Folding a strip in adds its squares to the total. -/
theorem tot_add (acc : Vec Ideal S8x512 .f32) (e : FVec Ideal S32x512 .f32) (q : ℕ → ℕ → EReal)
    (hq : ∀ x : S32x512.Idx, e x * e x = q (x 0).val (x 1).val) :
    tot (addf acc (fold8 e)) = tot acc + ∑ a ∈ Finset.range 32, ∑ b ∈ Finset.range 512, q a b := by
  have hf : ∀ (off : ℕ) (h : S32x512.Slices ![off, 0] S8x512) (j : S8x512.Idx),
      extractStridedSlice S8x512 ![off, 0] (mulf e e) h j = q (off + (j 0).val) (j 1).val := fun off h j => by
    unfold extractStridedSlice
    rw [mulf_apply, hq]
    show q (off + (j 0).val) (0 + (j 1).val) = _
    rw [Nat.zero_add]
  have hj : ∀ j : S8x512.Idx, (addf acc (fold8 e)) j = acc j
      + ((q (j 0).val (j 1).val + q (8 + (j 0).val) (j 1).val) + (q (16 + (j 0).val) (j 1).val + q (24 + (j 0).val) (j 1).val)) := fun j => by
    rw [addf_apply]
    unfold fold8
    rw [addf_apply, addf_apply, addf_apply, hf, hf, hf, hf, Nat.zero_add]
  unfold tot
  rw [Finset.sum_congr rfl fun j _ => hj j, Finset.sum_add_distrib]
  congr 1
  rw [sum_idx2]
  rw [show (32 : ℕ) = (8 + 8) + (8 + 8) from rfl, Finset.sum_range_add, Finset.sum_range_add, Finset.sum_range_add]
  simp only [Finset.sum_range (n := 8), Finset.sum_range (n := 512), ← Finset.sum_add_distrib]
  refine Finset.sum_congr rfl fun a _ => Finset.sum_congr rfl fun b _ => ?_
  simp only [ix2]
  rw [show 8 + 8 + a.val = 16 + a.val by omega, show 8 + 8 + (8 + a.val) = 24 + a.val by omega]

/-- The squares of the strip at row `r`, column `o`. -/
def stripSq (r o : ℕ) : EReal := ∑ a ∈ Finset.range 32, ∑ b ∈ Finset.range 512, sq x0 x1 x2 (r + a) (o + b)

/-- … so folding in the strip at row `r`, column `o` adds the block's squares over it. -/
theorem tot_strip (acc : Vec Ideal S8x512 .f32) (r o : Nat) (h0 : ∀ a, (![0, 0] : Fin 2 → Nat) a + S512x4352.size a ≤ S512x4352.size a)
    (h1 : ∀ a, (![o, 0] : Fin 2 → Nat) a + S512x4352.size a ≤ S1024x4352.size a)
    (hs : S512x512.Slices ![r, 0] S32x512) (h3 : ∀ a, (![r, o] : Fin 2 → Nat) a + S32x512.size a ≤ S512x1024.size a) :
    tot (addf acc (fold8 (strip x0 x1 x2 r o h0 h1 hs h3)))
      = tot acc + stripSq x0 x1 x2 r o := by
  refine tot_add acc _ (fun a b => sq x0 x1 x2 (r + a) (o + b)) fun x => ?_
  have hx0 : (x 0).val < 32 := idx2_lt0 x
  have hx1 : (x 1).val < 512 := idx2_lt1 x
  have hr : r + 32 ≤ 512 := h3 0
  have ho : o + 512 ≤ 1024 := h3 1
  have e : ix2 (⟨r + (x 0).val, by omega⟩ : Fin 512) (⟨o + (x 1).val, by omega⟩ : Fin 1024)
      = (Rect.unit (s := S512x1024) ![r, o] S32x512.size h3).emb x := by
    funext a; apply Fin.ext
    match a with
    | ⟨0, _⟩ => show r + (x 0).val = r + 1 * (x 0).val; omega
    | ⟨1, _⟩ => show o + (x 1).val = o + 1 * (x 1).val; omega
  rw [tile_err]
  unfold sq
  rw [dif_pos ⟨by omega, by omega⟩, e]

/-- The squares of the whole block. -/
def sqs : EReal := ∑ a ∈ Finset.range 512, ∑ b ∈ Finset.range 1024, sq x0 x1 x2 a b

/-- A sum over `n` runs of `k` is the sum over `n * k`. -/
theorem sum_runs (f : ℕ → EReal) (k : ℕ) : ∀ n, ∑ s ∈ Finset.range n, ∑ a ∈ Finset.range k, f (s * k + a) = ∑ a ∈ Finset.range (n * k), f a
  | 0 => by simp
  | n + 1 => by rw [Finset.sum_range_succ, sum_runs f k n, Nat.succ_mul, Finset.sum_range_add]

/-- The strips' squares, half by half, make the block's. -/
theorem sum_strips : (∑ s ∈ Finset.range 16, stripSq x0 x1 x2 (s * 32) 0)
      + (∑ s ∈ Finset.range 16, stripSq x0 x1 x2 (s * 32) 512) = sqs x0 x1 x2 := by
  unfold stripSq
  rw [sum_runs (fun a => ∑ b ∈ Finset.range 512, sq x0 x1 x2 a (0 + b)) 32 16,
    sum_runs (fun a => ∑ b ∈ Finset.range 512, sq x0 x1 x2 a (512 + b)) 32 16, ← Finset.sum_add_distrib]
  unfold sqs
  refine Finset.sum_congr rfl fun a _ => ?_
  rw [show (1024 : ℕ) = 512 + 512 from rfl, Finset.sum_range_add]
  simp only [Nat.zero_add]

/-- The accumulator after the thirty-two strips, in the body's order. -/
def chain (acc : Vec Ideal S8x512 .f32) : Vec Ideal S8x512 .f32 :=
  have a1 : FVec Ideal S8x512 .f32 := addf acc (fold8 (strip x0 x1 x2 0 0 inb_S512x4352_S512x4352_0_0 inb_S1024x4352_S512x4352_0_0 slices_S512x512_o0_0_S32x512 inb_S512x1024_S32x512_0_0))
  have a2 : FVec Ideal S8x512 .f32 := addf a1 (fold8 (strip x0 x1 x2 32 0 inb_S512x4352_S512x4352_0_0 inb_S1024x4352_S512x4352_0_0 slices_S512x512_o32_0_S32x512 inb_S512x1024_S32x512_32_0))
  have a3 : FVec Ideal S8x512 .f32 := addf a2 (fold8 (strip x0 x1 x2 64 0 inb_S512x4352_S512x4352_0_0 inb_S1024x4352_S512x4352_0_0 slices_S512x512_o64_0_S32x512 inb_S512x1024_S32x512_64_0))
  have a4 : FVec Ideal S8x512 .f32 := addf a3 (fold8 (strip x0 x1 x2 96 0 inb_S512x4352_S512x4352_0_0 inb_S1024x4352_S512x4352_0_0 slices_S512x512_o96_0_S32x512 inb_S512x1024_S32x512_96_0))
  have a5 : FVec Ideal S8x512 .f32 := addf a4 (fold8 (strip x0 x1 x2 128 0 inb_S512x4352_S512x4352_0_0 inb_S1024x4352_S512x4352_0_0 slices_S512x512_o128_0_S32x512 inb_S512x1024_S32x512_128_0))
  have a6 : FVec Ideal S8x512 .f32 := addf a5 (fold8 (strip x0 x1 x2 160 0 inb_S512x4352_S512x4352_0_0 inb_S1024x4352_S512x4352_0_0 slices_S512x512_o160_0_S32x512 inb_S512x1024_S32x512_160_0))
  have a7 : FVec Ideal S8x512 .f32 := addf a6 (fold8 (strip x0 x1 x2 192 0 inb_S512x4352_S512x4352_0_0 inb_S1024x4352_S512x4352_0_0 slices_S512x512_o192_0_S32x512 inb_S512x1024_S32x512_192_0))
  have a8 : FVec Ideal S8x512 .f32 := addf a7 (fold8 (strip x0 x1 x2 224 0 inb_S512x4352_S512x4352_0_0 inb_S1024x4352_S512x4352_0_0 slices_S512x512_o224_0_S32x512 inb_S512x1024_S32x512_224_0))
  have a9 : FVec Ideal S8x512 .f32 := addf a8 (fold8 (strip x0 x1 x2 256 0 inb_S512x4352_S512x4352_0_0 inb_S1024x4352_S512x4352_0_0 slices_S512x512_o256_0_S32x512 inb_S512x1024_S32x512_256_0))
  have a10 : FVec Ideal S8x512 .f32 := addf a9 (fold8 (strip x0 x1 x2 288 0 inb_S512x4352_S512x4352_0_0 inb_S1024x4352_S512x4352_0_0 slices_S512x512_o288_0_S32x512 inb_S512x1024_S32x512_288_0))
  have a11 : FVec Ideal S8x512 .f32 := addf a10 (fold8 (strip x0 x1 x2 320 0 inb_S512x4352_S512x4352_0_0 inb_S1024x4352_S512x4352_0_0 slices_S512x512_o320_0_S32x512 inb_S512x1024_S32x512_320_0))
  have a12 : FVec Ideal S8x512 .f32 := addf a11 (fold8 (strip x0 x1 x2 352 0 inb_S512x4352_S512x4352_0_0 inb_S1024x4352_S512x4352_0_0 slices_S512x512_o352_0_S32x512 inb_S512x1024_S32x512_352_0))
  have a13 : FVec Ideal S8x512 .f32 := addf a12 (fold8 (strip x0 x1 x2 384 0 inb_S512x4352_S512x4352_0_0 inb_S1024x4352_S512x4352_0_0 slices_S512x512_o384_0_S32x512 inb_S512x1024_S32x512_384_0))
  have a14 : FVec Ideal S8x512 .f32 := addf a13 (fold8 (strip x0 x1 x2 416 0 inb_S512x4352_S512x4352_0_0 inb_S1024x4352_S512x4352_0_0 slices_S512x512_o416_0_S32x512 inb_S512x1024_S32x512_416_0))
  have a15 : FVec Ideal S8x512 .f32 := addf a14 (fold8 (strip x0 x1 x2 448 0 inb_S512x4352_S512x4352_0_0 inb_S1024x4352_S512x4352_0_0 slices_S512x512_o448_0_S32x512 inb_S512x1024_S32x512_448_0))
  have a16 : FVec Ideal S8x512 .f32 := addf a15 (fold8 (strip x0 x1 x2 480 0 inb_S512x4352_S512x4352_0_0 inb_S1024x4352_S512x4352_0_0 slices_S512x512_o480_0_S32x512 inb_S512x1024_S32x512_480_0))
  have a17 : FVec Ideal S8x512 .f32 := addf a16 (fold8 (strip x0 x1 x2 0 512 inb_S512x4352_S512x4352_0_0 inb_S1024x4352_S512x4352_512_0 slices_S512x512_o0_0_S32x512 inb_S512x1024_S32x512_0_512))
  have a18 : FVec Ideal S8x512 .f32 := addf a17 (fold8 (strip x0 x1 x2 32 512 inb_S512x4352_S512x4352_0_0 inb_S1024x4352_S512x4352_512_0 slices_S512x512_o32_0_S32x512 inb_S512x1024_S32x512_32_512))
  have a19 : FVec Ideal S8x512 .f32 := addf a18 (fold8 (strip x0 x1 x2 64 512 inb_S512x4352_S512x4352_0_0 inb_S1024x4352_S512x4352_512_0 slices_S512x512_o64_0_S32x512 inb_S512x1024_S32x512_64_512))
  have a20 : FVec Ideal S8x512 .f32 := addf a19 (fold8 (strip x0 x1 x2 96 512 inb_S512x4352_S512x4352_0_0 inb_S1024x4352_S512x4352_512_0 slices_S512x512_o96_0_S32x512 inb_S512x1024_S32x512_96_512))
  have a21 : FVec Ideal S8x512 .f32 := addf a20 (fold8 (strip x0 x1 x2 128 512 inb_S512x4352_S512x4352_0_0 inb_S1024x4352_S512x4352_512_0 slices_S512x512_o128_0_S32x512 inb_S512x1024_S32x512_128_512))
  have a22 : FVec Ideal S8x512 .f32 := addf a21 (fold8 (strip x0 x1 x2 160 512 inb_S512x4352_S512x4352_0_0 inb_S1024x4352_S512x4352_512_0 slices_S512x512_o160_0_S32x512 inb_S512x1024_S32x512_160_512))
  have a23 : FVec Ideal S8x512 .f32 := addf a22 (fold8 (strip x0 x1 x2 192 512 inb_S512x4352_S512x4352_0_0 inb_S1024x4352_S512x4352_512_0 slices_S512x512_o192_0_S32x512 inb_S512x1024_S32x512_192_512))
  have a24 : FVec Ideal S8x512 .f32 := addf a23 (fold8 (strip x0 x1 x2 224 512 inb_S512x4352_S512x4352_0_0 inb_S1024x4352_S512x4352_512_0 slices_S512x512_o224_0_S32x512 inb_S512x1024_S32x512_224_512))
  have a25 : FVec Ideal S8x512 .f32 := addf a24 (fold8 (strip x0 x1 x2 256 512 inb_S512x4352_S512x4352_0_0 inb_S1024x4352_S512x4352_512_0 slices_S512x512_o256_0_S32x512 inb_S512x1024_S32x512_256_512))
  have a26 : FVec Ideal S8x512 .f32 := addf a25 (fold8 (strip x0 x1 x2 288 512 inb_S512x4352_S512x4352_0_0 inb_S1024x4352_S512x4352_512_0 slices_S512x512_o288_0_S32x512 inb_S512x1024_S32x512_288_512))
  have a27 : FVec Ideal S8x512 .f32 := addf a26 (fold8 (strip x0 x1 x2 320 512 inb_S512x4352_S512x4352_0_0 inb_S1024x4352_S512x4352_512_0 slices_S512x512_o320_0_S32x512 inb_S512x1024_S32x512_320_512))
  have a28 : FVec Ideal S8x512 .f32 := addf a27 (fold8 (strip x0 x1 x2 352 512 inb_S512x4352_S512x4352_0_0 inb_S1024x4352_S512x4352_512_0 slices_S512x512_o352_0_S32x512 inb_S512x1024_S32x512_352_512))
  have a29 : FVec Ideal S8x512 .f32 := addf a28 (fold8 (strip x0 x1 x2 384 512 inb_S512x4352_S512x4352_0_0 inb_S1024x4352_S512x4352_512_0 slices_S512x512_o384_0_S32x512 inb_S512x1024_S32x512_384_512))
  have a30 : FVec Ideal S8x512 .f32 := addf a29 (fold8 (strip x0 x1 x2 416 512 inb_S512x4352_S512x4352_0_0 inb_S1024x4352_S512x4352_512_0 slices_S512x512_o416_0_S32x512 inb_S512x1024_S32x512_416_512))
  have a31 : FVec Ideal S8x512 .f32 := addf a30 (fold8 (strip x0 x1 x2 448 512 inb_S512x4352_S512x4352_0_0 inb_S1024x4352_S512x4352_512_0 slices_S512x512_o448_0_S32x512 inb_S512x1024_S32x512_448_512))
  have a32 : FVec Ideal S8x512 .f32 := addf a31 (fold8 (strip x0 x1 x2 480 512 inb_S512x4352_S512x4352_0_0 inb_S1024x4352_S512x4352_512_0 slices_S512x512_o480_0_S32x512 inb_S512x1024_S32x512_480_512))
  a32

/-- Its total grows by the block's squares. -/
theorem tot_chain (acc : Vec Ideal S8x512 .f32) : tot (chain x0 x1 x2 acc) = tot acc + sqs x0 x1 x2 := by
  unfold chain
  dsimp only
  simp only [tot_strip]
  rw [← sum_strips]
  simp only [Finset.sum_range_succ, Finset.sum_range_zero, Nat.reduceMul, zero_add, add_assoc]

end Cert.DownIdeal.Block

end
-- ==== Proof.DownIdeal.CaseA.lean ====
/-
  The down-projection kernel's body in case A of its three (the first grid point): what its
  stores leave is the blocks' functions of Block.lean.
-/
module

public import proofs.«01_k».proof.Proof.DownIdeal.Block
public import proofs.«01_k».proof.Proof.Gen.DownIdeal.Value
public import Idealize.ShloMosaic.Lib.Pipeline.Value
public import Idealize.ShloMosaic.Lib.ValueIdx
public import Idealize.ShloMosaic.PureOps.Ideal.Laws

@[expose] public section

noncomputable section

namespace Cert.DownIdeal.Block

open Cert.DownIdeal Cert.DownIdeal.Gen Idealize.ShloMosaic Idealize.ShloMosaic.TcCoe Idealize.SL.Sem
open Idealize.ShloMosaic.ValueIdx

variable (x0 : Vec Ideal S512x4352 .bf16) (x1 : Vec Ideal S1024x4352 .bf16) (x2 : Vec Ideal S512x1024 .bf16)

/-! ## Case A -/

section CaseA

variable (c : Dev nD) (i : grid0.Coords) (arg2 : Memref sig .tc .vmem S512x4352 .bf16) (harg2 : arg2.IsWhole) (arg3 : Memref sig .tc .vmem S1024x4352 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .smem S1x1 .f32) (harg7 : arg7.IsWhole) (arg8 : Memref sig .tc .vmem S8x512 .f32) (harg8 : arg8.IsWhole) (hc0 : cond0_0 i) (hc1 : ¬cond0_1 i)

/-- What a point of kind A leaves in result window 3. -/
theorem outA_3 : out0_A_3 (F := Ideal) c i arg2 harg2 arg3 harg3 arg4 harg4 arg5 harg5 arg6 harg6 arg7 harg7 arg8 harg8 hc0 hc1 x0 x1 x2 = Y x0 x1 := by
  unfold out0_A_3
  rw [View.read_writes_eq_canon _ _ _ (cover0_A_3 c i arg2 harg2 arg3 harg3 arg4 harg4 arg5 harg5 arg6 harg6 arg7 harg7 arg8 harg8 hc0 hc1 x0 x1 x2)]
  funext y
  refine View.canon_apply_of_pieces (Y x0 x1) _ ?_ y (cover0_A_3 c i arg2 harg2 arg3 harg3 arg4 harg4 arg5 harg5 arg6 harg6 arg7 harg7 arg8 harg8 hc0 hc1 x0 x1 x2 y)
  unfold kernelRun0_A
  dsimp only
  sl_unfold_words
  simp only [View.readAt_eq_ld, harg2.read_unread, harg3.read_unread, harg4.read_unread]
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_y x0 x1 480 512 inb_S512x4352_S512x4352_0_0 inb_S1024x4352_S512x4352_512_0 slices_S512x512_o480_0_S32x512 inb_S512x1024_S32x512_480_512 x
  · exact tile_y x0 x1 448 512 inb_S512x4352_S512x4352_0_0 inb_S1024x4352_S512x4352_512_0 slices_S512x512_o448_0_S32x512 inb_S512x1024_S32x512_448_512 x
  · exact tile_y x0 x1 416 512 inb_S512x4352_S512x4352_0_0 inb_S1024x4352_S512x4352_512_0 slices_S512x512_o416_0_S32x512 inb_S512x1024_S32x512_416_512 x
  · exact tile_y x0 x1 384 512 inb_S512x4352_S512x4352_0_0 inb_S1024x4352_S512x4352_512_0 slices_S512x512_o384_0_S32x512 inb_S512x1024_S32x512_384_512 x
  · exact tile_y x0 x1 352 512 inb_S512x4352_S512x4352_0_0 inb_S1024x4352_S512x4352_512_0 slices_S512x512_o352_0_S32x512 inb_S512x1024_S32x512_352_512 x
  · exact tile_y x0 x1 320 512 inb_S512x4352_S512x4352_0_0 inb_S1024x4352_S512x4352_512_0 slices_S512x512_o320_0_S32x512 inb_S512x1024_S32x512_320_512 x
  · exact tile_y x0 x1 288 512 inb_S512x4352_S512x4352_0_0 inb_S1024x4352_S512x4352_512_0 slices_S512x512_o288_0_S32x512 inb_S512x1024_S32x512_288_512 x
  · exact tile_y x0 x1 256 512 inb_S512x4352_S512x4352_0_0 inb_S1024x4352_S512x4352_512_0 slices_S512x512_o256_0_S32x512 inb_S512x1024_S32x512_256_512 x
  · exact tile_y x0 x1 224 512 inb_S512x4352_S512x4352_0_0 inb_S1024x4352_S512x4352_512_0 slices_S512x512_o224_0_S32x512 inb_S512x1024_S32x512_224_512 x
  · exact tile_y x0 x1 192 512 inb_S512x4352_S512x4352_0_0 inb_S1024x4352_S512x4352_512_0 slices_S512x512_o192_0_S32x512 inb_S512x1024_S32x512_192_512 x
  · exact tile_y x0 x1 160 512 inb_S512x4352_S512x4352_0_0 inb_S1024x4352_S512x4352_512_0 slices_S512x512_o160_0_S32x512 inb_S512x1024_S32x512_160_512 x
  · exact tile_y x0 x1 128 512 inb_S512x4352_S512x4352_0_0 inb_S1024x4352_S512x4352_512_0 slices_S512x512_o128_0_S32x512 inb_S512x1024_S32x512_128_512 x
  · exact tile_y x0 x1 96 512 inb_S512x4352_S512x4352_0_0 inb_S1024x4352_S512x4352_512_0 slices_S512x512_o96_0_S32x512 inb_S512x1024_S32x512_96_512 x
  · exact tile_y x0 x1 64 512 inb_S512x4352_S512x4352_0_0 inb_S1024x4352_S512x4352_512_0 slices_S512x512_o64_0_S32x512 inb_S512x1024_S32x512_64_512 x
  · exact tile_y x0 x1 32 512 inb_S512x4352_S512x4352_0_0 inb_S1024x4352_S512x4352_512_0 slices_S512x512_o32_0_S32x512 inb_S512x1024_S32x512_32_512 x
  · exact tile_y x0 x1 0 512 inb_S512x4352_S512x4352_0_0 inb_S1024x4352_S512x4352_512_0 slices_S512x512_o0_0_S32x512 inb_S512x1024_S32x512_0_512 x
  · exact tile_y x0 x1 480 0 inb_S512x4352_S512x4352_0_0 inb_S1024x4352_S512x4352_0_0 slices_S512x512_o480_0_S32x512 inb_S512x1024_S32x512_480_0 x
  · exact tile_y x0 x1 448 0 inb_S512x4352_S512x4352_0_0 inb_S1024x4352_S512x4352_0_0 slices_S512x512_o448_0_S32x512 inb_S512x1024_S32x512_448_0 x
  · exact tile_y x0 x1 416 0 inb_S512x4352_S512x4352_0_0 inb_S1024x4352_S512x4352_0_0 slices_S512x512_o416_0_S32x512 inb_S512x1024_S32x512_416_0 x
  · exact tile_y x0 x1 384 0 inb_S512x4352_S512x4352_0_0 inb_S1024x4352_S512x4352_0_0 slices_S512x512_o384_0_S32x512 inb_S512x1024_S32x512_384_0 x
  · exact tile_y x0 x1 352 0 inb_S512x4352_S512x4352_0_0 inb_S1024x4352_S512x4352_0_0 slices_S512x512_o352_0_S32x512 inb_S512x1024_S32x512_352_0 x
  · exact tile_y x0 x1 320 0 inb_S512x4352_S512x4352_0_0 inb_S1024x4352_S512x4352_0_0 slices_S512x512_o320_0_S32x512 inb_S512x1024_S32x512_320_0 x
  · exact tile_y x0 x1 288 0 inb_S512x4352_S512x4352_0_0 inb_S1024x4352_S512x4352_0_0 slices_S512x512_o288_0_S32x512 inb_S512x1024_S32x512_288_0 x
  · exact tile_y x0 x1 256 0 inb_S512x4352_S512x4352_0_0 inb_S1024x4352_S512x4352_0_0 slices_S512x512_o256_0_S32x512 inb_S512x1024_S32x512_256_0 x
  · exact tile_y x0 x1 224 0 inb_S512x4352_S512x4352_0_0 inb_S1024x4352_S512x4352_0_0 slices_S512x512_o224_0_S32x512 inb_S512x1024_S32x512_224_0 x
  · exact tile_y x0 x1 192 0 inb_S512x4352_S512x4352_0_0 inb_S1024x4352_S512x4352_0_0 slices_S512x512_o192_0_S32x512 inb_S512x1024_S32x512_192_0 x
  · exact tile_y x0 x1 160 0 inb_S512x4352_S512x4352_0_0 inb_S1024x4352_S512x4352_0_0 slices_S512x512_o160_0_S32x512 inb_S512x1024_S32x512_160_0 x
  · exact tile_y x0 x1 128 0 inb_S512x4352_S512x4352_0_0 inb_S1024x4352_S512x4352_0_0 slices_S512x512_o128_0_S32x512 inb_S512x1024_S32x512_128_0 x
  · exact tile_y x0 x1 96 0 inb_S512x4352_S512x4352_0_0 inb_S1024x4352_S512x4352_0_0 slices_S512x512_o96_0_S32x512 inb_S512x1024_S32x512_96_0 x
  · exact tile_y x0 x1 64 0 inb_S512x4352_S512x4352_0_0 inb_S1024x4352_S512x4352_0_0 slices_S512x512_o64_0_S32x512 inb_S512x1024_S32x512_64_0 x
  · exact tile_y x0 x1 32 0 inb_S512x4352_S512x4352_0_0 inb_S1024x4352_S512x4352_0_0 slices_S512x512_o32_0_S32x512 inb_S512x1024_S32x512_32_0 x
  · exact tile_y x0 x1 0 0 inb_S512x4352_S512x4352_0_0 inb_S1024x4352_S512x4352_0_0 slices_S512x512_o0_0_S32x512 inb_S512x1024_S32x512_0_0 x

/-- What a point of kind A leaves in result window 4. -/
theorem outA_4 : out0_A_4 (F := Ideal) c i arg2 harg2 arg3 harg3 arg4 harg4 arg5 harg5 arg6 harg6 arg7 harg7 arg8 harg8 hc0 hc1 x0 x1 x2 = DY x0 x1 x2 := by
  unfold out0_A_4
  rw [View.read_writes_eq_canon _ _ _ (cover0_A_4 c i arg2 harg2 arg3 harg3 arg4 harg4 arg5 harg5 arg6 harg6 arg7 harg7 arg8 harg8 hc0 hc1 x0 x1 x2)]
  funext y
  refine View.canon_apply_of_pieces (DY x0 x1 x2) _ ?_ y (cover0_A_4 c i arg2 harg2 arg3 harg3 arg4 harg4 arg5 harg5 arg6 harg6 arg7 harg7 arg8 harg8 hc0 hc1 x0 x1 x2 y)
  unfold kernelRun0_A
  dsimp only
  sl_unfold_words
  simp only [View.readAt_eq_ld, harg2.read_unread, harg3.read_unread, harg4.read_unread]
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_dy x0 x1 x2 480 512 inb_S512x4352_S512x4352_0_0 inb_S1024x4352_S512x4352_512_0 slices_S512x512_o480_0_S32x512 inb_S512x1024_S32x512_480_512 x
  · exact tile_dy x0 x1 x2 448 512 inb_S512x4352_S512x4352_0_0 inb_S1024x4352_S512x4352_512_0 slices_S512x512_o448_0_S32x512 inb_S512x1024_S32x512_448_512 x
  · exact tile_dy x0 x1 x2 416 512 inb_S512x4352_S512x4352_0_0 inb_S1024x4352_S512x4352_512_0 slices_S512x512_o416_0_S32x512 inb_S512x1024_S32x512_416_512 x
  · exact tile_dy x0 x1 x2 384 512 inb_S512x4352_S512x4352_0_0 inb_S1024x4352_S512x4352_512_0 slices_S512x512_o384_0_S32x512 inb_S512x1024_S32x512_384_512 x
  · exact tile_dy x0 x1 x2 352 512 inb_S512x4352_S512x4352_0_0 inb_S1024x4352_S512x4352_512_0 slices_S512x512_o352_0_S32x512 inb_S512x1024_S32x512_352_512 x
  · exact tile_dy x0 x1 x2 320 512 inb_S512x4352_S512x4352_0_0 inb_S1024x4352_S512x4352_512_0 slices_S512x512_o320_0_S32x512 inb_S512x1024_S32x512_320_512 x
  · exact tile_dy x0 x1 x2 288 512 inb_S512x4352_S512x4352_0_0 inb_S1024x4352_S512x4352_512_0 slices_S512x512_o288_0_S32x512 inb_S512x1024_S32x512_288_512 x
  · exact tile_dy x0 x1 x2 256 512 inb_S512x4352_S512x4352_0_0 inb_S1024x4352_S512x4352_512_0 slices_S512x512_o256_0_S32x512 inb_S512x1024_S32x512_256_512 x
  · exact tile_dy x0 x1 x2 224 512 inb_S512x4352_S512x4352_0_0 inb_S1024x4352_S512x4352_512_0 slices_S512x512_o224_0_S32x512 inb_S512x1024_S32x512_224_512 x
  · exact tile_dy x0 x1 x2 192 512 inb_S512x4352_S512x4352_0_0 inb_S1024x4352_S512x4352_512_0 slices_S512x512_o192_0_S32x512 inb_S512x1024_S32x512_192_512 x
  · exact tile_dy x0 x1 x2 160 512 inb_S512x4352_S512x4352_0_0 inb_S1024x4352_S512x4352_512_0 slices_S512x512_o160_0_S32x512 inb_S512x1024_S32x512_160_512 x
  · exact tile_dy x0 x1 x2 128 512 inb_S512x4352_S512x4352_0_0 inb_S1024x4352_S512x4352_512_0 slices_S512x512_o128_0_S32x512 inb_S512x1024_S32x512_128_512 x
  · exact tile_dy x0 x1 x2 96 512 inb_S512x4352_S512x4352_0_0 inb_S1024x4352_S512x4352_512_0 slices_S512x512_o96_0_S32x512 inb_S512x1024_S32x512_96_512 x
  · exact tile_dy x0 x1 x2 64 512 inb_S512x4352_S512x4352_0_0 inb_S1024x4352_S512x4352_512_0 slices_S512x512_o64_0_S32x512 inb_S512x1024_S32x512_64_512 x
  · exact tile_dy x0 x1 x2 32 512 inb_S512x4352_S512x4352_0_0 inb_S1024x4352_S512x4352_512_0 slices_S512x512_o32_0_S32x512 inb_S512x1024_S32x512_32_512 x
  · exact tile_dy x0 x1 x2 0 512 inb_S512x4352_S512x4352_0_0 inb_S1024x4352_S512x4352_512_0 slices_S512x512_o0_0_S32x512 inb_S512x1024_S32x512_0_512 x
  · exact tile_dy x0 x1 x2 480 0 inb_S512x4352_S512x4352_0_0 inb_S1024x4352_S512x4352_0_0 slices_S512x512_o480_0_S32x512 inb_S512x1024_S32x512_480_0 x
  · exact tile_dy x0 x1 x2 448 0 inb_S512x4352_S512x4352_0_0 inb_S1024x4352_S512x4352_0_0 slices_S512x512_o448_0_S32x512 inb_S512x1024_S32x512_448_0 x
  · exact tile_dy x0 x1 x2 416 0 inb_S512x4352_S512x4352_0_0 inb_S1024x4352_S512x4352_0_0 slices_S512x512_o416_0_S32x512 inb_S512x1024_S32x512_416_0 x
  · exact tile_dy x0 x1 x2 384 0 inb_S512x4352_S512x4352_0_0 inb_S1024x4352_S512x4352_0_0 slices_S512x512_o384_0_S32x512 inb_S512x1024_S32x512_384_0 x
  · exact tile_dy x0 x1 x2 352 0 inb_S512x4352_S512x4352_0_0 inb_S1024x4352_S512x4352_0_0 slices_S512x512_o352_0_S32x512 inb_S512x1024_S32x512_352_0 x
  · exact tile_dy x0 x1 x2 320 0 inb_S512x4352_S512x4352_0_0 inb_S1024x4352_S512x4352_0_0 slices_S512x512_o320_0_S32x512 inb_S512x1024_S32x512_320_0 x
  · exact tile_dy x0 x1 x2 288 0 inb_S512x4352_S512x4352_0_0 inb_S1024x4352_S512x4352_0_0 slices_S512x512_o288_0_S32x512 inb_S512x1024_S32x512_288_0 x
  · exact tile_dy x0 x1 x2 256 0 inb_S512x4352_S512x4352_0_0 inb_S1024x4352_S512x4352_0_0 slices_S512x512_o256_0_S32x512 inb_S512x1024_S32x512_256_0 x
  · exact tile_dy x0 x1 x2 224 0 inb_S512x4352_S512x4352_0_0 inb_S1024x4352_S512x4352_0_0 slices_S512x512_o224_0_S32x512 inb_S512x1024_S32x512_224_0 x
  · exact tile_dy x0 x1 x2 192 0 inb_S512x4352_S512x4352_0_0 inb_S1024x4352_S512x4352_0_0 slices_S512x512_o192_0_S32x512 inb_S512x1024_S32x512_192_0 x
  · exact tile_dy x0 x1 x2 160 0 inb_S512x4352_S512x4352_0_0 inb_S1024x4352_S512x4352_0_0 slices_S512x512_o160_0_S32x512 inb_S512x1024_S32x512_160_0 x
  · exact tile_dy x0 x1 x2 128 0 inb_S512x4352_S512x4352_0_0 inb_S1024x4352_S512x4352_0_0 slices_S512x512_o128_0_S32x512 inb_S512x1024_S32x512_128_0 x
  · exact tile_dy x0 x1 x2 96 0 inb_S512x4352_S512x4352_0_0 inb_S1024x4352_S512x4352_0_0 slices_S512x512_o96_0_S32x512 inb_S512x1024_S32x512_96_0 x
  · exact tile_dy x0 x1 x2 64 0 inb_S512x4352_S512x4352_0_0 inb_S1024x4352_S512x4352_0_0 slices_S512x512_o64_0_S32x512 inb_S512x1024_S32x512_64_0 x
  · exact tile_dy x0 x1 x2 32 0 inb_S512x4352_S512x4352_0_0 inb_S1024x4352_S512x4352_0_0 slices_S512x512_o32_0_S32x512 inb_S512x1024_S32x512_32_0 x
  · exact tile_dy x0 x1 x2 0 0 inb_S512x4352_S512x4352_0_0 inb_S1024x4352_S512x4352_0_0 slices_S512x512_o0_0_S32x512 inb_S512x1024_S32x512_0_0 x

/-- What a point of kind A leaves in the scratch. -/
theorem soutA : sout0_A_0 (F := Ideal) c i arg2 harg2 arg3 harg3 arg4 harg4 arg5 harg5 arg6 harg6 arg7 harg7 arg8 harg8 hc0 hc1 x0 x1 x2 = chain x0 x1 x2 (broadcast S8x512 (Scalar.ofBits (F := Ideal) .f32 0x00000000#32)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S8x512) hz]
  simp only [View.readCov_unit_zero (S := S8x512) _ hz]
  simp only [View.readAt_eq_ld, harg2.read_unread, harg3.read_unread, harg4.read_unread, harg8.read_unread, View.ld_unit_zero (S := S8x512) hz]
  simp only [k0_pay2, k0_pay6, k0_pay13, k0_pay20, k0_pay27, k0_pay34, k0_pay41, k0_pay48, k0_pay55, k0_pay63, k0_pay70, k0_pay77, k0_pay84, k0_pay91, k0_pay98, k0_pay105, k0_pay112, k0_pay117, shapeCast_self]
  rfl

end CaseA

end Cert.DownIdeal.Block

end
-- ==== Proof.DownIdeal.CaseB.lean ====
/-
  The down-projection kernel's body in case B of its three (a middle grid point): what its
  stores leave is the blocks' functions of Block.lean.
-/
module

public import proofs.«01_k».proof.Proof.DownIdeal.Block
public import proofs.«01_k».proof.Proof.Gen.DownIdeal.Value
public import Idealize.ShloMosaic.Lib.Pipeline.Value
public import Idealize.ShloMosaic.Lib.ValueIdx
public import Idealize.ShloMosaic.PureOps.Ideal.Laws

@[expose] public section

noncomputable section

namespace Cert.DownIdeal.Block

open Cert.DownIdeal Cert.DownIdeal.Gen Idealize.ShloMosaic Idealize.ShloMosaic.TcCoe Idealize.SL.Sem
open Idealize.ShloMosaic.ValueIdx

variable (x0 : Vec Ideal S512x4352 .bf16) (x1 : Vec Ideal S1024x4352 .bf16) (x2 : Vec Ideal S512x1024 .bf16)

/-! ## Case B -/

section CaseB

variable (c : Dev nD) (i : grid0.Coords) (arg2 : Memref sig .tc .vmem S512x4352 .bf16) (harg2 : arg2.IsWhole) (arg3 : Memref sig .tc .vmem S1024x4352 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .smem S1x1 .f32) (harg7 : arg7.IsWhole) (arg8 : Memref sig .tc .vmem S8x512 .f32) (harg8 : arg8.IsWhole) (hc0 : ¬cond0_0 i) (hc1 : ¬cond0_1 i) (acc : Vec Ideal S8x512 .f32)

/-- What a point of kind B leaves in result window 3. -/
theorem outB_3 : out0_B_3 (F := Ideal) c i arg2 harg2 arg3 harg3 arg4 harg4 arg5 harg5 arg6 harg6 arg7 harg7 arg8 harg8 hc0 hc1 x0 x1 x2 acc = Y x0 x1 := by
  unfold out0_B_3
  rw [View.read_writes_eq_canon _ _ _ (cover0_B_3 c i arg2 harg2 arg3 harg3 arg4 harg4 arg5 harg5 arg6 harg6 arg7 harg7 arg8 harg8 hc0 hc1 x0 x1 x2 acc)]
  funext y
  refine View.canon_apply_of_pieces (Y x0 x1) _ ?_ y (cover0_B_3 c i arg2 harg2 arg3 harg3 arg4 harg4 arg5 harg5 arg6 harg6 arg7 harg7 arg8 harg8 hc0 hc1 x0 x1 x2 acc y)
  unfold kernelRun0_B
  dsimp only
  sl_unfold_words
  simp only [View.readAt_eq_ld, harg2.read_unread, harg3.read_unread, harg4.read_unread]
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_y x0 x1 480 512 inb_S512x4352_S512x4352_0_0 inb_S1024x4352_S512x4352_512_0 slices_S512x512_o480_0_S32x512 inb_S512x1024_S32x512_480_512 x
  · exact tile_y x0 x1 448 512 inb_S512x4352_S512x4352_0_0 inb_S1024x4352_S512x4352_512_0 slices_S512x512_o448_0_S32x512 inb_S512x1024_S32x512_448_512 x
  · exact tile_y x0 x1 416 512 inb_S512x4352_S512x4352_0_0 inb_S1024x4352_S512x4352_512_0 slices_S512x512_o416_0_S32x512 inb_S512x1024_S32x512_416_512 x
  · exact tile_y x0 x1 384 512 inb_S512x4352_S512x4352_0_0 inb_S1024x4352_S512x4352_512_0 slices_S512x512_o384_0_S32x512 inb_S512x1024_S32x512_384_512 x
  · exact tile_y x0 x1 352 512 inb_S512x4352_S512x4352_0_0 inb_S1024x4352_S512x4352_512_0 slices_S512x512_o352_0_S32x512 inb_S512x1024_S32x512_352_512 x
  · exact tile_y x0 x1 320 512 inb_S512x4352_S512x4352_0_0 inb_S1024x4352_S512x4352_512_0 slices_S512x512_o320_0_S32x512 inb_S512x1024_S32x512_320_512 x
  · exact tile_y x0 x1 288 512 inb_S512x4352_S512x4352_0_0 inb_S1024x4352_S512x4352_512_0 slices_S512x512_o288_0_S32x512 inb_S512x1024_S32x512_288_512 x
  · exact tile_y x0 x1 256 512 inb_S512x4352_S512x4352_0_0 inb_S1024x4352_S512x4352_512_0 slices_S512x512_o256_0_S32x512 inb_S512x1024_S32x512_256_512 x
  · exact tile_y x0 x1 224 512 inb_S512x4352_S512x4352_0_0 inb_S1024x4352_S512x4352_512_0 slices_S512x512_o224_0_S32x512 inb_S512x1024_S32x512_224_512 x
  · exact tile_y x0 x1 192 512 inb_S512x4352_S512x4352_0_0 inb_S1024x4352_S512x4352_512_0 slices_S512x512_o192_0_S32x512 inb_S512x1024_S32x512_192_512 x
  · exact tile_y x0 x1 160 512 inb_S512x4352_S512x4352_0_0 inb_S1024x4352_S512x4352_512_0 slices_S512x512_o160_0_S32x512 inb_S512x1024_S32x512_160_512 x
  · exact tile_y x0 x1 128 512 inb_S512x4352_S512x4352_0_0 inb_S1024x4352_S512x4352_512_0 slices_S512x512_o128_0_S32x512 inb_S512x1024_S32x512_128_512 x
  · exact tile_y x0 x1 96 512 inb_S512x4352_S512x4352_0_0 inb_S1024x4352_S512x4352_512_0 slices_S512x512_o96_0_S32x512 inb_S512x1024_S32x512_96_512 x
  · exact tile_y x0 x1 64 512 inb_S512x4352_S512x4352_0_0 inb_S1024x4352_S512x4352_512_0 slices_S512x512_o64_0_S32x512 inb_S512x1024_S32x512_64_512 x
  · exact tile_y x0 x1 32 512 inb_S512x4352_S512x4352_0_0 inb_S1024x4352_S512x4352_512_0 slices_S512x512_o32_0_S32x512 inb_S512x1024_S32x512_32_512 x
  · exact tile_y x0 x1 0 512 inb_S512x4352_S512x4352_0_0 inb_S1024x4352_S512x4352_512_0 slices_S512x512_o0_0_S32x512 inb_S512x1024_S32x512_0_512 x
  · exact tile_y x0 x1 480 0 inb_S512x4352_S512x4352_0_0 inb_S1024x4352_S512x4352_0_0 slices_S512x512_o480_0_S32x512 inb_S512x1024_S32x512_480_0 x
  · exact tile_y x0 x1 448 0 inb_S512x4352_S512x4352_0_0 inb_S1024x4352_S512x4352_0_0 slices_S512x512_o448_0_S32x512 inb_S512x1024_S32x512_448_0 x
  · exact tile_y x0 x1 416 0 inb_S512x4352_S512x4352_0_0 inb_S1024x4352_S512x4352_0_0 slices_S512x512_o416_0_S32x512 inb_S512x1024_S32x512_416_0 x
  · exact tile_y x0 x1 384 0 inb_S512x4352_S512x4352_0_0 inb_S1024x4352_S512x4352_0_0 slices_S512x512_o384_0_S32x512 inb_S512x1024_S32x512_384_0 x
  · exact tile_y x0 x1 352 0 inb_S512x4352_S512x4352_0_0 inb_S1024x4352_S512x4352_0_0 slices_S512x512_o352_0_S32x512 inb_S512x1024_S32x512_352_0 x
  · exact tile_y x0 x1 320 0 inb_S512x4352_S512x4352_0_0 inb_S1024x4352_S512x4352_0_0 slices_S512x512_o320_0_S32x512 inb_S512x1024_S32x512_320_0 x
  · exact tile_y x0 x1 288 0 inb_S512x4352_S512x4352_0_0 inb_S1024x4352_S512x4352_0_0 slices_S512x512_o288_0_S32x512 inb_S512x1024_S32x512_288_0 x
  · exact tile_y x0 x1 256 0 inb_S512x4352_S512x4352_0_0 inb_S1024x4352_S512x4352_0_0 slices_S512x512_o256_0_S32x512 inb_S512x1024_S32x512_256_0 x
  · exact tile_y x0 x1 224 0 inb_S512x4352_S512x4352_0_0 inb_S1024x4352_S512x4352_0_0 slices_S512x512_o224_0_S32x512 inb_S512x1024_S32x512_224_0 x
  · exact tile_y x0 x1 192 0 inb_S512x4352_S512x4352_0_0 inb_S1024x4352_S512x4352_0_0 slices_S512x512_o192_0_S32x512 inb_S512x1024_S32x512_192_0 x
  · exact tile_y x0 x1 160 0 inb_S512x4352_S512x4352_0_0 inb_S1024x4352_S512x4352_0_0 slices_S512x512_o160_0_S32x512 inb_S512x1024_S32x512_160_0 x
  · exact tile_y x0 x1 128 0 inb_S512x4352_S512x4352_0_0 inb_S1024x4352_S512x4352_0_0 slices_S512x512_o128_0_S32x512 inb_S512x1024_S32x512_128_0 x
  · exact tile_y x0 x1 96 0 inb_S512x4352_S512x4352_0_0 inb_S1024x4352_S512x4352_0_0 slices_S512x512_o96_0_S32x512 inb_S512x1024_S32x512_96_0 x
  · exact tile_y x0 x1 64 0 inb_S512x4352_S512x4352_0_0 inb_S1024x4352_S512x4352_0_0 slices_S512x512_o64_0_S32x512 inb_S512x1024_S32x512_64_0 x
  · exact tile_y x0 x1 32 0 inb_S512x4352_S512x4352_0_0 inb_S1024x4352_S512x4352_0_0 slices_S512x512_o32_0_S32x512 inb_S512x1024_S32x512_32_0 x
  · exact tile_y x0 x1 0 0 inb_S512x4352_S512x4352_0_0 inb_S1024x4352_S512x4352_0_0 slices_S512x512_o0_0_S32x512 inb_S512x1024_S32x512_0_0 x

/-- What a point of kind B leaves in result window 4. -/
theorem outB_4 : out0_B_4 (F := Ideal) c i arg2 harg2 arg3 harg3 arg4 harg4 arg5 harg5 arg6 harg6 arg7 harg7 arg8 harg8 hc0 hc1 x0 x1 x2 acc = DY x0 x1 x2 := by
  unfold out0_B_4
  rw [View.read_writes_eq_canon _ _ _ (cover0_B_4 c i arg2 harg2 arg3 harg3 arg4 harg4 arg5 harg5 arg6 harg6 arg7 harg7 arg8 harg8 hc0 hc1 x0 x1 x2 acc)]
  funext y
  refine View.canon_apply_of_pieces (DY x0 x1 x2) _ ?_ y (cover0_B_4 c i arg2 harg2 arg3 harg3 arg4 harg4 arg5 harg5 arg6 harg6 arg7 harg7 arg8 harg8 hc0 hc1 x0 x1 x2 acc y)
  unfold kernelRun0_B
  dsimp only
  sl_unfold_words
  simp only [View.readAt_eq_ld, harg2.read_unread, harg3.read_unread, harg4.read_unread]
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_dy x0 x1 x2 480 512 inb_S512x4352_S512x4352_0_0 inb_S1024x4352_S512x4352_512_0 slices_S512x512_o480_0_S32x512 inb_S512x1024_S32x512_480_512 x
  · exact tile_dy x0 x1 x2 448 512 inb_S512x4352_S512x4352_0_0 inb_S1024x4352_S512x4352_512_0 slices_S512x512_o448_0_S32x512 inb_S512x1024_S32x512_448_512 x
  · exact tile_dy x0 x1 x2 416 512 inb_S512x4352_S512x4352_0_0 inb_S1024x4352_S512x4352_512_0 slices_S512x512_o416_0_S32x512 inb_S512x1024_S32x512_416_512 x
  · exact tile_dy x0 x1 x2 384 512 inb_S512x4352_S512x4352_0_0 inb_S1024x4352_S512x4352_512_0 slices_S512x512_o384_0_S32x512 inb_S512x1024_S32x512_384_512 x
  · exact tile_dy x0 x1 x2 352 512 inb_S512x4352_S512x4352_0_0 inb_S1024x4352_S512x4352_512_0 slices_S512x512_o352_0_S32x512 inb_S512x1024_S32x512_352_512 x
  · exact tile_dy x0 x1 x2 320 512 inb_S512x4352_S512x4352_0_0 inb_S1024x4352_S512x4352_512_0 slices_S512x512_o320_0_S32x512 inb_S512x1024_S32x512_320_512 x
  · exact tile_dy x0 x1 x2 288 512 inb_S512x4352_S512x4352_0_0 inb_S1024x4352_S512x4352_512_0 slices_S512x512_o288_0_S32x512 inb_S512x1024_S32x512_288_512 x
  · exact tile_dy x0 x1 x2 256 512 inb_S512x4352_S512x4352_0_0 inb_S1024x4352_S512x4352_512_0 slices_S512x512_o256_0_S32x512 inb_S512x1024_S32x512_256_512 x
  · exact tile_dy x0 x1 x2 224 512 inb_S512x4352_S512x4352_0_0 inb_S1024x4352_S512x4352_512_0 slices_S512x512_o224_0_S32x512 inb_S512x1024_S32x512_224_512 x
  · exact tile_dy x0 x1 x2 192 512 inb_S512x4352_S512x4352_0_0 inb_S1024x4352_S512x4352_512_0 slices_S512x512_o192_0_S32x512 inb_S512x1024_S32x512_192_512 x
  · exact tile_dy x0 x1 x2 160 512 inb_S512x4352_S512x4352_0_0 inb_S1024x4352_S512x4352_512_0 slices_S512x512_o160_0_S32x512 inb_S512x1024_S32x512_160_512 x
  · exact tile_dy x0 x1 x2 128 512 inb_S512x4352_S512x4352_0_0 inb_S1024x4352_S512x4352_512_0 slices_S512x512_o128_0_S32x512 inb_S512x1024_S32x512_128_512 x
  · exact tile_dy x0 x1 x2 96 512 inb_S512x4352_S512x4352_0_0 inb_S1024x4352_S512x4352_512_0 slices_S512x512_o96_0_S32x512 inb_S512x1024_S32x512_96_512 x
  · exact tile_dy x0 x1 x2 64 512 inb_S512x4352_S512x4352_0_0 inb_S1024x4352_S512x4352_512_0 slices_S512x512_o64_0_S32x512 inb_S512x1024_S32x512_64_512 x
  · exact tile_dy x0 x1 x2 32 512 inb_S512x4352_S512x4352_0_0 inb_S1024x4352_S512x4352_512_0 slices_S512x512_o32_0_S32x512 inb_S512x1024_S32x512_32_512 x
  · exact tile_dy x0 x1 x2 0 512 inb_S512x4352_S512x4352_0_0 inb_S1024x4352_S512x4352_512_0 slices_S512x512_o0_0_S32x512 inb_S512x1024_S32x512_0_512 x
  · exact tile_dy x0 x1 x2 480 0 inb_S512x4352_S512x4352_0_0 inb_S1024x4352_S512x4352_0_0 slices_S512x512_o480_0_S32x512 inb_S512x1024_S32x512_480_0 x
  · exact tile_dy x0 x1 x2 448 0 inb_S512x4352_S512x4352_0_0 inb_S1024x4352_S512x4352_0_0 slices_S512x512_o448_0_S32x512 inb_S512x1024_S32x512_448_0 x
  · exact tile_dy x0 x1 x2 416 0 inb_S512x4352_S512x4352_0_0 inb_S1024x4352_S512x4352_0_0 slices_S512x512_o416_0_S32x512 inb_S512x1024_S32x512_416_0 x
  · exact tile_dy x0 x1 x2 384 0 inb_S512x4352_S512x4352_0_0 inb_S1024x4352_S512x4352_0_0 slices_S512x512_o384_0_S32x512 inb_S512x1024_S32x512_384_0 x
  · exact tile_dy x0 x1 x2 352 0 inb_S512x4352_S512x4352_0_0 inb_S1024x4352_S512x4352_0_0 slices_S512x512_o352_0_S32x512 inb_S512x1024_S32x512_352_0 x
  · exact tile_dy x0 x1 x2 320 0 inb_S512x4352_S512x4352_0_0 inb_S1024x4352_S512x4352_0_0 slices_S512x512_o320_0_S32x512 inb_S512x1024_S32x512_320_0 x
  · exact tile_dy x0 x1 x2 288 0 inb_S512x4352_S512x4352_0_0 inb_S1024x4352_S512x4352_0_0 slices_S512x512_o288_0_S32x512 inb_S512x1024_S32x512_288_0 x
  · exact tile_dy x0 x1 x2 256 0 inb_S512x4352_S512x4352_0_0 inb_S1024x4352_S512x4352_0_0 slices_S512x512_o256_0_S32x512 inb_S512x1024_S32x512_256_0 x
  · exact tile_dy x0 x1 x2 224 0 inb_S512x4352_S512x4352_0_0 inb_S1024x4352_S512x4352_0_0 slices_S512x512_o224_0_S32x512 inb_S512x1024_S32x512_224_0 x
  · exact tile_dy x0 x1 x2 192 0 inb_S512x4352_S512x4352_0_0 inb_S1024x4352_S512x4352_0_0 slices_S512x512_o192_0_S32x512 inb_S512x1024_S32x512_192_0 x
  · exact tile_dy x0 x1 x2 160 0 inb_S512x4352_S512x4352_0_0 inb_S1024x4352_S512x4352_0_0 slices_S512x512_o160_0_S32x512 inb_S512x1024_S32x512_160_0 x
  · exact tile_dy x0 x1 x2 128 0 inb_S512x4352_S512x4352_0_0 inb_S1024x4352_S512x4352_0_0 slices_S512x512_o128_0_S32x512 inb_S512x1024_S32x512_128_0 x
  · exact tile_dy x0 x1 x2 96 0 inb_S512x4352_S512x4352_0_0 inb_S1024x4352_S512x4352_0_0 slices_S512x512_o96_0_S32x512 inb_S512x1024_S32x512_96_0 x
  · exact tile_dy x0 x1 x2 64 0 inb_S512x4352_S512x4352_0_0 inb_S1024x4352_S512x4352_0_0 slices_S512x512_o64_0_S32x512 inb_S512x1024_S32x512_64_0 x
  · exact tile_dy x0 x1 x2 32 0 inb_S512x4352_S512x4352_0_0 inb_S1024x4352_S512x4352_0_0 slices_S512x512_o32_0_S32x512 inb_S512x1024_S32x512_32_0 x
  · exact tile_dy x0 x1 x2 0 0 inb_S512x4352_S512x4352_0_0 inb_S1024x4352_S512x4352_0_0 slices_S512x512_o0_0_S32x512 inb_S512x1024_S32x512_0_0 x

/-- What a point of kind B leaves in the scratch. -/
theorem soutB : sout0_B_0 (F := Ideal) c i arg2 harg2 arg3 harg3 arg4 harg4 arg5 harg5 arg6 harg6 arg7 harg7 arg8 harg8 hc0 hc1 x0 x1 x2 acc = chain x0 x1 x2 (acc) := by
  unfold sout0_B_0
  rw [View.read_writes_eq_canon _ _ _ (scover0_B_0 c i arg2 harg2 arg3 harg3 arg4 harg4 arg5 harg5 arg6 harg6 arg7 harg7 arg8 harg8 hc0 hc1 x0 x1 x2 acc)]
  unfold kernelRun0_B
  dsimp only
  sl_unfold_words
  rw [View.canon_cons_unit_zero (S := S8x512) hz]
  simp only [View.readAt_eq_ld, harg2.read_unread, harg3.read_unread, harg4.read_unread, harg8.read_unread, View.ld_unit_zero (S := S8x512) hz]
  simp only [k0_pay2, k0_pay6, k0_pay13, k0_pay20, k0_pay27, k0_pay34, k0_pay41, k0_pay48, k0_pay55, k0_pay63, k0_pay70, k0_pay77, k0_pay84, k0_pay91, k0_pay98, k0_pay105, k0_pay112, k0_pay117, shapeCast_self]
  rfl

end CaseB

end Cert.DownIdeal.Block

end
-- ==== Proof.DownIdeal.CaseC.lean ====
/-
  The down-projection kernel's body in case C of its three (the last grid point): what its
  stores leave is the blocks' functions of Block.lean.
-/
module

public import proofs.«01_k».proof.Proof.DownIdeal.Block
public import proofs.«01_k».proof.Proof.Gen.DownIdeal.Value
public import Idealize.ShloMosaic.Lib.Pipeline.Value
public import Idealize.ShloMosaic.Lib.ValueIdx
public import Idealize.ShloMosaic.PureOps.Ideal.Laws

@[expose] public section

noncomputable section

namespace Cert.DownIdeal.Block

open Cert.DownIdeal Cert.DownIdeal.Gen Idealize.ShloMosaic Idealize.ShloMosaic.TcCoe Idealize.SL.Sem
open Idealize.ShloMosaic.ValueIdx

variable (x0 : Vec Ideal S512x4352 .bf16) (x1 : Vec Ideal S1024x4352 .bf16) (x2 : Vec Ideal S512x1024 .bf16)

/-! ## Case C -/

section CaseC

variable (c : Dev nD) (i : grid0.Coords) (arg2 : Memref sig .tc .vmem S512x4352 .bf16) (harg2 : arg2.IsWhole) (arg3 : Memref sig .tc .vmem S1024x4352 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .smem S1x1 .f32) (harg7 : arg7.IsWhole) (arg8 : Memref sig .tc .vmem S8x512 .f32) (harg8 : arg8.IsWhole) (hc0 : ¬cond0_0 i) (hc1 : cond0_1 i) (acc : Vec Ideal S8x512 .f32)

/-- What a point of kind C leaves in result window 3. -/
theorem outC_3 : out0_C_3 (F := Ideal) c i arg2 harg2 arg3 harg3 arg4 harg4 arg5 harg5 arg6 harg6 arg7 harg7 arg8 harg8 hc0 hc1 x0 x1 x2 acc = Y x0 x1 := by
  unfold out0_C_3
  rw [View.read_writes_eq_canon _ _ _ (cover0_C_3 c i arg2 harg2 arg3 harg3 arg4 harg4 arg5 harg5 arg6 harg6 arg7 harg7 arg8 harg8 hc0 hc1 x0 x1 x2 acc)]
  funext y
  refine View.canon_apply_of_pieces (Y x0 x1) _ ?_ y (cover0_C_3 c i arg2 harg2 arg3 harg3 arg4 harg4 arg5 harg5 arg6 harg6 arg7 harg7 arg8 harg8 hc0 hc1 x0 x1 x2 acc y)
  unfold kernelRun0_C
  dsimp only
  sl_unfold_words
  simp only [View.readAt_eq_ld, harg2.read_unread, harg3.read_unread, harg4.read_unread]
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_y x0 x1 480 512 inb_S512x4352_S512x4352_0_0 inb_S1024x4352_S512x4352_512_0 slices_S512x512_o480_0_S32x512 inb_S512x1024_S32x512_480_512 x
  · exact tile_y x0 x1 448 512 inb_S512x4352_S512x4352_0_0 inb_S1024x4352_S512x4352_512_0 slices_S512x512_o448_0_S32x512 inb_S512x1024_S32x512_448_512 x
  · exact tile_y x0 x1 416 512 inb_S512x4352_S512x4352_0_0 inb_S1024x4352_S512x4352_512_0 slices_S512x512_o416_0_S32x512 inb_S512x1024_S32x512_416_512 x
  · exact tile_y x0 x1 384 512 inb_S512x4352_S512x4352_0_0 inb_S1024x4352_S512x4352_512_0 slices_S512x512_o384_0_S32x512 inb_S512x1024_S32x512_384_512 x
  · exact tile_y x0 x1 352 512 inb_S512x4352_S512x4352_0_0 inb_S1024x4352_S512x4352_512_0 slices_S512x512_o352_0_S32x512 inb_S512x1024_S32x512_352_512 x
  · exact tile_y x0 x1 320 512 inb_S512x4352_S512x4352_0_0 inb_S1024x4352_S512x4352_512_0 slices_S512x512_o320_0_S32x512 inb_S512x1024_S32x512_320_512 x
  · exact tile_y x0 x1 288 512 inb_S512x4352_S512x4352_0_0 inb_S1024x4352_S512x4352_512_0 slices_S512x512_o288_0_S32x512 inb_S512x1024_S32x512_288_512 x
  · exact tile_y x0 x1 256 512 inb_S512x4352_S512x4352_0_0 inb_S1024x4352_S512x4352_512_0 slices_S512x512_o256_0_S32x512 inb_S512x1024_S32x512_256_512 x
  · exact tile_y x0 x1 224 512 inb_S512x4352_S512x4352_0_0 inb_S1024x4352_S512x4352_512_0 slices_S512x512_o224_0_S32x512 inb_S512x1024_S32x512_224_512 x
  · exact tile_y x0 x1 192 512 inb_S512x4352_S512x4352_0_0 inb_S1024x4352_S512x4352_512_0 slices_S512x512_o192_0_S32x512 inb_S512x1024_S32x512_192_512 x
  · exact tile_y x0 x1 160 512 inb_S512x4352_S512x4352_0_0 inb_S1024x4352_S512x4352_512_0 slices_S512x512_o160_0_S32x512 inb_S512x1024_S32x512_160_512 x
  · exact tile_y x0 x1 128 512 inb_S512x4352_S512x4352_0_0 inb_S1024x4352_S512x4352_512_0 slices_S512x512_o128_0_S32x512 inb_S512x1024_S32x512_128_512 x
  · exact tile_y x0 x1 96 512 inb_S512x4352_S512x4352_0_0 inb_S1024x4352_S512x4352_512_0 slices_S512x512_o96_0_S32x512 inb_S512x1024_S32x512_96_512 x
  · exact tile_y x0 x1 64 512 inb_S512x4352_S512x4352_0_0 inb_S1024x4352_S512x4352_512_0 slices_S512x512_o64_0_S32x512 inb_S512x1024_S32x512_64_512 x
  · exact tile_y x0 x1 32 512 inb_S512x4352_S512x4352_0_0 inb_S1024x4352_S512x4352_512_0 slices_S512x512_o32_0_S32x512 inb_S512x1024_S32x512_32_512 x
  · exact tile_y x0 x1 0 512 inb_S512x4352_S512x4352_0_0 inb_S1024x4352_S512x4352_512_0 slices_S512x512_o0_0_S32x512 inb_S512x1024_S32x512_0_512 x
  · exact tile_y x0 x1 480 0 inb_S512x4352_S512x4352_0_0 inb_S1024x4352_S512x4352_0_0 slices_S512x512_o480_0_S32x512 inb_S512x1024_S32x512_480_0 x
  · exact tile_y x0 x1 448 0 inb_S512x4352_S512x4352_0_0 inb_S1024x4352_S512x4352_0_0 slices_S512x512_o448_0_S32x512 inb_S512x1024_S32x512_448_0 x
  · exact tile_y x0 x1 416 0 inb_S512x4352_S512x4352_0_0 inb_S1024x4352_S512x4352_0_0 slices_S512x512_o416_0_S32x512 inb_S512x1024_S32x512_416_0 x
  · exact tile_y x0 x1 384 0 inb_S512x4352_S512x4352_0_0 inb_S1024x4352_S512x4352_0_0 slices_S512x512_o384_0_S32x512 inb_S512x1024_S32x512_384_0 x
  · exact tile_y x0 x1 352 0 inb_S512x4352_S512x4352_0_0 inb_S1024x4352_S512x4352_0_0 slices_S512x512_o352_0_S32x512 inb_S512x1024_S32x512_352_0 x
  · exact tile_y x0 x1 320 0 inb_S512x4352_S512x4352_0_0 inb_S1024x4352_S512x4352_0_0 slices_S512x512_o320_0_S32x512 inb_S512x1024_S32x512_320_0 x
  · exact tile_y x0 x1 288 0 inb_S512x4352_S512x4352_0_0 inb_S1024x4352_S512x4352_0_0 slices_S512x512_o288_0_S32x512 inb_S512x1024_S32x512_288_0 x
  · exact tile_y x0 x1 256 0 inb_S512x4352_S512x4352_0_0 inb_S1024x4352_S512x4352_0_0 slices_S512x512_o256_0_S32x512 inb_S512x1024_S32x512_256_0 x
  · exact tile_y x0 x1 224 0 inb_S512x4352_S512x4352_0_0 inb_S1024x4352_S512x4352_0_0 slices_S512x512_o224_0_S32x512 inb_S512x1024_S32x512_224_0 x
  · exact tile_y x0 x1 192 0 inb_S512x4352_S512x4352_0_0 inb_S1024x4352_S512x4352_0_0 slices_S512x512_o192_0_S32x512 inb_S512x1024_S32x512_192_0 x
  · exact tile_y x0 x1 160 0 inb_S512x4352_S512x4352_0_0 inb_S1024x4352_S512x4352_0_0 slices_S512x512_o160_0_S32x512 inb_S512x1024_S32x512_160_0 x
  · exact tile_y x0 x1 128 0 inb_S512x4352_S512x4352_0_0 inb_S1024x4352_S512x4352_0_0 slices_S512x512_o128_0_S32x512 inb_S512x1024_S32x512_128_0 x
  · exact tile_y x0 x1 96 0 inb_S512x4352_S512x4352_0_0 inb_S1024x4352_S512x4352_0_0 slices_S512x512_o96_0_S32x512 inb_S512x1024_S32x512_96_0 x
  · exact tile_y x0 x1 64 0 inb_S512x4352_S512x4352_0_0 inb_S1024x4352_S512x4352_0_0 slices_S512x512_o64_0_S32x512 inb_S512x1024_S32x512_64_0 x
  · exact tile_y x0 x1 32 0 inb_S512x4352_S512x4352_0_0 inb_S1024x4352_S512x4352_0_0 slices_S512x512_o32_0_S32x512 inb_S512x1024_S32x512_32_0 x
  · exact tile_y x0 x1 0 0 inb_S512x4352_S512x4352_0_0 inb_S1024x4352_S512x4352_0_0 slices_S512x512_o0_0_S32x512 inb_S512x1024_S32x512_0_0 x

/-- What a point of kind C leaves in result window 4. -/
theorem outC_4 : out0_C_4 (F := Ideal) c i arg2 harg2 arg3 harg3 arg4 harg4 arg5 harg5 arg6 harg6 arg7 harg7 arg8 harg8 hc0 hc1 x0 x1 x2 acc = DY x0 x1 x2 := by
  unfold out0_C_4
  rw [View.read_writes_eq_canon _ _ _ (cover0_C_4 c i arg2 harg2 arg3 harg3 arg4 harg4 arg5 harg5 arg6 harg6 arg7 harg7 arg8 harg8 hc0 hc1 x0 x1 x2 acc)]
  funext y
  refine View.canon_apply_of_pieces (DY x0 x1 x2) _ ?_ y (cover0_C_4 c i arg2 harg2 arg3 harg3 arg4 harg4 arg5 harg5 arg6 harg6 arg7 harg7 arg8 harg8 hc0 hc1 x0 x1 x2 acc y)
  unfold kernelRun0_C
  dsimp only
  sl_unfold_words
  simp only [View.readAt_eq_ld, harg2.read_unread, harg3.read_unread, harg4.read_unread]
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_dy x0 x1 x2 480 512 inb_S512x4352_S512x4352_0_0 inb_S1024x4352_S512x4352_512_0 slices_S512x512_o480_0_S32x512 inb_S512x1024_S32x512_480_512 x
  · exact tile_dy x0 x1 x2 448 512 inb_S512x4352_S512x4352_0_0 inb_S1024x4352_S512x4352_512_0 slices_S512x512_o448_0_S32x512 inb_S512x1024_S32x512_448_512 x
  · exact tile_dy x0 x1 x2 416 512 inb_S512x4352_S512x4352_0_0 inb_S1024x4352_S512x4352_512_0 slices_S512x512_o416_0_S32x512 inb_S512x1024_S32x512_416_512 x
  · exact tile_dy x0 x1 x2 384 512 inb_S512x4352_S512x4352_0_0 inb_S1024x4352_S512x4352_512_0 slices_S512x512_o384_0_S32x512 inb_S512x1024_S32x512_384_512 x
  · exact tile_dy x0 x1 x2 352 512 inb_S512x4352_S512x4352_0_0 inb_S1024x4352_S512x4352_512_0 slices_S512x512_o352_0_S32x512 inb_S512x1024_S32x512_352_512 x
  · exact tile_dy x0 x1 x2 320 512 inb_S512x4352_S512x4352_0_0 inb_S1024x4352_S512x4352_512_0 slices_S512x512_o320_0_S32x512 inb_S512x1024_S32x512_320_512 x
  · exact tile_dy x0 x1 x2 288 512 inb_S512x4352_S512x4352_0_0 inb_S1024x4352_S512x4352_512_0 slices_S512x512_o288_0_S32x512 inb_S512x1024_S32x512_288_512 x
  · exact tile_dy x0 x1 x2 256 512 inb_S512x4352_S512x4352_0_0 inb_S1024x4352_S512x4352_512_0 slices_S512x512_o256_0_S32x512 inb_S512x1024_S32x512_256_512 x
  · exact tile_dy x0 x1 x2 224 512 inb_S512x4352_S512x4352_0_0 inb_S1024x4352_S512x4352_512_0 slices_S512x512_o224_0_S32x512 inb_S512x1024_S32x512_224_512 x
  · exact tile_dy x0 x1 x2 192 512 inb_S512x4352_S512x4352_0_0 inb_S1024x4352_S512x4352_512_0 slices_S512x512_o192_0_S32x512 inb_S512x1024_S32x512_192_512 x
  · exact tile_dy x0 x1 x2 160 512 inb_S512x4352_S512x4352_0_0 inb_S1024x4352_S512x4352_512_0 slices_S512x512_o160_0_S32x512 inb_S512x1024_S32x512_160_512 x
  · exact tile_dy x0 x1 x2 128 512 inb_S512x4352_S512x4352_0_0 inb_S1024x4352_S512x4352_512_0 slices_S512x512_o128_0_S32x512 inb_S512x1024_S32x512_128_512 x
  · exact tile_dy x0 x1 x2 96 512 inb_S512x4352_S512x4352_0_0 inb_S1024x4352_S512x4352_512_0 slices_S512x512_o96_0_S32x512 inb_S512x1024_S32x512_96_512 x
  · exact tile_dy x0 x1 x2 64 512 inb_S512x4352_S512x4352_0_0 inb_S1024x4352_S512x4352_512_0 slices_S512x512_o64_0_S32x512 inb_S512x1024_S32x512_64_512 x
  · exact tile_dy x0 x1 x2 32 512 inb_S512x4352_S512x4352_0_0 inb_S1024x4352_S512x4352_512_0 slices_S512x512_o32_0_S32x512 inb_S512x1024_S32x512_32_512 x
  · exact tile_dy x0 x1 x2 0 512 inb_S512x4352_S512x4352_0_0 inb_S1024x4352_S512x4352_512_0 slices_S512x512_o0_0_S32x512 inb_S512x1024_S32x512_0_512 x
  · exact tile_dy x0 x1 x2 480 0 inb_S512x4352_S512x4352_0_0 inb_S1024x4352_S512x4352_0_0 slices_S512x512_o480_0_S32x512 inb_S512x1024_S32x512_480_0 x
  · exact tile_dy x0 x1 x2 448 0 inb_S512x4352_S512x4352_0_0 inb_S1024x4352_S512x4352_0_0 slices_S512x512_o448_0_S32x512 inb_S512x1024_S32x512_448_0 x
  · exact tile_dy x0 x1 x2 416 0 inb_S512x4352_S512x4352_0_0 inb_S1024x4352_S512x4352_0_0 slices_S512x512_o416_0_S32x512 inb_S512x1024_S32x512_416_0 x
  · exact tile_dy x0 x1 x2 384 0 inb_S512x4352_S512x4352_0_0 inb_S1024x4352_S512x4352_0_0 slices_S512x512_o384_0_S32x512 inb_S512x1024_S32x512_384_0 x
  · exact tile_dy x0 x1 x2 352 0 inb_S512x4352_S512x4352_0_0 inb_S1024x4352_S512x4352_0_0 slices_S512x512_o352_0_S32x512 inb_S512x1024_S32x512_352_0 x
  · exact tile_dy x0 x1 x2 320 0 inb_S512x4352_S512x4352_0_0 inb_S1024x4352_S512x4352_0_0 slices_S512x512_o320_0_S32x512 inb_S512x1024_S32x512_320_0 x
  · exact tile_dy x0 x1 x2 288 0 inb_S512x4352_S512x4352_0_0 inb_S1024x4352_S512x4352_0_0 slices_S512x512_o288_0_S32x512 inb_S512x1024_S32x512_288_0 x
  · exact tile_dy x0 x1 x2 256 0 inb_S512x4352_S512x4352_0_0 inb_S1024x4352_S512x4352_0_0 slices_S512x512_o256_0_S32x512 inb_S512x1024_S32x512_256_0 x
  · exact tile_dy x0 x1 x2 224 0 inb_S512x4352_S512x4352_0_0 inb_S1024x4352_S512x4352_0_0 slices_S512x512_o224_0_S32x512 inb_S512x1024_S32x512_224_0 x
  · exact tile_dy x0 x1 x2 192 0 inb_S512x4352_S512x4352_0_0 inb_S1024x4352_S512x4352_0_0 slices_S512x512_o192_0_S32x512 inb_S512x1024_S32x512_192_0 x
  · exact tile_dy x0 x1 x2 160 0 inb_S512x4352_S512x4352_0_0 inb_S1024x4352_S512x4352_0_0 slices_S512x512_o160_0_S32x512 inb_S512x1024_S32x512_160_0 x
  · exact tile_dy x0 x1 x2 128 0 inb_S512x4352_S512x4352_0_0 inb_S1024x4352_S512x4352_0_0 slices_S512x512_o128_0_S32x512 inb_S512x1024_S32x512_128_0 x
  · exact tile_dy x0 x1 x2 96 0 inb_S512x4352_S512x4352_0_0 inb_S1024x4352_S512x4352_0_0 slices_S512x512_o96_0_S32x512 inb_S512x1024_S32x512_96_0 x
  · exact tile_dy x0 x1 x2 64 0 inb_S512x4352_S512x4352_0_0 inb_S1024x4352_S512x4352_0_0 slices_S512x512_o64_0_S32x512 inb_S512x1024_S32x512_64_0 x
  · exact tile_dy x0 x1 x2 32 0 inb_S512x4352_S512x4352_0_0 inb_S1024x4352_S512x4352_0_0 slices_S512x512_o32_0_S32x512 inb_S512x1024_S32x512_32_0 x
  · exact tile_dy x0 x1 x2 0 0 inb_S512x4352_S512x4352_0_0 inb_S1024x4352_S512x4352_0_0 slices_S512x512_o0_0_S32x512 inb_S512x1024_S32x512_0_0 x

/-- What a point of kind C leaves in the scratch. -/
theorem soutC : sout0_C_0 (F := Ideal) c i arg2 harg2 arg3 harg3 arg4 harg4 arg5 harg5 arg6 harg6 arg7 harg7 arg8 harg8 hc0 hc1 x0 x1 x2 acc = chain x0 x1 x2 (acc) := by
  unfold sout0_C_0
  rw [View.read_writes_eq_canon _ _ _ (scover0_C_0 c i arg2 harg2 arg3 harg3 arg4 harg4 arg5 harg5 arg6 harg6 arg7 harg7 arg8 harg8 hc0 hc1 x0 x1 x2 acc)]
  unfold kernelRun0_C
  dsimp only
  sl_unfold_words
  rw [View.canon_cons_unit_zero (S := S8x512) hz]
  simp only [View.readAt_eq_ld, harg2.read_unread, harg3.read_unread, harg4.read_unread, harg8.read_unread, View.ld_unit_zero (S := S8x512) hz]
  simp only [k0_pay2, k0_pay6, k0_pay13, k0_pay20, k0_pay27, k0_pay34, k0_pay41, k0_pay48, k0_pay55, k0_pay63, k0_pay70, k0_pay77, k0_pay84, k0_pay91, k0_pay98, k0_pay105, k0_pay112, k0_pay117, shapeCast_self]
  rfl

/-- What a point of kind C leaves in result window 5. -/
theorem outC_5 : out0_C_5 (F := Ideal) c i arg2 harg2 arg3 harg3 arg4 harg4 arg5 harg5 arg6 harg6 arg7 harg7 arg8 harg8 hc0 hc1 x0 x1 x2 acc = fun _ => k0_pay1 (F := Ideal) (chain x0 x1 x2 acc) := by
  unfold out0_C_5
  rw [View.read_writes_eq_canon _ _ _ (cover0_C_5 c i arg2 harg2 arg3 harg3 arg4 harg4 arg5 harg5 arg6 harg6 arg7 harg7 arg8 harg8 hc0 hc1 x0 x1 x2 acc)]
  unfold kernelRun0_C
  dsimp only
  sl_unfold_words
  rw [View.canon_cons_unit_zero (S := S1x1) hz]
  simp only [View.readCov_unit_zero (S := S8x512) _ hz]
  simp only [View.readAt_eq_ld, harg2.read_unread, harg3.read_unread, harg4.read_unread, harg8.read_unread, View.ld_unit_zero (S := S8x512) hz]
  simp only [k0_pay2, k0_pay6, k0_pay13, k0_pay20, k0_pay27, k0_pay34, k0_pay41, k0_pay48, k0_pay55, k0_pay63, k0_pay70, k0_pay77, k0_pay84, k0_pay91, k0_pay98, k0_pay105, k0_pay112, k0_pay117, shapeCast_self]
  rfl

end CaseC

end Cert.DownIdeal.Block

end
-- ==== Proof.DownIdeal.Final.lean ====
/-
  The down-projection kernel's three result arrays after the run, over the extended reals, as functions of its arguments:
  the product, the scaled error, and the loss. The first two are flushed block by block; the loss is the carried
  accumulator's total after the last point, which is the sum of every squared error.
-/
module

public import proofs.«01_k».proof.Proof.DownIdeal.CaseA
public import proofs.«01_k».proof.Proof.DownIdeal.CaseB
public import proofs.«01_k».proof.Proof.DownIdeal.CaseC
public import proofs.«01_k».proof.Proof.Gen.DownReferenceIdeal.Read
public import Idealize.ShloMosaic.Lib.Affine

@[expose] public section

noncomputable section

namespace Cert.DownIdeal.Final

open Cert.DownIdeal Cert.DownIdeal.Gen Idealize.ShloMosaic Idealize.ShloMosaic.TcCoe Idealize.SL.Sem
open Idealize.ShloMosaic.ValueIdx
open Idealize.ShloMosaic.Pipeline (Dat)

/-! ## The results as functions of the arguments -/

section Spec
variable (ab : Vec Ideal S4608x4352 .bf16) (wd : Vec Ideal S2048x4352 .bf16) (yt : Vec Ideal S4608x2048 .bf16)

/-- The product. -/
def Y : Vec Ideal S4608x2048 .f32 := fun i =>
  ∑ k : Fin 4352, ab (ix2 ⟨(i 0).val, idx2_lt0 i⟩ k) * wd (ix2 ⟨(i 1).val, idx2_lt1 i⟩ k)

/-- The error. -/
def Err : Vec Ideal S4608x2048 .f32 := fun i => Y ab wd i - yt i

/-- Twice the error over the number of tokens. -/
def DY : Vec Ideal S4608x2048 .bf16 := fun i =>
  Ideal.div (Ideal.ofBits .f32 0x40000000#32 * Err ab wd yt i) (Ideal.ofBits .f32 0x45900000#32)

/-- The squared error at row `a`, column `b` (zero outside the array). -/
def sq (a b : ℕ) : EReal :=
  if h : a < 4608 ∧ b < 2048 then Err ab wd yt (ix2 ⟨a, h.1⟩ ⟨b, h.2⟩) * Err ab wd yt (ix2 ⟨a, h.1⟩ ⟨b, h.2⟩) else 0

/-- Every squared error, over the number of tokens. -/
def Loss : Vec Ideal S1x1 .f32 := fun _ =>
  Ideal.div (∑ a ∈ Finset.range 4608, ∑ b ∈ Finset.range 2048, sq ab wd yt a b) (Ideal.ofBits .f32 0x45900000#32)

/-- The squared errors of block `t`. -/
def blockSq (t : ℕ) : EReal :=
  ∑ a ∈ Finset.range 512, ∑ b ∈ Finset.range 1024, sq ab wd yt (t % 9 * 512 + a) (t / 9 * 1024 + b)

/-- The eighteen blocks together are the whole array. -/
theorem sum_blocks : ∑ t ∈ Finset.range 18, blockSq ab wd yt t
    = ∑ a ∈ Finset.range 4608, ∑ b ∈ Finset.range 2048, sq ab wd yt a b := by
  rw [← Block.sum_runs (blockSq ab wd yt) 9 2]
  have h1 : ∀ s ∈ Finset.range 2, ∑ r ∈ Finset.range 9, blockSq ab wd yt (s * 9 + r)
      = ∑ a ∈ Finset.range 4608, ∑ b ∈ Finset.range 1024, sq ab wd yt a (s * 1024 + b) := fun s _ => by
    rw [← Block.sum_runs (fun a => ∑ b ∈ Finset.range 1024, sq ab wd yt a (s * 1024 + b)) 512 9]
    refine Finset.sum_congr rfl fun r hr => ?_
    have hr' := Finset.mem_range.mp hr
    unfold blockSq
    rw [show (s * 9 + r) % 9 = r by omega, show (s * 9 + r) / 9 = s by omega]
  rw [Finset.sum_congr rfl h1, Finset.sum_comm]
  exact Finset.sum_congr rfl fun a _ => Block.sum_runs (sq ab wd yt a) 1024 2

end Spec

/-! ## The windows' blocks -/

/-- The windows' block indices at a point: the token block and the column half. -/
theorem idx (t : Fin cfg0.N) : win0_0.index t 0 = t.val % 9 ∧ win0_0.index t 1 = 0
    ∧ win0_1.index t 0 = t.val / 9 ∧ win0_1.index t 1 = 0
    ∧ win0_2.index t 0 = t.val % 9 ∧ win0_2.index t 1 = t.val / 9
    ∧ win0_3.index t 0 = t.val % 9 ∧ win0_3.index t 1 = t.val / 9
    ∧ win0_4.index t 0 = t.val % 9 ∧ win0_4.index t 1 = t.val / 9
    ∧ win0_5.index t 0 = 0 ∧ win0_5.index t 1 = 0 :=
  (by decide +kernel : ∀ t : Fin grid0.N, win0_0.index t 0 = t.val % 9 ∧ win0_0.index t 1 = 0
    ∧ win0_1.index t 0 = t.val / 9 ∧ win0_1.index t 1 = 0
    ∧ win0_2.index t 0 = t.val % 9 ∧ win0_2.index t 1 = t.val / 9
    ∧ win0_3.index t 0 = t.val % 9 ∧ win0_3.index t 1 = t.val / 9
    ∧ win0_4.index t 0 = t.val % 9 ∧ win0_4.index t 1 = t.val / 9
    ∧ win0_5.index t 0 = 0 ∧ win0_5.index t 1 = 0) t

/-- The number of points. -/
theorem lt_N (t : Fin cfg0.N) : t.val < 18 := by have h := t.isLt; have e : cfg0.N = 18 := N_0; omega

variable (m : (ℓ : Loc nD τ sig) → Buf (Elt Ideal) ℓ) (ρ : Dev nD → PrngReg)

/-- Block `t`'s product is the product at the block's place. -/
theorem blk_Y (c : Dev nD) (t : Fin cfg0.N) (y : S512x1024.Idx) (z : S4608x2048.Idx)
    (e0 : (z 0).val = t.val % 9 * 512 + (y 0).val) (e1 : (z 1).val = t.val / 9 * 1024 + (y 1).val) :
    Block.Y (iblk m c 0 t) (iblk m c 1 t) y = Y (m ((c : Thread nD τ).loc main_arg0)) (m ((c : Thread nD τ).loc main_arg1)) z := by
  obtain ⟨i00, i01, i10, i11, -⟩ := idx t
  unfold Block.Y Y
  refine Finset.sum_congr rfl fun k _ => congrArg₂ (· * ·) ?_ ?_
  · unfold iblk
    rw [View.read_apply]
    show V m c main_arg0 _ = m (c.tc.loc main_arg0) _
    unfold V
    congr 1
    funext a; apply Fin.ext
    match a with
    | ⟨0, _⟩ => show win0_0.index t 0 * 512 + 1 * (y 0).val = (z 0).val; rw [i00, e0]; omega
    | ⟨1, _⟩ => show win0_0.index t 1 * 4352 + 1 * k.val = k.val; rw [i01]; omega
  · unfold iblk
    rw [View.read_apply]
    show V m c main_arg1 _ = m (c.tc.loc main_arg1) _
    unfold V
    congr 1
    funext a; apply Fin.ext
    match a with
    | ⟨0, _⟩ => show win0_1.index t 0 * 1024 + 1 * (y 1).val = (z 1).val; rw [i10, e1]; omega
    | ⟨1, _⟩ => show win0_1.index t 1 * 4352 + 1 * k.val = k.val; rw [i11]; omega

/-- … and so is its error. -/
theorem blk_Err (c : Dev nD) (t : Fin cfg0.N) (y : S512x1024.Idx) (z : S4608x2048.Idx)
    (e0 : (z 0).val = t.val % 9 * 512 + (y 0).val) (e1 : (z 1).val = t.val / 9 * 1024 + (y 1).val) :
    Block.Err (iblk m c 0 t) (iblk m c 1 t) (iblk m c 2 t) y = Err (m ((c : Thread nD τ).loc main_arg0))
      (m ((c : Thread nD τ).loc main_arg1)) (m ((c : Thread nD τ).loc main_arg2)) z := by
  obtain ⟨-, -, -, -, i20, i21, -⟩ := idx t
  unfold Block.Err Err
  refine congrArg₂ (· - ·) (blk_Y m c t y z e0 e1) ?_
  unfold iblk
  rw [View.read_apply]
  show V m c main_arg2 _ = m (c.tc.loc main_arg2) _
  unfold V
  congr 1
  funext a; apply Fin.ext
  match a with
  | ⟨0, _⟩ => show win0_2.index t 0 * 512 + 1 * (y 0).val = (z 0).val; rw [i20, e0]; omega
  | ⟨1, _⟩ => show win0_2.index t 1 * 1024 + 1 * (y 1).val = (z 1).val; rw [i21, e1]; omega

/-- A block's squares are the array's squares over the block. -/
theorem blk_sqs (c : Dev nD) (t : Fin cfg0.N) :
    Block.sqs (iblk m c 0 t) (iblk m c 1 t) (iblk m c 2 t) = blockSq (m ((c : Thread nD τ).loc main_arg0))
      (m ((c : Thread nD τ).loc main_arg1)) (m ((c : Thread nD τ).loc main_arg2)) t.val := by
  have hN := lt_N t
  unfold Block.sqs blockSq
  refine Finset.sum_congr rfl fun a ha => Finset.sum_congr rfl fun b hb => ?_
  have ha' := Finset.mem_range.mp ha
  have hb' := Finset.mem_range.mp hb
  unfold Block.sq sq
  rw [dif_pos ⟨ha', hb'⟩, dif_pos (show t.val % 9 * 512 + a < 4608 ∧ t.val / 9 * 1024 + b < 2048 by omega),
    blk_Err m c t (ix2 ⟨a, ha'⟩ ⟨b, hb'⟩) (ix2 ⟨t.val % 9 * 512 + a, by omega⟩ ⟨t.val / 9 * 1024 + b, by omega⟩) rfl rfl]

/-! ## The product and the scaled error -/

/-- What point `t` writes back of the product is block `t` of the product. -/
theorem flushed3_eq (c : Dev nD) (t : Fin cfg0.N) (hf : (cfg0.win 3).flush t = true) :
    (dats (F := Ideal) m 0 c).flushed 3 t = ((cfg0.win 3).blk t).view.read (Elt Ideal)
      (Y (m ((c : Thread nD τ).loc main_arg0)) (m ((c : Thread nD τ).loc main_arg1))) := by
  obtain ⟨-, -, -, -, -, -, i30, i31, -⟩ := idx t
  have e : (dats (F := Ideal) m 0 c).flushed 3 t = (cfg0.win 3).cut (grid0.coords t) (Block.Y (iblk m c 0 t) (iblk m c 1 t)) := by
    by_cases h0 : t.val % 18 = 0
    · rw [Value.flushed3_A m c t h0 (by omega), Block.outA_3]
    · by_cases h1 : t.val % 18 = 17
      · rw [Value.flushed3_C m c t h0 h1, Block.outC_3]
      · rw [Value.flushed3_B m c t h0 h1, Block.outB_3]
  rw [e]
  funext y
  rw [View.read_apply]
  exact blk_Y m c t y _ (by show win0_3.index t 0 * 512 + 1 * (y 0).val = _; rw [i30]; omega)
    (by show win0_3.index t 1 * 1024 + 1 * (y 1).val = _; rw [i31]; omega)

/-- What point `t` writes back of the scaled error is block `t` of the scaled error. -/
theorem flushed4_eq (c : Dev nD) (t : Fin cfg0.N) (hf : (cfg0.win 4).flush t = true) :
    (dats (F := Ideal) m 0 c).flushed 4 t = ((cfg0.win 4).blk t).view.read (Elt Ideal)
      (DY (m ((c : Thread nD τ).loc main_arg0)) (m ((c : Thread nD τ).loc main_arg1)) (m ((c : Thread nD τ).loc main_arg2))) := by
  obtain ⟨-, -, -, -, -, -, -, -, i40, i41, -⟩ := idx t
  have e : (dats (F := Ideal) m 0 c).flushed 4 t
      = (cfg0.win 4).cut (grid0.coords t) (Block.DY (iblk m c 0 t) (iblk m c 1 t) (iblk m c 2 t)) := by
    by_cases h0 : t.val % 18 = 0
    · rw [Value.flushed4_A m c t h0 (by omega), Block.outA_4]
    · by_cases h1 : t.val % 18 = 17
      · rw [Value.flushed4_C m c t h0 h1, Block.outC_4]
      · rw [Value.flushed4_B m c t h0 h1, Block.outB_4]
  rw [e]
  funext y
  rw [View.read_apply]
  refine congrArg (fun e => Ideal.div (Ideal.ofBits .f32 0x40000000#32 * e) (Ideal.ofBits .f32 0x45900000#32))
    (blk_Err m c t y _ ?_ ?_)
  · show win0_4.index t 0 * 512 + 1 * (y 0).val = _; rw [i40]; omega
  · show win0_4.index t 1 * 1024 + 1 * (y 1).val = _; rw [i41]; omega

/-- The first array ends holding the product. -/
theorem final3 (c : Dev nD) : (dats (F := Ideal) m 0 c).arrAt 3 cfg0.N
      = Y (m ((c : Thread nD τ).loc main_arg0)) (m ((c : Thread nD τ).loc main_arg1)) :=
  (dats (F := Ideal) m 0 c).arrAt_eq_of_cover 3 _ (flushed3_eq m c) fun i => by
    have h0 : (i 0 : Nat) < 4608 := (i 0).isLt
    have h1 : (i 1 : Nat) < 2048 := (i 1).isLt
    have hlt : (i 1 : Nat) / 1024 * 9 + (i 0 : Nat) / 512 < cfg0.N := by rw [show cfg0.N = 18 from N_0]; omega
    refine ⟨⟨(i 1 : Nat) / 1024 * 9 + (i 0 : Nat) / 512, hlt⟩, flush0_3 _, ?_⟩
    obtain ⟨-, -, -, -, -, -, i30, i31, -⟩ := idx ⟨(i 1 : Nat) / 1024 * 9 + (i 0 : Nat) / 512, hlt⟩
    show i ∈ ((View.whole main_v0_0).slice (win0_3.rect ⟨(i 1 : Nat) / 1024 * 9 + (i 0 : Nat) / 512, hlt⟩)).set
    rw [View.set_slice_whole, Rect.mem_set_unit]
    intro a
    match a with
    | ⟨0, _⟩ =>
      show win0_3.index _ 0 * 512 ≤ (i 0 : Nat) ∧ (i 0 : Nat) < win0_3.index _ 0 * 512 + 512
      rw [i30]; dsimp only; omega
    | ⟨1, _⟩ =>
      show win0_3.index _ 1 * 1024 ≤ (i 1 : Nat) ∧ (i 1 : Nat) < win0_3.index _ 1 * 1024 + 1024
      rw [i31]; dsimp only; omega

/-- The second array ends holding the scaled error. -/
theorem final4 (c : Dev nD) : (dats (F := Ideal) m 0 c).arrAt 4 cfg0.N
      = DY (m ((c : Thread nD τ).loc main_arg0)) (m ((c : Thread nD τ).loc main_arg1)) (m ((c : Thread nD τ).loc main_arg2)) :=
  (dats (F := Ideal) m 0 c).arrAt_eq_of_cover 4 _ (flushed4_eq m c) fun i => by
    have h0 : (i 0 : Nat) < 4608 := (i 0).isLt
    have h1 : (i 1 : Nat) < 2048 := (i 1).isLt
    have hlt : (i 1 : Nat) / 1024 * 9 + (i 0 : Nat) / 512 < cfg0.N := by rw [show cfg0.N = 18 from N_0]; omega
    refine ⟨⟨(i 1 : Nat) / 1024 * 9 + (i 0 : Nat) / 512, hlt⟩, flush0_4 _, ?_⟩
    obtain ⟨-, -, -, -, -, -, -, -, i40, i41, -⟩ := idx ⟨(i 1 : Nat) / 1024 * 9 + (i 0 : Nat) / 512, hlt⟩
    show i ∈ ((View.whole main_v0_1).slice (win0_4.rect ⟨(i 1 : Nat) / 1024 * 9 + (i 0 : Nat) / 512, hlt⟩)).set
    rw [View.set_slice_whole, Rect.mem_set_unit]
    intro a
    match a with
    | ⟨0, _⟩ =>
      show win0_4.index _ 0 * 512 ≤ (i 0 : Nat) ∧ (i 0 : Nat) < win0_4.index _ 0 * 512 + 512
      rw [i40]; dsimp only; omega
    | ⟨1, _⟩ =>
      show win0_4.index _ 1 * 1024 ≤ (i 1 : Nat) ∧ (i 1 : Nat) < win0_4.index _ 1 * 1024 + 1024
      rw [i41]; dsimp only; omega

/-! ## The loss -/

/-- The accumulator's total after point `n` is the squares of the blocks up to `n`. -/
theorem tot_at (c : Dev nD) : ∀ (n : ℕ) (hn : n < cfg0.N), Block.tot (outsAt0 (F := Ideal) m c n hn).2.2.2
    = ∑ t ∈ Finset.range (n + 1), blockSq (m ((c : Thread nD τ).loc main_arg0))
      (m ((c : Thread nD τ).loc main_arg1)) (m ((c : Thread nD τ).loc main_arg2)) t
  | 0, hn => by
    rw [outsAt0_A m c ⟨0, hn⟩ (Nat.zero_mod 18) (by show ¬0 % 18 = 17; omega)]
    dsimp only
    rw [Block.soutA, Block.tot_chain, blk_sqs m c ⟨0, hn⟩]
    have hz : Block.tot (broadcast S8x512 (Scalar.ofBits (F := Ideal) .f32 0x00000000#32)) = 0 :=
      Finset.sum_eq_zero fun j _ => Ideal.ofBits_zero_f32
    rw [hz, zero_add, Finset.sum_range_one]
  | n + 1, hn => by
    have hN : n + 1 < 18 := lt_N ⟨n + 1, hn⟩
    have ih := tot_at c n (by omega)
    rw [Finset.sum_range_succ, ← ih]
    by_cases h1 : (n + 1) % 18 = 17
    · rw [outsAt0_C m c ⟨n + 1, hn⟩ (by show ¬(n + 1) % 18 = 0; omega) h1]
      dsimp only
      rw [Block.soutC, Block.tot_chain, blk_sqs m c ⟨n + 1, hn⟩]
      rfl
    · rw [outsAt0_B m c ⟨n + 1, hn⟩ (by show ¬(n + 1) % 18 = 0; omega) h1]
      dsimp only
      rw [Block.soutB, Block.tot_chain, blk_sqs m c ⟨n + 1, hn⟩]
      rfl

/-- The body's loss is the accumulator's total over the number of tokens. -/
theorem pay1_eq (v : Vec Ideal S8x512 .f32) :
    k0_pay1 (F := Ideal) v = Ideal.div (Block.tot v) (Ideal.ofBits .f32 0x45900000#32) := by
  unfold k0_pay1
  dsimp only
  show Ideal.div _ _ = _
  refine congrArg (Ideal.div · _) ?_
  refine (Ideal.multiReduction_add_total (shapeCast S1x8x512 v shapeCasts_S8x512_S1x8x512) 0x00000000#32 reduces_S1x8x512_S1
    (by decide) (.inl rfl) rfl _).trans ?_
  unfold Block.tot shapeCast
  exact Equiv.sum_comp _ v

/-- What the last point writes back of the loss is the loss. -/
theorem flushed5_eq (c : Dev nD) (t : Fin cfg0.N) (hf : (cfg0.win 5).flush t = true) :
    (dats (F := Ideal) m 0 c).flushed 5 t = ((cfg0.win 5).blk t).view.read (Elt Ideal)
      (Loss (m ((c : Thread nD τ).loc main_arg0)) (m ((c : Thread nD τ).loc main_arg1)) (m ((c : Thread nD τ).loc main_arg2))) := by
  have hN := lt_N t
  have h1 : t.val % 18 = 17 := (flush0_5 t).mp hf
  have ht : t.val = 17 := by omega
  rw [Value.flushed5_C m c t (by omega) h1, Block.outC_5]
  funext y
  rw [View.read_apply]
  show k0_pay1 (F := Ideal) _ = Ideal.div _ _
  rw [pay1_eq, Block.tot_chain, blk_sqs, tot_at, ← sum_blocks]
  refine congrArg (Ideal.div · _) ?_
  rw [show t.val - 1 + 1 = 17 by omega, ht, ← Finset.sum_range_succ]

/-- The third array ends holding the loss. -/
theorem final5 (c : Dev nD) : (dats (F := Ideal) m 0 c).arrAt 5 cfg0.N
      = Loss (m ((c : Thread nD τ).loc main_arg0)) (m ((c : Thread nD τ).loc main_arg1)) (m ((c : Thread nD τ).loc main_arg2)) :=
  (dats (F := Ideal) m 0 c).arrAt_eq_of_cover 5 _ (flushed5_eq m c) fun i => by
    have h0 : (i 0 : Nat) < 1 := (i 0).isLt
    have h1 : (i 1 : Nat) < 1 := (i 1).isLt
    have hlt : 17 < cfg0.N := by rw [show cfg0.N = 18 from N_0]; omega
    refine ⟨⟨17, hlt⟩, (flush0_5 _).mpr rfl, ?_⟩
    obtain ⟨-, -, -, -, -, -, -, -, -, -, i50, i51⟩ := idx ⟨17, hlt⟩
    show i ∈ ((View.whole main_v0_2).slice (win0_5.rect ⟨17, hlt⟩)).set
    rw [View.set_slice_whole, Rect.mem_set_unit]
    intro a
    match a with
    | ⟨0, _⟩ =>
      show win0_5.index _ 0 * 1 ≤ (i 0 : Nat) ∧ (i 0 : Nat) < win0_5.index _ 0 * 1 + 1
      rw [i50]; omega
    | ⟨1, _⟩ =>
      show win0_5.index _ 1 * 1 ≤ (i 1 : Nat) ∧ (i 1 : Nat) < win0_5.index _ 1 * 1 + 1
      rw [i51]; omega

/-! ## The reference's results are the same functions -/

section Ref
open Cert.DownReferenceIdeal.Read
variable (ab : Vec Ideal S4608x4352 .bf16) (wd : Vec Ideal S2048x4352 .bf16) (yt : Vec Ideal S4608x2048 .bf16)

/-- The reference's product. -/
theorem ref_y : val_main_v0 (F := Ideal) ab wd = Y ab wd := by
  funext i
  rw [val_main_v0_apply]
  unfold Y
  refine Finset.sum_congr rfl fun k _ => congrArg₂ (· * ·) (congrArg ab ?_) (congrArg wd ?_)
  · funext a; apply Fin.ext
    match a with
    | ⟨0, _⟩ => rfl
    | ⟨1, _⟩ => rfl
  · funext a; apply Fin.ext
    match a with
    | ⟨0, _⟩ => rfl
    | ⟨1, _⟩ => rfl

/-- The reference's error. -/
theorem ref_err (i : S4608x2048.Idx) : val_main_v2 (F := Ideal) ab wd yt i = Err ab wd yt i := by
  rw [val_main_v2_apply, ref_y]
  rfl

/-- The reference's scaled error. -/
theorem ref_dy : val_main_v10 (F := Ideal) ab wd yt = DY ab wd yt := by
  funext i
  rw [val_main_v10_apply, val_main_v9_apply, val_main_v7_apply, ref_err, val_main_v6_apply, val_main_v8_apply]
  rfl

/-- The reference's loss. -/
theorem ref_loss : val_main_v11 (F := Ideal) ab wd yt = Loss ab wd yt := by
  funext i
  unfold val_main_v11 shapeCast
  rw [val_main_v5_apply, val_main_v4_apply]
  refine congrArg (Ideal.div · (Ideal.ofBits .f32 0x45900000#32)) ?_
  have h0 : ∀ j, (val_main_cst (F := Ideal)) j = (0 : EReal) := fun j => Ideal.ofBits_zero_f32
  rw [h0, zero_add, sum_idx2, ← Fin.sum_univ_eq_sum_range]
  refine Finset.sum_congr rfl fun a _ => ?_
  rw [← Fin.sum_univ_eq_sum_range]
  refine Finset.sum_congr rfl fun b _ => ?_
  rw [val_main_v3_apply, ref_err]
  unfold sq
  rw [dif_pos ⟨a.isLt, b.isLt⟩]
  rfl

end Ref

end Cert.DownIdeal.Final

end
-- ==== Proof.DactIdeal.Block.lean ====
/-
  What one grid point of the activation-gradient kernel leaves in its output block, over the extended reals: rows
  0..255 hold `(dy · wd) * p` transposed, rows 256..511 `(dy · wd) * q` transposed, of the point's input blocks.
  The body computes it in six strips of 384 tokens; every strip's two stores are tiles of one function.
-/
module

public import proofs.«01_k».proof.Defs
public import proofs.«01_k».proof.Proof.Gen.DactIdeal.Value
public import Idealize.ShloMosaic.Lib.Pipeline.Value
public import Idealize.ShloMosaic.Lib.ValueIdx
public import Idealize.ShloMosaic.PureOps.Ideal.Laws

@[expose] public section

noncomputable section

namespace Cert.DactIdeal.Block

open Cert.DactIdeal Cert.DactIdeal.Gen Idealize.ShloMosaic Idealize.ShloMosaic.TcCoe Idealize.SL.Sem
open Idealize.ShloMosaic.ValueIdx

/-! ## The strip product read at an index -/

abbrev D := dot_S384x2048_S2048x256_S384x256_1_0_0_1_n_n

/-- The left factor is read at the result's row. -/
theorem lhs0 (i : S384x256.Idx) (q : D.contr.Idx) : (D.lhsIdx i q 0).val = (i 0).val := by
  unfold DotDims.lhsIdx
  rw [dif_neg (show ¬(0 : Fin S384x2048.rank) ∈ D.lhsBatch by decide), dif_pos (show (0 : Fin S384x2048.rank) ∈ D.lhsNonContracting by decide)]
  rfl
/-- The left factor is read along the contracted axis. -/
theorem lhs1 (i : S384x256.Idx) (q : D.contr.Idx) : (D.lhsIdx i q 1).val = (q ⟨0, by decide⟩).val :=
  D.lhsIdx_val_of_single rfl i q
/-- The right factor is read at the result's column. -/
theorem rhs0 (i : S384x256.Idx) (q : D.contr.Idx) : (D.rhsIdx i q 0).val = (q ⟨0, by decide⟩).val :=
  D.rhsIdx_val_of_single rfl i q
/-- The right factor is read along the contracted axis. -/
theorem rhs1 (i : S384x256.Idx) (q : D.contr.Idx) : (D.rhsIdx i q 1).val = (i 1).val := by
  unfold DotDims.rhsIdx
  rw [dif_neg (show ¬(1 : Fin S2048x256.rank) ∈ D.rhsBatch by decide), dif_pos (show (1 : Fin S2048x256.rank) ∈ D.rhsNonContracting by decide)]
  rfl

/-- The strip's product at a token and a column is the sum over the 2048 model columns. -/
theorem pay7_apply (x : Vec Ideal S384x2048 .bf16) (w : Vec Ideal S2048x256 .bf16) (i : S384x256.Idx) :
    k0_pay7 (F := Ideal) x w i
      = ∑ k : Fin 2048, x (ix2 ⟨(i 0).val, idx2_lt0 i⟩ k) * w (ix2 k ⟨(i 1).val, idx2_lt1 i⟩) := by
  unfold k0_pay7
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx i ((contrEquiv1 D 2048 rfl rfl).symm k) = ix2 ⟨(i 0).val, idx2_lt0 i⟩ k := funext fun a => Fin.ext (by
    match a with
    | ⟨0, _⟩ => exact lhs0 _ _
    | ⟨1, _⟩ => exact (lhs1 _ _).trans hk)
  have er : D.rhsIdx i ((contrEquiv1 D 2048 rfl rfl).symm k) = ix2 k ⟨(i 1).val, idx2_lt1 i⟩ := funext fun a => Fin.ext (by
    match a with
    | ⟨0, _⟩ => exact (rhs0 _ _).trans hk
    | ⟨1, _⟩ => exact rhs1 _ _)
  rw [el, er]

/-- A stored strip, at a column and a token: the product there times the factor there. -/
theorem pay8_apply (x : Vec Ideal S384x2048 .bf16) (w : Vec Ideal S2048x256 .bf16) (p : Vec Ideal S384x256 .f32) (i : S256x384.Idx) :
    k0_pay8 (F := Ideal) x w p i
      = (∑ k : Fin 2048, x (ix2 ⟨(i 1).val, idx2_lt1 i⟩ k) * w (ix2 k ⟨(i 0).val, idx2_lt0 i⟩))
        * p (ix2 ⟨(i 1).val, idx2_lt1 i⟩ ⟨(i 0).val, idx2_lt0 i⟩) := by
  have h := transpose_apply [1, 0] (truncf .bf16 (mulf (k0_pay7 (F := Ideal) x w) p) bitsLt_bf16_f32 : FVec Ideal S384x256 .bf16)
    transposes_S384x256_p1_0_S256x384 i (ix2 ⟨(i 1).val, idx2_lt1 i⟩ ⟨(i 0).val, idx2_lt0 i⟩) (fun b => match b with
      | ⟨0, _⟩ => rfl
      | ⟨1, _⟩ => rfl)
  refine (show k0_pay8 (F := Ideal) x w p i = _ from h).trans ?_
  rw [truncf_apply, mulf_apply, pay7_apply]

/-! ## The block -/

/-- The output block of a point, of its four input blocks. -/
def G (x0 : Vec Ideal S2304x2048 .bf16) (x1 : Vec Ideal S2048x256 .bf16) (x2 x3 : Vec Ideal S2304x256 .f32) :
    Vec Ideal S512x2304 .bf16 := fun y =>
  (∑ k : Fin 2048, x0 (ix2 ⟨(y 1).val, idx2_lt1 y⟩ k) * x1 (ix2 k ⟨(y 0).val % 256, Nat.mod_lt _ (by decide)⟩))
    * (if (y 0).val < 256 then x2 else x3) (ix2 ⟨(y 1).val, idx2_lt1 y⟩ ⟨(y 0).val % 256, Nat.mod_lt _ (by decide)⟩)

/-- A strip at token offset `o`, stored from row `0`, is a tile of `G`. -/
theorem tile_p (o : Nat) (x0 : Vec Ideal S2304x2048 .bf16) (x1 : Vec Ideal S2048x256 .bf16) (x2 x3 : Vec Ideal S2304x256 .f32)
    (h0 : ∀ a, (![o, 0] : Fin 2 → Nat) a + S384x2048.size a ≤ S2304x2048.size a)
    (h1 : ∀ a, (![0, 0] : Fin 2 → Nat) a + S2048x256.size a ≤ S2048x256.size a)
    (h2 : ∀ a, (![o, 0] : Fin 2 → Nat) a + S384x256.size a ≤ S2304x256.size a)
    (h3 : ∀ a, (![0, o] : Fin 2 → Nat) a + S256x384.size a ≤ S512x2304.size a) (x : S256x384.Idx) :
    k0_pay8 (F := Ideal) (View.ld x0 (Rect.unit (s := S2304x2048) ![o, 0] S384x2048.size h0)) (View.ld x1 (Rect.unit (s := S2048x256) ![0, 0] S2048x256.size h1))
        (View.ld x2 (Rect.unit (s := S2304x256) ![o, 0] S384x256.size h2)) x
      = G x0 x1 x2 x3 ((Rect.unit (s := S512x2304) ![0, o] S256x384.size h3).emb x) := by
  have hx0 : (x 0).val < 256 := idx2_lt0 x
  have hx1 : (x 1).val < 384 := idx2_lt1 x
  have e0 : (((Rect.unit (s := S512x2304) ![0, o] S256x384.size h3).emb x) 0).val = (x 0).val := by
    show 0 + 1 * (x 0).val = _; omega
  have e1 : (((Rect.unit (s := S512x2304) ![0, o] S256x384.size h3).emb x) 1).val = o + (x 1).val := by
    show o + 1 * (x 1).val = _; omega
  rw [pay8_apply]
  unfold G
  rw [if_pos (by rw [e0]; exact hx0)]
  refine congrArg₂ (· * ·) (Finset.sum_congr rfl fun k _ => congrArg₂ (· * ·) (congrArg x0 ?_) (congrArg x1 ?_)) (congrArg x2 ?_)
  · funext a; apply Fin.ext
    match a with
    | ⟨0, _⟩ => show o + 1 * (x 1).val = (((Rect.unit (s := S512x2304) ![0, o] S256x384.size h3).emb x) 1).val; rw [e1]; omega
    | ⟨1, _⟩ => show 0 + 1 * k.val = k.val; omega
  · funext a; apply Fin.ext
    match a with
    | ⟨0, _⟩ => show 0 + 1 * k.val = k.val; omega
    | ⟨1, _⟩ => show 0 + 1 * (x 0).val = (((Rect.unit (s := S512x2304) ![0, o] S256x384.size h3).emb x) 0).val % 256; rw [e0]; omega
  · funext a; apply Fin.ext
    match a with
    | ⟨0, _⟩ => show o + 1 * (x 1).val = (((Rect.unit (s := S512x2304) ![0, o] S256x384.size h3).emb x) 1).val; rw [e1]; omega
    | ⟨1, _⟩ => show 0 + 1 * (x 0).val = (((Rect.unit (s := S512x2304) ![0, o] S256x384.size h3).emb x) 0).val % 256; rw [e0]; omega

/-- A strip at token offset `o`, stored from row `256`, is a tile of `G`. -/
theorem tile_q (o : Nat) (x0 : Vec Ideal S2304x2048 .bf16) (x1 : Vec Ideal S2048x256 .bf16) (x2 x3 : Vec Ideal S2304x256 .f32)
    (h0 : ∀ a, (![o, 0] : Fin 2 → Nat) a + S384x2048.size a ≤ S2304x2048.size a)
    (h1 : ∀ a, (![0, 0] : Fin 2 → Nat) a + S2048x256.size a ≤ S2048x256.size a)
    (h2 : ∀ a, (![o, 0] : Fin 2 → Nat) a + S384x256.size a ≤ S2304x256.size a)
    (h3 : ∀ a, (![256, o] : Fin 2 → Nat) a + S256x384.size a ≤ S512x2304.size a) (x : S256x384.Idx) :
    k0_pay8 (F := Ideal) (View.ld x0 (Rect.unit (s := S2304x2048) ![o, 0] S384x2048.size h0)) (View.ld x1 (Rect.unit (s := S2048x256) ![0, 0] S2048x256.size h1))
        (View.ld x3 (Rect.unit (s := S2304x256) ![o, 0] S384x256.size h2)) x
      = G x0 x1 x2 x3 ((Rect.unit (s := S512x2304) ![256, o] S256x384.size h3).emb x) := by
  have hx0 : (x 0).val < 256 := idx2_lt0 x
  have hx1 : (x 1).val < 384 := idx2_lt1 x
  have e0 : (((Rect.unit (s := S512x2304) ![256, o] S256x384.size h3).emb x) 0).val = 256 + (x 0).val := by
    show 256 + 1 * (x 0).val = _; omega
  have e1 : (((Rect.unit (s := S512x2304) ![256, o] S256x384.size h3).emb x) 1).val = o + (x 1).val := by
    show o + 1 * (x 1).val = _; omega
  rw [pay8_apply]
  unfold G
  rw [if_neg (by rw [e0]; omega)]
  refine congrArg₂ (· * ·) (Finset.sum_congr rfl fun k _ => congrArg₂ (· * ·) (congrArg x0 ?_) (congrArg x1 ?_)) (congrArg x3 ?_)
  · funext a; apply Fin.ext
    match a with
    | ⟨0, _⟩ => show o + 1 * (x 1).val = (((Rect.unit (s := S512x2304) ![256, o] S256x384.size h3).emb x) 1).val; rw [e1]; omega
    | ⟨1, _⟩ => show 0 + 1 * k.val = k.val; omega
  · funext a; apply Fin.ext
    match a with
    | ⟨0, _⟩ => show 0 + 1 * k.val = k.val; omega
    | ⟨1, _⟩ => show 0 + 1 * (x 0).val = (((Rect.unit (s := S512x2304) ![256, o] S256x384.size h3).emb x) 0).val % 256; rw [e0]; omega
  · funext a; apply Fin.ext
    match a with
    | ⟨0, _⟩ => show o + 1 * (x 1).val = (((Rect.unit (s := S512x2304) ![256, o] S256x384.size h3).emb x) 1).val; rw [e1]; omega
    | ⟨1, _⟩ => show 0 + 1 * (x 0).val = (((Rect.unit (s := S512x2304) ![256, o] S256x384.size h3).emb x) 0).val % 256; rw [e0]; omega

/-- The body's output block is `G` of the input blocks: its twelve stores are tiles of `G` and cover the block. -/
theorem out_eq (x0 : Vec Ideal S2304x2048 .bf16) (x1 : Vec Ideal S2048x256 .bf16) (x2 x3 : Vec Ideal S2304x256 .f32) :
    out0_4 (F := Ideal) x0 x1 x2 x3 = G x0 x1 x2 x3 := by
  funext y
  unfold out0_4
  refine View.canon_apply_of_pieces (G x0 x1 x2 x3) _ ?_ y (cover0_4 _ _ _ _ _ _ _ _ _ _ _ _ y)
  intro p hp x
  simp only [List.mem_cons, List.not_mem_nil, or_false] at hp
  rcases hp with rfl | rfl | rfl | rfl | rfl | rfl | rfl | rfl | rfl | rfl | rfl | rfl
  · exact tile_q 1920 x0 x1 x2 x3 inb_S2304x2048_S384x2048_1920_0 inb_S2048x256_S2048x256_0_0 inb_S2304x256_S384x256_1920_0 inb_S512x2304_S256x384_256_1920 x
  · exact tile_p 1920 x0 x1 x2 x3 inb_S2304x2048_S384x2048_1920_0 inb_S2048x256_S2048x256_0_0 inb_S2304x256_S384x256_1920_0 inb_S512x2304_S256x384_0_1920 x
  · exact tile_q 1536 x0 x1 x2 x3 inb_S2304x2048_S384x2048_1536_0 inb_S2048x256_S2048x256_0_0 inb_S2304x256_S384x256_1536_0 inb_S512x2304_S256x384_256_1536 x
  · exact tile_p 1536 x0 x1 x2 x3 inb_S2304x2048_S384x2048_1536_0 inb_S2048x256_S2048x256_0_0 inb_S2304x256_S384x256_1536_0 inb_S512x2304_S256x384_0_1536 x
  · exact tile_q 1152 x0 x1 x2 x3 inb_S2304x2048_S384x2048_1152_0 inb_S2048x256_S2048x256_0_0 inb_S2304x256_S384x256_1152_0 inb_S512x2304_S256x384_256_1152 x
  · exact tile_p 1152 x0 x1 x2 x3 inb_S2304x2048_S384x2048_1152_0 inb_S2048x256_S2048x256_0_0 inb_S2304x256_S384x256_1152_0 inb_S512x2304_S256x384_0_1152 x
  · exact tile_q 768 x0 x1 x2 x3 inb_S2304x2048_S384x2048_768_0 inb_S2048x256_S2048x256_0_0 inb_S2304x256_S384x256_768_0 inb_S512x2304_S256x384_256_768 x
  · exact tile_p 768 x0 x1 x2 x3 inb_S2304x2048_S384x2048_768_0 inb_S2048x256_S2048x256_0_0 inb_S2304x256_S384x256_768_0 inb_S512x2304_S256x384_0_768 x
  · exact tile_q 384 x0 x1 x2 x3 inb_S2304x2048_S384x2048_384_0 inb_S2048x256_S2048x256_0_0 inb_S2304x256_S384x256_384_0 inb_S512x2304_S256x384_256_384 x
  · exact tile_p 384 x0 x1 x2 x3 inb_S2304x2048_S384x2048_384_0 inb_S2048x256_S2048x256_0_0 inb_S2304x256_S384x256_384_0 inb_S512x2304_S256x384_0_384 x
  · exact tile_q 0 x0 x1 x2 x3 inb_S2304x2048_S384x2048_0_0 inb_S2048x256_S2048x256_0_0 inb_S2304x256_S384x256_0_0 inb_S512x2304_S256x384_256_0 x
  · exact tile_p 0 x0 x1 x2 x3 inb_S2304x2048_S384x2048_0_0 inb_S2048x256_S2048x256_0_0 inb_S2304x256_S384x256_0_0 inb_S512x2304_S256x384_0_0 x

end Cert.DactIdeal.Block

end
-- ==== Proof.DactIdeal.Final.lean ====
/-
  The activation-gradient kernel's result array after the run equals the reference's result, over the extended reals:
  block `t` of the array is the body's block of the point's input blocks, and every index lies in a block.
-/
module

public import proofs.«01_k».proof.Proof.DactIdeal.Block
public import proofs.«01_k».proof.Proof.Gen.DactReferenceIdeal.Read
public import Idealize.ShloMosaic.Lib.Affine

@[expose] public section

noncomputable section

namespace Cert.DactIdeal.Final

open Cert.DactIdeal Cert.DactIdeal.Gen Idealize.ShloMosaic Idealize.ShloMosaic.TcCoe Idealize.SL.Sem
open Idealize.ShloMosaic.ValueIdx
open Idealize.ShloMosaic.Pipeline (Dat)

/-! ## The result as one function of the arguments -/

/-- Row `256 (2 j + s) + r` of the result is feature `256 j + r` of the gate (`s = 0`) or the up (`s = 1`) gradient. -/
def G (dy : Vec Ideal S4608x2048 .bf16) (wd : Vec Ideal S2048x4352 .bf16) (p q : Vec Ideal S4608x4352 .f32) :
    Vec Ideal S8704x4608 .bf16 := fun i =>
  (∑ k : Fin 2048, dy (ix2 ⟨(i 1).val, idx2_lt1 i⟩ k)
      * wd (ix2 k ⟨(i 0).val / 512 * 256 + (i 0).val % 256, by have := idx2_lt0 i; omega⟩))
    * (if (i 0).val % 512 < 256 then p else q)
        (ix2 ⟨(i 1).val, idx2_lt1 i⟩ ⟨(i 0).val / 512 * 256 + (i 0).val % 256, by have := idx2_lt0 i; omega⟩)

/-! ## The windows' blocks -/

/-- The windows' block indices at a point: the token half and the feature block. -/
theorem idx (t : Fin cfg0.N) : win0_0.index t 0 = t.val / 17 ∧ win0_0.index t 1 = 0
    ∧ win0_1.index t 0 = 0 ∧ win0_1.index t 1 = t.val % 17
    ∧ win0_2.index t 0 = t.val / 17 ∧ win0_2.index t 1 = t.val % 17
    ∧ win0_3.index t 0 = t.val / 17 ∧ win0_3.index t 1 = t.val % 17
    ∧ win0_4.index t 0 = t.val % 17 ∧ win0_4.index t 1 = t.val / 17 :=
  (by decide +kernel : ∀ t : Fin grid0.N, win0_0.index t 0 = t.val / 17 ∧ win0_0.index t 1 = 0
    ∧ win0_1.index t 0 = 0 ∧ win0_1.index t 1 = t.val % 17
    ∧ win0_2.index t 0 = t.val / 17 ∧ win0_2.index t 1 = t.val % 17
    ∧ win0_3.index t 0 = t.val / 17 ∧ win0_3.index t 1 = t.val % 17
    ∧ win0_4.index t 0 = t.val % 17 ∧ win0_4.index t 1 = t.val / 17) t

/-- The number of points. -/
theorem lt_N (t : Fin cfg0.N) : t.val < 34 := by have h := t.isLt; have e : cfg0.N = 34 := N_0; omega

variable (m : (ℓ : Loc nD τ sig) → Buf (Elt Ideal) ℓ) (ρ : Dev nD → PrngReg)

/-- What point `t` writes back is block `t` of `G` of the arguments. -/
theorem flushed_eq (c : Dev nD) (t : Fin cfg0.N) (hf : (cfg0.win 4).flush t = true) :
    (dats (F := Ideal) m 0 c).flushed 4 t = ((cfg0.win 4).blk t).view.read (Elt Ideal)
      (G (m ((c : Thread nD τ).loc main_arg0)) (m ((c : Thread nD τ).loc main_arg1))
        (m ((c : Thread nD τ).loc main_arg2)) (m ((c : Thread nD τ).loc main_arg3))) := by
  obtain ⟨i00, i01, i10, i11, i20, i21, i30, i31, i40, i41⟩ := idx t
  have hN := lt_N t
  rw [Value.flushed4, Block.out_eq]
  funext y
  rw [View.read_apply]
  have hy0 : (y 0).val < 512 := (y 0).isLt
  have hy1 : (y 1).val < 2304 := (y 1).isLt
  show Block.G _ _ _ _ y = _
  have e0 : ((((cfg0.win 4).blk t).view.emb y) 0).val = t.val % 17 * 512 + (y 0).val := by
    show win0_4.index t 0 * 512 + 1 * (y 0).val = _; rw [i40]; omega
  have e1 : ((((cfg0.win 4).blk t).view.emb y) 1).val = t.val / 17 * 2304 + (y 1).val := by
    show win0_4.index t 1 * 2304 + 1 * (y 1).val = _; rw [i41]; omega
  generalize ((cfg0.win 4).blk t).view.emb y = z at e0 e1 ⊢
  unfold Block.G G
  refine congrArg₂ (· * ·) (Finset.sum_congr rfl fun k _ => congrArg₂ (· * ·) ?_ ?_) ?_
  · unfold iblk
    rw [View.read_apply]
    show V m c main_arg0 _ = m (c.tc.loc main_arg0) _
    unfold V
    congr 1
    funext a; apply Fin.ext
    match a with
    | ⟨0, _⟩ => show win0_0.index t 0 * 2304 + 1 * (y 1).val = (z 1).val; rw [i00, e1]; omega
    | ⟨1, _⟩ => show win0_0.index t 1 * 2048 + 1 * k.val = k.val; rw [i01]; omega
  · unfold iblk
    rw [View.read_apply]
    show V m c main_arg1 _ = m (c.tc.loc main_arg1) _
    unfold V
    congr 1
    funext a; apply Fin.ext
    match a with
    | ⟨0, _⟩ => show win0_1.index t 0 * 2048 + 1 * k.val = k.val; rw [i10]; omega
    | ⟨1, _⟩ => show win0_1.index t 1 * 256 + 1 * ((y 0).val % 256) = (z 0).val / 512 * 256 + (z 0).val % 256; rw [i11, e0]; omega
  · by_cases hlt : (y 0).val < 256
    · rw [if_pos hlt, if_pos (show (z 0).val % 512 < 256 by rw [e0]; omega)]
      unfold iblk
      rw [View.read_apply]
      show V m c main_arg2 _ = m (c.tc.loc main_arg2) _
      unfold V
      congr 1
      funext a; apply Fin.ext
      match a with
      | ⟨0, _⟩ => show win0_2.index t 0 * 2304 + 1 * (y 1).val = (z 1).val; rw [i20, e1]; omega
      | ⟨1, _⟩ => show win0_2.index t 1 * 256 + 1 * ((y 0).val % 256) = (z 0).val / 512 * 256 + (z 0).val % 256; rw [i21, e0]; omega
    · rw [if_neg hlt, if_neg (show ¬(z 0).val % 512 < 256 by rw [e0]; omega)]
      unfold iblk
      rw [View.read_apply]
      show V m c main_arg3 _ = m (c.tc.loc main_arg3) _
      unfold V
      congr 1
      funext a; apply Fin.ext
      match a with
      | ⟨0, _⟩ => show win0_3.index t 0 * 2304 + 1 * (y 1).val = (z 1).val; rw [i30, e1]; omega
      | ⟨1, _⟩ => show win0_3.index t 1 * 256 + 1 * ((y 0).val % 256) = (z 0).val / 512 * 256 + (z 0).val % 256; rw [i31, e0]; omega

/-- The result array ends holding `G` of the arguments. -/
theorem final (c : Dev nD) : (dats (F := Ideal) m 0 c).arrAt 4 cfg0.N
      = G (m ((c : Thread nD τ).loc main_arg0)) (m ((c : Thread nD τ).loc main_arg1))
        (m ((c : Thread nD τ).loc main_arg2)) (m ((c : Thread nD τ).loc main_arg3)) :=
  (dats (F := Ideal) m 0 c).arrAt_eq_of_cover 4 _ (flushed_eq m c) fun i => by
    have h0 : (i 0 : Nat) < 8704 := (i 0).isLt
    have h1 : (i 1 : Nat) < 4608 := (i 1).isLt
    have hlt : (i 1 : Nat) / 2304 * 17 + (i 0 : Nat) / 512 < cfg0.N := by rw [show cfg0.N = 34 from N_0]; omega
    refine ⟨⟨(i 1 : Nat) / 2304 * 17 + (i 0 : Nat) / 512, hlt⟩, flush0_4 _, ?_⟩
    obtain ⟨-, -, -, -, -, -, -, -, i40, i41⟩ := idx ⟨(i 1 : Nat) / 2304 * 17 + (i 0 : Nat) / 512, hlt⟩
    show i ∈ ((View.whole main_v0).slice (win0_4.rect ⟨(i 1 : Nat) / 2304 * 17 + (i 0 : Nat) / 512, hlt⟩)).set
    rw [View.set_slice_whole, Rect.mem_set_unit]
    intro a
    match a with
    | ⟨0, _⟩ =>
      show win0_4.index _ 0 * 512 ≤ (i 0 : Nat) ∧ (i 0 : Nat) < win0_4.index _ 0 * 512 + 512
      rw [i40]; dsimp only; omega
    | ⟨1, _⟩ =>
      show win0_4.index _ 1 * 2304 ≤ (i 1 : Nat) ∧ (i 1 : Nat) < win0_4.index _ 1 * 2304 + 2304
      rw [i41]; dsimp only; omega

/-! ## The reference's result is the same function -/

open Cert.DactReferenceIdeal.Read in
/-- The reference's last stage at an index: the interleaving of the two transposed products is `G`. -/
theorem ref_eq (dy : Vec Ideal S4608x2048 .bf16) (wd : Vec Ideal S2048x4352 .bf16) (p q : Vec Ideal S4608x4352 .f32) :
    val_main_v12 (F := Ideal) dy wd p q = G dy wd p q := by
  funext i
  have h0 : (i 0).val < 8704 := (i 0).isLt
  have h1 : (i 1).val < 4608 := (i 1).isLt
  rw [val_main_v12_apply]
  unfold G
  by_cases hlt : (i 0).val % 512 < 256
  · have hc : val_main_v11 (F := Ideal) dy wd p q (idx_main_v12 i) = val_main_v9 (F := Ideal) dy wd p
        (ix4 ⟨(i 0).val / 512, by omega⟩ ⟨0, by decide⟩ ⟨(i 0).val % 256, by omega⟩ ⟨(i 1).val, h1⟩) := by
      unfold val_main_v11
      exact concatenate_pair_apply_left _ _ _ _ _ (by rfl) _ (fun b => match b with
        | ⟨0, _⟩ => by show (i 0).val / 512 = ((i 0).val * 4608 + (i 1).val) / 2359296; omega
        | ⟨1, _⟩ => by show 0 = ((i 0).val * 4608 + (i 1).val) / 1179648 % 2; omega
        | ⟨2, _⟩ => by show (i 0).val % 256 = ((i 0).val * 4608 + (i 1).val) / 4608 % 256; omega
        | ⟨3, _⟩ => by show (i 1).val = ((i 0).val * 4608 + (i 1).val) % 4608; omega)
    rw [hc, if_pos hlt, val_main_v9_apply, val_main_v7_apply, val_main_v3_apply, val_main_v2_apply, val_main_v1_apply, val_main_v0_apply]
    refine congrArg₂ (· * ·) (Finset.sum_congr rfl fun k _ => congrArg₂ (· * ·) (congrArg dy ?_) (congrArg wd ?_)) (congrArg p ?_)
    · funext a; apply Fin.ext
      match a with
      | ⟨0, _⟩ => show (((i 0).val / 512 * 256 + (i 0).val % 256) * 4608 + (i 1).val) % 4608 = (i 1).val; omega
      | ⟨1, _⟩ => rfl
    · funext a; apply Fin.ext
      match a with
      | ⟨0, _⟩ => rfl
      | ⟨1, _⟩ => show (((i 0).val / 512 * 256 + (i 0).val % 256) * 4608 + (i 1).val) / 4608 = (i 0).val / 512 * 256 + (i 0).val % 256; omega
    · funext a; apply Fin.ext
      match a with
      | ⟨0, _⟩ => show (((i 0).val / 512 * 256 + (i 0).val % 256) * 4608 + (i 1).val) % 4608 = (i 1).val; omega
      | ⟨1, _⟩ => show (((i 0).val / 512 * 256 + (i 0).val % 256) * 4608 + (i 1).val) / 4608 = (i 0).val / 512 * 256 + (i 0).val % 256; omega
  · have hc : val_main_v11 (F := Ideal) dy wd p q (idx_main_v12 i) = val_main_v10 (F := Ideal) dy wd q
        (ix4 ⟨(i 0).val / 512, by omega⟩ ⟨0, by decide⟩ ⟨(i 0).val % 256, by omega⟩ ⟨(i 1).val, h1⟩) := by
      unfold val_main_v11
      exact concatenate_pair_apply_right _ _ _ _ _ (by rfl) (by rfl) _ (fun b hb => match b with
        | ⟨0, _⟩ => by show (i 0).val / 512 = ((i 0).val * 4608 + (i 1).val) / 2359296; omega
        | ⟨1, _⟩ => absurd rfl hb
        | ⟨2, _⟩ => by show (i 0).val % 256 = ((i 0).val * 4608 + (i 1).val) / 4608 % 256; omega
        | ⟨3, _⟩ => by show (i 1).val = ((i 0).val * 4608 + (i 1).val) % 4608; omega)
        (by show 0 + 1 = ((i 0).val * 4608 + (i 1).val) / 1179648 % 2; omega)
    rw [hc, if_neg hlt, val_main_v10_apply, val_main_v8_apply, val_main_v6_apply, val_main_v5_apply, val_main_v4_apply, val_main_v0_apply]
    refine congrArg₂ (· * ·) (Finset.sum_congr rfl fun k _ => congrArg₂ (· * ·) (congrArg dy ?_) (congrArg wd ?_)) (congrArg q ?_)
    · funext a; apply Fin.ext
      match a with
      | ⟨0, _⟩ => show (((i 0).val / 512 * 256 + (i 0).val % 256) * 4608 + (i 1).val) % 4608 = (i 1).val; omega
      | ⟨1, _⟩ => rfl
    · funext a; apply Fin.ext
      match a with
      | ⟨0, _⟩ => rfl
      | ⟨1, _⟩ => show (((i 0).val / 512 * 256 + (i 0).val % 256) * 4608 + (i 1).val) / 4608 = (i 0).val / 512 * 256 + (i 0).val % 256; omega
    · funext a; apply Fin.ext
      match a with
      | ⟨0, _⟩ => show (((i 0).val / 512 * 256 + (i 0).val % 256) * 4608 + (i 1).val) % 4608 = (i 1).val; omega
      | ⟨1, _⟩ => show (((i 0).val / 512 * 256 + (i 0).val % 256) * 4608 + (i 1).val) / 4608 = (i 0).val / 512 * 256 + (i 0).val % 256; omega

end Cert.DactIdeal.Final

end
-- ==== Proof.Fwd.Runs.lean ====
/- What the runs of the forward kernel's body share: the arrays at launch, the windows' blocks, the conditions of the
   body's conditionals in closed form, the staging memrefs and the scratch memrefs. -/
module

public import proofs.«01_k».proof.Proof.Gen.Fwd.Launch
public import proofs.«01_k».proof.Proof.Gen.Fwd.Skeleton
public import proofs.«01_k».proof.Proof.Gen.Fwd.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Argument 0 at launch. -/
theorem V_main_arg0 (c : Dev nD) : V m c main_arg0 = m ((c : Thread nD τ).loc main_arg0) := rfl
/-- Argument 1 at launch. -/
theorem V_main_arg1 (c : Dev nD) : V m c main_arg1 = m ((c : Thread nD τ).loc main_arg1) := rfl
/-- Argument 2 at launch. -/
theorem V_main_arg2 (c : Dev nD) : V m c main_arg2 = m ((c : Thread nD τ).loc main_arg2) := rfl
/-- Argument 3 at launch. -/
theorem V_main_arg3 (c : Dev nD) : V m c main_arg3 = m ((c : Thread nD τ).loc main_arg3) := rfl
/-- Argument 4 at launch. -/
theorem V_main_arg4 (c : Dev nD) : V m c main_arg4 = m ((c : Thread nD τ).loc main_arg4) := rfl
/-- Argument 5 at launch. -/
theorem V_main_arg5 (c : Dev nD) : V m c main_arg5 = m ((c : Thread nD τ).loc main_arg5) := rfl
/-- Argument 6 at launch. -/
theorem V_main_arg6 (c : Dev nD) : V m c main_arg6 = m ((c : Thread nD τ).loc main_arg6) := rfl
/-- Argument 7 at launch. -/
theorem V_main_arg7 (c : Dev nD) : V m c main_arg7 = m ((c : Thread nD τ).loc main_arg7) := rfl
/-- Argument 8 at launch. -/
theorem V_main_arg8 (c : Dev nD) : V m c main_arg8 = m ((c : Thread nD τ).loc main_arg8) := rfl
/-- Argument 9 at launch. -/
theorem V_main_arg9 (c : Dev nD) : V m c main_arg9 = m ((c : Thread nD τ).loc main_arg9) := rfl
/-- Argument 10 at launch. -/
theorem V_main_arg10 (c : Dev nD) : V m c main_arg10 = m ((c : Thread nD τ).loc main_arg10) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1200000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Fwd`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 72 = 0 :=
  (fun t => by
    have ht : t.val < 72 := Nat.lt_of_lt_of_eq t.isLt N_0
    have e0 : (grid0.coords t 0).val = t.val / 4 % 18 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 72 = 0)

/-- The condition of the body's `scf.if` 1 (`k0_h2`), from the grid coordinates (the skeleton's scalar
    chain substituted). -/
abbrev cond0_1 (i : grid0.Coords) : Prop := k0_cond2 i = 1#1
/-- It holds at the points before point 4 — by arithmetic of the point. -/
theorem hcond0_1 : ∀ t : Fin cfg0.N, cond0_1 (grid0.coords t) ↔ t.val < 4 :=
  (fun t => by
    have ht : t.val < 72 := Nat.lt_of_lt_of_eq t.isLt N_0
    have e0 : (grid0.coords t 0).val = t.val / 4 % 18 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := k0_cond3 i = 1#1
/-- It holds at points 8, 9, 10, 11, 16, 17, 18, 19, 24, 25, 26, 27, 32, 33, 34, 35, 40, 41, 42, 43, 48, 49, 50, 51, 56, 57, 58, 59, 64, 65, 66 and 67 only — decided over the grid. -/
theorem hcond0_2 : ∀ t : Fin cfg0.N, cond0_2 (grid0.coords t) ↔ (t.val % 72 = 8 ∨ t.val % 72 = 9 ∨ t.val % 72 = 10 ∨ t.val % 72 = 11 ∨ t.val % 72 = 16 ∨ t.val % 72 = 17 ∨ t.val % 72 = 18 ∨ t.val % 72 = 19 ∨ t.val % 72 = 24 ∨ t.val % 72 = 25 ∨ t.val % 72 = 26 ∨ t.val % 72 = 27 ∨ t.val % 72 = 32 ∨ t.val % 72 = 33 ∨ t.val % 72 = 34 ∨ t.val % 72 = 35 ∨ t.val % 72 = 40 ∨ t.val % 72 = 41 ∨ t.val % 72 = 42 ∨ t.val % 72 = 43 ∨ t.val % 72 = 48 ∨ t.val % 72 = 49 ∨ t.val % 72 = 50 ∨ t.val % 72 = 51 ∨ t.val % 72 = 56 ∨ t.val % 72 = 57 ∨ t.val % 72 = 58 ∨ t.val % 72 = 59 ∨ t.val % 72 = 64 ∨ t.val % 72 = 65 ∨ t.val % 72 = 66 ∨ t.val % 72 = 67) :=
  (by decide +kernel : ∀ t : Fin grid0.N, cond0_2 (grid0.coords t) ↔ (t.val % 72 = 8 ∨ t.val % 72 = 9 ∨ t.val % 72 = 10 ∨ t.val % 72 = 11 ∨ t.val % 72 = 16 ∨ t.val % 72 = 17 ∨ t.val % 72 = 18 ∨ t.val % 72 = 19 ∨ t.val % 72 = 24 ∨ t.val % 72 = 25 ∨ t.val % 72 = 26 ∨ t.val % 72 = 27 ∨ t.val % 72 = 32 ∨ t.val % 72 = 33 ∨ t.val % 72 = 34 ∨ t.val % 72 = 35 ∨ t.val % 72 = 40 ∨ t.val % 72 = 41 ∨ t.val % 72 = 42 ∨ t.val % 72 = 43 ∨ t.val % 72 = 48 ∨ t.val % 72 = 49 ∨ t.val % 72 = 50 ∨ t.val % 72 = 51 ∨ t.val % 72 = 56 ∨ t.val % 72 = 57 ∨ t.val % 72 = 58 ∨ t.val % 72 = 59 ∨ t.val % 72 = 64 ∨ t.val % 72 = 65 ∨ t.val % 72 = 66 ∨ t.val % 72 = 67))

/-- The condition of the body's `scf.if` 3 (`k0_h4`), from the grid coordinates (the skeleton's scalar
    chain substituted). -/
abbrev cond0_3 (i : grid0.Coords) : Prop := k0_cond4 i = 1#1
/-- It holds at the points ≡ 4, 5, 6 or 7 (mod 8) — decided over the grid. -/
theorem hcond0_3 : ∀ t : Fin cfg0.N, cond0_3 (grid0.coords t) ↔ (t.val % 8 = 4 ∨ t.val % 8 = 5 ∨ t.val % 8 = 6 ∨ t.val % 8 = 7) :=
  (by decide +kernel : ∀ t : Fin grid0.N, cond0_3 (grid0.coords t) ↔ (t.val % 8 = 4 ∨ t.val % 8 = 5 ∨ t.val % 8 = 6 ∨ t.val % 8 = 7))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1152x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x1024 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x34 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1152x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1152x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1152x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1152x256 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x1152 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S64x16 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S64x16 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S2048x34 .f32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S4608x2048 .bf16 := Memref.whole cc0_scratch0
abbrev scM0_1 : Memref sig .tc .vmem S4608x128 .f32 := Memref.whole cc0_scratch1
abbrev scM0_2 : Memref sig .tc .vmem S256x2048 .bf16 := Memref.whole cc0_scratch2
abbrev scM0_3 : Memref sig .tc .vmem S256x2048 .bf16 := Memref.whole cc0_scratch3
abbrev scM0_4 : Memref sig .tc .vmem S256x2048 .bf16 := Memref.whole cc0_scratch4
abbrev scM0_5 : Memref sig .tc .vmem S256x2048 .bf16 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Fwd.Gen

end
-- ==== Proof.Fwd.RunA.lean ====
/- The run of the forward kernel's body in case A of its conditionals. -/
module

public import proofs.«01_k».proof.Proof.Fwd.Runs

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3560000 in
/-- The body's triple IN CASE A (`scf.if` 0 taken, `scf.if` 1 taken, `scf.if` 2 not taken, `scf.if` 3 not taken: points 0): on whole staging memrefs — the inputs' at their contents,
    the FORGOTTEN outputs' (11, 12, 13, 14, 15, 16, 17, 18, 19) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : cond0_0 i) (hc1 : cond0_1 i) (hc2 : ¬cond0_2 i) (hc3 : ¬cond0_3 i)
    (x0 : Vec F S1152x2048 .fp8e4m3) (x1 : Vec F S6x768 .f32) (x2 : Vec F S64x1024 .i8) (x3 : Vec F S64x16 .f32) (x4 : Vec F S64x2048 .bf16) (x5 : Vec F S64x1024 .i8) (x6 : Vec F S64x16 .f32) (x7 : Vec F S64x2048 .bf16) (x8 : Vec F S512x128 .i8) (x9 : Vec F S512x34 .f32) (x10 : Vec F S512x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_fwd_eq_skeleton]; unfold cc0_fwd_skel
    simp only [k0_part426_eq_skeleton, k0_part1_eq_skeleton, k0_part2_eq_skeleton, k0_part3_eq_skeleton, k0_part4_eq_skeleton, k0_part5_eq_skeleton, k0_part6_eq_skeleton, k0_part7_eq_skeleton, k0_part83_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Fwd.Gen

end
-- ==== Proof.Fwd.RunB.lean ====
/- The run of the forward kernel's body in case B of its conditionals. -/
module

public import proofs.«01_k».proof.Proof.Fwd.RunA

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2920000 in
/-- The body's triple IN CASE B (`scf.if` 0 not taken, `scf.if` 1 taken, `scf.if` 2 not taken, `scf.if` 3 not taken: points 1, 2, 3): on whole staging memrefs — the inputs' at their contents,
    the FORGOTTEN outputs' (11, 12, 13, 14, 15, 16, 17, 18, 19) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : cond0_1 i) (hc2 : ¬cond0_2 i) (hc3 : ¬cond0_3 i)
    (x0 : Vec F S1152x2048 .fp8e4m3) (x1 : Vec F S6x768 .f32) (x2 : Vec F S64x1024 .i8) (x3 : Vec F S64x16 .f32) (x4 : Vec F S64x2048 .bf16) (x5 : Vec F S64x1024 .i8) (x6 : Vec F S64x16 .f32) (x7 : Vec F S64x2048 .bf16) (x8 : Vec F S512x128 .i8) (x9 : Vec F S512x34 .f32) (x10 : Vec F S512x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_fwd_eq_skeleton]; unfold cc0_fwd_skel
    simp only [k0_part426_eq_skeleton, k0_part83_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Fwd.Gen

end
-- ==== Proof.Fwd.RunC.lean ====
/- The run of the forward kernel's body in case C of its conditionals. -/
module

public import proofs.«01_k».proof.Proof.Fwd.RunB

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8016000 in
/-- The body's triple IN CASE C (`scf.if` 0 not taken, `scf.if` 1 not taken, `scf.if` 2 not taken, `scf.if` 3 taken: points 4, 5, … 71: 36 of 72): on whole staging memrefs — the inputs' at their contents,
    the FORGOTTEN outputs' (11, 12, 13, 14, 15, 16, 17, 18, 19) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : ¬cond0_2 i) (hc3 : cond0_3 i)
    (x0 : Vec F S1152x2048 .fp8e4m3) (x1 : Vec F S6x768 .f32) (x2 : Vec F S64x1024 .i8) (x3 : Vec F S64x16 .f32) (x4 : Vec F S64x2048 .bf16) (x5 : Vec F S64x1024 .i8) (x6 : Vec F S64x16 .f32) (x7 : Vec F S64x2048 .bf16) (x8 : Vec F S512x128 .i8) (x9 : Vec F S512x34 .f32) (x10 : Vec F S512x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_fwd_eq_skeleton]; unfold cc0_fwd_skel
    simp only [k0_part426_eq_skeleton, k0_part423_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part424_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part425_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Fwd.Gen

end
-- ==== Proof.Fwd.RunD.lean ====
/- The run of the forward kernel's body in case D of its conditionals. -/
module

public import proofs.«01_k».proof.Proof.Fwd.RunC

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8016000 in
/-- The body's triple IN CASE D (`scf.if` 0 not taken, `scf.if` 1 not taken, `scf.if` 2 taken, `scf.if` 3 not taken: points 8, 9, … 67: 32 of 72): on whole staging memrefs — the inputs' at their contents,
    the FORGOTTEN outputs' (11, 12, 13, 14, 15, 16, 17, 18, 19) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : cond0_2 i) (hc3 : ¬cond0_3 i)
    (x0 : Vec F S1152x2048 .fp8e4m3) (x1 : Vec F S6x768 .f32) (x2 : Vec F S64x1024 .i8) (x3 : Vec F S64x16 .f32) (x4 : Vec F S64x2048 .bf16) (x5 : Vec F S64x1024 .i8) (x6 : Vec F S64x16 .f32) (x7 : Vec F S64x2048 .bf16) (x8 : Vec F S512x128 .i8) (x9 : Vec F S512x34 .f32) (x10 : Vec F S512x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_fwd_eq_skeleton]; unfold cc0_fwd_skel
    simp only [k0_part426_eq_skeleton, k0_part252_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part253_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part254_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Fwd.Gen

end
-- ==== Proof.Fwd.Frame.lean ====
/- The frame of the forward kernel: it runs, and leaves its arguments as they were. The outputs' contents are not named. -/
module

public import proofs.«01_k».proof.Proof.Fwd.RunD
public import Idealize.ShloMosaic.Lib.Claim

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (11, 12, 13, 14, 15, 16, 17, 18, 19): nothing reads what the kernel leaves in them, so nothing
    of it is named (Lib/Pipeline/Dat.lean `Dat.toRForget`). -/
def forgets0 : Fin 20 → Bool := fun w => w.val == 11 || w.val == 12 || w.val == 13 || w.val == 14 || w.val == 15 || w.val == 16 || w.val == 17 || w.val == 18 || w.val == 19

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves window 1 with its block. -/
theorem after0_1 (c : Dev nD) (t : Fin cfg0.N) : (dats m 0 c).after 1 t = iblk m c 1 t := by dsimp only [dats]
/-- The body leaves window 2 with its block. -/
theorem after0_2 (c : Dev nD) (t : Fin cfg0.N) : (dats m 0 c).after 2 t = iblk m c 2 t := by dsimp only [dats]
/-- The body leaves window 3 with its block. -/
theorem after0_3 (c : Dev nD) (t : Fin cfg0.N) : (dats m 0 c).after 3 t = iblk m c 3 t := by dsimp only [dats]
/-- The body leaves window 4 with its block. -/
theorem after0_4 (c : Dev nD) (t : Fin cfg0.N) : (dats m 0 c).after 4 t = iblk m c 4 t := by dsimp only [dats]
/-- The body leaves window 5 with its block. -/
theorem after0_5 (c : Dev nD) (t : Fin cfg0.N) : (dats m 0 c).after 5 t = iblk m c 5 t := by dsimp only [dats]
/-- The body leaves window 6 with its block. -/
theorem after0_6 (c : Dev nD) (t : Fin cfg0.N) : (dats m 0 c).after 6 t = iblk m c 6 t := by dsimp only [dats]
/-- The body leaves window 7 with its block. -/
theorem after0_7 (c : Dev nD) (t : Fin cfg0.N) : (dats m 0 c).after 7 t = iblk m c 7 t := by dsimp only [dats]
/-- The body leaves window 8 with its block. -/
theorem after0_8 (c : Dev nD) (t : Fin cfg0.N) : (dats m 0 c).after 8 t = iblk m c 8 t := by dsimp only [dats]
/-- The body leaves window 9 with its block. -/
theorem after0_9 (c : Dev nD) (t : Fin cfg0.N) : (dats m 0 c).after 9 t = iblk m c 9 t := by dsimp only [dats]
/-- The body leaves window 10 with its block. -/
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The body finds window 1 with its block. -/
theorem before0_1 (c : Dev nD) (t : Fin cfg0.N) (d) : (dats m 0 c).before 1 t d = iblk m c 1 t :=
  before0_1_of m (dats m 0 c) (A_eq m c 1) (after0_1 m c) t d
/-- The body finds window 2 with its block. -/
theorem before0_2 (c : Dev nD) (t : Fin cfg0.N) (d) : (dats m 0 c).before 2 t d = iblk m c 2 t :=
  before0_2_of m (dats m 0 c) (A_eq m c 2) (after0_2 m c) t d
/-- The body finds window 3 with its block. -/
theorem before0_3 (c : Dev nD) (t : Fin cfg0.N) (d) : (dats m 0 c).before 3 t d = iblk m c 3 t :=
  before0_3_of m (dats m 0 c) (A_eq m c 3) (after0_3 m c) t d
/-- The body finds window 4 with its block. -/
theorem before0_4 (c : Dev nD) (t : Fin cfg0.N) (d) : (dats m 0 c).before 4 t d = iblk m c 4 t :=
  before0_4_of m (dats m 0 c) (A_eq m c 4) (after0_4 m c) t d
/-- The body finds window 5 with its block. -/
theorem before0_5 (c : Dev nD) (t : Fin cfg0.N) (d) : (dats m 0 c).before 5 t d = iblk m c 5 t :=
  before0_5_of m (dats m 0 c) (A_eq m c 5) (after0_5 m c) t d
/-- The body finds window 6 with its block. -/
theorem before0_6 (c : Dev nD) (t : Fin cfg0.N) (d) : (dats m 0 c).before 6 t d = iblk m c 6 t :=
  before0_6_of m (dats m 0 c) (A_eq m c 6) (after0_6 m c) t d
/-- The body finds window 7 with its block. -/
theorem before0_7 (c : Dev nD) (t : Fin cfg0.N) (d) : (dats m 0 c).before 7 t d = iblk m c 7 t :=
  before0_7_of m (dats m 0 c) (A_eq m c 7) (after0_7 m c) t d
/-- The body finds window 8 with its block. -/
theorem before0_8 (c : Dev nD) (t : Fin cfg0.N) (d) : (dats m 0 c).before 8 t d = iblk m c 8 t :=
  before0_8_of m (dats m 0 c) (A_eq m c 8) (after0_8 m c) t d
/-- The body finds window 9 with its block. -/
theorem before0_9 (c : Dev nD) (t : Fin cfg0.N) (d) : (dats m 0 c).before 9 t d = iblk m c 9 t :=
  before0_9_of m (dats m 0 c) (A_eq m c 9) (after0_9 m c) t d
/-- The body finds window 10 with its block. -/
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 9600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 72 := lt_of_lt_of_eq t.isLt (show cfg0.N = 72 from N_0)
  by_cases h0 : t.val % 72 = 0
  · by_cases h1 : t.val < 4
    · by_cases h2 : (t.val % 72 = 8 ∨ t.val % 72 = 9 ∨ t.val % 72 = 10 ∨ t.val % 72 = 11 ∨ t.val % 72 = 16 ∨ t.val % 72 = 17 ∨ t.val % 72 = 18 ∨ t.val % 72 = 19 ∨ t.val % 72 = 24 ∨ t.val % 72 = 25 ∨ t.val % 72 = 26 ∨ t.val % 72 = 27 ∨ t.val % 72 = 32 ∨ t.val % 72 = 33 ∨ t.val % 72 = 34 ∨ t.val % 72 = 35 ∨ t.val % 72 = 40 ∨ t.val % 72 = 41 ∨ t.val % 72 = 42 ∨ t.val % 72 = 43 ∨ t.val % 72 = 48 ∨ t.val % 72 = 49 ∨ t.val % 72 = 50 ∨ t.val % 72 = 51 ∨ t.val % 72 = 56 ∨ t.val % 72 = 57 ∨ t.val % 72 = 58 ∨ t.val % 72 = 59 ∨ t.val % 72 = 64 ∨ t.val % 72 = 65 ∨ t.val % 72 = 66 ∨ t.val % 72 = 67)
      · exfalso; omega
      · by_cases h3 : (t.val % 8 = 4 ∨ t.val % 8 = 5 ∨ t.val % 8 = 6 ∨ t.val % 8 = 7)
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          isplitl [HS0]; · iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, H5, H6, H7, H8, H9, H10, H11, H12, H13, H14, H15, H16, H17, H18, H19, HS0, HS1, HS2, HS3, HS4, HS5⟩
          isplitl [HS0 HS1 HS2 HS3 HS4 HS5 Hg]
          · isplitl [HS0 HS1 HS2 HS3 HS4 HS5]
            · isplitl [HS0]
              · iexact HS0
              isplitl [HS1]
              · iexact HS1
              isplitl [HS2]
              · iexact HS2
              isplitl [HS3]
              · iexact HS3
              isplitl [HS4]
              · iexact HS4
              iexact HS5
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          iexact H19
    · exfalso; omega
  · by_cases h1 : t.val < 4
    · by_cases h2 : (t.val % 72 = 8 ∨ t.val % 72 = 9 ∨ t.val % 72 = 10 ∨ t.val % 72 = 11 ∨ t.val % 72 = 16 ∨ t.val % 72 = 17 ∨ t.val % 72 = 18 ∨ t.val % 72 = 19 ∨ t.val % 72 = 24 ∨ t.val % 72 = 25 ∨ t.val % 72 = 26 ∨ t.val % 72 = 27 ∨ t.val % 72 = 32 ∨ t.val % 72 = 33 ∨ t.val % 72 = 34 ∨ t.val % 72 = 35 ∨ t.val % 72 = 40 ∨ t.val % 72 = 41 ∨ t.val % 72 = 42 ∨ t.val % 72 = 43 ∨ t.val % 72 = 48 ∨ t.val % 72 = 49 ∨ t.val % 72 = 50 ∨ t.val % 72 = 51 ∨ t.val % 72 = 56 ∨ t.val % 72 = 57 ∨ t.val % 72 = 58 ∨ t.val % 72 = 59 ∨ t.val % 72 = 64 ∨ t.val % 72 = 65 ∨ t.val % 72 = 66 ∨ t.val % 72 = 67)
      · exfalso; omega
      · by_cases h3 : (t.val % 8 = 4 ∨ t.val % 8 = 5 ∨ t.val % 8 = 6 ∨ t.val % 8 = 7)
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
          iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          isplitl [HS0]; · iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, H5, H6, H7, H8, H9, H10, H11, H12, H13, H14, H15, H16, H17, H18, H19, HS0, HS1, HS2, HS3, HS4, HS5⟩
          isplitl [HS0 HS1 HS2 HS3 HS4 HS5 Hg]
          · isplitl [HS0 HS1 HS2 HS3 HS4 HS5]
            · isplitl [HS0]
              · iexact HS0
              isplitl [HS1]
              · iexact HS1
              isplitl [HS2]
              · iexact HS2
              isplitl [HS3]
              · iexact HS3
              isplitl [HS4]
              · iexact HS4
              iexact HS5
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          iexact H19
    · by_cases h2 : (t.val % 72 = 8 ∨ t.val % 72 = 9 ∨ t.val % 72 = 10 ∨ t.val % 72 = 11 ∨ t.val % 72 = 16 ∨ t.val % 72 = 17 ∨ t.val % 72 = 18 ∨ t.val % 72 = 19 ∨ t.val % 72 = 24 ∨ t.val % 72 = 25 ∨ t.val % 72 = 26 ∨ t.val % 72 = 27 ∨ t.val % 72 = 32 ∨ t.val % 72 = 33 ∨ t.val % 72 = 34 ∨ t.val % 72 = 35 ∨ t.val % 72 = 40 ∨ t.val % 72 = 41 ∨ t.val % 72 = 42 ∨ t.val % 72 = 43 ∨ t.val % 72 = 48 ∨ t.val % 72 = 49 ∨ t.val % 72 = 50 ∨ t.val % 72 = 51 ∨ t.val % 72 = 56 ∨ t.val % 72 = 57 ∨ t.val % 72 = 58 ∨ t.val % 72 = 59 ∨ t.val % 72 = 64 ∨ t.val % 72 = 65 ∨ t.val % 72 = 66 ∨ t.val % 72 = 67)
      · by_cases h3 : (t.val % 8 = 4 ∨ t.val % 8 = 5 ∨ t.val % 8 = 6 ∨ t.val % 8 = 7)
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
          iapply ((kernelRun0_D c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          isplitl [HS0]; · iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, H5, H6, H7, H8, H9, H10, H11, H12, H13, H14, H15, H16, H17, H18, H19, HS0, HS1, HS2, HS3, HS4, HS5⟩
          isplitl [HS0 HS1 HS2 HS3 HS4 HS5 Hg]
          · isplitl [HS0 HS1 HS2 HS3 HS4 HS5]
            · isplitl [HS0]
              · iexact HS0
              isplitl [HS1]
              · iexact HS1
              isplitl [HS2]
              · iexact HS2
              isplitl [HS3]
              · iexact HS3
              isplitl [HS4]
              · iexact HS4
              iexact HS5
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          iexact H19
      · by_cases h3 : (t.val % 8 = 4 ∨ t.val % 8 = 5 ∨ t.val % 8 = 6 ∨ t.val % 8 = 7)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
          iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          isplitl [HS0]; · iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, H5, H6, H7, H8, H9, H10, H11, H12, H13, H14, H15, H16, H17, H18, H19, HS0, HS1, HS2, HS3, HS4, HS5⟩
          isplitl [HS0 HS1 HS2 HS3 HS4 HS5 Hg]
          · isplitl [HS0 HS1 HS2 HS3 HS4 HS5]
            · isplitl [HS0]
              · iexact HS0
              isplitl [HS1]
              · iexact HS1
              isplitl [HS2]
              · iexact HS2
              isplitl [HS3]
              · iexact HS3
              isplitl [HS4]
              · iexact HS4
              iexact HS5
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          iexact H19
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 11, 12, 13, 14, 15, 16, 17, 18, 19) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (fun c => (dats m 0 c).toRForget forgets0) (A_eq m) (run_main m ρ)

/-- THE FRAME: `Cert.quiescent_Fwd`'s statement (Defs.lean) at any `F` — Proof.lean cites it at `Bits`:
    `theorem Cert.Proof.claim : Cert.Claim := ⟨Cert.Fwd.Gen.facts, fun m ρ _ => Cert.Fwd.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Fwd.Gen

end
-- ==== Proof.FwdIdeal.Tile.lean ====
/-
  The operations of one tile of the forward kernel's body, each as one function of the values it reads: the signed
  nibbles of packed codes, the softened weight, the regulariser of a row of a group and its place in the row of groups.
  Every store's payload is one of these. Over the extended reals each is read at an index.
-/
module

public import proofs.«01_k».proof.Proof.Gen.FwdIdeal
public import Idealize.ShloMosaic.Lib.Pipeline.Value
public import Idealize.ShloMosaic.Lib.ValueIdx
public import Idealize.ShloMosaic.Lib.KernelVsHost
public import Idealize.ShloMosaic.Lib.BitcastPair
public import Idealize.ShloMosaic.Lib.BitcastFour
public import Idealize.ShloMosaic.Lib.ValueLayoutCasts
public import Idealize.ShloMosaic.PureOps.Ideal.Laws

@[expose] public section

noncomputable section

namespace Cert.FwdIdeal.Tile

open Cert.FwdIdeal Cert.FwdIdeal.Facts₀ Idealize.ShloMosaic Idealize.ShloMosaic.TcCoe Idealize.SL.Sem
open Idealize.ShloMosaic.ValueIdx

section Ops

variable {F : FTy → Type} [FloatOps F] [Named F]

/-! ## The operations -/

/-- The words of four rows of codes, and the words half a register of lanes away. -/
def words (c : Vec F S32x128 .i8) : IVec S8x128 32 := bitcast S8x128 32 c bitcasts_S32x128_w8_S8x128_w32
def turned (c : Vec F S32x128 .i8) : IVec S8x128 32 := dynamicRotate 1 64#32 none (words (F := F) c) rotates_S8x128_d1
def leftHalf : IVec S8x128 1 := cmpi .slt (iota .tc S8x128 32 [1] iota_S8x128_d1_w32) (broadcast S8x128 64#32)

/-- Sixteen times the signed nibbles of the first 64 bytes of a row: the low ones, then the high ones. -/
def nibA (c : Vec F S32x128 .i8) : FVec F S32x128 .f32 :=
  sitofp .f32 (bitcast S32x128 8 (andi (select leftHalf (shli (words (F := F) c) (broadcast S8x128 4#32)) (turned (F := F) c)) (broadcast S8x128 4042322160#32)) bitcasts_S8x128_w32_S32x128_w8)

/-- The same of the last 64 bytes of a row. -/
def nibB (c : Vec F S32x128 .i8) : FVec F S32x128 .f32 :=
  sitofp .f32 (bitcast S32x128 8 (andi (select leftHalf (shli (turned (F := F) c) (broadcast S8x128 4#32)) (words (F := F) c)) (broadcast S8x128 4042322160#32)) bitcasts_S8x128_w32_S32x128_w8)

/-- Sixteen times the rounding offset. -/
def h16 (v : Vec F S32x128 .bf16) : FVec F S32x128 .f32 :=
  minimumf (broadcast S32x128 (Scalar.ofBits .f32 0x41800000#32)) (maximumf (broadcast S32x128 (Scalar.ofBits .f32 0x00000000#32))
    (addf (broadcast S32x128 (Scalar.ofBits .f32 0x41000000#32)) (mulf (broadcast S32x128 (Named.named κ "slope" 0x4119999A#32))
      (tanh (mulf (broadcast S32x128 (Scalar.ofBits .f32 0x3F000000#32)) (extf .f32 v bitsLt_bf16_f32))))))

/-- The softened weight of a tile. -/
def softW (n : FVec F S32x128 .f32) (s : FVec F S32x1 .f32) (v : Vec F S32x128 .bf16) : FVec F S32x128 .bf16 :=
  truncf .bf16 (mulf (broadcastTo S32x128 (mulf s (broadcast S32x1 (Scalar.ofBits .f32 0x3D800000#32))) broadcasts_S32x1_S32x128)
    (minimumf (addf n (h16 v)) (broadcast S32x128 (Scalar.ofBits .f32 0x42E00000#32)))) bitsLt_bf16_f32

/-- The regulariser's root: the offset rescaled to between -1 and 1. -/
def tt (v : Vec F S32x128 .bf16) : FVec F S32x128 .f32 :=
  subf (mulf (broadcast S32x128 (Scalar.ofBits .f32 0x3E000000#32)) (h16 v)) (broadcast S32x128 (Scalar.ofBits .f32 0x3F800000#32))

/-- The regulariser of each row of a tile, as a column. -/
def softR (v : Vec F S32x128 .bf16) : FVec F S32x1 .f32 :=
  shapeCast S32x1 (multiReduction .add [1] S32 (mulf (mulf (tt v) (tt v)) (mulf (tt v) (tt v))) 0x00000000#32 reduces_S32x128_S32 (.inl rfl) rfl)
    shapeCasts_S32_S32x1

/-- A column put at place `k` of 16. -/
def ins16 (k : BitVec 32) (col : FVec F S32x1 .f32) (dst : FVec F S32x16 .f32) : FVec F S32x16 .f32 :=
  select (cmpi .eq (iota .tc S32x16 32 [1] iota_S32x16_d1_w32) (broadcast S32x16 k))
    (broadcastTo S32x16 (shapeCast S32x1 col shapeCasts_S32x1_S32x1) broadcasts_S32x1_S32x16) dst

/-- A column put at place `k` of 34. -/
def ins34 (k : BitVec 32) (col : FVec F S32x1 .f32) (dst : FVec F S32x34 .f32) : FVec F S32x34 .f32 :=
  select (cmpi .eq (iota .tc S32x34 32 [1] iota_S32x34_d1_w32) (broadcast S32x34 k))
    (broadcastTo S32x34 (shapeCast S32x1 col shapeCasts_S32x1_S32x1) broadcasts_S32x1_S32x34) dst

/-- Column `k` of a tile of 34 columns, by a masked sum. -/
def col34 (k : BitVec 32) (s : FVec F S32x34 .f32) : FVec F S32x1 .f32 :=
  shapeCast S32x1 (multiReduction .add [1] S32 (select (cmpi .eq (iota .tc S32x34 32 [1] iota_S32x34_d1_w32) (broadcast S32x34 k)) s
    (broadcast S32x34 (Scalar.ofBits .f32 0x00000000#32))) 0x00000000#32 reduces_S32x34_S32 (.inl rfl) rfl) shapeCasts_S32_S32x1

/-- The products of a strip of tokens with a block of rows. -/
def prod (x : FVec F S384x2048 .bf16) (w : FVec F S256x2048 .bf16) : FVec F S384x256 .f32 :=
  matmul dot_S384x2048_S256x2048_S384x256_1_1_0_0_n_n none x w (constant S384x256 .f32 0x00000000#32)

variable (sx g u : FVec F S32x128 .f32)

/-- The four values stored of a tile of the gate's products `g`, the up projection's `u` and the tokens' scales `sx`. -/
def gs : FVec F S32x128 .f32 := mulf (mulf sx g) (logistic (mulf sx g))
def tA : FVec F S32x128 .f32 := mulf (gs sx g) (mulf sx u)
def tAb : FVec F S32x128 .bf16 := truncf .bf16 (tA sx g u) bitsLt_bf16_f32
def tQ : FVec F S32x128 .f32 := mulf (gs sx g) sx
def tP : FVec F S32x128 .f32 :=
  mulf (mulf (mulf sx u) sx) (mulf (logistic (mulf sx g)) (addf (broadcast S32x128 (Scalar.ofBits .f32 0x3F800000#32))
    (mulf (mulf sx g) (subf (broadcast S32x128 (Scalar.ofBits .f32 0x3F800000#32)) (logistic (mulf sx g))))))

end Ops

/-! ## Read at an index, over the extended reals -/

/-- The byte whose signed value is sixteen times a signed nibble of `b`. -/
def nibByte (b : BitVec 8) (high : Prop) [Decidable high] : BitVec 8 := if high then b &&& 0xF0#8 else b <<< 4

/-- Sixteen times a signed nibble. -/
def nib (b : BitVec 8) (high : Prop) [Decidable high] : EReal := (((nibByte b high).toInt : ℝ) : EReal)

/-- The mask of the left half: one at the lanes below 64. -/
theorem leftHalf_apply (i : S8x128.Idx) : leftHalf i = if (i 1).val < 64 then 1#1 else 0#1 := by
  have h : ∀ l : Fin 128, IntOp.cmpi .slt (BitVec.ofNat 32 l.val) 64#32 = if l.val < 64 then 1#1 else 0#1 := by decide +kernel
  have e : leftHalf i = IntOp.cmpi .slt (iota .tc S8x128 32 [1] iota_S8x128_d1_w32 i) 64#32 := rfl
  rw [e, iota_single_apply]
  exact h ⟨(i 1).val, idx2_lt1 i⟩

/-- A byte of a word made of the bytes of four rows. -/
theorem words_bit (c : Vec Ideal S32x128 .i8) (r : Nat) (hr : r < 32) (l : Fin 128) (q : Nat) (hq : q < 8) :
    (words (F := Ideal) c (ix2 ⟨r / 4, by omega⟩ l)).getLsbD (r % 4 * 8 + q) = (c (ix2 ⟨r, hr⟩ l)).getLsbD q := by
  unfold words
  rw [bitcast_8_32_getLsbD_ix2 (R := 32) (r := 8) (n := 128) c _ ⟨r / 4, by omega⟩ l _ (by omega) ⟨r, hr⟩ (by show r = 4 * (r / 4) + (r % 4 * 8 + q) / 8; omega)]
  congr 1
  omega

/-- Words read as bytes: byte `r % 4` of word row `r / 4`. -/
theorem bytes_bit (w : IVec S8x128 32) (r : Nat) (hr : r < 32) (l : Fin 128) (q : Nat) (hq : q < 8) :
    (bitcast S32x128 8 w bitcasts_S8x128_w32_S32x128_w8 (ix2 ⟨r, hr⟩ l)).getLsbD q = (w (ix2 ⟨r / 4, by omega⟩ l)).getLsbD (r % 4 * 8 + q) := by
  rw [bitcast_getLsbD w bitcasts_S8x128_w32_S32x128_w8 (ix2 ⟨r, hr⟩ l) q hq (by decide)]
  have hrow : S32x128.row (ix2 ⟨r, hr⟩ l) = r := rfl
  congr 1
  · congr 1
    funext c
    match c with
    | ⟨0, _⟩ => exact Fin.ext ((bitcasts_S8x128_w32_S32x128_w8.srcIdx_row _ _ _ ⟨0, Nat.zero_lt_two⟩ rfl).trans (by rw [hrow]; show (r * 8 + q) / 32 = r / 4; omega))
    | ⟨1, _⟩ => exact Fin.ext (bitcasts_S8x128_w32_S32x128_w8.srcIdx_other _ _ _ ⟨1, Nat.one_lt_two⟩ (by show ¬ 1 + 2 = 2; omega))
  · rw [hrow]; omega

/-- The mask of the kernel keeps the high four bits of every byte of a word. -/
theorem mask_bit (r q : Nat) (hq : q < 8) : (4042322160#32).getLsbD (r % 4 * 8 + q) = decide (4 ≤ q) := by
  have h : ∀ a : Fin 4, ∀ q : Fin 8, (4042322160#32).getLsbD (a.val * 8 + q.val) = decide (4 ≤ q.val) := by decide +kernel
  exact h ⟨r % 4, by omega⟩ ⟨q, hq⟩

/-- The bits of a nibble's byte. -/
theorem nibByte_bit (b : BitVec 8) (high : Prop) [Decidable high] (q : Nat) (hq : q < 8) :
    (nibByte b high).getLsbD q = (decide (4 ≤ q) && (if high then b.getLsbD q else b.getLsbD (q - 4))) := by
  unfold nibByte
  by_cases h : high
  · rw [if_pos h, if_pos h, BitVec.getLsbD_and, Bool.and_comm]
    have e : ∀ q : Fin 8, (0xF0#8).getLsbD q.val = decide (4 ≤ q.val) := by decide +kernel
    rw [e ⟨q, hq⟩]
  · rw [if_neg h, if_neg h, BitVec.getLsbD_shiftLeft]
    by_cases h4 : q < 4
    · rw [decide_eq_true h4, decide_eq_false (by omega : ¬ 4 ≤ q)]; simp
    · rw [decide_eq_false h4, decide_eq_true (by omega : 4 ≤ q), decide_eq_true hq]; simp

/-- A word shifted up by four, masked: the low nibbles of its bytes. -/
theorem low_bit (w : BitVec 32) (r q : Nat) (hq : q < 8) :
    (IntOp.andi (IntOp.shli .vector w 4#32) 4042322160#32).getLsbD (r % 4 * 8 + q)
      = (decide (4 ≤ q) && w.getLsbD (r % 4 * 8 + (q - 4))) := by
  have e : IntOp.shli .vector w 4#32 = w <<< 4 := rfl
  show (IntOp.shli .vector w 4#32 &&& 4042322160#32).getLsbD _ = _
  rw [e, BitVec.getLsbD_and, mask_bit r q hq, BitVec.getLsbD_shiftLeft, Bool.and_comm]
  by_cases h4 : q < 4
  · rw [decide_eq_false (by omega : ¬ 4 ≤ q)]; simp
  · rw [decide_eq_true (by omega : 4 ≤ q), decide_eq_true (by omega : r % 4 * 8 + q < 32), decide_eq_false (by omega : ¬ r % 4 * 8 + q < 4),
      show r % 4 * 8 + q - 4 = r % 4 * 8 + (q - 4) by omega]
    simp

/-- A word masked: the high nibbles of its bytes. -/
theorem high_bit (w : BitVec 32) (r q : Nat) (hq : q < 8) :
    (IntOp.andi w 4042322160#32).getLsbD (r % 4 * 8 + q) = (decide (4 ≤ q) && w.getLsbD (r % 4 * 8 + q)) := by
  show (w &&& 4042322160#32).getLsbD _ = _
  rw [BitVec.getLsbD_and, mask_bit r q hq, Bool.and_comm]

/-- The rotated words: every lane is read 64 lanes on. -/
theorem turned_apply (c : Vec Ideal S32x128 .i8) (a : Fin 8) (l : Fin 128) :
    turned (F := Ideal) c (ix2 a l) = words (F := Ideal) c (ix2 a ⟨(l.val + 64) % 128, Nat.mod_lt _ (by decide)⟩) := by
  unfold turned
  exact dynamicRotate_apply _ _ _ _ _ _ (fun b => match b with
    | ⟨0, _⟩ => rfl
    | ⟨1, _⟩ => by show (l.val + 64) % 128 = (l.val + 128 - 64 % 128) % 128; congr 1)

/-- The first tile of a pair of groups at a row and a lane: a nibble of the byte at the lane modulo 64. -/
theorem nibA_apply (c : Vec Ideal S32x128 .i8) (i : S32x128.Idx) :
    nibA (F := Ideal) c i = nib (c (ix2 (i 0) ⟨(i 1).val % 64, by omega⟩)) (64 ≤ (i 1).val) := by
  have hr : (i 0).val < 32 := idx2_lt0 i
  have hl : (i 1).val < 128 := idx2_lt1 i
  obtain ⟨a, b, rfl⟩ : ∃ a b, i = ix2 (n0 := 32) (n1 := 128) a b := ⟨i 0, i 1, eq_ix2 i⟩
  replace hl : b.val < 128 := hl
  replace hr : a.val < 32 := hr
  unfold nibA nib
  rw [sitofp_apply]
  show ((((bitcast S32x128 8 _ bitcasts_S8x128_w32_S32x128_w8 (ix2 a b) : BitVec 8).toInt : ℝ)) : EReal) = _
  congr 3
  apply BitVec.eq_of_getLsbD_eq
  intro q hq
  refine (bytes_bit _ a.val hr b q hq).trans ?_
  rw [nibByte_bit _ _ q hq]
  show (IntOp.andi (Scalar.select (leftHalf _) (IntOp.shli .vector (words (F := Ideal) c _) 4#32) (turned (F := Ideal) c _)) 4042322160#32).getLsbD _ = _
  rw [leftHalf_apply]
  show (IntOp.andi (Scalar.select (if b.val < 64 then 1#1 else 0#1) _ _) _).getLsbD _ = _
  by_cases h : b.val < 64
  · rw [if_pos h, select_one, low_bit _ _ _ hq, if_neg (by show ¬ 64 ≤ b.val; omega)]
    by_cases h4 : 4 ≤ q
    · rw [words_bit c a.val hr b (q - 4) (by omega)]
      congr 3; congr 1; congr 1; apply Fin.ext; show b.val = b.val % 64; omega
    · rw [decide_eq_false h4]; rfl
  · rw [if_neg h, select_zero, high_bit _ _ _ hq, if_pos (by show 64 ≤ b.val; omega), turned_apply]
    rw [words_bit c a.val hr _ q hq]
    congr 3; congr 1; congr 1; show (b.val + 64) % 128 = b.val % 64; omega

/-- The second tile of a pair of groups. -/
theorem nibB_apply (c : Vec Ideal S32x128 .i8) (i : S32x128.Idx) :
    nibB (F := Ideal) c i = nib (c (ix2 (i 0) ⟨64 + (i 1).val % 64, by omega⟩)) (64 ≤ (i 1).val) := by
  have hr : (i 0).val < 32 := idx2_lt0 i
  have hl : (i 1).val < 128 := idx2_lt1 i
  obtain ⟨a, b, rfl⟩ : ∃ a b, i = ix2 (n0 := 32) (n1 := 128) a b := ⟨i 0, i 1, eq_ix2 i⟩
  replace hl : b.val < 128 := hl
  replace hr : a.val < 32 := hr
  unfold nibB nib
  rw [sitofp_apply]
  show ((((bitcast S32x128 8 _ bitcasts_S8x128_w32_S32x128_w8 (ix2 a b) : BitVec 8).toInt : ℝ)) : EReal) = _
  congr 3
  apply BitVec.eq_of_getLsbD_eq
  intro q hq
  refine (bytes_bit _ a.val hr b q hq).trans ?_
  rw [nibByte_bit _ _ q hq]
  show (IntOp.andi (Scalar.select (leftHalf _) (IntOp.shli .vector (turned (F := Ideal) c _) 4#32) (words (F := Ideal) c _)) 4042322160#32).getLsbD _ = _
  rw [leftHalf_apply]
  show (IntOp.andi (Scalar.select (if b.val < 64 then 1#1 else 0#1) _ _) _).getLsbD _ = _
  by_cases h : b.val < 64
  · rw [if_pos h, select_one, low_bit _ _ _ hq, if_neg (by show ¬ 64 ≤ b.val; omega), turned_apply]
    by_cases h4 : 4 ≤ q
    · rw [words_bit c a.val hr _ (q - 4) (by omega)]
      congr 3; congr 1; congr 1; show (b.val + 64) % 128 = 64 + b.val % 64; omega
    · rw [decide_eq_false h4]; rfl
  · rw [if_neg h, select_zero, high_bit _ _ _ hq, if_pos (by show 64 ≤ b.val; omega)]
    rw [words_bit c a.val hr _ q hq]
    congr 3; congr 1; congr 1; apply Fin.ext; show b.val = 64 + b.val % 64; omega

/-- Sixteen times the rounding offset of a variable. -/
def hV (v : EReal) : EReal :=
  min (Ideal.ofBits .f32 0x41800000#32) (max (Ideal.ofBits .f32 0x00000000#32)
    (Ideal.ofBits .f32 0x41000000#32 + (48 / 5 : ℝ) * Ideal.tanh (Ideal.ofBits .f32 0x3F000000#32 * v)))

/-- The softened weight of sixteen times a nibble, a scale and a variable. -/
def wV (n s v : EReal) : EReal :=
  s * Ideal.ofBits .f32 0x3D800000#32 * min (n + hV v) (Ideal.ofBits .f32 0x42E00000#32)

/-- A variable's regulariser. -/
def rV (v : EReal) : EReal :=
  let t := Ideal.ofBits .f32 0x3E000000#32 * hV v - Ideal.ofBits .f32 0x3F800000#32
  t * t * (t * t)

/-- The scaled offset of a tile, at an index. -/
theorem h16_apply (v : Vec Ideal S32x128 .bf16) (i : S32x128.Idx) : h16 (F := Ideal) v i = hV (v i) := rfl

/-- The softened weight of a tile, at an index. -/
theorem softW_apply (n : FVec Ideal S32x128 .f32) (s : FVec Ideal S32x1 .f32) (v : Vec Ideal S32x128 .bf16) (i : S32x128.Idx) :
    softW (F := Ideal) n s v i = wV (n i) (s (ix2 (i 0) 0)) (v i) := by
  unfold softW wV
  rw [truncf_apply, mulf_apply, minimumf_apply, addf_apply, h16_apply]
  rw [broadcastTo_apply _ broadcasts_S32x1_S32x128 i (ix2 (i 0) 0) (fun a => match a with
    | ⟨0, _⟩ => rfl
    | ⟨1, _⟩ => rfl)]
  rfl

/-- The regulariser of a tile: the sum over the lanes of its row. -/
theorem softR_apply (v : Vec Ideal S32x128 .bf16) (i : S32x1.Idx) :
    softR (F := Ideal) v i = ∑ l : Fin 128, rV (v (ix2 (i 0) l)) := by
  unfold softR
  rw [shapeCast_apply _ shapeCasts_S32_S32x1 i (ix1 (i 0)) (by
    have h1 := idx2_lt1 i
    rw [Shape.rowMajor_val_one, Shape.rowMajor_val_two]; show (i 0).val = (i 0).val * 1 + (i 1).val; omega)]
  refine (Ideal.multiReduction_add_single _ _ reduces_S32x128_S32 _ _ _).trans ?_
  refine Finset.sum_congr rfl fun l _ => ?_
  have e : reduces_S32x128_S32.lift (ix1 (i 0)) l = ix2 (i 0) l := funext fun a => Fin.ext (by
    match a with
    | ⟨0, _⟩ => rfl
    | ⟨1, _⟩ => rfl)
  rw [e]
  rfl

/-- A column put in at place `k` of sixteen: that column there, the old entries elsewhere. -/
theorem ins16_apply (k : Nat) (hk : k < 16) (col : FVec Ideal S32x1 .f32) (dst : FVec Ideal S32x16 .f32) (i : S32x16.Idx) :
    ins16 (F := Ideal) (BitVec.ofNat 32 k) col dst i = if (i 1).val = k then col (ix2 (i 0) 0) else dst i := by
  have h1 : (i 1).val < 16 := idx2_lt1 i
  unfold ins16
  rw [select_apply, broadcastTo_apply _ broadcasts_S32x1_S32x16 i (ix2 (i 0) 0) (fun a => match a with
    | ⟨0, _⟩ => rfl
    | ⟨1, _⟩ => rfl), shapeCast_self]
  have hc : cmpi .eq (iota .tc S32x16 32 [1] iota_S32x16_d1_w32) (broadcast S32x16 (BitVec.ofNat 32 k)) i
      = if (i 1).val = k then 1#1 else 0#1 := by
    have h : ∀ l k : Fin 16, IntOp.cmpi .eq (BitVec.ofNat 32 l.val) (BitVec.ofNat 32 k.val) = if l.val = k.val then 1#1 else 0#1 := by decide +kernel
    show IntOp.cmpi .eq (iota .tc S32x16 32 [1] iota_S32x16_d1_w32 i) (BitVec.ofNat 32 k) = _
    rw [iota_single_apply]
    exact h ⟨(i 1).val, h1⟩ ⟨k, hk⟩
  rw [hc]
  by_cases h : (i 1).val = k
  · rw [if_pos h, if_pos h, select_one]
  · rw [if_neg h, if_neg h, select_zero]

/-- The mask of column `k` of thirty-four. -/
theorem mask34 (k : Nat) (hk : k < 34) (i : S32x34.Idx) :
    cmpi .eq (iota .tc S32x34 32 [1] iota_S32x34_d1_w32) (broadcast S32x34 (BitVec.ofNat 32 k)) i
      = if (i 1).val = k then 1#1 else 0#1 := by
  have h1 : (i 1).val < 34 := idx2_lt1 i
  have h : ∀ l k : Fin 34, IntOp.cmpi .eq (BitVec.ofNat 32 l.val) (BitVec.ofNat 32 k.val) = if l.val = k.val then 1#1 else 0#1 := by decide +kernel
  show IntOp.cmpi .eq (iota .tc S32x34 32 [1] iota_S32x34_d1_w32 i) (BitVec.ofNat 32 k) = _
  rw [iota_single_apply]
  exact h ⟨(i 1).val, h1⟩ ⟨k, hk⟩

/-- A column put in at place `k` of thirty-four: that column there, the old entries elsewhere. -/
theorem ins34_apply (k : Nat) (hk : k < 34) (col : FVec Ideal S32x1 .f32) (dst : FVec Ideal S32x34 .f32) (i : S32x34.Idx) :
    ins34 (F := Ideal) (BitVec.ofNat 32 k) col dst i = if (i 1).val = k then col (ix2 (i 0) 0) else dst i := by
  unfold ins34
  rw [select_apply, broadcastTo_apply _ broadcasts_S32x1_S32x34 i (ix2 (i 0) 0) (fun a => match a with
    | ⟨0, _⟩ => rfl
    | ⟨1, _⟩ => rfl), shapeCast_self, mask34 k hk]
  by_cases h : (i 1).val = k
  · rw [if_pos h, if_pos h, select_one]
  · rw [if_neg h, if_neg h, select_zero]

/-- Column `k` of thirty-four, taken out by a masked sum. -/
theorem col34_apply (k : Nat) (hk : k < 34) (s : FVec Ideal S32x34 .f32) (i : S32x1.Idx) :
    col34 (F := Ideal) (BitVec.ofNat 32 k) s i = s (ix2 (i 0) ⟨k, hk⟩) := by
  unfold col34
  rw [shapeCast_apply _ shapeCasts_S32_S32x1 i (ix1 (i 0)) (by
    have h1 := idx2_lt1 i
    rw [Shape.rowMajor_val_one, Shape.rowMajor_val_two]; show (i 0).val = (i 0).val * 1 + (i 1).val; omega)]
  refine (Ideal.multiReduction_add_single _ _ reduces_S32x34_S32 _ _ _).trans ?_
  have e : ∀ l : Fin 34, reduces_S32x34_S32.lift (ix1 (i 0)) l = ix2 (i 0) l := fun l => funext fun a => Fin.ext (by
    match a with
    | ⟨0, _⟩ => rfl
    | ⟨1, _⟩ => rfl)
  have e2 : ∀ l : Fin 34, select (cmpi .eq (iota .tc S32x34 32 [1] iota_S32x34_d1_w32) (broadcast S32x34 (BitVec.ofNat 32 k))) s
      (broadcast S32x34 (Scalar.ofBits (F := Ideal) .f32 0x00000000#32)) (ix2 (i 0) l) = if l = ⟨k, hk⟩ then s (ix2 (i 0) l) else 0 := fun l => by
    rw [select_apply, mask34 k hk]
    by_cases h : l.val = k
    · rw [if_pos h, if_pos (Fin.ext h), select_one]
    · rw [if_neg h, if_neg (fun c => h (congrArg Fin.val c)), select_zero]; exact Ideal.ofBits_zero_f32
  refine (Finset.sum_congr rfl fun l _ => (congrArg _ (e l)).trans (e2 l)).trans ?_
  exact (Finset.sum_ite_eq' (Finset.univ : Finset (Fin 34)) ⟨k, hk⟩ fun l => s (ix2 (i 0) l)).trans (if_pos (Finset.mem_univ _))

/-! ## The products -/

abbrev D := dot_S384x2048_S256x2048_S384x256_1_1_0_0_n_n

/-- The left factor is read at the result's row. -/
theorem lhs0 (i : S384x256.Idx) (q : D.contr.Idx) : (D.lhsIdx i q 0).val = (i 0).val := by
  unfold DotDims.lhsIdx
  rw [dif_neg (show ¬(0 : Fin S384x2048.rank) ∈ D.lhsBatch by decide), dif_pos (show (0 : Fin S384x2048.rank) ∈ D.lhsNonContracting by decide)]
  rfl
/-- The left factor is read along the contracted axis. -/
theorem lhs1 (i : S384x256.Idx) (q : D.contr.Idx) : (D.lhsIdx i q 1).val = (q ⟨0, by decide⟩).val :=
  D.lhsIdx_val_of_single rfl i q
/-- The right factor is read at the result's column. -/
theorem rhs0 (i : S384x256.Idx) (q : D.contr.Idx) : (D.rhsIdx i q 0).val = (i 1).val := by
  unfold DotDims.rhsIdx
  rw [dif_neg (show ¬(0 : Fin S256x2048.rank) ∈ D.rhsBatch by decide), dif_pos (show (0 : Fin S256x2048.rank) ∈ D.rhsNonContracting by decide)]
  rfl
/-- The right factor is read along the contracted axis. -/
theorem rhs1 (i : S384x256.Idx) (q : D.contr.Idx) : (D.rhsIdx i q 1).val = (q ⟨0, by decide⟩).val :=
  D.rhsIdx_val_of_single rfl i q

/-- The product of tokens and weights at an index: a sum over 2048 features. -/
theorem prod_apply (x : FVec Ideal S384x2048 .bf16) (w : FVec Ideal S256x2048 .bf16) (i : S384x256.Idx) :
    prod (F := Ideal) x w i = ∑ k : Fin 2048, x (ix2 (i 0) k) * w (ix2 (i 1) k) := by
  unfold prod
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx i ((contrEquiv1 D 2048 rfl rfl).symm k) = ix2 (i 0) k := funext fun a => Fin.ext (by
    match a with
    | ⟨0, _⟩ => exact lhs0 _ _
    | ⟨1, _⟩ => exact (lhs1 _ _).trans hk)
  have er : D.rhsIdx i ((contrEquiv1 D 2048 rfl rfl).symm k) = ix2 (i 1) k := funext fun a => Fin.ext (by
    match a with
    | ⟨0, _⟩ => exact rhs0 _ _
    | ⟨1, _⟩ => exact (rhs1 _ _).trans hk)
  rw [el, er]
  rfl

/-! ## The four stored values -/

/-- The values at one token and one feature, of the token's scale and the two products. -/
def gV (s g : EReal) : EReal := s * g * Ideal.logistic (s * g)
def aV (s g u : EReal) : EReal := gV s g * (s * u)
def qV (s g : EReal) : EReal := gV s g * s
def pV (s g u : EReal) : EReal :=
  s * u * s * (Ideal.logistic (s * g) * (Ideal.ofBits .f32 0x3F800000#32 + s * g * (Ideal.ofBits .f32 0x3F800000#32 - Ideal.logistic (s * g))))

/-- The activation tile, at an index. -/
theorem tA_apply (sx g u : FVec Ideal S32x128 .f32) (i : S32x128.Idx) : tA (F := Ideal) sx g u i = aV (sx i) (g i) (u i) := rfl
/-- The narrowed activation tile, at an index. -/
theorem tAb_apply (sx g u : FVec Ideal S32x128 .f32) (i : S32x128.Idx) : tAb (F := Ideal) sx g u i = aV (sx i) (g i) (u i) := rfl
/-- The tile of the derivative by the up projection's product, at an index. -/
theorem tQ_apply (sx g : FVec Ideal S32x128 .f32) (i : S32x128.Idx) : tQ (F := Ideal) sx g i = qV (sx i) (g i) := rfl
/-- The tile of the derivative by the gate's product, at an index. -/
theorem tP_apply (sx g u : FVec Ideal S32x128 .f32) (i : S32x128.Idx) : tP (F := Ideal) sx g u i = pV (sx i) (g i) (u i) := rfl

end Cert.FwdIdeal.Tile

end
-- ==== Proof.FwdIdeal.Pieces.lean ====
/-
  What a list of stored tiles leaves, read at an index: rectangles at word-computed rows, each holding its part of one
  table. Then the tables: the softened weights and regularisers of a window of codes, scales and variables.
-/
module

public import proofs.«01_k».proof.Proof.FwdIdeal.Tile
public import Idealize.ShloMosaic.Lib.WritesUnit
public import Idealize.ShloMosaic.Lib.Pipeline.ValueKit

@[expose] public section

noncomputable section

namespace Cert.FwdIdeal.Tile

open Idealize.ShloMosaic hiding ix2
open Cert.FwdIdeal Cert.FwdIdeal.Facts₀ Idealize.ShloMosaic.TcCoe Idealize.SL.Sem
open Idealize.ShloMosaic.ValueIdx

/-! ## Lists of tiles -/

/-- The piece is a rectangle of `h` rows and `w` columns at row `lo + q.1` and column `q.2`, and holds there the table
`T`, whose rows are counted from `lo`. -/
structure Is {a b H : ℕ} {e : EltTy} (T : (⟨2, ![H, b]⟩ : Shape).Idx → Elt Ideal e) (lo h w : ℕ)
    (p : View.Piece (Elt Ideal) ⟨2, ![a, b]⟩ e) (q : ℕ × ℕ) : Prop where
  off0 : p.1.off (0 : Fin 2) = lo + q.1
  off1 : p.1.off (1 : Fin 2) = q.2
  size0 : p.1.size (0 : Fin 2) = h
  size1 : p.1.size (1 : Fin 2) = w
  stride : ∀ d, p.1.stride d = 1
  fits : q.1 + h ≤ H
  val : ∀ (x : p.1.shape.Idx) (y : (⟨2, ![H, b]⟩ : Shape).Idx), (y (0 : Fin 2)).val = q.1 + (x (0 : Fin 2)).val →
    (y (1 : Fin 2)).val = q.2 + (x (1 : Fin 2)).val → p.2 x = T y

/-- A unit rectangle at a row known to be `lo + r`. -/
theorem Is.unit {a b H : ℕ} {e : EltTy} {T : (⟨2, ![H, b]⟩ : Shape).Idx → Elt Ideal e} {lo h w o r c : ℕ}
    {inb : ∀ d, (![o, c] : Fin 2 → ℕ) d + (![h, w] : Fin 2 → ℕ) d ≤ (⟨2, ![a, b]⟩ : Shape).size d}
    {pay : (⟨2, ![h, w]⟩ : Shape).Idx → Elt Ideal e} (ho : o = lo + r) (hr : r + h ≤ H)
    (hp : ∀ (x : (⟨2, ![h, w]⟩ : Shape).Idx) (y : (⟨2, ![H, b]⟩ : Shape).Idx), (y (0 : Fin 2)).val = r + (x (0 : Fin 2)).val →
      (y (1 : Fin 2)).val = c + (x (1 : Fin 2)).val → pay x = T y) :
    Is T lo h w (⟨Rect.unit (s := ⟨2, ![a, b]⟩) ![o, c] ![h, w] inb, pay⟩ : View.Piece (Elt Ideal) ⟨2, ![a, b]⟩ e) (r, c) where
  off0 := ho
  off1 := rfl
  size0 := rfl
  size1 := rfl
  stride := fun _ => rfl
  fits := hr
  val := hp

/-- Where a piece lies: a rectangle of the given height and width. -/
theorem Is.mem_iff {a b H : ℕ} {e : EltTy} {T : (⟨2, ![H, b]⟩ : Shape).Idx → Elt Ideal e} {lo h w : ℕ}
    {p : View.Piece (Elt Ideal) ⟨2, ![a, b]⟩ e} {q : ℕ × ℕ} (hp : Is T lo h w p q) (y : (⟨2, ![a, b]⟩ : Shape).Idx) :
    y ∈ p.1.set ↔ (lo + q.1 ≤ (y (0 : Fin 2)).val ∧ (y (0 : Fin 2)).val < lo + q.1 + h) ∧
      (q.2 ≤ (y (1 : Fin 2)).val ∧ (y (1 : Fin 2)).val < q.2 + w) := by
  rw [LoadRect.mem_set]
  have h2 : (∀ d : Fin 2, ∃ j < p.1.size d, (y d : Nat) = p.1.off d + p.1.stride d * j) ↔
      (lo + q.1 ≤ (y (0 : Fin 2)).val ∧ (y (0 : Fin 2)).val < lo + q.1 + h) ∧ (q.2 ≤ (y (1 : Fin 2)).val ∧ (y (1 : Fin 2)).val < q.2 + w) := by
    rw [Fin.forall_fin_two, hp.off0, hp.off1, hp.size0, hp.size1, hp.stride, hp.stride]
    refine and_congr ⟨fun ⟨j, hj, e⟩ => by omega, fun ⟨h1, h2⟩ => ⟨(y (0 : Fin 2)).val - (lo + q.1), by omega, by omega⟩⟩
      ⟨fun ⟨j, hj, e⟩ => by omega, fun ⟨h1, h2⟩ => ⟨(y (1 : Fin 2)).val - q.2, by omega, by omega⟩⟩
  exact h2

/-- An index under one of the tiles reads the table. -/
theorem read_in {sig : RefSig} {κ : Kind} {sp : Space} {a b H : ℕ} {e : EltTy} {T : (⟨2, ![H, b]⟩ : Shape).Idx → Elt Ideal e} {lo h w : ℕ}
    (v : View sig κ sp ⟨2, ![a, b]⟩ e) (f : v.ty.Contents (Elt Ideal)) {L : List (View.Piece (Elt Ideal) ⟨2, ![a, b]⟩ e)} {Q : List (ℕ × ℕ)}
    (hL : List.Forall₂ (Is T lo h w) L Q) (y : (⟨2, ![a, b]⟩ : Shape).Idx) (z : (⟨2, ![H, b]⟩ : Shape).Idx)
    (h0 : (y (0 : Fin 2)).val = lo + (z (0 : Fin 2)).val) (h1 : (y (1 : Fin 2)).val = (z (1 : Fin 2)).val)
    (hc : ∃ q ∈ Q, (q.1 ≤ (z (0 : Fin 2)).val ∧ (z (0 : Fin 2)).val < q.1 + h) ∧ (q.2 ≤ (z (1 : Fin 2)).val ∧ (z (1 : Fin 2)).val < q.2 + w)) :
    v.read (Elt Ideal) (v.writes (Elt Ideal) f L) y = T z := by
  induction hL with
  | nil => obtain ⟨q, hq, -⟩ := hc; exact absurd hq List.not_mem_nil
  | @cons p q L Q hp hL ih =>
    by_cases hy : y ∈ p.1.set
    · obtain ⟨x, hx⟩ : ∃ x, p.1.emb x = y := p.1.exists_idx_of_mem hy
      have e0 : (y (0 : Fin 2)).val = lo + q.1 + (x (0 : Fin 2)).val := by
        have := congrArg (fun i : (⟨2, ![a, b]⟩ : Shape).Idx => (i (0 : Fin 2)).val) hx.symm
        refine this.trans ((Rect.emb_apply p.1 x (0 : Fin 2)).trans ?_)
        rw [hp.off0, hp.stride, Nat.one_mul]
      have e1 : (y (1 : Fin 2)).val = q.2 + (x (1 : Fin 2)).val := by
        have := congrArg (fun i : (⟨2, ![a, b]⟩ : Shape).Idx => (i (1 : Fin 2)).val) hx.symm
        refine this.trans ((Rect.emb_apply p.1 x (1 : Fin 2)).trans ?_)
        rw [hp.off1, hp.stride, Nat.one_mul]
      have hv := hp.val x z (by omega) (by omega)
      rw [← hv, ← hx]
      obtain ⟨r, w'⟩ := p
      exact View.read_writes_cons_emb v f r w' L x
    · obtain ⟨q', hq', hz⟩ := hc
      have hne : q' ≠ q := by
        rintro rfl
        exact hy ((hp.mem_iff y).2 ⟨by omega, by omega⟩)
      have hq'' : q' ∈ Q := (List.mem_cons.1 hq').resolve_left hne
      rw [View.writes_cons]
      refine (View.read_slice_write_of_not_mem _ _ _ _ (by rw [Rect.map_emb_univ]; exact hy)).trans (ih ⟨q', hq'', hz⟩)

/-- An index at none of the table's rows reads what was there. -/
theorem read_out {sig : RefSig} {κ : Kind} {sp : Space} {a b H : ℕ} {e : EltTy} {T : (⟨2, ![H, b]⟩ : Shape).Idx → Elt Ideal e} {lo h w : ℕ}
    (v : View sig κ sp ⟨2, ![a, b]⟩ e) (f : v.ty.Contents (Elt Ideal)) {L : List (View.Piece (Elt Ideal) ⟨2, ![a, b]⟩ e)} {Q : List (ℕ × ℕ)}
    (hL : List.Forall₂ (Is T lo h w) L Q) (y : (⟨2, ![a, b]⟩ : Shape).Idx)
    (h0 : (y (0 : Fin 2)).val < lo ∨ lo + H ≤ (y (0 : Fin 2)).val) :
    v.read (Elt Ideal) (v.writes (Elt Ideal) f L) y = v.read (Elt Ideal) f y := by
  induction hL with
  | nil => rfl
  | @cons p q L Q hp hL ih =>
    have hy : y ∉ p.1.set := fun hy => by
      have := (hp.mem_iff y).1 hy
      have := hp.fits
      omega
    rw [View.writes_cons]
    exact (View.read_slice_write_of_not_mem _ _ _ _ (by rw [Rect.map_emb_univ]; exact hy)).trans ih

/-- Tiles in a grid of `n` by `m` cover it. -/
theorem grid_cover (h w n m : ℕ) (hh : 0 < h) (hw : 0 < w) {Q : List (ℕ × ℕ)} (hQ : ∀ i < n, ∀ j < m, (h * i, w * j) ∈ Q) (z0 z1 : ℕ) (h0 : z0 < h * n)
    (h1 : z1 < w * m) : ∃ q ∈ Q, (q.1 ≤ z0 ∧ z0 < q.1 + h) ∧ (q.2 ≤ z1 ∧ z1 < q.2 + w) :=
  ⟨_, hQ (z0 / h) (Nat.div_lt_of_lt_mul h0) (z1 / w) (Nat.div_lt_of_lt_mul h1),
    ⟨Nat.mul_div_le _ _, by have := Nat.lt_mul_div_succ z0 hh; rw [Nat.mul_succ] at this; exact this⟩,
    ⟨Nat.mul_div_le _ _, by have := Nat.lt_mul_div_succ z1 hw; rw [Nat.mul_succ] at this; exact this⟩⟩

/-! ## The tables of a window -/

/-- The weights of 64 rows. -/
def wT (c : Vec Ideal S64x1024 .i8) (s : Vec Ideal S64x16 .f32) (v : Vec Ideal S64x2048 .bf16) : S64x2048.Idx → Elt Ideal .bf16 := fun y =>
  wV (nib (c (ix2 (y 0) ⟨(y 1).val / 128 * 64 + (y 1).val % 64, by have := idx2_lt1 y; omega⟩)) (64 ≤ (y 1).val % 128))
    (s (ix2 (y 0) ⟨(y 1).val / 128, by have := idx2_lt1 y; omega⟩)) (v y)

/-- The regularisers of 64 rows of 16 groups. -/
def rT (v : Vec Ideal S64x2048 .bf16) : S64x16.Idx → Elt Ideal .f32 := fun y =>
  ∑ l : Fin 128, rV (v (ix2 (y 0) ⟨128 * (y 1).val + l.val, by have := idx2_lt1 y; omega⟩))

/-- Column `k` of sixteen, as a slice. -/
theorem col16 (k : ℕ) (s : FVec Ideal S32x16 .f32) (hs) (x : S32x1.Idx) (hk : k < 16) :
    extractStridedSlice S32x1 ![0, k] s hs x = s (ix2 (x 0) ⟨k, hk⟩) := by
  refine extractStridedSlice_apply _ _ _ _ _ (fun d => ?_)
  match d with
  | ⟨0, _⟩ => show (x 0).val = 0 + (x 0).val; omega
  | ⟨1, _⟩ => show k = k + (x 1).val; have := idx2_lt1 x; omega

/-- Equal inputs have equal softened weights. -/
theorem wV_congr {n n' s s' v v' : EReal} (hn : n = n') (hs : s = s') (hv : v = v') : wV n s v = wV n' s' v' := by rw [hn, hs, hv]
/-- Equal bytes and equal halves have equal nibbles. -/
theorem nib_congr {b b' : BitVec 8} {p p' : Prop} [Decidable p] [Decidable p'] (hb : b = b') (hp : p ↔ p') : nib b p = nib b' p' := by
  subst hb
  unfold nib nibByte
  by_cases h : p
  · rw [if_pos h, if_pos (hp.1 h)]
  · rw [if_neg h, if_neg (fun q => h (hp.2 q))]

section W

variable {a lo o r g : ℕ} (x2 : Vec Ideal S64x1024 .i8) (x3 : Vec Ideal S64x16 .f32) (x4 : Vec Ideal S64x2048 .bf16)

/-- A store from a first tile writes its piece of the softened weights. -/
theorem wA (c2 k c : ℕ) (ho : o = lo + r) (hr : r + 32 ≤ 64) (hc2 : c2 = 128 * g) (hk : k = 2 * g) (hc : c = 256 * g) (hg : g < 8)
    (inb : ∀ d, (![o, c] : Fin 2 → ℕ) d + (![32, 128] : Fin 2 → ℕ) d ≤ (⟨2, ![a, 2048]⟩ : Shape).size d) (i2 i3 i4 hs hsc) :
    Is (wT x2 x3 x4) lo 32 128 (⟨Rect.unit (s := ⟨2, ![a, 2048]⟩) ![o, c] ![32, 128] inb,
      shapeCast S32x128 (softW (nibA (View.ld x2 (Rect.unit ![r, c2] ![32, 128] i2)))
        (extractStridedSlice (s := S32x16) S32x1 ![0, k] (View.ld x3 (Rect.unit ![r, 0] ![32, 16] i3)) hs)
        (View.ld x4 (Rect.unit ![r, c] ![32, 128] i4))) hsc⟩ : View.Piece (Elt Ideal) ⟨2, ![a, 2048]⟩ .bf16) (r, c) := by
  refine Is.unit ho hr fun x y h0 h1 => ?_
  have b0 : (x 0).val < 32 := idx2_lt0 x
  have b1 : (x 1).val < 128 := idx2_lt1 x
  rw [shapeCast_self, softW_apply, nibA_apply, col16 _ _ _ _ (by omega)]
  unfold wT
  refine wV_congr (nib_congr (View.ld_unit_apply_of x2 _ _ i2 _ _ (fun d => match d with
      | ⟨0, _⟩ => h0
      | ⟨1, _⟩ => by show (y 1).val / 128 * 64 + (y 1).val % 64 = c2 + (x 1).val % 64; rw [h1]; omega))
      (show 64 ≤ (x 1).val ↔ 64 ≤ (y 1).val % 128 by rw [h1]; omega))
    (View.ld_unit_apply_of x3 _ _ i3 _ _ (fun d => match d with
      | ⟨0, _⟩ => h0
      | ⟨1, _⟩ => by show (y 1).val / 128 = 0 + k; rw [h1]; omega))
    (View.ld_unit_apply_of x4 _ _ i4 _ y (fun d => match d with
      | ⟨0, _⟩ => h0
      | ⟨1, _⟩ => h1))

/-- A store from a second tile writes its piece of the softened weights. -/
theorem wB (c2 k c : ℕ) (ho : o = lo + r) (hr : r + 32 ≤ 64) (hc2 : c2 = 128 * g) (hk : k = 2 * g + 1) (hc : c = 256 * g + 128) (hg : g < 8)
    (inb : ∀ d, (![o, c] : Fin 2 → ℕ) d + (![32, 128] : Fin 2 → ℕ) d ≤ (⟨2, ![a, 2048]⟩ : Shape).size d) (i2 i3 i4 hs hsc) :
    Is (wT x2 x3 x4) lo 32 128 (⟨Rect.unit (s := ⟨2, ![a, 2048]⟩) ![o, c] ![32, 128] inb,
      shapeCast S32x128 (softW (nibB (View.ld x2 (Rect.unit ![r, c2] ![32, 128] i2)))
        (extractStridedSlice (s := S32x16) S32x1 ![0, k] (View.ld x3 (Rect.unit ![r, 0] ![32, 16] i3)) hs)
        (View.ld x4 (Rect.unit ![r, c] ![32, 128] i4))) hsc⟩ : View.Piece (Elt Ideal) ⟨2, ![a, 2048]⟩ .bf16) (r, c) := by
  refine Is.unit ho hr fun x y h0 h1 => ?_
  have b0 : (x 0).val < 32 := idx2_lt0 x
  have b1 : (x 1).val < 128 := idx2_lt1 x
  rw [shapeCast_self, softW_apply, nibB_apply, col16 _ _ _ _ (by omega)]
  unfold wT
  refine wV_congr (nib_congr (View.ld_unit_apply_of x2 _ _ i2 _ _ (fun d => match d with
      | ⟨0, _⟩ => h0
      | ⟨1, _⟩ => by show (y 1).val / 128 * 64 + (y 1).val % 64 = c2 + (64 + (x 1).val % 64); rw [h1]; omega))
      (show 64 ≤ (x 1).val ↔ 64 ≤ (y 1).val % 128 by rw [h1]; omega))
    (View.ld_unit_apply_of x3 _ _ i3 _ _ (fun d => match d with
      | ⟨0, _⟩ => h0
      | ⟨1, _⟩ => by show (y 1).val / 128 = 0 + k; rw [h1]; omega))
    (View.ld_unit_apply_of x4 _ _ i4 _ y (fun d => match d with
      | ⟨0, _⟩ => h0
      | ⟨1, _⟩ => h1))

end W

/-- The sum over one group's tile. -/
theorem softR_ld (v : Vec Ideal S64x2048 .bf16) (r k : ℕ) (i4) (x : S32x16.Idx) (y : S64x16.Idx) (h0 : (y 0).val = r + (x 0).val)
    (h1 : (y 1).val = k) : softR (F := Ideal) (View.ld v (Rect.unit ![r, 128 * k] ![32, 128] i4)) (ix2 (x 0) 0) = rT v y := by
  rw [softR_apply]
  unfold rT
  refine Finset.sum_congr rfl fun l _ => congrArg rV ?_
  exact View.ld_unit_apply_of v _ _ i4 _ _ (fun d => match d with
    | ⟨0, _⟩ => h0
    | ⟨1, _⟩ => by show 128 * (y 1).val + l.val = 128 * k + l.val; rw [h1])

/-- Sixteen columns put one after another into a row of groups. -/
theorem rowR (v : Vec Ideal S64x2048 .bf16) (o r : ℕ) (ho : o = 0 + r) (hr : r + 32 ≤ 64) (dst : FVec Ideal S32x16 .f32)
    (inb : ∀ d, (![o, 0] : Fin 2 → ℕ) d + (![32, 16] : Fin 2 → ℕ) d ≤ S64x16.size d)
    (h0 : ∀ a, (![r, 0] : Fin 2 → ℕ) a + (![32, 128] : Fin 2 → ℕ) a ≤ S64x2048.size a) (h1 : ∀ a, (![r, 128] : Fin 2 → ℕ) a + (![32, 128] : Fin 2 → ℕ) a ≤ S64x2048.size a) (h2 : ∀ a, (![r, 256] : Fin 2 → ℕ) a + (![32, 128] : Fin 2 → ℕ) a ≤ S64x2048.size a) (h3 : ∀ a, (![r, 384] : Fin 2 → ℕ) a + (![32, 128] : Fin 2 → ℕ) a ≤ S64x2048.size a) (h4 : ∀ a, (![r, 512] : Fin 2 → ℕ) a + (![32, 128] : Fin 2 → ℕ) a ≤ S64x2048.size a) (h5 : ∀ a, (![r, 640] : Fin 2 → ℕ) a + (![32, 128] : Fin 2 → ℕ) a ≤ S64x2048.size a) (h6 : ∀ a, (![r, 768] : Fin 2 → ℕ) a + (![32, 128] : Fin 2 → ℕ) a ≤ S64x2048.size a) (h7 : ∀ a, (![r, 896] : Fin 2 → ℕ) a + (![32, 128] : Fin 2 → ℕ) a ≤ S64x2048.size a) (h8 : ∀ a, (![r, 1024] : Fin 2 → ℕ) a + (![32, 128] : Fin 2 → ℕ) a ≤ S64x2048.size a) (h9 : ∀ a, (![r, 1152] : Fin 2 → ℕ) a + (![32, 128] : Fin 2 → ℕ) a ≤ S64x2048.size a) (h10 : ∀ a, (![r, 1280] : Fin 2 → ℕ) a + (![32, 128] : Fin 2 → ℕ) a ≤ S64x2048.size a) (h11 : ∀ a, (![r, 1408] : Fin 2 → ℕ) a + (![32, 128] : Fin 2 → ℕ) a ≤ S64x2048.size a) (h12 : ∀ a, (![r, 1536] : Fin 2 → ℕ) a + (![32, 128] : Fin 2 → ℕ) a ≤ S64x2048.size a) (h13 : ∀ a, (![r, 1664] : Fin 2 → ℕ) a + (![32, 128] : Fin 2 → ℕ) a ≤ S64x2048.size a) (h14 : ∀ a, (![r, 1792] : Fin 2 → ℕ) a + (![32, 128] : Fin 2 → ℕ) a ≤ S64x2048.size a) (h15 : ∀ a, (![r, 1920] : Fin 2 → ℕ) a + (![32, 128] : Fin 2 → ℕ) a ≤ S64x2048.size a) :
    Is (rT v) 0 32 16 (⟨Rect.unit (s := S64x16) ![o, 0] ![32, 16] inb, (ins16 15#32 (softR (View.ld v (Rect.unit ![r, 1920] ![32, 128] h15))) (ins16 14#32 (softR (View.ld v (Rect.unit ![r, 1792] ![32, 128] h14))) (ins16 13#32 (softR (View.ld v (Rect.unit ![r, 1664] ![32, 128] h13))) (ins16 12#32 (softR (View.ld v (Rect.unit ![r, 1536] ![32, 128] h12))) (ins16 11#32 (softR (View.ld v (Rect.unit ![r, 1408] ![32, 128] h11))) (ins16 10#32 (softR (View.ld v (Rect.unit ![r, 1280] ![32, 128] h10))) (ins16 9#32 (softR (View.ld v (Rect.unit ![r, 1152] ![32, 128] h9))) (ins16 8#32 (softR (View.ld v (Rect.unit ![r, 1024] ![32, 128] h8))) (ins16 7#32 (softR (View.ld v (Rect.unit ![r, 896] ![32, 128] h7))) (ins16 6#32 (softR (View.ld v (Rect.unit ![r, 768] ![32, 128] h6))) (ins16 5#32 (softR (View.ld v (Rect.unit ![r, 640] ![32, 128] h5))) (ins16 4#32 (softR (View.ld v (Rect.unit ![r, 512] ![32, 128] h4))) (ins16 3#32 (softR (View.ld v (Rect.unit ![r, 384] ![32, 128] h3))) (ins16 2#32 (softR (View.ld v (Rect.unit ![r, 256] ![32, 128] h2))) (ins16 1#32 (softR (View.ld v (Rect.unit ![r, 128] ![32, 128] h1))) (ins16 0#32 (softR (View.ld v (Rect.unit ![r, 0] ![32, 128] h0))) dst))))))))))))))))⟩ : View.Piece (Elt Ideal) S64x16 .f32) (r, 0) := by
  refine Is.unit ho hr fun x y h0 h1 => ?_
  replace h1 : (y 1).val = (x 1).val := by omega
  have b1 : (x 1).val < 16 := idx2_lt1 x
  rw [ins16_apply 15 (by omega), ins16_apply 14 (by omega), ins16_apply 13 (by omega), ins16_apply 12 (by omega), ins16_apply 11 (by omega), ins16_apply 10 (by omega), ins16_apply 9 (by omega), ins16_apply 8 (by omega), ins16_apply 7 (by omega), ins16_apply 6 (by omega), ins16_apply 5 (by omega), ins16_apply 4 (by omega), ins16_apply 3 (by omega), ins16_apply 2 (by omega), ins16_apply 1 (by omega), ins16_apply 0 (by omega)]
  by_cases e15 : (x 1).val = 15
  · rw [if_pos e15]; exact softR_ld v r 15 _ x y h0 (h1.trans e15)
  rw [if_neg e15]
  by_cases e14 : (x 1).val = 14
  · rw [if_pos e14]; exact softR_ld v r 14 _ x y h0 (h1.trans e14)
  rw [if_neg e14]
  by_cases e13 : (x 1).val = 13
  · rw [if_pos e13]; exact softR_ld v r 13 _ x y h0 (h1.trans e13)
  rw [if_neg e13]
  by_cases e12 : (x 1).val = 12
  · rw [if_pos e12]; exact softR_ld v r 12 _ x y h0 (h1.trans e12)
  rw [if_neg e12]
  by_cases e11 : (x 1).val = 11
  · rw [if_pos e11]; exact softR_ld v r 11 _ x y h0 (h1.trans e11)
  rw [if_neg e11]
  by_cases e10 : (x 1).val = 10
  · rw [if_pos e10]; exact softR_ld v r 10 _ x y h0 (h1.trans e10)
  rw [if_neg e10]
  by_cases e9 : (x 1).val = 9
  · rw [if_pos e9]; exact softR_ld v r 9 _ x y h0 (h1.trans e9)
  rw [if_neg e9]
  by_cases e8 : (x 1).val = 8
  · rw [if_pos e8]; exact softR_ld v r 8 _ x y h0 (h1.trans e8)
  rw [if_neg e8]
  by_cases e7 : (x 1).val = 7
  · rw [if_pos e7]; exact softR_ld v r 7 _ x y h0 (h1.trans e7)
  rw [if_neg e7]
  by_cases e6 : (x 1).val = 6
  · rw [if_pos e6]; exact softR_ld v r 6 _ x y h0 (h1.trans e6)
  rw [if_neg e6]
  by_cases e5 : (x 1).val = 5
  · rw [if_pos e5]; exact softR_ld v r 5 _ x y h0 (h1.trans e5)
  rw [if_neg e5]
  by_cases e4 : (x 1).val = 4
  · rw [if_pos e4]; exact softR_ld v r 4 _ x y h0 (h1.trans e4)
  rw [if_neg e4]
  by_cases e3 : (x 1).val = 3
  · rw [if_pos e3]; exact softR_ld v r 3 _ x y h0 (h1.trans e3)
  rw [if_neg e3]
  by_cases e2 : (x 1).val = 2
  · rw [if_pos e2]; exact softR_ld v r 2 _ x y h0 (h1.trans e2)
  rw [if_neg e2]
  by_cases e1 : (x 1).val = 1
  · rw [if_pos e1]; exact softR_ld v r 1 _ x y h0 (h1.trans e1)
  rw [if_neg e1]
  by_cases e0 : (x 1).val = 0
  · rw [if_pos e0]; exact softR_ld v r 0 _ x y h0 (h1.trans e0)
  rw [if_neg e0]
  exfalso; omega

end Cert.FwdIdeal.Tile

end
-- ==== Proof.FwdIdeal.Tables.lean ====
/-
  The other tables a point stores: the widened tokens, the spread scales, the four results of a strip of tokens with
  the transposed one, and the down projection's weights and regularisers.
-/
module

public import proofs.«01_k».proof.Proof.FwdIdeal.Pieces
public import Idealize.ShloMosaic.Lib.Pipeline.FrameBody

@[expose] public section

noncomputable section

namespace Cert.FwdIdeal.Tile

open Idealize.ShloMosaic hiding ix2
open Cert.FwdIdeal Cert.FwdIdeal.Facts₀ Idealize.ShloMosaic.TcCoe Idealize.SL.Sem
open Idealize.ShloMosaic.ValueIdx

/-! ## The tokens and their scales -/

/-- The store of the widened activations writes their block. -/
theorem xb_piece (x0 : Vec Ideal S1152x2048 .fp8e4m3) {lo o : ℕ} (ho : o = lo + 0)
    (inb : ∀ d, (![o, 0] : Fin 2 → ℕ) d + (![1152, 2048] : Fin 2 → ℕ) d ≤ S4608x2048.size d) (i0 hsc) :
    Is (a := 4608) (b := 2048) (H := 1152) (e := .bf16) x0 lo 1152 2048 (⟨Rect.unit (s := S4608x2048) ![o, 0] ![1152, 2048] inb,
      shapeCast (s := S1152x2048) S1152x2048 (extf (F := Ideal) (s := S1152x2048) .bf16 (View.ld x0 (Rect.unit ![0, 0] ![1152, 2048] i0)) bitsLt_fp8e4m3_bf16) hsc⟩
        : View.Piece (Elt Ideal) S4608x2048 .bf16) (0, 0) := by
  refine Is.unit ho (by omega) fun x y h0 h1 => ?_
  rw [shapeCast_self, extf_apply]
  exact View.ld_unit_apply_of x0 _ _ i0 _ y (fun d => match d with
    | ⟨0, _⟩ => h0
    | ⟨1, _⟩ => h1)

/-- The scale of each token, on every lane. -/
def xsT (x1 : Vec Ideal S6x768 .f32) : S4608x128.Idx → Elt Ideal .f32 := fun y =>
  x1 (ix2 ⟨(y 0).val / 768, by have := idx2_lt0 y; omega⟩ ⟨(y 0).val % 768, by omega⟩)

/-- A store of the spread token scales writes a tile of them. -/
theorem xs_piece (x1 : Vec Ideal S6x768 .f32) (b j r c : ℕ) (hb : b < 6) (hj : j < 6) (hr : r = 768 * b + 128 * j) (hc : c = 128 * j)
    (inb : ∀ d, (![r, 0] : Fin 2 → ℕ) d + (![128, 128] : Fin 2 → ℕ) d ≤ S4608x128.size d) (i1 h1' h2' h3' h4') :
    Is (xsT x1) 0 128 128 (⟨Rect.unit (s := S4608x128) ![r, 0] ![128, 128] inb,
      shapeCast S128x128 (transpose S128x128 [1, 0] (broadcastTo S128x128 (shapeCast (s := S1x128) S1x128 (View.ld x1 (Rect.unit ![b, c] ![1, 128] i1)) h1') h2') h3') h4'⟩
        : View.Piece (Elt Ideal) S4608x128 .f32) (r, 0) := by
  refine Is.unit (by omega) (by omega) fun x y h0 h1 => ?_
  have b0 : (x 0).val < 128 := idx2_lt0 x
  rw [shapeCast_self, shapeCast_self, transpose_apply _ _ h3' x (ix2 ⟨(x 1).val, idx2_lt1 x⟩ ⟨(x 0).val, b0⟩) (fun d => match d with
    | ⟨0, _⟩ => rfl
    | ⟨1, _⟩ => rfl),
    broadcastTo_apply _ h2' _ (ix2 0 ⟨(x 0).val, b0⟩) (fun d => match d with
    | ⟨0, _⟩ => rfl
    | ⟨1, _⟩ => rfl)]
  unfold xsT
  exact View.ld_unit_apply_of x1 _ _ i1 _ _ (fun d => match d with
    | ⟨0, _⟩ => by show (y 0).val / 768 = b + 0; rw [h0]; omega
    | ⟨1, _⟩ => by show (y 0).val % 768 = c + (x 0).val; rw [h0]; omega)

/-! ## The results of a strip of tokens -/

section Tok

variable (xb : Vec Ideal S4608x2048 .bf16) (xs : Vec Ideal S4608x128 .f32) (wg wu : Vec Ideal S256x2048 .bf16)

/-- The product of a token with a block's row. -/
def dotT (t : Fin 4608) (f : Fin 256) (w : Vec Ideal S256x2048 .bf16) : EReal := ∑ k : Fin 2048, xb (ix2 t k) * w (ix2 f k)

/-- A function of the scale and the two products, over tokens from `1152 t`. -/
def tokT (φ : EReal → EReal → EReal → EReal) (t : Fin 4) : S1152x256.Idx → EReal := fun y =>
  φ (xs (ix2 ⟨1152 * t.val + (y 0).val, by have := idx2_lt0 y; omega⟩ ⟨(y 1).val % 128, by omega⟩))
    (dotT xb ⟨1152 * t.val + (y 0).val, by have := idx2_lt0 y; omega⟩ (y 1) wg)
    (dotT xb ⟨1152 * t.val + (y 0).val, by have := idx2_lt0 y; omega⟩ (y 1) wu)

/-- A tile of a product is the dot product of a token and a weight row. -/
theorem slice_prod (w : Vec Ideal S256x2048 .bf16) (t : Fin 4) (m r c om : ℕ) (hom : om = 1152 * t.val + m) (i1 i2 hs)
    (x : S32x128.Idx) (y : S1152x256.Idx) (h0 : (y 0).val = m + r + (x 0).val) (h1 : (y 1).val = c + (x 1).val) :
    extractStridedSlice (s := S384x256) S32x128 ![r, c] (prod (F := Ideal) (View.ld xb (Rect.unit ![om, 0] ![384, 2048] i1)) (View.ld w (Rect.unit ![0, 0] ![256, 2048] i2))) hs x
      = dotT xb ⟨1152 * t.val + (y 0).val, by have := idx2_lt0 y; omega⟩ (y 1) w := by
  have b0 : (x 0).val < 32 := idx2_lt0 x
  have b1 : (x 1).val < 128 := idx2_lt1 x
  have s0 : r + 32 ≤ 384 := hs.2 (0 : Fin 2)
  have s1 : c + 128 ≤ 256 := hs.2 (1 : Fin 2)
  refine (extractStridedSlice_apply _ _ _ _ (ix2 ⟨r + (x 0).val, by omega⟩ ⟨c + (x 1).val, by omega⟩) (fun d => match d with
    | ⟨0, _⟩ => rfl
    | ⟨1, _⟩ => rfl)).trans ?_
  rw [prod_apply]
  unfold dotT
  refine Finset.sum_congr rfl fun k _ => congrArg₂ _ ?_ ?_
  · exact View.ld_unit_apply_of xb _ _ i1 _ _ (fun d => match d with
      | ⟨0, _⟩ => by show 1152 * t.val + (y 0).val = om + (r + (x 0).val); omega
      | ⟨1, _⟩ => by show k.val = 0 + k.val; omega)
  · exact View.ld_unit_apply_of w _ _ i2 _ _ (fun d => match d with
      | ⟨0, _⟩ => by show (y 1).val = 0 + (c + (x 1).val); omega
      | ⟨1, _⟩ => by show k.val = 0 + k.val; omega)

/-- The scales loaded for a tile of tokens. -/
theorem ld_scale (t : Fin 4) (n c on : ℕ) (hon : on = 1152 * t.val + n) (hc : c % 128 = 0) (i1)
    (x : S32x128.Idx) (y : S1152x256.Idx) (h0 : (y 0).val = n + (x 0).val) (h1 : (y 1).val = c + (x 1).val) :
    View.ld xs (Rect.unit ![on, 0] ![32, 128] i1) x
      = xs (ix2 ⟨1152 * t.val + (y 0).val, by have := idx2_lt0 y; omega⟩ ⟨(y 1).val % 128, by omega⟩) := by
  have b1 : (x 1).val < 128 := idx2_lt1 x
  exact View.ld_unit_apply_of xs _ _ i1 _ _ (fun d => match d with
    | ⟨0, _⟩ => by show 1152 * t.val + (y 0).val = on + (x 0).val; omega
    | ⟨1, _⟩ => by show (y 1).val % 128 = 0 + (x 1).val; omega)

variable (t : Fin 4) (m r c n om on : ℕ) (hn : n = m + r) (hom : om = 1152 * t.val + m) (hon : on = 1152 * t.val + n) (hc : c % 128 = 0) (hb : n + 32 ≤ 1152)
  (inb : ∀ d, (![n, c] : Fin 2 → ℕ) d + (![32, 128] : Fin 2 → ℕ) d ≤ S1152x256.size d)
  (i1 : ∀ d, (![om, 0] : Fin 2 → ℕ) d + (![384, 2048] : Fin 2 → ℕ) d ≤ S4608x2048.size d)
  (i2 : ∀ d, (![on, 0] : Fin 2 → ℕ) d + (![32, 128] : Fin 2 → ℕ) d ≤ S4608x128.size d)
  (i3 : ∀ d, (![0, 0] : Fin 2 → ℕ) d + (![256, 2048] : Fin 2 → ℕ) d ≤ S256x2048.size d)
  (hs : S384x256.Slices ![r, c] S32x128)

include hn hom hon hc hb

/-- A store of the derivative by the gate's product writes a tile of it. -/
theorem tok_p : Is (e := .f32) (tokT xb xs wg wu pV t) 0 32 128 (⟨Rect.unit (s := S1152x256) ![n, c] ![32, 128] inb,
    tP (F := Ideal) (View.ld xs (Rect.unit ![on, 0] ![32, 128] i2))
      (extractStridedSlice (s := S384x256) S32x128 ![r, c] (prod (View.ld xb (Rect.unit ![om, 0] ![384, 2048] i1)) (View.ld wg (Rect.unit ![0, 0] ![256, 2048] i3))) hs)
      (extractStridedSlice (s := S384x256) S32x128 ![r, c] (prod (View.ld xb (Rect.unit ![om, 0] ![384, 2048] i1)) (View.ld wu (Rect.unit ![0, 0] ![256, 2048] i3))) hs)⟩
      : View.Piece (Elt Ideal) S1152x256 .f32) (n, c) := by
  subst hn
  refine Is.unit (by omega) hb fun x y h0 h1 => ?_
  rw [tP_apply, ld_scale xs t _ c on hon hc i2 x y h0 h1, slice_prod xb wg t m r c om hom i1 i3 hs x y h0 h1, slice_prod xb wu t m r c om hom i1 i3 hs x y h0 h1]
  rfl

/-- A store of the derivative by the up projection's product writes a tile of it. -/
theorem tok_q : Is (e := .f32) (tokT xb xs wg wu (fun s g _ => qV s g) t) 0 32 128 (⟨Rect.unit (s := S1152x256) ![n, c] ![32, 128] inb,
    tQ (F := Ideal) (View.ld xs (Rect.unit ![on, 0] ![32, 128] i2))
      (extractStridedSlice (s := S384x256) S32x128 ![r, c] (prod (View.ld xb (Rect.unit ![om, 0] ![384, 2048] i1)) (View.ld wg (Rect.unit ![0, 0] ![256, 2048] i3))) hs)⟩
      : View.Piece (Elt Ideal) S1152x256 .f32) (n, c) := by
  subst hn
  refine Is.unit (by omega) hb fun x y h0 h1 => ?_
  rw [tQ_apply, ld_scale xs t _ c on hon hc i2 x y h0 h1, slice_prod xb wg t m r c om hom i1 i3 hs x y h0 h1]
  rfl

/-- A store of the activation writes a tile of it. -/
theorem tok_a : Is (e := .f32) (tokT xb xs wg wu aV t) 0 32 128 (⟨Rect.unit (s := S1152x256) ![n, c] ![32, 128] inb,
    tA (F := Ideal) (View.ld xs (Rect.unit ![on, 0] ![32, 128] i2))
      (extractStridedSlice (s := S384x256) S32x128 ![r, c] (prod (View.ld xb (Rect.unit ![om, 0] ![384, 2048] i1)) (View.ld wg (Rect.unit ![0, 0] ![256, 2048] i3))) hs)
      (extractStridedSlice (s := S384x256) S32x128 ![r, c] (prod (View.ld xb (Rect.unit ![om, 0] ![384, 2048] i1)) (View.ld wu (Rect.unit ![0, 0] ![256, 2048] i3))) hs)⟩
      : View.Piece (Elt Ideal) S1152x256 .f32) (n, c) := by
  subst hn
  refine Is.unit (by omega) hb fun x y h0 h1 => ?_
  rw [tA_apply, ld_scale xs t _ c on hon hc i2 x y h0 h1, slice_prod xb wg t m r c om hom i1 i3 hs x y h0 h1, slice_prod xb wu t m r c om hom i1 i3 hs x y h0 h1]
  rfl

/-- A store of the narrowed activation writes a tile of it. -/
theorem tok_ab : Is (e := .bf16) (tokT xb xs wg wu aV t) 0 32 128 (⟨Rect.unit (s := S1152x256) ![n, c] ![32, 128] inb,
    tAb (F := Ideal) (View.ld xs (Rect.unit ![on, 0] ![32, 128] i2))
      (extractStridedSlice (s := S384x256) S32x128 ![r, c] (prod (View.ld xb (Rect.unit ![om, 0] ![384, 2048] i1)) (View.ld wg (Rect.unit ![0, 0] ![256, 2048] i3))) hs)
      (extractStridedSlice (s := S384x256) S32x128 ![r, c] (prod (View.ld xb (Rect.unit ![om, 0] ![384, 2048] i1)) (View.ld wu (Rect.unit ![0, 0] ![256, 2048] i3))) hs)⟩
      : View.Piece (Elt Ideal) S1152x256 .bf16) (n, c) := by
  subst hn
  refine Is.unit (by omega) hb fun x y h0 h1 => ?_
  rw [tAb_apply, ld_scale xs t _ c on hon hc i2 x y h0 h1, slice_prod xb wg t m r c om hom i1 i3 hs x y h0 h1, slice_prod xb wu t m r c om hom i1 i3 hs x y h0 h1]
  rfl

end Tok

/-- A table of the strip turned. -/
def turnT (T : S1152x256.Idx → EReal) : S256x1152.Idx → EReal := fun y => T (ix2 ⟨(y 1).val, idx2_lt1 y⟩ ⟨(y 0).val, idx2_lt0 y⟩)

/-- A store of the turned activation writes a tile of it, once the tiles it reads have been stored. -/
theorem turn_piece {sig : RefSig} {κ : Kind} {sp : Space} (v : View sig κ sp S1152x256 .bf16) (T : S1152x256.Idx → EReal)
    {L : List (View.Piece (Elt Ideal) S1152x256 .bf16)} {Q : List (ℕ × ℕ)} (hL : List.Forall₂ (Is (e := .bf16) T 0 32 128) L Q)
    (m : ℕ) (hm : m + 384 ≤ 1152) (hQ : ∀ z0 z1, m ≤ z0 → z0 < m + 384 → z1 < 256 → ∃ q ∈ Q, (q.1 ≤ z0 ∧ z0 < q.1 + 32) ∧ (q.2 ≤ z1 ∧ z1 < q.2 + 128))
    (inb : ∀ d, (![0, m] : Fin 2 → ℕ) d + (![256, 384] : Fin 2 → ℕ) d ≤ S256x1152.size d) (i1 h1' h2') :
    Is (e := .bf16) (turnT T) 0 256 384 (⟨Rect.unit (s := S256x1152) ![0, m] ![256, 384] inb,
      transpose S256x384 [1, 0] (shapeCast (s := S384x256) S384x256 (v.readCov (Val := Elt Ideal) L (Rect.unit (s := S1152x256) ![m, 0] ![384, 256] i1).toLoadRect) h1') h2'⟩
        : View.Piece (Elt Ideal) S256x1152 .bf16) (0, m) := by
  refine Is.unit (by omega) (by omega) fun x y h0 h1 => ?_
  have b0 : (x 0).val < 256 := idx2_lt0 x
  have b1 : (x 1).val < 384 := idx2_lt1 x
  rw [shapeCast_self, transpose_apply _ _ h2' x (ix2 ⟨(x 1).val, b1⟩ ⟨(x 0).val, b0⟩) (fun d => match d with
    | ⟨0, _⟩ => rfl
    | ⟨1, _⟩ => rfl)]
  unfold turnT
  exact read_in v _ hL _ (ix2 ⟨(y 1).val, idx2_lt1 y⟩ ⟨(y 0).val, idx2_lt0 y⟩)
    (by show m + 1 * (x 1).val = 0 + (y 1).val; omega) (by show 0 + 1 * (x 0).val = (y 0).val; omega)
    (hQ (y 1).val (y 0).val (by omega) (by omega) (by omega))

/-! ## The down projection's weights and regularisers -/

section Down

variable (x8 : Vec Ideal S512x128 .i8) (x9 : Vec Ideal S512x34 .f32) (x10 : Vec Ideal S512x256 .bf16) (k0 : ℕ)

/-- The weights of 512 rows and 2 groups, the first of them group `k0`. -/
def wdT : S512x256.Idx → EReal := fun y =>
  wV (nib (x8 (ix2 (y 0) ⟨(y 1).val / 128 * 64 + (y 1).val % 64, by have := idx2_lt1 y; omega⟩)) (64 ≤ (y 1).val % 128))
    (x9 (ix2 (y 0) ⟨(k0 + (y 1).val / 128) % 34, by omega⟩)) (x10 y)

/-- The regularisers of these rows and groups, in the groups' columns of what was there. -/
def rdT (old : Vec Ideal S2048x34 .f32) (t : Fin 4) : S512x34.Idx → EReal := fun y =>
  if (y 1).val = k0 + 1 then ∑ l : Fin 128, rV (x10 (ix2 (y 0) ⟨128 + l.val, by omega⟩))
  else if (y 1).val = k0 then ∑ l : Fin 128, rV (x10 (ix2 (y 0) ⟨l.val, by omega⟩))
  else old (ix2 ⟨512 * t.val + (y 0).val, by have := idx2_lt0 y; omega⟩ (y 1))

/-- A store of the down weights from a first tile writes the left half of its block. -/
theorem wdA (w : BitVec 32) (hw : w = BitVec.ofNat 32 (k0 + 0)) (hk : k0 + 1 < 34) (r : ℕ) (hr : r + 32 ≤ 512) (inb i1 i2) :
    Is (e := .bf16) (wdT x8 x9 x10 k0) 0 32 128 (⟨Rect.unit (s := S512x256) ![r, 0] ![32, 128] inb,
      softW (F := Ideal) (nibA (View.ld x8 (Rect.unit ![r, 0] ![32, 128] i1))) (col34 w (View.ld x9 (Rect.unit ![r, 0] ![32, 34] i2)))
        (View.ld x10 (Rect.unit ![r, 0] ![32, 128] inb))⟩ : View.Piece (Elt Ideal) S512x256 .bf16) (r, 0) := by
  subst hw
  refine Is.unit (by omega) hr fun x y h0 h1 => ?_
  have b0 : (x 0).val < 32 := idx2_lt0 x
  have b1 : (x 1).val < 128 := idx2_lt1 x
  rw [softW_apply, nibA_apply, col34_apply _ (by omega)]
  unfold wdT
  refine wV_congr (nib_congr (View.ld_unit_apply_of x8 _ _ i1 _ _ (fun d => match d with
      | ⟨0, _⟩ => h0
      | ⟨1, _⟩ => by show (y 1).val / 128 * 64 + (y 1).val % 64 = 0 + (x 1).val % 64; rw [h1]; omega))
      (show 64 ≤ (x 1).val ↔ 64 ≤ (y 1).val % 128 by rw [h1]; omega))
    (View.ld_unit_apply_of x9 _ _ i2 _ _ (fun d => match d with
      | ⟨0, _⟩ => h0
      | ⟨1, _⟩ => by show (k0 + (y 1).val / 128) % 34 = 0 + (k0 + 0); rw [h1]; omega))
    (View.ld_unit_apply_of x10 _ _ inb _ y (fun d => match d with
      | ⟨0, _⟩ => h0
      | ⟨1, _⟩ => h1))

/-- A store of the down weights from a second tile writes the right half of its block. -/
theorem wdB (w : BitVec 32) (hw : w = BitVec.ofNat 32 (k0 + 1)) (hk : k0 + 1 < 34) (r : ℕ) (hr : r + 32 ≤ 512) (inb i1 i2) :
    Is (e := .bf16) (wdT x8 x9 x10 k0) 0 32 128 (⟨Rect.unit (s := S512x256) ![r, 128] ![32, 128] inb,
      softW (F := Ideal) (nibB (View.ld x8 (Rect.unit ![r, 0] ![32, 128] i1))) (col34 w (View.ld x9 (Rect.unit ![r, 0] ![32, 34] i2)))
        (View.ld x10 (Rect.unit ![r, 128] ![32, 128] inb))⟩ : View.Piece (Elt Ideal) S512x256 .bf16) (r, 128) := by
  subst hw
  refine Is.unit (by omega) hr fun x y h0 h1 => ?_
  have b0 : (x 0).val < 32 := idx2_lt0 x
  have b1 : (x 1).val < 128 := idx2_lt1 x
  rw [softW_apply, nibB_apply, col34_apply _ (by omega)]
  unfold wdT
  refine wV_congr (nib_congr (View.ld_unit_apply_of x8 _ _ i1 _ _ (fun d => match d with
      | ⟨0, _⟩ => h0
      | ⟨1, _⟩ => by show (y 1).val / 128 * 64 + (y 1).val % 64 = 0 + (64 + (x 1).val % 64); rw [h1]; omega))
      (show 64 ≤ (x 1).val ↔ 64 ≤ (y 1).val % 128 by rw [h1]; omega))
    (View.ld_unit_apply_of x9 _ _ i2 _ _ (fun d => match d with
      | ⟨0, _⟩ => h0
      | ⟨1, _⟩ => by show (k0 + (y 1).val / 128) % 34 = 0 + (k0 + 1); rw [h1]; omega))
    (View.ld_unit_apply_of x10 _ _ inb _ y (fun d => match d with
      | ⟨0, _⟩ => h0
      | ⟨1, _⟩ => h1))

/-- A store of the down regularisers writes two columns over the old ones. -/
theorem rd_piece (old : Vec Ideal S2048x34 .f32) (t : Fin 4) (w0 w1 : BitVec 32) (hw0 : w0 = BitVec.ofNat 32 (k0 + 0)) (hw1 : w1 = BitVec.ofNat 32 (k0 + 1))
    (hk : k0 + 1 < 34) (o r : ℕ) (ho : o = 512 * t.val + r) (hr : r + 32 ≤ 512) (inb i0 i1 hsc) :
    Is (e := .f32) (rdT x10 k0 old t) (512 * t.val) 32 34 (⟨Rect.unit (s := S2048x34) ![o, 0] ![32, 34] inb,
      ins34 (F := Ideal) w1 (softR (View.ld x10 (Rect.unit ![r, 128] ![32, 128] i1)))
        (ins34 w0 (softR (View.ld x10 (Rect.unit ![r, 0] ![32, 128] i0))) (shapeCast (s := S32x34) S32x34 (View.ld old (Rect.unit ![o, 0] ![32, 34] inb)) hsc))⟩
        : View.Piece (Elt Ideal) S2048x34 .f32) (r, 0) := by
  subst hw0 hw1
  refine Is.unit ho hr fun x y h0 h1 => ?_
  have b1 : (x 1).val < 34 := idx2_lt1 x
  replace h1 : (y 1).val = (x 1).val := by omega
  rw [ins34_apply _ (by omega), ins34_apply _ (by omega), shapeCast_self]
  unfold rdT
  rw [h1]
  by_cases e1 : (x 1).val = k0 + 1
  · rw [if_pos e1, if_pos e1, softR_apply]
    exact Finset.sum_congr rfl fun l _ => congrArg rV (View.ld_unit_apply_of x10 _ _ i1 _ _ (fun d => match d with
      | ⟨0, _⟩ => h0
      | ⟨1, _⟩ => rfl))
  rw [if_neg e1, if_neg e1]
  by_cases e0 : (x 1).val = k0
  · rw [if_pos e0, if_pos (show (x 1).val = k0 + 0 from e0), softR_apply]
    exact Finset.sum_congr rfl fun l _ => congrArg rV (View.ld_unit_apply_of x10 _ _ i0 _ _ (fun d => match d with
      | ⟨0, _⟩ => h0
      | ⟨1, _⟩ => by show l.val = 0 + l.val; omega))
  rw [if_neg e0, if_neg (show ¬(x 1).val = k0 + 0 from e0)]
  exact View.ld_unit_apply_of old _ _ inb _ _ (fun d => match d with
    | ⟨0, _⟩ => by show 512 * t.val + (y 0).val = o + (x 0).val; omega
    | ⟨1, _⟩ => by show (y 1).val = 0 + (x 1).val; omega)

end Down

/-! ## The words of rows and groups -/

/-- The first row of a strip of tokens. -/
theorem row1152 : ∀ t : Fin 4, BitVec.toNat (Scalar.indexCast (Scalar.muli (BitVec.ofNat 32 t.val) 1152#32)) = 1152 * t.val + 0 := by decide +kernel
/-- The rows of the weight tiles of a window. -/
theorem row64 : ∀ t : Fin 4, ∀ r : Fin 2, BitVec.toNat (Scalar.indexCast (Scalar.addi (Scalar.muli (BitVec.ofNat 32 t.val) 64#32) (BitVec.ofNat 32 (32 * r.val)))) = 64 * t.val + 32 * r.val := by decide +kernel
/-- The rows of the down regularisers. -/
theorem row512 : ∀ t : Fin 4, ∀ r : Fin 16, BitVec.toNat (Scalar.indexCast (Scalar.addi (Scalar.muli (BitVec.ofNat 32 t.val) 512#32) (BitVec.ofNat 32 (32 * r.val)))) = 512 * t.val + 32 * r.val := by decide +kernel
/-- The rows at which the tokens of a product are loaded. -/
theorem rowM : ∀ t : Fin 4, ∀ m : Fin 3, BitVec.toNat (Scalar.indexCast (Scalar.addi (Scalar.muli (BitVec.ofNat 32 t.val) 1152#32) (BitVec.ofNat 32 (384 * m.val)))) = 1152 * t.val + 384 * m.val := by decide +kernel
/-- The rows at which the scales of a tile are loaded. -/
theorem rowN : ∀ t : Fin 4, ∀ m : Fin 3, ∀ r : Fin 12, BitVec.toNat (Scalar.indexCast (Scalar.addi (Scalar.addi (Scalar.muli (BitVec.ofNat 32 t.val) 1152#32) (BitVec.ofNat 32 (384 * m.val))) (BitVec.ofNat 32 (32 * r.val)))) = 1152 * t.val + (384 * m.val + 32 * r.val) := by decide +kernel
/-- The number of the first group of down weights at a point. -/
theorem wordK : ∀ f : Fin 18, 0 < f.val → ∀ j : Fin 2, Scalar.addi (Scalar.muli 2#32 (Scalar.subi (BitVec.ofNat 32 f.val) 1#32)) (BitVec.ofNat 32 j.val) = BitVec.ofNat 32 (2 * (f.val - 1) + j.val) := by decide +kernel

end Cert.FwdIdeal.Tile

end
-- ==== Proof.FwdIdeal.Spec.lean ====
/-
  The forward kernel's results over the extended reals, as functions of its arguments: the softened weights, their
  regularisers, the products of the tokens with them, and the functions of the products.
-/
module

public import proofs.«01_k».proof.Proof.FwdIdeal.Tables

@[expose] public section

noncomputable section

namespace Cert.FwdIdeal.Spec

open Idealize.ShloMosaic hiding ix2
open Cert.FwdIdeal Cert.FwdIdeal.Tile Idealize.ShloMosaic.TcCoe Idealize.SL.Sem
open Idealize.ShloMosaic.ValueIdx

/-- The softened weights of the gate or of the up projection. -/
def W (c : Vec Ideal S4352x1024 .i8) (s : Vec Ideal S4352x16 .f32) (v : Vec Ideal S4352x2048 .bf16) : S4352x2048.Idx → EReal := fun y =>
  wV (nib (c (ix2 (y 0) ⟨(y 1).val / 128 * 64 + (y 1).val % 64, by have := idx2_lt1 y; omega⟩)) (64 ≤ (y 1).val % 128))
    (s (ix2 (y 0) ⟨(y 1).val / 128, by have := idx2_lt1 y; omega⟩)) (v y)

/-- Their regularisers, group by group. -/
def R (v : Vec Ideal S4352x2048 .bf16) : S4352x16.Idx → EReal := fun y =>
  ∑ l : Fin 128, rV (v (ix2 (y 0) ⟨128 * (y 1).val + l.val, by have := idx2_lt1 y; omega⟩))

/-- The softened weights of the down projection. -/
def WD (c : Vec Ideal S2048x2176 .i8) (s : Vec Ideal S2048x34 .f32) (v : Vec Ideal S2048x4352 .bf16) : S2048x4352.Idx → EReal := fun y =>
  wV (nib (c (ix2 (y 0) ⟨(y 1).val / 128 * 64 + (y 1).val % 64, by have := idx2_lt1 y; omega⟩)) (64 ≤ (y 1).val % 128))
    (s (ix2 (y 0) ⟨(y 1).val / 128, by have := idx2_lt1 y; omega⟩)) (v y)

/-- Their regularisers. -/
def RD (v : Vec Ideal S2048x4352 .bf16) : S2048x34.Idx → EReal := fun y =>
  ∑ l : Fin 128, rV (v (ix2 (y 0) ⟨128 * (y 1).val + l.val, by have := idx2_lt1 y; omega⟩))

/-- The product of a token's row with a weight's row. -/
def dot (x : Vec Ideal S4608x2048 .fp8e4m3) (w : S4352x2048.Idx → EReal) (t : Fin 4608) (f : Fin 4352) : EReal :=
  ∑ k : Fin 2048, x (ix2 t k) * w (ix2 f k)

/-- A token's scale. -/
def scale (xs : Vec Ideal S6x768 .f32) (t : Fin 4608) : EReal :=
  xs (ix2 ⟨t.val / 768, by omega⟩ ⟨t.val % 768, by omega⟩)

/-- A function of the scale and the two products, at every token and feature. -/
def Tok (φ : EReal → EReal → EReal → EReal) (x : Vec Ideal S4608x2048 .fp8e4m3) (xs : Vec Ideal S6x768 .f32) (wg wu : S4352x2048.Idx → EReal) :
    S4608x4352.Idx → EReal := fun y => φ (scale xs (y 0)) (dot x wg (y 0) (y 1)) (dot x wu (y 0) (y 1))

/-- The same, turned. -/
def TokT (φ : EReal → EReal → EReal → EReal) (x : Vec Ideal S4608x2048 .fp8e4m3) (xs : Vec Ideal S6x768 .f32) (wg wu : S4352x2048.Idx → EReal) :
    S4352x4608.Idx → EReal := fun y => φ (scale xs (y 1)) (dot x wg (y 1) (y 0)) (dot x wu (y 1) (y 0))

end Cert.FwdIdeal.Spec

end
-- ==== Proof.FwdIdeal.Orders.lean ====
/-
  The orders in which a point stores its tiles, and the words of their rows in closed form.
-/
module

public import proofs.«01_k».proof.Proof.FwdIdeal.Tables

@[expose] public section

set_option maxRecDepth 16384

noncomputable section

namespace Cert.FwdIdeal.Gen

open Idealize.ShloMosaic hiding ix2
open Idealize.ShloMosaic.TcCoe Idealize.SL.Sem Cert.FwdIdeal Cert.FwdIdeal.Tile
open Idealize.ShloMosaic.ValueIdx

/-- The weight tiles of a window. -/
def QW : List (ℕ × ℕ) := [(32, 1920), (32, 1792), (32, 1664), (32, 1536), (32, 1408), (32, 1280), (32, 1152), (32, 1024), (32, 896), (32, 768), (32, 640), (32, 512), (32, 384), (32, 256), (32, 128), (32, 0), (0, 1920), (0, 1792), (0, 1664), (0, 1536), (0, 1408), (0, 1280), (0, 1152), (0, 1024), (0, 896), (0, 768), (0, 640), (0, 512), (0, 384), (0, 256), (0, 128), (0, 0)]
/-- The regulariser tiles of a window. -/
def QR : List (ℕ × ℕ) := [(32, 0), (0, 0)]
/-- The scale tiles. -/
def QS : List (ℕ × ℕ) := [(4480, 0), (4352, 0), (4224, 0), (4096, 0), (3968, 0), (3840, 0), (3712, 0), (3584, 0), (3456, 0), (3328, 0), (3200, 0), (3072, 0), (2944, 0), (2816, 0), (2688, 0), (2560, 0), (2432, 0), (2304, 0), (2176, 0), (2048, 0), (1920, 0), (1792, 0), (1664, 0), (1536, 0), (1408, 0), (1280, 0), (1152, 0), (1024, 0), (896, 0), (768, 0), (640, 0), (512, 0), (384, 0), (256, 0), (128, 0), (0, 0)]
/-- The tiles of a strip of tokens. -/
def QT : List (ℕ × ℕ) := [(1120, 128), (1120, 0), (1088, 128), (1088, 0), (1056, 128), (1056, 0), (1024, 128), (1024, 0), (992, 128), (992, 0), (960, 128), (960, 0), (928, 128), (928, 0), (896, 128), (896, 0), (864, 128), (864, 0), (832, 128), (832, 0), (800, 128), (800, 0), (768, 128), (768, 0), (736, 128), (736, 0), (704, 128), (704, 0), (672, 128), (672, 0), (640, 128), (640, 0), (608, 128), (608, 0), (576, 128), (576, 0), (544, 128), (544, 0), (512, 128), (512, 0), (480, 128), (480, 0), (448, 128), (448, 0), (416, 128), (416, 0), (384, 128), (384, 0), (352, 128), (352, 0), (320, 128), (320, 0), (288, 128), (288, 0), (256, 128), (256, 0), (224, 128), (224, 0), (192, 128), (192, 0), (160, 128), (160, 0), (128, 128), (128, 0), (96, 128), (96, 0), (64, 128), (64, 0), (32, 128), (32, 0), (0, 128), (0, 0)]
/-- The turned tiles. -/
def QAT : List (ℕ × ℕ) := [(0, 768), (0, 384), (0, 0)]
/-- The down weight tiles. -/
def QD : List (ℕ × ℕ) := [(480, 128), (480, 0), (448, 128), (448, 0), (416, 128), (416, 0), (384, 128), (384, 0), (352, 128), (352, 0), (320, 128), (320, 0), (288, 128), (288, 0), (256, 128), (256, 0), (224, 128), (224, 0), (192, 128), (192, 0), (160, 128), (160, 0), (128, 128), (128, 0), (96, 128), (96, 0), (64, 128), (64, 0), (32, 128), (32, 0), (0, 128), (0, 0)]
/-- The down regulariser tiles. -/
def QRD : List (ℕ × ℕ) := [(480, 0), (448, 0), (416, 0), (384, 0), (352, 0), (320, 0), (288, 0), (256, 0), (224, 0), (192, 0), (160, 0), (128, 0), (96, 0), (64, 0), (32, 0), (0, 0)]
/-- Row 0 of the strip. -/
theorem r64_0 (t : Fin 4) : BitVec.toNat (Scalar.indexCast (Scalar.addi (Scalar.muli (BitVec.ofNat 32 t.val) 64#32) 0#32)) = 64 * t.val + 0 := row64 t 0
/-- Row 32 of the strip. -/
theorem r64_32 (t : Fin 4) : BitVec.toNat (Scalar.indexCast (Scalar.addi (Scalar.muli (BitVec.ofNat 32 t.val) 64#32) 32#32)) = 64 * t.val + 32 := row64 t 1
/-- Row 0 of the strip. -/
theorem r512_0 (t : Fin 4) : BitVec.toNat (Scalar.indexCast (Scalar.addi (Scalar.muli (BitVec.ofNat 32 t.val) 512#32) 0#32)) = 512 * t.val + 0 := row512 t 0
/-- Row 32 of the strip. -/
theorem r512_32 (t : Fin 4) : BitVec.toNat (Scalar.indexCast (Scalar.addi (Scalar.muli (BitVec.ofNat 32 t.val) 512#32) 32#32)) = 512 * t.val + 32 := row512 t 1
/-- Row 64 of the strip. -/
theorem r512_64 (t : Fin 4) : BitVec.toNat (Scalar.indexCast (Scalar.addi (Scalar.muli (BitVec.ofNat 32 t.val) 512#32) 64#32)) = 512 * t.val + 64 := row512 t 2
/-- Row 96 of the strip. -/
theorem r512_96 (t : Fin 4) : BitVec.toNat (Scalar.indexCast (Scalar.addi (Scalar.muli (BitVec.ofNat 32 t.val) 512#32) 96#32)) = 512 * t.val + 96 := row512 t 3
/-- Row 128 of the strip. -/
theorem r512_128 (t : Fin 4) : BitVec.toNat (Scalar.indexCast (Scalar.addi (Scalar.muli (BitVec.ofNat 32 t.val) 512#32) 128#32)) = 512 * t.val + 128 := row512 t 4
/-- Row 160 of the strip. -/
theorem r512_160 (t : Fin 4) : BitVec.toNat (Scalar.indexCast (Scalar.addi (Scalar.muli (BitVec.ofNat 32 t.val) 512#32) 160#32)) = 512 * t.val + 160 := row512 t 5
/-- Row 192 of the strip. -/
theorem r512_192 (t : Fin 4) : BitVec.toNat (Scalar.indexCast (Scalar.addi (Scalar.muli (BitVec.ofNat 32 t.val) 512#32) 192#32)) = 512 * t.val + 192 := row512 t 6
/-- Row 224 of the strip. -/
theorem r512_224 (t : Fin 4) : BitVec.toNat (Scalar.indexCast (Scalar.addi (Scalar.muli (BitVec.ofNat 32 t.val) 512#32) 224#32)) = 512 * t.val + 224 := row512 t 7
/-- Row 256 of the strip. -/
theorem r512_256 (t : Fin 4) : BitVec.toNat (Scalar.indexCast (Scalar.addi (Scalar.muli (BitVec.ofNat 32 t.val) 512#32) 256#32)) = 512 * t.val + 256 := row512 t 8
/-- Row 288 of the strip. -/
theorem r512_288 (t : Fin 4) : BitVec.toNat (Scalar.indexCast (Scalar.addi (Scalar.muli (BitVec.ofNat 32 t.val) 512#32) 288#32)) = 512 * t.val + 288 := row512 t 9
/-- Row 320 of the strip. -/
theorem r512_320 (t : Fin 4) : BitVec.toNat (Scalar.indexCast (Scalar.addi (Scalar.muli (BitVec.ofNat 32 t.val) 512#32) 320#32)) = 512 * t.val + 320 := row512 t 10
/-- Row 352 of the strip. -/
theorem r512_352 (t : Fin 4) : BitVec.toNat (Scalar.indexCast (Scalar.addi (Scalar.muli (BitVec.ofNat 32 t.val) 512#32) 352#32)) = 512 * t.val + 352 := row512 t 11
/-- Row 384 of the strip. -/
theorem r512_384 (t : Fin 4) : BitVec.toNat (Scalar.indexCast (Scalar.addi (Scalar.muli (BitVec.ofNat 32 t.val) 512#32) 384#32)) = 512 * t.val + 384 := row512 t 12
/-- Row 416 of the strip. -/
theorem r512_416 (t : Fin 4) : BitVec.toNat (Scalar.indexCast (Scalar.addi (Scalar.muli (BitVec.ofNat 32 t.val) 512#32) 416#32)) = 512 * t.val + 416 := row512 t 13
/-- Row 448 of the strip. -/
theorem r512_448 (t : Fin 4) : BitVec.toNat (Scalar.indexCast (Scalar.addi (Scalar.muli (BitVec.ofNat 32 t.val) 512#32) 448#32)) = 512 * t.val + 448 := row512 t 14
/-- Row 480 of the strip. -/
theorem r512_480 (t : Fin 4) : BitVec.toNat (Scalar.indexCast (Scalar.addi (Scalar.muli (BitVec.ofNat 32 t.val) 512#32) 480#32)) = 512 * t.val + 480 := row512 t 15
/-- Row 0 of the strip. -/
theorem rM_0 (t : Fin 4) : BitVec.toNat (Scalar.indexCast (Scalar.addi (Scalar.muli (BitVec.ofNat 32 t.val) 1152#32) 0#32)) = 1152 * t.val + 0 := rowM t 0
/-- Row 0 of the strip. -/
theorem rN_0 (t : Fin 4) : BitVec.toNat (Scalar.indexCast (Scalar.addi (Scalar.addi (Scalar.muli (BitVec.ofNat 32 t.val) 1152#32) 0#32) 0#32)) = 1152 * t.val + 0 := rowN t 0 0
/-- Row 32 of the strip. -/
theorem rN_32 (t : Fin 4) : BitVec.toNat (Scalar.indexCast (Scalar.addi (Scalar.addi (Scalar.muli (BitVec.ofNat 32 t.val) 1152#32) 0#32) 32#32)) = 1152 * t.val + 32 := rowN t 0 1
/-- Row 64 of the strip. -/
theorem rN_64 (t : Fin 4) : BitVec.toNat (Scalar.indexCast (Scalar.addi (Scalar.addi (Scalar.muli (BitVec.ofNat 32 t.val) 1152#32) 0#32) 64#32)) = 1152 * t.val + 64 := rowN t 0 2
/-- Row 96 of the strip. -/
theorem rN_96 (t : Fin 4) : BitVec.toNat (Scalar.indexCast (Scalar.addi (Scalar.addi (Scalar.muli (BitVec.ofNat 32 t.val) 1152#32) 0#32) 96#32)) = 1152 * t.val + 96 := rowN t 0 3
/-- Row 128 of the strip. -/
theorem rN_128 (t : Fin 4) : BitVec.toNat (Scalar.indexCast (Scalar.addi (Scalar.addi (Scalar.muli (BitVec.ofNat 32 t.val) 1152#32) 0#32) 128#32)) = 1152 * t.val + 128 := rowN t 0 4
/-- Row 160 of the strip. -/
theorem rN_160 (t : Fin 4) : BitVec.toNat (Scalar.indexCast (Scalar.addi (Scalar.addi (Scalar.muli (BitVec.ofNat 32 t.val) 1152#32) 0#32) 160#32)) = 1152 * t.val + 160 := rowN t 0 5
/-- Row 192 of the strip. -/
theorem rN_192 (t : Fin 4) : BitVec.toNat (Scalar.indexCast (Scalar.addi (Scalar.addi (Scalar.muli (BitVec.ofNat 32 t.val) 1152#32) 0#32) 192#32)) = 1152 * t.val + 192 := rowN t 0 6
/-- Row 224 of the strip. -/
theorem rN_224 (t : Fin 4) : BitVec.toNat (Scalar.indexCast (Scalar.addi (Scalar.addi (Scalar.muli (BitVec.ofNat 32 t.val) 1152#32) 0#32) 224#32)) = 1152 * t.val + 224 := rowN t 0 7
/-- Row 256 of the strip. -/
theorem rN_256 (t : Fin 4) : BitVec.toNat (Scalar.indexCast (Scalar.addi (Scalar.addi (Scalar.muli (BitVec.ofNat 32 t.val) 1152#32) 0#32) 256#32)) = 1152 * t.val + 256 := rowN t 0 8
/-- Row 288 of the strip. -/
theorem rN_288 (t : Fin 4) : BitVec.toNat (Scalar.indexCast (Scalar.addi (Scalar.addi (Scalar.muli (BitVec.ofNat 32 t.val) 1152#32) 0#32) 288#32)) = 1152 * t.val + 288 := rowN t 0 9
/-- Row 320 of the strip. -/
theorem rN_320 (t : Fin 4) : BitVec.toNat (Scalar.indexCast (Scalar.addi (Scalar.addi (Scalar.muli (BitVec.ofNat 32 t.val) 1152#32) 0#32) 320#32)) = 1152 * t.val + 320 := rowN t 0 10
/-- Row 352 of the strip. -/
theorem rN_352 (t : Fin 4) : BitVec.toNat (Scalar.indexCast (Scalar.addi (Scalar.addi (Scalar.muli (BitVec.ofNat 32 t.val) 1152#32) 0#32) 352#32)) = 1152 * t.val + 352 := rowN t 0 11
/-- Row 384 of the strip. -/
theorem rM_384 (t : Fin 4) : BitVec.toNat (Scalar.indexCast (Scalar.addi (Scalar.muli (BitVec.ofNat 32 t.val) 1152#32) 384#32)) = 1152 * t.val + 384 := rowM t 1
/-- Row 384 of the strip. -/
theorem rN_384 (t : Fin 4) : BitVec.toNat (Scalar.indexCast (Scalar.addi (Scalar.addi (Scalar.muli (BitVec.ofNat 32 t.val) 1152#32) 384#32) 0#32)) = 1152 * t.val + 384 := rowN t 1 0
/-- Row 416 of the strip. -/
theorem rN_416 (t : Fin 4) : BitVec.toNat (Scalar.indexCast (Scalar.addi (Scalar.addi (Scalar.muli (BitVec.ofNat 32 t.val) 1152#32) 384#32) 32#32)) = 1152 * t.val + 416 := rowN t 1 1
/-- Row 448 of the strip. -/
theorem rN_448 (t : Fin 4) : BitVec.toNat (Scalar.indexCast (Scalar.addi (Scalar.addi (Scalar.muli (BitVec.ofNat 32 t.val) 1152#32) 384#32) 64#32)) = 1152 * t.val + 448 := rowN t 1 2
/-- Row 480 of the strip. -/
theorem rN_480 (t : Fin 4) : BitVec.toNat (Scalar.indexCast (Scalar.addi (Scalar.addi (Scalar.muli (BitVec.ofNat 32 t.val) 1152#32) 384#32) 96#32)) = 1152 * t.val + 480 := rowN t 1 3
/-- Row 512 of the strip. -/
theorem rN_512 (t : Fin 4) : BitVec.toNat (Scalar.indexCast (Scalar.addi (Scalar.addi (Scalar.muli (BitVec.ofNat 32 t.val) 1152#32) 384#32) 128#32)) = 1152 * t.val + 512 := rowN t 1 4
/-- Row 544 of the strip. -/
theorem rN_544 (t : Fin 4) : BitVec.toNat (Scalar.indexCast (Scalar.addi (Scalar.addi (Scalar.muli (BitVec.ofNat 32 t.val) 1152#32) 384#32) 160#32)) = 1152 * t.val + 544 := rowN t 1 5
/-- Row 576 of the strip. -/
theorem rN_576 (t : Fin 4) : BitVec.toNat (Scalar.indexCast (Scalar.addi (Scalar.addi (Scalar.muli (BitVec.ofNat 32 t.val) 1152#32) 384#32) 192#32)) = 1152 * t.val + 576 := rowN t 1 6
/-- Row 608 of the strip. -/
theorem rN_608 (t : Fin 4) : BitVec.toNat (Scalar.indexCast (Scalar.addi (Scalar.addi (Scalar.muli (BitVec.ofNat 32 t.val) 1152#32) 384#32) 224#32)) = 1152 * t.val + 608 := rowN t 1 7
/-- Row 640 of the strip. -/
theorem rN_640 (t : Fin 4) : BitVec.toNat (Scalar.indexCast (Scalar.addi (Scalar.addi (Scalar.muli (BitVec.ofNat 32 t.val) 1152#32) 384#32) 256#32)) = 1152 * t.val + 640 := rowN t 1 8
/-- Row 672 of the strip. -/
theorem rN_672 (t : Fin 4) : BitVec.toNat (Scalar.indexCast (Scalar.addi (Scalar.addi (Scalar.muli (BitVec.ofNat 32 t.val) 1152#32) 384#32) 288#32)) = 1152 * t.val + 672 := rowN t 1 9
/-- Row 704 of the strip. -/
theorem rN_704 (t : Fin 4) : BitVec.toNat (Scalar.indexCast (Scalar.addi (Scalar.addi (Scalar.muli (BitVec.ofNat 32 t.val) 1152#32) 384#32) 320#32)) = 1152 * t.val + 704 := rowN t 1 10
/-- Row 736 of the strip. -/
theorem rN_736 (t : Fin 4) : BitVec.toNat (Scalar.indexCast (Scalar.addi (Scalar.addi (Scalar.muli (BitVec.ofNat 32 t.val) 1152#32) 384#32) 352#32)) = 1152 * t.val + 736 := rowN t 1 11
/-- Row 768 of the strip. -/
theorem rM_768 (t : Fin 4) : BitVec.toNat (Scalar.indexCast (Scalar.addi (Scalar.muli (BitVec.ofNat 32 t.val) 1152#32) 768#32)) = 1152 * t.val + 768 := rowM t 2
/-- Row 768 of the strip. -/
theorem rN_768 (t : Fin 4) : BitVec.toNat (Scalar.indexCast (Scalar.addi (Scalar.addi (Scalar.muli (BitVec.ofNat 32 t.val) 1152#32) 768#32) 0#32)) = 1152 * t.val + 768 := rowN t 2 0
/-- Row 800 of the strip. -/
theorem rN_800 (t : Fin 4) : BitVec.toNat (Scalar.indexCast (Scalar.addi (Scalar.addi (Scalar.muli (BitVec.ofNat 32 t.val) 1152#32) 768#32) 32#32)) = 1152 * t.val + 800 := rowN t 2 1
/-- Row 832 of the strip. -/
theorem rN_832 (t : Fin 4) : BitVec.toNat (Scalar.indexCast (Scalar.addi (Scalar.addi (Scalar.muli (BitVec.ofNat 32 t.val) 1152#32) 768#32) 64#32)) = 1152 * t.val + 832 := rowN t 2 2
/-- Row 864 of the strip. -/
theorem rN_864 (t : Fin 4) : BitVec.toNat (Scalar.indexCast (Scalar.addi (Scalar.addi (Scalar.muli (BitVec.ofNat 32 t.val) 1152#32) 768#32) 96#32)) = 1152 * t.val + 864 := rowN t 2 3
/-- Row 896 of the strip. -/
theorem rN_896 (t : Fin 4) : BitVec.toNat (Scalar.indexCast (Scalar.addi (Scalar.addi (Scalar.muli (BitVec.ofNat 32 t.val) 1152#32) 768#32) 128#32)) = 1152 * t.val + 896 := rowN t 2 4
/-- Row 928 of the strip. -/
theorem rN_928 (t : Fin 4) : BitVec.toNat (Scalar.indexCast (Scalar.addi (Scalar.addi (Scalar.muli (BitVec.ofNat 32 t.val) 1152#32) 768#32) 160#32)) = 1152 * t.val + 928 := rowN t 2 5
/-- Row 960 of the strip. -/
theorem rN_960 (t : Fin 4) : BitVec.toNat (Scalar.indexCast (Scalar.addi (Scalar.addi (Scalar.muli (BitVec.ofNat 32 t.val) 1152#32) 768#32) 192#32)) = 1152 * t.val + 960 := rowN t 2 6
/-- Row 992 of the strip. -/
theorem rN_992 (t : Fin 4) : BitVec.toNat (Scalar.indexCast (Scalar.addi (Scalar.addi (Scalar.muli (BitVec.ofNat 32 t.val) 1152#32) 768#32) 224#32)) = 1152 * t.val + 992 := rowN t 2 7
/-- Row 1024 of the strip. -/
theorem rN_1024 (t : Fin 4) : BitVec.toNat (Scalar.indexCast (Scalar.addi (Scalar.addi (Scalar.muli (BitVec.ofNat 32 t.val) 1152#32) 768#32) 256#32)) = 1152 * t.val + 1024 := rowN t 2 8
/-- Row 1056 of the strip. -/
theorem rN_1056 (t : Fin 4) : BitVec.toNat (Scalar.indexCast (Scalar.addi (Scalar.addi (Scalar.muli (BitVec.ofNat 32 t.val) 1152#32) 768#32) 288#32)) = 1152 * t.val + 1056 := rowN t 2 9
/-- Row 1088 of the strip. -/
theorem rN_1088 (t : Fin 4) : BitVec.toNat (Scalar.indexCast (Scalar.addi (Scalar.addi (Scalar.muli (BitVec.ofNat 32 t.val) 1152#32) 768#32) 320#32)) = 1152 * t.val + 1088 := rowN t 2 10
/-- Row 1120 of the strip. -/
theorem rN_1120 (t : Fin 4) : BitVec.toNat (Scalar.indexCast (Scalar.addi (Scalar.addi (Scalar.muli (BitVec.ofNat 32 t.val) 1152#32) 768#32) 352#32)) = 1152 * t.val + 1120 := rowN t 2 11
/-- The number of group 0 at a point. -/
theorem wK_0 (f : Fin 18) (hf : 0 < f.val) : Scalar.addi (Scalar.muli 2#32 (Scalar.subi (BitVec.ofNat 32 f.val) 1#32)) 0#32 = BitVec.ofNat 32 (2 * (f.val - 1) + 0) := wordK f hf 0
/-- The number of group 1 at a point. -/
theorem wK_1 (f : Fin 18) (hf : 0 < f.val) : Scalar.addi (Scalar.muli 2#32 (Scalar.subi (BitVec.ofNat 32 f.val) 1#32)) 1#32 = BitVec.ofNat 32 (2 * (f.val - 1) + 1) := wordK f hf 1

end Cert.FwdIdeal.Gen

end
-- ==== Proof.FwdIdeal.Runs.lean ====
/- What the runs of the forward kernel's body share: the arrays at launch, the windows' blocks, the conditions of the
   body's conditionals in closed form, the staging memrefs and the scratch memrefs. -/
module

public import proofs.«01_k».proof.Proof.Gen.FwdIdeal.Launch
public import proofs.«01_k».proof.Proof.Gen.FwdIdeal.Skeleton
public import proofs.«01_k».proof.Proof.Gen.FwdIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Argument 0 at launch. -/
theorem V_main_arg0 (c : Dev nD) : V m c main_arg0 = m ((c : Thread nD τ).loc main_arg0) := rfl
/-- Argument 1 at launch. -/
theorem V_main_arg1 (c : Dev nD) : V m c main_arg1 = m ((c : Thread nD τ).loc main_arg1) := rfl
/-- Argument 2 at launch. -/
theorem V_main_arg2 (c : Dev nD) : V m c main_arg2 = m ((c : Thread nD τ).loc main_arg2) := rfl
/-- Argument 3 at launch. -/
theorem V_main_arg3 (c : Dev nD) : V m c main_arg3 = m ((c : Thread nD τ).loc main_arg3) := rfl
/-- Argument 4 at launch. -/
theorem V_main_arg4 (c : Dev nD) : V m c main_arg4 = m ((c : Thread nD τ).loc main_arg4) := rfl
/-- Argument 5 at launch. -/
theorem V_main_arg5 (c : Dev nD) : V m c main_arg5 = m ((c : Thread nD τ).loc main_arg5) := rfl
/-- Argument 6 at launch. -/
theorem V_main_arg6 (c : Dev nD) : V m c main_arg6 = m ((c : Thread nD τ).loc main_arg6) := rfl
/-- Argument 7 at launch. -/
theorem V_main_arg7 (c : Dev nD) : V m c main_arg7 = m ((c : Thread nD τ).loc main_arg7) := rfl
/-- Argument 8 at launch. -/
theorem V_main_arg8 (c : Dev nD) : V m c main_arg8 = m ((c : Thread nD τ).loc main_arg8) := rfl
/-- Argument 9 at launch. -/
theorem V_main_arg9 (c : Dev nD) : V m c main_arg9 = m ((c : Thread nD τ).loc main_arg9) := rfl
/-- Argument 10 at launch. -/
theorem V_main_arg10 (c : Dev nD) : V m c main_arg10 = m ((c : Thread nD τ).loc main_arg10) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1200000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Fwd`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 72 = 0 :=
  (fun t => by
    have ht : t.val < 72 := Nat.lt_of_lt_of_eq t.isLt N_0
    have e0 : (grid0.coords t 0).val = t.val / 4 % 18 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 72 = 0)

/-- The condition of the body's `scf.if` 1 (`k0_h2`), from the grid coordinates (the skeleton's scalar
    chain substituted). -/
abbrev cond0_1 (i : grid0.Coords) : Prop := k0_cond2 i = 1#1
/-- It holds at the points before point 4 — by arithmetic of the point. -/
theorem hcond0_1 : ∀ t : Fin cfg0.N, cond0_1 (grid0.coords t) ↔ t.val < 4 :=
  (fun t => by
    have ht : t.val < 72 := Nat.lt_of_lt_of_eq t.isLt N_0
    have e0 : (grid0.coords t 0).val = t.val / 4 % 18 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := k0_cond3 i = 1#1
/-- It holds at points 8, 9, 10, 11, 16, 17, 18, 19, 24, 25, 26, 27, 32, 33, 34, 35, 40, 41, 42, 43, 48, 49, 50, 51, 56, 57, 58, 59, 64, 65, 66 and 67 only — decided over the grid. -/
theorem hcond0_2 : ∀ t : Fin cfg0.N, cond0_2 (grid0.coords t) ↔ (t.val % 72 = 8 ∨ t.val % 72 = 9 ∨ t.val % 72 = 10 ∨ t.val % 72 = 11 ∨ t.val % 72 = 16 ∨ t.val % 72 = 17 ∨ t.val % 72 = 18 ∨ t.val % 72 = 19 ∨ t.val % 72 = 24 ∨ t.val % 72 = 25 ∨ t.val % 72 = 26 ∨ t.val % 72 = 27 ∨ t.val % 72 = 32 ∨ t.val % 72 = 33 ∨ t.val % 72 = 34 ∨ t.val % 72 = 35 ∨ t.val % 72 = 40 ∨ t.val % 72 = 41 ∨ t.val % 72 = 42 ∨ t.val % 72 = 43 ∨ t.val % 72 = 48 ∨ t.val % 72 = 49 ∨ t.val % 72 = 50 ∨ t.val % 72 = 51 ∨ t.val % 72 = 56 ∨ t.val % 72 = 57 ∨ t.val % 72 = 58 ∨ t.val % 72 = 59 ∨ t.val % 72 = 64 ∨ t.val % 72 = 65 ∨ t.val % 72 = 66 ∨ t.val % 72 = 67) :=
  (by decide +kernel : ∀ t : Fin grid0.N, cond0_2 (grid0.coords t) ↔ (t.val % 72 = 8 ∨ t.val % 72 = 9 ∨ t.val % 72 = 10 ∨ t.val % 72 = 11 ∨ t.val % 72 = 16 ∨ t.val % 72 = 17 ∨ t.val % 72 = 18 ∨ t.val % 72 = 19 ∨ t.val % 72 = 24 ∨ t.val % 72 = 25 ∨ t.val % 72 = 26 ∨ t.val % 72 = 27 ∨ t.val % 72 = 32 ∨ t.val % 72 = 33 ∨ t.val % 72 = 34 ∨ t.val % 72 = 35 ∨ t.val % 72 = 40 ∨ t.val % 72 = 41 ∨ t.val % 72 = 42 ∨ t.val % 72 = 43 ∨ t.val % 72 = 48 ∨ t.val % 72 = 49 ∨ t.val % 72 = 50 ∨ t.val % 72 = 51 ∨ t.val % 72 = 56 ∨ t.val % 72 = 57 ∨ t.val % 72 = 58 ∨ t.val % 72 = 59 ∨ t.val % 72 = 64 ∨ t.val % 72 = 65 ∨ t.val % 72 = 66 ∨ t.val % 72 = 67))

/-- The condition of the body's `scf.if` 3 (`k0_h4`), from the grid coordinates (the skeleton's scalar
    chain substituted). -/
abbrev cond0_3 (i : grid0.Coords) : Prop := k0_cond4 i = 1#1
/-- It holds at the points ≡ 4, 5, 6 or 7 (mod 8) — decided over the grid. -/
theorem hcond0_3 : ∀ t : Fin cfg0.N, cond0_3 (grid0.coords t) ↔ (t.val % 8 = 4 ∨ t.val % 8 = 5 ∨ t.val % 8 = 6 ∨ t.val % 8 = 7) :=
  (by decide +kernel : ∀ t : Fin grid0.N, cond0_3 (grid0.coords t) ↔ (t.val % 8 = 4 ∨ t.val % 8 = 5 ∨ t.val % 8 = 6 ∨ t.val % 8 = 7))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1152x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x1024 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x34 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1152x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1152x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1152x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1152x256 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x1152 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S64x16 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S64x16 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S2048x34 .f32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S4608x2048 .bf16 := Memref.whole cc0_scratch0
abbrev scM0_1 : Memref sig .tc .vmem S4608x128 .f32 := Memref.whole cc0_scratch1
abbrev scM0_2 : Memref sig .tc .vmem S256x2048 .bf16 := Memref.whole cc0_scratch2
abbrev scM0_3 : Memref sig .tc .vmem S256x2048 .bf16 := Memref.whole cc0_scratch3
abbrev scM0_4 : Memref sig .tc .vmem S256x2048 .bf16 := Memref.whole cc0_scratch4
abbrev scM0_5 : Memref sig .tc .vmem S256x2048 .bf16 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.FwdIdeal.Gen

end
-- ==== Proof.FwdIdeal.Inv.lean ====
/-
  What the forward kernel's scratch and its carried result hold before each point, and that a point's stores keep it:
  the tokens widened so far, the two pairs of weight blocks, and the down regularisers done so far.
-/
module

public import proofs.«01_k».proof.Proof.FwdIdeal.Spec
public import proofs.«01_k».proof.Proof.FwdIdeal.Orders
public import proofs.«01_k».proof.Proof.FwdIdeal.Runs

@[expose] public section

set_option maxRecDepth 16384

noncomputable section

namespace Cert.FwdIdeal.Gen

open Idealize.ShloMosaic hiding ix2
open Cert.FwdIdeal Cert.FwdIdeal.Tile Idealize.ShloMosaic.TcCoe Idealize.SL.Sem
open Idealize.ShloMosaic.ValueIdx

/-! ## The windows' blocks -/

/-- The windows' block indices at a point. -/
theorem idx (t : Fin cfg0.N) : (win0_0.index t 0 = min t.val 3 ∧ win0_0.index t 1 = 0) ∧ (win0_1.index t 0 = 0 ∧ win0_1.index t 1 = 0) ∧ (win0_2.index t 0 = min t.val 67 ∧ win0_2.index t 1 = 0) ∧ (win0_3.index t 0 = min t.val 67 ∧ win0_3.index t 1 = 0) ∧ (win0_4.index t 0 = min t.val 67 ∧ win0_4.index t 1 = 0) ∧ (win0_5.index t 0 = min t.val 67 ∧ win0_5.index t 1 = 0) ∧ (win0_6.index t 0 = min t.val 67 ∧ win0_6.index t 1 = 0) ∧ (win0_7.index t 0 = min t.val 67 ∧ win0_7.index t 1 = 0) ∧ (win0_8.index t 0 = (if t.val < 4 then 0 else t.val % 4) ∧ win0_8.index t 1 = t.val / 4 - 1) ∧ (win0_9.index t 0 = t.val % 4 ∧ win0_9.index t 1 = 0) ∧ (win0_10.index t 0 = (if t.val < 4 then 0 else t.val % 4) ∧ win0_10.index t 1 = t.val / 4 - 1) ∧ (win0_11.index t 0 = (if t.val < 4 then 0 else t.val % 4) ∧ win0_11.index t 1 = t.val / 4 - 1) ∧ (win0_12.index t 0 = (if t.val < 4 then 0 else t.val % 4) ∧ win0_12.index t 1 = t.val / 4 - 1) ∧ (win0_13.index t 0 = (if t.val < 4 then 0 else t.val % 4) ∧ win0_13.index t 1 = t.val / 4 - 1) ∧ (win0_14.index t 0 = (if t.val < 4 then 0 else t.val % 4) ∧ win0_14.index t 1 = t.val / 4 - 1) ∧ (win0_15.index t 0 = t.val / 4 - 1 ∧ win0_15.index t 1 = (if t.val < 4 then 0 else t.val % 4)) ∧ (win0_16.index t 0 = (if t.val < 4 then 0 else t.val % 4) ∧ win0_16.index t 1 = t.val / 4 - 1) ∧ (win0_17.index t 0 = min t.val 67 ∧ win0_17.index t 1 = 0) ∧ (win0_18.index t 0 = min t.val 67 ∧ win0_18.index t 1 = 0) ∧ (win0_19.index t 0 = 0 ∧ win0_19.index t 1 = 0) :=
  (by decide +kernel : ∀ t : Fin grid0.N, (win0_0.index t 0 = min t.val 3 ∧ win0_0.index t 1 = 0) ∧ (win0_1.index t 0 = 0 ∧ win0_1.index t 1 = 0) ∧ (win0_2.index t 0 = min t.val 67 ∧ win0_2.index t 1 = 0) ∧ (win0_3.index t 0 = min t.val 67 ∧ win0_3.index t 1 = 0) ∧ (win0_4.index t 0 = min t.val 67 ∧ win0_4.index t 1 = 0) ∧ (win0_5.index t 0 = min t.val 67 ∧ win0_5.index t 1 = 0) ∧ (win0_6.index t 0 = min t.val 67 ∧ win0_6.index t 1 = 0) ∧ (win0_7.index t 0 = min t.val 67 ∧ win0_7.index t 1 = 0) ∧ (win0_8.index t 0 = (if t.val < 4 then 0 else t.val % 4) ∧ win0_8.index t 1 = t.val / 4 - 1) ∧ (win0_9.index t 0 = t.val % 4 ∧ win0_9.index t 1 = 0) ∧ (win0_10.index t 0 = (if t.val < 4 then 0 else t.val % 4) ∧ win0_10.index t 1 = t.val / 4 - 1) ∧ (win0_11.index t 0 = (if t.val < 4 then 0 else t.val % 4) ∧ win0_11.index t 1 = t.val / 4 - 1) ∧ (win0_12.index t 0 = (if t.val < 4 then 0 else t.val % 4) ∧ win0_12.index t 1 = t.val / 4 - 1) ∧ (win0_13.index t 0 = (if t.val < 4 then 0 else t.val % 4) ∧ win0_13.index t 1 = t.val / 4 - 1) ∧ (win0_14.index t 0 = (if t.val < 4 then 0 else t.val % 4) ∧ win0_14.index t 1 = t.val / 4 - 1) ∧ (win0_15.index t 0 = t.val / 4 - 1 ∧ win0_15.index t 1 = (if t.val < 4 then 0 else t.val % 4)) ∧ (win0_16.index t 0 = (if t.val < 4 then 0 else t.val % 4) ∧ win0_16.index t 1 = t.val / 4 - 1) ∧ (win0_17.index t 0 = min t.val 67 ∧ win0_17.index t 1 = 0) ∧ (win0_18.index t 0 = min t.val 67 ∧ win0_18.index t 1 = 0) ∧ (win0_19.index t 0 = 0 ∧ win0_19.index t 1 = 0)) t

/-- There are 72 points. -/
theorem lt_N (t : Fin cfg0.N) : t.val < 72 := Nat.lt_of_lt_of_eq t.isLt N_0

/-- A point's first coordinate. -/
theorem co0 (t : Fin cfg0.N) : (grid0.coords t 0).val = t.val / 4 := by
  have h : (grid0.coords t 0).val = t.val / 4 % 18 := Pipeline.Grid.coords_val t 0 (by decide) rfl
  have := lt_N t
  omega
/-- A point's second coordinate. -/
theorem co1 (t : Fin cfg0.N) : (grid0.coords t 1).val = t.val % 4 := by
  have h : (grid0.coords t 1).val = t.val / 1 % 4 := Pipeline.Grid.coords_val t 1 (by decide) rfl
  omega

variable (m : (ℓ : Loc nD τ sig) → Buf (Elt Ideal) ℓ) (c : Dev nD)

/-- Argument 0. -/
abbrev g0 : Vec Ideal S4608x2048 .fp8e4m3 := m ((c : Thread nD τ).loc main_arg0)
/-- Argument 1. -/
abbrev g1 : Vec Ideal S6x768 .f32 := m ((c : Thread nD τ).loc main_arg1)
/-- Argument 2. -/
abbrev g2 : Vec Ideal S4352x1024 .i8 := m ((c : Thread nD τ).loc main_arg2)
/-- Argument 3. -/
abbrev g3 : Vec Ideal S4352x16 .f32 := m ((c : Thread nD τ).loc main_arg3)
/-- Argument 4. -/
abbrev g4 : Vec Ideal S4352x2048 .bf16 := m ((c : Thread nD τ).loc main_arg4)
/-- Argument 5. -/
abbrev g5 : Vec Ideal S4352x1024 .i8 := m ((c : Thread nD τ).loc main_arg5)
/-- Argument 6. -/
abbrev g6 : Vec Ideal S4352x16 .f32 := m ((c : Thread nD τ).loc main_arg6)
/-- Argument 7. -/
abbrev g7 : Vec Ideal S4352x2048 .bf16 := m ((c : Thread nD τ).loc main_arg7)
/-- Argument 8. -/
abbrev g8 : Vec Ideal S2048x2176 .i8 := m ((c : Thread nD τ).loc main_arg8)
/-- Argument 9. -/
abbrev g9 : Vec Ideal S2048x34 .f32 := m ((c : Thread nD τ).loc main_arg9)
/-- Argument 10. -/
abbrev g10 : Vec Ideal S2048x4352 .bf16 := m ((c : Thread nD τ).loc main_arg10)
/-- The block of argument 0 at a point, in the whole array. -/
theorem blk0 (t : Fin cfg0.N) (y : S1152x2048.Idx) (z : S4608x2048.Idx) (h0 : (z 0).val = min t.val 3 * 1152 + (y 0).val) (h1 : (z 1).val = (0) * 2048 + (y 1).val) :
    iblk m c 0 t y = g0 m c z := by
  obtain ⟨⟨e0, e1⟩, -⟩ := idx t
  unfold iblk
  rw [View.read_apply]
  show V m c main_arg0 _ = m (c.tc.loc main_arg0) _
  unfold V
  congr 1
  funext a; apply Fin.ext
  match a with
  | ⟨0, _⟩ => show win0_0.index t 0 * 1152 + 1 * (y 0).val = (z 0).val; rw [e0, h0]; omega
  | ⟨1, _⟩ => show win0_0.index t 1 * 2048 + 1 * (y 1).val = (z 1).val; rw [e1, h1]; omega
/-- The block of argument 1 at a point, in the whole array. -/
theorem blk1 (t : Fin cfg0.N) (y : S6x768.Idx) (z : S6x768.Idx) (h0 : (z 0).val = 0 * 6 + (y 0).val) (h1 : (z 1).val = (0) * 768 + (y 1).val) :
    iblk m c 1 t y = g1 m c z := by
  obtain ⟨-, ⟨e0, e1⟩, -⟩ := idx t
  unfold iblk
  rw [View.read_apply]
  show V m c main_arg1 _ = m (c.tc.loc main_arg1) _
  unfold V
  congr 1
  funext a; apply Fin.ext
  match a with
  | ⟨0, _⟩ => show win0_1.index t 0 * 6 + 1 * (y 0).val = (z 0).val; rw [e0, h0]; omega
  | ⟨1, _⟩ => show win0_1.index t 1 * 768 + 1 * (y 1).val = (z 1).val; rw [e1, h1]; omega
/-- The block of argument 2 at a point, in the whole array. -/
theorem blk2 (t : Fin cfg0.N) (y : S64x1024.Idx) (z : S4352x1024.Idx) (h0 : (z 0).val = min t.val 67 * 64 + (y 0).val) (h1 : (z 1).val = (0) * 1024 + (y 1).val) :
    iblk m c 2 t y = g2 m c z := by
  obtain ⟨-, -, ⟨e0, e1⟩, -⟩ := idx t
  unfold iblk
  rw [View.read_apply]
  show V m c main_arg2 _ = m (c.tc.loc main_arg2) _
  unfold V
  congr 1
  funext a; apply Fin.ext
  match a with
  | ⟨0, _⟩ => show win0_2.index t 0 * 64 + 1 * (y 0).val = (z 0).val; rw [e0, h0]; omega
  | ⟨1, _⟩ => show win0_2.index t 1 * 1024 + 1 * (y 1).val = (z 1).val; rw [e1, h1]; omega
/-- The block of argument 3 at a point, in the whole array. -/
theorem blk3 (t : Fin cfg0.N) (y : S64x16.Idx) (z : S4352x16.Idx) (h0 : (z 0).val = min t.val 67 * 64 + (y 0).val) (h1 : (z 1).val = (0) * 16 + (y 1).val) :
    iblk m c 3 t y = g3 m c z := by
  obtain ⟨-, -, -, ⟨e0, e1⟩, -⟩ := idx t
  unfold iblk
  rw [View.read_apply]
  show V m c main_arg3 _ = m (c.tc.loc main_arg3) _
  unfold V
  congr 1
  funext a; apply Fin.ext
  match a with
  | ⟨0, _⟩ => show win0_3.index t 0 * 64 + 1 * (y 0).val = (z 0).val; rw [e0, h0]; omega
  | ⟨1, _⟩ => show win0_3.index t 1 * 16 + 1 * (y 1).val = (z 1).val; rw [e1, h1]; omega
/-- The block of argument 4 at a point, in the whole array. -/
theorem blk4 (t : Fin cfg0.N) (y : S64x2048.Idx) (z : S4352x2048.Idx) (h0 : (z 0).val = min t.val 67 * 64 + (y 0).val) (h1 : (z 1).val = (0) * 2048 + (y 1).val) :
    iblk m c 4 t y = g4 m c z := by
  obtain ⟨-, -, -, -, ⟨e0, e1⟩, -⟩ := idx t
  unfold iblk
  rw [View.read_apply]
  show V m c main_arg4 _ = m (c.tc.loc main_arg4) _
  unfold V
  congr 1
  funext a; apply Fin.ext
  match a with
  | ⟨0, _⟩ => show win0_4.index t 0 * 64 + 1 * (y 0).val = (z 0).val; rw [e0, h0]; omega
  | ⟨1, _⟩ => show win0_4.index t 1 * 2048 + 1 * (y 1).val = (z 1).val; rw [e1, h1]; omega
/-- The block of argument 5 at a point, in the whole array. -/
theorem blk5 (t : Fin cfg0.N) (y : S64x1024.Idx) (z : S4352x1024.Idx) (h0 : (z 0).val = min t.val 67 * 64 + (y 0).val) (h1 : (z 1).val = (0) * 1024 + (y 1).val) :
    iblk m c 5 t y = g5 m c z := by
  obtain ⟨-, -, -, -, -, ⟨e0, e1⟩, -⟩ := idx t
  unfold iblk
  rw [View.read_apply]
  show V m c main_arg5 _ = m (c.tc.loc main_arg5) _
  unfold V
  congr 1
  funext a; apply Fin.ext
  match a with
  | ⟨0, _⟩ => show win0_5.index t 0 * 64 + 1 * (y 0).val = (z 0).val; rw [e0, h0]; omega
  | ⟨1, _⟩ => show win0_5.index t 1 * 1024 + 1 * (y 1).val = (z 1).val; rw [e1, h1]; omega
/-- The block of argument 6 at a point, in the whole array. -/
theorem blk6 (t : Fin cfg0.N) (y : S64x16.Idx) (z : S4352x16.Idx) (h0 : (z 0).val = min t.val 67 * 64 + (y 0).val) (h1 : (z 1).val = (0) * 16 + (y 1).val) :
    iblk m c 6 t y = g6 m c z := by
  obtain ⟨-, -, -, -, -, -, ⟨e0, e1⟩, -⟩ := idx t
  unfold iblk
  rw [View.read_apply]
  show V m c main_arg6 _ = m (c.tc.loc main_arg6) _
  unfold V
  congr 1
  funext a; apply Fin.ext
  match a with
  | ⟨0, _⟩ => show win0_6.index t 0 * 64 + 1 * (y 0).val = (z 0).val; rw [e0, h0]; omega
  | ⟨1, _⟩ => show win0_6.index t 1 * 16 + 1 * (y 1).val = (z 1).val; rw [e1, h1]; omega
/-- The block of argument 7 at a point, in the whole array. -/
theorem blk7 (t : Fin cfg0.N) (y : S64x2048.Idx) (z : S4352x2048.Idx) (h0 : (z 0).val = min t.val 67 * 64 + (y 0).val) (h1 : (z 1).val = (0) * 2048 + (y 1).val) :
    iblk m c 7 t y = g7 m c z := by
  obtain ⟨-, -, -, -, -, -, -, ⟨e0, e1⟩, -⟩ := idx t
  unfold iblk
  rw [View.read_apply]
  show V m c main_arg7 _ = m (c.tc.loc main_arg7) _
  unfold V
  congr 1
  funext a; apply Fin.ext
  match a with
  | ⟨0, _⟩ => show win0_7.index t 0 * 64 + 1 * (y 0).val = (z 0).val; rw [e0, h0]; omega
  | ⟨1, _⟩ => show win0_7.index t 1 * 2048 + 1 * (y 1).val = (z 1).val; rw [e1, h1]; omega
/-- The block of argument 8 at a point, in the whole array. -/
theorem blk8 (t : Fin cfg0.N) (y : S512x128.Idx) (z : S2048x2176.Idx) (h0 : (z 0).val = (if t.val < 4 then 0 else t.val % 4) * 512 + (y 0).val) (h1 : (z 1).val = (t.val / 4 - 1) * 128 + (y 1).val) :
    iblk m c 8 t y = g8 m c z := by
  obtain ⟨-, -, -, -, -, -, -, -, ⟨e0, e1⟩, -⟩ := idx t
  unfold iblk
  rw [View.read_apply]
  show V m c main_arg8 _ = m (c.tc.loc main_arg8) _
  unfold V
  congr 1
  funext a; apply Fin.ext
  match a with
  | ⟨0, _⟩ => show win0_8.index t 0 * 512 + 1 * (y 0).val = (z 0).val; rw [e0, h0]; omega
  | ⟨1, _⟩ => show win0_8.index t 1 * 128 + 1 * (y 1).val = (z 1).val; rw [e1, h1]; omega
/-- The block of argument 9 at a point, in the whole array. -/
theorem blk9 (t : Fin cfg0.N) (y : S512x34.Idx) (z : S2048x34.Idx) (h0 : (z 0).val = t.val % 4 * 512 + (y 0).val) (h1 : (z 1).val = (0) * 34 + (y 1).val) :
    iblk m c 9 t y = g9 m c z := by
  obtain ⟨-, -, -, -, -, -, -, -, -, ⟨e0, e1⟩, -⟩ := idx t
  unfold iblk
  rw [View.read_apply]
  show V m c main_arg9 _ = m (c.tc.loc main_arg9) _
  unfold V
  congr 1
  funext a; apply Fin.ext
  match a with
  | ⟨0, _⟩ => show win0_9.index t 0 * 512 + 1 * (y 0).val = (z 0).val; rw [e0, h0]; omega
  | ⟨1, _⟩ => show win0_9.index t 1 * 34 + 1 * (y 1).val = (z 1).val; rw [e1, h1]; omega
/-- The block of argument 10 at a point, in the whole array. -/
theorem blk10 (t : Fin cfg0.N) (y : S512x256.Idx) (z : S2048x4352.Idx) (h0 : (z 0).val = (if t.val < 4 then 0 else t.val % 4) * 512 + (y 0).val) (h1 : (z 1).val = (t.val / 4 - 1) * 256 + (y 1).val) :
    iblk m c 10 t y = g10 m c z := by
  obtain ⟨-, -, -, -, -, -, -, -, -, -, ⟨e0, e1⟩, -⟩ := idx t
  unfold iblk
  rw [View.read_apply]
  show V m c main_arg10 _ = m (c.tc.loc main_arg10) _
  unfold V
  congr 1
  funext a; apply Fin.ext
  match a with
  | ⟨0, _⟩ => show win0_10.index t 0 * 512 + 1 * (y 0).val = (z 0).val; rw [e0, h0]; omega
  | ⟨1, _⟩ => show win0_10.index t 1 * 256 + 1 * (y 1).val = (z 1).val; rw [e1, h1]; omega

/-- Two indices with equal coordinates. -/
theorem ix2_ext {a b : ℕ} (x y : (⟨2, ![a, b]⟩ : Shape).Idx) (h0 : (x 0).val = (y 0).val) (h1 : (x 1).val = (y 1).val) : x = y := by
  funext d; apply Fin.ext
  match d with
  | ⟨0, _⟩ => exact h0
  | ⟨1, _⟩ => exact h1

/-! ## The arrays the results are functions of -/

/-- The gate's weights. -/
abbrev WG : S4352x2048.Idx → EReal := Spec.W (g2 m c) (g3 m c) (g4 m c)
/-- The up projection's weights. -/
abbrev WU : S4352x2048.Idx → EReal := Spec.W (g5 m c) (g6 m c) (g7 m c)

/-- A window's table of gate weights is the gate's weights at its rows. -/
theorem wT_gate (t : Fin cfg0.N) (ht : t.val < 68) (y : S64x2048.Idx) (z : S4352x2048.Idx) (h0 : (z 0).val = 64 * t.val + (y 0).val)
    (h1 : (z 1).val = (y 1).val) : wT (iblk m c 2 t) (iblk m c 3 t) (iblk m c 4 t) y = WG m c z := by
  unfold wT WG Spec.W
  refine wV_congr (nib_congr (blk2 m c t _ _ ?_ ?_) ?_) (blk3 m c t _ _ ?_ ?_) (blk4 m c t _ _ ?_ ?_)
  · show (z 0).val = min t.val 67 * 64 + (y 0).val; omega
  · show (z 1).val / 128 * 64 + (z 1).val % 64 = 0 * 1024 + ((y 1).val / 128 * 64 + (y 1).val % 64); rw [h1]; omega
  · rw [h1]
  · show (z 0).val = min t.val 67 * 64 + (y 0).val; omega
  · show (z 1).val / 128 = 0 * 16 + (y 1).val / 128; rw [h1]; omega
  · omega
  · omega

/-- … and of up weights. -/
theorem wT_up (t : Fin cfg0.N) (ht : t.val < 68) (y : S64x2048.Idx) (z : S4352x2048.Idx) (h0 : (z 0).val = 64 * t.val + (y 0).val)
    (h1 : (z 1).val = (y 1).val) : wT (iblk m c 5 t) (iblk m c 6 t) (iblk m c 7 t) y = WU m c z := by
  unfold wT WU Spec.W
  refine wV_congr (nib_congr (blk5 m c t _ _ ?_ ?_) ?_) (blk6 m c t _ _ ?_ ?_) (blk7 m c t _ _ ?_ ?_)
  · show (z 0).val = min t.val 67 * 64 + (y 0).val; omega
  · show (z 1).val / 128 * 64 + (z 1).val % 64 = 0 * 1024 + ((y 1).val / 128 * 64 + (y 1).val % 64); rw [h1]; omega
  · rw [h1]
  · show (z 0).val = min t.val 67 * 64 + (y 0).val; omega
  · show (z 1).val / 128 = 0 * 16 + (y 1).val / 128; rw [h1]; omega
  · omega
  · omega

/-- A window's table of regularisers is the array's at its rows. -/
theorem rT_gate (t : Fin cfg0.N) (y : S64x16.Idx) (z : S4352x16.Idx) (h0 : (z 0).val = min t.val 67 * 64 + (y 0).val)
    (h1 : (z 1).val = (y 1).val) : rT (iblk m c 4 t) y = Spec.R (g4 m c) z := by
  unfold rT Spec.R
  refine Finset.sum_congr rfl fun l _ => congrArg rV (blk4 m c t _ _ h0 ?_)
  show 128 * (z 1).val + l.val = 0 * 2048 + (128 * (y 1).val + l.val)
  omega
/-- The up projection's regularisers at a point are the rows of the whole ones. -/
theorem rT_up (t : Fin cfg0.N) (y : S64x16.Idx) (z : S4352x16.Idx) (h0 : (z 0).val = min t.val 67 * 64 + (y 0).val)
    (h1 : (z 1).val = (y 1).val) : rT (iblk m c 7 t) y = Spec.R (g7 m c) z := by
  unfold rT Spec.R
  refine Finset.sum_congr rfl fun l _ => congrArg rV (blk7 m c t _ _ h0 ?_)
  show 128 * (z 1).val + l.val = 0 * 2048 + (128 * (y 1).val + l.val)
  omega

/-- A window's table of down weights is the down projection's weights at its place. -/
theorem wdT_eq (t : Fin cfg0.N) (ht : 4 ≤ t.val) (y : S512x256.Idx) (z : S2048x4352.Idx) (h0 : (z 0).val = 512 * (t.val % 4) + (y 0).val)
    (h1 : (z 1).val = 256 * (t.val / 4 - 1) + (y 1).val) :
    wdT (iblk m c 8 t) (iblk m c 9 t) (iblk m c 10 t) (2 * (t.val / 4 - 1)) y = Spec.WD (g8 m c) (g9 m c) (g10 m c) z := by
  have hn := lt_N t
  have hy := idx2_lt1 y
  unfold wdT Spec.WD
  refine wV_congr (nib_congr (blk8 m c t _ _ ?_ ?_) ?_) (blk9 m c t _ _ ?_ ?_) (blk10 m c t _ _ ?_ ?_)
  · show (z 0).val = (if t.val < 4 then 0 else t.val % 4) * 512 + (y 0).val; rw [if_neg (by omega)]; omega
  · show (z 1).val / 128 * 64 + (z 1).val % 64 = (t.val / 4 - 1) * 128 + ((y 1).val / 128 * 64 + (y 1).val % 64); rw [h1]; omega
  · rw [h1]; omega
  · show (z 0).val = t.val % 4 * 512 + (y 0).val; omega
  · show (z 1).val / 128 = 0 * 34 + (2 * (t.val / 4 - 1) + (y 1).val / 128) % 34; rw [h1]; omega
  · show (z 0).val = (if t.val < 4 then 0 else t.val % 4) * 512 + (y 0).val; rw [if_neg (by omega)]; omega
  · omega

/-! ## What is kept from point to point -/

/-- One buffer of a pair of weight blocks before point `n`: the rows whose last block of this parity was stored hold that block. -/
def Slot (e n : ℕ) (B : S256x2048.Idx → EReal) (W : S4352x2048.Idx → EReal) : Prop :=
  ∀ (y : S256x2048.Idx) (z : S4352x2048.Idx) (f : ℕ), f % 2 = e → (z 0).val = 256 * f + (y 0).val → (z 1).val = (y 1).val →
    4 * f + (y 0).val / 64 < n → n ≤ 4 * (f + 2) + (y 0).val / 64 → B y = W z

/-- A point of the other parity leaves the buffer. -/
theorem Slot.keep {e n : ℕ} {B : S256x2048.Idx → EReal} {W : S4352x2048.Idx → EReal} (h : Slot e n B W) (hn : n / 4 % 2 ≠ e) : Slot e (n + 1) B W := by
  intro y z f hf h0 h1 h2 h3
  have := idx2_lt0 y
  refine h y z f hf h0 h1 ?_ (by omega)
  by_contra h4
  exact hn (by rw [← hf]; congr 1; omega)

/-- A point of this parity stores the block's rows `64 (n % 4)` on. -/
theorem Slot.store {e n : ℕ} {B : S256x2048.Idx → EReal} {W : S4352x2048.Idx → EReal} (h : Slot e n B W) (hn : n / 4 % 2 = e)
    {sig : RefSig} {κ : Kind} {sp : Space} (v : View sig κ sp S256x2048 .bf16) (f : v.ty.Contents (Elt Ideal)) (hf : v.read (Elt Ideal) f = B)
    {T : S64x2048.Idx → Elt Ideal .bf16} {j : ℕ} (hj : j = n % 4)
    {L : List (View.Piece (Elt Ideal) S256x2048 .bf16)} (hL : List.Forall₂ (Is (e := .bf16) T (64 * j) 32 128) L QW)
    (hT : n < 68 → ∀ (y : S64x2048.Idx) (z : S4352x2048.Idx), (z 0).val = 64 * n + (y 0).val → (z 1).val = (y 1).val → T y = W z) :
    Slot e (n + 1) (v.read (Elt Ideal) (v.writes (Elt Ideal) f L)) W := by
  subst hj
  intro y z k hk h0 h1 h2 h3
  have hy := idx2_lt0 y
  have hz := idx2_lt0 z
  by_cases hr : (y 0).val / 64 = n % 4
  · have hkn : k = n / 4 := by omega
    have hy1 := idx2_lt1 y
    refine (read_in v f hL y (ix2 ⟨(y 0).val - 64 * (n % 4), by omega⟩ ⟨(y 1).val, hy1⟩) (by show (y 0).val = 64 * (n % 4) + ((y 0).val - 64 * (n % 4)); omega) rfl
      (grid_cover 32 128 2 16 (by decide) (by decide) (by decide) _ _ (by show (y 0).val - 64 * (n % 4) < 32 * 2; omega) (by show (y 1).val < 128 * 16; omega))).trans ?_
    exact hT (by omega) _ z (by show (z 0).val = 64 * n + ((y 0).val - 64 * (n % 4)); omega) h1
  · rw [read_out v f hL y (by omega), hf]
    exact h y z k hk h0 h1 (by omega) (by omega)

/-- At a point of the other parity past the first row the buffer holds the block before the point's. -/
theorem Slot.cur {e n : ℕ} {B : S256x2048.Idx → EReal} {W : S4352x2048.Idx → EReal} (h : Slot e n B W) (hn : n / 4 % 2 ≠ e) (he : e < 2) (h4 : 4 ≤ n)
    (y : S256x2048.Idx) (z : S4352x2048.Idx) (h0 : (z 0).val = 256 * (n / 4 - 1) + (y 0).val) (h1 : (z 1).val = (y 1).val) : B y = W z := by
  have := idx2_lt0 y
  exact h y z (n / 4 - 1) (by omega) h0 h1 (by omega) (by omega)

/-- The widened tokens before point `n`. -/
def Toks (n : ℕ) (B : S4608x2048.Idx → EReal) : Prop := ∀ y : S4608x2048.Idx, (y 0).val < 1152 * n → B y = g0 m c y

/-- Nothing is stored in the activations after the first four points. -/
theorem Toks.keep {n : ℕ} {B : S4608x2048.Idx → EReal} (h : Toks m c n B) (hn : 4 ≤ n) : Toks m c (n + 1) B := fun y hy =>
  h y (by have := idx2_lt0 y; omega)

/-- One of the first four points stores its strip of the activations. -/
theorem Toks.store {n : ℕ} {B : S4608x2048.Idx → EReal} (h : Toks m c n B)
    {sig : RefSig} {κ : Kind} {sp : Space} (v : View sig κ sp S4608x2048 .bf16) (f : v.ty.Contents (Elt Ideal)) (hf : v.read (Elt Ideal) f = B)
    (t : Fin cfg0.N) (ht : t.val = n) (hn : n < 4) {j : ℕ} (hj : j = n % 4) {L : List (View.Piece (Elt Ideal) S4608x2048 .bf16)}
    (hL : List.Forall₂ (Is (a := 4608) (e := .bf16) (H := 1152) (b := 2048) (iblk m c 0 t) (1152 * j) 1152 2048) L [(0, 0)]) :
    Toks m c (n + 1) (v.read (Elt Ideal) (v.writes (Elt Ideal) f L)) := by
  subst hj
  intro y hy
  have hy1 := idx2_lt1 y
  by_cases hr : 1152 * n ≤ (y 0).val
  · refine (read_in v f hL y (ix2 ⟨(y 0).val - 1152 * n, by omega⟩ ⟨(y 1).val, hy1⟩) (by show (y 0).val = 1152 * (n % 4) + ((y 0).val - 1152 * n); omega) rfl
      ⟨(0, 0), List.mem_singleton.2 rfl, ⟨by omega, by show (y 0).val - 1152 * n < 0 + 1152; omega⟩, ⟨by omega, by show (y 1).val < 0 + 2048; omega⟩⟩).trans ?_
    exact blk0 m c t _ y (by show (y 0).val = min t.val 3 * 1152 + ((y 0).val - 1152 * n); omega) (by show (y 1).val = 0 * 2048 + (y 1).val; omega)
  · rw [read_out v f hL y (by omega), hf]
    exact h y (by omega)

/-- The spread scales. -/
def Scl (n : ℕ) (B : S4608x128.Idx → EReal) : Prop := 0 < n → ∀ y : S4608x128.Idx, B y = xsT (g1 m c) y

/-- Nothing is stored in the scales after the first point. -/
theorem Scl.keep {n : ℕ} {B : S4608x128.Idx → EReal} (h : Scl m c n B) (hn : 0 < n) : Scl m c (n + 1) B := fun _ => h hn

/-- The block of scales is all of them. -/
theorem xsT_blk (t : Fin cfg0.N) (y : S4608x128.Idx) : xsT (iblk m c 1 t) y = xsT (g1 m c) y :=
  blk1 m c t _ _ (by omega) (by omega)

/-- The down regularisers done before point `n`. -/
def Regs (n : ℕ) (B : S2048x34.Idx → EReal) : Prop :=
  ∀ y : S2048x34.Idx, 4 * ((y 1).val / 2 + 1) + (y 0).val / 512 < n → B y = Spec.RD (g10 m c) y

/-- Nothing is stored in the down regularisers at the first four points. -/
theorem Regs.keep {n : ℕ} {B : S2048x34.Idx → EReal} (h : Regs m c n B) (hn : n < 4) : Regs m c (n + 1) B := fun y hy =>
  h y (by omega)

/-- A later point stores its part of the down regularisers. -/
theorem Regs.store {n : ℕ} {B : S2048x34.Idx → EReal} (h : Regs m c n B)
    {sig : RefSig} {κ : Kind} {sp : Space} (v : View sig κ sp S2048x34 .f32) (f : v.ty.Contents (Elt Ideal)) (hf : v.read (Elt Ideal) f = B)
    (t : Fin cfg0.N) (ht : t.val = n) (hn : 4 ≤ n) {j : Fin 4} (hj : j.val = n % 4) {k0 : ℕ} (hk : k0 = 2 * (n / 4 - 1))
    {L : List (View.Piece (Elt Ideal) S2048x34 .f32)}
    (hL : List.Forall₂ (Is (e := .f32) (rdT (iblk m c 10 t) k0 B j) (512 * j.val) 32 34) L QRD) :
    Regs m c (n + 1) (v.read (Elt Ideal) (v.writes (Elt Ideal) f L)) := by
  intro y hy
  have hy0 := idx2_lt0 y
  have hy1 := idx2_lt1 y
  have hN := lt_N t
  by_cases hr : (y 0).val / 512 = n % 4
  · refine (read_in v f hL y (ix2 ⟨(y 0).val - 512 * j.val, by omega⟩ ⟨(y 1).val, hy1⟩) (by show (y 0).val = 512 * j.val + ((y 0).val - 512 * j.val); omega) rfl
      (grid_cover 32 34 16 1 (by decide) (by decide) (by decide) _ _ (by show (y 0).val - 512 * j.val < 32 * 16; omega) (by show (y 1).val < 34 * 1; omega))).trans ?_
    have hb : ∀ l : Fin 256, ∀ q : Fin 4352, q.val = 256 * (n / 4 - 1) + l.val →
        iblk m c 10 t (ix2 ⟨(y 0).val - 512 * j.val, by omega⟩ l) = g10 m c (ix2 ⟨(y 0).val, hy0⟩ q) := fun l q hq =>
      blk10 m c t _ _ (by show (y 0).val = (if t.val < 4 then 0 else t.val % 4) * 512 + ((y 0).val - 512 * j.val); rw [if_neg (by omega)]; omega)
        (by show q.val = (t.val / 4 - 1) * 256 + l.val; rw [ht]; omega)
    unfold rdT
    by_cases e1 : (y 1).val = k0 + 1
    · rw [if_pos (show (y 1).val = k0 + 1 from e1)]
      unfold Spec.RD
      exact Finset.sum_congr rfl fun l _ => congrArg rV (hb ⟨128 + l.val, by omega⟩ _ (by show 128 * (y 1).val + l.val = 256 * (n / 4 - 1) + (128 + l.val); omega))
    rw [if_neg (show ¬(y 1).val = k0 + 1 from e1)]
    by_cases e0 : (y 1).val = k0
    · rw [if_pos (show (y 1).val = k0 from e0)]
      unfold Spec.RD
      exact Finset.sum_congr rfl fun l _ => congrArg rV (hb ⟨l.val, by omega⟩ _ (by show 128 * (y 1).val + l.val = 256 * (n / 4 - 1) + l.val; omega))
    rw [if_neg (show ¬(y 1).val = k0 from e0)]
    rw [← h y (by omega)]
    refine congrArg B (ix2_ext _ _ ?_ ?_)
    · show 512 * j.val + ((y 0).val - 512 * j.val) = (y 0).val; omega
    · rfl
  · rw [read_out v f hL y (by omega), hf]
    exact h y (by omega)

/-! ## The results of a point -/

/-- The strip's table is the results at the point's tokens and features. -/
theorem tokT_eq (φ : EReal → EReal → EReal → EReal) {n : ℕ} (hn : 4 ≤ n) (hn' : n < 72) {j : Fin 4} (hj : j.val = n % 4) {e : ℕ} (he : e < 2) (hne : n / 4 % 2 ≠ e)
    {B0 : Vec Ideal S4608x2048 .bf16} {B1 : Vec Ideal S4608x128 .f32} {G U : Vec Ideal S256x2048 .bf16}
    (h0 : Toks m c n B0) (h1 : Scl m c n B1) (hG : Slot e n G (WG m c)) (hU : Slot e n U (WU m c)) (y : S1152x256.Idx) (z : S4608x4352.Idx)
    (e0 : (z 0).val = 1152 * (n % 4) + (y 0).val) (e1 : (z 1).val = 256 * (n / 4 - 1) + (y 1).val) :
    tokT B0 B1 G U φ j y = Spec.Tok φ (g0 m c) (g1 m c) (WG m c) (WU m c) z := by
  have hy0 := idx2_lt0 y
  have hy1 := idx2_lt1 y
  have hz0 := idx2_lt0 z
  have hz1 := idx2_lt1 z
  have hd : ∀ (B : Vec Ideal S256x2048 .bf16) (W : S4352x2048.Idx → EReal), Slot e n B W →
      dotT B0 ⟨1152 * j.val + (y 0).val, by omega⟩ (y 1) B = Spec.dot (g0 m c) W (z 0) (z 1) := fun B W hB => by
    unfold dotT Spec.dot
    refine Finset.sum_congr rfl fun k _ => congrArg₂ (· * ·) ?_ ?_
    · rw [h0 _ (by show 1152 * j.val + (y 0).val < 1152 * n; omega)]
      exact congrArg _ (ix2_ext _ _ (by show 1152 * j.val + (y 0).val = (z 0).val; omega) rfl)
    · exact hB.cur hne he hn _ _ (by show (z 1).val = 256 * (n / 4 - 1) + (y 1).val; omega) rfl
  unfold tokT Spec.Tok
  rw [hd G _ hG, hd U _ hU, h1 (by omega)]
  refine congrArg (fun s => φ s _ _) ?_
  unfold xsT Spec.scale
  exact congrArg _ (ix2_ext _ _ (by show (1152 * j.val + (y 0).val) / 768 = (z 0).val / 768; rw [e0, hj])
    (by show (1152 * j.val + (y 0).val) % 768 = (z 0).val % 768; rw [e0, hj]))

end Cert.FwdIdeal.Gen

end
-- ==== Proof.FwdIdeal.Data.lean ====
/-
  The forward kernel's proof data over the extended reals: what each result's buffer must hold after a point, the
  invariant between points, and what the body is handed and hands back.
-/
module

public import proofs.«01_k».proof.Proof.FwdIdeal.Inv
public import Idealize.ShloMosaic.Lib.Pipeline.DatRel

@[expose] public section

set_option maxRecDepth 16384

noncomputable section

namespace Cert.FwdIdeal.Gen

open Idealize.ShloMosaic hiding ix2
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal.Tile

local notation "𝕄" => MT nD τ sig Unit (Elt Ideal) ℕ (UR sig nD τ) ℕ

variable (m : (ℓ : Loc nD τ sig) → Buf (Elt Ideal) ℓ)

/-! ## What the results' buffers must hold -/

/-- A strip of results at the tokens and features of point `n`. -/
def Strip (n : ℕ) (S : S4608x4352.Idx → EReal) (X : S1152x256.Idx → EReal) : Prop :=
  4 ≤ n → ∀ (y : S1152x256.Idx) (z : S4608x4352.Idx), (z 0).val = 1152 * (n % 4) + (y 0).val → (z 1).val = 256 * (n / 4 - 1) + (y 1).val → X y = S z

/-- The same, turned. -/
def StripT (n : ℕ) (S : S4352x4608.Idx → EReal) (X : S256x1152.Idx → EReal) : Prop :=
  4 ≤ n → ∀ (y : S256x1152.Idx) (z : S4352x4608.Idx), (z 0).val = 256 * (n / 4 - 1) + (y 0).val → (z 1).val = 1152 * (n % 4) + (y 1).val → X y = S z

/-- A block of down weights. -/
def Down (n : ℕ) (S : S2048x4352.Idx → EReal) (X : S512x256.Idx → EReal) : Prop :=
  4 ≤ n → ∀ (y : S512x256.Idx) (z : S2048x4352.Idx), (z 0).val = 512 * (n % 4) + (y 0).val → (z 1).val = 256 * (n / 4 - 1) + (y 1).val → X y = S z

/-- A block of regularisers. -/
def Grp (n : ℕ) (S : S4352x16.Idx → EReal) (X : S64x16.Idx → EReal) : Prop :=
  ∀ (y : S64x16.Idx) (z : S4352x16.Idx), (z 0).val = min n 67 * 64 + (y 0).val → (z 1).val = (y 1).val → X y = S z

/-- The results at every token and feature, of this memory. -/
abbrev TokS (c : Dev nD) (φ : EReal → EReal → EReal → EReal) : S4608x4352.Idx → EReal := Spec.Tok φ (g0 m c) (g1 m c) (WG m c) (WU m c)
abbrev TokTS (c : Dev nD) (φ : EReal → EReal → EReal → EReal) : S4352x4608.Idx → EReal := Spec.TokT φ (g0 m c) (g1 m c) (WG m c) (WU m c)
abbrev WDS (c : Dev nD) : S2048x4352.Idx → EReal := Spec.WD (g8 m c) (g9 m c) (g10 m c)

/-- The tiles a point stores of a result on the tokens are its strip of that result. -/
theorem strip_out (c : Dev nD) (φ : EReal → EReal → EReal → EReal) {n : ℕ} (hn' : n < 72) {j : Fin 4} (hj : j.val = n % 4) {e : ℕ} (he : e < 2) (hne : n / 4 % 2 ≠ e)
    {B0 : Vec Ideal S4608x2048 .bf16} {B1 : Vec Ideal S4608x128 .f32} {G U : Vec Ideal S256x2048 .bf16}
    (h0 : Toks m c n B0) (h1 : Scl m c n B1) (hG : Slot e n G (WG m c)) (hU : Slot e n U (WU m c))
    {L : List (View.Piece (Elt Ideal) S1152x256 .f32)} (hL : List.Forall₂ (Is (e := .f32) (tokT B0 B1 G U φ j) 0 32 128) L QT)
    {κ : Kind} {sp : Space} (v : View sig κ sp S1152x256 .f32) (f : v.ty.Contents (Elt Ideal)) :
    Strip n (TokS m c φ) (v.read (Elt Ideal) (v.writes (Elt Ideal) f L)) := fun hn y z e0 e1 =>
  (read_in v f hL y y (by omega) rfl (grid_cover 32 128 36 2 (by decide) (by decide) (by decide) _ _ (idx2_lt0 y) (idx2_lt1 y))).trans
    (tokT_eq m c φ hn hn' hj he hne h0 h1 hG hU y z e0 e1)

/-- The same of the narrowed result. -/
theorem strip_out16 (c : Dev nD) (φ : EReal → EReal → EReal → EReal) {n : ℕ} (hn' : n < 72) {j : Fin 4} (hj : j.val = n % 4) {e : ℕ} (he : e < 2) (hne : n / 4 % 2 ≠ e)
    {B0 : Vec Ideal S4608x2048 .bf16} {B1 : Vec Ideal S4608x128 .f32} {G U : Vec Ideal S256x2048 .bf16}
    (h0 : Toks m c n B0) (h1 : Scl m c n B1) (hG : Slot e n G (WG m c)) (hU : Slot e n U (WU m c))
    {L : List (View.Piece (Elt Ideal) S1152x256 .bf16)} (hL : List.Forall₂ (Is (e := .bf16) (tokT B0 B1 G U φ j) 0 32 128) L QT)
    {κ : Kind} {sp : Space} (v : View sig κ sp S1152x256 .bf16) (f : v.ty.Contents (Elt Ideal)) :
    Strip n (TokS m c φ) (v.read (Elt Ideal) (v.writes (Elt Ideal) f L)) := fun hn y z e0 e1 =>
  (read_in v f hL y y (by omega) rfl (grid_cover 32 128 36 2 (by decide) (by decide) (by decide) _ _ (idx2_lt0 y) (idx2_lt1 y))).trans
    (tokT_eq m c φ hn hn' hj he hne h0 h1 hG hU y z e0 e1)

/-- The same of the turned result. -/
theorem stripT_out (c : Dev nD) (φ : EReal → EReal → EReal → EReal) {n : ℕ} (hn' : n < 72) {j : Fin 4} (hj : j.val = n % 4) {e : ℕ} (he : e < 2) (hne : n / 4 % 2 ≠ e)
    {B0 : Vec Ideal S4608x2048 .bf16} {B1 : Vec Ideal S4608x128 .f32} {G U : Vec Ideal S256x2048 .bf16}
    (h0 : Toks m c n B0) (h1 : Scl m c n B1) (hG : Slot e n G (WG m c)) (hU : Slot e n U (WU m c))
    {L : List (View.Piece (Elt Ideal) S256x1152 .bf16)} (hL : List.Forall₂ (Is (e := .bf16) (turnT (tokT B0 B1 G U φ j)) 0 256 384) L QAT)
    {κ : Kind} {sp : Space} (v : View sig κ sp S256x1152 .bf16) (f : v.ty.Contents (Elt Ideal)) :
    StripT n (TokTS m c φ) (v.read (Elt Ideal) (v.writes (Elt Ideal) f L)) := fun hn y z e0 e1 =>
  (read_in v f hL y y (by omega) rfl (grid_cover 256 384 1 3 (by decide) (by decide) (by decide) _ _ (idx2_lt0 y) (idx2_lt1 y))).trans
    (tokT_eq m c φ hn hn' hj he hne h0 h1 hG hU (ix2 (y 1) (y 0)) (ix2 (z 1) (z 0)) e1 e0)

/-- The tiles a point stores of the down weights are its block of them. -/
theorem down_out (c : Dev nD) (t : Fin cfg0.N) {k0 : ℕ} (hk : k0 = 2 * (t.val / 4 - 1))
    {L : List (View.Piece (Elt Ideal) S512x256 .bf16)} (hL : List.Forall₂ (Is (e := .bf16) (wdT (iblk m c 8 t) (iblk m c 9 t) (iblk m c 10 t) k0) 0 32 128) L QD)
    {κ : Kind} {sp : Space} (v : View sig κ sp S512x256 .bf16) (f : v.ty.Contents (Elt Ideal)) :
    Down t.val (WDS m c) (v.read (Elt Ideal) (v.writes (Elt Ideal) f L)) := fun hn y z e0 e1 => by
  subst hk
  exact (read_in v f hL y y (by omega) rfl (grid_cover 32 128 16 2 (by decide) (by decide) (by decide) _ _ (idx2_lt0 y) (idx2_lt1 y))).trans
    (wdT_eq m c t hn y z e0 e1)

/-- The tiles a point stores of the gate's regularisers are its rows of them. -/
theorem grp_gate (c : Dev nD) (t : Fin cfg0.N) {L : List (View.Piece (Elt Ideal) S64x16 .f32)} (hL : List.Forall₂ (Is (rT (iblk m c 4 t)) 0 32 16) L QR)
    {κ : Kind} {sp : Space} (v : View sig κ sp S64x16 .f32) (f : v.ty.Contents (Elt Ideal)) :
    Grp t.val (Spec.R (g4 m c)) (v.read (Elt Ideal) (v.writes (Elt Ideal) f L)) := fun y z e0 e1 =>
  (read_in v f hL y y (by omega) rfl (grid_cover 32 16 2 1 (by decide) (by decide) (by decide) _ _ (idx2_lt0 y) (idx2_lt1 y))).trans
    (rT_gate m c t y z e0 e1)
/-- The tiles a point stores of the up projection's regularisers are its rows of them. -/
theorem grp_up (c : Dev nD) (t : Fin cfg0.N) {L : List (View.Piece (Elt Ideal) S64x16 .f32)} (hL : List.Forall₂ (Is (rT (iblk m c 7 t)) 0 32 16) L QR)
    {κ : Kind} {sp : Space} (v : View sig κ sp S64x16 .f32) (f : v.ty.Contents (Elt Ideal)) :
    Grp t.val (Spec.R (g7 m c)) (v.read (Elt Ideal) (v.writes (Elt Ideal) f L)) := fun y z e0 e1 =>
  (read_in v f hL y y (by omega) rfl (grid_cover 32 16 2 1 (by decide) (by decide) (by decide) _ _ (idx2_lt0 y) (idx2_lt1 y))).trans
    (rT_up m c t y z e0 e1)

/-! ## The same of a buffer's contents found by a run -/

/-- A point stores its rows of the window of weights. -/
theorem Slot.stored {e n : ℕ} {B : S256x2048.Idx → EReal} {W : S4352x2048.Idx → EReal} (h : Slot e n B W) (hn : n / 4 % 2 = e)
    {κ : Kind} {sp : Space} (v : View sig κ sp S256x2048 .bf16) (f : v.ty.Contents (Elt Ideal)) (hf : v.read (Elt Ideal) f = B)
    {T : S64x2048.Idx → Elt Ideal .bf16} {j : ℕ} (hj : j = n % 4) {G : v.ty.Contents (Elt Ideal)}
    (hG : ∃ L, List.Forall₂ (Is (e := .bf16) T (64 * j) 32 128) L QW ∧ G = v.writes (Elt Ideal) f L)
    (hT : n < 68 → ∀ (y : S64x2048.Idx) (z : S4352x2048.Idx), (z 0).val = 64 * n + (y 0).val → (z 1).val = (y 1).val → T y = W z) :
    Slot e (n + 1) (v.read (Elt Ideal) G) W := by
  obtain ⟨L, hL, rfl⟩ := hG
  exact Slot.store h hn v f hf hj hL hT

/-- One of the first four points stores its strip of the activations. -/
theorem Toks.stored (c : Dev nD) {n : ℕ} {B : S4608x2048.Idx → EReal} (h : Toks m c n B)
    {κ : Kind} {sp : Space} (v : View sig κ sp S4608x2048 .bf16) (f : v.ty.Contents (Elt Ideal)) (hf : v.read (Elt Ideal) f = B)
    (t : Fin cfg0.N) (ht : t.val = n) (hn : n < 4) {j : ℕ} (hj : j = n % 4) {G : v.ty.Contents (Elt Ideal)}
    (hG : ∃ L, List.Forall₂ (Is (a := 4608) (e := .bf16) (H := 1152) (b := 2048) (iblk m c 0 t) (1152 * j) 1152 2048) L [(0, 0)] ∧ G = v.writes (Elt Ideal) f L) :
    Toks m c (n + 1) (v.read (Elt Ideal) G) := by
  obtain ⟨L, hL, rfl⟩ := hG
  exact Toks.store m c h v f hf t ht hn hj hL

/-- A later point stores its part of the down regularisers. -/
theorem Regs.stored (c : Dev nD) {n : ℕ} {B : S2048x34.Idx → EReal} (h : Regs m c n B)
    {κ : Kind} {sp : Space} (v : View sig κ sp S2048x34 .f32) (f : v.ty.Contents (Elt Ideal)) (hf : v.read (Elt Ideal) f = B)
    (t : Fin cfg0.N) (ht : t.val = n) (hn : 4 ≤ n) {j : Fin 4} (hj : j.val = n % 4) {k0 : ℕ} (hk : k0 = 2 * (n / 4 - 1))
    {G : v.ty.Contents (Elt Ideal)}
    (hG : ∃ L, List.Forall₂ (Is (e := .f32) (rdT (iblk m c 10 t) k0 B j) (512 * j.val) 32 34) L QRD ∧ G = v.writes (Elt Ideal) f L) :
    Regs m c (n + 1) (v.read (Elt Ideal) G) := by
  obtain ⟨L, hL, rfl⟩ := hG
  exact Regs.store m c h v f hf t ht hn hj hk hL

/-! ## The invariant -/

/-- The scratch buffers before point `n`. -/
def Phi (c : Dev nD) (n : ℕ) : sProp 𝕄 :=
  iprop((∃ B, ⌜Toks m c n B⌝ ∗ owns (c : Thread nD τ) scM0_0 fullShare B) ∗ (∃ B, ⌜Scl m c n B⌝ ∗ owns (c : Thread nD τ) scM0_1 fullShare B)
    ∗ (∃ B, ⌜Slot 1 n B (WG m c)⌝ ∗ owns (c : Thread nD τ) scM0_2 fullShare B) ∗ (∃ B, ⌜Slot 1 n B (WU m c)⌝ ∗ owns (c : Thread nD τ) scM0_3 fullShare B)
    ∗ (∃ B, ⌜Slot 0 n B (WG m c)⌝ ∗ owns (c : Thread nD τ) scM0_4 fullShare B) ∗ (∃ B, ⌜Slot 0 n B (WU m c)⌝ ∗ owns (c : Thread nD τ) scM0_5 fullShare B)
    ∗ (∃ r, prngReg c r))

/-- Before the first point a window of weights may hold anything. -/
theorem slot_zero (e : ℕ) (B : S256x2048.Idx → EReal) (W : S4352x2048.Idx → EReal) : Slot e 0 B W := fun _ _ _ _ _ _ h => absurd h (Nat.not_lt_zero _)

/-- At launch it holds of any contents, -/
theorem phi_in (c : Dev nD) : (Pipeline.ΦA spec0 c : sProp 𝕄) ⊢ Phi m c 0 := by
  rw [PhiA0_eq]; unfold Phi
  iintro ⟨⟨⟨%d0, H0⟩, ⟨%d1, H1⟩, ⟨%d2, H2⟩, ⟨%d3, H3⟩, ⟨%d4, H4⟩, ⟨%d5, H5⟩⟩, Hg⟩
  isplitl [H0]
  · iexists d0; isplitr; · ipureintro; intro y hy; exact absurd hy (by omega)
    iexact H0
  isplitl [H1]
  · iexists d1; isplitr; · ipureintro; intro h; exact absurd h (by omega)
    iexact H1
  isplitl [H2]
  · iexists d2; isplitr; · ipureintro; exact slot_zero _ _ _
    iexact H2
  isplitl [H3]
  · iexists d3; isplitr; · ipureintro; exact slot_zero _ _ _
    iexact H3
  isplitl [H4]
  · iexists d4; isplitr; · ipureintro; exact slot_zero _ _ _
    iexact H4
  isplitl [H5]
  · iexists d5; isplitr; · ipureintro; exact slot_zero _ _ _
    iexact H5
  iexact Hg

/-- and at the end it is forgotten. -/
theorem phi_out (c : Dev nD) (n : ℕ) : Phi m c n ⊢ (Pipeline.ΦA spec0 c : sProp 𝕄) := by
  rw [PhiA0_eq]; unfold Phi
  iintro ⟨⟨%d0, -, H0⟩, ⟨%d1, -, H1⟩, ⟨%d2, -, H2⟩, ⟨%d3, -, H3⟩, ⟨%d4, -, H4⟩, ⟨%d5, -, H5⟩, Hg⟩
  isplitr [Hg]
  · isplitl [H0]; · iexists d0; iexact H0
    isplitl [H1]; · iexists d1; iexact H1
    isplitl [H2]; · iexists d2; iexact H2
    isplitl [H3]; · iexists d3; iexact H3
    isplitl [H4]; · iexists d4; iexact H4
    iexists d5; iexact H5
  iexact Hg

/-! ## Buffers handed back -/

/-- A buffer written over is handed back at what is read of it. -/
theorem give {sp : Space} {s : Shape} {e : EltTy} (c : Dev nD) (r : Memref sig .tc sp s e) {P : (s.Idx → Elt Ideal e) → Prop}
    {L : List (View.Piece (Elt Ideal) s e)} (h : ∀ f, P (r.view.read (Elt Ideal) (r.view.writes (Elt Ideal) f L))) :
    (iprop(∃ f, r.view.loc (c : Thread nD τ) ↦[r.view.set]{fullShare} r.view.writes (Elt Ideal) f L) : sProp 𝕄)
      ⊢ iprop(∃ X, ⌜P X⌝ ∗ owns (c : Thread nD τ) r fullShare X) := by
  unfold owns
  iintro ⟨%f, H⟩
  iexists (r.view.read (Elt Ideal) (r.view.writes (Elt Ideal) f L))
  isplitr; · ipureintro; exact h f
  iexists (r.view.writes (Elt Ideal) f L)
  isplitr; · ipureintro; rfl
  iexact H

/-- So is a buffer at known contents, -/
theorem give1 {sp : Space} {s : Shape} {e : EltTy} (c : Dev nD) (r : Memref sig .tc sp s e) {P : (s.Idx → Elt Ideal e) → Prop}
    {f : Buf (Elt Ideal) (r.view.loc (c : Thread nD τ))} (h : P (r.view.read (Elt Ideal) f)) :
    (iprop(r.view.loc (c : Thread nD τ) ↦[r.view.set]{fullShare} f) : sProp 𝕄) ⊢ iprop(∃ X, ⌜P X⌝ ∗ owns (c : Thread nD τ) r fullShare X) := by
  unfold owns
  iintro H
  iexists (r.view.read (Elt Ideal) f)
  isplitr; · ipureintro; exact h
  iexists f
  isplitr; · ipureintro; rfl
  iexact H

/-- a buffer left as it was, -/
theorem give2 {sp : Space} {s : Shape} {e : EltTy} (c : Dev nD) (r : Memref sig .tc sp s e) {P : (s.Idx → Elt Ideal e) → Prop}
    {X : s.Idx → Elt Ideal e} (h : P X) :
    (owns (c : Thread nD τ) r fullShare X : sProp 𝕄) ⊢ iprop(∃ X, ⌜P X⌝ ∗ owns (c : Thread nD τ) r fullShare X) := by
  iintro H
  iexists X
  isplitr; · ipureintro; exact h
  iexact H

/-- and a buffer of which nothing is asked. -/
theorem give3 {sp : Space} {s : Shape} {e : EltTy} (c : Dev nD) (r : Memref sig .tc sp s e) {P : (s.Idx → Elt Ideal e) → Prop}
    (h : ∀ X, P X) :
    (iprop(∃ d, owns (c : Thread nD τ) r fullShare d) : sProp 𝕄) ⊢ iprop(∃ X, ⌜P X⌝ ∗ owns (c : Thread nD τ) r fullShare X) := by
  iintro ⟨%d, H⟩
  iexists d
  isplitr; · ipureintro; exact h d
  iexact H

/-! ## The proof data -/

/-- The windows held to a predicate: the results. -/
def held : Fin 20 → Bool := fun w => 11 ≤ w.val

/-- The exact part of the data: the inputs' buffers hold their blocks throughout. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ t := Phi m c t.val
  q _ := fullShare
  owed _ := 0

/-- What each result's buffer is held to after a point. -/
def Rl (c : Dev nD) (w : Fin cfg0.W) (t : Fin cfg0.N) (X : (cfg0.win w).block.Idx → Elt Ideal (cfg0.win w).elt) : Prop :=
  match w, X with
  | ⟨11, _⟩, X => Strip t.val (TokS m c pV) X
  | ⟨12, _⟩, X => Strip t.val (TokS m c (fun s g _ => qV s g)) X
  | ⟨13, _⟩, X => Strip t.val (TokS m c aV) X
  | ⟨14, _⟩, X => Strip t.val (TokS m c aV) X
  | ⟨15, _⟩, X => StripT t.val (TokTS m c aV) X
  | ⟨16, _⟩, X => Down t.val (WDS m c) X
  | ⟨17, _⟩, X => Grp t.val (Spec.R (g4 m c)) X
  | ⟨18, _⟩, X => Grp t.val (Spec.R (g7 m c)) X
  | ⟨19, _⟩, X => Regs m c (t.val + 1) X
  | _, _ => True

/-- The arrays at launch. -/
theorem A_eq (c : Dev nD) (w : Fin cfg0.W) : (dats m 0 c).A w = V m c (Pipeline.arrRef spec0 w) := by
  dsimp only [dats]
/-- The body leaves window 0 with its block. -/
theorem after0_0 (c : Dev nD) (t : Fin cfg0.N) : (dats m 0 c).after 0 t = iblk m c 0 t := by dsimp only [dats]
/-- The body finds window 0 with its block. -/
theorem before0_0 (c : Dev nD) (t : Fin cfg0.N) (d) : (dats m 0 c).before 0 t d = iblk m c 0 t :=
  before0_0_of m (dats m 0 c) (A_eq m c 0) (after0_0 m c) t d
/-- The body gives window 0 back with its block. -/
theorem leaves0_0 (c : Dev nD) (t : Fin cfg0.N) : (dats m 0 c).leaves 0 t = owns (c : Thread nD τ) (ms0_0 t) fullShare (iblk m c 0 t) :=
  (show (dats m 0 c).leaves 0 t = owns (c : Thread nD τ) (ms0_0 t) fullShare ((dats m 0 c).after 0 t) from by
    unfold Dat.leaves; rw [liveAt0_0 t]).trans (by rw [after0_0])
/-- The body leaves window 1 with its block. -/
theorem after0_1 (c : Dev nD) (t : Fin cfg0.N) : (dats m 0 c).after 1 t = iblk m c 1 t := by dsimp only [dats]
/-- The body finds window 1 with its block. -/
theorem before0_1 (c : Dev nD) (t : Fin cfg0.N) (d) : (dats m 0 c).before 1 t d = iblk m c 1 t :=
  before0_1_of m (dats m 0 c) (A_eq m c 1) (after0_1 m c) t d
/-- The body gives window 1 back with its block. -/
theorem leaves0_1 (c : Dev nD) (t : Fin cfg0.N) : (dats m 0 c).leaves 1 t = owns (c : Thread nD τ) (ms0_1 t) fullShare (iblk m c 1 t) :=
  (show (dats m 0 c).leaves 1 t = owns (c : Thread nD τ) (ms0_1 t) fullShare ((dats m 0 c).after 1 t) from by
    unfold Dat.leaves; rw [liveAt0_1 t]).trans (by rw [after0_1])
/-- The body leaves window 2 with its block. -/
theorem after0_2 (c : Dev nD) (t : Fin cfg0.N) : (dats m 0 c).after 2 t = iblk m c 2 t := by dsimp only [dats]
/-- The body finds window 2 with its block. -/
theorem before0_2 (c : Dev nD) (t : Fin cfg0.N) (d) : (dats m 0 c).before 2 t d = iblk m c 2 t :=
  before0_2_of m (dats m 0 c) (A_eq m c 2) (after0_2 m c) t d
/-- The body gives window 2 back with its block. -/
theorem leaves0_2 (c : Dev nD) (t : Fin cfg0.N) : (dats m 0 c).leaves 2 t = owns (c : Thread nD τ) (ms0_2 t) fullShare (iblk m c 2 t) :=
  (show (dats m 0 c).leaves 2 t = owns (c : Thread nD τ) (ms0_2 t) fullShare ((dats m 0 c).after 2 t) from by
    unfold Dat.leaves; rw [liveAt0_2 t]).trans (by rw [after0_2])
/-- The body leaves window 3 with its block. -/
theorem after0_3 (c : Dev nD) (t : Fin cfg0.N) : (dats m 0 c).after 3 t = iblk m c 3 t := by dsimp only [dats]
/-- The body finds window 3 with its block. -/
theorem before0_3 (c : Dev nD) (t : Fin cfg0.N) (d) : (dats m 0 c).before 3 t d = iblk m c 3 t :=
  before0_3_of m (dats m 0 c) (A_eq m c 3) (after0_3 m c) t d
/-- The body gives window 3 back with its block. -/
theorem leaves0_3 (c : Dev nD) (t : Fin cfg0.N) : (dats m 0 c).leaves 3 t = owns (c : Thread nD τ) (ms0_3 t) fullShare (iblk m c 3 t) :=
  (show (dats m 0 c).leaves 3 t = owns (c : Thread nD τ) (ms0_3 t) fullShare ((dats m 0 c).after 3 t) from by
    unfold Dat.leaves; rw [liveAt0_3 t]).trans (by rw [after0_3])
/-- The body leaves window 4 with its block. -/
theorem after0_4 (c : Dev nD) (t : Fin cfg0.N) : (dats m 0 c).after 4 t = iblk m c 4 t := by dsimp only [dats]
/-- The body finds window 4 with its block. -/
theorem before0_4 (c : Dev nD) (t : Fin cfg0.N) (d) : (dats m 0 c).before 4 t d = iblk m c 4 t :=
  before0_4_of m (dats m 0 c) (A_eq m c 4) (after0_4 m c) t d
/-- The body gives window 4 back with its block. -/
theorem leaves0_4 (c : Dev nD) (t : Fin cfg0.N) : (dats m 0 c).leaves 4 t = owns (c : Thread nD τ) (ms0_4 t) fullShare (iblk m c 4 t) :=
  (show (dats m 0 c).leaves 4 t = owns (c : Thread nD τ) (ms0_4 t) fullShare ((dats m 0 c).after 4 t) from by
    unfold Dat.leaves; rw [liveAt0_4 t]).trans (by rw [after0_4])
/-- The body leaves window 5 with its block. -/
theorem after0_5 (c : Dev nD) (t : Fin cfg0.N) : (dats m 0 c).after 5 t = iblk m c 5 t := by dsimp only [dats]
/-- The body finds window 5 with its block. -/
theorem before0_5 (c : Dev nD) (t : Fin cfg0.N) (d) : (dats m 0 c).before 5 t d = iblk m c 5 t :=
  before0_5_of m (dats m 0 c) (A_eq m c 5) (after0_5 m c) t d
/-- The body gives window 5 back with its block. -/
theorem leaves0_5 (c : Dev nD) (t : Fin cfg0.N) : (dats m 0 c).leaves 5 t = owns (c : Thread nD τ) (ms0_5 t) fullShare (iblk m c 5 t) :=
  (show (dats m 0 c).leaves 5 t = owns (c : Thread nD τ) (ms0_5 t) fullShare ((dats m 0 c).after 5 t) from by
    unfold Dat.leaves; rw [liveAt0_5 t]).trans (by rw [after0_5])
/-- The body leaves window 6 with its block. -/
theorem after0_6 (c : Dev nD) (t : Fin cfg0.N) : (dats m 0 c).after 6 t = iblk m c 6 t := by dsimp only [dats]
/-- The body finds window 6 with its block. -/
theorem before0_6 (c : Dev nD) (t : Fin cfg0.N) (d) : (dats m 0 c).before 6 t d = iblk m c 6 t :=
  before0_6_of m (dats m 0 c) (A_eq m c 6) (after0_6 m c) t d
/-- The body gives window 6 back with its block. -/
theorem leaves0_6 (c : Dev nD) (t : Fin cfg0.N) : (dats m 0 c).leaves 6 t = owns (c : Thread nD τ) (ms0_6 t) fullShare (iblk m c 6 t) :=
  (show (dats m 0 c).leaves 6 t = owns (c : Thread nD τ) (ms0_6 t) fullShare ((dats m 0 c).after 6 t) from by
    unfold Dat.leaves; rw [liveAt0_6 t]).trans (by rw [after0_6])
/-- The body leaves window 7 with its block. -/
theorem after0_7 (c : Dev nD) (t : Fin cfg0.N) : (dats m 0 c).after 7 t = iblk m c 7 t := by dsimp only [dats]
/-- The body finds window 7 with its block. -/
theorem before0_7 (c : Dev nD) (t : Fin cfg0.N) (d) : (dats m 0 c).before 7 t d = iblk m c 7 t :=
  before0_7_of m (dats m 0 c) (A_eq m c 7) (after0_7 m c) t d
/-- The body gives window 7 back with its block. -/
theorem leaves0_7 (c : Dev nD) (t : Fin cfg0.N) : (dats m 0 c).leaves 7 t = owns (c : Thread nD τ) (ms0_7 t) fullShare (iblk m c 7 t) :=
  (show (dats m 0 c).leaves 7 t = owns (c : Thread nD τ) (ms0_7 t) fullShare ((dats m 0 c).after 7 t) from by
    unfold Dat.leaves; rw [liveAt0_7 t]).trans (by rw [after0_7])
/-- The body leaves window 8 with its block. -/
theorem after0_8 (c : Dev nD) (t : Fin cfg0.N) : (dats m 0 c).after 8 t = iblk m c 8 t := by dsimp only [dats]
/-- The body finds window 8 with its block. -/
theorem before0_8 (c : Dev nD) (t : Fin cfg0.N) (d) : (dats m 0 c).before 8 t d = iblk m c 8 t :=
  before0_8_of m (dats m 0 c) (A_eq m c 8) (after0_8 m c) t d
/-- The body gives window 8 back with its block. -/
theorem leaves0_8 (c : Dev nD) (t : Fin cfg0.N) : (dats m 0 c).leaves 8 t = owns (c : Thread nD τ) (ms0_8 t) fullShare (iblk m c 8 t) :=
  (show (dats m 0 c).leaves 8 t = owns (c : Thread nD τ) (ms0_8 t) fullShare ((dats m 0 c).after 8 t) from by
    unfold Dat.leaves; rw [liveAt0_8 t]).trans (by rw [after0_8])
/-- The body leaves window 9 with its block. -/
theorem after0_9 (c : Dev nD) (t : Fin cfg0.N) : (dats m 0 c).after 9 t = iblk m c 9 t := by dsimp only [dats]
/-- The body finds window 9 with its block. -/
theorem before0_9 (c : Dev nD) (t : Fin cfg0.N) (d) : (dats m 0 c).before 9 t d = iblk m c 9 t :=
  before0_9_of m (dats m 0 c) (A_eq m c 9) (after0_9 m c) t d
/-- The body gives window 9 back with its block. -/
theorem leaves0_9 (c : Dev nD) (t : Fin cfg0.N) : (dats m 0 c).leaves 9 t = owns (c : Thread nD τ) (ms0_9 t) fullShare (iblk m c 9 t) :=
  (show (dats m 0 c).leaves 9 t = owns (c : Thread nD τ) (ms0_9 t) fullShare ((dats m 0 c).after 9 t) from by
    unfold Dat.leaves; rw [liveAt0_9 t]).trans (by rw [after0_9])
/-- The body leaves window 10 with its block. -/
theorem after0_10 (c : Dev nD) (t : Fin cfg0.N) : (dats m 0 c).after 10 t = iblk m c 10 t := by dsimp only [dats]
/-- The body finds window 10 with its block. -/
theorem before0_10 (c : Dev nD) (t : Fin cfg0.N) (d) : (dats m 0 c).before 10 t d = iblk m c 10 t :=
  before0_10_of m (dats m 0 c) (A_eq m c 10) (after0_10 m c) t d
/-- The body gives window 10 back with its block. -/
theorem leaves0_10 (c : Dev nD) (t : Fin cfg0.N) : (dats m 0 c).leaves 10 t = owns (c : Thread nD τ) (ms0_10 t) fullShare (iblk m c 10 t) :=
  (show (dats m 0 c).leaves 10 t = owns (c : Thread nD τ) (ms0_10 t) fullShare ((dats m 0 c).after 10 t) from by
    unfold Dat.leaves; rw [liveAt0_10 t]).trans (by rw [after0_10])

/-- The down regularisers' buffer is found with what the points before did. -/
theorem finds19 (c : Dev nD) (t : Fin cfg0.N) (Y : S2048x34.Idx → EReal) (h : ((dats m 0 c).toRRel held (Rl m c)).Finds 19 t Y) : Regs m c t.val Y := by
  by_cases h0 : t.val = 0
  · rw [h0]; intro y hy; exact absurd hy (Nat.not_lt_zero _)
  have hf : (cfg0.win 19).fetch t = false := rfl
  have hlt := lt_N t
  rcases (Pipeline.RDat.finds_of_pos (rd := (dats m 0 c).toRRel held (Rl m c)) (w := 19) (t := t) hf h0 Y).mp h with h1 | h1
  · have := (flush0_19 _).mp h1
    have e : t.val - 1 < 72 := by omega
    exfalso
    have e2 : (t.val - 1) % 72 = 71 := this
    omega
  · have h2 := Dat.toRRel_leaves (dats m 0 c) (fgt := held) (Rl := Rl m c) (w := 19) rfl h1
    have h3 : Regs m c (t.val - 1 + 1) Y := h2
    rwa [show t.val - 1 + 1 = t.val by omega] at h3

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜((dats m 0 c).toRRel held (Rl m c)).Finds 11 t Y⌝ ∗ owns (c : Thread nD τ) (ms0_11 t) fullShare Y)
    ∗ (∃ Y, ⌜((dats m 0 c).toRRel held (Rl m c)).Finds 12 t Y⌝ ∗ owns (c : Thread nD τ) (ms0_12 t) fullShare Y)
    ∗ (∃ Y, ⌜((dats m 0 c).toRRel held (Rl m c)).Finds 13 t Y⌝ ∗ owns (c : Thread nD τ) (ms0_13 t) fullShare Y)
    ∗ (∃ Y, ⌜((dats m 0 c).toRRel held (Rl m c)).Finds 14 t Y⌝ ∗ owns (c : Thread nD τ) (ms0_14 t) fullShare Y)
    ∗ (∃ Y, ⌜((dats m 0 c).toRRel held (Rl m c)).Finds 15 t Y⌝ ∗ owns (c : Thread nD τ) (ms0_15 t) fullShare Y)
    ∗ (∃ Y, ⌜((dats m 0 c).toRRel held (Rl m c)).Finds 16 t Y⌝ ∗ owns (c : Thread nD τ) (ms0_16 t) fullShare Y)
    ∗ (∃ Y, ⌜((dats m 0 c).toRRel held (Rl m c)).Finds 17 t Y⌝ ∗ owns (c : Thread nD τ) (ms0_17 t) fullShare Y)
    ∗ (∃ Y, ⌜((dats m 0 c).toRRel held (Rl m c)).Finds 18 t Y⌝ ∗ owns (c : Thread nD τ) (ms0_18 t) fullShare Y)
    ∗ (∃ Y, ⌜((dats m 0 c).toRRel held (Rl m c)).Finds 19 t Y⌝ ∗ owns (c : Thread nD τ) (ms0_19 t) fullShare Y))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (∃ X, ⌜Rl m c 11 t X⌝ ∗ owns (c : Thread nD τ) (ms0_11 t) fullShare X)
    ∗ (∃ X, ⌜Rl m c 12 t X⌝ ∗ owns (c : Thread nD τ) (ms0_12 t) fullShare X)
    ∗ (∃ X, ⌜Rl m c 13 t X⌝ ∗ owns (c : Thread nD τ) (ms0_13 t) fullShare X)
    ∗ (∃ X, ⌜Rl m c 14 t X⌝ ∗ owns (c : Thread nD τ) (ms0_14 t) fullShare X)
    ∗ (∃ X, ⌜Rl m c 15 t X⌝ ∗ owns (c : Thread nD τ) (ms0_15 t) fullShare X)
    ∗ (∃ X, ⌜Rl m c 16 t X⌝ ∗ owns (c : Thread nD τ) (ms0_16 t) fullShare X)
    ∗ (∃ X, ⌜Rl m c 17 t X⌝ ∗ owns (c : Thread nD τ) (ms0_17 t) fullShare X)
    ∗ (∃ X, ⌜Rl m c 18 t X⌝ ∗ owns (c : Thread nD τ) (ms0_18 t) fullShare X)
    ∗ (∃ X, ⌜Rl m c 19 t X⌝ ∗ owns (c : Thread nD τ) (ms0_19 t) fullShare X))

end Cert.FwdIdeal.Gen

end
-- ==== Proof.FwdIdeal.RunA.lean ====
/- The run of the forward kernel's body at the first point, with what it leaves in every buffer it stores into: the pieces
   written over a buffer it fills, the contents of a buffer it changes at offsets that depend on the point. -/
module

public import proofs.«01_k».proof.Proof.FwdIdeal.Runs

@[expose] public section

set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's run at the first point, and the contents it leaves. -/
noncomputable def kernelRun0_A (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : cond0_0 i) (hc1 : cond0_1 i) (hc2 : ¬cond0_2 i) (hc3 : ¬cond0_3 i)
    (x0 : Vec F S1152x2048 .fp8e4m3) (x1 : Vec F S6x768 .f32) (x2 : Vec F S64x1024 .i8) (x3 : Vec F S64x16 .f32) (x4 : Vec F S64x2048 .bf16) (x5 : Vec F S64x1024 .i8) (x6 : Vec F S64x16 .f32) (x7 : Vec F S64x2048 .bf16) (x8 : Vec F S512x128 .i8) (x9 : Vec F S512x34 .f32) (x10 : Vec F S512x256 .bf16) (xs0 : Vec F S4608x2048 .bf16) (xs2 : Vec F S256x2048 .bf16) (xs3 : Vec F S256x2048 .bf16) (xs4 : Vec F S256x2048 .bf16) (xs5 : Vec F S256x2048 .bf16) :
    Σ' (L17 : List (View.Piece (Elt F) S64x16 .f32)), Σ' (L18 : List (View.Piece (Elt F) S64x16 .f32)), Σ' (L19 : List (View.Piece (Elt F) S2048x34 .f32)), Σ' (GS0 : Buf (Elt F) (arg22.view.loc (c : Thread nD τ))), Σ' (LS1 : List (View.Piece (Elt F) S4608x128 .f32)), Σ' (GS4 : Buf (Elt F) (arg26.view.loc (c : Thread nD τ))), { GS5 : Buf (Elt F) (arg27.view.loc (c : Thread nD τ)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs0 ∗ (∃ d, owns (c : Thread nD τ) arg23 fullShare d) ∗ owns (c : Thread nD τ) arg24 fullShare xs2 ∗ owns (c : Thread nD τ) arg25 fullShare xs3 ∗ owns (c : Thread nD τ) arg26 fullShare xs4 ∗ owns (c : Thread nD τ) arg27 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (arg22.view.loc (c : Thread nD τ) ↦[arg22.view.set]{fullShare} GS0) ∗ (∃ f, arg23.view.loc (c : Thread nD τ) ↦[arg23.view.set]{fullShare} arg23.view.writes (Elt F) f LS1) ∗ owns (c : Thread nD τ) arg24 fullShare xs2 ∗ owns (c : Thread nD τ) arg25 fullShare xs3 ∗ (arg26.view.loc (c : Thread nD τ) ↦[arg26.view.set]{fullShare} GS4) ∗ (arg27.view.loc (c : Thread nD τ) ↦[arg27.view.set]{fullShare} GS5)) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, fun E K => ?run⟩
  case run =>
    simp only [cc0_fwd_eq_skeleton]; unfold cc0_fwd_skel
    simp only [k0_part426_eq_skeleton, k0_part1_eq_skeleton, k0_part2_eq_skeleton, k0_part3_eq_skeleton, k0_part4_eq_skeleton, k0_part5_eq_skeleton, k0_part6_eq_skeleton, k0_part7_eq_skeleton, k0_part83_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%fs0, %hfs0, HS0⟩, ⟨%ds1, %fs1, -, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg22.eq_unread hfs0; obtain rfl := harg24.eq_unread hfs2; obtain rfl := harg25.eq_unread hfs3; obtain rfl := harg26.eq_unread hfs4; obtain rfl := harg27.eq_unread hfs5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _; iexact H17
    isplitl [H18]
    · iexists _; iexact H18
    isplitl [H19]
    · iexists _; iexact H19
    isplitl [HS0]
    · iexact HS0
    isplitl [HS1]
    · iexists _; iexact HS1
    isplitl [HS2]
    · iexists _; isplitr; · ipureintro; exact harg24.read_unread _
      iexact HS2
    isplitl [HS3]
    · iexists _; isplitr; · ipureintro; exact harg25.read_unread _
      iexact HS3
    isplitl [HS4]
    · iexact HS4
    iexact HS5

end Cert.FwdIdeal.Gen

end
-- ==== Proof.FwdIdeal.CaseA.lean ====
/-
  What the first point leaves, as lists of tiles of the tables.
-/
module

public import proofs.«01_k».proof.Proof.FwdIdeal.RunA
public import proofs.«01_k».proof.Proof.FwdIdeal.Orders

@[expose] public section

set_option maxRecDepth 16384

noncomputable section

namespace Cert.FwdIdeal.Gen

open Idealize.ShloMosaic hiding ix2
open Idealize.ShloMosaic.TcCoe Idealize.SL.Sem Cert.FwdIdeal Cert.FwdIdeal.Tile
open Idealize.ShloMosaic.ValueIdx

/-- The gate regularisers stored. -/
theorem runA_rg (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : cond0_0 i) (hc1 : cond0_1 i) (hc2 : ¬cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (xs0 : Vec Ideal S4608x2048 .bf16) (xs2 : Vec Ideal S256x2048 .bf16) (xs3 : Vec Ideal S256x2048 .bf16) (xs4 : Vec Ideal S256x2048 .bf16) (xs5 : Vec Ideal S256x2048 .bf16) :
    List.Forall₂ (Is (rT x4) (0) 32 16) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 xs0 xs2 xs3 xs4 xs5).1 QR := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (rowR x4 32 32 rfl (by decide) _ _ _ _ _ _ _ _ _ _ _ _ _ _ _ _ _ _) <|
    .cons (rowR x4 0 0 rfl (by decide) _ _ _ _ _ _ _ _ _ _ _ _ _ _ _ _ _ _) <|
    .nil

/-- The up regularisers stored. -/
theorem runA_ru (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : cond0_0 i) (hc1 : cond0_1 i) (hc2 : ¬cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (xs0 : Vec Ideal S4608x2048 .bf16) (xs2 : Vec Ideal S256x2048 .bf16) (xs3 : Vec Ideal S256x2048 .bf16) (xs4 : Vec Ideal S256x2048 .bf16) (xs5 : Vec Ideal S256x2048 .bf16) :
    List.Forall₂ (Is (rT x7) (0) 32 16) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 xs0 xs2 xs3 xs4 xs5).2.1 QR := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (rowR x7 32 32 rfl (by decide) _ _ _ _ _ _ _ _ _ _ _ _ _ _ _ _ _ _) <|
    .cons (rowR x7 0 0 rfl (by decide) _ _ _ _ _ _ _ _ _ _ _ _ _ _ _ _ _ _) <|
    .nil

/-- The tokens stored. -/
theorem runA_xb (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : cond0_0 i) (hc1 : cond0_1 i) (hc2 : ¬cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (xs0 : Vec Ideal S4608x2048 .bf16) (xs2 : Vec Ideal S256x2048 .bf16) (xs3 : Vec Ideal S256x2048 .bf16) (xs4 : Vec Ideal S256x2048 .bf16) (xs5 : Vec Ideal S256x2048 .bf16) :
    ∃ L, List.Forall₂ (Is (a := 4608) (e := .bf16) (H := 1152) (b := 2048) x0 (1152 * (i 1).val) 1152 2048) L [(0, 0)] ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 xs0 xs2 xs3 xs4 xs5).2.2.2.1 = arg22.view.writes (Elt Ideal) (harg22.unread xs0) L := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  refine ⟨_, ?_, rfl⟩
  exact
    .cons (xb_piece x0 (row1152 (i 1)) _ _ _) <|
    .nil

/-- The scales spread. -/
theorem runA_xs (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : cond0_0 i) (hc1 : cond0_1 i) (hc2 : ¬cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (xs0 : Vec Ideal S4608x2048 .bf16) (xs2 : Vec Ideal S256x2048 .bf16) (xs3 : Vec Ideal S256x2048 .bf16) (xs4 : Vec Ideal S256x2048 .bf16) (xs5 : Vec Ideal S256x2048 .bf16) :
    List.Forall₂ (Is (xsT x1) (0) 128 128) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 xs0 xs2 xs3 xs4 xs5).2.2.2.2.1 QS := by
  unfold kernelRun0_A
  dsimp only
  sl_unfold_words
  try simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (xs_piece x1 5 5 4480 640 (by decide) (by decide) rfl rfl _ _ _ _ _ _) <|
    .cons (xs_piece x1 5 4 4352 512 (by decide) (by decide) rfl rfl _ _ _ _ _ _) <|
    .cons (xs_piece x1 5 3 4224 384 (by decide) (by decide) rfl rfl _ _ _ _ _ _) <|
    .cons (xs_piece x1 5 2 4096 256 (by decide) (by decide) rfl rfl _ _ _ _ _ _) <|
    .cons (xs_piece x1 5 1 3968 128 (by decide) (by decide) rfl rfl _ _ _ _ _ _) <|
    .cons (xs_piece x1 5 0 3840 0 (by decide) (by decide) rfl rfl _ _ _ _ _ _) <|
    .cons (xs_piece x1 4 5 3712 640 (by decide) (by decide) rfl rfl _ _ _ _ _ _) <|
    .cons (xs_piece x1 4 4 3584 512 (by decide) (by decide) rfl rfl _ _ _ _ _ _) <|
    .cons (xs_piece x1 4 3 3456 384 (by decide) (by decide) rfl rfl _ _ _ _ _ _) <|
    .cons (xs_piece x1 4 2 3328 256 (by decide) (by decide) rfl rfl _ _ _ _ _ _) <|
    .cons (xs_piece x1 4 1 3200 128 (by decide) (by decide) rfl rfl _ _ _ _ _ _) <|
    .cons (xs_piece x1 4 0 3072 0 (by decide) (by decide) rfl rfl _ _ _ _ _ _) <|
    .cons (xs_piece x1 3 5 2944 640 (by decide) (by decide) rfl rfl _ _ _ _ _ _) <|
    .cons (xs_piece x1 3 4 2816 512 (by decide) (by decide) rfl rfl _ _ _ _ _ _) <|
    .cons (xs_piece x1 3 3 2688 384 (by decide) (by decide) rfl rfl _ _ _ _ _ _) <|
    .cons (xs_piece x1 3 2 2560 256 (by decide) (by decide) rfl rfl _ _ _ _ _ _) <|
    .cons (xs_piece x1 3 1 2432 128 (by decide) (by decide) rfl rfl _ _ _ _ _ _) <|
    .cons (xs_piece x1 3 0 2304 0 (by decide) (by decide) rfl rfl _ _ _ _ _ _) <|
    .cons (xs_piece x1 2 5 2176 640 (by decide) (by decide) rfl rfl _ _ _ _ _ _) <|
    .cons (xs_piece x1 2 4 2048 512 (by decide) (by decide) rfl rfl _ _ _ _ _ _) <|
    .cons (xs_piece x1 2 3 1920 384 (by decide) (by decide) rfl rfl _ _ _ _ _ _) <|
    .cons (xs_piece x1 2 2 1792 256 (by decide) (by decide) rfl rfl _ _ _ _ _ _) <|
    .cons (xs_piece x1 2 1 1664 128 (by decide) (by decide) rfl rfl _ _ _ _ _ _) <|
    .cons (xs_piece x1 2 0 1536 0 (by decide) (by decide) rfl rfl _ _ _ _ _ _) <|
    .cons (xs_piece x1 1 5 1408 640 (by decide) (by decide) rfl rfl _ _ _ _ _ _) <|
    .cons (xs_piece x1 1 4 1280 512 (by decide) (by decide) rfl rfl _ _ _ _ _ _) <|
    .cons (xs_piece x1 1 3 1152 384 (by decide) (by decide) rfl rfl _ _ _ _ _ _) <|
    .cons (xs_piece x1 1 2 1024 256 (by decide) (by decide) rfl rfl _ _ _ _ _ _) <|
    .cons (xs_piece x1 1 1 896 128 (by decide) (by decide) rfl rfl _ _ _ _ _ _) <|
    .cons (xs_piece x1 1 0 768 0 (by decide) (by decide) rfl rfl _ _ _ _ _ _) <|
    .cons (xs_piece x1 0 5 640 640 (by decide) (by decide) rfl rfl _ _ _ _ _ _) <|
    .cons (xs_piece x1 0 4 512 512 (by decide) (by decide) rfl rfl _ _ _ _ _ _) <|
    .cons (xs_piece x1 0 3 384 384 (by decide) (by decide) rfl rfl _ _ _ _ _ _) <|
    .cons (xs_piece x1 0 2 256 256 (by decide) (by decide) rfl rfl _ _ _ _ _ _) <|
    .cons (xs_piece x1 0 1 128 128 (by decide) (by decide) rfl rfl _ _ _ _ _ _) <|
    .cons (xs_piece x1 0 0 0 0 (by decide) (by decide) rfl rfl _ _ _ _ _ _) <|
    .nil

/-- The gate weights stored. -/
theorem runA_wg (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : cond0_0 i) (hc1 : cond0_1 i) (hc2 : ¬cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (xs0 : Vec Ideal S4608x2048 .bf16) (xs2 : Vec Ideal S256x2048 .bf16) (xs3 : Vec Ideal S256x2048 .bf16) (xs4 : Vec Ideal S256x2048 .bf16) (xs5 : Vec Ideal S256x2048 .bf16) :
    ∃ L, List.Forall₂ (Is (wT x2 x3 x4) (64 * (i 1).val) 32 128) L QW ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 xs0 xs2 xs3 xs4 xs5).2.2.2.2.2.1 = arg26.view.writes (Elt Ideal) (harg26.unread xs4) L := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  refine ⟨_, ?_, rfl⟩
  exact
    .cons (wB (g := 7) x2 x3 x4 896 15 1920 (r64_32 (i 1)) (by decide) rfl rfl rfl (by decide) _ _ _ _ (by decide) _) <|
    .cons (wA (g := 7) x2 x3 x4 896 14 1792 (r64_32 (i 1)) (by decide) rfl rfl rfl (by decide) _ _ _ _ (by decide) _) <|
    .cons (wB (g := 6) x2 x3 x4 768 13 1664 (r64_32 (i 1)) (by decide) rfl rfl rfl (by decide) _ _ _ _ (by decide) _) <|
    .cons (wA (g := 6) x2 x3 x4 768 12 1536 (r64_32 (i 1)) (by decide) rfl rfl rfl (by decide) _ _ _ _ (by decide) _) <|
    .cons (wB (g := 5) x2 x3 x4 640 11 1408 (r64_32 (i 1)) (by decide) rfl rfl rfl (by decide) _ _ _ _ (by decide) _) <|
    .cons (wA (g := 5) x2 x3 x4 640 10 1280 (r64_32 (i 1)) (by decide) rfl rfl rfl (by decide) _ _ _ _ (by decide) _) <|
    .cons (wB (g := 4) x2 x3 x4 512 9 1152 (r64_32 (i 1)) (by decide) rfl rfl rfl (by decide) _ _ _ _ (by decide) _) <|
    .cons (wA (g := 4) x2 x3 x4 512 8 1024 (r64_32 (i 1)) (by decide) rfl rfl rfl (by decide) _ _ _ _ (by decide) _) <|
    .cons (wB (g := 3) x2 x3 x4 384 7 896 (r64_32 (i 1)) (by decide) rfl rfl rfl (by decide) _ _ _ _ (by decide) _) <|
    .cons (wA (g := 3) x2 x3 x4 384 6 768 (r64_32 (i 1)) (by decide) rfl rfl rfl (by decide) _ _ _ _ (by decide) _) <|
    .cons (wB (g := 2) x2 x3 x4 256 5 640 (r64_32 (i 1)) (by decide) rfl rfl rfl (by decide) _ _ _ _ (by decide) _) <|
    .cons (wA (g := 2) x2 x3 x4 256 4 512 (r64_32 (i 1)) (by decide) rfl rfl rfl (by decide) _ _ _ _ (by decide) _) <|
    .cons (wB (g := 1) x2 x3 x4 128 3 384 (r64_32 (i 1)) (by decide) rfl rfl rfl (by decide) _ _ _ _ (by decide) _) <|
    .cons (wA (g := 1) x2 x3 x4 128 2 256 (r64_32 (i 1)) (by decide) rfl rfl rfl (by decide) _ _ _ _ (by decide) _) <|
    .cons (wB (g := 0) x2 x3 x4 0 1 128 (r64_32 (i 1)) (by decide) rfl rfl rfl (by decide) _ _ _ _ (by decide) _) <|
    .cons (wA (g := 0) x2 x3 x4 0 0 0 (r64_32 (i 1)) (by decide) rfl rfl rfl (by decide) _ _ _ _ (by decide) _) <|
    .cons (wB (g := 7) x2 x3 x4 896 15 1920 (r64_0 (i 1)) (by decide) rfl rfl rfl (by decide) _ _ _ _ (by decide) _) <|
    .cons (wA (g := 7) x2 x3 x4 896 14 1792 (r64_0 (i 1)) (by decide) rfl rfl rfl (by decide) _ _ _ _ (by decide) _) <|
    .cons (wB (g := 6) x2 x3 x4 768 13 1664 (r64_0 (i 1)) (by decide) rfl rfl rfl (by decide) _ _ _ _ (by decide) _) <|
    .cons (wA (g := 6) x2 x3 x4 768 12 1536 (r64_0 (i 1)) (by decide) rfl rfl rfl (by decide) _ _ _ _ (by decide) _) <|
    .cons (wB (g := 5) x2 x3 x4 640 11 1408 (r64_0 (i 1)) (by decide) rfl rfl rfl (by decide) _ _ _ _ (by decide) _) <|
    .cons (wA (g := 5) x2 x3 x4 640 10 1280 (r64_0 (i 1)) (by decide) rfl rfl rfl (by decide) _ _ _ _ (by decide) _) <|
    .cons (wB (g := 4) x2 x3 x4 512 9 1152 (r64_0 (i 1)) (by decide) rfl rfl rfl (by decide) _ _ _ _ (by decide) _) <|
    .cons (wA (g := 4) x2 x3 x4 512 8 1024 (r64_0 (i 1)) (by decide) rfl rfl rfl (by decide) _ _ _ _ (by decide) _) <|
    .cons (wB (g := 3) x2 x3 x4 384 7 896 (r64_0 (i 1)) (by decide) rfl rfl rfl (by decide) _ _ _ _ (by decide) _) <|
    .cons (wA (g := 3) x2 x3 x4 384 6 768 (r64_0 (i 1)) (by decide) rfl rfl rfl (by decide) _ _ _ _ (by decide) _) <|
    .cons (wB (g := 2) x2 x3 x4 256 5 640 (r64_0 (i 1)) (by decide) rfl rfl rfl (by decide) _ _ _ _ (by decide) _) <|
    .cons (wA (g := 2) x2 x3 x4 256 4 512 (r64_0 (i 1)) (by decide) rfl rfl rfl (by decide) _ _ _ _ (by decide) _) <|
    .cons (wB (g := 1) x2 x3 x4 128 3 384 (r64_0 (i 1)) (by decide) rfl rfl rfl (by decide) _ _ _ _ (by decide) _) <|
    .cons (wA (g := 1) x2 x3 x4 128 2 256 (r64_0 (i 1)) (by decide) rfl rfl rfl (by decide) _ _ _ _ (by decide) _) <|
    .cons (wB (g := 0) x2 x3 x4 0 1 128 (r64_0 (i 1)) (by decide) rfl rfl rfl (by decide) _ _ _ _ (by decide) _) <|
    .cons (wA (g := 0) x2 x3 x4 0 0 0 (r64_0 (i 1)) (by decide) rfl rfl rfl (by decide) _ _ _ _ (by decide) _) <|
    .nil

/-- The up weights stored. -/
theorem runA_wu (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : cond0_0 i) (hc1 : cond0_1 i) (hc2 : ¬cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (xs0 : Vec Ideal S4608x2048 .bf16) (xs2 : Vec Ideal S256x2048 .bf16) (xs3 : Vec Ideal S256x2048 .bf16) (xs4 : Vec Ideal S256x2048 .bf16) (xs5 : Vec Ideal S256x2048 .bf16) :
    ∃ L, List.Forall₂ (Is (wT x5 x6 x7) (64 * (i 1).val) 32 128) L QW ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 xs0 xs2 xs3 xs4 xs5).2.2.2.2.2.2.1 = arg27.view.writes (Elt Ideal) (harg27.unread xs5) L := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  refine ⟨_, ?_, rfl⟩
  exact
    .cons (wB (g := 7) x5 x6 x7 896 15 1920 (r64_32 (i 1)) (by decide) rfl rfl rfl (by decide) _ _ _ _ (by decide) _) <|
    .cons (wA (g := 7) x5 x6 x7 896 14 1792 (r64_32 (i 1)) (by decide) rfl rfl rfl (by decide) _ _ _ _ (by decide) _) <|
    .cons (wB (g := 6) x5 x6 x7 768 13 1664 (r64_32 (i 1)) (by decide) rfl rfl rfl (by decide) _ _ _ _ (by decide) _) <|
    .cons (wA (g := 6) x5 x6 x7 768 12 1536 (r64_32 (i 1)) (by decide) rfl rfl rfl (by decide) _ _ _ _ (by decide) _) <|
    .cons (wB (g := 5) x5 x6 x7 640 11 1408 (r64_32 (i 1)) (by decide) rfl rfl rfl (by decide) _ _ _ _ (by decide) _) <|
    .cons (wA (g := 5) x5 x6 x7 640 10 1280 (r64_32 (i 1)) (by decide) rfl rfl rfl (by decide) _ _ _ _ (by decide) _) <|
    .cons (wB (g := 4) x5 x6 x7 512 9 1152 (r64_32 (i 1)) (by decide) rfl rfl rfl (by decide) _ _ _ _ (by decide) _) <|
    .cons (wA (g := 4) x5 x6 x7 512 8 1024 (r64_32 (i 1)) (by decide) rfl rfl rfl (by decide) _ _ _ _ (by decide) _) <|
    .cons (wB (g := 3) x5 x6 x7 384 7 896 (r64_32 (i 1)) (by decide) rfl rfl rfl (by decide) _ _ _ _ (by decide) _) <|
    .cons (wA (g := 3) x5 x6 x7 384 6 768 (r64_32 (i 1)) (by decide) rfl rfl rfl (by decide) _ _ _ _ (by decide) _) <|
    .cons (wB (g := 2) x5 x6 x7 256 5 640 (r64_32 (i 1)) (by decide) rfl rfl rfl (by decide) _ _ _ _ (by decide) _) <|
    .cons (wA (g := 2) x5 x6 x7 256 4 512 (r64_32 (i 1)) (by decide) rfl rfl rfl (by decide) _ _ _ _ (by decide) _) <|
    .cons (wB (g := 1) x5 x6 x7 128 3 384 (r64_32 (i 1)) (by decide) rfl rfl rfl (by decide) _ _ _ _ (by decide) _) <|
    .cons (wA (g := 1) x5 x6 x7 128 2 256 (r64_32 (i 1)) (by decide) rfl rfl rfl (by decide) _ _ _ _ (by decide) _) <|
    .cons (wB (g := 0) x5 x6 x7 0 1 128 (r64_32 (i 1)) (by decide) rfl rfl rfl (by decide) _ _ _ _ (by decide) _) <|
    .cons (wA (g := 0) x5 x6 x7 0 0 0 (r64_32 (i 1)) (by decide) rfl rfl rfl (by decide) _ _ _ _ (by decide) _) <|
    .cons (wB (g := 7) x5 x6 x7 896 15 1920 (r64_0 (i 1)) (by decide) rfl rfl rfl (by decide) _ _ _ _ (by decide) _) <|
    .cons (wA (g := 7) x5 x6 x7 896 14 1792 (r64_0 (i 1)) (by decide) rfl rfl rfl (by decide) _ _ _ _ (by decide) _) <|
    .cons (wB (g := 6) x5 x6 x7 768 13 1664 (r64_0 (i 1)) (by decide) rfl rfl rfl (by decide) _ _ _ _ (by decide) _) <|
    .cons (wA (g := 6) x5 x6 x7 768 12 1536 (r64_0 (i 1)) (by decide) rfl rfl rfl (by decide) _ _ _ _ (by decide) _) <|
    .cons (wB (g := 5) x5 x6 x7 640 11 1408 (r64_0 (i 1)) (by decide) rfl rfl rfl (by decide) _ _ _ _ (by decide) _) <|
    .cons (wA (g := 5) x5 x6 x7 640 10 1280 (r64_0 (i 1)) (by decide) rfl rfl rfl (by decide) _ _ _ _ (by decide) _) <|
    .cons (wB (g := 4) x5 x6 x7 512 9 1152 (r64_0 (i 1)) (by decide) rfl rfl rfl (by decide) _ _ _ _ (by decide) _) <|
    .cons (wA (g := 4) x5 x6 x7 512 8 1024 (r64_0 (i 1)) (by decide) rfl rfl rfl (by decide) _ _ _ _ (by decide) _) <|
    .cons (wB (g := 3) x5 x6 x7 384 7 896 (r64_0 (i 1)) (by decide) rfl rfl rfl (by decide) _ _ _ _ (by decide) _) <|
    .cons (wA (g := 3) x5 x6 x7 384 6 768 (r64_0 (i 1)) (by decide) rfl rfl rfl (by decide) _ _ _ _ (by decide) _) <|
    .cons (wB (g := 2) x5 x6 x7 256 5 640 (r64_0 (i 1)) (by decide) rfl rfl rfl (by decide) _ _ _ _ (by decide) _) <|
    .cons (wA (g := 2) x5 x6 x7 256 4 512 (r64_0 (i 1)) (by decide) rfl rfl rfl (by decide) _ _ _ _ (by decide) _) <|
    .cons (wB (g := 1) x5 x6 x7 128 3 384 (r64_0 (i 1)) (by decide) rfl rfl rfl (by decide) _ _ _ _ (by decide) _) <|
    .cons (wA (g := 1) x5 x6 x7 128 2 256 (r64_0 (i 1)) (by decide) rfl rfl rfl (by decide) _ _ _ _ (by decide) _) <|
    .cons (wB (g := 0) x5 x6 x7 0 1 128 (r64_0 (i 1)) (by decide) rfl rfl rfl (by decide) _ _ _ _ (by decide) _) <|
    .cons (wA (g := 0) x5 x6 x7 0 0 0 (r64_0 (i 1)) (by decide) rfl rfl rfl (by decide) _ _ _ _ (by decide) _) <|
    .nil

end Cert.FwdIdeal.Gen

end
-- ==== Proof.FwdIdeal.BodyA.lean ====
/-
  The forward kernel's body over the extended reals at the first point: what it stores is what the buffers are held to.
-/
module

public import proofs.«01_k».proof.Proof.FwdIdeal.Data
public import proofs.«01_k».proof.Proof.FwdIdeal.CaseA

@[expose] public section

set_option maxRecDepth 16384

noncomputable section

namespace Cert.FwdIdeal.Gen

open Idealize.ShloMosaic hiding ix2
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal.Tile

local notation "𝕄" => MT nD τ sig Unit (Elt Ideal) ℕ (UR sig nD τ) ℕ

variable (m : (ℓ : Loc nD τ sig) → Buf (Elt Ideal) ℓ)

attribute [local irreducible] kernelRun0_A

/-- The run of the body at a point of this kind. -/
def RA (c : Dev nD) (t : Fin cfg0.N) (hc0 : cond0_0 (grid0.coords t)) (hc1 : cond0_1 (grid0.coords t)) (hc2 : ¬cond0_2 (grid0.coords t)) (hc3 : ¬cond0_3 (grid0.coords t)) (B0 : Vec Ideal S4608x2048 .bf16) (B2 : Vec Ideal S256x2048 .bf16) (B3 : Vec Ideal S256x2048 .bf16) (B4 : Vec Ideal S256x2048 .bf16) (B5 : Vec Ideal S256x2048 .bf16) := kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) B0 B2 B3 B4 B5

/-- Where these points lie. -/
theorem whereA (t : Fin cfg0.N) (hc0 : cond0_0 (grid0.coords t)) : t.val = 0 := by
  have ht : t.val = 0 := by have := (hcond0_0 t).mp hc0; have := lt_N t; omega
  exact ht

/-- A point of kind A leaves the gate's regularisers as it must. -/
theorem A_rg (c : Dev nD) (t : Fin cfg0.N) (hc0 : cond0_0 (grid0.coords t)) (hc1 : cond0_1 (grid0.coords t)) (hc2 : ¬cond0_2 (grid0.coords t)) (hc3 : ¬cond0_3 (grid0.coords t)) (B0 : Vec Ideal S4608x2048 .bf16) (B2 : Vec Ideal S256x2048 .bf16) (B3 : Vec Ideal S256x2048 .bf16) (B4 : Vec Ideal S256x2048 .bf16) (B5 : Vec Ideal S256x2048 .bf16) (f) :
    Grp t.val (Spec.R (g4 m c)) ((ms0_17 t).view.read (Elt Ideal) ((ms0_17 t).view.writes (Elt Ideal) f (RA m c t hc0 hc1 hc2 hc3 B0 B2 B3 B4 B5).1)) := by
  have ht := whereA t hc0
  have hN := lt_N t
  have c1 := co1 t
  have c0 := co0 t
  exact grp_gate m c t (runA_rg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) B0 B2 B3 B4 B5) _ f

/-- A point of kind A leaves the up projection's regularisers as it must. -/
theorem A_ru (c : Dev nD) (t : Fin cfg0.N) (hc0 : cond0_0 (grid0.coords t)) (hc1 : cond0_1 (grid0.coords t)) (hc2 : ¬cond0_2 (grid0.coords t)) (hc3 : ¬cond0_3 (grid0.coords t)) (B0 : Vec Ideal S4608x2048 .bf16) (B2 : Vec Ideal S256x2048 .bf16) (B3 : Vec Ideal S256x2048 .bf16) (B4 : Vec Ideal S256x2048 .bf16) (B5 : Vec Ideal S256x2048 .bf16) (f) :
    Grp t.val (Spec.R (g7 m c)) ((ms0_18 t).view.read (Elt Ideal) ((ms0_18 t).view.writes (Elt Ideal) f (RA m c t hc0 hc1 hc2 hc3 B0 B2 B3 B4 B5).2.1)) := by
  have ht := whereA t hc0
  have hN := lt_N t
  have c1 := co1 t
  have c0 := co0 t
  exact grp_up m c t (runA_ru c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) B0 B2 B3 B4 B5) _ f

/-- A point of kind A leaves the activations as it must. -/
theorem A_xb (c : Dev nD) (t : Fin cfg0.N) (hc0 : cond0_0 (grid0.coords t)) (hc1 : cond0_1 (grid0.coords t)) (hc2 : ¬cond0_2 (grid0.coords t)) (hc3 : ¬cond0_3 (grid0.coords t)) (B0 : Vec Ideal S4608x2048 .bf16) (B2 : Vec Ideal S256x2048 .bf16) (B3 : Vec Ideal S256x2048 .bf16) (B4 : Vec Ideal S256x2048 .bf16) (B5 : Vec Ideal S256x2048 .bf16) (h0 : Toks m c t.val B0) :
    Toks m c (t.val + 1) (scM0_0.view.read (Elt Ideal) (RA m c t hc0 hc1 hc2 hc3 B0 B2 B3 B4 B5).2.2.2.1) := by
  have ht := whereA t hc0
  have hN := lt_N t
  have c1 := co1 t
  have c0 := co0 t
  exact Toks.stored m c h0 _ _ (Memref.IsWhole.read_unread (Memref.isWhole_whole _) _) t rfl (by omega) c1 (runA_xb c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) B0 B2 B3 B4 B5)

/-- A point of kind A leaves the token scales as it must. -/
theorem A_xs (c : Dev nD) (t : Fin cfg0.N) (hc0 : cond0_0 (grid0.coords t)) (hc1 : cond0_1 (grid0.coords t)) (hc2 : ¬cond0_2 (grid0.coords t)) (hc3 : ¬cond0_3 (grid0.coords t)) (B0 : Vec Ideal S4608x2048 .bf16) (B2 : Vec Ideal S256x2048 .bf16) (B3 : Vec Ideal S256x2048 .bf16) (B4 : Vec Ideal S256x2048 .bf16) (B5 : Vec Ideal S256x2048 .bf16) (f) :
    Scl m c (t.val + 1) (scM0_1.view.read (Elt Ideal) (scM0_1.view.writes (Elt Ideal) f (RA m c t hc0 hc1 hc2 hc3 B0 B2 B3 B4 B5).2.2.2.2.1)) := by
  have ht := whereA t hc0
  have hN := lt_N t
  have c1 := co1 t
  have c0 := co0 t
  have hL := (runA_xs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) B0 B2 B3 B4 B5)
  intro _ y
  exact (read_in _ f hL y y (by omega) rfl (grid_cover 128 128 36 1 (by decide) (by decide) (by decide) _ _ (idx2_lt0 y) (idx2_lt1 y))).trans (xsT_blk m c t y)

/-- A point of kind A leaves the gate's weights as it must. -/
theorem A_wg (c : Dev nD) (t : Fin cfg0.N) (hc0 : cond0_0 (grid0.coords t)) (hc1 : cond0_1 (grid0.coords t)) (hc2 : ¬cond0_2 (grid0.coords t)) (hc3 : ¬cond0_3 (grid0.coords t)) (B0 : Vec Ideal S4608x2048 .bf16) (B2 : Vec Ideal S256x2048 .bf16) (B3 : Vec Ideal S256x2048 .bf16) (B4 : Vec Ideal S256x2048 .bf16) (B5 : Vec Ideal S256x2048 .bf16) (h : Slot 0 t.val B4 (WG m c)) :
    Slot 0 (t.val + 1) (scM0_4.view.read (Elt Ideal) (RA m c t hc0 hc1 hc2 hc3 B0 B2 B3 B4 B5).2.2.2.2.2.1) (WG m c) := by
  have ht := whereA t hc0
  have hN := lt_N t
  have c1 := co1 t
  have c0 := co0 t
  exact Slot.stored h (by omega) _ _ (Memref.IsWhole.read_unread (Memref.isWhole_whole _) _) c1 (runA_wg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) B0 B2 B3 B4 B5) fun hl y z e0 e1 => wT_gate m c t hl y z e0 e1

/-- A point of kind A leaves the up projection's weights as it must. -/
theorem A_wu (c : Dev nD) (t : Fin cfg0.N) (hc0 : cond0_0 (grid0.coords t)) (hc1 : cond0_1 (grid0.coords t)) (hc2 : ¬cond0_2 (grid0.coords t)) (hc3 : ¬cond0_3 (grid0.coords t)) (B0 : Vec Ideal S4608x2048 .bf16) (B2 : Vec Ideal S256x2048 .bf16) (B3 : Vec Ideal S256x2048 .bf16) (B4 : Vec Ideal S256x2048 .bf16) (B5 : Vec Ideal S256x2048 .bf16) (h : Slot 0 t.val B5 (WU m c)) :
    Slot 0 (t.val + 1) (scM0_5.view.read (Elt Ideal) (RA m c t hc0 hc1 hc2 hc3 B0 B2 B3 B4 B5).2.2.2.2.2.2.1) (WU m c) := by
  have ht := whereA t hc0
  have hN := lt_N t
  have c1 := co1 t
  have c0 := co0 t
  exact Slot.stored h (by omega) _ _ (Memref.IsWhole.read_unread (Memref.isWhole_whole _) _) c1 (runA_wu c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) B0 B2 B3 B4 B5) fun hl y z e0 e1 => wT_up m c t hl y z e0 e1

set_option maxHeartbeats 3200000 in
/-- The body at such a point. -/
theorem bodyA (c : Dev nD) (t : Fin cfg0.N) (hc0 : cond0_0 (grid0.coords t)) (hc1 : cond0_1 (grid0.coords t)) (hc2 : ¬cond0_2 (grid0.coords t)) (hc3 : ¬cond0_3 (grid0.coords t)) :
    bodyPre m c t ⊢ wp frame (wpE (defs₀ (F := Ideal)) Variants.none c none) Set.univ (bodyAt0 (F := Ideal) t) (fun _ => bodyPost m c t) := by
  have ht := whereA t hc0
  unfold bodyPre bodyPost
  simp only [before0_0, before0_1, before0_2, before0_3, before0_4, before0_5, before0_6, before0_7, before0_8, before0_9, before0_10, leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl,
    show (dats m 0 c).Φ t.castSucc = Phi m c t.val from rfl, show (dats m 0 c).Φ t.succ = Phi m c (t.val + 1) from rfl]
  unfold Phi
  iintro ⟨⟨⟨%B0, %k0, HS0⟩, ⟨%B1, %k1, HS1⟩, ⟨%B2, %k2, HS2⟩, ⟨%B3, %k3, HS3⟩, ⟨%B4, %k4, HS4⟩, ⟨%B5, %k5, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, -, H12⟩, ⟨%d13, -, H13⟩, ⟨%d14, -, H14⟩, ⟨%d15, -, H15⟩, ⟨%d16, -, H16⟩, ⟨%d17, -, H17⟩, ⟨%d18, -, H18⟩, ⟨%x19, %k19, H19⟩⟩
  have h19 := finds19 m c t x19 k19
  iapply ((RA m c t hc0 hc1 hc2 hc3 B0 B2 B3 B4 B5).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexists _; iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, HS0, HS1, HS2, HS3, HS4, HS5⟩
  isplitl [HS0 HS1 HS2 HS3 HS4 HS5 Hg]
  · isplitl [HS0]
    · iapply (give1 c scM0_0 (P := Toks m c (t.val + 1)) (A_xb m c t hc0 hc1 hc2 hc3 B0 B2 B3 B4 B5 k0)); iexact HS0
    isplitl [HS1]
    · iapply (give c scM0_1 (P := Scl m c (t.val + 1)) (A_xs m c t hc0 hc1 hc2 hc3 B0 B2 B3 B4 B5)); iexact HS1
    isplitl [HS2]
    · iapply (give2 c scM0_2 (P := fun B => Slot 1 (t.val + 1) B (WG m c)) (Slot.keep k2 (by omega))); iexact HS2
    isplitl [HS3]
    · iapply (give2 c scM0_3 (P := fun B => Slot 1 (t.val + 1) B (WU m c)) (Slot.keep k3 (by omega))); iexact HS3
    isplitl [HS4]
    · iapply (give1 c scM0_4 (P := fun B => Slot 0 (t.val + 1) B (WG m c)) (A_wg m c t hc0 hc1 hc2 hc3 B0 B2 B3 B4 B5 k4)); iexact HS4
    isplitl [HS5]
    · iapply (give1 c scM0_5 (P := fun B => Slot 0 (t.val + 1) B (WU m c)) (A_wu m c t hc0 hc1 hc2 hc3 B0 B2 B3 B4 B5 k5)); iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply (give3 c (ms0_11 t) (P := Strip t.val (TokS m c pV)) (fun X h => absurd h (by omega))); iexact H11
  isplitl [H12]
  · iapply (give3 c (ms0_12 t) (P := Strip t.val (TokS m c (fun s g _ => qV s g))) (fun X h => absurd h (by omega))); iexact H12
  isplitl [H13]
  · iapply (give3 c (ms0_13 t) (P := Strip t.val (TokS m c aV)) (fun X h => absurd h (by omega))); iexact H13
  isplitl [H14]
  · iapply (give3 c (ms0_14 t) (P := Strip t.val (TokS m c aV)) (fun X h => absurd h (by omega))); iexact H14
  isplitl [H15]
  · iapply (give3 c (ms0_15 t) (P := StripT t.val (TokTS m c aV)) (fun X h => absurd h (by omega))); iexact H15
  isplitl [H16]
  · iapply (give3 c (ms0_16 t) (P := Down t.val (WDS m c)) (fun X h => absurd h (by omega))); iexact H16
  isplitl [H17]
  · iapply (give c (ms0_17 t) (P := Grp t.val (Spec.R (g4 m c))) (A_rg m c t hc0 hc1 hc2 hc3 B0 B2 B3 B4 B5)); iexact H17
  isplitl [H18]
  · iapply (give c (ms0_18 t) (P := Grp t.val (Spec.R (g7 m c))) (A_ru m c t hc0 hc1 hc2 hc3 B0 B2 B3 B4 B5)); iexact H18
  iapply (give c (ms0_19 t) (P := Regs m c (t.val + 1)) (fun f y hy => absurd hy (by omega))); iexact H19

end Cert.FwdIdeal.Gen

end
-- ==== Proof.FwdIdeal.RunB.lean ====
/- The run of the forward kernel's body at the other points of the first row, with what it leaves in every buffer it stores into: the pieces
   written over a buffer it fills, the contents of a buffer it changes at offsets that depend on the point. -/
module

public import proofs.«01_k».proof.Proof.FwdIdeal.RunA

@[expose] public section

set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's run at the other points of the first row, and the contents it leaves. -/
noncomputable def kernelRun0_B (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : cond0_1 i) (hc2 : ¬cond0_2 i) (hc3 : ¬cond0_3 i)
    (x0 : Vec F S1152x2048 .fp8e4m3) (x1 : Vec F S6x768 .f32) (x2 : Vec F S64x1024 .i8) (x3 : Vec F S64x16 .f32) (x4 : Vec F S64x2048 .bf16) (x5 : Vec F S64x1024 .i8) (x6 : Vec F S64x16 .f32) (x7 : Vec F S64x2048 .bf16) (x8 : Vec F S512x128 .i8) (x9 : Vec F S512x34 .f32) (x10 : Vec F S512x256 .bf16) (x19 : Vec F S2048x34 .f32) (xs0 : Vec F S4608x2048 .bf16) (xs1 : Vec F S4608x128 .f32) (xs2 : Vec F S256x2048 .bf16) (xs3 : Vec F S256x2048 .bf16) (xs4 : Vec F S256x2048 .bf16) (xs5 : Vec F S256x2048 .bf16) :
    Σ' (L17 : List (View.Piece (Elt F) S64x16 .f32)), Σ' (L18 : List (View.Piece (Elt F) S64x16 .f32)), Σ' (GS0 : Buf (Elt F) (arg22.view.loc (c : Thread nD τ))), Σ' (GS4 : Buf (Elt F) (arg26.view.loc (c : Thread nD τ))), { GS5 : Buf (Elt F) (arg27.view.loc (c : Thread nD τ)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x19 ∗ owns (c : Thread nD τ) arg22 fullShare xs0 ∗ owns (c : Thread nD τ) arg23 fullShare xs1 ∗ owns (c : Thread nD τ) arg24 fullShare xs2 ∗ owns (c : Thread nD τ) arg25 fullShare xs3 ∗ owns (c : Thread nD τ) arg26 fullShare xs4 ∗ owns (c : Thread nD τ) arg27 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ owns (c : Thread nD τ) arg21 fullShare x19 ∗ (arg22.view.loc (c : Thread nD τ) ↦[arg22.view.set]{fullShare} GS0) ∗ owns (c : Thread nD τ) arg23 fullShare xs1 ∗ owns (c : Thread nD τ) arg24 fullShare xs2 ∗ owns (c : Thread nD τ) arg25 fullShare xs3 ∗ (arg26.view.loc (c : Thread nD τ) ↦[arg26.view.set]{fullShare} GS4) ∗ (arg27.view.loc (c : Thread nD τ) ↦[arg27.view.set]{fullShare} GS5)) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, fun E K => ?run⟩
  case run =>
    simp only [cc0_fwd_eq_skeleton]; unfold cc0_fwd_skel
    simp only [k0_part426_eq_skeleton, k0_part83_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg21.eq_unread hf19; obtain rfl := harg22.eq_unread hfs0; obtain rfl := harg23.eq_unread hfs1; obtain rfl := harg24.eq_unread hfs2; obtain rfl := harg25.eq_unread hfs3; obtain rfl := harg26.eq_unread hfs4; obtain rfl := harg27.eq_unread hfs5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _; iexact H17
    isplitl [H18]
    · iexists _; iexact H18
    isplitl [H19]
    · iexists _; isplitr; · ipureintro; exact harg21.read_unread _
      iexact H19
    isplitl [HS0]
    · iexact HS0
    isplitl [HS1]
    · iexists _; isplitr; · ipureintro; exact harg23.read_unread _
      iexact HS1
    isplitl [HS2]
    · iexists _; isplitr; · ipureintro; exact harg24.read_unread _
      iexact HS2
    isplitl [HS3]
    · iexists _; isplitr; · ipureintro; exact harg25.read_unread _
      iexact HS3
    isplitl [HS4]
    · iexact HS4
    iexact HS5

end Cert.FwdIdeal.Gen

end
-- ==== Proof.FwdIdeal.CaseB.lean ====
/-
  What the first row's other points leave, as lists of tiles of the tables.
-/
module

public import proofs.«01_k».proof.Proof.FwdIdeal.RunB
public import proofs.«01_k».proof.Proof.FwdIdeal.Orders

@[expose] public section

set_option maxRecDepth 16384

noncomputable section

namespace Cert.FwdIdeal.Gen

open Idealize.ShloMosaic hiding ix2
open Idealize.ShloMosaic.TcCoe Idealize.SL.Sem Cert.FwdIdeal Cert.FwdIdeal.Tile
open Idealize.ShloMosaic.ValueIdx

/-- The gate regularisers stored. -/
theorem runB_rg (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : cond0_1 i) (hc2 : ¬cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (rT x4) (0) 32 16) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).1 QR := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (rowR x4 32 32 rfl (by decide) _ _ _ _ _ _ _ _ _ _ _ _ _ _ _ _ _ _) <|
    .cons (rowR x4 0 0 rfl (by decide) _ _ _ _ _ _ _ _ _ _ _ _ _ _ _ _ _ _) <|
    .nil

/-- The up regularisers stored. -/
theorem runB_ru (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : cond0_1 i) (hc2 : ¬cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (rT x7) (0) 32 16) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.1 QR := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (rowR x7 32 32 rfl (by decide) _ _ _ _ _ _ _ _ _ _ _ _ _ _ _ _ _ _) <|
    .cons (rowR x7 0 0 rfl (by decide) _ _ _ _ _ _ _ _ _ _ _ _ _ _ _ _ _ _) <|
    .nil

/-- The tokens stored. -/
theorem runB_xb (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : cond0_1 i) (hc2 : ¬cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    ∃ L, List.Forall₂ (Is (a := 4608) (e := .bf16) (H := 1152) (b := 2048) x0 (1152 * (i 1).val) 1152 2048) L [(0, 0)] ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.1 = arg22.view.writes (Elt Ideal) (harg22.unread xs0) L := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  refine ⟨_, ?_, rfl⟩
  exact
    .cons (xb_piece x0 (row1152 (i 1)) _ _ _) <|
    .nil

/-- The gate weights stored. -/
theorem runB_wg (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : cond0_1 i) (hc2 : ¬cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    ∃ L, List.Forall₂ (Is (wT x2 x3 x4) (64 * (i 1).val) 32 128) L QW ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.1 = arg26.view.writes (Elt Ideal) (harg26.unread xs4) L := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  refine ⟨_, ?_, rfl⟩
  exact
    .cons (wB (g := 7) x2 x3 x4 896 15 1920 (r64_32 (i 1)) (by decide) rfl rfl rfl (by decide) _ _ _ _ (by decide) _) <|
    .cons (wA (g := 7) x2 x3 x4 896 14 1792 (r64_32 (i 1)) (by decide) rfl rfl rfl (by decide) _ _ _ _ (by decide) _) <|
    .cons (wB (g := 6) x2 x3 x4 768 13 1664 (r64_32 (i 1)) (by decide) rfl rfl rfl (by decide) _ _ _ _ (by decide) _) <|
    .cons (wA (g := 6) x2 x3 x4 768 12 1536 (r64_32 (i 1)) (by decide) rfl rfl rfl (by decide) _ _ _ _ (by decide) _) <|
    .cons (wB (g := 5) x2 x3 x4 640 11 1408 (r64_32 (i 1)) (by decide) rfl rfl rfl (by decide) _ _ _ _ (by decide) _) <|
    .cons (wA (g := 5) x2 x3 x4 640 10 1280 (r64_32 (i 1)) (by decide) rfl rfl rfl (by decide) _ _ _ _ (by decide) _) <|
    .cons (wB (g := 4) x2 x3 x4 512 9 1152 (r64_32 (i 1)) (by decide) rfl rfl rfl (by decide) _ _ _ _ (by decide) _) <|
    .cons (wA (g := 4) x2 x3 x4 512 8 1024 (r64_32 (i 1)) (by decide) rfl rfl rfl (by decide) _ _ _ _ (by decide) _) <|
    .cons (wB (g := 3) x2 x3 x4 384 7 896 (r64_32 (i 1)) (by decide) rfl rfl rfl (by decide) _ _ _ _ (by decide) _) <|
    .cons (wA (g := 3) x2 x3 x4 384 6 768 (r64_32 (i 1)) (by decide) rfl rfl rfl (by decide) _ _ _ _ (by decide) _) <|
    .cons (wB (g := 2) x2 x3 x4 256 5 640 (r64_32 (i 1)) (by decide) rfl rfl rfl (by decide) _ _ _ _ (by decide) _) <|
    .cons (wA (g := 2) x2 x3 x4 256 4 512 (r64_32 (i 1)) (by decide) rfl rfl rfl (by decide) _ _ _ _ (by decide) _) <|
    .cons (wB (g := 1) x2 x3 x4 128 3 384 (r64_32 (i 1)) (by decide) rfl rfl rfl (by decide) _ _ _ _ (by decide) _) <|
    .cons (wA (g := 1) x2 x3 x4 128 2 256 (r64_32 (i 1)) (by decide) rfl rfl rfl (by decide) _ _ _ _ (by decide) _) <|
    .cons (wB (g := 0) x2 x3 x4 0 1 128 (r64_32 (i 1)) (by decide) rfl rfl rfl (by decide) _ _ _ _ (by decide) _) <|
    .cons (wA (g := 0) x2 x3 x4 0 0 0 (r64_32 (i 1)) (by decide) rfl rfl rfl (by decide) _ _ _ _ (by decide) _) <|
    .cons (wB (g := 7) x2 x3 x4 896 15 1920 (r64_0 (i 1)) (by decide) rfl rfl rfl (by decide) _ _ _ _ (by decide) _) <|
    .cons (wA (g := 7) x2 x3 x4 896 14 1792 (r64_0 (i 1)) (by decide) rfl rfl rfl (by decide) _ _ _ _ (by decide) _) <|
    .cons (wB (g := 6) x2 x3 x4 768 13 1664 (r64_0 (i 1)) (by decide) rfl rfl rfl (by decide) _ _ _ _ (by decide) _) <|
    .cons (wA (g := 6) x2 x3 x4 768 12 1536 (r64_0 (i 1)) (by decide) rfl rfl rfl (by decide) _ _ _ _ (by decide) _) <|
    .cons (wB (g := 5) x2 x3 x4 640 11 1408 (r64_0 (i 1)) (by decide) rfl rfl rfl (by decide) _ _ _ _ (by decide) _) <|
    .cons (wA (g := 5) x2 x3 x4 640 10 1280 (r64_0 (i 1)) (by decide) rfl rfl rfl (by decide) _ _ _ _ (by decide) _) <|
    .cons (wB (g := 4) x2 x3 x4 512 9 1152 (r64_0 (i 1)) (by decide) rfl rfl rfl (by decide) _ _ _ _ (by decide) _) <|
    .cons (wA (g := 4) x2 x3 x4 512 8 1024 (r64_0 (i 1)) (by decide) rfl rfl rfl (by decide) _ _ _ _ (by decide) _) <|
    .cons (wB (g := 3) x2 x3 x4 384 7 896 (r64_0 (i 1)) (by decide) rfl rfl rfl (by decide) _ _ _ _ (by decide) _) <|
    .cons (wA (g := 3) x2 x3 x4 384 6 768 (r64_0 (i 1)) (by decide) rfl rfl rfl (by decide) _ _ _ _ (by decide) _) <|
    .cons (wB (g := 2) x2 x3 x4 256 5 640 (r64_0 (i 1)) (by decide) rfl rfl rfl (by decide) _ _ _ _ (by decide) _) <|
    .cons (wA (g := 2) x2 x3 x4 256 4 512 (r64_0 (i 1)) (by decide) rfl rfl rfl (by decide) _ _ _ _ (by decide) _) <|
    .cons (wB (g := 1) x2 x3 x4 128 3 384 (r64_0 (i 1)) (by decide) rfl rfl rfl (by decide) _ _ _ _ (by decide) _) <|
    .cons (wA (g := 1) x2 x3 x4 128 2 256 (r64_0 (i 1)) (by decide) rfl rfl rfl (by decide) _ _ _ _ (by decide) _) <|
    .cons (wB (g := 0) x2 x3 x4 0 1 128 (r64_0 (i 1)) (by decide) rfl rfl rfl (by decide) _ _ _ _ (by decide) _) <|
    .cons (wA (g := 0) x2 x3 x4 0 0 0 (r64_0 (i 1)) (by decide) rfl rfl rfl (by decide) _ _ _ _ (by decide) _) <|
    .nil

/-- The up weights stored. -/
theorem runB_wu (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : cond0_1 i) (hc2 : ¬cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    ∃ L, List.Forall₂ (Is (wT x5 x6 x7) (64 * (i 1).val) 32 128) L QW ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.1 = arg27.view.writes (Elt Ideal) (harg27.unread xs5) L := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  refine ⟨_, ?_, rfl⟩
  exact
    .cons (wB (g := 7) x5 x6 x7 896 15 1920 (r64_32 (i 1)) (by decide) rfl rfl rfl (by decide) _ _ _ _ (by decide) _) <|
    .cons (wA (g := 7) x5 x6 x7 896 14 1792 (r64_32 (i 1)) (by decide) rfl rfl rfl (by decide) _ _ _ _ (by decide) _) <|
    .cons (wB (g := 6) x5 x6 x7 768 13 1664 (r64_32 (i 1)) (by decide) rfl rfl rfl (by decide) _ _ _ _ (by decide) _) <|
    .cons (wA (g := 6) x5 x6 x7 768 12 1536 (r64_32 (i 1)) (by decide) rfl rfl rfl (by decide) _ _ _ _ (by decide) _) <|
    .cons (wB (g := 5) x5 x6 x7 640 11 1408 (r64_32 (i 1)) (by decide) rfl rfl rfl (by decide) _ _ _ _ (by decide) _) <|
    .cons (wA (g := 5) x5 x6 x7 640 10 1280 (r64_32 (i 1)) (by decide) rfl rfl rfl (by decide) _ _ _ _ (by decide) _) <|
    .cons (wB (g := 4) x5 x6 x7 512 9 1152 (r64_32 (i 1)) (by decide) rfl rfl rfl (by decide) _ _ _ _ (by decide) _) <|
    .cons (wA (g := 4) x5 x6 x7 512 8 1024 (r64_32 (i 1)) (by decide) rfl rfl rfl (by decide) _ _ _ _ (by decide) _) <|
    .cons (wB (g := 3) x5 x6 x7 384 7 896 (r64_32 (i 1)) (by decide) rfl rfl rfl (by decide) _ _ _ _ (by decide) _) <|
    .cons (wA (g := 3) x5 x6 x7 384 6 768 (r64_32 (i 1)) (by decide) rfl rfl rfl (by decide) _ _ _ _ (by decide) _) <|
    .cons (wB (g := 2) x5 x6 x7 256 5 640 (r64_32 (i 1)) (by decide) rfl rfl rfl (by decide) _ _ _ _ (by decide) _) <|
    .cons (wA (g := 2) x5 x6 x7 256 4 512 (r64_32 (i 1)) (by decide) rfl rfl rfl (by decide) _ _ _ _ (by decide) _) <|
    .cons (wB (g := 1) x5 x6 x7 128 3 384 (r64_32 (i 1)) (by decide) rfl rfl rfl (by decide) _ _ _ _ (by decide) _) <|
    .cons (wA (g := 1) x5 x6 x7 128 2 256 (r64_32 (i 1)) (by decide) rfl rfl rfl (by decide) _ _ _ _ (by decide) _) <|
    .cons (wB (g := 0) x5 x6 x7 0 1 128 (r64_32 (i 1)) (by decide) rfl rfl rfl (by decide) _ _ _ _ (by decide) _) <|
    .cons (wA (g := 0) x5 x6 x7 0 0 0 (r64_32 (i 1)) (by decide) rfl rfl rfl (by decide) _ _ _ _ (by decide) _) <|
    .cons (wB (g := 7) x5 x6 x7 896 15 1920 (r64_0 (i 1)) (by decide) rfl rfl rfl (by decide) _ _ _ _ (by decide) _) <|
    .cons (wA (g := 7) x5 x6 x7 896 14 1792 (r64_0 (i 1)) (by decide) rfl rfl rfl (by decide) _ _ _ _ (by decide) _) <|
    .cons (wB (g := 6) x5 x6 x7 768 13 1664 (r64_0 (i 1)) (by decide) rfl rfl rfl (by decide) _ _ _ _ (by decide) _) <|
    .cons (wA (g := 6) x5 x6 x7 768 12 1536 (r64_0 (i 1)) (by decide) rfl rfl rfl (by decide) _ _ _ _ (by decide) _) <|
    .cons (wB (g := 5) x5 x6 x7 640 11 1408 (r64_0 (i 1)) (by decide) rfl rfl rfl (by decide) _ _ _ _ (by decide) _) <|
    .cons (wA (g := 5) x5 x6 x7 640 10 1280 (r64_0 (i 1)) (by decide) rfl rfl rfl (by decide) _ _ _ _ (by decide) _) <|
    .cons (wB (g := 4) x5 x6 x7 512 9 1152 (r64_0 (i 1)) (by decide) rfl rfl rfl (by decide) _ _ _ _ (by decide) _) <|
    .cons (wA (g := 4) x5 x6 x7 512 8 1024 (r64_0 (i 1)) (by decide) rfl rfl rfl (by decide) _ _ _ _ (by decide) _) <|
    .cons (wB (g := 3) x5 x6 x7 384 7 896 (r64_0 (i 1)) (by decide) rfl rfl rfl (by decide) _ _ _ _ (by decide) _) <|
    .cons (wA (g := 3) x5 x6 x7 384 6 768 (r64_0 (i 1)) (by decide) rfl rfl rfl (by decide) _ _ _ _ (by decide) _) <|
    .cons (wB (g := 2) x5 x6 x7 256 5 640 (r64_0 (i 1)) (by decide) rfl rfl rfl (by decide) _ _ _ _ (by decide) _) <|
    .cons (wA (g := 2) x5 x6 x7 256 4 512 (r64_0 (i 1)) (by decide) rfl rfl rfl (by decide) _ _ _ _ (by decide) _) <|
    .cons (wB (g := 1) x5 x6 x7 128 3 384 (r64_0 (i 1)) (by decide) rfl rfl rfl (by decide) _ _ _ _ (by decide) _) <|
    .cons (wA (g := 1) x5 x6 x7 128 2 256 (r64_0 (i 1)) (by decide) rfl rfl rfl (by decide) _ _ _ _ (by decide) _) <|
    .cons (wB (g := 0) x5 x6 x7 0 1 128 (r64_0 (i 1)) (by decide) rfl rfl rfl (by decide) _ _ _ _ (by decide) _) <|
    .cons (wA (g := 0) x5 x6 x7 0 0 0 (r64_0 (i 1)) (by decide) rfl rfl rfl (by decide) _ _ _ _ (by decide) _) <|
    .nil

end Cert.FwdIdeal.Gen

end
-- ==== Proof.FwdIdeal.BodyB.lean ====
/-
  The forward kernel's body over the extended reals at the rest of the first row of points: what it stores is what the buffers are held to.
-/
module

public import proofs.«01_k».proof.Proof.FwdIdeal.Data
public import proofs.«01_k».proof.Proof.FwdIdeal.CaseB

@[expose] public section

set_option maxRecDepth 16384

noncomputable section

namespace Cert.FwdIdeal.Gen

open Idealize.ShloMosaic hiding ix2
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal.Tile

local notation "𝕄" => MT nD τ sig Unit (Elt Ideal) ℕ (UR sig nD τ) ℕ

variable (m : (ℓ : Loc nD τ sig) → Buf (Elt Ideal) ℓ)

attribute [local irreducible] kernelRun0_B

/-- The run of the body at a point of this kind. -/
def RB (c : Dev nD) (t : Fin cfg0.N) (hc0 : ¬cond0_0 (grid0.coords t)) (hc1 : cond0_1 (grid0.coords t)) (hc2 : ¬cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) := kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5

/-- Where these points lie. -/
theorem whereB (t : Fin cfg0.N) (hc0 : ¬cond0_0 (grid0.coords t)) (hc1 : cond0_1 (grid0.coords t)) : 0 < t.val ∧ t.val < 4 := by
  have ht : 0 < t.val ∧ t.val < 4 := ⟨by have : ¬ t.val % 72 = 0 := fun h => hc0 ((hcond0_0 t).mpr h); have := lt_N t; omega, (hcond0_1 t).mp hc1⟩
  exact ht

/-- A point of kind B leaves the gate's regularisers as it must. -/
theorem B_rg (c : Dev nD) (t : Fin cfg0.N) (hc0 : ¬cond0_0 (grid0.coords t)) (hc1 : cond0_1 (grid0.coords t)) (hc2 : ¬cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (f) :
    Grp t.val (Spec.R (g4 m c)) ((ms0_17 t).view.read (Elt Ideal) ((ms0_17 t).view.writes (Elt Ideal) f (RB m c t hc0 hc1 hc2 hc3 x19 B0 B1 B2 B3 B4 B5).1)) := by
  have ht := whereB t hc0 hc1
  have hN := lt_N t
  have c1 := co1 t
  have c0 := co0 t
  exact grp_gate m c t (runB_rg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind B leaves the up projection's regularisers as it must. -/
theorem B_ru (c : Dev nD) (t : Fin cfg0.N) (hc0 : ¬cond0_0 (grid0.coords t)) (hc1 : cond0_1 (grid0.coords t)) (hc2 : ¬cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (f) :
    Grp t.val (Spec.R (g7 m c)) ((ms0_18 t).view.read (Elt Ideal) ((ms0_18 t).view.writes (Elt Ideal) f (RB m c t hc0 hc1 hc2 hc3 x19 B0 B1 B2 B3 B4 B5).2.1)) := by
  have ht := whereB t hc0 hc1
  have hN := lt_N t
  have c1 := co1 t
  have c0 := co0 t
  exact grp_up m c t (runB_ru c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind B leaves the activations as it must. -/
theorem B_xb (c : Dev nD) (t : Fin cfg0.N) (hc0 : ¬cond0_0 (grid0.coords t)) (hc1 : cond0_1 (grid0.coords t)) (hc2 : ¬cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h0 : Toks m c t.val B0) :
    Toks m c (t.val + 1) (scM0_0.view.read (Elt Ideal) (RB m c t hc0 hc1 hc2 hc3 x19 B0 B1 B2 B3 B4 B5).2.2.1) := by
  have ht := whereB t hc0 hc1
  have hN := lt_N t
  have c1 := co1 t
  have c0 := co0 t
  exact Toks.stored m c h0 _ _ (Memref.IsWhole.read_unread (Memref.isWhole_whole _) _) t rfl (by omega) c1 (runB_xb c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5)

/-- A point of kind B leaves the gate's weights as it must. -/
theorem B_wg (c : Dev nD) (t : Fin cfg0.N) (hc0 : ¬cond0_0 (grid0.coords t)) (hc1 : cond0_1 (grid0.coords t)) (hc2 : ¬cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h : Slot 0 t.val B4 (WG m c)) :
    Slot 0 (t.val + 1) (scM0_4.view.read (Elt Ideal) (RB m c t hc0 hc1 hc2 hc3 x19 B0 B1 B2 B3 B4 B5).2.2.2.1) (WG m c) := by
  have ht := whereB t hc0 hc1
  have hN := lt_N t
  have c1 := co1 t
  have c0 := co0 t
  exact Slot.stored h (by omega) _ _ (Memref.IsWhole.read_unread (Memref.isWhole_whole _) _) c1 (runB_wg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) fun hl y z e0 e1 => wT_gate m c t hl y z e0 e1

/-- A point of kind B leaves the up projection's weights as it must. -/
theorem B_wu (c : Dev nD) (t : Fin cfg0.N) (hc0 : ¬cond0_0 (grid0.coords t)) (hc1 : cond0_1 (grid0.coords t)) (hc2 : ¬cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h : Slot 0 t.val B5 (WU m c)) :
    Slot 0 (t.val + 1) (scM0_5.view.read (Elt Ideal) (RB m c t hc0 hc1 hc2 hc3 x19 B0 B1 B2 B3 B4 B5).2.2.2.2.1) (WU m c) := by
  have ht := whereB t hc0 hc1
  have hN := lt_N t
  have c1 := co1 t
  have c0 := co0 t
  exact Slot.stored h (by omega) _ _ (Memref.IsWhole.read_unread (Memref.isWhole_whole _) _) c1 (runB_wu c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) fun hl y z e0 e1 => wT_up m c t hl y z e0 e1

set_option maxHeartbeats 3200000 in
/-- The body at such a point. -/
theorem bodyB (c : Dev nD) (t : Fin cfg0.N) (hc0 : ¬cond0_0 (grid0.coords t)) (hc1 : cond0_1 (grid0.coords t)) (hc2 : ¬cond0_2 (grid0.coords t)) (hc3 : ¬cond0_3 (grid0.coords t)) :
    bodyPre m c t ⊢ wp frame (wpE (defs₀ (F := Ideal)) Variants.none c none) Set.univ (bodyAt0 (F := Ideal) t) (fun _ => bodyPost m c t) := by
  have ht := whereB t hc0 hc1
  unfold bodyPre bodyPost
  simp only [before0_0, before0_1, before0_2, before0_3, before0_4, before0_5, before0_6, before0_7, before0_8, before0_9, before0_10, leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl,
    show (dats m 0 c).Φ t.castSucc = Phi m c t.val from rfl, show (dats m 0 c).Φ t.succ = Phi m c (t.val + 1) from rfl]
  unfold Phi
  iintro ⟨⟨⟨%B0, %k0, HS0⟩, ⟨%B1, %k1, HS1⟩, ⟨%B2, %k2, HS2⟩, ⟨%B3, %k3, HS3⟩, ⟨%B4, %k4, HS4⟩, ⟨%B5, %k5, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, -, H12⟩, ⟨%d13, -, H13⟩, ⟨%d14, -, H14⟩, ⟨%d15, -, H15⟩, ⟨%d16, -, H16⟩, ⟨%d17, -, H17⟩, ⟨%d18, -, H18⟩, ⟨%x19, %k19, H19⟩⟩
  have h19 := finds19 m c t x19 k19
  iapply ((RB m c t hc0 hc1 hc2 hc3 x19 B0 B1 B2 B3 B4 B5).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexact H19
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, HS0, HS1, HS2, HS3, HS4, HS5⟩
  isplitl [HS0 HS1 HS2 HS3 HS4 HS5 Hg]
  · isplitl [HS0]
    · iapply (give1 c scM0_0 (P := Toks m c (t.val + 1)) (B_xb m c t hc0 hc1 hc2 hc3 x19 B0 B1 B2 B3 B4 B5 k0)); iexact HS0
    isplitl [HS1]
    · iapply (give2 c scM0_1 (P := Scl m c (t.val + 1)) (Scl.keep m c k1 (by omega))); iexact HS1
    isplitl [HS2]
    · iapply (give2 c scM0_2 (P := fun B => Slot 1 (t.val + 1) B (WG m c)) (Slot.keep k2 (by omega))); iexact HS2
    isplitl [HS3]
    · iapply (give2 c scM0_3 (P := fun B => Slot 1 (t.val + 1) B (WU m c)) (Slot.keep k3 (by omega))); iexact HS3
    isplitl [HS4]
    · iapply (give1 c scM0_4 (P := fun B => Slot 0 (t.val + 1) B (WG m c)) (B_wg m c t hc0 hc1 hc2 hc3 x19 B0 B1 B2 B3 B4 B5 k4)); iexact HS4
    isplitl [HS5]
    · iapply (give1 c scM0_5 (P := fun B => Slot 0 (t.val + 1) B (WU m c)) (B_wu m c t hc0 hc1 hc2 hc3 x19 B0 B1 B2 B3 B4 B5 k5)); iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply (give3 c (ms0_11 t) (P := Strip t.val (TokS m c pV)) (fun X h => absurd h (by omega))); iexact H11
  isplitl [H12]
  · iapply (give3 c (ms0_12 t) (P := Strip t.val (TokS m c (fun s g _ => qV s g))) (fun X h => absurd h (by omega))); iexact H12
  isplitl [H13]
  · iapply (give3 c (ms0_13 t) (P := Strip t.val (TokS m c aV)) (fun X h => absurd h (by omega))); iexact H13
  isplitl [H14]
  · iapply (give3 c (ms0_14 t) (P := Strip t.val (TokS m c aV)) (fun X h => absurd h (by omega))); iexact H14
  isplitl [H15]
  · iapply (give3 c (ms0_15 t) (P := StripT t.val (TokTS m c aV)) (fun X h => absurd h (by omega))); iexact H15
  isplitl [H16]
  · iapply (give3 c (ms0_16 t) (P := Down t.val (WDS m c)) (fun X h => absurd h (by omega))); iexact H16
  isplitl [H17]
  · iapply (give c (ms0_17 t) (P := Grp t.val (Spec.R (g4 m c))) (B_rg m c t hc0 hc1 hc2 hc3 x19 B0 B1 B2 B3 B4 B5)); iexact H17
  isplitl [H18]
  · iapply (give c (ms0_18 t) (P := Grp t.val (Spec.R (g7 m c))) (B_ru m c t hc0 hc1 hc2 hc3 x19 B0 B1 B2 B3 B4 B5)); iexact H18
  iapply (give2 c (ms0_19 t) (P := Regs m c (t.val + 1)) (Regs.keep m c h19 (by omega))); iexact H19

end Cert.FwdIdeal.Gen

end
-- ==== Proof.FwdIdeal.RunC.lean ====
/- The run of the forward kernel's body at the points of an odd row, with what it leaves in every buffer it stores into: the pieces
   written over a buffer it fills, the contents of a buffer it changes at offsets that depend on the point. -/
module

public import proofs.«01_k».proof.Proof.FwdIdeal.RunB

@[expose] public section

set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's run at the points of an odd row, and the contents it leaves. -/
noncomputable def kernelRun0_C (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : ¬cond0_2 i) (hc3 : cond0_3 i)
    (x0 : Vec F S1152x2048 .fp8e4m3) (x1 : Vec F S6x768 .f32) (x2 : Vec F S64x1024 .i8) (x3 : Vec F S64x16 .f32) (x4 : Vec F S64x2048 .bf16) (x5 : Vec F S64x1024 .i8) (x6 : Vec F S64x16 .f32) (x7 : Vec F S64x2048 .bf16) (x8 : Vec F S512x128 .i8) (x9 : Vec F S512x34 .f32) (x10 : Vec F S512x256 .bf16) (x19 : Vec F S2048x34 .f32) (xs0 : Vec F S4608x2048 .bf16) (xs1 : Vec F S4608x128 .f32) (xs2 : Vec F S256x2048 .bf16) (xs3 : Vec F S256x2048 .bf16) (xs4 : Vec F S256x2048 .bf16) (xs5 : Vec F S256x2048 .bf16) :
    Σ' (L11 : List (View.Piece (Elt F) S1152x256 .f32)), Σ' (L12 : List (View.Piece (Elt F) S1152x256 .f32)), Σ' (L13 : List (View.Piece (Elt F) S1152x256 .f32)), Σ' (L14 : List (View.Piece (Elt F) S1152x256 .bf16)), Σ' (L15 : List (View.Piece (Elt F) S256x1152 .bf16)), Σ' (L16 : List (View.Piece (Elt F) S512x256 .bf16)), Σ' (L17 : List (View.Piece (Elt F) S64x16 .f32)), Σ' (L18 : List (View.Piece (Elt F) S64x16 .f32)), Σ' (G19 : Buf (Elt F) (arg21.view.loc (c : Thread nD τ))), Σ' (GS2 : Buf (Elt F) (arg24.view.loc (c : Thread nD τ))), { GS3 : Buf (Elt F) (arg25.view.loc (c : Thread nD τ)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x19 ∗ owns (c : Thread nD τ) arg22 fullShare xs0 ∗ owns (c : Thread nD τ) arg23 fullShare xs1 ∗ owns (c : Thread nD τ) arg24 fullShare xs2 ∗ owns (c : Thread nD τ) arg25 fullShare xs3 ∗ owns (c : Thread nD τ) arg26 fullShare xs4 ∗ owns (c : Thread nD τ) arg27 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (arg21.view.loc (c : Thread nD τ) ↦[arg21.view.set]{fullShare} G19) ∗ owns (c : Thread nD τ) arg22 fullShare xs0 ∗ owns (c : Thread nD τ) arg23 fullShare xs1 ∗ (arg24.view.loc (c : Thread nD τ) ↦[arg24.view.set]{fullShare} GS2) ∗ (arg25.view.loc (c : Thread nD τ) ↦[arg25.view.set]{fullShare} GS3) ∗ owns (c : Thread nD τ) arg26 fullShare xs4 ∗ owns (c : Thread nD τ) arg27 fullShare xs5) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, fun E K => ?run⟩
  case run =>
    simp only [cc0_fwd_eq_skeleton]; unfold cc0_fwd_skel
    simp only [k0_part426_eq_skeleton, k0_part423_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part424_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part425_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg21.eq_unread hf19; obtain rfl := harg22.eq_unread hfs0; obtain rfl := harg23.eq_unread hfs1; obtain rfl := harg24.eq_unread hfs2; obtain rfl := harg25.eq_unread hfs3; obtain rfl := harg26.eq_unread hfs4; obtain rfl := harg27.eq_unread hfs5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexact H19
    isplitl [HS0]
    · iexists _; isplitr; · ipureintro; exact harg22.read_unread _
      iexact HS0
    isplitl [HS1]
    · iexists _; isplitr; · ipureintro; exact harg23.read_unread _
      iexact HS1
    isplitl [HS2]
    · iexact HS2
    isplitl [HS3]
    · iexact HS3
    isplitl [HS4]
    · iexists _; isplitr; · ipureintro; exact harg26.read_unread _
      iexact HS4
    iexists _; isplitr; · ipureintro; exact harg27.read_unread _
    iexact HS5

end Cert.FwdIdeal.Gen

end
-- ==== Proof.FwdIdeal.CaseC1.lean ====
/-
  What the points of odd rows leave, as lists of tiles of the tables.
-/
module

public import proofs.«01_k».proof.Proof.FwdIdeal.RunC
public import proofs.«01_k».proof.Proof.FwdIdeal.Orders

@[expose] public section

set_option maxRecDepth 16384

noncomputable section

namespace Cert.FwdIdeal.Gen

open Idealize.ShloMosaic hiding ix2
open Idealize.ShloMosaic.TcCoe Idealize.SL.Sem Cert.FwdIdeal Cert.FwdIdeal.Tile
open Idealize.ShloMosaic.ValueIdx

/-- The derivative by the gate, stored. -/
theorem runC_p (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : ¬cond0_2 i) (hc3 : cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (e := .f32) (tokT xs0 xs1 xs4 xs5 pV (i 1)) (0) 32 128) (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).1 QT := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (tok_p xs0 xs1 xs4 xs5 (i 1) 768 352 128 1120 _ _ rfl (rM_768 (i 1)) (rN_1120 (i 1)) rfl (by decide) _ _ _ _ (by decide)) <|
    .cons (tok_p xs0 xs1 xs4 xs5 (i 1) 768 352 0 1120 _ _ rfl (rM_768 (i 1)) (rN_1120 (i 1)) rfl (by decide) _ _ _ _ (by decide)) <|
    .cons (tok_p xs0 xs1 xs4 xs5 (i 1) 768 320 128 1088 _ _ rfl (rM_768 (i 1)) (rN_1088 (i 1)) rfl (by decide) _ _ _ _ (by decide)) <|
    .cons (tok_p xs0 xs1 xs4 xs5 (i 1) 768 320 0 1088 _ _ rfl (rM_768 (i 1)) (rN_1088 (i 1)) rfl (by decide) _ _ _ _ (by decide)) <|
    .cons (tok_p xs0 xs1 xs4 xs5 (i 1) 768 288 128 1056 _ _ rfl (rM_768 (i 1)) (rN_1056 (i 1)) rfl (by decide) _ _ _ _ (by decide)) <|
    .cons (tok_p xs0 xs1 xs4 xs5 (i 1) 768 288 0 1056 _ _ rfl (rM_768 (i 1)) (rN_1056 (i 1)) rfl (by decide) _ _ _ _ (by decide)) <|
    .cons (tok_p xs0 xs1 xs4 xs5 (i 1) 768 256 128 1024 _ _ rfl (rM_768 (i 1)) (rN_1024 (i 1)) rfl (by decide) _ _ _ _ (by decide)) <|
    .cons (tok_p xs0 xs1 xs4 xs5 (i 1) 768 256 0 1024 _ _ rfl (rM_768 (i 1)) (rN_1024 (i 1)) rfl (by decide) _ _ _ _ (by decide)) <|
    .cons (tok_p xs0 xs1 xs4 xs5 (i 1) 768 224 128 992 _ _ rfl (rM_768 (i 1)) (rN_992 (i 1)) rfl (by decide) _ _ _ _ (by decide)) <|
    .cons (tok_p xs0 xs1 xs4 xs5 (i 1) 768 224 0 992 _ _ rfl (rM_768 (i 1)) (rN_992 (i 1)) rfl (by decide) _ _ _ _ (by decide)) <|
    .cons (tok_p xs0 xs1 xs4 xs5 (i 1) 768 192 128 960 _ _ rfl (rM_768 (i 1)) (rN_960 (i 1)) rfl (by decide) _ _ _ _ (by decide)) <|
    .cons (tok_p xs0 xs1 xs4 xs5 (i 1) 768 192 0 960 _ _ rfl (rM_768 (i 1)) (rN_960 (i 1)) rfl (by decide) _ _ _ _ (by decide)) <|
    .cons (tok_p xs0 xs1 xs4 xs5 (i 1) 768 160 128 928 _ _ rfl (rM_768 (i 1)) (rN_928 (i 1)) rfl (by decide) _ _ _ _ (by decide)) <|
    .cons (tok_p xs0 xs1 xs4 xs5 (i 1) 768 160 0 928 _ _ rfl (rM_768 (i 1)) (rN_928 (i 1)) rfl (by decide) _ _ _ _ (by decide)) <|
    .cons (tok_p xs0 xs1 xs4 xs5 (i 1) 768 128 128 896 _ _ rfl (rM_768 (i 1)) (rN_896 (i 1)) rfl (by decide) _ _ _ _ (by decide)) <|
    .cons (tok_p xs0 xs1 xs4 xs5 (i 1) 768 128 0 896 _ _ rfl (rM_768 (i 1)) (rN_896 (i 1)) rfl (by decide) _ _ _ _ (by decide)) <|
    .cons (tok_p xs0 xs1 xs4 xs5 (i 1) 768 96 128 864 _ _ rfl (rM_768 (i 1)) (rN_864 (i 1)) rfl (by decide) _ _ _ _ (by decide)) <|
    .cons (tok_p xs0 xs1 xs4 xs5 (i 1) 768 96 0 864 _ _ rfl (rM_768 (i 1)) (rN_864 (i 1)) rfl (by decide) _ _ _ _ (by decide)) <|
    .cons (tok_p xs0 xs1 xs4 xs5 (i 1) 768 64 128 832 _ _ rfl (rM_768 (i 1)) (rN_832 (i 1)) rfl (by decide) _ _ _ _ (by decide)) <|
    .cons (tok_p xs0 xs1 xs4 xs5 (i 1) 768 64 0 832 _ _ rfl (rM_768 (i 1)) (rN_832 (i 1)) rfl (by decide) _ _ _ _ (by decide)) <|
    .cons (tok_p xs0 xs1 xs4 xs5 (i 1) 768 32 128 800 _ _ rfl (rM_768 (i 1)) (rN_800 (i 1)) rfl (by decide) _ _ _ _ (by decide)) <|
    .cons (tok_p xs0 xs1 xs4 xs5 (i 1) 768 32 0 800 _ _ rfl (rM_768 (i 1)) (rN_800 (i 1)) rfl (by decide) _ _ _ _ (by decide)) <|
    .cons (tok_p xs0 xs1 xs4 xs5 (i 1) 768 0 128 768 _ _ rfl (rM_768 (i 1)) (rN_768 (i 1)) rfl (by decide) _ _ _ _ (by decide)) <|
    .cons (tok_p xs0 xs1 xs4 xs5 (i 1) 768 0 0 768 _ _ rfl (rM_768 (i 1)) (rN_768 (i 1)) rfl (by decide) _ _ _ _ (by decide)) <|
    .cons (tok_p xs0 xs1 xs4 xs5 (i 1) 384 352 128 736 _ _ rfl (rM_384 (i 1)) (rN_736 (i 1)) rfl (by decide) _ _ _ _ (by decide)) <|
    .cons (tok_p xs0 xs1 xs4 xs5 (i 1) 384 352 0 736 _ _ rfl (rM_384 (i 1)) (rN_736 (i 1)) rfl (by decide) _ _ _ _ (by decide)) <|
    .cons (tok_p xs0 xs1 xs4 xs5 (i 1) 384 320 128 704 _ _ rfl (rM_384 (i 1)) (rN_704 (i 1)) rfl (by decide) _ _ _ _ (by decide)) <|
    .cons (tok_p xs0 xs1 xs4 xs5 (i 1) 384 320 0 704 _ _ rfl (rM_384 (i 1)) (rN_704 (i 1)) rfl (by decide) _ _ _ _ (by decide)) <|
    .cons (tok_p xs0 xs1 xs4 xs5 (i 1) 384 288 128 672 _ _ rfl (rM_384 (i 1)) (rN_672 (i 1)) rfl (by decide) _ _ _ _ (by decide)) <|
    .cons (tok_p xs0 xs1 xs4 xs5 (i 1) 384 288 0 672 _ _ rfl (rM_384 (i 1)) (rN_672 (i 1)) rfl (by decide) _ _ _ _ (by decide)) <|
    .cons (tok_p xs0 xs1 xs4 xs5 (i 1) 384 256 128 640 _ _ rfl (rM_384 (i 1)) (rN_640 (i 1)) rfl (by decide) _ _ _ _ (by decide)) <|
    .cons (tok_p xs0 xs1 xs4 xs5 (i 1) 384 256 0 640 _ _ rfl (rM_384 (i 1)) (rN_640 (i 1)) rfl (by decide) _ _ _ _ (by decide)) <|
    .cons (tok_p xs0 xs1 xs4 xs5 (i 1) 384 224 128 608 _ _ rfl (rM_384 (i 1)) (rN_608 (i 1)) rfl (by decide) _ _ _ _ (by decide)) <|
    .cons (tok_p xs0 xs1 xs4 xs5 (i 1) 384 224 0 608 _ _ rfl (rM_384 (i 1)) (rN_608 (i 1)) rfl (by decide) _ _ _ _ (by decide)) <|
    .cons (tok_p xs0 xs1 xs4 xs5 (i 1) 384 192 128 576 _ _ rfl (rM_384 (i 1)) (rN_576 (i 1)) rfl (by decide) _ _ _ _ (by decide)) <|
    .cons (tok_p xs0 xs1 xs4 xs5 (i 1) 384 192 0 576 _ _ rfl (rM_384 (i 1)) (rN_576 (i 1)) rfl (by decide) _ _ _ _ (by decide)) <|
    .cons (tok_p xs0 xs1 xs4 xs5 (i 1) 384 160 128 544 _ _ rfl (rM_384 (i 1)) (rN_544 (i 1)) rfl (by decide) _ _ _ _ (by decide)) <|
    .cons (tok_p xs0 xs1 xs4 xs5 (i 1) 384 160 0 544 _ _ rfl (rM_384 (i 1)) (rN_544 (i 1)) rfl (by decide) _ _ _ _ (by decide)) <|
    .cons (tok_p xs0 xs1 xs4 xs5 (i 1) 384 128 128 512 _ _ rfl (rM_384 (i 1)) (rN_512 (i 1)) rfl (by decide) _ _ _ _ (by decide)) <|
    .cons (tok_p xs0 xs1 xs4 xs5 (i 1) 384 128 0 512 _ _ rfl (rM_384 (i 1)) (rN_512 (i 1)) rfl (by decide) _ _ _ _ (by decide)) <|
    .cons (tok_p xs0 xs1 xs4 xs5 (i 1) 384 96 128 480 _ _ rfl (rM_384 (i 1)) (rN_480 (i 1)) rfl (by decide) _ _ _ _ (by decide)) <|
    .cons (tok_p xs0 xs1 xs4 xs5 (i 1) 384 96 0 480 _ _ rfl (rM_384 (i 1)) (rN_480 (i 1)) rfl (by decide) _ _ _ _ (by decide)) <|
    .cons (tok_p xs0 xs1 xs4 xs5 (i 1) 384 64 128 448 _ _ rfl (rM_384 (i 1)) (rN_448 (i 1)) rfl (by decide) _ _ _ _ (by decide)) <|
    .cons (tok_p xs0 xs1 xs4 xs5 (i 1) 384 64 0 448 _ _ rfl (rM_384 (i 1)) (rN_448 (i 1)) rfl (by decide) _ _ _ _ (by decide)) <|
    .cons (tok_p xs0 xs1 xs4 xs5 (i 1) 384 32 128 416 _ _ rfl (rM_384 (i 1)) (rN_416 (i 1)) rfl (by decide) _ _ _ _ (by decide)) <|
    .cons (tok_p xs0 xs1 xs4 xs5 (i 1) 384 32 0 416 _ _ rfl (rM_384 (i 1)) (rN_416 (i 1)) rfl (by decide) _ _ _ _ (by decide)) <|
    .cons (tok_p xs0 xs1 xs4 xs5 (i 1) 384 0 128 384 _ _ rfl (rM_384 (i 1)) (rN_384 (i 1)) rfl (by decide) _ _ _ _ (by decide)) <|
    .cons (tok_p xs0 xs1 xs4 xs5 (i 1) 384 0 0 384 _ _ rfl (rM_384 (i 1)) (rN_384 (i 1)) rfl (by decide) _ _ _ _ (by decide)) <|
    .cons (tok_p xs0 xs1 xs4 xs5 (i 1) 0 352 128 352 _ _ rfl (rM_0 (i 1)) (rN_352 (i 1)) rfl (by decide) _ _ _ _ (by decide)) <|
    .cons (tok_p xs0 xs1 xs4 xs5 (i 1) 0 352 0 352 _ _ rfl (rM_0 (i 1)) (rN_352 (i 1)) rfl (by decide) _ _ _ _ (by decide)) <|
    .cons (tok_p xs0 xs1 xs4 xs5 (i 1) 0 320 128 320 _ _ rfl (rM_0 (i 1)) (rN_320 (i 1)) rfl (by decide) _ _ _ _ (by decide)) <|
    .cons (tok_p xs0 xs1 xs4 xs5 (i 1) 0 320 0 320 _ _ rfl (rM_0 (i 1)) (rN_320 (i 1)) rfl (by decide) _ _ _ _ (by decide)) <|
    .cons (tok_p xs0 xs1 xs4 xs5 (i 1) 0 288 128 288 _ _ rfl (rM_0 (i 1)) (rN_288 (i 1)) rfl (by decide) _ _ _ _ (by decide)) <|
    .cons (tok_p xs0 xs1 xs4 xs5 (i 1) 0 288 0 288 _ _ rfl (rM_0 (i 1)) (rN_288 (i 1)) rfl (by decide) _ _ _ _ (by decide)) <|
    .cons (tok_p xs0 xs1 xs4 xs5 (i 1) 0 256 128 256 _ _ rfl (rM_0 (i 1)) (rN_256 (i 1)) rfl (by decide) _ _ _ _ (by decide)) <|
    .cons (tok_p xs0 xs1 xs4 xs5 (i 1) 0 256 0 256 _ _ rfl (rM_0 (i 1)) (rN_256 (i 1)) rfl (by decide) _ _ _ _ (by decide)) <|
    .cons (tok_p xs0 xs1 xs4 xs5 (i 1) 0 224 128 224 _ _ rfl (rM_0 (i 1)) (rN_224 (i 1)) rfl (by decide) _ _ _ _ (by decide)) <|
    .cons (tok_p xs0 xs1 xs4 xs5 (i 1) 0 224 0 224 _ _ rfl (rM_0 (i 1)) (rN_224 (i 1)) rfl (by decide) _ _ _ _ (by decide)) <|
    .cons (tok_p xs0 xs1 xs4 xs5 (i 1) 0 192 128 192 _ _ rfl (rM_0 (i 1)) (rN_192 (i 1)) rfl (by decide) _ _ _ _ (by decide)) <|
    .cons (tok_p xs0 xs1 xs4 xs5 (i 1) 0 192 0 192 _ _ rfl (rM_0 (i 1)) (rN_192 (i 1)) rfl (by decide) _ _ _ _ (by decide)) <|
    .cons (tok_p xs0 xs1 xs4 xs5 (i 1) 0 160 128 160 _ _ rfl (rM_0 (i 1)) (rN_160 (i 1)) rfl (by decide) _ _ _ _ (by decide)) <|
    .cons (tok_p xs0 xs1 xs4 xs5 (i 1) 0 160 0 160 _ _ rfl (rM_0 (i 1)) (rN_160 (i 1)) rfl (by decide) _ _ _ _ (by decide)) <|
    .cons (tok_p xs0 xs1 xs4 xs5 (i 1) 0 128 128 128 _ _ rfl (rM_0 (i 1)) (rN_128 (i 1)) rfl (by decide) _ _ _ _ (by decide)) <|
    .cons (tok_p xs0 xs1 xs4 xs5 (i 1) 0 128 0 128 _ _ rfl (rM_0 (i 1)) (rN_128 (i 1)) rfl (by decide) _ _ _ _ (by decide)) <|
    .cons (tok_p xs0 xs1 xs4 xs5 (i 1) 0 96 128 96 _ _ rfl (rM_0 (i 1)) (rN_96 (i 1)) rfl (by decide) _ _ _ _ (by decide)) <|
    .cons (tok_p xs0 xs1 xs4 xs5 (i 1) 0 96 0 96 _ _ rfl (rM_0 (i 1)) (rN_96 (i 1)) rfl (by decide) _ _ _ _ (by decide)) <|
    .cons (tok_p xs0 xs1 xs4 xs5 (i 1) 0 64 128 64 _ _ rfl (rM_0 (i 1)) (rN_64 (i 1)) rfl (by decide) _ _ _ _ (by decide)) <|
    .cons (tok_p xs0 xs1 xs4 xs5 (i 1) 0 64 0 64 _ _ rfl (rM_0 (i 1)) (rN_64 (i 1)) rfl (by decide) _ _ _ _ (by decide)) <|
    .cons (tok_p xs0 xs1 xs4 xs5 (i 1) 0 32 128 32 _ _ rfl (rM_0 (i 1)) (rN_32 (i 1)) rfl (by decide) _ _ _ _ (by decide)) <|
    .cons (tok_p xs0 xs1 xs4 xs5 (i 1) 0 32 0 32 _ _ rfl (rM_0 (i 1)) (rN_32 (i 1)) rfl (by decide) _ _ _ _ (by decide)) <|
    .cons (tok_p xs0 xs1 xs4 xs5 (i 1) 0 0 128 0 _ _ rfl (rM_0 (i 1)) (rN_0 (i 1)) rfl (by decide) _ _ _ _ (by decide)) <|
    .cons (tok_p xs0 xs1 xs4 xs5 (i 1) 0 0 0 0 _ _ rfl (rM_0 (i 1)) (rN_0 (i 1)) rfl (by decide) _ _ _ _ (by decide)) <|
    .nil

/-- The derivative by the up projection, stored. -/
theorem runC_q (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : ¬cond0_2 i) (hc3 : cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (e := .f32) (tokT xs0 xs1 xs4 xs5 (fun s g _ => qV s g) (i 1)) (0) 32 128) (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.1 QT := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (tok_q xs0 xs1 xs4 xs5 (i 1) 768 352 128 1120 _ _ rfl (rM_768 (i 1)) (rN_1120 (i 1)) rfl (by decide) _ _ _ _ (by decide)) <|
    .cons (tok_q xs0 xs1 xs4 xs5 (i 1) 768 352 0 1120 _ _ rfl (rM_768 (i 1)) (rN_1120 (i 1)) rfl (by decide) _ _ _ _ (by decide)) <|
    .cons (tok_q xs0 xs1 xs4 xs5 (i 1) 768 320 128 1088 _ _ rfl (rM_768 (i 1)) (rN_1088 (i 1)) rfl (by decide) _ _ _ _ (by decide)) <|
    .cons (tok_q xs0 xs1 xs4 xs5 (i 1) 768 320 0 1088 _ _ rfl (rM_768 (i 1)) (rN_1088 (i 1)) rfl (by decide) _ _ _ _ (by decide)) <|
    .cons (tok_q xs0 xs1 xs4 xs5 (i 1) 768 288 128 1056 _ _ rfl (rM_768 (i 1)) (rN_1056 (i 1)) rfl (by decide) _ _ _ _ (by decide)) <|
    .cons (tok_q xs0 xs1 xs4 xs5 (i 1) 768 288 0 1056 _ _ rfl (rM_768 (i 1)) (rN_1056 (i 1)) rfl (by decide) _ _ _ _ (by decide)) <|
    .cons (tok_q xs0 xs1 xs4 xs5 (i 1) 768 256 128 1024 _ _ rfl (rM_768 (i 1)) (rN_1024 (i 1)) rfl (by decide) _ _ _ _ (by decide)) <|
    .cons (tok_q xs0 xs1 xs4 xs5 (i 1) 768 256 0 1024 _ _ rfl (rM_768 (i 1)) (rN_1024 (i 1)) rfl (by decide) _ _ _ _ (by decide)) <|
    .cons (tok_q xs0 xs1 xs4 xs5 (i 1) 768 224 128 992 _ _ rfl (rM_768 (i 1)) (rN_992 (i 1)) rfl (by decide) _ _ _ _ (by decide)) <|
    .cons (tok_q xs0 xs1 xs4 xs5 (i 1) 768 224 0 992 _ _ rfl (rM_768 (i 1)) (rN_992 (i 1)) rfl (by decide) _ _ _ _ (by decide)) <|
    .cons (tok_q xs0 xs1 xs4 xs5 (i 1) 768 192 128 960 _ _ rfl (rM_768 (i 1)) (rN_960 (i 1)) rfl (by decide) _ _ _ _ (by decide)) <|
    .cons (tok_q xs0 xs1 xs4 xs5 (i 1) 768 192 0 960 _ _ rfl (rM_768 (i 1)) (rN_960 (i 1)) rfl (by decide) _ _ _ _ (by decide)) <|
    .cons (tok_q xs0 xs1 xs4 xs5 (i 1) 768 160 128 928 _ _ rfl (rM_768 (i 1)) (rN_928 (i 1)) rfl (by decide) _ _ _ _ (by decide)) <|
    .cons (tok_q xs0 xs1 xs4 xs5 (i 1) 768 160 0 928 _ _ rfl (rM_768 (i 1)) (rN_928 (i 1)) rfl (by decide) _ _ _ _ (by decide)) <|
    .cons (tok_q xs0 xs1 xs4 xs5 (i 1) 768 128 128 896 _ _ rfl (rM_768 (i 1)) (rN_896 (i 1)) rfl (by decide) _ _ _ _ (by decide)) <|
    .cons (tok_q xs0 xs1 xs4 xs5 (i 1) 768 128 0 896 _ _ rfl (rM_768 (i 1)) (rN_896 (i 1)) rfl (by decide) _ _ _ _ (by decide)) <|
    .cons (tok_q xs0 xs1 xs4 xs5 (i 1) 768 96 128 864 _ _ rfl (rM_768 (i 1)) (rN_864 (i 1)) rfl (by decide) _ _ _ _ (by decide)) <|
    .cons (tok_q xs0 xs1 xs4 xs5 (i 1) 768 96 0 864 _ _ rfl (rM_768 (i 1)) (rN_864 (i 1)) rfl (by decide) _ _ _ _ (by decide)) <|
    .cons (tok_q xs0 xs1 xs4 xs5 (i 1) 768 64 128 832 _ _ rfl (rM_768 (i 1)) (rN_832 (i 1)) rfl (by decide) _ _ _ _ (by decide)) <|
    .cons (tok_q xs0 xs1 xs4 xs5 (i 1) 768 64 0 832 _ _ rfl (rM_768 (i 1)) (rN_832 (i 1)) rfl (by decide) _ _ _ _ (by decide)) <|
    .cons (tok_q xs0 xs1 xs4 xs5 (i 1) 768 32 128 800 _ _ rfl (rM_768 (i 1)) (rN_800 (i 1)) rfl (by decide) _ _ _ _ (by decide)) <|
    .cons (tok_q xs0 xs1 xs4 xs5 (i 1) 768 32 0 800 _ _ rfl (rM_768 (i 1)) (rN_800 (i 1)) rfl (by decide) _ _ _ _ (by decide)) <|
    .cons (tok_q xs0 xs1 xs4 xs5 (i 1) 768 0 128 768 _ _ rfl (rM_768 (i 1)) (rN_768 (i 1)) rfl (by decide) _ _ _ _ (by decide)) <|
    .cons (tok_q xs0 xs1 xs4 xs5 (i 1) 768 0 0 768 _ _ rfl (rM_768 (i 1)) (rN_768 (i 1)) rfl (by decide) _ _ _ _ (by decide)) <|
    .cons (tok_q xs0 xs1 xs4 xs5 (i 1) 384 352 128 736 _ _ rfl (rM_384 (i 1)) (rN_736 (i 1)) rfl (by decide) _ _ _ _ (by decide)) <|
    .cons (tok_q xs0 xs1 xs4 xs5 (i 1) 384 352 0 736 _ _ rfl (rM_384 (i 1)) (rN_736 (i 1)) rfl (by decide) _ _ _ _ (by decide)) <|
    .cons (tok_q xs0 xs1 xs4 xs5 (i 1) 384 320 128 704 _ _ rfl (rM_384 (i 1)) (rN_704 (i 1)) rfl (by decide) _ _ _ _ (by decide)) <|
    .cons (tok_q xs0 xs1 xs4 xs5 (i 1) 384 320 0 704 _ _ rfl (rM_384 (i 1)) (rN_704 (i 1)) rfl (by decide) _ _ _ _ (by decide)) <|
    .cons (tok_q xs0 xs1 xs4 xs5 (i 1) 384 288 128 672 _ _ rfl (rM_384 (i 1)) (rN_672 (i 1)) rfl (by decide) _ _ _ _ (by decide)) <|
    .cons (tok_q xs0 xs1 xs4 xs5 (i 1) 384 288 0 672 _ _ rfl (rM_384 (i 1)) (rN_672 (i 1)) rfl (by decide) _ _ _ _ (by decide)) <|
    .cons (tok_q xs0 xs1 xs4 xs5 (i 1) 384 256 128 640 _ _ rfl (rM_384 (i 1)) (rN_640 (i 1)) rfl (by decide) _ _ _ _ (by decide)) <|
    .cons (tok_q xs0 xs1 xs4 xs5 (i 1) 384 256 0 640 _ _ rfl (rM_384 (i 1)) (rN_640 (i 1)) rfl (by decide) _ _ _ _ (by decide)) <|
    .cons (tok_q xs0 xs1 xs4 xs5 (i 1) 384 224 128 608 _ _ rfl (rM_384 (i 1)) (rN_608 (i 1)) rfl (by decide) _ _ _ _ (by decide)) <|
    .cons (tok_q xs0 xs1 xs4 xs5 (i 1) 384 224 0 608 _ _ rfl (rM_384 (i 1)) (rN_608 (i 1)) rfl (by decide) _ _ _ _ (by decide)) <|
    .cons (tok_q xs0 xs1 xs4 xs5 (i 1) 384 192 128 576 _ _ rfl (rM_384 (i 1)) (rN_576 (i 1)) rfl (by decide) _ _ _ _ (by decide)) <|
    .cons (tok_q xs0 xs1 xs4 xs5 (i 1) 384 192 0 576 _ _ rfl (rM_384 (i 1)) (rN_576 (i 1)) rfl (by decide) _ _ _ _ (by decide)) <|
    .cons (tok_q xs0 xs1 xs4 xs5 (i 1) 384 160 128 544 _ _ rfl (rM_384 (i 1)) (rN_544 (i 1)) rfl (by decide) _ _ _ _ (by decide)) <|
    .cons (tok_q xs0 xs1 xs4 xs5 (i 1) 384 160 0 544 _ _ rfl (rM_384 (i 1)) (rN_544 (i 1)) rfl (by decide) _ _ _ _ (by decide)) <|
    .cons (tok_q xs0 xs1 xs4 xs5 (i 1) 384 128 128 512 _ _ rfl (rM_384 (i 1)) (rN_512 (i 1)) rfl (by decide) _ _ _ _ (by decide)) <|
    .cons (tok_q xs0 xs1 xs4 xs5 (i 1) 384 128 0 512 _ _ rfl (rM_384 (i 1)) (rN_512 (i 1)) rfl (by decide) _ _ _ _ (by decide)) <|
    .cons (tok_q xs0 xs1 xs4 xs5 (i 1) 384 96 128 480 _ _ rfl (rM_384 (i 1)) (rN_480 (i 1)) rfl (by decide) _ _ _ _ (by decide)) <|
    .cons (tok_q xs0 xs1 xs4 xs5 (i 1) 384 96 0 480 _ _ rfl (rM_384 (i 1)) (rN_480 (i 1)) rfl (by decide) _ _ _ _ (by decide)) <|
    .cons (tok_q xs0 xs1 xs4 xs5 (i 1) 384 64 128 448 _ _ rfl (rM_384 (i 1)) (rN_448 (i 1)) rfl (by decide) _ _ _ _ (by decide)) <|
    .cons (tok_q xs0 xs1 xs4 xs5 (i 1) 384 64 0 448 _ _ rfl (rM_384 (i 1)) (rN_448 (i 1)) rfl (by decide) _ _ _ _ (by decide)) <|
    .cons (tok_q xs0 xs1 xs4 xs5 (i 1) 384 32 128 416 _ _ rfl (rM_384 (i 1)) (rN_416 (i 1)) rfl (by decide) _ _ _ _ (by decide)) <|
    .cons (tok_q xs0 xs1 xs4 xs5 (i 1) 384 32 0 416 _ _ rfl (rM_384 (i 1)) (rN_416 (i 1)) rfl (by decide) _ _ _ _ (by decide)) <|
    .cons (tok_q xs0 xs1 xs4 xs5 (i 1) 384 0 128 384 _ _ rfl (rM_384 (i 1)) (rN_384 (i 1)) rfl (by decide) _ _ _ _ (by decide)) <|
    .cons (tok_q xs0 xs1 xs4 xs5 (i 1) 384 0 0 384 _ _ rfl (rM_384 (i 1)) (rN_384 (i 1)) rfl (by decide) _ _ _ _ (by decide)) <|
    .cons (tok_q xs0 xs1 xs4 xs5 (i 1) 0 352 128 352 _ _ rfl (rM_0 (i 1)) (rN_352 (i 1)) rfl (by decide) _ _ _ _ (by decide)) <|
    .cons (tok_q xs0 xs1 xs4 xs5 (i 1) 0 352 0 352 _ _ rfl (rM_0 (i 1)) (rN_352 (i 1)) rfl (by decide) _ _ _ _ (by decide)) <|
    .cons (tok_q xs0 xs1 xs4 xs5 (i 1) 0 320 128 320 _ _ rfl (rM_0 (i 1)) (rN_320 (i 1)) rfl (by decide) _ _ _ _ (by decide)) <|
    .cons (tok_q xs0 xs1 xs4 xs5 (i 1) 0 320 0 320 _ _ rfl (rM_0 (i 1)) (rN_320 (i 1)) rfl (by decide) _ _ _ _ (by decide)) <|
    .cons (tok_q xs0 xs1 xs4 xs5 (i 1) 0 288 128 288 _ _ rfl (rM_0 (i 1)) (rN_288 (i 1)) rfl (by decide) _ _ _ _ (by decide)) <|
    .cons (tok_q xs0 xs1 xs4 xs5 (i 1) 0 288 0 288 _ _ rfl (rM_0 (i 1)) (rN_288 (i 1)) rfl (by decide) _ _ _ _ (by decide)) <|
    .cons (tok_q xs0 xs1 xs4 xs5 (i 1) 0 256 128 256 _ _ rfl (rM_0 (i 1)) (rN_256 (i 1)) rfl (by decide) _ _ _ _ (by decide)) <|
    .cons (tok_q xs0 xs1 xs4 xs5 (i 1) 0 256 0 256 _ _ rfl (rM_0 (i 1)) (rN_256 (i 1)) rfl (by decide) _ _ _ _ (by decide)) <|
    .cons (tok_q xs0 xs1 xs4 xs5 (i 1) 0 224 128 224 _ _ rfl (rM_0 (i 1)) (rN_224 (i 1)) rfl (by decide) _ _ _ _ (by decide)) <|
    .cons (tok_q xs0 xs1 xs4 xs5 (i 1) 0 224 0 224 _ _ rfl (rM_0 (i 1)) (rN_224 (i 1)) rfl (by decide) _ _ _ _ (by decide)) <|
    .cons (tok_q xs0 xs1 xs4 xs5 (i 1) 0 192 128 192 _ _ rfl (rM_0 (i 1)) (rN_192 (i 1)) rfl (by decide) _ _ _ _ (by decide)) <|
    .cons (tok_q xs0 xs1 xs4 xs5 (i 1) 0 192 0 192 _ _ rfl (rM_0 (i 1)) (rN_192 (i 1)) rfl (by decide) _ _ _ _ (by decide)) <|
    .cons (tok_q xs0 xs1 xs4 xs5 (i 1) 0 160 128 160 _ _ rfl (rM_0 (i 1)) (rN_160 (i 1)) rfl (by decide) _ _ _ _ (by decide)) <|
    .cons (tok_q xs0 xs1 xs4 xs5 (i 1) 0 160 0 160 _ _ rfl (rM_0 (i 1)) (rN_160 (i 1)) rfl (by decide) _ _ _ _ (by decide)) <|
    .cons (tok_q xs0 xs1 xs4 xs5 (i 1) 0 128 128 128 _ _ rfl (rM_0 (i 1)) (rN_128 (i 1)) rfl (by decide) _ _ _ _ (by decide)) <|
    .cons (tok_q xs0 xs1 xs4 xs5 (i 1) 0 128 0 128 _ _ rfl (rM_0 (i 1)) (rN_128 (i 1)) rfl (by decide) _ _ _ _ (by decide)) <|
    .cons (tok_q xs0 xs1 xs4 xs5 (i 1) 0 96 128 96 _ _ rfl (rM_0 (i 1)) (rN_96 (i 1)) rfl (by decide) _ _ _ _ (by decide)) <|
    .cons (tok_q xs0 xs1 xs4 xs5 (i 1) 0 96 0 96 _ _ rfl (rM_0 (i 1)) (rN_96 (i 1)) rfl (by decide) _ _ _ _ (by decide)) <|
    .cons (tok_q xs0 xs1 xs4 xs5 (i 1) 0 64 128 64 _ _ rfl (rM_0 (i 1)) (rN_64 (i 1)) rfl (by decide) _ _ _ _ (by decide)) <|
    .cons (tok_q xs0 xs1 xs4 xs5 (i 1) 0 64 0 64 _ _ rfl (rM_0 (i 1)) (rN_64 (i 1)) rfl (by decide) _ _ _ _ (by decide)) <|
    .cons (tok_q xs0 xs1 xs4 xs5 (i 1) 0 32 128 32 _ _ rfl (rM_0 (i 1)) (rN_32 (i 1)) rfl (by decide) _ _ _ _ (by decide)) <|
    .cons (tok_q xs0 xs1 xs4 xs5 (i 1) 0 32 0 32 _ _ rfl (rM_0 (i 1)) (rN_32 (i 1)) rfl (by decide) _ _ _ _ (by decide)) <|
    .cons (tok_q xs0 xs1 xs4 xs5 (i 1) 0 0 128 0 _ _ rfl (rM_0 (i 1)) (rN_0 (i 1)) rfl (by decide) _ _ _ _ (by decide)) <|
    .cons (tok_q xs0 xs1 xs4 xs5 (i 1) 0 0 0 0 _ _ rfl (rM_0 (i 1)) (rN_0 (i 1)) rfl (by decide) _ _ _ _ (by decide)) <|
    .nil

end Cert.FwdIdeal.Gen

end
-- ==== Proof.FwdIdeal.CaseC2.lean ====
/-
  What the points of odd rows leave, as lists of tiles of the tables.
-/
module

public import proofs.«01_k».proof.Proof.FwdIdeal.RunC
public import proofs.«01_k».proof.Proof.FwdIdeal.Orders

@[expose] public section

set_option maxRecDepth 16384

noncomputable section

namespace Cert.FwdIdeal.Gen

open Idealize.ShloMosaic hiding ix2
open Idealize.ShloMosaic.TcCoe Idealize.SL.Sem Cert.FwdIdeal Cert.FwdIdeal.Tile
open Idealize.ShloMosaic.ValueIdx

/-- The activation stored. -/
theorem runC_a (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : ¬cond0_2 i) (hc3 : cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (e := .f32) (tokT xs0 xs1 xs4 xs5 aV (i 1)) (0) 32 128) (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.1 QT := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (tok_a xs0 xs1 xs4 xs5 (i 1) 768 352 128 1120 _ _ rfl (rM_768 (i 1)) (rN_1120 (i 1)) rfl (by decide) _ _ _ _ (by decide)) <|
    .cons (tok_a xs0 xs1 xs4 xs5 (i 1) 768 352 0 1120 _ _ rfl (rM_768 (i 1)) (rN_1120 (i 1)) rfl (by decide) _ _ _ _ (by decide)) <|
    .cons (tok_a xs0 xs1 xs4 xs5 (i 1) 768 320 128 1088 _ _ rfl (rM_768 (i 1)) (rN_1088 (i 1)) rfl (by decide) _ _ _ _ (by decide)) <|
    .cons (tok_a xs0 xs1 xs4 xs5 (i 1) 768 320 0 1088 _ _ rfl (rM_768 (i 1)) (rN_1088 (i 1)) rfl (by decide) _ _ _ _ (by decide)) <|
    .cons (tok_a xs0 xs1 xs4 xs5 (i 1) 768 288 128 1056 _ _ rfl (rM_768 (i 1)) (rN_1056 (i 1)) rfl (by decide) _ _ _ _ (by decide)) <|
    .cons (tok_a xs0 xs1 xs4 xs5 (i 1) 768 288 0 1056 _ _ rfl (rM_768 (i 1)) (rN_1056 (i 1)) rfl (by decide) _ _ _ _ (by decide)) <|
    .cons (tok_a xs0 xs1 xs4 xs5 (i 1) 768 256 128 1024 _ _ rfl (rM_768 (i 1)) (rN_1024 (i 1)) rfl (by decide) _ _ _ _ (by decide)) <|
    .cons (tok_a xs0 xs1 xs4 xs5 (i 1) 768 256 0 1024 _ _ rfl (rM_768 (i 1)) (rN_1024 (i 1)) rfl (by decide) _ _ _ _ (by decide)) <|
    .cons (tok_a xs0 xs1 xs4 xs5 (i 1) 768 224 128 992 _ _ rfl (rM_768 (i 1)) (rN_992 (i 1)) rfl (by decide) _ _ _ _ (by decide)) <|
    .cons (tok_a xs0 xs1 xs4 xs5 (i 1) 768 224 0 992 _ _ rfl (rM_768 (i 1)) (rN_992 (i 1)) rfl (by decide) _ _ _ _ (by decide)) <|
    .cons (tok_a xs0 xs1 xs4 xs5 (i 1) 768 192 128 960 _ _ rfl (rM_768 (i 1)) (rN_960 (i 1)) rfl (by decide) _ _ _ _ (by decide)) <|
    .cons (tok_a xs0 xs1 xs4 xs5 (i 1) 768 192 0 960 _ _ rfl (rM_768 (i 1)) (rN_960 (i 1)) rfl (by decide) _ _ _ _ (by decide)) <|
    .cons (tok_a xs0 xs1 xs4 xs5 (i 1) 768 160 128 928 _ _ rfl (rM_768 (i 1)) (rN_928 (i 1)) rfl (by decide) _ _ _ _ (by decide)) <|
    .cons (tok_a xs0 xs1 xs4 xs5 (i 1) 768 160 0 928 _ _ rfl (rM_768 (i 1)) (rN_928 (i 1)) rfl (by decide) _ _ _ _ (by decide)) <|
    .cons (tok_a xs0 xs1 xs4 xs5 (i 1) 768 128 128 896 _ _ rfl (rM_768 (i 1)) (rN_896 (i 1)) rfl (by decide) _ _ _ _ (by decide)) <|
    .cons (tok_a xs0 xs1 xs4 xs5 (i 1) 768 128 0 896 _ _ rfl (rM_768 (i 1)) (rN_896 (i 1)) rfl (by decide) _ _ _ _ (by decide)) <|
    .cons (tok_a xs0 xs1 xs4 xs5 (i 1) 768 96 128 864 _ _ rfl (rM_768 (i 1)) (rN_864 (i 1)) rfl (by decide) _ _ _ _ (by decide)) <|
    .cons (tok_a xs0 xs1 xs4 xs5 (i 1) 768 96 0 864 _ _ rfl (rM_768 (i 1)) (rN_864 (i 1)) rfl (by decide) _ _ _ _ (by decide)) <|
    .cons (tok_a xs0 xs1 xs4 xs5 (i 1) 768 64 128 832 _ _ rfl (rM_768 (i 1)) (rN_832 (i 1)) rfl (by decide) _ _ _ _ (by decide)) <|
    .cons (tok_a xs0 xs1 xs4 xs5 (i 1) 768 64 0 832 _ _ rfl (rM_768 (i 1)) (rN_832 (i 1)) rfl (by decide) _ _ _ _ (by decide)) <|
    .cons (tok_a xs0 xs1 xs4 xs5 (i 1) 768 32 128 800 _ _ rfl (rM_768 (i 1)) (rN_800 (i 1)) rfl (by decide) _ _ _ _ (by decide)) <|
    .cons (tok_a xs0 xs1 xs4 xs5 (i 1) 768 32 0 800 _ _ rfl (rM_768 (i 1)) (rN_800 (i 1)) rfl (by decide) _ _ _ _ (by decide)) <|
    .cons (tok_a xs0 xs1 xs4 xs5 (i 1) 768 0 128 768 _ _ rfl (rM_768 (i 1)) (rN_768 (i 1)) rfl (by decide) _ _ _ _ (by decide)) <|
    .cons (tok_a xs0 xs1 xs4 xs5 (i 1) 768 0 0 768 _ _ rfl (rM_768 (i 1)) (rN_768 (i 1)) rfl (by decide) _ _ _ _ (by decide)) <|
    .cons (tok_a xs0 xs1 xs4 xs5 (i 1) 384 352 128 736 _ _ rfl (rM_384 (i 1)) (rN_736 (i 1)) rfl (by decide) _ _ _ _ (by decide)) <|
    .cons (tok_a xs0 xs1 xs4 xs5 (i 1) 384 352 0 736 _ _ rfl (rM_384 (i 1)) (rN_736 (i 1)) rfl (by decide) _ _ _ _ (by decide)) <|
    .cons (tok_a xs0 xs1 xs4 xs5 (i 1) 384 320 128 704 _ _ rfl (rM_384 (i 1)) (rN_704 (i 1)) rfl (by decide) _ _ _ _ (by decide)) <|
    .cons (tok_a xs0 xs1 xs4 xs5 (i 1) 384 320 0 704 _ _ rfl (rM_384 (i 1)) (rN_704 (i 1)) rfl (by decide) _ _ _ _ (by decide)) <|
    .cons (tok_a xs0 xs1 xs4 xs5 (i 1) 384 288 128 672 _ _ rfl (rM_384 (i 1)) (rN_672 (i 1)) rfl (by decide) _ _ _ _ (by decide)) <|
    .cons (tok_a xs0 xs1 xs4 xs5 (i 1) 384 288 0 672 _ _ rfl (rM_384 (i 1)) (rN_672 (i 1)) rfl (by decide) _ _ _ _ (by decide)) <|
    .cons (tok_a xs0 xs1 xs4 xs5 (i 1) 384 256 128 640 _ _ rfl (rM_384 (i 1)) (rN_640 (i 1)) rfl (by decide) _ _ _ _ (by decide)) <|
    .cons (tok_a xs0 xs1 xs4 xs5 (i 1) 384 256 0 640 _ _ rfl (rM_384 (i 1)) (rN_640 (i 1)) rfl (by decide) _ _ _ _ (by decide)) <|
    .cons (tok_a xs0 xs1 xs4 xs5 (i 1) 384 224 128 608 _ _ rfl (rM_384 (i 1)) (rN_608 (i 1)) rfl (by decide) _ _ _ _ (by decide)) <|
    .cons (tok_a xs0 xs1 xs4 xs5 (i 1) 384 224 0 608 _ _ rfl (rM_384 (i 1)) (rN_608 (i 1)) rfl (by decide) _ _ _ _ (by decide)) <|
    .cons (tok_a xs0 xs1 xs4 xs5 (i 1) 384 192 128 576 _ _ rfl (rM_384 (i 1)) (rN_576 (i 1)) rfl (by decide) _ _ _ _ (by decide)) <|
    .cons (tok_a xs0 xs1 xs4 xs5 (i 1) 384 192 0 576 _ _ rfl (rM_384 (i 1)) (rN_576 (i 1)) rfl (by decide) _ _ _ _ (by decide)) <|
    .cons (tok_a xs0 xs1 xs4 xs5 (i 1) 384 160 128 544 _ _ rfl (rM_384 (i 1)) (rN_544 (i 1)) rfl (by decide) _ _ _ _ (by decide)) <|
    .cons (tok_a xs0 xs1 xs4 xs5 (i 1) 384 160 0 544 _ _ rfl (rM_384 (i 1)) (rN_544 (i 1)) rfl (by decide) _ _ _ _ (by decide)) <|
    .cons (tok_a xs0 xs1 xs4 xs5 (i 1) 384 128 128 512 _ _ rfl (rM_384 (i 1)) (rN_512 (i 1)) rfl (by decide) _ _ _ _ (by decide)) <|
    .cons (tok_a xs0 xs1 xs4 xs5 (i 1) 384 128 0 512 _ _ rfl (rM_384 (i 1)) (rN_512 (i 1)) rfl (by decide) _ _ _ _ (by decide)) <|
    .cons (tok_a xs0 xs1 xs4 xs5 (i 1) 384 96 128 480 _ _ rfl (rM_384 (i 1)) (rN_480 (i 1)) rfl (by decide) _ _ _ _ (by decide)) <|
    .cons (tok_a xs0 xs1 xs4 xs5 (i 1) 384 96 0 480 _ _ rfl (rM_384 (i 1)) (rN_480 (i 1)) rfl (by decide) _ _ _ _ (by decide)) <|
    .cons (tok_a xs0 xs1 xs4 xs5 (i 1) 384 64 128 448 _ _ rfl (rM_384 (i 1)) (rN_448 (i 1)) rfl (by decide) _ _ _ _ (by decide)) <|
    .cons (tok_a xs0 xs1 xs4 xs5 (i 1) 384 64 0 448 _ _ rfl (rM_384 (i 1)) (rN_448 (i 1)) rfl (by decide) _ _ _ _ (by decide)) <|
    .cons (tok_a xs0 xs1 xs4 xs5 (i 1) 384 32 128 416 _ _ rfl (rM_384 (i 1)) (rN_416 (i 1)) rfl (by decide) _ _ _ _ (by decide)) <|
    .cons (tok_a xs0 xs1 xs4 xs5 (i 1) 384 32 0 416 _ _ rfl (rM_384 (i 1)) (rN_416 (i 1)) rfl (by decide) _ _ _ _ (by decide)) <|
    .cons (tok_a xs0 xs1 xs4 xs5 (i 1) 384 0 128 384 _ _ rfl (rM_384 (i 1)) (rN_384 (i 1)) rfl (by decide) _ _ _ _ (by decide)) <|
    .cons (tok_a xs0 xs1 xs4 xs5 (i 1) 384 0 0 384 _ _ rfl (rM_384 (i 1)) (rN_384 (i 1)) rfl (by decide) _ _ _ _ (by decide)) <|
    .cons (tok_a xs0 xs1 xs4 xs5 (i 1) 0 352 128 352 _ _ rfl (rM_0 (i 1)) (rN_352 (i 1)) rfl (by decide) _ _ _ _ (by decide)) <|
    .cons (tok_a xs0 xs1 xs4 xs5 (i 1) 0 352 0 352 _ _ rfl (rM_0 (i 1)) (rN_352 (i 1)) rfl (by decide) _ _ _ _ (by decide)) <|
    .cons (tok_a xs0 xs1 xs4 xs5 (i 1) 0 320 128 320 _ _ rfl (rM_0 (i 1)) (rN_320 (i 1)) rfl (by decide) _ _ _ _ (by decide)) <|
    .cons (tok_a xs0 xs1 xs4 xs5 (i 1) 0 320 0 320 _ _ rfl (rM_0 (i 1)) (rN_320 (i 1)) rfl (by decide) _ _ _ _ (by decide)) <|
    .cons (tok_a xs0 xs1 xs4 xs5 (i 1) 0 288 128 288 _ _ rfl (rM_0 (i 1)) (rN_288 (i 1)) rfl (by decide) _ _ _ _ (by decide)) <|
    .cons (tok_a xs0 xs1 xs4 xs5 (i 1) 0 288 0 288 _ _ rfl (rM_0 (i 1)) (rN_288 (i 1)) rfl (by decide) _ _ _ _ (by decide)) <|
    .cons (tok_a xs0 xs1 xs4 xs5 (i 1) 0 256 128 256 _ _ rfl (rM_0 (i 1)) (rN_256 (i 1)) rfl (by decide) _ _ _ _ (by decide)) <|
    .cons (tok_a xs0 xs1 xs4 xs5 (i 1) 0 256 0 256 _ _ rfl (rM_0 (i 1)) (rN_256 (i 1)) rfl (by decide) _ _ _ _ (by decide)) <|
    .cons (tok_a xs0 xs1 xs4 xs5 (i 1) 0 224 128 224 _ _ rfl (rM_0 (i 1)) (rN_224 (i 1)) rfl (by decide) _ _ _ _ (by decide)) <|
    .cons (tok_a xs0 xs1 xs4 xs5 (i 1) 0 224 0 224 _ _ rfl (rM_0 (i 1)) (rN_224 (i 1)) rfl (by decide) _ _ _ _ (by decide)) <|
    .cons (tok_a xs0 xs1 xs4 xs5 (i 1) 0 192 128 192 _ _ rfl (rM_0 (i 1)) (rN_192 (i 1)) rfl (by decide) _ _ _ _ (by decide)) <|
    .cons (tok_a xs0 xs1 xs4 xs5 (i 1) 0 192 0 192 _ _ rfl (rM_0 (i 1)) (rN_192 (i 1)) rfl (by decide) _ _ _ _ (by decide)) <|
    .cons (tok_a xs0 xs1 xs4 xs5 (i 1) 0 160 128 160 _ _ rfl (rM_0 (i 1)) (rN_160 (i 1)) rfl (by decide) _ _ _ _ (by decide)) <|
    .cons (tok_a xs0 xs1 xs4 xs5 (i 1) 0 160 0 160 _ _ rfl (rM_0 (i 1)) (rN_160 (i 1)) rfl (by decide) _ _ _ _ (by decide)) <|
    .cons (tok_a xs0 xs1 xs4 xs5 (i 1) 0 128 128 128 _ _ rfl (rM_0 (i 1)) (rN_128 (i 1)) rfl (by decide) _ _ _ _ (by decide)) <|
    .cons (tok_a xs0 xs1 xs4 xs5 (i 1) 0 128 0 128 _ _ rfl (rM_0 (i 1)) (rN_128 (i 1)) rfl (by decide) _ _ _ _ (by decide)) <|
    .cons (tok_a xs0 xs1 xs4 xs5 (i 1) 0 96 128 96 _ _ rfl (rM_0 (i 1)) (rN_96 (i 1)) rfl (by decide) _ _ _ _ (by decide)) <|
    .cons (tok_a xs0 xs1 xs4 xs5 (i 1) 0 96 0 96 _ _ rfl (rM_0 (i 1)) (rN_96 (i 1)) rfl (by decide) _ _ _ _ (by decide)) <|
    .cons (tok_a xs0 xs1 xs4 xs5 (i 1) 0 64 128 64 _ _ rfl (rM_0 (i 1)) (rN_64 (i 1)) rfl (by decide) _ _ _ _ (by decide)) <|
    .cons (tok_a xs0 xs1 xs4 xs5 (i 1) 0 64 0 64 _ _ rfl (rM_0 (i 1)) (rN_64 (i 1)) rfl (by decide) _ _ _ _ (by decide)) <|
    .cons (tok_a xs0 xs1 xs4 xs5 (i 1) 0 32 128 32 _ _ rfl (rM_0 (i 1)) (rN_32 (i 1)) rfl (by decide) _ _ _ _ (by decide)) <|
    .cons (tok_a xs0 xs1 xs4 xs5 (i 1) 0 32 0 32 _ _ rfl (rM_0 (i 1)) (rN_32 (i 1)) rfl (by decide) _ _ _ _ (by decide)) <|
    .cons (tok_a xs0 xs1 xs4 xs5 (i 1) 0 0 128 0 _ _ rfl (rM_0 (i 1)) (rN_0 (i 1)) rfl (by decide) _ _ _ _ (by decide)) <|
    .cons (tok_a xs0 xs1 xs4 xs5 (i 1) 0 0 0 0 _ _ rfl (rM_0 (i 1)) (rN_0 (i 1)) rfl (by decide) _ _ _ _ (by decide)) <|
    .nil

/-- The activation stored, cast. -/
theorem runC_ab (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : ¬cond0_2 i) (hc3 : cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (e := .bf16) (tokT xs0 xs1 xs4 xs5 aV (i 1)) (0) 32 128) (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.1 QT := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (tok_ab xs0 xs1 xs4 xs5 (i 1) 768 352 128 1120 _ _ rfl (rM_768 (i 1)) (rN_1120 (i 1)) rfl (by decide) _ _ _ _ (by decide)) <|
    .cons (tok_ab xs0 xs1 xs4 xs5 (i 1) 768 352 0 1120 _ _ rfl (rM_768 (i 1)) (rN_1120 (i 1)) rfl (by decide) _ _ _ _ (by decide)) <|
    .cons (tok_ab xs0 xs1 xs4 xs5 (i 1) 768 320 128 1088 _ _ rfl (rM_768 (i 1)) (rN_1088 (i 1)) rfl (by decide) _ _ _ _ (by decide)) <|
    .cons (tok_ab xs0 xs1 xs4 xs5 (i 1) 768 320 0 1088 _ _ rfl (rM_768 (i 1)) (rN_1088 (i 1)) rfl (by decide) _ _ _ _ (by decide)) <|
    .cons (tok_ab xs0 xs1 xs4 xs5 (i 1) 768 288 128 1056 _ _ rfl (rM_768 (i 1)) (rN_1056 (i 1)) rfl (by decide) _ _ _ _ (by decide)) <|
    .cons (tok_ab xs0 xs1 xs4 xs5 (i 1) 768 288 0 1056 _ _ rfl (rM_768 (i 1)) (rN_1056 (i 1)) rfl (by decide) _ _ _ _ (by decide)) <|
    .cons (tok_ab xs0 xs1 xs4 xs5 (i 1) 768 256 128 1024 _ _ rfl (rM_768 (i 1)) (rN_1024 (i 1)) rfl (by decide) _ _ _ _ (by decide)) <|
    .cons (tok_ab xs0 xs1 xs4 xs5 (i 1) 768 256 0 1024 _ _ rfl (rM_768 (i 1)) (rN_1024 (i 1)) rfl (by decide) _ _ _ _ (by decide)) <|
    .cons (tok_ab xs0 xs1 xs4 xs5 (i 1) 768 224 128 992 _ _ rfl (rM_768 (i 1)) (rN_992 (i 1)) rfl (by decide) _ _ _ _ (by decide)) <|
    .cons (tok_ab xs0 xs1 xs4 xs5 (i 1) 768 224 0 992 _ _ rfl (rM_768 (i 1)) (rN_992 (i 1)) rfl (by decide) _ _ _ _ (by decide)) <|
    .cons (tok_ab xs0 xs1 xs4 xs5 (i 1) 768 192 128 960 _ _ rfl (rM_768 (i 1)) (rN_960 (i 1)) rfl (by decide) _ _ _ _ (by decide)) <|
    .cons (tok_ab xs0 xs1 xs4 xs5 (i 1) 768 192 0 960 _ _ rfl (rM_768 (i 1)) (rN_960 (i 1)) rfl (by decide) _ _ _ _ (by decide)) <|
    .cons (tok_ab xs0 xs1 xs4 xs5 (i 1) 768 160 128 928 _ _ rfl (rM_768 (i 1)) (rN_928 (i 1)) rfl (by decide) _ _ _ _ (by decide)) <|
    .cons (tok_ab xs0 xs1 xs4 xs5 (i 1) 768 160 0 928 _ _ rfl (rM_768 (i 1)) (rN_928 (i 1)) rfl (by decide) _ _ _ _ (by decide)) <|
    .cons (tok_ab xs0 xs1 xs4 xs5 (i 1) 768 128 128 896 _ _ rfl (rM_768 (i 1)) (rN_896 (i 1)) rfl (by decide) _ _ _ _ (by decide)) <|
    .cons (tok_ab xs0 xs1 xs4 xs5 (i 1) 768 128 0 896 _ _ rfl (rM_768 (i 1)) (rN_896 (i 1)) rfl (by decide) _ _ _ _ (by decide)) <|
    .cons (tok_ab xs0 xs1 xs4 xs5 (i 1) 768 96 128 864 _ _ rfl (rM_768 (i 1)) (rN_864 (i 1)) rfl (by decide) _ _ _ _ (by decide)) <|
    .cons (tok_ab xs0 xs1 xs4 xs5 (i 1) 768 96 0 864 _ _ rfl (rM_768 (i 1)) (rN_864 (i 1)) rfl (by decide) _ _ _ _ (by decide)) <|
    .cons (tok_ab xs0 xs1 xs4 xs5 (i 1) 768 64 128 832 _ _ rfl (rM_768 (i 1)) (rN_832 (i 1)) rfl (by decide) _ _ _ _ (by decide)) <|
    .cons (tok_ab xs0 xs1 xs4 xs5 (i 1) 768 64 0 832 _ _ rfl (rM_768 (i 1)) (rN_832 (i 1)) rfl (by decide) _ _ _ _ (by decide)) <|
    .cons (tok_ab xs0 xs1 xs4 xs5 (i 1) 768 32 128 800 _ _ rfl (rM_768 (i 1)) (rN_800 (i 1)) rfl (by decide) _ _ _ _ (by decide)) <|
    .cons (tok_ab xs0 xs1 xs4 xs5 (i 1) 768 32 0 800 _ _ rfl (rM_768 (i 1)) (rN_800 (i 1)) rfl (by decide) _ _ _ _ (by decide)) <|
    .cons (tok_ab xs0 xs1 xs4 xs5 (i 1) 768 0 128 768 _ _ rfl (rM_768 (i 1)) (rN_768 (i 1)) rfl (by decide) _ _ _ _ (by decide)) <|
    .cons (tok_ab xs0 xs1 xs4 xs5 (i 1) 768 0 0 768 _ _ rfl (rM_768 (i 1)) (rN_768 (i 1)) rfl (by decide) _ _ _ _ (by decide)) <|
    .cons (tok_ab xs0 xs1 xs4 xs5 (i 1) 384 352 128 736 _ _ rfl (rM_384 (i 1)) (rN_736 (i 1)) rfl (by decide) _ _ _ _ (by decide)) <|
    .cons (tok_ab xs0 xs1 xs4 xs5 (i 1) 384 352 0 736 _ _ rfl (rM_384 (i 1)) (rN_736 (i 1)) rfl (by decide) _ _ _ _ (by decide)) <|
    .cons (tok_ab xs0 xs1 xs4 xs5 (i 1) 384 320 128 704 _ _ rfl (rM_384 (i 1)) (rN_704 (i 1)) rfl (by decide) _ _ _ _ (by decide)) <|
    .cons (tok_ab xs0 xs1 xs4 xs5 (i 1) 384 320 0 704 _ _ rfl (rM_384 (i 1)) (rN_704 (i 1)) rfl (by decide) _ _ _ _ (by decide)) <|
    .cons (tok_ab xs0 xs1 xs4 xs5 (i 1) 384 288 128 672 _ _ rfl (rM_384 (i 1)) (rN_672 (i 1)) rfl (by decide) _ _ _ _ (by decide)) <|
    .cons (tok_ab xs0 xs1 xs4 xs5 (i 1) 384 288 0 672 _ _ rfl (rM_384 (i 1)) (rN_672 (i 1)) rfl (by decide) _ _ _ _ (by decide)) <|
    .cons (tok_ab xs0 xs1 xs4 xs5 (i 1) 384 256 128 640 _ _ rfl (rM_384 (i 1)) (rN_640 (i 1)) rfl (by decide) _ _ _ _ (by decide)) <|
    .cons (tok_ab xs0 xs1 xs4 xs5 (i 1) 384 256 0 640 _ _ rfl (rM_384 (i 1)) (rN_640 (i 1)) rfl (by decide) _ _ _ _ (by decide)) <|
    .cons (tok_ab xs0 xs1 xs4 xs5 (i 1) 384 224 128 608 _ _ rfl (rM_384 (i 1)) (rN_608 (i 1)) rfl (by decide) _ _ _ _ (by decide)) <|
    .cons (tok_ab xs0 xs1 xs4 xs5 (i 1) 384 224 0 608 _ _ rfl (rM_384 (i 1)) (rN_608 (i 1)) rfl (by decide) _ _ _ _ (by decide)) <|
    .cons (tok_ab xs0 xs1 xs4 xs5 (i 1) 384 192 128 576 _ _ rfl (rM_384 (i 1)) (rN_576 (i 1)) rfl (by decide) _ _ _ _ (by decide)) <|
    .cons (tok_ab xs0 xs1 xs4 xs5 (i 1) 384 192 0 576 _ _ rfl (rM_384 (i 1)) (rN_576 (i 1)) rfl (by decide) _ _ _ _ (by decide)) <|
    .cons (tok_ab xs0 xs1 xs4 xs5 (i 1) 384 160 128 544 _ _ rfl (rM_384 (i 1)) (rN_544 (i 1)) rfl (by decide) _ _ _ _ (by decide)) <|
    .cons (tok_ab xs0 xs1 xs4 xs5 (i 1) 384 160 0 544 _ _ rfl (rM_384 (i 1)) (rN_544 (i 1)) rfl (by decide) _ _ _ _ (by decide)) <|
    .cons (tok_ab xs0 xs1 xs4 xs5 (i 1) 384 128 128 512 _ _ rfl (rM_384 (i 1)) (rN_512 (i 1)) rfl (by decide) _ _ _ _ (by decide)) <|
    .cons (tok_ab xs0 xs1 xs4 xs5 (i 1) 384 128 0 512 _ _ rfl (rM_384 (i 1)) (rN_512 (i 1)) rfl (by decide) _ _ _ _ (by decide)) <|
    .cons (tok_ab xs0 xs1 xs4 xs5 (i 1) 384 96 128 480 _ _ rfl (rM_384 (i 1)) (rN_480 (i 1)) rfl (by decide) _ _ _ _ (by decide)) <|
    .cons (tok_ab xs0 xs1 xs4 xs5 (i 1) 384 96 0 480 _ _ rfl (rM_384 (i 1)) (rN_480 (i 1)) rfl (by decide) _ _ _ _ (by decide)) <|
    .cons (tok_ab xs0 xs1 xs4 xs5 (i 1) 384 64 128 448 _ _ rfl (rM_384 (i 1)) (rN_448 (i 1)) rfl (by decide) _ _ _ _ (by decide)) <|
    .cons (tok_ab xs0 xs1 xs4 xs5 (i 1) 384 64 0 448 _ _ rfl (rM_384 (i 1)) (rN_448 (i 1)) rfl (by decide) _ _ _ _ (by decide)) <|
    .cons (tok_ab xs0 xs1 xs4 xs5 (i 1) 384 32 128 416 _ _ rfl (rM_384 (i 1)) (rN_416 (i 1)) rfl (by decide) _ _ _ _ (by decide)) <|
    .cons (tok_ab xs0 xs1 xs4 xs5 (i 1) 384 32 0 416 _ _ rfl (rM_384 (i 1)) (rN_416 (i 1)) rfl (by decide) _ _ _ _ (by decide)) <|
    .cons (tok_ab xs0 xs1 xs4 xs5 (i 1) 384 0 128 384 _ _ rfl (rM_384 (i 1)) (rN_384 (i 1)) rfl (by decide) _ _ _ _ (by decide)) <|
    .cons (tok_ab xs0 xs1 xs4 xs5 (i 1) 384 0 0 384 _ _ rfl (rM_384 (i 1)) (rN_384 (i 1)) rfl (by decide) _ _ _ _ (by decide)) <|
    .cons (tok_ab xs0 xs1 xs4 xs5 (i 1) 0 352 128 352 _ _ rfl (rM_0 (i 1)) (rN_352 (i 1)) rfl (by decide) _ _ _ _ (by decide)) <|
    .cons (tok_ab xs0 xs1 xs4 xs5 (i 1) 0 352 0 352 _ _ rfl (rM_0 (i 1)) (rN_352 (i 1)) rfl (by decide) _ _ _ _ (by decide)) <|
    .cons (tok_ab xs0 xs1 xs4 xs5 (i 1) 0 320 128 320 _ _ rfl (rM_0 (i 1)) (rN_320 (i 1)) rfl (by decide) _ _ _ _ (by decide)) <|
    .cons (tok_ab xs0 xs1 xs4 xs5 (i 1) 0 320 0 320 _ _ rfl (rM_0 (i 1)) (rN_320 (i 1)) rfl (by decide) _ _ _ _ (by decide)) <|
    .cons (tok_ab xs0 xs1 xs4 xs5 (i 1) 0 288 128 288 _ _ rfl (rM_0 (i 1)) (rN_288 (i 1)) rfl (by decide) _ _ _ _ (by decide)) <|
    .cons (tok_ab xs0 xs1 xs4 xs5 (i 1) 0 288 0 288 _ _ rfl (rM_0 (i 1)) (rN_288 (i 1)) rfl (by decide) _ _ _ _ (by decide)) <|
    .cons (tok_ab xs0 xs1 xs4 xs5 (i 1) 0 256 128 256 _ _ rfl (rM_0 (i 1)) (rN_256 (i 1)) rfl (by decide) _ _ _ _ (by decide)) <|
    .cons (tok_ab xs0 xs1 xs4 xs5 (i 1) 0 256 0 256 _ _ rfl (rM_0 (i 1)) (rN_256 (i 1)) rfl (by decide) _ _ _ _ (by decide)) <|
    .cons (tok_ab xs0 xs1 xs4 xs5 (i 1) 0 224 128 224 _ _ rfl (rM_0 (i 1)) (rN_224 (i 1)) rfl (by decide) _ _ _ _ (by decide)) <|
    .cons (tok_ab xs0 xs1 xs4 xs5 (i 1) 0 224 0 224 _ _ rfl (rM_0 (i 1)) (rN_224 (i 1)) rfl (by decide) _ _ _ _ (by decide)) <|
    .cons (tok_ab xs0 xs1 xs4 xs5 (i 1) 0 192 128 192 _ _ rfl (rM_0 (i 1)) (rN_192 (i 1)) rfl (by decide) _ _ _ _ (by decide)) <|
    .cons (tok_ab xs0 xs1 xs4 xs5 (i 1) 0 192 0 192 _ _ rfl (rM_0 (i 1)) (rN_192 (i 1)) rfl (by decide) _ _ _ _ (by decide)) <|
    .cons (tok_ab xs0 xs1 xs4 xs5 (i 1) 0 160 128 160 _ _ rfl (rM_0 (i 1)) (rN_160 (i 1)) rfl (by decide) _ _ _ _ (by decide)) <|
    .cons (tok_ab xs0 xs1 xs4 xs5 (i 1) 0 160 0 160 _ _ rfl (rM_0 (i 1)) (rN_160 (i 1)) rfl (by decide) _ _ _ _ (by decide)) <|
    .cons (tok_ab xs0 xs1 xs4 xs5 (i 1) 0 128 128 128 _ _ rfl (rM_0 (i 1)) (rN_128 (i 1)) rfl (by decide) _ _ _ _ (by decide)) <|
    .cons (tok_ab xs0 xs1 xs4 xs5 (i 1) 0 128 0 128 _ _ rfl (rM_0 (i 1)) (rN_128 (i 1)) rfl (by decide) _ _ _ _ (by decide)) <|
    .cons (tok_ab xs0 xs1 xs4 xs5 (i 1) 0 96 128 96 _ _ rfl (rM_0 (i 1)) (rN_96 (i 1)) rfl (by decide) _ _ _ _ (by decide)) <|
    .cons (tok_ab xs0 xs1 xs4 xs5 (i 1) 0 96 0 96 _ _ rfl (rM_0 (i 1)) (rN_96 (i 1)) rfl (by decide) _ _ _ _ (by decide)) <|
    .cons (tok_ab xs0 xs1 xs4 xs5 (i 1) 0 64 128 64 _ _ rfl (rM_0 (i 1)) (rN_64 (i 1)) rfl (by decide) _ _ _ _ (by decide)) <|
    .cons (tok_ab xs0 xs1 xs4 xs5 (i 1) 0 64 0 64 _ _ rfl (rM_0 (i 1)) (rN_64 (i 1)) rfl (by decide) _ _ _ _ (by decide)) <|
    .cons (tok_ab xs0 xs1 xs4 xs5 (i 1) 0 32 128 32 _ _ rfl (rM_0 (i 1)) (rN_32 (i 1)) rfl (by decide) _ _ _ _ (by decide)) <|
    .cons (tok_ab xs0 xs1 xs4 xs5 (i 1) 0 32 0 32 _ _ rfl (rM_0 (i 1)) (rN_32 (i 1)) rfl (by decide) _ _ _ _ (by decide)) <|
    .cons (tok_ab xs0 xs1 xs4 xs5 (i 1) 0 0 128 0 _ _ rfl (rM_0 (i 1)) (rN_0 (i 1)) rfl (by decide) _ _ _ _ (by decide)) <|
    .cons (tok_ab xs0 xs1 xs4 xs5 (i 1) 0 0 0 0 _ _ rfl (rM_0 (i 1)) (rN_0 (i 1)) rfl (by decide) _ _ _ _ (by decide)) <|
    .nil

end Cert.FwdIdeal.Gen

end
-- ==== Proof.FwdIdeal.CaseC3.lean ====
/-
  What the points of odd rows leave, as lists of tiles of the tables.
-/
module

public import proofs.«01_k».proof.Proof.FwdIdeal.RunC
public import proofs.«01_k».proof.Proof.FwdIdeal.Orders
public import proofs.«01_k».proof.Proof.FwdIdeal.CaseC2

@[expose] public section

set_option maxRecDepth 16384

noncomputable section

namespace Cert.FwdIdeal.Gen

open Idealize.ShloMosaic hiding ix2
open Idealize.ShloMosaic.TcCoe Idealize.SL.Sem Cert.FwdIdeal Cert.FwdIdeal.Tile
open Idealize.ShloMosaic.ValueIdx

/-- The activation stored turned. -/
theorem runC_at (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : ¬cond0_2 i) (hc3 : cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (e := .bf16) (turnT (tokT xs0 xs1 xs4 xs5 aV (i 1))) 0 256 384) (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.1 QAT := by
  have hab := runC_ab c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5
  have cov768 : ∀ z0 z1, 768 ≤ z0 → z0 < 768 + 384 → z1 < 256 → ∃ q ∈ QT.drop 0, (q.1 ≤ z0 ∧ z0 < q.1 + 32) ∧ (q.2 ≤ z1 ∧ z1 < q.2 + 128) := fun z0 z1 _ h0 h1 =>
    grid_cover 32 128 36 2 (by decide) (by decide) (by decide) z0 z1 (by omega) (by omega)
  have cov384 : ∀ z0 z1, 384 ≤ z0 → z0 < 384 + 384 → z1 < 256 → ∃ q ∈ QT.drop 24, (q.1 ≤ z0 ∧ z0 < q.1 + 32) ∧ (q.2 ≤ z1 ∧ z1 < q.2 + 128) := fun z0 z1 _ h0 h1 =>
    grid_cover 32 128 24 2 (by decide) (by decide) (by decide) z0 z1 (by omega) (by omega)
  have cov0 : ∀ z0 z1, 0 ≤ z0 → z0 < 0 + 384 → z1 < 256 → ∃ q ∈ QT.drop 48, (q.1 ≤ z0 ∧ z0 < q.1 + 32) ∧ (q.2 ≤ z1 ∧ z1 < q.2 + 128) := fun z0 z1 _ h0 h1 =>
    grid_cover 32 128 12 2 (by decide) (by decide) (by decide) z0 z1 (by omega) (by omega)
  revert hab
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  intro hab
  exact
    .cons (turn_piece arg16.view (tokT xs0 xs1 xs4 xs5 aV (i 1)) (List.forall₂_drop 0 hab) 768 (by decide) cov768 _ _ _ _) <|
    .cons (turn_piece arg16.view (tokT xs0 xs1 xs4 xs5 aV (i 1)) (List.forall₂_drop 24 hab) 384 (by decide) cov384 _ _ _ _) <|
    .cons (turn_piece arg16.view (tokT xs0 xs1 xs4 xs5 aV (i 1)) (List.forall₂_drop 48 hab) 0 (by decide) cov0 _ _ _ _) <|
    .nil

end Cert.FwdIdeal.Gen

end
-- ==== Proof.FwdIdeal.CaseC4.lean ====
/-
  What the points of odd rows leave, as lists of tiles of the tables.
-/
module

public import proofs.«01_k».proof.Proof.FwdIdeal.RunC
public import proofs.«01_k».proof.Proof.FwdIdeal.Orders

@[expose] public section

set_option maxRecDepth 16384

noncomputable section

namespace Cert.FwdIdeal.Gen

open Idealize.ShloMosaic hiding ix2
open Idealize.ShloMosaic.TcCoe Idealize.SL.Sem Cert.FwdIdeal Cert.FwdIdeal.Tile
open Idealize.ShloMosaic.ValueIdx

/-- The down weights stored. -/
theorem runC_wd (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : ¬cond0_2 i) (hc3 : cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) (hf : 0 < (i 0).val) :
    List.Forall₂ (Is (e := .bf16) (wdT x8 x9 x10 (2 * ((i 0).val - 1))) (0) 32 128) (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.2.1 QD := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  have hk : 2 * ((i 0).val - 1) + 1 < 34 := by have : (i 0).val < 18 := (i 0).isLt; omega
  exact
    .cons (wdB x8 x9 x10 _ _ (wK_1 (i 0) hf) hk 480 (by decide) _ _ _) <|
    .cons (wdA x8 x9 x10 _ _ (wK_0 (i 0) hf) hk 480 (by decide) _ _ _) <|
    .cons (wdB x8 x9 x10 _ _ (wK_1 (i 0) hf) hk 448 (by decide) _ _ _) <|
    .cons (wdA x8 x9 x10 _ _ (wK_0 (i 0) hf) hk 448 (by decide) _ _ _) <|
    .cons (wdB x8 x9 x10 _ _ (wK_1 (i 0) hf) hk 416 (by decide) _ _ _) <|
    .cons (wdA x8 x9 x10 _ _ (wK_0 (i 0) hf) hk 416 (by decide) _ _ _) <|
    .cons (wdB x8 x9 x10 _ _ (wK_1 (i 0) hf) hk 384 (by decide) _ _ _) <|
    .cons (wdA x8 x9 x10 _ _ (wK_0 (i 0) hf) hk 384 (by decide) _ _ _) <|
    .cons (wdB x8 x9 x10 _ _ (wK_1 (i 0) hf) hk 352 (by decide) _ _ _) <|
    .cons (wdA x8 x9 x10 _ _ (wK_0 (i 0) hf) hk 352 (by decide) _ _ _) <|
    .cons (wdB x8 x9 x10 _ _ (wK_1 (i 0) hf) hk 320 (by decide) _ _ _) <|
    .cons (wdA x8 x9 x10 _ _ (wK_0 (i 0) hf) hk 320 (by decide) _ _ _) <|
    .cons (wdB x8 x9 x10 _ _ (wK_1 (i 0) hf) hk 288 (by decide) _ _ _) <|
    .cons (wdA x8 x9 x10 _ _ (wK_0 (i 0) hf) hk 288 (by decide) _ _ _) <|
    .cons (wdB x8 x9 x10 _ _ (wK_1 (i 0) hf) hk 256 (by decide) _ _ _) <|
    .cons (wdA x8 x9 x10 _ _ (wK_0 (i 0) hf) hk 256 (by decide) _ _ _) <|
    .cons (wdB x8 x9 x10 _ _ (wK_1 (i 0) hf) hk 224 (by decide) _ _ _) <|
    .cons (wdA x8 x9 x10 _ _ (wK_0 (i 0) hf) hk 224 (by decide) _ _ _) <|
    .cons (wdB x8 x9 x10 _ _ (wK_1 (i 0) hf) hk 192 (by decide) _ _ _) <|
    .cons (wdA x8 x9 x10 _ _ (wK_0 (i 0) hf) hk 192 (by decide) _ _ _) <|
    .cons (wdB x8 x9 x10 _ _ (wK_1 (i 0) hf) hk 160 (by decide) _ _ _) <|
    .cons (wdA x8 x9 x10 _ _ (wK_0 (i 0) hf) hk 160 (by decide) _ _ _) <|
    .cons (wdB x8 x9 x10 _ _ (wK_1 (i 0) hf) hk 128 (by decide) _ _ _) <|
    .cons (wdA x8 x9 x10 _ _ (wK_0 (i 0) hf) hk 128 (by decide) _ _ _) <|
    .cons (wdB x8 x9 x10 _ _ (wK_1 (i 0) hf) hk 96 (by decide) _ _ _) <|
    .cons (wdA x8 x9 x10 _ _ (wK_0 (i 0) hf) hk 96 (by decide) _ _ _) <|
    .cons (wdB x8 x9 x10 _ _ (wK_1 (i 0) hf) hk 64 (by decide) _ _ _) <|
    .cons (wdA x8 x9 x10 _ _ (wK_0 (i 0) hf) hk 64 (by decide) _ _ _) <|
    .cons (wdB x8 x9 x10 _ _ (wK_1 (i 0) hf) hk 32 (by decide) _ _ _) <|
    .cons (wdA x8 x9 x10 _ _ (wK_0 (i 0) hf) hk 32 (by decide) _ _ _) <|
    .cons (wdB x8 x9 x10 _ _ (wK_1 (i 0) hf) hk 0 (by decide) _ _ _) <|
    .cons (wdA x8 x9 x10 _ _ (wK_0 (i 0) hf) hk 0 (by decide) _ _ _) <|
    .nil

/-- The gate regularisers stored. -/
theorem runC_rg (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : ¬cond0_2 i) (hc3 : cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (rT x4) (0) 32 16) (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.2.2.1 QR := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (rowR x4 32 32 rfl (by decide) _ _ _ _ _ _ _ _ _ _ _ _ _ _ _ _ _ _) <|
    .cons (rowR x4 0 0 rfl (by decide) _ _ _ _ _ _ _ _ _ _ _ _ _ _ _ _ _ _) <|
    .nil

/-- The up regularisers stored. -/
theorem runC_ru (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : ¬cond0_2 i) (hc3 : cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (rT x7) (0) 32 16) (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.2.2.2.1 QR := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (rowR x7 32 32 rfl (by decide) _ _ _ _ _ _ _ _ _ _ _ _ _ _ _ _ _ _) <|
    .cons (rowR x7 0 0 rfl (by decide) _ _ _ _ _ _ _ _ _ _ _ _ _ _ _ _ _ _) <|
    .nil

/-- The down regularisers stored. -/
theorem runC_rd (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : ¬cond0_2 i) (hc3 : cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) (hf : 0 < (i 0).val) :
    ∃ L, List.Forall₂ (Is (e := .f32) (rdT x10 (2 * ((i 0).val - 1)) x19 (i 1)) (512 * (i 1).val) 32 34) L QRD ∧ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.2.2.2.2.1 = arg21.view.writes (Elt Ideal) (harg21.unread x19) L := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  refine ⟨_, ?_, rfl⟩
  have hk : 2 * ((i 0).val - 1) + 1 < 34 := by have : (i 0).val < 18 := (i 0).isLt; omega
  exact
    .cons (rd_piece x10 _ x19 (i 1) _ _ (wK_0 (i 0) hf) (wK_1 (i 0) hf) hk _ 480 (r512_480 (i 1)) (by decide) _ _ _ _) <|
    .cons (rd_piece x10 _ x19 (i 1) _ _ (wK_0 (i 0) hf) (wK_1 (i 0) hf) hk _ 448 (r512_448 (i 1)) (by decide) _ _ _ _) <|
    .cons (rd_piece x10 _ x19 (i 1) _ _ (wK_0 (i 0) hf) (wK_1 (i 0) hf) hk _ 416 (r512_416 (i 1)) (by decide) _ _ _ _) <|
    .cons (rd_piece x10 _ x19 (i 1) _ _ (wK_0 (i 0) hf) (wK_1 (i 0) hf) hk _ 384 (r512_384 (i 1)) (by decide) _ _ _ _) <|
    .cons (rd_piece x10 _ x19 (i 1) _ _ (wK_0 (i 0) hf) (wK_1 (i 0) hf) hk _ 352 (r512_352 (i 1)) (by decide) _ _ _ _) <|
    .cons (rd_piece x10 _ x19 (i 1) _ _ (wK_0 (i 0) hf) (wK_1 (i 0) hf) hk _ 320 (r512_320 (i 1)) (by decide) _ _ _ _) <|
    .cons (rd_piece x10 _ x19 (i 1) _ _ (wK_0 (i 0) hf) (wK_1 (i 0) hf) hk _ 288 (r512_288 (i 1)) (by decide) _ _ _ _) <|
    .cons (rd_piece x10 _ x19 (i 1) _ _ (wK_0 (i 0) hf) (wK_1 (i 0) hf) hk _ 256 (r512_256 (i 1)) (by decide) _ _ _ _) <|
    .cons (rd_piece x10 _ x19 (i 1) _ _ (wK_0 (i 0) hf) (wK_1 (i 0) hf) hk _ 224 (r512_224 (i 1)) (by decide) _ _ _ _) <|
    .cons (rd_piece x10 _ x19 (i 1) _ _ (wK_0 (i 0) hf) (wK_1 (i 0) hf) hk _ 192 (r512_192 (i 1)) (by decide) _ _ _ _) <|
    .cons (rd_piece x10 _ x19 (i 1) _ _ (wK_0 (i 0) hf) (wK_1 (i 0) hf) hk _ 160 (r512_160 (i 1)) (by decide) _ _ _ _) <|
    .cons (rd_piece x10 _ x19 (i 1) _ _ (wK_0 (i 0) hf) (wK_1 (i 0) hf) hk _ 128 (r512_128 (i 1)) (by decide) _ _ _ _) <|
    .cons (rd_piece x10 _ x19 (i 1) _ _ (wK_0 (i 0) hf) (wK_1 (i 0) hf) hk _ 96 (r512_96 (i 1)) (by decide) _ _ _ _) <|
    .cons (rd_piece x10 _ x19 (i 1) _ _ (wK_0 (i 0) hf) (wK_1 (i 0) hf) hk _ 64 (r512_64 (i 1)) (by decide) _ _ _ _) <|
    .cons (rd_piece x10 _ x19 (i 1) _ _ (wK_0 (i 0) hf) (wK_1 (i 0) hf) hk _ 32 (r512_32 (i 1)) (by decide) _ _ _ _) <|
    .cons (rd_piece x10 _ x19 (i 1) _ _ (wK_0 (i 0) hf) (wK_1 (i 0) hf) hk _ 0 (r512_0 (i 1)) (by decide) _ _ _ _) <|
    .nil

end Cert.FwdIdeal.Gen

end
-- ==== Proof.FwdIdeal.CaseC5.lean ====
/-
  What the points of odd rows leave, as lists of tiles of the tables.
-/
module

public import proofs.«01_k».proof.Proof.FwdIdeal.RunC
public import proofs.«01_k».proof.Proof.FwdIdeal.Orders

@[expose] public section

set_option maxRecDepth 16384

noncomputable section

namespace Cert.FwdIdeal.Gen

open Idealize.ShloMosaic hiding ix2
open Idealize.ShloMosaic.TcCoe Idealize.SL.Sem Cert.FwdIdeal Cert.FwdIdeal.Tile
open Idealize.ShloMosaic.ValueIdx

/-- The gate weights stored. -/
theorem runC_wg (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : ¬cond0_2 i) (hc3 : cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    ∃ L, List.Forall₂ (Is (wT x2 x3 x4) (64 * (i 1).val) 32 128) L QW ∧ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.2.2.2.2.2.1 = arg24.view.writes (Elt Ideal) (harg24.unread xs2) L := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  refine ⟨_, ?_, rfl⟩
  exact
    .cons (wB (g := 7) x2 x3 x4 896 15 1920 (r64_32 (i 1)) (by decide) rfl rfl rfl (by decide) _ _ _ _ (by decide) _) <|
    .cons (wA (g := 7) x2 x3 x4 896 14 1792 (r64_32 (i 1)) (by decide) rfl rfl rfl (by decide) _ _ _ _ (by decide) _) <|
    .cons (wB (g := 6) x2 x3 x4 768 13 1664 (r64_32 (i 1)) (by decide) rfl rfl rfl (by decide) _ _ _ _ (by decide) _) <|
    .cons (wA (g := 6) x2 x3 x4 768 12 1536 (r64_32 (i 1)) (by decide) rfl rfl rfl (by decide) _ _ _ _ (by decide) _) <|
    .cons (wB (g := 5) x2 x3 x4 640 11 1408 (r64_32 (i 1)) (by decide) rfl rfl rfl (by decide) _ _ _ _ (by decide) _) <|
    .cons (wA (g := 5) x2 x3 x4 640 10 1280 (r64_32 (i 1)) (by decide) rfl rfl rfl (by decide) _ _ _ _ (by decide) _) <|
    .cons (wB (g := 4) x2 x3 x4 512 9 1152 (r64_32 (i 1)) (by decide) rfl rfl rfl (by decide) _ _ _ _ (by decide) _) <|
    .cons (wA (g := 4) x2 x3 x4 512 8 1024 (r64_32 (i 1)) (by decide) rfl rfl rfl (by decide) _ _ _ _ (by decide) _) <|
    .cons (wB (g := 3) x2 x3 x4 384 7 896 (r64_32 (i 1)) (by decide) rfl rfl rfl (by decide) _ _ _ _ (by decide) _) <|
    .cons (wA (g := 3) x2 x3 x4 384 6 768 (r64_32 (i 1)) (by decide) rfl rfl rfl (by decide) _ _ _ _ (by decide) _) <|
    .cons (wB (g := 2) x2 x3 x4 256 5 640 (r64_32 (i 1)) (by decide) rfl rfl rfl (by decide) _ _ _ _ (by decide) _) <|
    .cons (wA (g := 2) x2 x3 x4 256 4 512 (r64_32 (i 1)) (by decide) rfl rfl rfl (by decide) _ _ _ _ (by decide) _) <|
    .cons (wB (g := 1) x2 x3 x4 128 3 384 (r64_32 (i 1)) (by decide) rfl rfl rfl (by decide) _ _ _ _ (by decide) _) <|
    .cons (wA (g := 1) x2 x3 x4 128 2 256 (r64_32 (i 1)) (by decide) rfl rfl rfl (by decide) _ _ _ _ (by decide) _) <|
    .cons (wB (g := 0) x2 x3 x4 0 1 128 (r64_32 (i 1)) (by decide) rfl rfl rfl (by decide) _ _ _ _ (by decide) _) <|
    .cons (wA (g := 0) x2 x3 x4 0 0 0 (r64_32 (i 1)) (by decide) rfl rfl rfl (by decide) _ _ _ _ (by decide) _) <|
    .cons (wB (g := 7) x2 x3 x4 896 15 1920 (r64_0 (i 1)) (by decide) rfl rfl rfl (by decide) _ _ _ _ (by decide) _) <|
    .cons (wA (g := 7) x2 x3 x4 896 14 1792 (r64_0 (i 1)) (by decide) rfl rfl rfl (by decide) _ _ _ _ (by decide) _) <|
    .cons (wB (g := 6) x2 x3 x4 768 13 1664 (r64_0 (i 1)) (by decide) rfl rfl rfl (by decide) _ _ _ _ (by decide) _) <|
    .cons (wA (g := 6) x2 x3 x4 768 12 1536 (r64_0 (i 1)) (by decide) rfl rfl rfl (by decide) _ _ _ _ (by decide) _) <|
    .cons (wB (g := 5) x2 x3 x4 640 11 1408 (r64_0 (i 1)) (by decide) rfl rfl rfl (by decide) _ _ _ _ (by decide) _) <|
    .cons (wA (g := 5) x2 x3 x4 640 10 1280 (r64_0 (i 1)) (by decide) rfl rfl rfl (by decide) _ _ _ _ (by decide) _) <|
    .cons (wB (g := 4) x2 x3 x4 512 9 1152 (r64_0 (i 1)) (by decide) rfl rfl rfl (by decide) _ _ _ _ (by decide) _) <|
    .cons (wA (g := 4) x2 x3 x4 512 8 1024 (r64_0 (i 1)) (by decide) rfl rfl rfl (by decide) _ _ _ _ (by decide) _) <|
    .cons (wB (g := 3) x2 x3 x4 384 7 896 (r64_0 (i 1)) (by decide) rfl rfl rfl (by decide) _ _ _ _ (by decide) _) <|
    .cons (wA (g := 3) x2 x3 x4 384 6 768 (r64_0 (i 1)) (by decide) rfl rfl rfl (by decide) _ _ _ _ (by decide) _) <|
    .cons (wB (g := 2) x2 x3 x4 256 5 640 (r64_0 (i 1)) (by decide) rfl rfl rfl (by decide) _ _ _ _ (by decide) _) <|
    .cons (wA (g := 2) x2 x3 x4 256 4 512 (r64_0 (i 1)) (by decide) rfl rfl rfl (by decide) _ _ _ _ (by decide) _) <|
    .cons (wB (g := 1) x2 x3 x4 128 3 384 (r64_0 (i 1)) (by decide) rfl rfl rfl (by decide) _ _ _ _ (by decide) _) <|
    .cons (wA (g := 1) x2 x3 x4 128 2 256 (r64_0 (i 1)) (by decide) rfl rfl rfl (by decide) _ _ _ _ (by decide) _) <|
    .cons (wB (g := 0) x2 x3 x4 0 1 128 (r64_0 (i 1)) (by decide) rfl rfl rfl (by decide) _ _ _ _ (by decide) _) <|
    .cons (wA (g := 0) x2 x3 x4 0 0 0 (r64_0 (i 1)) (by decide) rfl rfl rfl (by decide) _ _ _ _ (by decide) _) <|
    .nil

/-- The up weights stored. -/
theorem runC_wu (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : ¬cond0_2 i) (hc3 : cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    ∃ L, List.Forall₂ (Is (wT x5 x6 x7) (64 * (i 1).val) 32 128) L QW ∧ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.2.2.2.2.2.2.1 = arg25.view.writes (Elt Ideal) (harg25.unread xs3) L := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  refine ⟨_, ?_, rfl⟩
  exact
    .cons (wB (g := 7) x5 x6 x7 896 15 1920 (r64_32 (i 1)) (by decide) rfl rfl rfl (by decide) _ _ _ _ (by decide) _) <|
    .cons (wA (g := 7) x5 x6 x7 896 14 1792 (r64_32 (i 1)) (by decide) rfl rfl rfl (by decide) _ _ _ _ (by decide) _) <|
    .cons (wB (g := 6) x5 x6 x7 768 13 1664 (r64_32 (i 1)) (by decide) rfl rfl rfl (by decide) _ _ _ _ (by decide) _) <|
    .cons (wA (g := 6) x5 x6 x7 768 12 1536 (r64_32 (i 1)) (by decide) rfl rfl rfl (by decide) _ _ _ _ (by decide) _) <|
    .cons (wB (g := 5) x5 x6 x7 640 11 1408 (r64_32 (i 1)) (by decide) rfl rfl rfl (by decide) _ _ _ _ (by decide) _) <|
    .cons (wA (g := 5) x5 x6 x7 640 10 1280 (r64_32 (i 1)) (by decide) rfl rfl rfl (by decide) _ _ _ _ (by decide) _) <|
    .cons (wB (g := 4) x5 x6 x7 512 9 1152 (r64_32 (i 1)) (by decide) rfl rfl rfl (by decide) _ _ _ _ (by decide) _) <|
    .cons (wA (g := 4) x5 x6 x7 512 8 1024 (r64_32 (i 1)) (by decide) rfl rfl rfl (by decide) _ _ _ _ (by decide) _) <|
    .cons (wB (g := 3) x5 x6 x7 384 7 896 (r64_32 (i 1)) (by decide) rfl rfl rfl (by decide) _ _ _ _ (by decide) _) <|
    .cons (wA (g := 3) x5 x6 x7 384 6 768 (r64_32 (i 1)) (by decide) rfl rfl rfl (by decide) _ _ _ _ (by decide) _) <|
    .cons (wB (g := 2) x5 x6 x7 256 5 640 (r64_32 (i 1)) (by decide) rfl rfl rfl (by decide) _ _ _ _ (by decide) _) <|
    .cons (wA (g := 2) x5 x6 x7 256 4 512 (r64_32 (i 1)) (by decide) rfl rfl rfl (by decide) _ _ _ _ (by decide) _) <|
    .cons (wB (g := 1) x5 x6 x7 128 3 384 (r64_32 (i 1)) (by decide) rfl rfl rfl (by decide) _ _ _ _ (by decide) _) <|
    .cons (wA (g := 1) x5 x6 x7 128 2 256 (r64_32 (i 1)) (by decide) rfl rfl rfl (by decide) _ _ _ _ (by decide) _) <|
    .cons (wB (g := 0) x5 x6 x7 0 1 128 (r64_32 (i 1)) (by decide) rfl rfl rfl (by decide) _ _ _ _ (by decide) _) <|
    .cons (wA (g := 0) x5 x6 x7 0 0 0 (r64_32 (i 1)) (by decide) rfl rfl rfl (by decide) _ _ _ _ (by decide) _) <|
    .cons (wB (g := 7) x5 x6 x7 896 15 1920 (r64_0 (i 1)) (by decide) rfl rfl rfl (by decide) _ _ _ _ (by decide) _) <|
    .cons (wA (g := 7) x5 x6 x7 896 14 1792 (r64_0 (i 1)) (by decide) rfl rfl rfl (by decide) _ _ _ _ (by decide) _) <|
    .cons (wB (g := 6) x5 x6 x7 768 13 1664 (r64_0 (i 1)) (by decide) rfl rfl rfl (by decide) _ _ _ _ (by decide) _) <|
    .cons (wA (g := 6) x5 x6 x7 768 12 1536 (r64_0 (i 1)) (by decide) rfl rfl rfl (by decide) _ _ _ _ (by decide) _) <|
    .cons (wB (g := 5) x5 x6 x7 640 11 1408 (r64_0 (i 1)) (by decide) rfl rfl rfl (by decide) _ _ _ _ (by decide) _) <|
    .cons (wA (g := 5) x5 x6 x7 640 10 1280 (r64_0 (i 1)) (by decide) rfl rfl rfl (by decide) _ _ _ _ (by decide) _) <|
    .cons (wB (g := 4) x5 x6 x7 512 9 1152 (r64_0 (i 1)) (by decide) rfl rfl rfl (by decide) _ _ _ _ (by decide) _) <|
    .cons (wA (g := 4) x5 x6 x7 512 8 1024 (r64_0 (i 1)) (by decide) rfl rfl rfl (by decide) _ _ _ _ (by decide) _) <|
    .cons (wB (g := 3) x5 x6 x7 384 7 896 (r64_0 (i 1)) (by decide) rfl rfl rfl (by decide) _ _ _ _ (by decide) _) <|
    .cons (wA (g := 3) x5 x6 x7 384 6 768 (r64_0 (i 1)) (by decide) rfl rfl rfl (by decide) _ _ _ _ (by decide) _) <|
    .cons (wB (g := 2) x5 x6 x7 256 5 640 (r64_0 (i 1)) (by decide) rfl rfl rfl (by decide) _ _ _ _ (by decide) _) <|
    .cons (wA (g := 2) x5 x6 x7 256 4 512 (r64_0 (i 1)) (by decide) rfl rfl rfl (by decide) _ _ _ _ (by decide) _) <|
    .cons (wB (g := 1) x5 x6 x7 128 3 384 (r64_0 (i 1)) (by decide) rfl rfl rfl (by decide) _ _ _ _ (by decide) _) <|
    .cons (wA (g := 1) x5 x6 x7 128 2 256 (r64_0 (i 1)) (by decide) rfl rfl rfl (by decide) _ _ _ _ (by decide) _) <|
    .cons (wB (g := 0) x5 x6 x7 0 1 128 (r64_0 (i 1)) (by decide) rfl rfl rfl (by decide) _ _ _ _ (by decide) _) <|
    .cons (wA (g := 0) x5 x6 x7 0 0 0 (r64_0 (i 1)) (by decide) rfl rfl rfl (by decide) _ _ _ _ (by decide) _) <|
    .nil

end Cert.FwdIdeal.Gen

end
-- ==== Proof.FwdIdeal.BodyC.lean ====
/-
  The forward kernel's body over the extended reals at the points of an odd row: what it stores is what the buffers are held to.
-/
module

public import proofs.«01_k».proof.Proof.FwdIdeal.Data
public import proofs.«01_k».proof.Proof.FwdIdeal.CaseC1
public import proofs.«01_k».proof.Proof.FwdIdeal.CaseC2
public import proofs.«01_k».proof.Proof.FwdIdeal.CaseC3
public import proofs.«01_k».proof.Proof.FwdIdeal.CaseC4
public import proofs.«01_k».proof.Proof.FwdIdeal.CaseC5

@[expose] public section

set_option maxRecDepth 16384

noncomputable section

namespace Cert.FwdIdeal.Gen

open Idealize.ShloMosaic hiding ix2
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal.Tile

local notation "𝕄" => MT nD τ sig Unit (Elt Ideal) ℕ (UR sig nD τ) ℕ

variable (m : (ℓ : Loc nD τ sig) → Buf (Elt Ideal) ℓ)

attribute [local irreducible] kernelRun0_C

/-- The run of the body at a point of this kind. -/
def RC (c : Dev nD) (t : Fin cfg0.N) (hc0 : ¬cond0_0 (grid0.coords t)) (hc1 : ¬cond0_1 (grid0.coords t)) (hc2 : ¬cond0_2 (grid0.coords t)) (hc3 : cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) := kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5

/-- Where these points lie. -/
theorem whereC (t : Fin cfg0.N) (hc3 : cond0_3 (grid0.coords t)) : 4 ≤ t.val ∧ t.val / 4 % 2 = 1 := by
  have ht : 4 ≤ t.val ∧ t.val / 4 % 2 = 1 := by have := (hcond0_3 t).mp hc3; omega
  exact ht

/-- A point of kind C leaves the derivative by the gate's product as it must. -/
theorem C_p (c : Dev nD) (t : Fin cfg0.N) (hc0 : ¬cond0_0 (grid0.coords t)) (hc1 : ¬cond0_1 (grid0.coords t)) (hc2 : ¬cond0_2 (grid0.coords t)) (hc3 : cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h0 : Toks m c t.val B0) (h1 : Scl m c t.val B1) (hG : Slot 0 t.val B4 (WG m c)) (hU : Slot 0 t.val B5 (WU m c)) (f) :
    Strip t.val (TokS m c pV) ((ms0_11 t).view.read (Elt Ideal) ((ms0_11 t).view.writes (Elt Ideal) f (RC m c t hc0 hc1 hc2 hc3 x19 B0 B1 B2 B3 B4 B5).1)) := by
  have ht := whereC t hc3
  have hN := lt_N t
  have c1 := co1 t
  have c0 := co0 t
  exact strip_out m c pV hN c1 (by omega) (by omega) h0 h1 hG hU (runC_p c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind C leaves the derivative by the up projection's product as it must. -/
theorem C_q (c : Dev nD) (t : Fin cfg0.N) (hc0 : ¬cond0_0 (grid0.coords t)) (hc1 : ¬cond0_1 (grid0.coords t)) (hc2 : ¬cond0_2 (grid0.coords t)) (hc3 : cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h0 : Toks m c t.val B0) (h1 : Scl m c t.val B1) (hG : Slot 0 t.val B4 (WG m c)) (hU : Slot 0 t.val B5 (WU m c)) (f) :
    Strip t.val (TokS m c (fun s g _ => qV s g)) ((ms0_12 t).view.read (Elt Ideal) ((ms0_12 t).view.writes (Elt Ideal) f (RC m c t hc0 hc1 hc2 hc3 x19 B0 B1 B2 B3 B4 B5).2.1)) := by
  have ht := whereC t hc3
  have hN := lt_N t
  have c1 := co1 t
  have c0 := co0 t
  exact strip_out m c (fun s g _ => qV s g) hN c1 (by omega) (by omega) h0 h1 hG hU (runC_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind C leaves the activation as it must. -/
theorem C_a (c : Dev nD) (t : Fin cfg0.N) (hc0 : ¬cond0_0 (grid0.coords t)) (hc1 : ¬cond0_1 (grid0.coords t)) (hc2 : ¬cond0_2 (grid0.coords t)) (hc3 : cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h0 : Toks m c t.val B0) (h1 : Scl m c t.val B1) (hG : Slot 0 t.val B4 (WG m c)) (hU : Slot 0 t.val B5 (WU m c)) (f) :
    Strip t.val (TokS m c aV) ((ms0_13 t).view.read (Elt Ideal) ((ms0_13 t).view.writes (Elt Ideal) f (RC m c t hc0 hc1 hc2 hc3 x19 B0 B1 B2 B3 B4 B5).2.2.1)) := by
  have ht := whereC t hc3
  have hN := lt_N t
  have c1 := co1 t
  have c0 := co0 t
  exact strip_out m c aV hN c1 (by omega) (by omega) h0 h1 hG hU (runC_a c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind C leaves the narrowed activation as it must. -/
theorem C_ab (c : Dev nD) (t : Fin cfg0.N) (hc0 : ¬cond0_0 (grid0.coords t)) (hc1 : ¬cond0_1 (grid0.coords t)) (hc2 : ¬cond0_2 (grid0.coords t)) (hc3 : cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h0 : Toks m c t.val B0) (h1 : Scl m c t.val B1) (hG : Slot 0 t.val B4 (WG m c)) (hU : Slot 0 t.val B5 (WU m c)) (f) :
    Strip t.val (TokS m c aV) ((ms0_14 t).view.read (Elt Ideal) ((ms0_14 t).view.writes (Elt Ideal) f (RC m c t hc0 hc1 hc2 hc3 x19 B0 B1 B2 B3 B4 B5).2.2.2.1)) := by
  have ht := whereC t hc3
  have hN := lt_N t
  have c1 := co1 t
  have c0 := co0 t
  exact strip_out16 m c aV hN c1 (by omega) (by omega) h0 h1 hG hU (runC_ab c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind C leaves the turned activation as it must. -/
theorem C_at (c : Dev nD) (t : Fin cfg0.N) (hc0 : ¬cond0_0 (grid0.coords t)) (hc1 : ¬cond0_1 (grid0.coords t)) (hc2 : ¬cond0_2 (grid0.coords t)) (hc3 : cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h0 : Toks m c t.val B0) (h1 : Scl m c t.val B1) (hG : Slot 0 t.val B4 (WG m c)) (hU : Slot 0 t.val B5 (WU m c)) (f) :
    StripT t.val (TokTS m c aV) ((ms0_15 t).view.read (Elt Ideal) ((ms0_15 t).view.writes (Elt Ideal) f (RC m c t hc0 hc1 hc2 hc3 x19 B0 B1 B2 B3 B4 B5).2.2.2.2.1)) := by
  have ht := whereC t hc3
  have hN := lt_N t
  have c1 := co1 t
  have c0 := co0 t
  exact stripT_out m c aV hN c1 (by omega) (by omega) h0 h1 hG hU (runC_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind C leaves the down weights as it must. -/
theorem C_wd (c : Dev nD) (t : Fin cfg0.N) (hc0 : ¬cond0_0 (grid0.coords t)) (hc1 : ¬cond0_1 (grid0.coords t)) (hc2 : ¬cond0_2 (grid0.coords t)) (hc3 : cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (f) :
    Down t.val (WDS m c) ((ms0_16 t).view.read (Elt Ideal) ((ms0_16 t).view.writes (Elt Ideal) f (RC m c t hc0 hc1 hc2 hc3 x19 B0 B1 B2 B3 B4 B5).2.2.2.2.2.1)) := by
  have ht := whereC t hc3
  have hN := lt_N t
  have c1 := co1 t
  have c0 := co0 t
  exact down_out m c t (by rw [c0]) (runC_wd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5 (by omega)) _ f

/-- A point of kind C leaves the gate's regularisers as it must. -/
theorem C_rg (c : Dev nD) (t : Fin cfg0.N) (hc0 : ¬cond0_0 (grid0.coords t)) (hc1 : ¬cond0_1 (grid0.coords t)) (hc2 : ¬cond0_2 (grid0.coords t)) (hc3 : cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (f) :
    Grp t.val (Spec.R (g4 m c)) ((ms0_17 t).view.read (Elt Ideal) ((ms0_17 t).view.writes (Elt Ideal) f (RC m c t hc0 hc1 hc2 hc3 x19 B0 B1 B2 B3 B4 B5).2.2.2.2.2.2.1)) := by
  have ht := whereC t hc3
  have hN := lt_N t
  have c1 := co1 t
  have c0 := co0 t
  exact grp_gate m c t (runC_rg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind C leaves the up projection's regularisers as it must. -/
theorem C_ru (c : Dev nD) (t : Fin cfg0.N) (hc0 : ¬cond0_0 (grid0.coords t)) (hc1 : ¬cond0_1 (grid0.coords t)) (hc2 : ¬cond0_2 (grid0.coords t)) (hc3 : cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (f) :
    Grp t.val (Spec.R (g7 m c)) ((ms0_18 t).view.read (Elt Ideal) ((ms0_18 t).view.writes (Elt Ideal) f (RC m c t hc0 hc1 hc2 hc3 x19 B0 B1 B2 B3 B4 B5).2.2.2.2.2.2.2.1)) := by
  have ht := whereC t hc3
  have hN := lt_N t
  have c1 := co1 t
  have c0 := co0 t
  exact grp_up m c t (runC_ru c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind C leaves the down regularisers as it must. -/
theorem C_rd (c : Dev nD) (t : Fin cfg0.N) (hc0 : ¬cond0_0 (grid0.coords t)) (hc1 : ¬cond0_1 (grid0.coords t)) (hc2 : ¬cond0_2 (grid0.coords t)) (hc3 : cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h19 : Regs m c t.val x19) :
    Regs m c (t.val + 1) ((ms0_19 t).view.read (Elt Ideal) (RC m c t hc0 hc1 hc2 hc3 x19 B0 B1 B2 B3 B4 B5).2.2.2.2.2.2.2.2.1) := by
  have ht := whereC t hc3
  have hN := lt_N t
  have c1 := co1 t
  have c0 := co0 t
  exact Regs.stored m c h19 _ _ (Memref.IsWhole.read_unread (hs0_19 t) _) t rfl ht.1 c1 (by rw [c0]) (runC_rd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5 (by omega))

/-- A point of kind C leaves the gate's weights as it must. -/
theorem C_wg (c : Dev nD) (t : Fin cfg0.N) (hc0 : ¬cond0_0 (grid0.coords t)) (hc1 : ¬cond0_1 (grid0.coords t)) (hc2 : ¬cond0_2 (grid0.coords t)) (hc3 : cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h : Slot 1 t.val B2 (WG m c)) :
    Slot 1 (t.val + 1) (scM0_2.view.read (Elt Ideal) (RC m c t hc0 hc1 hc2 hc3 x19 B0 B1 B2 B3 B4 B5).2.2.2.2.2.2.2.2.2.1) (WG m c) := by
  have ht := whereC t hc3
  have hN := lt_N t
  have c1 := co1 t
  have c0 := co0 t
  exact Slot.stored h (by omega) _ _ (Memref.IsWhole.read_unread (Memref.isWhole_whole _) _) c1 (runC_wg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) fun hl y z e0 e1 => wT_gate m c t hl y z e0 e1

/-- A point of kind C leaves the up projection's weights as it must. -/
theorem C_wu (c : Dev nD) (t : Fin cfg0.N) (hc0 : ¬cond0_0 (grid0.coords t)) (hc1 : ¬cond0_1 (grid0.coords t)) (hc2 : ¬cond0_2 (grid0.coords t)) (hc3 : cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h : Slot 1 t.val B3 (WU m c)) :
    Slot 1 (t.val + 1) (scM0_3.view.read (Elt Ideal) (RC m c t hc0 hc1 hc2 hc3 x19 B0 B1 B2 B3 B4 B5).2.2.2.2.2.2.2.2.2.2.1) (WU m c) := by
  have ht := whereC t hc3
  have hN := lt_N t
  have c1 := co1 t
  have c0 := co0 t
  exact Slot.stored h (by omega) _ _ (Memref.IsWhole.read_unread (Memref.isWhole_whole _) _) c1 (runC_wu c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) fun hl y z e0 e1 => wT_up m c t hl y z e0 e1

set_option maxHeartbeats 3200000 in
/-- The body at such a point. -/
theorem bodyC (c : Dev nD) (t : Fin cfg0.N) (hc0 : ¬cond0_0 (grid0.coords t)) (hc1 : ¬cond0_1 (grid0.coords t)) (hc2 : ¬cond0_2 (grid0.coords t)) (hc3 : cond0_3 (grid0.coords t)) :
    bodyPre m c t ⊢ wp frame (wpE (defs₀ (F := Ideal)) Variants.none c none) Set.univ (bodyAt0 (F := Ideal) t) (fun _ => bodyPost m c t) := by
  have ht := whereC t hc3
  unfold bodyPre bodyPost
  simp only [before0_0, before0_1, before0_2, before0_3, before0_4, before0_5, before0_6, before0_7, before0_8, before0_9, before0_10, leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl,
    show (dats m 0 c).Φ t.castSucc = Phi m c t.val from rfl, show (dats m 0 c).Φ t.succ = Phi m c (t.val + 1) from rfl]
  unfold Phi
  iintro ⟨⟨⟨%B0, %k0, HS0⟩, ⟨%B1, %k1, HS1⟩, ⟨%B2, %k2, HS2⟩, ⟨%B3, %k3, HS3⟩, ⟨%B4, %k4, HS4⟩, ⟨%B5, %k5, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, -, H12⟩, ⟨%d13, -, H13⟩, ⟨%d14, -, H14⟩, ⟨%d15, -, H15⟩, ⟨%d16, -, H16⟩, ⟨%d17, -, H17⟩, ⟨%d18, -, H18⟩, ⟨%x19, %k19, H19⟩⟩
  have h19 := finds19 m c t x19 k19
  iapply ((RC m c t hc0 hc1 hc2 hc3 x19 B0 B1 B2 B3 B4 B5).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexact H19
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, HS0, HS1, HS2, HS3, HS4, HS5⟩
  isplitl [HS0 HS1 HS2 HS3 HS4 HS5 Hg]
  · isplitl [HS0]
    · iapply (give2 c scM0_0 (P := Toks m c (t.val + 1)) (Toks.keep m c k0 (by omega))); iexact HS0
    isplitl [HS1]
    · iapply (give2 c scM0_1 (P := Scl m c (t.val + 1)) (Scl.keep m c k1 (by omega))); iexact HS1
    isplitl [HS2]
    · iapply (give1 c scM0_2 (P := fun B => Slot 1 (t.val + 1) B (WG m c)) (C_wg m c t hc0 hc1 hc2 hc3 x19 B0 B1 B2 B3 B4 B5 k2)); iexact HS2
    isplitl [HS3]
    · iapply (give1 c scM0_3 (P := fun B => Slot 1 (t.val + 1) B (WU m c)) (C_wu m c t hc0 hc1 hc2 hc3 x19 B0 B1 B2 B3 B4 B5 k3)); iexact HS3
    isplitl [HS4]
    · iapply (give2 c scM0_4 (P := fun B => Slot 0 (t.val + 1) B (WG m c)) (Slot.keep k4 (by omega))); iexact HS4
    isplitl [HS5]
    · iapply (give2 c scM0_5 (P := fun B => Slot 0 (t.val + 1) B (WU m c)) (Slot.keep k5 (by omega))); iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply (give c (ms0_11 t) (P := Strip t.val (TokS m c pV)) (C_p m c t hc0 hc1 hc2 hc3 x19 B0 B1 B2 B3 B4 B5 k0 k1 k4 k5)); iexact H11
  isplitl [H12]
  · iapply (give c (ms0_12 t) (P := Strip t.val (TokS m c (fun s g _ => qV s g))) (C_q m c t hc0 hc1 hc2 hc3 x19 B0 B1 B2 B3 B4 B5 k0 k1 k4 k5)); iexact H12
  isplitl [H13]
  · iapply (give c (ms0_13 t) (P := Strip t.val (TokS m c aV)) (C_a m c t hc0 hc1 hc2 hc3 x19 B0 B1 B2 B3 B4 B5 k0 k1 k4 k5)); iexact H13
  isplitl [H14]
  · iapply (give c (ms0_14 t) (P := Strip t.val (TokS m c aV)) (C_ab m c t hc0 hc1 hc2 hc3 x19 B0 B1 B2 B3 B4 B5 k0 k1 k4 k5)); iexact H14
  isplitl [H15]
  · iapply (give c (ms0_15 t) (P := StripT t.val (TokTS m c aV)) (C_at m c t hc0 hc1 hc2 hc3 x19 B0 B1 B2 B3 B4 B5 k0 k1 k4 k5)); iexact H15
  isplitl [H16]
  · iapply (give c (ms0_16 t) (P := Down t.val (WDS m c)) (C_wd m c t hc0 hc1 hc2 hc3 x19 B0 B1 B2 B3 B4 B5)); iexact H16
  isplitl [H17]
  · iapply (give c (ms0_17 t) (P := Grp t.val (Spec.R (g4 m c))) (C_rg m c t hc0 hc1 hc2 hc3 x19 B0 B1 B2 B3 B4 B5)); iexact H17
  isplitl [H18]
  · iapply (give c (ms0_18 t) (P := Grp t.val (Spec.R (g7 m c))) (C_ru m c t hc0 hc1 hc2 hc3 x19 B0 B1 B2 B3 B4 B5)); iexact H18
  iapply (give1 c (ms0_19 t) (P := Regs m c (t.val + 1)) (C_rd m c t hc0 hc1 hc2 hc3 x19 B0 B1 B2 B3 B4 B5 h19)); iexact H19

end Cert.FwdIdeal.Gen

end
-- ==== Proof.FwdIdeal.RunD.lean ====
/- The run of the forward kernel's body at the points of a later even row, with what it leaves in every buffer it stores into: the pieces
   written over a buffer it fills, the contents of a buffer it changes at offsets that depend on the point. -/
module

public import proofs.«01_k».proof.Proof.FwdIdeal.RunC

@[expose] public section

set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's run at the points of a later even row, and the contents it leaves. -/
noncomputable def kernelRun0_D (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : cond0_2 i) (hc3 : ¬cond0_3 i)
    (x0 : Vec F S1152x2048 .fp8e4m3) (x1 : Vec F S6x768 .f32) (x2 : Vec F S64x1024 .i8) (x3 : Vec F S64x16 .f32) (x4 : Vec F S64x2048 .bf16) (x5 : Vec F S64x1024 .i8) (x6 : Vec F S64x16 .f32) (x7 : Vec F S64x2048 .bf16) (x8 : Vec F S512x128 .i8) (x9 : Vec F S512x34 .f32) (x10 : Vec F S512x256 .bf16) (x19 : Vec F S2048x34 .f32) (xs0 : Vec F S4608x2048 .bf16) (xs1 : Vec F S4608x128 .f32) (xs2 : Vec F S256x2048 .bf16) (xs3 : Vec F S256x2048 .bf16) (xs4 : Vec F S256x2048 .bf16) (xs5 : Vec F S256x2048 .bf16) :
    Σ' (L11 : List (View.Piece (Elt F) S1152x256 .f32)), Σ' (L12 : List (View.Piece (Elt F) S1152x256 .f32)), Σ' (L13 : List (View.Piece (Elt F) S1152x256 .f32)), Σ' (L14 : List (View.Piece (Elt F) S1152x256 .bf16)), Σ' (L15 : List (View.Piece (Elt F) S256x1152 .bf16)), Σ' (L16 : List (View.Piece (Elt F) S512x256 .bf16)), Σ' (L17 : List (View.Piece (Elt F) S64x16 .f32)), Σ' (L18 : List (View.Piece (Elt F) S64x16 .f32)), Σ' (G19 : Buf (Elt F) (arg21.view.loc (c : Thread nD τ))), Σ' (GS4 : Buf (Elt F) (arg26.view.loc (c : Thread nD τ))), { GS5 : Buf (Elt F) (arg27.view.loc (c : Thread nD τ)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x19 ∗ owns (c : Thread nD τ) arg22 fullShare xs0 ∗ owns (c : Thread nD τ) arg23 fullShare xs1 ∗ owns (c : Thread nD τ) arg24 fullShare xs2 ∗ owns (c : Thread nD τ) arg25 fullShare xs3 ∗ owns (c : Thread nD τ) arg26 fullShare xs4 ∗ owns (c : Thread nD τ) arg27 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (arg21.view.loc (c : Thread nD τ) ↦[arg21.view.set]{fullShare} G19) ∗ owns (c : Thread nD τ) arg22 fullShare xs0 ∗ owns (c : Thread nD τ) arg23 fullShare xs1 ∗ owns (c : Thread nD τ) arg24 fullShare xs2 ∗ owns (c : Thread nD τ) arg25 fullShare xs3 ∗ (arg26.view.loc (c : Thread nD τ) ↦[arg26.view.set]{fullShare} GS4) ∗ (arg27.view.loc (c : Thread nD τ) ↦[arg27.view.set]{fullShare} GS5)) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, fun E K => ?run⟩
  case run =>
    simp only [cc0_fwd_eq_skeleton]; unfold cc0_fwd_skel
    simp only [k0_part426_eq_skeleton, k0_part252_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part253_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part254_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg21.eq_unread hf19; obtain rfl := harg22.eq_unread hfs0; obtain rfl := harg23.eq_unread hfs1; obtain rfl := harg24.eq_unread hfs2; obtain rfl := harg25.eq_unread hfs3; obtain rfl := harg26.eq_unread hfs4; obtain rfl := harg27.eq_unread hfs5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexact H19
    isplitl [HS0]
    · iexists _; isplitr; · ipureintro; exact harg22.read_unread _
      iexact HS0
    isplitl [HS1]
    · iexists _; isplitr; · ipureintro; exact harg23.read_unread _
      iexact HS1
    isplitl [HS2]
    · iexists _; isplitr; · ipureintro; exact harg24.read_unread _
      iexact HS2
    isplitl [HS3]
    · iexists _; isplitr; · ipureintro; exact harg25.read_unread _
      iexact HS3
    isplitl [HS4]
    · iexact HS4
    iexact HS5

end Cert.FwdIdeal.Gen

end
-- ==== Proof.FwdIdeal.CaseD1.lean ====
/-
  What the points of the even rows past the first leave, as lists of tiles of the tables.
-/
module

public import proofs.«01_k».proof.Proof.FwdIdeal.RunD
public import proofs.«01_k».proof.Proof.FwdIdeal.Orders

@[expose] public section

set_option maxRecDepth 16384

noncomputable section

namespace Cert.FwdIdeal.Gen

open Idealize.ShloMosaic hiding ix2
open Idealize.ShloMosaic.TcCoe Idealize.SL.Sem Cert.FwdIdeal Cert.FwdIdeal.Tile
open Idealize.ShloMosaic.ValueIdx

/-- The derivative by the gate, stored. -/
theorem runD_p (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (e := .f32) (tokT xs0 xs1 xs2 xs3 pV (i 1)) (0) 32 128) (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).1 QT := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (tok_p xs0 xs1 xs2 xs3 (i 1) 768 352 128 1120 _ _ rfl (rM_768 (i 1)) (rN_1120 (i 1)) rfl (by decide) _ _ _ _ (by decide)) <|
    .cons (tok_p xs0 xs1 xs2 xs3 (i 1) 768 352 0 1120 _ _ rfl (rM_768 (i 1)) (rN_1120 (i 1)) rfl (by decide) _ _ _ _ (by decide)) <|
    .cons (tok_p xs0 xs1 xs2 xs3 (i 1) 768 320 128 1088 _ _ rfl (rM_768 (i 1)) (rN_1088 (i 1)) rfl (by decide) _ _ _ _ (by decide)) <|
    .cons (tok_p xs0 xs1 xs2 xs3 (i 1) 768 320 0 1088 _ _ rfl (rM_768 (i 1)) (rN_1088 (i 1)) rfl (by decide) _ _ _ _ (by decide)) <|
    .cons (tok_p xs0 xs1 xs2 xs3 (i 1) 768 288 128 1056 _ _ rfl (rM_768 (i 1)) (rN_1056 (i 1)) rfl (by decide) _ _ _ _ (by decide)) <|
    .cons (tok_p xs0 xs1 xs2 xs3 (i 1) 768 288 0 1056 _ _ rfl (rM_768 (i 1)) (rN_1056 (i 1)) rfl (by decide) _ _ _ _ (by decide)) <|
    .cons (tok_p xs0 xs1 xs2 xs3 (i 1) 768 256 128 1024 _ _ rfl (rM_768 (i 1)) (rN_1024 (i 1)) rfl (by decide) _ _ _ _ (by decide)) <|
    .cons (tok_p xs0 xs1 xs2 xs3 (i 1) 768 256 0 1024 _ _ rfl (rM_768 (i 1)) (rN_1024 (i 1)) rfl (by decide) _ _ _ _ (by decide)) <|
    .cons (tok_p xs0 xs1 xs2 xs3 (i 1) 768 224 128 992 _ _ rfl (rM_768 (i 1)) (rN_992 (i 1)) rfl (by decide) _ _ _ _ (by decide)) <|
    .cons (tok_p xs0 xs1 xs2 xs3 (i 1) 768 224 0 992 _ _ rfl (rM_768 (i 1)) (rN_992 (i 1)) rfl (by decide) _ _ _ _ (by decide)) <|
    .cons (tok_p xs0 xs1 xs2 xs3 (i 1) 768 192 128 960 _ _ rfl (rM_768 (i 1)) (rN_960 (i 1)) rfl (by decide) _ _ _ _ (by decide)) <|
    .cons (tok_p xs0 xs1 xs2 xs3 (i 1) 768 192 0 960 _ _ rfl (rM_768 (i 1)) (rN_960 (i 1)) rfl (by decide) _ _ _ _ (by decide)) <|
    .cons (tok_p xs0 xs1 xs2 xs3 (i 1) 768 160 128 928 _ _ rfl (rM_768 (i 1)) (rN_928 (i 1)) rfl (by decide) _ _ _ _ (by decide)) <|
    .cons (tok_p xs0 xs1 xs2 xs3 (i 1) 768 160 0 928 _ _ rfl (rM_768 (i 1)) (rN_928 (i 1)) rfl (by decide) _ _ _ _ (by decide)) <|
    .cons (tok_p xs0 xs1 xs2 xs3 (i 1) 768 128 128 896 _ _ rfl (rM_768 (i 1)) (rN_896 (i 1)) rfl (by decide) _ _ _ _ (by decide)) <|
    .cons (tok_p xs0 xs1 xs2 xs3 (i 1) 768 128 0 896 _ _ rfl (rM_768 (i 1)) (rN_896 (i 1)) rfl (by decide) _ _ _ _ (by decide)) <|
    .cons (tok_p xs0 xs1 xs2 xs3 (i 1) 768 96 128 864 _ _ rfl (rM_768 (i 1)) (rN_864 (i 1)) rfl (by decide) _ _ _ _ (by decide)) <|
    .cons (tok_p xs0 xs1 xs2 xs3 (i 1) 768 96 0 864 _ _ rfl (rM_768 (i 1)) (rN_864 (i 1)) rfl (by decide) _ _ _ _ (by decide)) <|
    .cons (tok_p xs0 xs1 xs2 xs3 (i 1) 768 64 128 832 _ _ rfl (rM_768 (i 1)) (rN_832 (i 1)) rfl (by decide) _ _ _ _ (by decide)) <|
    .cons (tok_p xs0 xs1 xs2 xs3 (i 1) 768 64 0 832 _ _ rfl (rM_768 (i 1)) (rN_832 (i 1)) rfl (by decide) _ _ _ _ (by decide)) <|
    .cons (tok_p xs0 xs1 xs2 xs3 (i 1) 768 32 128 800 _ _ rfl (rM_768 (i 1)) (rN_800 (i 1)) rfl (by decide) _ _ _ _ (by decide)) <|
    .cons (tok_p xs0 xs1 xs2 xs3 (i 1) 768 32 0 800 _ _ rfl (rM_768 (i 1)) (rN_800 (i 1)) rfl (by decide) _ _ _ _ (by decide)) <|
    .cons (tok_p xs0 xs1 xs2 xs3 (i 1) 768 0 128 768 _ _ rfl (rM_768 (i 1)) (rN_768 (i 1)) rfl (by decide) _ _ _ _ (by decide)) <|
    .cons (tok_p xs0 xs1 xs2 xs3 (i 1) 768 0 0 768 _ _ rfl (rM_768 (i 1)) (rN_768 (i 1)) rfl (by decide) _ _ _ _ (by decide)) <|
    .cons (tok_p xs0 xs1 xs2 xs3 (i 1) 384 352 128 736 _ _ rfl (rM_384 (i 1)) (rN_736 (i 1)) rfl (by decide) _ _ _ _ (by decide)) <|
    .cons (tok_p xs0 xs1 xs2 xs3 (i 1) 384 352 0 736 _ _ rfl (rM_384 (i 1)) (rN_736 (i 1)) rfl (by decide) _ _ _ _ (by decide)) <|
    .cons (tok_p xs0 xs1 xs2 xs3 (i 1) 384 320 128 704 _ _ rfl (rM_384 (i 1)) (rN_704 (i 1)) rfl (by decide) _ _ _ _ (by decide)) <|
    .cons (tok_p xs0 xs1 xs2 xs3 (i 1) 384 320 0 704 _ _ rfl (rM_384 (i 1)) (rN_704 (i 1)) rfl (by decide) _ _ _ _ (by decide)) <|
    .cons (tok_p xs0 xs1 xs2 xs3 (i 1) 384 288 128 672 _ _ rfl (rM_384 (i 1)) (rN_672 (i 1)) rfl (by decide) _ _ _ _ (by decide)) <|
    .cons (tok_p xs0 xs1 xs2 xs3 (i 1) 384 288 0 672 _ _ rfl (rM_384 (i 1)) (rN_672 (i 1)) rfl (by decide) _ _ _ _ (by decide)) <|
    .cons (tok_p xs0 xs1 xs2 xs3 (i 1) 384 256 128 640 _ _ rfl (rM_384 (i 1)) (rN_640 (i 1)) rfl (by decide) _ _ _ _ (by decide)) <|
    .cons (tok_p xs0 xs1 xs2 xs3 (i 1) 384 256 0 640 _ _ rfl (rM_384 (i 1)) (rN_640 (i 1)) rfl (by decide) _ _ _ _ (by decide)) <|
    .cons (tok_p xs0 xs1 xs2 xs3 (i 1) 384 224 128 608 _ _ rfl (rM_384 (i 1)) (rN_608 (i 1)) rfl (by decide) _ _ _ _ (by decide)) <|
    .cons (tok_p xs0 xs1 xs2 xs3 (i 1) 384 224 0 608 _ _ rfl (rM_384 (i 1)) (rN_608 (i 1)) rfl (by decide) _ _ _ _ (by decide)) <|
    .cons (tok_p xs0 xs1 xs2 xs3 (i 1) 384 192 128 576 _ _ rfl (rM_384 (i 1)) (rN_576 (i 1)) rfl (by decide) _ _ _ _ (by decide)) <|
    .cons (tok_p xs0 xs1 xs2 xs3 (i 1) 384 192 0 576 _ _ rfl (rM_384 (i 1)) (rN_576 (i 1)) rfl (by decide) _ _ _ _ (by decide)) <|
    .cons (tok_p xs0 xs1 xs2 xs3 (i 1) 384 160 128 544 _ _ rfl (rM_384 (i 1)) (rN_544 (i 1)) rfl (by decide) _ _ _ _ (by decide)) <|
    .cons (tok_p xs0 xs1 xs2 xs3 (i 1) 384 160 0 544 _ _ rfl (rM_384 (i 1)) (rN_544 (i 1)) rfl (by decide) _ _ _ _ (by decide)) <|
    .cons (tok_p xs0 xs1 xs2 xs3 (i 1) 384 128 128 512 _ _ rfl (rM_384 (i 1)) (rN_512 (i 1)) rfl (by decide) _ _ _ _ (by decide)) <|
    .cons (tok_p xs0 xs1 xs2 xs3 (i 1) 384 128 0 512 _ _ rfl (rM_384 (i 1)) (rN_512 (i 1)) rfl (by decide) _ _ _ _ (by decide)) <|
    .cons (tok_p xs0 xs1 xs2 xs3 (i 1) 384 96 128 480 _ _ rfl (rM_384 (i 1)) (rN_480 (i 1)) rfl (by decide) _ _ _ _ (by decide)) <|
    .cons (tok_p xs0 xs1 xs2 xs3 (i 1) 384 96 0 480 _ _ rfl (rM_384 (i 1)) (rN_480 (i 1)) rfl (by decide) _ _ _ _ (by decide)) <|
    .cons (tok_p xs0 xs1 xs2 xs3 (i 1) 384 64 128 448 _ _ rfl (rM_384 (i 1)) (rN_448 (i 1)) rfl (by decide) _ _ _ _ (by decide)) <|
    .cons (tok_p xs0 xs1 xs2 xs3 (i 1) 384 64 0 448 _ _ rfl (rM_384 (i 1)) (rN_448 (i 1)) rfl (by decide) _ _ _ _ (by decide)) <|
    .cons (tok_p xs0 xs1 xs2 xs3 (i 1) 384 32 128 416 _ _ rfl (rM_384 (i 1)) (rN_416 (i 1)) rfl (by decide) _ _ _ _ (by decide)) <|
    .cons (tok_p xs0 xs1 xs2 xs3 (i 1) 384 32 0 416 _ _ rfl (rM_384 (i 1)) (rN_416 (i 1)) rfl (by decide) _ _ _ _ (by decide)) <|
    .cons (tok_p xs0 xs1 xs2 xs3 (i 1) 384 0 128 384 _ _ rfl (rM_384 (i 1)) (rN_384 (i 1)) rfl (by decide) _ _ _ _ (by decide)) <|
    .cons (tok_p xs0 xs1 xs2 xs3 (i 1) 384 0 0 384 _ _ rfl (rM_384 (i 1)) (rN_384 (i 1)) rfl (by decide) _ _ _ _ (by decide)) <|
    .cons (tok_p xs0 xs1 xs2 xs3 (i 1) 0 352 128 352 _ _ rfl (rM_0 (i 1)) (rN_352 (i 1)) rfl (by decide) _ _ _ _ (by decide)) <|
    .cons (tok_p xs0 xs1 xs2 xs3 (i 1) 0 352 0 352 _ _ rfl (rM_0 (i 1)) (rN_352 (i 1)) rfl (by decide) _ _ _ _ (by decide)) <|
    .cons (tok_p xs0 xs1 xs2 xs3 (i 1) 0 320 128 320 _ _ rfl (rM_0 (i 1)) (rN_320 (i 1)) rfl (by decide) _ _ _ _ (by decide)) <|
    .cons (tok_p xs0 xs1 xs2 xs3 (i 1) 0 320 0 320 _ _ rfl (rM_0 (i 1)) (rN_320 (i 1)) rfl (by decide) _ _ _ _ (by decide)) <|
    .cons (tok_p xs0 xs1 xs2 xs3 (i 1) 0 288 128 288 _ _ rfl (rM_0 (i 1)) (rN_288 (i 1)) rfl (by decide) _ _ _ _ (by decide)) <|
    .cons (tok_p xs0 xs1 xs2 xs3 (i 1) 0 288 0 288 _ _ rfl (rM_0 (i 1)) (rN_288 (i 1)) rfl (by decide) _ _ _ _ (by decide)) <|
    .cons (tok_p xs0 xs1 xs2 xs3 (i 1) 0 256 128 256 _ _ rfl (rM_0 (i 1)) (rN_256 (i 1)) rfl (by decide) _ _ _ _ (by decide)) <|
    .cons (tok_p xs0 xs1 xs2 xs3 (i 1) 0 256 0 256 _ _ rfl (rM_0 (i 1)) (rN_256 (i 1)) rfl (by decide) _ _ _ _ (by decide)) <|
    .cons (tok_p xs0 xs1 xs2 xs3 (i 1) 0 224 128 224 _ _ rfl (rM_0 (i 1)) (rN_224 (i 1)) rfl (by decide) _ _ _ _ (by decide)) <|
    .cons (tok_p xs0 xs1 xs2 xs3 (i 1) 0 224 0 224 _ _ rfl (rM_0 (i 1)) (rN_224 (i 1)) rfl (by decide) _ _ _ _ (by decide)) <|
    .cons (tok_p xs0 xs1 xs2 xs3 (i 1) 0 192 128 192 _ _ rfl (rM_0 (i 1)) (rN_192 (i 1)) rfl (by decide) _ _ _ _ (by decide)) <|
    .cons (tok_p xs0 xs1 xs2 xs3 (i 1) 0 192 0 192 _ _ rfl (rM_0 (i 1)) (rN_192 (i 1)) rfl (by decide) _ _ _ _ (by decide)) <|
    .cons (tok_p xs0 xs1 xs2 xs3 (i 1) 0 160 128 160 _ _ rfl (rM_0 (i 1)) (rN_160 (i 1)) rfl (by decide) _ _ _ _ (by decide)) <|
    .cons (tok_p xs0 xs1 xs2 xs3 (i 1) 0 160 0 160 _ _ rfl (rM_0 (i 1)) (rN_160 (i 1)) rfl (by decide) _ _ _ _ (by decide)) <|
    .cons (tok_p xs0 xs1 xs2 xs3 (i 1) 0 128 128 128 _ _ rfl (rM_0 (i 1)) (rN_128 (i 1)) rfl (by decide) _ _ _ _ (by decide)) <|
    .cons (tok_p xs0 xs1 xs2 xs3 (i 1) 0 128 0 128 _ _ rfl (rM_0 (i 1)) (rN_128 (i 1)) rfl (by decide) _ _ _ _ (by decide)) <|
    .cons (tok_p xs0 xs1 xs2 xs3 (i 1) 0 96 128 96 _ _ rfl (rM_0 (i 1)) (rN_96 (i 1)) rfl (by decide) _ _ _ _ (by decide)) <|
    .cons (tok_p xs0 xs1 xs2 xs3 (i 1) 0 96 0 96 _ _ rfl (rM_0 (i 1)) (rN_96 (i 1)) rfl (by decide) _ _ _ _ (by decide)) <|
    .cons (tok_p xs0 xs1 xs2 xs3 (i 1) 0 64 128 64 _ _ rfl (rM_0 (i 1)) (rN_64 (i 1)) rfl (by decide) _ _ _ _ (by decide)) <|
    .cons (tok_p xs0 xs1 xs2 xs3 (i 1) 0 64 0 64 _ _ rfl (rM_0 (i 1)) (rN_64 (i 1)) rfl (by decide) _ _ _ _ (by decide)) <|
    .cons (tok_p xs0 xs1 xs2 xs3 (i 1) 0 32 128 32 _ _ rfl (rM_0 (i 1)) (rN_32 (i 1)) rfl (by decide) _ _ _ _ (by decide)) <|
    .cons (tok_p xs0 xs1 xs2 xs3 (i 1) 0 32 0 32 _ _ rfl (rM_0 (i 1)) (rN_32 (i 1)) rfl (by decide) _ _ _ _ (by decide)) <|
    .cons (tok_p xs0 xs1 xs2 xs3 (i 1) 0 0 128 0 _ _ rfl (rM_0 (i 1)) (rN_0 (i 1)) rfl (by decide) _ _ _ _ (by decide)) <|
    .cons (tok_p xs0 xs1 xs2 xs3 (i 1) 0 0 0 0 _ _ rfl (rM_0 (i 1)) (rN_0 (i 1)) rfl (by decide) _ _ _ _ (by decide)) <|
    .nil

/-- The derivative by the up projection, stored. -/
theorem runD_q (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (e := .f32) (tokT xs0 xs1 xs2 xs3 (fun s g _ => qV s g) (i 1)) (0) 32 128) (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.1 QT := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (tok_q xs0 xs1 xs2 xs3 (i 1) 768 352 128 1120 _ _ rfl (rM_768 (i 1)) (rN_1120 (i 1)) rfl (by decide) _ _ _ _ (by decide)) <|
    .cons (tok_q xs0 xs1 xs2 xs3 (i 1) 768 352 0 1120 _ _ rfl (rM_768 (i 1)) (rN_1120 (i 1)) rfl (by decide) _ _ _ _ (by decide)) <|
    .cons (tok_q xs0 xs1 xs2 xs3 (i 1) 768 320 128 1088 _ _ rfl (rM_768 (i 1)) (rN_1088 (i 1)) rfl (by decide) _ _ _ _ (by decide)) <|
    .cons (tok_q xs0 xs1 xs2 xs3 (i 1) 768 320 0 1088 _ _ rfl (rM_768 (i 1)) (rN_1088 (i 1)) rfl (by decide) _ _ _ _ (by decide)) <|
    .cons (tok_q xs0 xs1 xs2 xs3 (i 1) 768 288 128 1056 _ _ rfl (rM_768 (i 1)) (rN_1056 (i 1)) rfl (by decide) _ _ _ _ (by decide)) <|
    .cons (tok_q xs0 xs1 xs2 xs3 (i 1) 768 288 0 1056 _ _ rfl (rM_768 (i 1)) (rN_1056 (i 1)) rfl (by decide) _ _ _ _ (by decide)) <|
    .cons (tok_q xs0 xs1 xs2 xs3 (i 1) 768 256 128 1024 _ _ rfl (rM_768 (i 1)) (rN_1024 (i 1)) rfl (by decide) _ _ _ _ (by decide)) <|
    .cons (tok_q xs0 xs1 xs2 xs3 (i 1) 768 256 0 1024 _ _ rfl (rM_768 (i 1)) (rN_1024 (i 1)) rfl (by decide) _ _ _ _ (by decide)) <|
    .cons (tok_q xs0 xs1 xs2 xs3 (i 1) 768 224 128 992 _ _ rfl (rM_768 (i 1)) (rN_992 (i 1)) rfl (by decide) _ _ _ _ (by decide)) <|
    .cons (tok_q xs0 xs1 xs2 xs3 (i 1) 768 224 0 992 _ _ rfl (rM_768 (i 1)) (rN_992 (i 1)) rfl (by decide) _ _ _ _ (by decide)) <|
    .cons (tok_q xs0 xs1 xs2 xs3 (i 1) 768 192 128 960 _ _ rfl (rM_768 (i 1)) (rN_960 (i 1)) rfl (by decide) _ _ _ _ (by decide)) <|
    .cons (tok_q xs0 xs1 xs2 xs3 (i 1) 768 192 0 960 _ _ rfl (rM_768 (i 1)) (rN_960 (i 1)) rfl (by decide) _ _ _ _ (by decide)) <|
    .cons (tok_q xs0 xs1 xs2 xs3 (i 1) 768 160 128 928 _ _ rfl (rM_768 (i 1)) (rN_928 (i 1)) rfl (by decide) _ _ _ _ (by decide)) <|
    .cons (tok_q xs0 xs1 xs2 xs3 (i 1) 768 160 0 928 _ _ rfl (rM_768 (i 1)) (rN_928 (i 1)) rfl (by decide) _ _ _ _ (by decide)) <|
    .cons (tok_q xs0 xs1 xs2 xs3 (i 1) 768 128 128 896 _ _ rfl (rM_768 (i 1)) (rN_896 (i 1)) rfl (by decide) _ _ _ _ (by decide)) <|
    .cons (tok_q xs0 xs1 xs2 xs3 (i 1) 768 128 0 896 _ _ rfl (rM_768 (i 1)) (rN_896 (i 1)) rfl (by decide) _ _ _ _ (by decide)) <|
    .cons (tok_q xs0 xs1 xs2 xs3 (i 1) 768 96 128 864 _ _ rfl (rM_768 (i 1)) (rN_864 (i 1)) rfl (by decide) _ _ _ _ (by decide)) <|
    .cons (tok_q xs0 xs1 xs2 xs3 (i 1) 768 96 0 864 _ _ rfl (rM_768 (i 1)) (rN_864 (i 1)) rfl (by decide) _ _ _ _ (by decide)) <|
    .cons (tok_q xs0 xs1 xs2 xs3 (i 1) 768 64 128 832 _ _ rfl (rM_768 (i 1)) (rN_832 (i 1)) rfl (by decide) _ _ _ _ (by decide)) <|
    .cons (tok_q xs0 xs1 xs2 xs3 (i 1) 768 64 0 832 _ _ rfl (rM_768 (i 1)) (rN_832 (i 1)) rfl (by decide) _ _ _ _ (by decide)) <|
    .cons (tok_q xs0 xs1 xs2 xs3 (i 1) 768 32 128 800 _ _ rfl (rM_768 (i 1)) (rN_800 (i 1)) rfl (by decide) _ _ _ _ (by decide)) <|
    .cons (tok_q xs0 xs1 xs2 xs3 (i 1) 768 32 0 800 _ _ rfl (rM_768 (i 1)) (rN_800 (i 1)) rfl (by decide) _ _ _ _ (by decide)) <|
    .cons (tok_q xs0 xs1 xs2 xs3 (i 1) 768 0 128 768 _ _ rfl (rM_768 (i 1)) (rN_768 (i 1)) rfl (by decide) _ _ _ _ (by decide)) <|
    .cons (tok_q xs0 xs1 xs2 xs3 (i 1) 768 0 0 768 _ _ rfl (rM_768 (i 1)) (rN_768 (i 1)) rfl (by decide) _ _ _ _ (by decide)) <|
    .cons (tok_q xs0 xs1 xs2 xs3 (i 1) 384 352 128 736 _ _ rfl (rM_384 (i 1)) (rN_736 (i 1)) rfl (by decide) _ _ _ _ (by decide)) <|
    .cons (tok_q xs0 xs1 xs2 xs3 (i 1) 384 352 0 736 _ _ rfl (rM_384 (i 1)) (rN_736 (i 1)) rfl (by decide) _ _ _ _ (by decide)) <|
    .cons (tok_q xs0 xs1 xs2 xs3 (i 1) 384 320 128 704 _ _ rfl (rM_384 (i 1)) (rN_704 (i 1)) rfl (by decide) _ _ _ _ (by decide)) <|
    .cons (tok_q xs0 xs1 xs2 xs3 (i 1) 384 320 0 704 _ _ rfl (rM_384 (i 1)) (rN_704 (i 1)) rfl (by decide) _ _ _ _ (by decide)) <|
    .cons (tok_q xs0 xs1 xs2 xs3 (i 1) 384 288 128 672 _ _ rfl (rM_384 (i 1)) (rN_672 (i 1)) rfl (by decide) _ _ _ _ (by decide)) <|
    .cons (tok_q xs0 xs1 xs2 xs3 (i 1) 384 288 0 672 _ _ rfl (rM_384 (i 1)) (rN_672 (i 1)) rfl (by decide) _ _ _ _ (by decide)) <|
    .cons (tok_q xs0 xs1 xs2 xs3 (i 1) 384 256 128 640 _ _ rfl (rM_384 (i 1)) (rN_640 (i 1)) rfl (by decide) _ _ _ _ (by decide)) <|
    .cons (tok_q xs0 xs1 xs2 xs3 (i 1) 384 256 0 640 _ _ rfl (rM_384 (i 1)) (rN_640 (i 1)) rfl (by decide) _ _ _ _ (by decide)) <|
    .cons (tok_q xs0 xs1 xs2 xs3 (i 1) 384 224 128 608 _ _ rfl (rM_384 (i 1)) (rN_608 (i 1)) rfl (by decide) _ _ _ _ (by decide)) <|
    .cons (tok_q xs0 xs1 xs2 xs3 (i 1) 384 224 0 608 _ _ rfl (rM_384 (i 1)) (rN_608 (i 1)) rfl (by decide) _ _ _ _ (by decide)) <|
    .cons (tok_q xs0 xs1 xs2 xs3 (i 1) 384 192 128 576 _ _ rfl (rM_384 (i 1)) (rN_576 (i 1)) rfl (by decide) _ _ _ _ (by decide)) <|
    .cons (tok_q xs0 xs1 xs2 xs3 (i 1) 384 192 0 576 _ _ rfl (rM_384 (i 1)) (rN_576 (i 1)) rfl (by decide) _ _ _ _ (by decide)) <|
    .cons (tok_q xs0 xs1 xs2 xs3 (i 1) 384 160 128 544 _ _ rfl (rM_384 (i 1)) (rN_544 (i 1)) rfl (by decide) _ _ _ _ (by decide)) <|
    .cons (tok_q xs0 xs1 xs2 xs3 (i 1) 384 160 0 544 _ _ rfl (rM_384 (i 1)) (rN_544 (i 1)) rfl (by decide) _ _ _ _ (by decide)) <|
    .cons (tok_q xs0 xs1 xs2 xs3 (i 1) 384 128 128 512 _ _ rfl (rM_384 (i 1)) (rN_512 (i 1)) rfl (by decide) _ _ _ _ (by decide)) <|
    .cons (tok_q xs0 xs1 xs2 xs3 (i 1) 384 128 0 512 _ _ rfl (rM_384 (i 1)) (rN_512 (i 1)) rfl (by decide) _ _ _ _ (by decide)) <|
    .cons (tok_q xs0 xs1 xs2 xs3 (i 1) 384 96 128 480 _ _ rfl (rM_384 (i 1)) (rN_480 (i 1)) rfl (by decide) _ _ _ _ (by decide)) <|
    .cons (tok_q xs0 xs1 xs2 xs3 (i 1) 384 96 0 480 _ _ rfl (rM_384 (i 1)) (rN_480 (i 1)) rfl (by decide) _ _ _ _ (by decide)) <|
    .cons (tok_q xs0 xs1 xs2 xs3 (i 1) 384 64 128 448 _ _ rfl (rM_384 (i 1)) (rN_448 (i 1)) rfl (by decide) _ _ _ _ (by decide)) <|
    .cons (tok_q xs0 xs1 xs2 xs3 (i 1) 384 64 0 448 _ _ rfl (rM_384 (i 1)) (rN_448 (i 1)) rfl (by decide) _ _ _ _ (by decide)) <|
    .cons (tok_q xs0 xs1 xs2 xs3 (i 1) 384 32 128 416 _ _ rfl (rM_384 (i 1)) (rN_416 (i 1)) rfl (by decide) _ _ _ _ (by decide)) <|
    .cons (tok_q xs0 xs1 xs2 xs3 (i 1) 384 32 0 416 _ _ rfl (rM_384 (i 1)) (rN_416 (i 1)) rfl (by decide) _ _ _ _ (by decide)) <|
    .cons (tok_q xs0 xs1 xs2 xs3 (i 1) 384 0 128 384 _ _ rfl (rM_384 (i 1)) (rN_384 (i 1)) rfl (by decide) _ _ _ _ (by decide)) <|
    .cons (tok_q xs0 xs1 xs2 xs3 (i 1) 384 0 0 384 _ _ rfl (rM_384 (i 1)) (rN_384 (i 1)) rfl (by decide) _ _ _ _ (by decide)) <|
    .cons (tok_q xs0 xs1 xs2 xs3 (i 1) 0 352 128 352 _ _ rfl (rM_0 (i 1)) (rN_352 (i 1)) rfl (by decide) _ _ _ _ (by decide)) <|
    .cons (tok_q xs0 xs1 xs2 xs3 (i 1) 0 352 0 352 _ _ rfl (rM_0 (i 1)) (rN_352 (i 1)) rfl (by decide) _ _ _ _ (by decide)) <|
    .cons (tok_q xs0 xs1 xs2 xs3 (i 1) 0 320 128 320 _ _ rfl (rM_0 (i 1)) (rN_320 (i 1)) rfl (by decide) _ _ _ _ (by decide)) <|
    .cons (tok_q xs0 xs1 xs2 xs3 (i 1) 0 320 0 320 _ _ rfl (rM_0 (i 1)) (rN_320 (i 1)) rfl (by decide) _ _ _ _ (by decide)) <|
    .cons (tok_q xs0 xs1 xs2 xs3 (i 1) 0 288 128 288 _ _ rfl (rM_0 (i 1)) (rN_288 (i 1)) rfl (by decide) _ _ _ _ (by decide)) <|
    .cons (tok_q xs0 xs1 xs2 xs3 (i 1) 0 288 0 288 _ _ rfl (rM_0 (i 1)) (rN_288 (i 1)) rfl (by decide) _ _ _ _ (by decide)) <|
    .cons (tok_q xs0 xs1 xs2 xs3 (i 1) 0 256 128 256 _ _ rfl (rM_0 (i 1)) (rN_256 (i 1)) rfl (by decide) _ _ _ _ (by decide)) <|
    .cons (tok_q xs0 xs1 xs2 xs3 (i 1) 0 256 0 256 _ _ rfl (rM_0 (i 1)) (rN_256 (i 1)) rfl (by decide) _ _ _ _ (by decide)) <|
    .cons (tok_q xs0 xs1 xs2 xs3 (i 1) 0 224 128 224 _ _ rfl (rM_0 (i 1)) (rN_224 (i 1)) rfl (by decide) _ _ _ _ (by decide)) <|
    .cons (tok_q xs0 xs1 xs2 xs3 (i 1) 0 224 0 224 _ _ rfl (rM_0 (i 1)) (rN_224 (i 1)) rfl (by decide) _ _ _ _ (by decide)) <|
    .cons (tok_q xs0 xs1 xs2 xs3 (i 1) 0 192 128 192 _ _ rfl (rM_0 (i 1)) (rN_192 (i 1)) rfl (by decide) _ _ _ _ (by decide)) <|
    .cons (tok_q xs0 xs1 xs2 xs3 (i 1) 0 192 0 192 _ _ rfl (rM_0 (i 1)) (rN_192 (i 1)) rfl (by decide) _ _ _ _ (by decide)) <|
    .cons (tok_q xs0 xs1 xs2 xs3 (i 1) 0 160 128 160 _ _ rfl (rM_0 (i 1)) (rN_160 (i 1)) rfl (by decide) _ _ _ _ (by decide)) <|
    .cons (tok_q xs0 xs1 xs2 xs3 (i 1) 0 160 0 160 _ _ rfl (rM_0 (i 1)) (rN_160 (i 1)) rfl (by decide) _ _ _ _ (by decide)) <|
    .cons (tok_q xs0 xs1 xs2 xs3 (i 1) 0 128 128 128 _ _ rfl (rM_0 (i 1)) (rN_128 (i 1)) rfl (by decide) _ _ _ _ (by decide)) <|
    .cons (tok_q xs0 xs1 xs2 xs3 (i 1) 0 128 0 128 _ _ rfl (rM_0 (i 1)) (rN_128 (i 1)) rfl (by decide) _ _ _ _ (by decide)) <|
    .cons (tok_q xs0 xs1 xs2 xs3 (i 1) 0 96 128 96 _ _ rfl (rM_0 (i 1)) (rN_96 (i 1)) rfl (by decide) _ _ _ _ (by decide)) <|
    .cons (tok_q xs0 xs1 xs2 xs3 (i 1) 0 96 0 96 _ _ rfl (rM_0 (i 1)) (rN_96 (i 1)) rfl (by decide) _ _ _ _ (by decide)) <|
    .cons (tok_q xs0 xs1 xs2 xs3 (i 1) 0 64 128 64 _ _ rfl (rM_0 (i 1)) (rN_64 (i 1)) rfl (by decide) _ _ _ _ (by decide)) <|
    .cons (tok_q xs0 xs1 xs2 xs3 (i 1) 0 64 0 64 _ _ rfl (rM_0 (i 1)) (rN_64 (i 1)) rfl (by decide) _ _ _ _ (by decide)) <|
    .cons (tok_q xs0 xs1 xs2 xs3 (i 1) 0 32 128 32 _ _ rfl (rM_0 (i 1)) (rN_32 (i 1)) rfl (by decide) _ _ _ _ (by decide)) <|
    .cons (tok_q xs0 xs1 xs2 xs3 (i 1) 0 32 0 32 _ _ rfl (rM_0 (i 1)) (rN_32 (i 1)) rfl (by decide) _ _ _ _ (by decide)) <|
    .cons (tok_q xs0 xs1 xs2 xs3 (i 1) 0 0 128 0 _ _ rfl (rM_0 (i 1)) (rN_0 (i 1)) rfl (by decide) _ _ _ _ (by decide)) <|
    .cons (tok_q xs0 xs1 xs2 xs3 (i 1) 0 0 0 0 _ _ rfl (rM_0 (i 1)) (rN_0 (i 1)) rfl (by decide) _ _ _ _ (by decide)) <|
    .nil

end Cert.FwdIdeal.Gen

end
-- ==== Proof.FwdIdeal.CaseD2.lean ====
/-
  What the points of the even rows past the first leave, as lists of tiles of the tables.
-/
module

public import proofs.«01_k».proof.Proof.FwdIdeal.RunD
public import proofs.«01_k».proof.Proof.FwdIdeal.Orders

@[expose] public section

set_option maxRecDepth 16384

noncomputable section

namespace Cert.FwdIdeal.Gen

open Idealize.ShloMosaic hiding ix2
open Idealize.ShloMosaic.TcCoe Idealize.SL.Sem Cert.FwdIdeal Cert.FwdIdeal.Tile
open Idealize.ShloMosaic.ValueIdx

/-- The activation stored. -/
theorem runD_a (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (e := .f32) (tokT xs0 xs1 xs2 xs3 aV (i 1)) (0) 32 128) (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.1 QT := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (tok_a xs0 xs1 xs2 xs3 (i 1) 768 352 128 1120 _ _ rfl (rM_768 (i 1)) (rN_1120 (i 1)) rfl (by decide) _ _ _ _ (by decide)) <|
    .cons (tok_a xs0 xs1 xs2 xs3 (i 1) 768 352 0 1120 _ _ rfl (rM_768 (i 1)) (rN_1120 (i 1)) rfl (by decide) _ _ _ _ (by decide)) <|
    .cons (tok_a xs0 xs1 xs2 xs3 (i 1) 768 320 128 1088 _ _ rfl (rM_768 (i 1)) (rN_1088 (i 1)) rfl (by decide) _ _ _ _ (by decide)) <|
    .cons (tok_a xs0 xs1 xs2 xs3 (i 1) 768 320 0 1088 _ _ rfl (rM_768 (i 1)) (rN_1088 (i 1)) rfl (by decide) _ _ _ _ (by decide)) <|
    .cons (tok_a xs0 xs1 xs2 xs3 (i 1) 768 288 128 1056 _ _ rfl (rM_768 (i 1)) (rN_1056 (i 1)) rfl (by decide) _ _ _ _ (by decide)) <|
    .cons (tok_a xs0 xs1 xs2 xs3 (i 1) 768 288 0 1056 _ _ rfl (rM_768 (i 1)) (rN_1056 (i 1)) rfl (by decide) _ _ _ _ (by decide)) <|
    .cons (tok_a xs0 xs1 xs2 xs3 (i 1) 768 256 128 1024 _ _ rfl (rM_768 (i 1)) (rN_1024 (i 1)) rfl (by decide) _ _ _ _ (by decide)) <|
    .cons (tok_a xs0 xs1 xs2 xs3 (i 1) 768 256 0 1024 _ _ rfl (rM_768 (i 1)) (rN_1024 (i 1)) rfl (by decide) _ _ _ _ (by decide)) <|
    .cons (tok_a xs0 xs1 xs2 xs3 (i 1) 768 224 128 992 _ _ rfl (rM_768 (i 1)) (rN_992 (i 1)) rfl (by decide) _ _ _ _ (by decide)) <|
    .cons (tok_a xs0 xs1 xs2 xs3 (i 1) 768 224 0 992 _ _ rfl (rM_768 (i 1)) (rN_992 (i 1)) rfl (by decide) _ _ _ _ (by decide)) <|
    .cons (tok_a xs0 xs1 xs2 xs3 (i 1) 768 192 128 960 _ _ rfl (rM_768 (i 1)) (rN_960 (i 1)) rfl (by decide) _ _ _ _ (by decide)) <|
    .cons (tok_a xs0 xs1 xs2 xs3 (i 1) 768 192 0 960 _ _ rfl (rM_768 (i 1)) (rN_960 (i 1)) rfl (by decide) _ _ _ _ (by decide)) <|
    .cons (tok_a xs0 xs1 xs2 xs3 (i 1) 768 160 128 928 _ _ rfl (rM_768 (i 1)) (rN_928 (i 1)) rfl (by decide) _ _ _ _ (by decide)) <|
    .cons (tok_a xs0 xs1 xs2 xs3 (i 1) 768 160 0 928 _ _ rfl (rM_768 (i 1)) (rN_928 (i 1)) rfl (by decide) _ _ _ _ (by decide)) <|
    .cons (tok_a xs0 xs1 xs2 xs3 (i 1) 768 128 128 896 _ _ rfl (rM_768 (i 1)) (rN_896 (i 1)) rfl (by decide) _ _ _ _ (by decide)) <|
    .cons (tok_a xs0 xs1 xs2 xs3 (i 1) 768 128 0 896 _ _ rfl (rM_768 (i 1)) (rN_896 (i 1)) rfl (by decide) _ _ _ _ (by decide)) <|
    .cons (tok_a xs0 xs1 xs2 xs3 (i 1) 768 96 128 864 _ _ rfl (rM_768 (i 1)) (rN_864 (i 1)) rfl (by decide) _ _ _ _ (by decide)) <|
    .cons (tok_a xs0 xs1 xs2 xs3 (i 1) 768 96 0 864 _ _ rfl (rM_768 (i 1)) (rN_864 (i 1)) rfl (by decide) _ _ _ _ (by decide)) <|
    .cons (tok_a xs0 xs1 xs2 xs3 (i 1) 768 64 128 832 _ _ rfl (rM_768 (i 1)) (rN_832 (i 1)) rfl (by decide) _ _ _ _ (by decide)) <|
    .cons (tok_a xs0 xs1 xs2 xs3 (i 1) 768 64 0 832 _ _ rfl (rM_768 (i 1)) (rN_832 (i 1)) rfl (by decide) _ _ _ _ (by decide)) <|
    .cons (tok_a xs0 xs1 xs2 xs3 (i 1) 768 32 128 800 _ _ rfl (rM_768 (i 1)) (rN_800 (i 1)) rfl (by decide) _ _ _ _ (by decide)) <|
    .cons (tok_a xs0 xs1 xs2 xs3 (i 1) 768 32 0 800 _ _ rfl (rM_768 (i 1)) (rN_800 (i 1)) rfl (by decide) _ _ _ _ (by decide)) <|
    .cons (tok_a xs0 xs1 xs2 xs3 (i 1) 768 0 128 768 _ _ rfl (rM_768 (i 1)) (rN_768 (i 1)) rfl (by decide) _ _ _ _ (by decide)) <|
    .cons (tok_a xs0 xs1 xs2 xs3 (i 1) 768 0 0 768 _ _ rfl (rM_768 (i 1)) (rN_768 (i 1)) rfl (by decide) _ _ _ _ (by decide)) <|
    .cons (tok_a xs0 xs1 xs2 xs3 (i 1) 384 352 128 736 _ _ rfl (rM_384 (i 1)) (rN_736 (i 1)) rfl (by decide) _ _ _ _ (by decide)) <|
    .cons (tok_a xs0 xs1 xs2 xs3 (i 1) 384 352 0 736 _ _ rfl (rM_384 (i 1)) (rN_736 (i 1)) rfl (by decide) _ _ _ _ (by decide)) <|
    .cons (tok_a xs0 xs1 xs2 xs3 (i 1) 384 320 128 704 _ _ rfl (rM_384 (i 1)) (rN_704 (i 1)) rfl (by decide) _ _ _ _ (by decide)) <|
    .cons (tok_a xs0 xs1 xs2 xs3 (i 1) 384 320 0 704 _ _ rfl (rM_384 (i 1)) (rN_704 (i 1)) rfl (by decide) _ _ _ _ (by decide)) <|
    .cons (tok_a xs0 xs1 xs2 xs3 (i 1) 384 288 128 672 _ _ rfl (rM_384 (i 1)) (rN_672 (i 1)) rfl (by decide) _ _ _ _ (by decide)) <|
    .cons (tok_a xs0 xs1 xs2 xs3 (i 1) 384 288 0 672 _ _ rfl (rM_384 (i 1)) (rN_672 (i 1)) rfl (by decide) _ _ _ _ (by decide)) <|
    .cons (tok_a xs0 xs1 xs2 xs3 (i 1) 384 256 128 640 _ _ rfl (rM_384 (i 1)) (rN_640 (i 1)) rfl (by decide) _ _ _ _ (by decide)) <|
    .cons (tok_a xs0 xs1 xs2 xs3 (i 1) 384 256 0 640 _ _ rfl (rM_384 (i 1)) (rN_640 (i 1)) rfl (by decide) _ _ _ _ (by decide)) <|
    .cons (tok_a xs0 xs1 xs2 xs3 (i 1) 384 224 128 608 _ _ rfl (rM_384 (i 1)) (rN_608 (i 1)) rfl (by decide) _ _ _ _ (by decide)) <|
    .cons (tok_a xs0 xs1 xs2 xs3 (i 1) 384 224 0 608 _ _ rfl (rM_384 (i 1)) (rN_608 (i 1)) rfl (by decide) _ _ _ _ (by decide)) <|
    .cons (tok_a xs0 xs1 xs2 xs3 (i 1) 384 192 128 576 _ _ rfl (rM_384 (i 1)) (rN_576 (i 1)) rfl (by decide) _ _ _ _ (by decide)) <|
    .cons (tok_a xs0 xs1 xs2 xs3 (i 1) 384 192 0 576 _ _ rfl (rM_384 (i 1)) (rN_576 (i 1)) rfl (by decide) _ _ _ _ (by decide)) <|
    .cons (tok_a xs0 xs1 xs2 xs3 (i 1) 384 160 128 544 _ _ rfl (rM_384 (i 1)) (rN_544 (i 1)) rfl (by decide) _ _ _ _ (by decide)) <|
    .cons (tok_a xs0 xs1 xs2 xs3 (i 1) 384 160 0 544 _ _ rfl (rM_384 (i 1)) (rN_544 (i 1)) rfl (by decide) _ _ _ _ (by decide)) <|
    .cons (tok_a xs0 xs1 xs2 xs3 (i 1) 384 128 128 512 _ _ rfl (rM_384 (i 1)) (rN_512 (i 1)) rfl (by decide) _ _ _ _ (by decide)) <|
    .cons (tok_a xs0 xs1 xs2 xs3 (i 1) 384 128 0 512 _ _ rfl (rM_384 (i 1)) (rN_512 (i 1)) rfl (by decide) _ _ _ _ (by decide)) <|
    .cons (tok_a xs0 xs1 xs2 xs3 (i 1) 384 96 128 480 _ _ rfl (rM_384 (i 1)) (rN_480 (i 1)) rfl (by decide) _ _ _ _ (by decide)) <|
    .cons (tok_a xs0 xs1 xs2 xs3 (i 1) 384 96 0 480 _ _ rfl (rM_384 (i 1)) (rN_480 (i 1)) rfl (by decide) _ _ _ _ (by decide)) <|
    .cons (tok_a xs0 xs1 xs2 xs3 (i 1) 384 64 128 448 _ _ rfl (rM_384 (i 1)) (rN_448 (i 1)) rfl (by decide) _ _ _ _ (by decide)) <|
    .cons (tok_a xs0 xs1 xs2 xs3 (i 1) 384 64 0 448 _ _ rfl (rM_384 (i 1)) (rN_448 (i 1)) rfl (by decide) _ _ _ _ (by decide)) <|
    .cons (tok_a xs0 xs1 xs2 xs3 (i 1) 384 32 128 416 _ _ rfl (rM_384 (i 1)) (rN_416 (i 1)) rfl (by decide) _ _ _ _ (by decide)) <|
    .cons (tok_a xs0 xs1 xs2 xs3 (i 1) 384 32 0 416 _ _ rfl (rM_384 (i 1)) (rN_416 (i 1)) rfl (by decide) _ _ _ _ (by decide)) <|
    .cons (tok_a xs0 xs1 xs2 xs3 (i 1) 384 0 128 384 _ _ rfl (rM_384 (i 1)) (rN_384 (i 1)) rfl (by decide) _ _ _ _ (by decide)) <|
    .cons (tok_a xs0 xs1 xs2 xs3 (i 1) 384 0 0 384 _ _ rfl (rM_384 (i 1)) (rN_384 (i 1)) rfl (by decide) _ _ _ _ (by decide)) <|
    .cons (tok_a xs0 xs1 xs2 xs3 (i 1) 0 352 128 352 _ _ rfl (rM_0 (i 1)) (rN_352 (i 1)) rfl (by decide) _ _ _ _ (by decide)) <|
    .cons (tok_a xs0 xs1 xs2 xs3 (i 1) 0 352 0 352 _ _ rfl (rM_0 (i 1)) (rN_352 (i 1)) rfl (by decide) _ _ _ _ (by decide)) <|
    .cons (tok_a xs0 xs1 xs2 xs3 (i 1) 0 320 128 320 _ _ rfl (rM_0 (i 1)) (rN_320 (i 1)) rfl (by decide) _ _ _ _ (by decide)) <|
    .cons (tok_a xs0 xs1 xs2 xs3 (i 1) 0 320 0 320 _ _ rfl (rM_0 (i 1)) (rN_320 (i 1)) rfl (by decide) _ _ _ _ (by decide)) <|
    .cons (tok_a xs0 xs1 xs2 xs3 (i 1) 0 288 128 288 _ _ rfl (rM_0 (i 1)) (rN_288 (i 1)) rfl (by decide) _ _ _ _ (by decide)) <|
    .cons (tok_a xs0 xs1 xs2 xs3 (i 1) 0 288 0 288 _ _ rfl (rM_0 (i 1)) (rN_288 (i 1)) rfl (by decide) _ _ _ _ (by decide)) <|
    .cons (tok_a xs0 xs1 xs2 xs3 (i 1) 0 256 128 256 _ _ rfl (rM_0 (i 1)) (rN_256 (i 1)) rfl (by decide) _ _ _ _ (by decide)) <|
    .cons (tok_a xs0 xs1 xs2 xs3 (i 1) 0 256 0 256 _ _ rfl (rM_0 (i 1)) (rN_256 (i 1)) rfl (by decide) _ _ _ _ (by decide)) <|
    .cons (tok_a xs0 xs1 xs2 xs3 (i 1) 0 224 128 224 _ _ rfl (rM_0 (i 1)) (rN_224 (i 1)) rfl (by decide) _ _ _ _ (by decide)) <|
    .cons (tok_a xs0 xs1 xs2 xs3 (i 1) 0 224 0 224 _ _ rfl (rM_0 (i 1)) (rN_224 (i 1)) rfl (by decide) _ _ _ _ (by decide)) <|
    .cons (tok_a xs0 xs1 xs2 xs3 (i 1) 0 192 128 192 _ _ rfl (rM_0 (i 1)) (rN_192 (i 1)) rfl (by decide) _ _ _ _ (by decide)) <|
    .cons (tok_a xs0 xs1 xs2 xs3 (i 1) 0 192 0 192 _ _ rfl (rM_0 (i 1)) (rN_192 (i 1)) rfl (by decide) _ _ _ _ (by decide)) <|
    .cons (tok_a xs0 xs1 xs2 xs3 (i 1) 0 160 128 160 _ _ rfl (rM_0 (i 1)) (rN_160 (i 1)) rfl (by decide) _ _ _ _ (by decide)) <|
    .cons (tok_a xs0 xs1 xs2 xs3 (i 1) 0 160 0 160 _ _ rfl (rM_0 (i 1)) (rN_160 (i 1)) rfl (by decide) _ _ _ _ (by decide)) <|
    .cons (tok_a xs0 xs1 xs2 xs3 (i 1) 0 128 128 128 _ _ rfl (rM_0 (i 1)) (rN_128 (i 1)) rfl (by decide) _ _ _ _ (by decide)) <|
    .cons (tok_a xs0 xs1 xs2 xs3 (i 1) 0 128 0 128 _ _ rfl (rM_0 (i 1)) (rN_128 (i 1)) rfl (by decide) _ _ _ _ (by decide)) <|
    .cons (tok_a xs0 xs1 xs2 xs3 (i 1) 0 96 128 96 _ _ rfl (rM_0 (i 1)) (rN_96 (i 1)) rfl (by decide) _ _ _ _ (by decide)) <|
    .cons (tok_a xs0 xs1 xs2 xs3 (i 1) 0 96 0 96 _ _ rfl (rM_0 (i 1)) (rN_96 (i 1)) rfl (by decide) _ _ _ _ (by decide)) <|
    .cons (tok_a xs0 xs1 xs2 xs3 (i 1) 0 64 128 64 _ _ rfl (rM_0 (i 1)) (rN_64 (i 1)) rfl (by decide) _ _ _ _ (by decide)) <|
    .cons (tok_a xs0 xs1 xs2 xs3 (i 1) 0 64 0 64 _ _ rfl (rM_0 (i 1)) (rN_64 (i 1)) rfl (by decide) _ _ _ _ (by decide)) <|
    .cons (tok_a xs0 xs1 xs2 xs3 (i 1) 0 32 128 32 _ _ rfl (rM_0 (i 1)) (rN_32 (i 1)) rfl (by decide) _ _ _ _ (by decide)) <|
    .cons (tok_a xs0 xs1 xs2 xs3 (i 1) 0 32 0 32 _ _ rfl (rM_0 (i 1)) (rN_32 (i 1)) rfl (by decide) _ _ _ _ (by decide)) <|
    .cons (tok_a xs0 xs1 xs2 xs3 (i 1) 0 0 128 0 _ _ rfl (rM_0 (i 1)) (rN_0 (i 1)) rfl (by decide) _ _ _ _ (by decide)) <|
    .cons (tok_a xs0 xs1 xs2 xs3 (i 1) 0 0 0 0 _ _ rfl (rM_0 (i 1)) (rN_0 (i 1)) rfl (by decide) _ _ _ _ (by decide)) <|
    .nil

/-- The activation stored, cast. -/
theorem runD_ab (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (e := .bf16) (tokT xs0 xs1 xs2 xs3 aV (i 1)) (0) 32 128) (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.1 QT := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (tok_ab xs0 xs1 xs2 xs3 (i 1) 768 352 128 1120 _ _ rfl (rM_768 (i 1)) (rN_1120 (i 1)) rfl (by decide) _ _ _ _ (by decide)) <|
    .cons (tok_ab xs0 xs1 xs2 xs3 (i 1) 768 352 0 1120 _ _ rfl (rM_768 (i 1)) (rN_1120 (i 1)) rfl (by decide) _ _ _ _ (by decide)) <|
    .cons (tok_ab xs0 xs1 xs2 xs3 (i 1) 768 320 128 1088 _ _ rfl (rM_768 (i 1)) (rN_1088 (i 1)) rfl (by decide) _ _ _ _ (by decide)) <|
    .cons (tok_ab xs0 xs1 xs2 xs3 (i 1) 768 320 0 1088 _ _ rfl (rM_768 (i 1)) (rN_1088 (i 1)) rfl (by decide) _ _ _ _ (by decide)) <|
    .cons (tok_ab xs0 xs1 xs2 xs3 (i 1) 768 288 128 1056 _ _ rfl (rM_768 (i 1)) (rN_1056 (i 1)) rfl (by decide) _ _ _ _ (by decide)) <|
    .cons (tok_ab xs0 xs1 xs2 xs3 (i 1) 768 288 0 1056 _ _ rfl (rM_768 (i 1)) (rN_1056 (i 1)) rfl (by decide) _ _ _ _ (by decide)) <|
    .cons (tok_ab xs0 xs1 xs2 xs3 (i 1) 768 256 128 1024 _ _ rfl (rM_768 (i 1)) (rN_1024 (i 1)) rfl (by decide) _ _ _ _ (by decide)) <|
    .cons (tok_ab xs0 xs1 xs2 xs3 (i 1) 768 256 0 1024 _ _ rfl (rM_768 (i 1)) (rN_1024 (i 1)) rfl (by decide) _ _ _ _ (by decide)) <|
    .cons (tok_ab xs0 xs1 xs2 xs3 (i 1) 768 224 128 992 _ _ rfl (rM_768 (i 1)) (rN_992 (i 1)) rfl (by decide) _ _ _ _ (by decide)) <|
    .cons (tok_ab xs0 xs1 xs2 xs3 (i 1) 768 224 0 992 _ _ rfl (rM_768 (i 1)) (rN_992 (i 1)) rfl (by decide) _ _ _ _ (by decide)) <|
    .cons (tok_ab xs0 xs1 xs2 xs3 (i 1) 768 192 128 960 _ _ rfl (rM_768 (i 1)) (rN_960 (i 1)) rfl (by decide) _ _ _ _ (by decide)) <|
    .cons (tok_ab xs0 xs1 xs2 xs3 (i 1) 768 192 0 960 _ _ rfl (rM_768 (i 1)) (rN_960 (i 1)) rfl (by decide) _ _ _ _ (by decide)) <|
    .cons (tok_ab xs0 xs1 xs2 xs3 (i 1) 768 160 128 928 _ _ rfl (rM_768 (i 1)) (rN_928 (i 1)) rfl (by decide) _ _ _ _ (by decide)) <|
    .cons (tok_ab xs0 xs1 xs2 xs3 (i 1) 768 160 0 928 _ _ rfl (rM_768 (i 1)) (rN_928 (i 1)) rfl (by decide) _ _ _ _ (by decide)) <|
    .cons (tok_ab xs0 xs1 xs2 xs3 (i 1) 768 128 128 896 _ _ rfl (rM_768 (i 1)) (rN_896 (i 1)) rfl (by decide) _ _ _ _ (by decide)) <|
    .cons (tok_ab xs0 xs1 xs2 xs3 (i 1) 768 128 0 896 _ _ rfl (rM_768 (i 1)) (rN_896 (i 1)) rfl (by decide) _ _ _ _ (by decide)) <|
    .cons (tok_ab xs0 xs1 xs2 xs3 (i 1) 768 96 128 864 _ _ rfl (rM_768 (i 1)) (rN_864 (i 1)) rfl (by decide) _ _ _ _ (by decide)) <|
    .cons (tok_ab xs0 xs1 xs2 xs3 (i 1) 768 96 0 864 _ _ rfl (rM_768 (i 1)) (rN_864 (i 1)) rfl (by decide) _ _ _ _ (by decide)) <|
    .cons (tok_ab xs0 xs1 xs2 xs3 (i 1) 768 64 128 832 _ _ rfl (rM_768 (i 1)) (rN_832 (i 1)) rfl (by decide) _ _ _ _ (by decide)) <|
    .cons (tok_ab xs0 xs1 xs2 xs3 (i 1) 768 64 0 832 _ _ rfl (rM_768 (i 1)) (rN_832 (i 1)) rfl (by decide) _ _ _ _ (by decide)) <|
    .cons (tok_ab xs0 xs1 xs2 xs3 (i 1) 768 32 128 800 _ _ rfl (rM_768 (i 1)) (rN_800 (i 1)) rfl (by decide) _ _ _ _ (by decide)) <|
    .cons (tok_ab xs0 xs1 xs2 xs3 (i 1) 768 32 0 800 _ _ rfl (rM_768 (i 1)) (rN_800 (i 1)) rfl (by decide) _ _ _ _ (by decide)) <|
    .cons (tok_ab xs0 xs1 xs2 xs3 (i 1) 768 0 128 768 _ _ rfl (rM_768 (i 1)) (rN_768 (i 1)) rfl (by decide) _ _ _ _ (by decide)) <|
    .cons (tok_ab xs0 xs1 xs2 xs3 (i 1) 768 0 0 768 _ _ rfl (rM_768 (i 1)) (rN_768 (i 1)) rfl (by decide) _ _ _ _ (by decide)) <|
    .cons (tok_ab xs0 xs1 xs2 xs3 (i 1) 384 352 128 736 _ _ rfl (rM_384 (i 1)) (rN_736 (i 1)) rfl (by decide) _ _ _ _ (by decide)) <|
    .cons (tok_ab xs0 xs1 xs2 xs3 (i 1) 384 352 0 736 _ _ rfl (rM_384 (i 1)) (rN_736 (i 1)) rfl (by decide) _ _ _ _ (by decide)) <|
    .cons (tok_ab xs0 xs1 xs2 xs3 (i 1) 384 320 128 704 _ _ rfl (rM_384 (i 1)) (rN_704 (i 1)) rfl (by decide) _ _ _ _ (by decide)) <|
    .cons (tok_ab xs0 xs1 xs2 xs3 (i 1) 384 320 0 704 _ _ rfl (rM_384 (i 1)) (rN_704 (i 1)) rfl (by decide) _ _ _ _ (by decide)) <|
    .cons (tok_ab xs0 xs1 xs2 xs3 (i 1) 384 288 128 672 _ _ rfl (rM_384 (i 1)) (rN_672 (i 1)) rfl (by decide) _ _ _ _ (by decide)) <|
    .cons (tok_ab xs0 xs1 xs2 xs3 (i 1) 384 288 0 672 _ _ rfl (rM_384 (i 1)) (rN_672 (i 1)) rfl (by decide) _ _ _ _ (by decide)) <|
    .cons (tok_ab xs0 xs1 xs2 xs3 (i 1) 384 256 128 640 _ _ rfl (rM_384 (i 1)) (rN_640 (i 1)) rfl (by decide) _ _ _ _ (by decide)) <|
    .cons (tok_ab xs0 xs1 xs2 xs3 (i 1) 384 256 0 640 _ _ rfl (rM_384 (i 1)) (rN_640 (i 1)) rfl (by decide) _ _ _ _ (by decide)) <|
    .cons (tok_ab xs0 xs1 xs2 xs3 (i 1) 384 224 128 608 _ _ rfl (rM_384 (i 1)) (rN_608 (i 1)) rfl (by decide) _ _ _ _ (by decide)) <|
    .cons (tok_ab xs0 xs1 xs2 xs3 (i 1) 384 224 0 608 _ _ rfl (rM_384 (i 1)) (rN_608 (i 1)) rfl (by decide) _ _ _ _ (by decide)) <|
    .cons (tok_ab xs0 xs1 xs2 xs3 (i 1) 384 192 128 576 _ _ rfl (rM_384 (i 1)) (rN_576 (i 1)) rfl (by decide) _ _ _ _ (by decide)) <|
    .cons (tok_ab xs0 xs1 xs2 xs3 (i 1) 384 192 0 576 _ _ rfl (rM_384 (i 1)) (rN_576 (i 1)) rfl (by decide) _ _ _ _ (by decide)) <|
    .cons (tok_ab xs0 xs1 xs2 xs3 (i 1) 384 160 128 544 _ _ rfl (rM_384 (i 1)) (rN_544 (i 1)) rfl (by decide) _ _ _ _ (by decide)) <|
    .cons (tok_ab xs0 xs1 xs2 xs3 (i 1) 384 160 0 544 _ _ rfl (rM_384 (i 1)) (rN_544 (i 1)) rfl (by decide) _ _ _ _ (by decide)) <|
    .cons (tok_ab xs0 xs1 xs2 xs3 (i 1) 384 128 128 512 _ _ rfl (rM_384 (i 1)) (rN_512 (i 1)) rfl (by decide) _ _ _ _ (by decide)) <|
    .cons (tok_ab xs0 xs1 xs2 xs3 (i 1) 384 128 0 512 _ _ rfl (rM_384 (i 1)) (rN_512 (i 1)) rfl (by decide) _ _ _ _ (by decide)) <|
    .cons (tok_ab xs0 xs1 xs2 xs3 (i 1) 384 96 128 480 _ _ rfl (rM_384 (i 1)) (rN_480 (i 1)) rfl (by decide) _ _ _ _ (by decide)) <|
    .cons (tok_ab xs0 xs1 xs2 xs3 (i 1) 384 96 0 480 _ _ rfl (rM_384 (i 1)) (rN_480 (i 1)) rfl (by decide) _ _ _ _ (by decide)) <|
    .cons (tok_ab xs0 xs1 xs2 xs3 (i 1) 384 64 128 448 _ _ rfl (rM_384 (i 1)) (rN_448 (i 1)) rfl (by decide) _ _ _ _ (by decide)) <|
    .cons (tok_ab xs0 xs1 xs2 xs3 (i 1) 384 64 0 448 _ _ rfl (rM_384 (i 1)) (rN_448 (i 1)) rfl (by decide) _ _ _ _ (by decide)) <|
    .cons (tok_ab xs0 xs1 xs2 xs3 (i 1) 384 32 128 416 _ _ rfl (rM_384 (i 1)) (rN_416 (i 1)) rfl (by decide) _ _ _ _ (by decide)) <|
    .cons (tok_ab xs0 xs1 xs2 xs3 (i 1) 384 32 0 416 _ _ rfl (rM_384 (i 1)) (rN_416 (i 1)) rfl (by decide) _ _ _ _ (by decide)) <|
    .cons (tok_ab xs0 xs1 xs2 xs3 (i 1) 384 0 128 384 _ _ rfl (rM_384 (i 1)) (rN_384 (i 1)) rfl (by decide) _ _ _ _ (by decide)) <|
    .cons (tok_ab xs0 xs1 xs2 xs3 (i 1) 384 0 0 384 _ _ rfl (rM_384 (i 1)) (rN_384 (i 1)) rfl (by decide) _ _ _ _ (by decide)) <|
    .cons (tok_ab xs0 xs1 xs2 xs3 (i 1) 0 352 128 352 _ _ rfl (rM_0 (i 1)) (rN_352 (i 1)) rfl (by decide) _ _ _ _ (by decide)) <|
    .cons (tok_ab xs0 xs1 xs2 xs3 (i 1) 0 352 0 352 _ _ rfl (rM_0 (i 1)) (rN_352 (i 1)) rfl (by decide) _ _ _ _ (by decide)) <|
    .cons (tok_ab xs0 xs1 xs2 xs3 (i 1) 0 320 128 320 _ _ rfl (rM_0 (i 1)) (rN_320 (i 1)) rfl (by decide) _ _ _ _ (by decide)) <|
    .cons (tok_ab xs0 xs1 xs2 xs3 (i 1) 0 320 0 320 _ _ rfl (rM_0 (i 1)) (rN_320 (i 1)) rfl (by decide) _ _ _ _ (by decide)) <|
    .cons (tok_ab xs0 xs1 xs2 xs3 (i 1) 0 288 128 288 _ _ rfl (rM_0 (i 1)) (rN_288 (i 1)) rfl (by decide) _ _ _ _ (by decide)) <|
    .cons (tok_ab xs0 xs1 xs2 xs3 (i 1) 0 288 0 288 _ _ rfl (rM_0 (i 1)) (rN_288 (i 1)) rfl (by decide) _ _ _ _ (by decide)) <|
    .cons (tok_ab xs0 xs1 xs2 xs3 (i 1) 0 256 128 256 _ _ rfl (rM_0 (i 1)) (rN_256 (i 1)) rfl (by decide) _ _ _ _ (by decide)) <|
    .cons (tok_ab xs0 xs1 xs2 xs3 (i 1) 0 256 0 256 _ _ rfl (rM_0 (i 1)) (rN_256 (i 1)) rfl (by decide) _ _ _ _ (by decide)) <|
    .cons (tok_ab xs0 xs1 xs2 xs3 (i 1) 0 224 128 224 _ _ rfl (rM_0 (i 1)) (rN_224 (i 1)) rfl (by decide) _ _ _ _ (by decide)) <|
    .cons (tok_ab xs0 xs1 xs2 xs3 (i 1) 0 224 0 224 _ _ rfl (rM_0 (i 1)) (rN_224 (i 1)) rfl (by decide) _ _ _ _ (by decide)) <|
    .cons (tok_ab xs0 xs1 xs2 xs3 (i 1) 0 192 128 192 _ _ rfl (rM_0 (i 1)) (rN_192 (i 1)) rfl (by decide) _ _ _ _ (by decide)) <|
    .cons (tok_ab xs0 xs1 xs2 xs3 (i 1) 0 192 0 192 _ _ rfl (rM_0 (i 1)) (rN_192 (i 1)) rfl (by decide) _ _ _ _ (by decide)) <|
    .cons (tok_ab xs0 xs1 xs2 xs3 (i 1) 0 160 128 160 _ _ rfl (rM_0 (i 1)) (rN_160 (i 1)) rfl (by decide) _ _ _ _ (by decide)) <|
    .cons (tok_ab xs0 xs1 xs2 xs3 (i 1) 0 160 0 160 _ _ rfl (rM_0 (i 1)) (rN_160 (i 1)) rfl (by decide) _ _ _ _ (by decide)) <|
    .cons (tok_ab xs0 xs1 xs2 xs3 (i 1) 0 128 128 128 _ _ rfl (rM_0 (i 1)) (rN_128 (i 1)) rfl (by decide) _ _ _ _ (by decide)) <|
    .cons (tok_ab xs0 xs1 xs2 xs3 (i 1) 0 128 0 128 _ _ rfl (rM_0 (i 1)) (rN_128 (i 1)) rfl (by decide) _ _ _ _ (by decide)) <|
    .cons (tok_ab xs0 xs1 xs2 xs3 (i 1) 0 96 128 96 _ _ rfl (rM_0 (i 1)) (rN_96 (i 1)) rfl (by decide) _ _ _ _ (by decide)) <|
    .cons (tok_ab xs0 xs1 xs2 xs3 (i 1) 0 96 0 96 _ _ rfl (rM_0 (i 1)) (rN_96 (i 1)) rfl (by decide) _ _ _ _ (by decide)) <|
    .cons (tok_ab xs0 xs1 xs2 xs3 (i 1) 0 64 128 64 _ _ rfl (rM_0 (i 1)) (rN_64 (i 1)) rfl (by decide) _ _ _ _ (by decide)) <|
    .cons (tok_ab xs0 xs1 xs2 xs3 (i 1) 0 64 0 64 _ _ rfl (rM_0 (i 1)) (rN_64 (i 1)) rfl (by decide) _ _ _ _ (by decide)) <|
    .cons (tok_ab xs0 xs1 xs2 xs3 (i 1) 0 32 128 32 _ _ rfl (rM_0 (i 1)) (rN_32 (i 1)) rfl (by decide) _ _ _ _ (by decide)) <|
    .cons (tok_ab xs0 xs1 xs2 xs3 (i 1) 0 32 0 32 _ _ rfl (rM_0 (i 1)) (rN_32 (i 1)) rfl (by decide) _ _ _ _ (by decide)) <|
    .cons (tok_ab xs0 xs1 xs2 xs3 (i 1) 0 0 128 0 _ _ rfl (rM_0 (i 1)) (rN_0 (i 1)) rfl (by decide) _ _ _ _ (by decide)) <|
    .cons (tok_ab xs0 xs1 xs2 xs3 (i 1) 0 0 0 0 _ _ rfl (rM_0 (i 1)) (rN_0 (i 1)) rfl (by decide) _ _ _ _ (by decide)) <|
    .nil

end Cert.FwdIdeal.Gen

end
-- ==== Proof.FwdIdeal.CaseD3.lean ====
/-
  What the points of the even rows past the first leave, as lists of tiles of the tables.
-/
module

public import proofs.«01_k».proof.Proof.FwdIdeal.RunD
public import proofs.«01_k».proof.Proof.FwdIdeal.Orders
public import proofs.«01_k».proof.Proof.FwdIdeal.CaseD2

@[expose] public section

set_option maxRecDepth 16384

noncomputable section

namespace Cert.FwdIdeal.Gen

open Idealize.ShloMosaic hiding ix2
open Idealize.ShloMosaic.TcCoe Idealize.SL.Sem Cert.FwdIdeal Cert.FwdIdeal.Tile
open Idealize.ShloMosaic.ValueIdx

/-- The activation stored turned. -/
theorem runD_at (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (e := .bf16) (turnT (tokT xs0 xs1 xs2 xs3 aV (i 1))) 0 256 384) (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.1 QAT := by
  have hab := runD_ab c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5
  have cov768 : ∀ z0 z1, 768 ≤ z0 → z0 < 768 + 384 → z1 < 256 → ∃ q ∈ QT.drop 0, (q.1 ≤ z0 ∧ z0 < q.1 + 32) ∧ (q.2 ≤ z1 ∧ z1 < q.2 + 128) := fun z0 z1 _ h0 h1 =>
    grid_cover 32 128 36 2 (by decide) (by decide) (by decide) z0 z1 (by omega) (by omega)
  have cov384 : ∀ z0 z1, 384 ≤ z0 → z0 < 384 + 384 → z1 < 256 → ∃ q ∈ QT.drop 24, (q.1 ≤ z0 ∧ z0 < q.1 + 32) ∧ (q.2 ≤ z1 ∧ z1 < q.2 + 128) := fun z0 z1 _ h0 h1 =>
    grid_cover 32 128 24 2 (by decide) (by decide) (by decide) z0 z1 (by omega) (by omega)
  have cov0 : ∀ z0 z1, 0 ≤ z0 → z0 < 0 + 384 → z1 < 256 → ∃ q ∈ QT.drop 48, (q.1 ≤ z0 ∧ z0 < q.1 + 32) ∧ (q.2 ≤ z1 ∧ z1 < q.2 + 128) := fun z0 z1 _ h0 h1 =>
    grid_cover 32 128 12 2 (by decide) (by decide) (by decide) z0 z1 (by omega) (by omega)
  revert hab
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  intro hab
  exact
    .cons (turn_piece arg16.view (tokT xs0 xs1 xs2 xs3 aV (i 1)) (List.forall₂_drop 0 hab) 768 (by decide) cov768 _ _ _ _) <|
    .cons (turn_piece arg16.view (tokT xs0 xs1 xs2 xs3 aV (i 1)) (List.forall₂_drop 24 hab) 384 (by decide) cov384 _ _ _ _) <|
    .cons (turn_piece arg16.view (tokT xs0 xs1 xs2 xs3 aV (i 1)) (List.forall₂_drop 48 hab) 0 (by decide) cov0 _ _ _ _) <|
    .nil

end Cert.FwdIdeal.Gen

end
-- ==== Proof.FwdIdeal.CaseD4.lean ====
/-
  What the points of the even rows past the first leave, as lists of tiles of the tables.
-/
module

public import proofs.«01_k».proof.Proof.FwdIdeal.RunD
public import proofs.«01_k».proof.Proof.FwdIdeal.Orders

@[expose] public section

set_option maxRecDepth 16384

noncomputable section

namespace Cert.FwdIdeal.Gen

open Idealize.ShloMosaic hiding ix2
open Idealize.ShloMosaic.TcCoe Idealize.SL.Sem Cert.FwdIdeal Cert.FwdIdeal.Tile
open Idealize.ShloMosaic.ValueIdx

/-- The down weights stored. -/
theorem runD_wd (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) (hf : 0 < (i 0).val) :
    List.Forall₂ (Is (e := .bf16) (wdT x8 x9 x10 (2 * ((i 0).val - 1))) (0) 32 128) (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.2.1 QD := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  have hk : 2 * ((i 0).val - 1) + 1 < 34 := by have : (i 0).val < 18 := (i 0).isLt; omega
  exact
    .cons (wdB x8 x9 x10 _ _ (wK_1 (i 0) hf) hk 480 (by decide) _ _ _) <|
    .cons (wdA x8 x9 x10 _ _ (wK_0 (i 0) hf) hk 480 (by decide) _ _ _) <|
    .cons (wdB x8 x9 x10 _ _ (wK_1 (i 0) hf) hk 448 (by decide) _ _ _) <|
    .cons (wdA x8 x9 x10 _ _ (wK_0 (i 0) hf) hk 448 (by decide) _ _ _) <|
    .cons (wdB x8 x9 x10 _ _ (wK_1 (i 0) hf) hk 416 (by decide) _ _ _) <|
    .cons (wdA x8 x9 x10 _ _ (wK_0 (i 0) hf) hk 416 (by decide) _ _ _) <|
    .cons (wdB x8 x9 x10 _ _ (wK_1 (i 0) hf) hk 384 (by decide) _ _ _) <|
    .cons (wdA x8 x9 x10 _ _ (wK_0 (i 0) hf) hk 384 (by decide) _ _ _) <|
    .cons (wdB x8 x9 x10 _ _ (wK_1 (i 0) hf) hk 352 (by decide) _ _ _) <|
    .cons (wdA x8 x9 x10 _ _ (wK_0 (i 0) hf) hk 352 (by decide) _ _ _) <|
    .cons (wdB x8 x9 x10 _ _ (wK_1 (i 0) hf) hk 320 (by decide) _ _ _) <|
    .cons (wdA x8 x9 x10 _ _ (wK_0 (i 0) hf) hk 320 (by decide) _ _ _) <|
    .cons (wdB x8 x9 x10 _ _ (wK_1 (i 0) hf) hk 288 (by decide) _ _ _) <|
    .cons (wdA x8 x9 x10 _ _ (wK_0 (i 0) hf) hk 288 (by decide) _ _ _) <|
    .cons (wdB x8 x9 x10 _ _ (wK_1 (i 0) hf) hk 256 (by decide) _ _ _) <|
    .cons (wdA x8 x9 x10 _ _ (wK_0 (i 0) hf) hk 256 (by decide) _ _ _) <|
    .cons (wdB x8 x9 x10 _ _ (wK_1 (i 0) hf) hk 224 (by decide) _ _ _) <|
    .cons (wdA x8 x9 x10 _ _ (wK_0 (i 0) hf) hk 224 (by decide) _ _ _) <|
    .cons (wdB x8 x9 x10 _ _ (wK_1 (i 0) hf) hk 192 (by decide) _ _ _) <|
    .cons (wdA x8 x9 x10 _ _ (wK_0 (i 0) hf) hk 192 (by decide) _ _ _) <|
    .cons (wdB x8 x9 x10 _ _ (wK_1 (i 0) hf) hk 160 (by decide) _ _ _) <|
    .cons (wdA x8 x9 x10 _ _ (wK_0 (i 0) hf) hk 160 (by decide) _ _ _) <|
    .cons (wdB x8 x9 x10 _ _ (wK_1 (i 0) hf) hk 128 (by decide) _ _ _) <|
    .cons (wdA x8 x9 x10 _ _ (wK_0 (i 0) hf) hk 128 (by decide) _ _ _) <|
    .cons (wdB x8 x9 x10 _ _ (wK_1 (i 0) hf) hk 96 (by decide) _ _ _) <|
    .cons (wdA x8 x9 x10 _ _ (wK_0 (i 0) hf) hk 96 (by decide) _ _ _) <|
    .cons (wdB x8 x9 x10 _ _ (wK_1 (i 0) hf) hk 64 (by decide) _ _ _) <|
    .cons (wdA x8 x9 x10 _ _ (wK_0 (i 0) hf) hk 64 (by decide) _ _ _) <|
    .cons (wdB x8 x9 x10 _ _ (wK_1 (i 0) hf) hk 32 (by decide) _ _ _) <|
    .cons (wdA x8 x9 x10 _ _ (wK_0 (i 0) hf) hk 32 (by decide) _ _ _) <|
    .cons (wdB x8 x9 x10 _ _ (wK_1 (i 0) hf) hk 0 (by decide) _ _ _) <|
    .cons (wdA x8 x9 x10 _ _ (wK_0 (i 0) hf) hk 0 (by decide) _ _ _) <|
    .nil

/-- The gate regularisers stored. -/
theorem runD_rg (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (rT x4) (0) 32 16) (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.2.2.1 QR := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (rowR x4 32 32 rfl (by decide) _ _ _ _ _ _ _ _ _ _ _ _ _ _ _ _ _ _) <|
    .cons (rowR x4 0 0 rfl (by decide) _ _ _ _ _ _ _ _ _ _ _ _ _ _ _ _ _ _) <|
    .nil

/-- The up regularisers stored. -/
theorem runD_ru (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    List.Forall₂ (Is (rT x7) (0) 32 16) (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.2.2.2.1 QR := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  exact
    .cons (rowR x7 32 32 rfl (by decide) _ _ _ _ _ _ _ _ _ _ _ _ _ _ _ _ _ _) <|
    .cons (rowR x7 0 0 rfl (by decide) _ _ _ _ _ _ _ _ _ _ _ _ _ _ _ _ _ _) <|
    .nil

/-- The down regularisers stored. -/
theorem runD_rd (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) (hf : 0 < (i 0).val) :
    ∃ L, List.Forall₂ (Is (e := .f32) (rdT x10 (2 * ((i 0).val - 1)) x19 (i 1)) (512 * (i 1).val) 32 34) L QRD ∧ (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.2.2.2.2.1 = arg21.view.writes (Elt Ideal) (harg21.unread x19) L := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  refine ⟨_, ?_, rfl⟩
  have hk : 2 * ((i 0).val - 1) + 1 < 34 := by have : (i 0).val < 18 := (i 0).isLt; omega
  exact
    .cons (rd_piece x10 _ x19 (i 1) _ _ (wK_0 (i 0) hf) (wK_1 (i 0) hf) hk _ 480 (r512_480 (i 1)) (by decide) _ _ _ _) <|
    .cons (rd_piece x10 _ x19 (i 1) _ _ (wK_0 (i 0) hf) (wK_1 (i 0) hf) hk _ 448 (r512_448 (i 1)) (by decide) _ _ _ _) <|
    .cons (rd_piece x10 _ x19 (i 1) _ _ (wK_0 (i 0) hf) (wK_1 (i 0) hf) hk _ 416 (r512_416 (i 1)) (by decide) _ _ _ _) <|
    .cons (rd_piece x10 _ x19 (i 1) _ _ (wK_0 (i 0) hf) (wK_1 (i 0) hf) hk _ 384 (r512_384 (i 1)) (by decide) _ _ _ _) <|
    .cons (rd_piece x10 _ x19 (i 1) _ _ (wK_0 (i 0) hf) (wK_1 (i 0) hf) hk _ 352 (r512_352 (i 1)) (by decide) _ _ _ _) <|
    .cons (rd_piece x10 _ x19 (i 1) _ _ (wK_0 (i 0) hf) (wK_1 (i 0) hf) hk _ 320 (r512_320 (i 1)) (by decide) _ _ _ _) <|
    .cons (rd_piece x10 _ x19 (i 1) _ _ (wK_0 (i 0) hf) (wK_1 (i 0) hf) hk _ 288 (r512_288 (i 1)) (by decide) _ _ _ _) <|
    .cons (rd_piece x10 _ x19 (i 1) _ _ (wK_0 (i 0) hf) (wK_1 (i 0) hf) hk _ 256 (r512_256 (i 1)) (by decide) _ _ _ _) <|
    .cons (rd_piece x10 _ x19 (i 1) _ _ (wK_0 (i 0) hf) (wK_1 (i 0) hf) hk _ 224 (r512_224 (i 1)) (by decide) _ _ _ _) <|
    .cons (rd_piece x10 _ x19 (i 1) _ _ (wK_0 (i 0) hf) (wK_1 (i 0) hf) hk _ 192 (r512_192 (i 1)) (by decide) _ _ _ _) <|
    .cons (rd_piece x10 _ x19 (i 1) _ _ (wK_0 (i 0) hf) (wK_1 (i 0) hf) hk _ 160 (r512_160 (i 1)) (by decide) _ _ _ _) <|
    .cons (rd_piece x10 _ x19 (i 1) _ _ (wK_0 (i 0) hf) (wK_1 (i 0) hf) hk _ 128 (r512_128 (i 1)) (by decide) _ _ _ _) <|
    .cons (rd_piece x10 _ x19 (i 1) _ _ (wK_0 (i 0) hf) (wK_1 (i 0) hf) hk _ 96 (r512_96 (i 1)) (by decide) _ _ _ _) <|
    .cons (rd_piece x10 _ x19 (i 1) _ _ (wK_0 (i 0) hf) (wK_1 (i 0) hf) hk _ 64 (r512_64 (i 1)) (by decide) _ _ _ _) <|
    .cons (rd_piece x10 _ x19 (i 1) _ _ (wK_0 (i 0) hf) (wK_1 (i 0) hf) hk _ 32 (r512_32 (i 1)) (by decide) _ _ _ _) <|
    .cons (rd_piece x10 _ x19 (i 1) _ _ (wK_0 (i 0) hf) (wK_1 (i 0) hf) hk _ 0 (r512_0 (i 1)) (by decide) _ _ _ _) <|
    .nil

end Cert.FwdIdeal.Gen

end
-- ==== Proof.FwdIdeal.CaseD5.lean ====
/-
  What the points of the even rows past the first leave, as lists of tiles of the tables.
-/
module

public import proofs.«01_k».proof.Proof.FwdIdeal.RunD
public import proofs.«01_k».proof.Proof.FwdIdeal.Orders

@[expose] public section

set_option maxRecDepth 16384

noncomputable section

namespace Cert.FwdIdeal.Gen

open Idealize.ShloMosaic hiding ix2
open Idealize.ShloMosaic.TcCoe Idealize.SL.Sem Cert.FwdIdeal Cert.FwdIdeal.Tile
open Idealize.ShloMosaic.ValueIdx

/-- The gate weights stored. -/
theorem runD_wg (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    ∃ L, List.Forall₂ (Is (wT x2 x3 x4) (64 * (i 1).val) 32 128) L QW ∧ (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.2.2.2.2.2.1 = arg26.view.writes (Elt Ideal) (harg26.unread xs4) L := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  refine ⟨_, ?_, rfl⟩
  exact
    .cons (wB (g := 7) x2 x3 x4 896 15 1920 (r64_32 (i 1)) (by decide) rfl rfl rfl (by decide) _ _ _ _ (by decide) _) <|
    .cons (wA (g := 7) x2 x3 x4 896 14 1792 (r64_32 (i 1)) (by decide) rfl rfl rfl (by decide) _ _ _ _ (by decide) _) <|
    .cons (wB (g := 6) x2 x3 x4 768 13 1664 (r64_32 (i 1)) (by decide) rfl rfl rfl (by decide) _ _ _ _ (by decide) _) <|
    .cons (wA (g := 6) x2 x3 x4 768 12 1536 (r64_32 (i 1)) (by decide) rfl rfl rfl (by decide) _ _ _ _ (by decide) _) <|
    .cons (wB (g := 5) x2 x3 x4 640 11 1408 (r64_32 (i 1)) (by decide) rfl rfl rfl (by decide) _ _ _ _ (by decide) _) <|
    .cons (wA (g := 5) x2 x3 x4 640 10 1280 (r64_32 (i 1)) (by decide) rfl rfl rfl (by decide) _ _ _ _ (by decide) _) <|
    .cons (wB (g := 4) x2 x3 x4 512 9 1152 (r64_32 (i 1)) (by decide) rfl rfl rfl (by decide) _ _ _ _ (by decide) _) <|
    .cons (wA (g := 4) x2 x3 x4 512 8 1024 (r64_32 (i 1)) (by decide) rfl rfl rfl (by decide) _ _ _ _ (by decide) _) <|
    .cons (wB (g := 3) x2 x3 x4 384 7 896 (r64_32 (i 1)) (by decide) rfl rfl rfl (by decide) _ _ _ _ (by decide) _) <|
    .cons (wA (g := 3) x2 x3 x4 384 6 768 (r64_32 (i 1)) (by decide) rfl rfl rfl (by decide) _ _ _ _ (by decide) _) <|
    .cons (wB (g := 2) x2 x3 x4 256 5 640 (r64_32 (i 1)) (by decide) rfl rfl rfl (by decide) _ _ _ _ (by decide) _) <|
    .cons (wA (g := 2) x2 x3 x4 256 4 512 (r64_32 (i 1)) (by decide) rfl rfl rfl (by decide) _ _ _ _ (by decide) _) <|
    .cons (wB (g := 1) x2 x3 x4 128 3 384 (r64_32 (i 1)) (by decide) rfl rfl rfl (by decide) _ _ _ _ (by decide) _) <|
    .cons (wA (g := 1) x2 x3 x4 128 2 256 (r64_32 (i 1)) (by decide) rfl rfl rfl (by decide) _ _ _ _ (by decide) _) <|
    .cons (wB (g := 0) x2 x3 x4 0 1 128 (r64_32 (i 1)) (by decide) rfl rfl rfl (by decide) _ _ _ _ (by decide) _) <|
    .cons (wA (g := 0) x2 x3 x4 0 0 0 (r64_32 (i 1)) (by decide) rfl rfl rfl (by decide) _ _ _ _ (by decide) _) <|
    .cons (wB (g := 7) x2 x3 x4 896 15 1920 (r64_0 (i 1)) (by decide) rfl rfl rfl (by decide) _ _ _ _ (by decide) _) <|
    .cons (wA (g := 7) x2 x3 x4 896 14 1792 (r64_0 (i 1)) (by decide) rfl rfl rfl (by decide) _ _ _ _ (by decide) _) <|
    .cons (wB (g := 6) x2 x3 x4 768 13 1664 (r64_0 (i 1)) (by decide) rfl rfl rfl (by decide) _ _ _ _ (by decide) _) <|
    .cons (wA (g := 6) x2 x3 x4 768 12 1536 (r64_0 (i 1)) (by decide) rfl rfl rfl (by decide) _ _ _ _ (by decide) _) <|
    .cons (wB (g := 5) x2 x3 x4 640 11 1408 (r64_0 (i 1)) (by decide) rfl rfl rfl (by decide) _ _ _ _ (by decide) _) <|
    .cons (wA (g := 5) x2 x3 x4 640 10 1280 (r64_0 (i 1)) (by decide) rfl rfl rfl (by decide) _ _ _ _ (by decide) _) <|
    .cons (wB (g := 4) x2 x3 x4 512 9 1152 (r64_0 (i 1)) (by decide) rfl rfl rfl (by decide) _ _ _ _ (by decide) _) <|
    .cons (wA (g := 4) x2 x3 x4 512 8 1024 (r64_0 (i 1)) (by decide) rfl rfl rfl (by decide) _ _ _ _ (by decide) _) <|
    .cons (wB (g := 3) x2 x3 x4 384 7 896 (r64_0 (i 1)) (by decide) rfl rfl rfl (by decide) _ _ _ _ (by decide) _) <|
    .cons (wA (g := 3) x2 x3 x4 384 6 768 (r64_0 (i 1)) (by decide) rfl rfl rfl (by decide) _ _ _ _ (by decide) _) <|
    .cons (wB (g := 2) x2 x3 x4 256 5 640 (r64_0 (i 1)) (by decide) rfl rfl rfl (by decide) _ _ _ _ (by decide) _) <|
    .cons (wA (g := 2) x2 x3 x4 256 4 512 (r64_0 (i 1)) (by decide) rfl rfl rfl (by decide) _ _ _ _ (by decide) _) <|
    .cons (wB (g := 1) x2 x3 x4 128 3 384 (r64_0 (i 1)) (by decide) rfl rfl rfl (by decide) _ _ _ _ (by decide) _) <|
    .cons (wA (g := 1) x2 x3 x4 128 2 256 (r64_0 (i 1)) (by decide) rfl rfl rfl (by decide) _ _ _ _ (by decide) _) <|
    .cons (wB (g := 0) x2 x3 x4 0 1 128 (r64_0 (i 1)) (by decide) rfl rfl rfl (by decide) _ _ _ _ (by decide) _) <|
    .cons (wA (g := 0) x2 x3 x4 0 0 0 (r64_0 (i 1)) (by decide) rfl rfl rfl (by decide) _ _ _ _ (by decide) _) <|
    .nil

/-- The up weights stored. -/
theorem runD_wu (c : Dev nD) (i : grid0.Coords) (arg2 : Memref sig .tc .vmem S1152x2048 .fp8e4m3) (harg2 : arg2.IsWhole) (arg3 : Memref sig .tc .vmem S6x768 .f32) (harg3 : arg3.IsWhole) (arg4 : Memref sig .tc .vmem S64x1024 .i8) (harg4 : arg4.IsWhole) (arg5 : Memref sig .tc .vmem S64x16 .f32) (harg5 : arg5.IsWhole) (arg6 : Memref sig .tc .vmem S64x2048 .bf16) (harg6 : arg6.IsWhole) (arg7 : Memref sig .tc .vmem S64x1024 .i8) (harg7 : arg7.IsWhole) (arg8 : Memref sig .tc .vmem S64x16 .f32) (harg8 : arg8.IsWhole) (arg9 : Memref sig .tc .vmem S64x2048 .bf16) (harg9 : arg9.IsWhole) (arg10 : Memref sig .tc .vmem S512x128 .i8) (harg10 : arg10.IsWhole) (arg11 : Memref sig .tc .vmem S512x34 .f32) (harg11 : arg11.IsWhole) (arg12 : Memref sig .tc .vmem S512x256 .bf16) (harg12 : arg12.IsWhole) (arg13 : Memref sig .tc .vmem S1152x256 .f32) (harg13 : arg13.IsWhole) (arg14 : Memref sig .tc .vmem S1152x256 .f32) (harg14 : arg14.IsWhole) (arg15 : Memref sig .tc .vmem S1152x256 .f32) (harg15 : arg15.IsWhole) (arg16 : Memref sig .tc .vmem S1152x256 .bf16) (harg16 : arg16.IsWhole) (arg17 : Memref sig .tc .vmem S256x1152 .bf16) (harg17 : arg17.IsWhole) (arg18 : Memref sig .tc .vmem S512x256 .bf16) (harg18 : arg18.IsWhole) (arg19 : Memref sig .tc .vmem S64x16 .f32) (harg19 : arg19.IsWhole) (arg20 : Memref sig .tc .vmem S64x16 .f32) (harg20 : arg20.IsWhole) (arg21 : Memref sig .tc .vmem S2048x34 .f32) (harg21 : arg21.IsWhole) (arg22 : Memref sig .tc .vmem S4608x2048 .bf16) (harg22 : arg22.IsWhole) (arg23 : Memref sig .tc .vmem S4608x128 .f32) (harg23 : arg23.IsWhole) (arg24 : Memref sig .tc .vmem S256x2048 .bf16) (harg24 : arg24.IsWhole) (arg25 : Memref sig .tc .vmem S256x2048 .bf16) (harg25 : arg25.IsWhole) (arg26 : Memref sig .tc .vmem S256x2048 .bf16) (harg26 : arg26.IsWhole) (arg27 : Memref sig .tc .vmem S256x2048 .bf16) (harg27 : arg27.IsWhole) (hc0 : ¬cond0_0 i) (hc1 : ¬cond0_1 i) (hc2 : cond0_2 i) (hc3 : ¬cond0_3 i) (x0 : Vec Ideal S1152x2048 .fp8e4m3) (x1 : Vec Ideal S6x768 .f32) (x2 : Vec Ideal S64x1024 .i8) (x3 : Vec Ideal S64x16 .f32) (x4 : Vec Ideal S64x2048 .bf16) (x5 : Vec Ideal S64x1024 .i8) (x6 : Vec Ideal S64x16 .f32) (x7 : Vec Ideal S64x2048 .bf16) (x8 : Vec Ideal S512x128 .i8) (x9 : Vec Ideal S512x34 .f32) (x10 : Vec Ideal S512x256 .bf16) (x19 : Vec Ideal S2048x34 .f32) (xs0 : Vec Ideal S4608x2048 .bf16) (xs1 : Vec Ideal S4608x128 .f32) (xs2 : Vec Ideal S256x2048 .bf16) (xs3 : Vec Ideal S256x2048 .bf16) (xs4 : Vec Ideal S256x2048 .bf16) (xs5 : Vec Ideal S256x2048 .bf16) :
    ∃ L, List.Forall₂ (Is (wT x5 x6 x7) (64 * (i 1).val) 32 128) L QW ∧ (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x19 xs0 xs1 xs2 xs3 xs4 xs5).2.2.2.2.2.2.2.2.2.2.1 = arg27.view.writes (Elt Ideal) (harg27.unread xs5) L := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  refine ⟨_, ?_, rfl⟩
  exact
    .cons (wB (g := 7) x5 x6 x7 896 15 1920 (r64_32 (i 1)) (by decide) rfl rfl rfl (by decide) _ _ _ _ (by decide) _) <|
    .cons (wA (g := 7) x5 x6 x7 896 14 1792 (r64_32 (i 1)) (by decide) rfl rfl rfl (by decide) _ _ _ _ (by decide) _) <|
    .cons (wB (g := 6) x5 x6 x7 768 13 1664 (r64_32 (i 1)) (by decide) rfl rfl rfl (by decide) _ _ _ _ (by decide) _) <|
    .cons (wA (g := 6) x5 x6 x7 768 12 1536 (r64_32 (i 1)) (by decide) rfl rfl rfl (by decide) _ _ _ _ (by decide) _) <|
    .cons (wB (g := 5) x5 x6 x7 640 11 1408 (r64_32 (i 1)) (by decide) rfl rfl rfl (by decide) _ _ _ _ (by decide) _) <|
    .cons (wA (g := 5) x5 x6 x7 640 10 1280 (r64_32 (i 1)) (by decide) rfl rfl rfl (by decide) _ _ _ _ (by decide) _) <|
    .cons (wB (g := 4) x5 x6 x7 512 9 1152 (r64_32 (i 1)) (by decide) rfl rfl rfl (by decide) _ _ _ _ (by decide) _) <|
    .cons (wA (g := 4) x5 x6 x7 512 8 1024 (r64_32 (i 1)) (by decide) rfl rfl rfl (by decide) _ _ _ _ (by decide) _) <|
    .cons (wB (g := 3) x5 x6 x7 384 7 896 (r64_32 (i 1)) (by decide) rfl rfl rfl (by decide) _ _ _ _ (by decide) _) <|
    .cons (wA (g := 3) x5 x6 x7 384 6 768 (r64_32 (i 1)) (by decide) rfl rfl rfl (by decide) _ _ _ _ (by decide) _) <|
    .cons (wB (g := 2) x5 x6 x7 256 5 640 (r64_32 (i 1)) (by decide) rfl rfl rfl (by decide) _ _ _ _ (by decide) _) <|
    .cons (wA (g := 2) x5 x6 x7 256 4 512 (r64_32 (i 1)) (by decide) rfl rfl rfl (by decide) _ _ _ _ (by decide) _) <|
    .cons (wB (g := 1) x5 x6 x7 128 3 384 (r64_32 (i 1)) (by decide) rfl rfl rfl (by decide) _ _ _ _ (by decide) _) <|
    .cons (wA (g := 1) x5 x6 x7 128 2 256 (r64_32 (i 1)) (by decide) rfl rfl rfl (by decide) _ _ _ _ (by decide) _) <|
    .cons (wB (g := 0) x5 x6 x7 0 1 128 (r64_32 (i 1)) (by decide) rfl rfl rfl (by decide) _ _ _ _ (by decide) _) <|
    .cons (wA (g := 0) x5 x6 x7 0 0 0 (r64_32 (i 1)) (by decide) rfl rfl rfl (by decide) _ _ _ _ (by decide) _) <|
    .cons (wB (g := 7) x5 x6 x7 896 15 1920 (r64_0 (i 1)) (by decide) rfl rfl rfl (by decide) _ _ _ _ (by decide) _) <|
    .cons (wA (g := 7) x5 x6 x7 896 14 1792 (r64_0 (i 1)) (by decide) rfl rfl rfl (by decide) _ _ _ _ (by decide) _) <|
    .cons (wB (g := 6) x5 x6 x7 768 13 1664 (r64_0 (i 1)) (by decide) rfl rfl rfl (by decide) _ _ _ _ (by decide) _) <|
    .cons (wA (g := 6) x5 x6 x7 768 12 1536 (r64_0 (i 1)) (by decide) rfl rfl rfl (by decide) _ _ _ _ (by decide) _) <|
    .cons (wB (g := 5) x5 x6 x7 640 11 1408 (r64_0 (i 1)) (by decide) rfl rfl rfl (by decide) _ _ _ _ (by decide) _) <|
    .cons (wA (g := 5) x5 x6 x7 640 10 1280 (r64_0 (i 1)) (by decide) rfl rfl rfl (by decide) _ _ _ _ (by decide) _) <|
    .cons (wB (g := 4) x5 x6 x7 512 9 1152 (r64_0 (i 1)) (by decide) rfl rfl rfl (by decide) _ _ _ _ (by decide) _) <|
    .cons (wA (g := 4) x5 x6 x7 512 8 1024 (r64_0 (i 1)) (by decide) rfl rfl rfl (by decide) _ _ _ _ (by decide) _) <|
    .cons (wB (g := 3) x5 x6 x7 384 7 896 (r64_0 (i 1)) (by decide) rfl rfl rfl (by decide) _ _ _ _ (by decide) _) <|
    .cons (wA (g := 3) x5 x6 x7 384 6 768 (r64_0 (i 1)) (by decide) rfl rfl rfl (by decide) _ _ _ _ (by decide) _) <|
    .cons (wB (g := 2) x5 x6 x7 256 5 640 (r64_0 (i 1)) (by decide) rfl rfl rfl (by decide) _ _ _ _ (by decide) _) <|
    .cons (wA (g := 2) x5 x6 x7 256 4 512 (r64_0 (i 1)) (by decide) rfl rfl rfl (by decide) _ _ _ _ (by decide) _) <|
    .cons (wB (g := 1) x5 x6 x7 128 3 384 (r64_0 (i 1)) (by decide) rfl rfl rfl (by decide) _ _ _ _ (by decide) _) <|
    .cons (wA (g := 1) x5 x6 x7 128 2 256 (r64_0 (i 1)) (by decide) rfl rfl rfl (by decide) _ _ _ _ (by decide) _) <|
    .cons (wB (g := 0) x5 x6 x7 0 1 128 (r64_0 (i 1)) (by decide) rfl rfl rfl (by decide) _ _ _ _ (by decide) _) <|
    .cons (wA (g := 0) x5 x6 x7 0 0 0 (r64_0 (i 1)) (by decide) rfl rfl rfl (by decide) _ _ _ _ (by decide) _) <|
    .nil

end Cert.FwdIdeal.Gen

end
-- ==== Proof.FwdIdeal.BodyD.lean ====
/-
  The forward kernel's body over the extended reals at the points of an even row past the first: what it stores is what the buffers are held to.
-/
module

public import proofs.«01_k».proof.Proof.FwdIdeal.Data
public import proofs.«01_k».proof.Proof.FwdIdeal.CaseD1
public import proofs.«01_k».proof.Proof.FwdIdeal.CaseD2
public import proofs.«01_k».proof.Proof.FwdIdeal.CaseD3
public import proofs.«01_k».proof.Proof.FwdIdeal.CaseD4
public import proofs.«01_k».proof.Proof.FwdIdeal.CaseD5

@[expose] public section

set_option maxRecDepth 16384

noncomputable section

namespace Cert.FwdIdeal.Gen

open Idealize.ShloMosaic hiding ix2
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal.Tile

local notation "𝕄" => MT nD τ sig Unit (Elt Ideal) ℕ (UR sig nD τ) ℕ

variable (m : (ℓ : Loc nD τ sig) → Buf (Elt Ideal) ℓ)

attribute [local irreducible] kernelRun0_D

/-- The run of the body at a point of this kind. -/
def RD (c : Dev nD) (t : Fin cfg0.N) (hc0 : ¬cond0_0 (grid0.coords t)) (hc1 : ¬cond0_1 (grid0.coords t)) (hc2 : cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) := kernelRun0_D (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5

/-- Where these points lie. -/
theorem whereD (t : Fin cfg0.N) (hc1 : ¬cond0_1 (grid0.coords t)) (hc3 : ¬cond0_3 (grid0.coords t)) : 4 ≤ t.val ∧ t.val / 4 % 2 = 0 := by
  have ht : 4 ≤ t.val ∧ t.val / 4 % 2 = 0 := by have h1 : ¬ t.val < 4 := fun h => hc1 ((hcond0_1 t).mpr h); have h3 : ¬ (t.val % 8 = 4 ∨ t.val % 8 = 5 ∨ t.val % 8 = 6 ∨ t.val % 8 = 7) := fun h => hc3 ((hcond0_3 t).mpr h); omega
  exact ht

/-- A point of kind D leaves the derivative by the gate's product as it must. -/
theorem D_p (c : Dev nD) (t : Fin cfg0.N) (hc0 : ¬cond0_0 (grid0.coords t)) (hc1 : ¬cond0_1 (grid0.coords t)) (hc2 : cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h0 : Toks m c t.val B0) (h1 : Scl m c t.val B1) (hG : Slot 1 t.val B2 (WG m c)) (hU : Slot 1 t.val B3 (WU m c)) (f) :
    Strip t.val (TokS m c pV) ((ms0_11 t).view.read (Elt Ideal) ((ms0_11 t).view.writes (Elt Ideal) f (RD m c t hc0 hc1 hc2 hc3 x19 B0 B1 B2 B3 B4 B5).1)) := by
  have ht := whereD t hc1 hc3
  have hN := lt_N t
  have c1 := co1 t
  have c0 := co0 t
  exact strip_out m c pV hN c1 (by omega) (by omega) h0 h1 hG hU (runD_p c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind D leaves the derivative by the up projection's product as it must. -/
theorem D_q (c : Dev nD) (t : Fin cfg0.N) (hc0 : ¬cond0_0 (grid0.coords t)) (hc1 : ¬cond0_1 (grid0.coords t)) (hc2 : cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h0 : Toks m c t.val B0) (h1 : Scl m c t.val B1) (hG : Slot 1 t.val B2 (WG m c)) (hU : Slot 1 t.val B3 (WU m c)) (f) :
    Strip t.val (TokS m c (fun s g _ => qV s g)) ((ms0_12 t).view.read (Elt Ideal) ((ms0_12 t).view.writes (Elt Ideal) f (RD m c t hc0 hc1 hc2 hc3 x19 B0 B1 B2 B3 B4 B5).2.1)) := by
  have ht := whereD t hc1 hc3
  have hN := lt_N t
  have c1 := co1 t
  have c0 := co0 t
  exact strip_out m c (fun s g _ => qV s g) hN c1 (by omega) (by omega) h0 h1 hG hU (runD_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind D leaves the activation as it must. -/
theorem D_a (c : Dev nD) (t : Fin cfg0.N) (hc0 : ¬cond0_0 (grid0.coords t)) (hc1 : ¬cond0_1 (grid0.coords t)) (hc2 : cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h0 : Toks m c t.val B0) (h1 : Scl m c t.val B1) (hG : Slot 1 t.val B2 (WG m c)) (hU : Slot 1 t.val B3 (WU m c)) (f) :
    Strip t.val (TokS m c aV) ((ms0_13 t).view.read (Elt Ideal) ((ms0_13 t).view.writes (Elt Ideal) f (RD m c t hc0 hc1 hc2 hc3 x19 B0 B1 B2 B3 B4 B5).2.2.1)) := by
  have ht := whereD t hc1 hc3
  have hN := lt_N t
  have c1 := co1 t
  have c0 := co0 t
  exact strip_out m c aV hN c1 (by omega) (by omega) h0 h1 hG hU (runD_a c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind D leaves the narrowed activation as it must. -/
theorem D_ab (c : Dev nD) (t : Fin cfg0.N) (hc0 : ¬cond0_0 (grid0.coords t)) (hc1 : ¬cond0_1 (grid0.coords t)) (hc2 : cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h0 : Toks m c t.val B0) (h1 : Scl m c t.val B1) (hG : Slot 1 t.val B2 (WG m c)) (hU : Slot 1 t.val B3 (WU m c)) (f) :
    Strip t.val (TokS m c aV) ((ms0_14 t).view.read (Elt Ideal) ((ms0_14 t).view.writes (Elt Ideal) f (RD m c t hc0 hc1 hc2 hc3 x19 B0 B1 B2 B3 B4 B5).2.2.2.1)) := by
  have ht := whereD t hc1 hc3
  have hN := lt_N t
  have c1 := co1 t
  have c0 := co0 t
  exact strip_out16 m c aV hN c1 (by omega) (by omega) h0 h1 hG hU (runD_ab c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind D leaves the turned activation as it must. -/
theorem D_at (c : Dev nD) (t : Fin cfg0.N) (hc0 : ¬cond0_0 (grid0.coords t)) (hc1 : ¬cond0_1 (grid0.coords t)) (hc2 : cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h0 : Toks m c t.val B0) (h1 : Scl m c t.val B1) (hG : Slot 1 t.val B2 (WG m c)) (hU : Slot 1 t.val B3 (WU m c)) (f) :
    StripT t.val (TokTS m c aV) ((ms0_15 t).view.read (Elt Ideal) ((ms0_15 t).view.writes (Elt Ideal) f (RD m c t hc0 hc1 hc2 hc3 x19 B0 B1 B2 B3 B4 B5).2.2.2.2.1)) := by
  have ht := whereD t hc1 hc3
  have hN := lt_N t
  have c1 := co1 t
  have c0 := co0 t
  exact stripT_out m c aV hN c1 (by omega) (by omega) h0 h1 hG hU (runD_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind D leaves the down weights as it must. -/
theorem D_wd (c : Dev nD) (t : Fin cfg0.N) (hc0 : ¬cond0_0 (grid0.coords t)) (hc1 : ¬cond0_1 (grid0.coords t)) (hc2 : cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (f) :
    Down t.val (WDS m c) ((ms0_16 t).view.read (Elt Ideal) ((ms0_16 t).view.writes (Elt Ideal) f (RD m c t hc0 hc1 hc2 hc3 x19 B0 B1 B2 B3 B4 B5).2.2.2.2.2.1)) := by
  have ht := whereD t hc1 hc3
  have hN := lt_N t
  have c1 := co1 t
  have c0 := co0 t
  exact down_out m c t (by rw [c0]) (runD_wd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5 (by omega)) _ f

/-- A point of kind D leaves the gate's regularisers as it must. -/
theorem D_rg (c : Dev nD) (t : Fin cfg0.N) (hc0 : ¬cond0_0 (grid0.coords t)) (hc1 : ¬cond0_1 (grid0.coords t)) (hc2 : cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (f) :
    Grp t.val (Spec.R (g4 m c)) ((ms0_17 t).view.read (Elt Ideal) ((ms0_17 t).view.writes (Elt Ideal) f (RD m c t hc0 hc1 hc2 hc3 x19 B0 B1 B2 B3 B4 B5).2.2.2.2.2.2.1)) := by
  have ht := whereD t hc1 hc3
  have hN := lt_N t
  have c1 := co1 t
  have c0 := co0 t
  exact grp_gate m c t (runD_rg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind D leaves the up projection's regularisers as it must. -/
theorem D_ru (c : Dev nD) (t : Fin cfg0.N) (hc0 : ¬cond0_0 (grid0.coords t)) (hc1 : ¬cond0_1 (grid0.coords t)) (hc2 : cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (f) :
    Grp t.val (Spec.R (g7 m c)) ((ms0_18 t).view.read (Elt Ideal) ((ms0_18 t).view.writes (Elt Ideal) f (RD m c t hc0 hc1 hc2 hc3 x19 B0 B1 B2 B3 B4 B5).2.2.2.2.2.2.2.1)) := by
  have ht := whereD t hc1 hc3
  have hN := lt_N t
  have c1 := co1 t
  have c0 := co0 t
  exact grp_up m c t (runD_ru c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) _ f

/-- A point of kind D leaves the down regularisers as it must. -/
theorem D_rd (c : Dev nD) (t : Fin cfg0.N) (hc0 : ¬cond0_0 (grid0.coords t)) (hc1 : ¬cond0_1 (grid0.coords t)) (hc2 : cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h19 : Regs m c t.val x19) :
    Regs m c (t.val + 1) ((ms0_19 t).view.read (Elt Ideal) (RD m c t hc0 hc1 hc2 hc3 x19 B0 B1 B2 B3 B4 B5).2.2.2.2.2.2.2.2.1) := by
  have ht := whereD t hc1 hc3
  have hN := lt_N t
  have c1 := co1 t
  have c0 := co0 t
  exact Regs.stored m c h19 _ _ (Memref.IsWhole.read_unread (hs0_19 t) _) t rfl ht.1 c1 (by rw [c0]) (runD_rd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5 (by omega))

/-- A point of kind D leaves the gate's weights as it must. -/
theorem D_wg (c : Dev nD) (t : Fin cfg0.N) (hc0 : ¬cond0_0 (grid0.coords t)) (hc1 : ¬cond0_1 (grid0.coords t)) (hc2 : cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h : Slot 0 t.val B4 (WG m c)) :
    Slot 0 (t.val + 1) (scM0_4.view.read (Elt Ideal) (RD m c t hc0 hc1 hc2 hc3 x19 B0 B1 B2 B3 B4 B5).2.2.2.2.2.2.2.2.2.1) (WG m c) := by
  have ht := whereD t hc1 hc3
  have hN := lt_N t
  have c1 := co1 t
  have c0 := co0 t
  exact Slot.stored h (by omega) _ _ (Memref.IsWhole.read_unread (Memref.isWhole_whole _) _) c1 (runD_wg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) fun hl y z e0 e1 => wT_gate m c t hl y z e0 e1

/-- A point of kind D leaves the up projection's weights as it must. -/
theorem D_wu (c : Dev nD) (t : Fin cfg0.N) (hc0 : ¬cond0_0 (grid0.coords t)) (hc1 : ¬cond0_1 (grid0.coords t)) (hc2 : cond0_2 (grid0.coords t)) (hc3 : ¬cond0_3 (grid0.coords t)) (x19 : Vec Ideal S2048x34 .f32) (B0 : Vec Ideal S4608x2048 .bf16) (B1 : Vec Ideal S4608x128 .f32) (B2 : Vec Ideal S256x2048 .bf16) (B3 : Vec Ideal S256x2048 .bf16) (B4 : Vec Ideal S256x2048 .bf16) (B5 : Vec Ideal S256x2048 .bf16) (h : Slot 0 t.val B5 (WU m c)) :
    Slot 0 (t.val + 1) (scM0_5.view.read (Elt Ideal) (RD m c t hc0 hc1 hc2 hc3 x19 B0 B1 B2 B3 B4 B5).2.2.2.2.2.2.2.2.2.2.1) (WU m c) := by
  have ht := whereD t hc1 hc3
  have hN := lt_N t
  have c1 := co1 t
  have c0 := co0 t
  exact Slot.stored h (by omega) _ _ (Memref.IsWhole.read_unread (Memref.isWhole_whole _) _) c1 (runD_wu c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) x19 B0 B1 B2 B3 B4 B5) fun hl y z e0 e1 => wT_up m c t hl y z e0 e1

set_option maxHeartbeats 3200000 in
/-- The body at such a point. -/
theorem bodyD (c : Dev nD) (t : Fin cfg0.N) (hc0 : ¬cond0_0 (grid0.coords t)) (hc1 : ¬cond0_1 (grid0.coords t)) (hc2 : cond0_2 (grid0.coords t)) (hc3 : ¬cond0_3 (grid0.coords t)) :
    bodyPre m c t ⊢ wp frame (wpE (defs₀ (F := Ideal)) Variants.none c none) Set.univ (bodyAt0 (F := Ideal) t) (fun _ => bodyPost m c t) := by
  have ht := whereD t hc1 hc3
  unfold bodyPre bodyPost
  simp only [before0_0, before0_1, before0_2, before0_3, before0_4, before0_5, before0_6, before0_7, before0_8, before0_9, before0_10, leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl,
    show (dats m 0 c).Φ t.castSucc = Phi m c t.val from rfl, show (dats m 0 c).Φ t.succ = Phi m c (t.val + 1) from rfl]
  unfold Phi
  iintro ⟨⟨⟨%B0, %k0, HS0⟩, ⟨%B1, %k1, HS1⟩, ⟨%B2, %k2, HS2⟩, ⟨%B3, %k3, HS3⟩, ⟨%B4, %k4, HS4⟩, ⟨%B5, %k5, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, -, H12⟩, ⟨%d13, -, H13⟩, ⟨%d14, -, H14⟩, ⟨%d15, -, H15⟩, ⟨%d16, -, H16⟩, ⟨%d17, -, H17⟩, ⟨%d18, -, H18⟩, ⟨%x19, %k19, H19⟩⟩
  have h19 := finds19 m c t x19 k19
  iapply ((RD m c t hc0 hc1 hc2 hc3 x19 B0 B1 B2 B3 B4 B5).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexact H19
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, HS0, HS1, HS2, HS3, HS4, HS5⟩
  isplitl [HS0 HS1 HS2 HS3 HS4 HS5 Hg]
  · isplitl [HS0]
    · iapply (give2 c scM0_0 (P := Toks m c (t.val + 1)) (Toks.keep m c k0 (by omega))); iexact HS0
    isplitl [HS1]
    · iapply (give2 c scM0_1 (P := Scl m c (t.val + 1)) (Scl.keep m c k1 (by omega))); iexact HS1
    isplitl [HS2]
    · iapply (give2 c scM0_2 (P := fun B => Slot 1 (t.val + 1) B (WG m c)) (Slot.keep k2 (by omega))); iexact HS2
    isplitl [HS3]
    · iapply (give2 c scM0_3 (P := fun B => Slot 1 (t.val + 1) B (WU m c)) (Slot.keep k3 (by omega))); iexact HS3
    isplitl [HS4]
    · iapply (give1 c scM0_4 (P := fun B => Slot 0 (t.val + 1) B (WG m c)) (D_wg m c t hc0 hc1 hc2 hc3 x19 B0 B1 B2 B3 B4 B5 k4)); iexact HS4
    isplitl [HS5]
    · iapply (give1 c scM0_5 (P := fun B => Slot 0 (t.val + 1) B (WU m c)) (D_wu m c t hc0 hc1 hc2 hc3 x19 B0 B1 B2 B3 B4 B5 k5)); iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply (give c (ms0_11 t) (P := Strip t.val (TokS m c pV)) (D_p m c t hc0 hc1 hc2 hc3 x19 B0 B1 B2 B3 B4 B5 k0 k1 k2 k3)); iexact H11
  isplitl [H12]
  · iapply (give c (ms0_12 t) (P := Strip t.val (TokS m c (fun s g _ => qV s g))) (D_q m c t hc0 hc1 hc2 hc3 x19 B0 B1 B2 B3 B4 B5 k0 k1 k2 k3)); iexact H12
  isplitl [H13]
  · iapply (give c (ms0_13 t) (P := Strip t.val (TokS m c aV)) (D_a m c t hc0 hc1 hc2 hc3 x19 B0 B1 B2 B3 B4 B5 k0 k1 k2 k3)); iexact H13
  isplitl [H14]
  · iapply (give c (ms0_14 t) (P := Strip t.val (TokS m c aV)) (D_ab m c t hc0 hc1 hc2 hc3 x19 B0 B1 B2 B3 B4 B5 k0 k1 k2 k3)); iexact H14
  isplitl [H15]
  · iapply (give c (ms0_15 t) (P := StripT t.val (TokTS m c aV)) (D_at m c t hc0 hc1 hc2 hc3 x19 B0 B1 B2 B3 B4 B5 k0 k1 k2 k3)); iexact H15
  isplitl [H16]
  · iapply (give c (ms0_16 t) (P := Down t.val (WDS m c)) (D_wd m c t hc0 hc1 hc2 hc3 x19 B0 B1 B2 B3 B4 B5)); iexact H16
  isplitl [H17]
  · iapply (give c (ms0_17 t) (P := Grp t.val (Spec.R (g4 m c))) (D_rg m c t hc0 hc1 hc2 hc3 x19 B0 B1 B2 B3 B4 B5)); iexact H17
  isplitl [H18]
  · iapply (give c (ms0_18 t) (P := Grp t.val (Spec.R (g7 m c))) (D_ru m c t hc0 hc1 hc2 hc3 x19 B0 B1 B2 B3 B4 B5)); iexact H18
  iapply (give1 c (ms0_19 t) (P := Regs m c (t.val + 1)) (D_rd m c t hc0 hc1 hc2 hc3 x19 B0 B1 B2 B3 B4 B5 h19)); iexact H19

end Cert.FwdIdeal.Gen

end
-- ==== Proof.FwdIdeal.Body.lean ====
/- The forward kernel's launch over the extended reals: every run ends, every result block meets what the body must leave there, and the arguments are unchanged. -/
module

public import proofs.«01_k».proof.Proof.FwdIdeal.BodyA
public import proofs.«01_k».proof.Proof.FwdIdeal.BodyB
public import proofs.«01_k».proof.Proof.FwdIdeal.BodyC
public import proofs.«01_k».proof.Proof.FwdIdeal.BodyD
public import Idealize.ShloMosaic.Lib.Claim

@[expose] public section

set_option maxRecDepth 16384

noncomputable section

namespace Cert.FwdIdeal.Gen

open Idealize.ShloMosaic hiding ix2
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal.Tile

local notation "𝕄" => MT nD τ sig Unit (Elt Ideal) ℕ (UR sig nD τ) ℕ

variable (m : (ℓ : Loc nD τ sig) → Buf (Elt Ideal) ℓ) (ρ : Dev nD → PrngReg)

/-- The body's triple at every point. -/
theorem sound_body (c : Dev nD) (t : Fin cfg0.N) :
    bodyPre m c t ⊢ wp frame (wpE (defs₀ (F := Ideal)) Variants.none c none) Set.univ (bodyAt0 (F := Ideal) t) (fun _ => bodyPost m c t) := by
  have hN := lt_N t
  have h0 := hcond0_0 t
  have h1 := hcond0_1 t
  have h2 := hcond0_2 t
  have h3 := hcond0_3 t
  by_cases k1 : cond0_1 (grid0.coords t)
  · have k2 : ¬cond0_2 (grid0.coords t) := by rw [h2]; rw [h1] at k1; omega
    have k3 : ¬cond0_3 (grid0.coords t) := by rw [h3]; rw [h1] at k1; omega
    by_cases k0 : cond0_0 (grid0.coords t)
    · exact bodyA m c t k0 k1 k2 k3
    · exact bodyB m c t k0 k1 k2 k3
  · have k0 : ¬cond0_0 (grid0.coords t) := by rw [h0]; rw [h1] at k1; omega
    by_cases k3 : cond0_3 (grid0.coords t)
    · exact bodyC m c t k0 k1 (by rw [h2]; rw [h3] at k3; omega) k3
    · exact bodyD m c t k0 k1 (by rw [h2]; rw [h3] at k3; rw [h1] at k1; omega) k3

/-- The body table's row at a point is the body at that point. -/
theorem defs₀_row (t : Fin cfg0.N) :
    defs₀ (F := Ideal) .tc cfg0.body (cfg0.bodyArgs t (cfg0.slots t)) = bodyAt0 (F := Ideal) t := by
  unfold defs₀; rw [Defs.onTc_tc]

/-- The library's body obligation, at every point. -/
theorem body_obligation (c : Dev nD) :
    Pipeline.BodyObligationRel (dats m 0 c) (defs₀ (F := Ideal)) Variants.none () Set.univ held (Rl m c) := fun t => by
  rw [bigSep_W0, bigSep_W0, defs₀_row]
  exact triple_restated (sound_body m c t) rfl .rfl fun _ => .rfl

/-- The data the launch is run with. -/
abbrev rdats (c : Dev nD) := (dats m 0 c).toRRel held (Rl m c)

set_option backward.isDefEq.respectTransparency.types false in
/-- The launch: every run ends with the results' blocks as the body must leave them, and with every counter at zero. -/
theorem run_main_quiescent : θ_run defs (onTc (τ := τ) (main (F := Ideal))) (s₀ m ρ)
    (fun r => Pipeline.RDat.FramePost (cfgs 0) (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hin := fun c => phi_in m c) (hout := fun c => phi_out m c _)
    (hQ' := fun _ h => h)

/-- The same without the counters. -/
theorem run_main : θ_run defs (onTc (τ := τ) (main (F := Ideal))) (s₀ m ρ) (Pipeline.RDat.FramePost (cfgs 0) (rdats m) (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (rdats m) (A_eq m) (run_main m ρ)

/-- The frame: every run ends, with the arguments as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.FwdIdeal.Gen

end
-- ==== Proof.FwdIdeal.Final.lean ====
/-
  The forward kernel's result arrays after the run, over the extended reals: whatever the body leaves in the result blocks
  at each point, as long as it meets what the body must leave there, the arrays end holding `Spec`'s functions of the
  arguments. A block is written back only after the point that completes it, and the blocks written back cover the arrays.
-/
module

public import proofs.«01_k».proof.Proof.FwdIdeal.Data
public import Idealize.ShloMosaic.Lib.Pipeline.ArrRel
public import Idealize.ShloMosaic.Lib.Pipeline.ValueKit

@[expose] public section

noncomputable section

namespace Cert.FwdIdeal.Final

open Idealize.ShloMosaic hiding ix2
open Cert.FwdIdeal Cert.FwdIdeal.Gen Idealize.ShloMosaic.TcCoe Idealize.SL.Sem
open Idealize.ShloMosaic.ValueIdx
open Idealize.ShloMosaic.Pipeline (Dat)
open Cert.FwdIdeal.Tile

variable (m : (ℓ : Loc nD τ sig) → Buf (Elt Ideal) ℓ) (c : Dev nD)
variable (after : (w : Fin cfg0.W) → Fin cfg0.N → (cfg0.win w).block.Idx → Elt Ideal (cfg0.win w).elt)

/-- The data with the result blocks named. -/
abbrev dat := ((dats m 0 c).toRRel held (Rl m c)).withAfter after

/-- A block of the token results is written back at the points past the first four only. -/
theorem flush_ge (t : Fin cfg0.N) : ((cfg0.win 11).flush t = true → 4 ≤ t.val) ∧ ((cfg0.win 12).flush t = true → 4 ≤ t.val)
    ∧ ((cfg0.win 13).flush t = true → 4 ≤ t.val) ∧ ((cfg0.win 14).flush t = true → 4 ≤ t.val) ∧ ((cfg0.win 15).flush t = true → 4 ≤ t.val)
    ∧ ((cfg0.win 16).flush t = true → 4 ≤ t.val) :=
  (by decide +kernel : ∀ t : Fin grid0.N, ((cfg0.win 11).flush t = true → 4 ≤ t.val) ∧ ((cfg0.win 12).flush t = true → 4 ≤ t.val)
    ∧ ((cfg0.win 13).flush t = true → 4 ≤ t.val) ∧ ((cfg0.win 14).flush t = true → 4 ≤ t.val) ∧ ((cfg0.win 15).flush t = true → 4 ≤ t.val)
    ∧ ((cfg0.win 16).flush t = true → 4 ≤ t.val)) t

variable (hL : ∀ (w : Fin cfg0.W) (t : Fin cfg0.N), held w = true → (cfg0.win w).flush t = true → Rl m c w t (after w t))

include hL

/-- The derivative by the gate's product. -/
theorem final11 : (dat m c after).arrAt 11 cfg0.N = TokS m c pV := by
  refine (dat m c after).arrAt_eq_of_covers 11 _ (by decide +kernel) fun t hf y => ?_
  obtain ⟨-, -, -, -, -, -, -, -, -, -, -, ⟨i0, i1⟩, -⟩ := idx t
  have hn := (flush_ge t).1 hf
  rw [if_neg (by omega)] at i0
  refine hL 11 t rfl hf hn _ _ ?_ ?_
  · show win0_11.index t 0 * 1152 + 1 * (y 0).val = 1152 * (t.val % 4) + (y 0).val; rw [i0]; omega
  · show win0_11.index t 1 * 256 + 1 * (y 1).val = 256 * (t.val / 4 - 1) + (y 1).val; rw [i1]; omega

/-- The derivative by the up projection's product. -/
theorem final12 : (dat m c after).arrAt 12 cfg0.N = TokS m c (fun s g _ => qV s g) := by
  refine (dat m c after).arrAt_eq_of_covers 12 _ (by decide +kernel) fun t hf y => ?_
  obtain ⟨-, -, -, -, -, -, -, -, -, -, -, -, ⟨i0, i1⟩, -⟩ := idx t
  have hn := (flush_ge t).2.1 hf
  rw [if_neg (by omega)] at i0
  refine hL 12 t rfl hf hn _ _ ?_ ?_
  · show win0_12.index t 0 * 1152 + 1 * (y 0).val = 1152 * (t.val % 4) + (y 0).val; rw [i0]; omega
  · show win0_12.index t 1 * 256 + 1 * (y 1).val = 256 * (t.val / 4 - 1) + (y 1).val; rw [i1]; omega

/-- The activation. -/
theorem final13 : (dat m c after).arrAt 13 cfg0.N = TokS m c aV := by
  refine (dat m c after).arrAt_eq_of_covers 13 _ (by decide +kernel) fun t hf y => ?_
  obtain ⟨-, -, -, -, -, -, -, -, -, -, -, -, -, ⟨i0, i1⟩, -⟩ := idx t
  have hn := (flush_ge t).2.2.1 hf
  rw [if_neg (by omega)] at i0
  refine hL 13 t rfl hf hn _ _ ?_ ?_
  · show win0_13.index t 0 * 1152 + 1 * (y 0).val = 1152 * (t.val % 4) + (y 0).val; rw [i0]; omega
  · show win0_13.index t 1 * 256 + 1 * (y 1).val = 256 * (t.val / 4 - 1) + (y 1).val; rw [i1]; omega

/-- The activation, narrowed. -/
theorem final14 : (dat m c after).arrAt 14 cfg0.N = TokS m c aV := by
  refine (dat m c after).arrAt_eq_of_covers 14 _ (by decide +kernel) fun t hf y => ?_
  obtain ⟨-, -, -, -, -, -, -, -, -, -, -, -, -, -, ⟨i0, i1⟩, -⟩ := idx t
  have hn := (flush_ge t).2.2.2.1 hf
  rw [if_neg (by omega)] at i0
  refine hL 14 t rfl hf hn _ _ ?_ ?_
  · show win0_14.index t 0 * 1152 + 1 * (y 0).val = 1152 * (t.val % 4) + (y 0).val; rw [i0]; omega
  · show win0_14.index t 1 * 256 + 1 * (y 1).val = 256 * (t.val / 4 - 1) + (y 1).val; rw [i1]; omega

/-- The activation, narrowed and turned. -/
theorem final15 : (dat m c after).arrAt 15 cfg0.N = TokTS m c aV := by
  refine (dat m c after).arrAt_eq_of_covers 15 _ (by decide +kernel) fun t hf y => ?_
  obtain ⟨-, -, -, -, -, -, -, -, -, -, -, -, -, -, -, ⟨i0, i1⟩, -⟩ := idx t
  have hn := (flush_ge t).2.2.2.2.1 hf
  rw [if_neg (by omega)] at i1
  refine hL 15 t rfl hf hn _ _ ?_ ?_
  · show win0_15.index t 0 * 256 + 1 * (y 0).val = 256 * (t.val / 4 - 1) + (y 0).val; rw [i0]; omega
  · show win0_15.index t 1 * 1152 + 1 * (y 1).val = 1152 * (t.val % 4) + (y 1).val; rw [i1]; omega

/-- The softened weights of the down projection. -/
theorem final16 : (dat m c after).arrAt 16 cfg0.N = WDS m c := by
  refine (dat m c after).arrAt_eq_of_covers 16 _ (by decide +kernel) fun t hf y => ?_
  obtain ⟨-, -, -, -, -, -, -, -, -, -, -, -, -, -, -, -, ⟨i0, i1⟩, -⟩ := idx t
  have hn := (flush_ge t).2.2.2.2.2 hf
  rw [if_neg (by omega)] at i0
  refine hL 16 t rfl hf hn _ _ ?_ ?_
  · show win0_16.index t 0 * 512 + 1 * (y 0).val = 512 * (t.val % 4) + (y 0).val; rw [i0]; omega
  · show win0_16.index t 1 * 256 + 1 * (y 1).val = 256 * (t.val / 4 - 1) + (y 1).val; rw [i1]; omega

/-- The regularisers of the gate. -/
theorem final17 : (dat m c after).arrAt 17 cfg0.N = Spec.R (g4 m c) := by
  refine (dat m c after).arrAt_eq_of_covers 17 _ (by decide +kernel) fun t hf y => ?_
  obtain ⟨-, -, -, -, -, -, -, -, -, -, -, -, -, -, -, -, -, ⟨i0, i1⟩, -⟩ := idx t
  refine hL 17 t rfl hf _ _ ?_ ?_
  · show win0_17.index t 0 * 64 + 1 * (y 0).val = min t.val 67 * 64 + (y 0).val; rw [i0]; omega
  · show win0_17.index t 1 * 16 + 1 * (y 1).val = (y 1).val; rw [i1]; omega

/-- The regularisers of the up projection. -/
theorem final18 : (dat m c after).arrAt 18 cfg0.N = Spec.R (g7 m c) := by
  refine (dat m c after).arrAt_eq_of_covers 18 _ (by decide +kernel) fun t hf y => ?_
  obtain ⟨-, -, -, -, -, -, -, -, -, -, -, -, -, -, -, -, -, -, ⟨i0, i1⟩, -⟩ := idx t
  refine hL 18 t rfl hf _ _ ?_ ?_
  · show win0_18.index t 0 * 64 + 1 * (y 0).val = min t.val 67 * 64 + (y 0).val; rw [i0]; omega
  · show win0_18.index t 1 * 16 + 1 * (y 1).val = (y 1).val; rw [i1]; omega

/-- The regularisers of the down projection. -/
theorem final19 : (dat m c after).arrAt 19 cfg0.N = Spec.RD (g10 m c) := by
  refine (dat m c after).arrAt_eq_of_covers 19 _ (by decide +kernel) fun t hf y => ?_
  obtain ⟨-, -, -, -, -, -, -, -, -, -, -, -, -, -, -, -, -, -, -, ⟨i0, i1⟩⟩ := idx t
  have h71 : t.val % 72 = 71 := (flush0_19 t).mp hf
  have y0 : (y 0).val < 2048 := (y 0).isLt
  have y1 : (y 1).val < 34 := (y 1).isLt
  have hz : (((cfg0.win 19).blk t).view.emb y) = y := funext fun a => Fin.ext (by
    match a with
    | ⟨0, _⟩ => show win0_19.index t 0 * 2048 + 1 * (y 0).val = (y 0).val; rw [i0]; omega
    | ⟨1, _⟩ => show win0_19.index t 1 * 34 + 1 * (y 1).val = (y 1).val; rw [i1]; omega)
  refine (hL 19 t rfl hf y ?_).trans (congrArg (Spec.RD (g10 m c)) hz.symm)
  have := lt_N t
  show 4 * ((y 1).val / 2 + 1) + (y 0).val / 512 < t.val + 1
  omega

end Cert.FwdIdeal.Final

end
-- ==== Proof.FwdIdeal.Results.lean ====
/-
  The forward kernel's nine results after its run, over the extended reals: `Spec`'s functions of the arguments.
-/
module

public import proofs.«01_k».proof.Proof.FwdIdeal.Body
public import proofs.«01_k».proof.Proof.FwdIdeal.Final

@[expose] public section

noncomputable section

namespace Cert.FwdIdeal.Final

open Idealize.ShloMosaic hiding ix2
open Cert.FwdIdeal Cert.FwdIdeal.Gen Idealize.ShloMosaic.TcCoe Idealize.SL.Sem
open Cert.FwdIdeal.Tile

variable (m : (ℓ : Loc nD τ sig) → Buf (Elt Ideal) ℓ) (ρ : Dev nD → PrngReg)

/-- Every run of the kernel ends with the nine results `Spec`'s functions of the arguments. -/
theorem run_results : θ_run defs (onTc (τ := τ) (main (F := Ideal))) ⟨m, fun _ => 0, ρ⟩ (fun r => ∀ c : Dev nD,
      r.2.mem (c.tc.loc main_v0_0) = TokS m c pV
      ∧ r.2.mem (c.tc.loc main_v0_1) = TokS m c (fun s g _ => qV s g)
      ∧ r.2.mem (c.tc.loc main_v0_2) = TokS m c aV
      ∧ r.2.mem (c.tc.loc main_v0_3) = TokS m c aV
      ∧ r.2.mem (c.tc.loc main_v0_4) = TokTS m c aV
      ∧ r.2.mem (c.tc.loc main_v0_5) = WDS m c
      ∧ r.2.mem (c.tc.loc main_v0_6) = Spec.R (g4 m c)
      ∧ r.2.mem (c.tc.loc main_v0_7) = Spec.R (g7 m c)
      ∧ r.2.mem (c.tc.loc main_v0_8) = Spec.RD (g10 m c)) :=
  (θ_run defs _ _).mono (fun r h c => by
    obtain ⟨after, hl, e⟩ := Pipeline.RDat.FramePost.exists_exact h c
    have hL : ∀ (w : Fin cfg0.W) (t : Fin cfg0.N), held w = true → (cfg0.win w).flush t = true → Rl m c w t (after w t) :=
      fun w t hw hf => (dats m 0 c).toRRel_leaves hw (hl w t hf)
    exact ⟨(e 11).trans (final11 m c after hL), (e 12).trans (final12 m c after hL), (e 13).trans (final13 m c after hL),
      (e 14).trans (final14 m c after hL), (e 15).trans (final15 m c after hL), (e 16).trans (final16 m c after hL),
      (e 17).trans (final17 m c after hL), (e 18).trans (final18 m c after hL), (e 19).trans (final19 m c after hL)⟩) (run_main m ρ)

end Cert.FwdIdeal.Final

end
-- ==== Proof.FwdReferenceIdeal.Read.lean ====
/-
  The reference's host operations after the widening, one at a time: `val_main_vN` is the value the operation that writes
  `main_vN` computes of the scales and the widened arrays, and `val_main_vN_apply` reads it at an index. The arguments are
  numbered: 0 the activations' scales, 1 to 3 the weights' scales, 4 the activations, 5 to 10 the three weights' low and
  high halves, 11 to 13 the three rectified offsets.
  The up projection's softened weights and regularisers are `val_main_v19` and `val_main_v18` of its own arrays.
-/
module

public import proofs.«01_k».proof.Proof.Gen.FwdReferenceIdeal.Frame
public import Idealize.ShloMosaic.Lib.Pipeline.Value
public import Idealize.ShloMosaic.Lib.ValueIdx
public import Idealize.ShloMosaic.PureOps.Ideal.Laws

@[expose] public section

noncomputable section

namespace Cert.FwdReferenceIdeal.Read

open Cert.FwdReferenceIdeal Cert.FwdReferenceIdeal.Gen Idealize.ShloMosaic Idealize.ShloMosaic.TcCoe Idealize.SL.Sem Idealize.ShloMosaic.StableHlo

variable {F : FTy → Type} [FloatOps F]

/-- The value of `%1`. -/
def val_main_v1 (x5 : (⟨S4352x1024, .f32⟩ : BufTy).Contents (Elt F)) : (⟨S4352x16x64, .f32⟩ : BufTy).Contents (Elt F) :=
  shapeCast _ (x5) shapeCasts_S4352x1024_S4352x16x64
set_option backward.proofsInPublic true in
abbrev idx_main_v1 (i : S4352x16x64.Idx) : S4352x1024.Idx := fun a => match a with
  | ⟨0, _⟩ => ⟨(((i 0).val * 16 + (i 1).val) * 64 + (i 2).val) / 1024, by have h0 : (i 0).val < 4352 := (i 0).isLt; have h1 : (i 1).val < 16 := (i 1).isLt; have h2 : (i 2).val < 64 := (i 2).isLt; show (((i 0).val * 16 + (i 1).val) * 64 + (i 2).val) / 1024 < 4352; omega⟩
  | ⟨1, _⟩ => ⟨(((i 0).val * 16 + (i 1).val) * 64 + (i 2).val) % 1024, by have h0 : (i 0).val < 4352 := (i 0).isLt; have h1 : (i 1).val < 16 := (i 1).isLt; have h2 : (i 2).val < 64 := (i 2).isLt; show (((i 0).val * 16 + (i 1).val) * 64 + (i 2).val) % 1024 < 1024; omega⟩
/-- `%1` at an index. -/
theorem val_main_v1_apply (x5 : (⟨S4352x1024, .f32⟩ : BufTy).Contents (Elt F)) (i : S4352x16x64.Idx) :
    val_main_v1 (F := F) x5 i = x5 (idx_main_v1 i) := by
  unfold val_main_v1
  exact shapeCast_apply x5 shapeCasts_S4352x1024_S4352x16x64 i (idx_main_v1 i)
    (by rewrite [Shape.rowMajor_val_two, Shape.rowMajor_val_three]; have h0 : (i 0).val < 4352 := (i 0).isLt; have h1 : (i 1).val < 16 := (i 1).isLt; have h2 : (i 2).val < 64 := (i 2).isLt; show (((i 0).val * 16 + (i 1).val) * 64 + (i 2).val) / 1024 * 1024 + (((i 0).val * 16 + (i 1).val) * 64 + (i 2).val) % 1024 = ((i 0).val * 16 + (i 1).val) * 64 + (i 2).val; omega)

/-- The value of `%2`. -/
def val_main_v2 (x6 : (⟨S4352x1024, .f32⟩ : BufTy).Contents (Elt F)) : (⟨S4352x16x64, .f32⟩ : BufTy).Contents (Elt F) :=
  shapeCast _ (x6) shapeCasts_S4352x1024_S4352x16x64
set_option backward.proofsInPublic true in
abbrev idx_main_v2 (i : S4352x16x64.Idx) : S4352x1024.Idx := fun a => match a with
  | ⟨0, _⟩ => ⟨(((i 0).val * 16 + (i 1).val) * 64 + (i 2).val) / 1024, by have h0 : (i 0).val < 4352 := (i 0).isLt; have h1 : (i 1).val < 16 := (i 1).isLt; have h2 : (i 2).val < 64 := (i 2).isLt; show (((i 0).val * 16 + (i 1).val) * 64 + (i 2).val) / 1024 < 4352; omega⟩
  | ⟨1, _⟩ => ⟨(((i 0).val * 16 + (i 1).val) * 64 + (i 2).val) % 1024, by have h0 : (i 0).val < 4352 := (i 0).isLt; have h1 : (i 1).val < 16 := (i 1).isLt; have h2 : (i 2).val < 64 := (i 2).isLt; show (((i 0).val * 16 + (i 1).val) * 64 + (i 2).val) % 1024 < 1024; omega⟩
/-- `%2` at an index. -/
theorem val_main_v2_apply (x6 : (⟨S4352x1024, .f32⟩ : BufTy).Contents (Elt F)) (i : S4352x16x64.Idx) :
    val_main_v2 (F := F) x6 i = x6 (idx_main_v2 i) := by
  unfold val_main_v2
  exact shapeCast_apply x6 shapeCasts_S4352x1024_S4352x16x64 i (idx_main_v2 i)
    (by rewrite [Shape.rowMajor_val_two, Shape.rowMajor_val_three]; have h0 : (i 0).val < 4352 := (i 0).isLt; have h1 : (i 1).val < 16 := (i 1).isLt; have h2 : (i 2).val < 64 := (i 2).isLt; show (((i 0).val * 16 + (i 1).val) * 64 + (i 2).val) / 1024 * 1024 + (((i 0).val * 16 + (i 1).val) * 64 + (i 2).val) % 1024 = ((i 0).val * 16 + (i 1).val) * 64 + (i 2).val; omega)

/-- The value of `%3`. -/
def val_main_v3 (x5 x6 : (⟨S4352x1024, .f32⟩ : BufTy).Contents (Elt F)) : (⟨S4352x16x128, .f32⟩ : BufTy).Contents (Elt F) :=
  concatenate S4352x16x128 2 [⟨S4352x16x64, (val_main_v1 (F := F) x5)⟩, ⟨S4352x16x64, (val_main_v2 (F := F) x6)⟩] concatenates_S4352x16x64_S4352x16x64_S4352x16x128_d2

/-- The value of `%4`. -/
def val_main_v4 (x5 x6 : (⟨S4352x1024, .f32⟩ : BufTy).Contents (Elt F)) : (⟨S4352x2048, .f32⟩ : BufTy).Contents (Elt F) :=
  shapeCast _ (val_main_v3 (F := F) x5 x6) shapeCasts_S4352x16x128_S4352x2048
set_option backward.proofsInPublic true in
abbrev idx_main_v4 (i : S4352x2048.Idx) : S4352x16x128.Idx := fun a => match a with
  | ⟨0, _⟩ => ⟨((i 0).val * 2048 + (i 1).val) / 2048, by have h0 : (i 0).val < 4352 := (i 0).isLt; have h1 : (i 1).val < 2048 := (i 1).isLt; show ((i 0).val * 2048 + (i 1).val) / 2048 < 4352; omega⟩
  | ⟨1, _⟩ => ⟨((i 0).val * 2048 + (i 1).val) / 128 % 16, by have h0 : (i 0).val < 4352 := (i 0).isLt; have h1 : (i 1).val < 2048 := (i 1).isLt; show ((i 0).val * 2048 + (i 1).val) / 128 % 16 < 16; omega⟩
  | ⟨2, _⟩ => ⟨((i 0).val * 2048 + (i 1).val) % 128, by have h0 : (i 0).val < 4352 := (i 0).isLt; have h1 : (i 1).val < 2048 := (i 1).isLt; show ((i 0).val * 2048 + (i 1).val) % 128 < 128; omega⟩
/-- `%4` at an index. -/
theorem val_main_v4_apply (x5 x6 : (⟨S4352x1024, .f32⟩ : BufTy).Contents (Elt F)) (i : S4352x2048.Idx) :
    val_main_v4 (F := F) x5 x6 i = val_main_v3 (F := F) x5 x6 (idx_main_v4 i) := by
  unfold val_main_v4
  generalize val_main_v3 (F := F) x5 x6 = y
  exact shapeCast_apply y shapeCasts_S4352x16x128_S4352x2048 i (idx_main_v4 i)
    (by rewrite [Shape.rowMajor_val_three, Shape.rowMajor_val_two]; have h0 : (i 0).val < 4352 := (i 0).isLt; have h1 : (i 1).val < 2048 := (i 1).isLt; show (((i 0).val * 2048 + (i 1).val) / 2048 * 16 + ((i 0).val * 2048 + (i 1).val) / 128 % 16) * 128 + ((i 0).val * 2048 + (i 1).val) % 128 = (i 0).val * 2048 + (i 1).val; omega)

/-- The value of `%5`. -/
def val_main_v5 (x1 : (⟨S4352x16, .f32⟩ : BufTy).Contents (Elt F)) : (⟨S4352x16x128, .f32⟩ : BufTy).Contents (Elt F) :=
  broadcastInDim S4352x16x128 ![0, 1] bcast_S4352x16_S4352x16x128_0_1 (x1)
abbrev idx_main_v5 (i : S4352x16x128.Idx) : S4352x16.Idx := fun a => match a with
  | ⟨0, _⟩ => ⟨(i 0).val, (i 0).isLt⟩
  | ⟨1, _⟩ => ⟨(i 1).val, (i 1).isLt⟩
/-- `%5` at an index. -/
theorem val_main_v5_apply (x1 : (⟨S4352x16, .f32⟩ : BufTy).Contents (Elt F)) (i : S4352x16x128.Idx) :
    val_main_v5 (F := F) x1 i = x1 (idx_main_v5 i) := by
  unfold val_main_v5
  exact broadcastInDim_apply _ bcast_S4352x16_S4352x16x128_0_1 x1 i (idx_main_v5 i) (fun a => match a with
    | ⟨0, _⟩ => by show (i 0).val = if (4352 : Nat) = 1 then 0 else (i 0).val; rw [if_neg (by decide)]
    | ⟨1, _⟩ => by show (i 1).val = if (16 : Nat) = 1 then 0 else (i 1).val; rw [if_neg (by decide)])

/-- The value of `%6`. -/
def val_main_v6 (x1 : (⟨S4352x16, .f32⟩ : BufTy).Contents (Elt F)) : (⟨S4352x2048, .f32⟩ : BufTy).Contents (Elt F) :=
  shapeCast _ (val_main_v5 (F := F) x1) shapeCasts_S4352x16x128_S4352x2048
set_option backward.proofsInPublic true in
abbrev idx_main_v6 (i : S4352x2048.Idx) : S4352x16x128.Idx := fun a => match a with
  | ⟨0, _⟩ => ⟨((i 0).val * 2048 + (i 1).val) / 2048, by have h0 : (i 0).val < 4352 := (i 0).isLt; have h1 : (i 1).val < 2048 := (i 1).isLt; show ((i 0).val * 2048 + (i 1).val) / 2048 < 4352; omega⟩
  | ⟨1, _⟩ => ⟨((i 0).val * 2048 + (i 1).val) / 128 % 16, by have h0 : (i 0).val < 4352 := (i 0).isLt; have h1 : (i 1).val < 2048 := (i 1).isLt; show ((i 0).val * 2048 + (i 1).val) / 128 % 16 < 16; omega⟩
  | ⟨2, _⟩ => ⟨((i 0).val * 2048 + (i 1).val) % 128, by have h0 : (i 0).val < 4352 := (i 0).isLt; have h1 : (i 1).val < 2048 := (i 1).isLt; show ((i 0).val * 2048 + (i 1).val) % 128 < 128; omega⟩
/-- `%6` at an index. -/
theorem val_main_v6_apply (x1 : (⟨S4352x16, .f32⟩ : BufTy).Contents (Elt F)) (i : S4352x2048.Idx) :
    val_main_v6 (F := F) x1 i = val_main_v5 (F := F) x1 (idx_main_v6 i) := by
  unfold val_main_v6
  generalize val_main_v5 (F := F) x1 = y
  exact shapeCast_apply y shapeCasts_S4352x16x128_S4352x2048 i (idx_main_v6 i)
    (by rewrite [Shape.rowMajor_val_three, Shape.rowMajor_val_two]; have h0 : (i 0).val < 4352 := (i 0).isLt; have h1 : (i 1).val < 2048 := (i 1).isLt; show (((i 0).val * 2048 + (i 1).val) / 2048 * 16 + ((i 0).val * 2048 + (i 1).val) / 128 % 16) * 128 + ((i 0).val * 2048 + (i 1).val) % 128 = (i 0).val * 2048 + (i 1).val; omega)

/-- The value of `%7`. -/
def val_main_v7 (x5 x6 : (⟨S4352x1024, .f32⟩ : BufTy).Contents (Elt F)) (x11 : (⟨S4352x2048, .f32⟩ : BufTy).Contents (Elt F)) : (⟨S4352x2048, .f32⟩ : BufTy).Contents (Elt F) :=
  addf (val_main_v4 (F := F) x5 x6) (x11)
/-- `%7` at an index. -/
theorem val_main_v7_apply (x5 x6 : (⟨S4352x1024, .f32⟩ : BufTy).Contents (Elt F)) (x11 : (⟨S4352x2048, .f32⟩ : BufTy).Contents (Elt F)) (i : S4352x2048.Idx) :
    val_main_v7 (F := F) x5 x6 x11 i = FloatOps.addf (val_main_v4 (F := F) x5 x6 i) (x11 i) := rfl

def val_main_cst : (⟨S_, .f32⟩ : BufTy).Contents (Elt F) :=
  constant S_ .f32 0x40E00000#32
/-- `%cst` at an index. -/
theorem val_main_cst_apply (i : S_.Idx) :
    val_main_cst (F := F) i = FloatOps.ofBits .f32 0x40E00000#32 := rfl

/-- The value of `%8`. -/
def val_main_v8 : (⟨S4352x2048, .f32⟩ : BufTy).Contents (Elt F) :=
  broadcastInDim S4352x2048 ![] bcast_S_S4352x2048 (val_main_cst (F := F))
abbrev idx_main_v8 (i : S4352x2048.Idx) : S_.Idx := fun a => a.elim0
/-- `%8` at an index. -/
theorem val_main_v8_apply (i : S4352x2048.Idx) :
    val_main_v8 (F := F) i = val_main_cst (F := F) (idx_main_v8 i) := by
  unfold val_main_v8
  generalize val_main_cst (F := F) = y
  exact broadcastInDim_apply _ bcast_S_S4352x2048 y i (idx_main_v8 i) (fun a => a.elim0)

/-- The value of `%9`. -/
def val_main_v9 (x5 x6 : (⟨S4352x1024, .f32⟩ : BufTy).Contents (Elt F)) (x11 : (⟨S4352x2048, .f32⟩ : BufTy).Contents (Elt F)) : (⟨S4352x2048, .f32⟩ : BufTy).Contents (Elt F) :=
  minimumf (val_main_v7 (F := F) x5 x6 x11) (val_main_v8 (F := F))
/-- `%9` at an index. -/
theorem val_main_v9_apply (x5 x6 : (⟨S4352x1024, .f32⟩ : BufTy).Contents (Elt F)) (x11 : (⟨S4352x2048, .f32⟩ : BufTy).Contents (Elt F)) (i : S4352x2048.Idx) :
    val_main_v9 (F := F) x5 x6 x11 i = FloatOps.minimumf (val_main_v7 (F := F) x5 x6 x11 i) (val_main_v8 (F := F) i) := rfl

/-- The value of `%10`. -/
def val_main_v10 (x1 : (⟨S4352x16, .f32⟩ : BufTy).Contents (Elt F)) (x5 x6 : (⟨S4352x1024, .f32⟩ : BufTy).Contents (Elt F)) (x11 : (⟨S4352x2048, .f32⟩ : BufTy).Contents (Elt F)) : (⟨S4352x2048, .f32⟩ : BufTy).Contents (Elt F) :=
  mulf (val_main_v6 (F := F) x1) (val_main_v9 (F := F) x5 x6 x11)
/-- `%10` at an index. -/
theorem val_main_v10_apply (x1 : (⟨S4352x16, .f32⟩ : BufTy).Contents (Elt F)) (x5 x6 : (⟨S4352x1024, .f32⟩ : BufTy).Contents (Elt F)) (x11 : (⟨S4352x2048, .f32⟩ : BufTy).Contents (Elt F)) (i : S4352x2048.Idx) :
    val_main_v10 (F := F) x1 x5 x6 x11 i = FloatOps.mulf (val_main_v6 (F := F) x1 i) (val_main_v9 (F := F) x5 x6 x11 i) := rfl

def val_main_cst_0 : (⟨S_, .f32⟩ : BufTy).Contents (Elt F) :=
  constant S_ .f32 0x40000000#32
/-- `%cst_0` at an index. -/
theorem val_main_cst_0_apply (i : S_.Idx) :
    val_main_cst_0 (F := F) i = FloatOps.ofBits .f32 0x40000000#32 := rfl

/-- The value of `%11`. -/
def val_main_v11 : (⟨S4352x2048, .f32⟩ : BufTy).Contents (Elt F) :=
  broadcastInDim S4352x2048 ![] bcast_S_S4352x2048 (val_main_cst_0 (F := F))
abbrev idx_main_v11 (i : S4352x2048.Idx) : S_.Idx := fun a => a.elim0
/-- `%11` at an index. -/
theorem val_main_v11_apply (i : S4352x2048.Idx) :
    val_main_v11 (F := F) i = val_main_cst_0 (F := F) (idx_main_v11 i) := by
  unfold val_main_v11
  generalize val_main_cst_0 (F := F) = y
  exact broadcastInDim_apply _ bcast_S_S4352x2048 y i (idx_main_v11 i) (fun a => a.elim0)

/-- The value of `%12`. -/
def val_main_v12 (x11 : (⟨S4352x2048, .f32⟩ : BufTy).Contents (Elt F)) : (⟨S4352x2048, .f32⟩ : BufTy).Contents (Elt F) :=
  mulf (val_main_v11 (F := F)) (x11)
/-- `%12` at an index. -/
theorem val_main_v12_apply (x11 : (⟨S4352x2048, .f32⟩ : BufTy).Contents (Elt F)) (i : S4352x2048.Idx) :
    val_main_v12 (F := F) x11 i = FloatOps.mulf (val_main_v11 (F := F) i) (x11 i) := rfl

def val_main_cst_1 : (⟨S_, .f32⟩ : BufTy).Contents (Elt F) :=
  constant S_ .f32 0x3F800000#32
/-- `%cst_1` at an index. -/
theorem val_main_cst_1_apply (i : S_.Idx) :
    val_main_cst_1 (F := F) i = FloatOps.ofBits .f32 0x3F800000#32 := rfl

/-- The value of `%13`. -/
def val_main_v13 : (⟨S4352x2048, .f32⟩ : BufTy).Contents (Elt F) :=
  broadcastInDim S4352x2048 ![] bcast_S_S4352x2048 (val_main_cst_1 (F := F))
abbrev idx_main_v13 (i : S4352x2048.Idx) : S_.Idx := fun a => a.elim0
/-- `%13` at an index. -/
theorem val_main_v13_apply (i : S4352x2048.Idx) :
    val_main_v13 (F := F) i = val_main_cst_1 (F := F) (idx_main_v13 i) := by
  unfold val_main_v13
  generalize val_main_cst_1 (F := F) = y
  exact broadcastInDim_apply _ bcast_S_S4352x2048 y i (idx_main_v13 i) (fun a => a.elim0)

/-- The value of `%14`. -/
def val_main_v14 (x11 : (⟨S4352x2048, .f32⟩ : BufTy).Contents (Elt F)) : (⟨S4352x2048, .f32⟩ : BufTy).Contents (Elt F) :=
  subf (val_main_v12 (F := F) x11) (val_main_v13 (F := F))
/-- `%14` at an index. -/
theorem val_main_v14_apply (x11 : (⟨S4352x2048, .f32⟩ : BufTy).Contents (Elt F)) (i : S4352x2048.Idx) :
    val_main_v14 (F := F) x11 i = FloatOps.subf (val_main_v12 (F := F) x11 i) (val_main_v13 (F := F) i) := rfl

/-- The value of `%15`. -/
def val_main_v15 (x11 : (⟨S4352x2048, .f32⟩ : BufTy).Contents (Elt F)) : (⟨S4352x2048, .f32⟩ : BufTy).Contents (Elt F) :=
  mulf (val_main_v14 (F := F) x11) (val_main_v14 (F := F) x11)
/-- `%15` at an index. -/
theorem val_main_v15_apply (x11 : (⟨S4352x2048, .f32⟩ : BufTy).Contents (Elt F)) (i : S4352x2048.Idx) :
    val_main_v15 (F := F) x11 i = FloatOps.mulf (val_main_v14 (F := F) x11 i) (val_main_v14 (F := F) x11 i) := rfl

/-- The value of `%16`. -/
def val_main_v16 (x11 : (⟨S4352x2048, .f32⟩ : BufTy).Contents (Elt F)) : (⟨S4352x2048, .f32⟩ : BufTy).Contents (Elt F) :=
  mulf (val_main_v15 (F := F) x11) (val_main_v15 (F := F) x11)
/-- `%16` at an index. -/
theorem val_main_v16_apply (x11 : (⟨S4352x2048, .f32⟩ : BufTy).Contents (Elt F)) (i : S4352x2048.Idx) :
    val_main_v16 (F := F) x11 i = FloatOps.mulf (val_main_v15 (F := F) x11 i) (val_main_v15 (F := F) x11 i) := rfl

/-- The value of `%17`. -/
def val_main_v17 (x11 : (⟨S4352x2048, .f32⟩ : BufTy).Contents (Elt F)) : (⟨S4352x16x128, .f32⟩ : BufTy).Contents (Elt F) :=
  shapeCast _ (val_main_v16 (F := F) x11) shapeCasts_S4352x2048_S4352x16x128
set_option backward.proofsInPublic true in
abbrev idx_main_v17 (i : S4352x16x128.Idx) : S4352x2048.Idx := fun a => match a with
  | ⟨0, _⟩ => ⟨(((i 0).val * 16 + (i 1).val) * 128 + (i 2).val) / 2048, by have h0 : (i 0).val < 4352 := (i 0).isLt; have h1 : (i 1).val < 16 := (i 1).isLt; have h2 : (i 2).val < 128 := (i 2).isLt; show (((i 0).val * 16 + (i 1).val) * 128 + (i 2).val) / 2048 < 4352; omega⟩
  | ⟨1, _⟩ => ⟨(((i 0).val * 16 + (i 1).val) * 128 + (i 2).val) % 2048, by have h0 : (i 0).val < 4352 := (i 0).isLt; have h1 : (i 1).val < 16 := (i 1).isLt; have h2 : (i 2).val < 128 := (i 2).isLt; show (((i 0).val * 16 + (i 1).val) * 128 + (i 2).val) % 2048 < 2048; omega⟩
/-- `%17` at an index. -/
theorem val_main_v17_apply (x11 : (⟨S4352x2048, .f32⟩ : BufTy).Contents (Elt F)) (i : S4352x16x128.Idx) :
    val_main_v17 (F := F) x11 i = val_main_v16 (F := F) x11 (idx_main_v17 i) := by
  unfold val_main_v17
  generalize val_main_v16 (F := F) x11 = y
  exact shapeCast_apply y shapeCasts_S4352x2048_S4352x16x128 i (idx_main_v17 i)
    (by rewrite [Shape.rowMajor_val_two, Shape.rowMajor_val_three]; have h0 : (i 0).val < 4352 := (i 0).isLt; have h1 : (i 1).val < 16 := (i 1).isLt; have h2 : (i 2).val < 128 := (i 2).isLt; show (((i 0).val * 16 + (i 1).val) * 128 + (i 2).val) / 2048 * 2048 + (((i 0).val * 16 + (i 1).val) * 128 + (i 2).val) % 2048 = ((i 0).val * 16 + (i 1).val) * 128 + (i 2).val; omega)

def val_main_cst_2 : (⟨S_, .f32⟩ : BufTy).Contents (Elt F) :=
  constant S_ .f32 0x00000000#32
/-- `%cst_2` at an index. -/
theorem val_main_cst_2_apply (i : S_.Idx) :
    val_main_cst_2 (F := F) i = FloatOps.ofBits .f32 0x00000000#32 := rfl

/-- The value of `%18`. -/
def val_main_v18 (x11 : (⟨S4352x2048, .f32⟩ : BufTy).Contents (Elt F)) : (⟨S4352x16, .f32⟩ : BufTy).Contents (Elt F) :=
  Host.reduceAdd (val_main_v17 (F := F) x11) (val_main_cst_2 (F := F)) reducesTo_S4352x16x128_S4352x16_d2 h_S_
abbrev idx_main_v18 (i : S4352x16.Idx) (k : Fin 128) : S4352x16x128.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v18_apply (x11 : (⟨S4352x2048, .f32⟩ : BufTy).Contents (Elt Ideal)) (i : S4352x16.Idx) :
    val_main_v18 (F := Ideal) x11 i = (val_main_cst_2 (F := Ideal)) (Shape.Idx.first h_S_) + ∑ k : Fin 128, (val_main_v17 (F := Ideal) x11) (idx_main_v18 i k) := by
  unfold val_main_v18
  generalize val_main_v17 (F := Ideal) x11 = y0
  simp only [Host.reduceAdd, Ideal.hostReduceAdd_def]
  rw [Ideal.hostReduceAdd_single reducesTo_S4352x16x128_S4352x16_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

/-- The value of `%19`. -/
def val_main_v19 (x1 : (⟨S4352x16, .f32⟩ : BufTy).Contents (Elt F)) (x5 x6 : (⟨S4352x1024, .f32⟩ : BufTy).Contents (Elt F)) (x11 : (⟨S4352x2048, .f32⟩ : BufTy).Contents (Elt F)) : (⟨S4352x2048, .bf16⟩ : BufTy).Contents (Elt F) :=
  truncf .bf16 (val_main_v10 (F := F) x1 x5 x6 x11) bitsLt_bf16_f32
/-- `%19` at an index. -/
theorem val_main_v19_apply (x1 : (⟨S4352x16, .f32⟩ : BufTy).Contents (Elt F)) (x5 x6 : (⟨S4352x1024, .f32⟩ : BufTy).Contents (Elt F)) (x11 : (⟨S4352x2048, .f32⟩ : BufTy).Contents (Elt F)) (i : S4352x2048.Idx) :
    val_main_v19 (F := F) x1 x5 x6 x11 i = FloatOps.truncf .bf16 bitsLt_bf16_f32 (val_main_v10 (F := F) x1 x5 x6 x11 i) := rfl

/-- The value of `%39`. -/
def val_main_v39 (x9 : (⟨S2048x2176, .f32⟩ : BufTy).Contents (Elt F)) : (⟨S2048x34x64, .f32⟩ : BufTy).Contents (Elt F) :=
  shapeCast _ (x9) shapeCasts_S2048x2176_S2048x34x64
set_option backward.proofsInPublic true in
abbrev idx_main_v39 (i : S2048x34x64.Idx) : S2048x2176.Idx := fun a => match a with
  | ⟨0, _⟩ => ⟨(((i 0).val * 34 + (i 1).val) * 64 + (i 2).val) / 2176, by have h0 : (i 0).val < 2048 := (i 0).isLt; have h1 : (i 1).val < 34 := (i 1).isLt; have h2 : (i 2).val < 64 := (i 2).isLt; show (((i 0).val * 34 + (i 1).val) * 64 + (i 2).val) / 2176 < 2048; omega⟩
  | ⟨1, _⟩ => ⟨(((i 0).val * 34 + (i 1).val) * 64 + (i 2).val) % 2176, by have h0 : (i 0).val < 2048 := (i 0).isLt; have h1 : (i 1).val < 34 := (i 1).isLt; have h2 : (i 2).val < 64 := (i 2).isLt; show (((i 0).val * 34 + (i 1).val) * 64 + (i 2).val) % 2176 < 2176; omega⟩
/-- `%39` at an index. -/
theorem val_main_v39_apply (x9 : (⟨S2048x2176, .f32⟩ : BufTy).Contents (Elt F)) (i : S2048x34x64.Idx) :
    val_main_v39 (F := F) x9 i = x9 (idx_main_v39 i) := by
  unfold val_main_v39
  exact shapeCast_apply x9 shapeCasts_S2048x2176_S2048x34x64 i (idx_main_v39 i)
    (by rewrite [Shape.rowMajor_val_two, Shape.rowMajor_val_three]; have h0 : (i 0).val < 2048 := (i 0).isLt; have h1 : (i 1).val < 34 := (i 1).isLt; have h2 : (i 2).val < 64 := (i 2).isLt; show (((i 0).val * 34 + (i 1).val) * 64 + (i 2).val) / 2176 * 2176 + (((i 0).val * 34 + (i 1).val) * 64 + (i 2).val) % 2176 = ((i 0).val * 34 + (i 1).val) * 64 + (i 2).val; omega)

/-- The value of `%40`. -/
def val_main_v40 (x10 : (⟨S2048x2176, .f32⟩ : BufTy).Contents (Elt F)) : (⟨S2048x34x64, .f32⟩ : BufTy).Contents (Elt F) :=
  shapeCast _ (x10) shapeCasts_S2048x2176_S2048x34x64
set_option backward.proofsInPublic true in
abbrev idx_main_v40 (i : S2048x34x64.Idx) : S2048x2176.Idx := fun a => match a with
  | ⟨0, _⟩ => ⟨(((i 0).val * 34 + (i 1).val) * 64 + (i 2).val) / 2176, by have h0 : (i 0).val < 2048 := (i 0).isLt; have h1 : (i 1).val < 34 := (i 1).isLt; have h2 : (i 2).val < 64 := (i 2).isLt; show (((i 0).val * 34 + (i 1).val) * 64 + (i 2).val) / 2176 < 2048; omega⟩
  | ⟨1, _⟩ => ⟨(((i 0).val * 34 + (i 1).val) * 64 + (i 2).val) % 2176, by have h0 : (i 0).val < 2048 := (i 0).isLt; have h1 : (i 1).val < 34 := (i 1).isLt; have h2 : (i 2).val < 64 := (i 2).isLt; show (((i 0).val * 34 + (i 1).val) * 64 + (i 2).val) % 2176 < 2176; omega⟩
/-- `%40` at an index. -/
theorem val_main_v40_apply (x10 : (⟨S2048x2176, .f32⟩ : BufTy).Contents (Elt F)) (i : S2048x34x64.Idx) :
    val_main_v40 (F := F) x10 i = x10 (idx_main_v40 i) := by
  unfold val_main_v40
  exact shapeCast_apply x10 shapeCasts_S2048x2176_S2048x34x64 i (idx_main_v40 i)
    (by rewrite [Shape.rowMajor_val_two, Shape.rowMajor_val_three]; have h0 : (i 0).val < 2048 := (i 0).isLt; have h1 : (i 1).val < 34 := (i 1).isLt; have h2 : (i 2).val < 64 := (i 2).isLt; show (((i 0).val * 34 + (i 1).val) * 64 + (i 2).val) / 2176 * 2176 + (((i 0).val * 34 + (i 1).val) * 64 + (i 2).val) % 2176 = ((i 0).val * 34 + (i 1).val) * 64 + (i 2).val; omega)

/-- The value of `%41`. -/
def val_main_v41 (x9 x10 : (⟨S2048x2176, .f32⟩ : BufTy).Contents (Elt F)) : (⟨S2048x34x128, .f32⟩ : BufTy).Contents (Elt F) :=
  concatenate S2048x34x128 2 [⟨S2048x34x64, (val_main_v39 (F := F) x9)⟩, ⟨S2048x34x64, (val_main_v40 (F := F) x10)⟩] concatenates_S2048x34x64_S2048x34x64_S2048x34x128_d2

/-- The value of `%42`. -/
def val_main_v42 (x9 x10 : (⟨S2048x2176, .f32⟩ : BufTy).Contents (Elt F)) : (⟨S2048x4352, .f32⟩ : BufTy).Contents (Elt F) :=
  shapeCast _ (val_main_v41 (F := F) x9 x10) shapeCasts_S2048x34x128_S2048x4352
set_option backward.proofsInPublic true in
abbrev idx_main_v42 (i : S2048x4352.Idx) : S2048x34x128.Idx := fun a => match a with
  | ⟨0, _⟩ => ⟨((i 0).val * 4352 + (i 1).val) / 4352, by have h0 : (i 0).val < 2048 := (i 0).isLt; have h1 : (i 1).val < 4352 := (i 1).isLt; show ((i 0).val * 4352 + (i 1).val) / 4352 < 2048; omega⟩
  | ⟨1, _⟩ => ⟨((i 0).val * 4352 + (i 1).val) / 128 % 34, by have h0 : (i 0).val < 2048 := (i 0).isLt; have h1 : (i 1).val < 4352 := (i 1).isLt; show ((i 0).val * 4352 + (i 1).val) / 128 % 34 < 34; omega⟩
  | ⟨2, _⟩ => ⟨((i 0).val * 4352 + (i 1).val) % 128, by have h0 : (i 0).val < 2048 := (i 0).isLt; have h1 : (i 1).val < 4352 := (i 1).isLt; show ((i 0).val * 4352 + (i 1).val) % 128 < 128; omega⟩
/-- `%42` at an index. -/
theorem val_main_v42_apply (x9 x10 : (⟨S2048x2176, .f32⟩ : BufTy).Contents (Elt F)) (i : S2048x4352.Idx) :
    val_main_v42 (F := F) x9 x10 i = val_main_v41 (F := F) x9 x10 (idx_main_v42 i) := by
  unfold val_main_v42
  generalize val_main_v41 (F := F) x9 x10 = y
  exact shapeCast_apply y shapeCasts_S2048x34x128_S2048x4352 i (idx_main_v42 i)
    (by rewrite [Shape.rowMajor_val_three, Shape.rowMajor_val_two]; have h0 : (i 0).val < 2048 := (i 0).isLt; have h1 : (i 1).val < 4352 := (i 1).isLt; show (((i 0).val * 4352 + (i 1).val) / 4352 * 34 + ((i 0).val * 4352 + (i 1).val) / 128 % 34) * 128 + ((i 0).val * 4352 + (i 1).val) % 128 = (i 0).val * 4352 + (i 1).val; omega)

/-- The value of `%43`. -/
def val_main_v43 (x3 : (⟨S2048x34, .f32⟩ : BufTy).Contents (Elt F)) : (⟨S2048x34x128, .f32⟩ : BufTy).Contents (Elt F) :=
  broadcastInDim S2048x34x128 ![0, 1] bcast_S2048x34_S2048x34x128_0_1 (x3)
abbrev idx_main_v43 (i : S2048x34x128.Idx) : S2048x34.Idx := fun a => match a with
  | ⟨0, _⟩ => ⟨(i 0).val, (i 0).isLt⟩
  | ⟨1, _⟩ => ⟨(i 1).val, (i 1).isLt⟩
/-- `%43` at an index. -/
theorem val_main_v43_apply (x3 : (⟨S2048x34, .f32⟩ : BufTy).Contents (Elt F)) (i : S2048x34x128.Idx) :
    val_main_v43 (F := F) x3 i = x3 (idx_main_v43 i) := by
  unfold val_main_v43
  exact broadcastInDim_apply _ bcast_S2048x34_S2048x34x128_0_1 x3 i (idx_main_v43 i) (fun a => match a with
    | ⟨0, _⟩ => by show (i 0).val = if (2048 : Nat) = 1 then 0 else (i 0).val; rw [if_neg (by decide)]
    | ⟨1, _⟩ => by show (i 1).val = if (34 : Nat) = 1 then 0 else (i 1).val; rw [if_neg (by decide)])

/-- The value of `%44`. -/
def val_main_v44 (x3 : (⟨S2048x34, .f32⟩ : BufTy).Contents (Elt F)) : (⟨S2048x4352, .f32⟩ : BufTy).Contents (Elt F) :=
  shapeCast _ (val_main_v43 (F := F) x3) shapeCasts_S2048x34x128_S2048x4352
set_option backward.proofsInPublic true in
abbrev idx_main_v44 (i : S2048x4352.Idx) : S2048x34x128.Idx := fun a => match a with
  | ⟨0, _⟩ => ⟨((i 0).val * 4352 + (i 1).val) / 4352, by have h0 : (i 0).val < 2048 := (i 0).isLt; have h1 : (i 1).val < 4352 := (i 1).isLt; show ((i 0).val * 4352 + (i 1).val) / 4352 < 2048; omega⟩
  | ⟨1, _⟩ => ⟨((i 0).val * 4352 + (i 1).val) / 128 % 34, by have h0 : (i 0).val < 2048 := (i 0).isLt; have h1 : (i 1).val < 4352 := (i 1).isLt; show ((i 0).val * 4352 + (i 1).val) / 128 % 34 < 34; omega⟩
  | ⟨2, _⟩ => ⟨((i 0).val * 4352 + (i 1).val) % 128, by have h0 : (i 0).val < 2048 := (i 0).isLt; have h1 : (i 1).val < 4352 := (i 1).isLt; show ((i 0).val * 4352 + (i 1).val) % 128 < 128; omega⟩
/-- `%44` at an index. -/
theorem val_main_v44_apply (x3 : (⟨S2048x34, .f32⟩ : BufTy).Contents (Elt F)) (i : S2048x4352.Idx) :
    val_main_v44 (F := F) x3 i = val_main_v43 (F := F) x3 (idx_main_v44 i) := by
  unfold val_main_v44
  generalize val_main_v43 (F := F) x3 = y
  exact shapeCast_apply y shapeCasts_S2048x34x128_S2048x4352 i (idx_main_v44 i)
    (by rewrite [Shape.rowMajor_val_three, Shape.rowMajor_val_two]; have h0 : (i 0).val < 2048 := (i 0).isLt; have h1 : (i 1).val < 4352 := (i 1).isLt; show (((i 0).val * 4352 + (i 1).val) / 4352 * 34 + ((i 0).val * 4352 + (i 1).val) / 128 % 34) * 128 + ((i 0).val * 4352 + (i 1).val) % 128 = (i 0).val * 4352 + (i 1).val; omega)

/-- The value of `%45`. -/
def val_main_v45 (x9 x10 : (⟨S2048x2176, .f32⟩ : BufTy).Contents (Elt F)) (x13 : (⟨S2048x4352, .f32⟩ : BufTy).Contents (Elt F)) : (⟨S2048x4352, .f32⟩ : BufTy).Contents (Elt F) :=
  addf (val_main_v42 (F := F) x9 x10) (x13)
/-- `%45` at an index. -/
theorem val_main_v45_apply (x9 x10 : (⟨S2048x2176, .f32⟩ : BufTy).Contents (Elt F)) (x13 : (⟨S2048x4352, .f32⟩ : BufTy).Contents (Elt F)) (i : S2048x4352.Idx) :
    val_main_v45 (F := F) x9 x10 x13 i = FloatOps.addf (val_main_v42 (F := F) x9 x10 i) (x13 i) := rfl

def val_main_cst_7 : (⟨S_, .f32⟩ : BufTy).Contents (Elt F) :=
  constant S_ .f32 0x40E00000#32
/-- `%cst_7` at an index. -/
theorem val_main_cst_7_apply (i : S_.Idx) :
    val_main_cst_7 (F := F) i = FloatOps.ofBits .f32 0x40E00000#32 := rfl

/-- The value of `%46`. -/
def val_main_v46 : (⟨S2048x4352, .f32⟩ : BufTy).Contents (Elt F) :=
  broadcastInDim S2048x4352 ![] bcast_S_S2048x4352 (val_main_cst_7 (F := F))
abbrev idx_main_v46 (i : S2048x4352.Idx) : S_.Idx := fun a => a.elim0
/-- `%46` at an index. -/
theorem val_main_v46_apply (i : S2048x4352.Idx) :
    val_main_v46 (F := F) i = val_main_cst_7 (F := F) (idx_main_v46 i) := by
  unfold val_main_v46
  generalize val_main_cst_7 (F := F) = y
  exact broadcastInDim_apply _ bcast_S_S2048x4352 y i (idx_main_v46 i) (fun a => a.elim0)

/-- The value of `%47`. -/
def val_main_v47 (x9 x10 : (⟨S2048x2176, .f32⟩ : BufTy).Contents (Elt F)) (x13 : (⟨S2048x4352, .f32⟩ : BufTy).Contents (Elt F)) : (⟨S2048x4352, .f32⟩ : BufTy).Contents (Elt F) :=
  minimumf (val_main_v45 (F := F) x9 x10 x13) (val_main_v46 (F := F))
/-- `%47` at an index. -/
theorem val_main_v47_apply (x9 x10 : (⟨S2048x2176, .f32⟩ : BufTy).Contents (Elt F)) (x13 : (⟨S2048x4352, .f32⟩ : BufTy).Contents (Elt F)) (i : S2048x4352.Idx) :
    val_main_v47 (F := F) x9 x10 x13 i = FloatOps.minimumf (val_main_v45 (F := F) x9 x10 x13 i) (val_main_v46 (F := F) i) := rfl

/-- The value of `%48`. -/
def val_main_v48 (x3 : (⟨S2048x34, .f32⟩ : BufTy).Contents (Elt F)) (x9 x10 : (⟨S2048x2176, .f32⟩ : BufTy).Contents (Elt F)) (x13 : (⟨S2048x4352, .f32⟩ : BufTy).Contents (Elt F)) : (⟨S2048x4352, .f32⟩ : BufTy).Contents (Elt F) :=
  mulf (val_main_v44 (F := F) x3) (val_main_v47 (F := F) x9 x10 x13)
/-- `%48` at an index. -/
theorem val_main_v48_apply (x3 : (⟨S2048x34, .f32⟩ : BufTy).Contents (Elt F)) (x9 x10 : (⟨S2048x2176, .f32⟩ : BufTy).Contents (Elt F)) (x13 : (⟨S2048x4352, .f32⟩ : BufTy).Contents (Elt F)) (i : S2048x4352.Idx) :
    val_main_v48 (F := F) x3 x9 x10 x13 i = FloatOps.mulf (val_main_v44 (F := F) x3 i) (val_main_v47 (F := F) x9 x10 x13 i) := rfl

def val_main_cst_8 : (⟨S_, .f32⟩ : BufTy).Contents (Elt F) :=
  constant S_ .f32 0x40000000#32
/-- `%cst_8` at an index. -/
theorem val_main_cst_8_apply (i : S_.Idx) :
    val_main_cst_8 (F := F) i = FloatOps.ofBits .f32 0x40000000#32 := rfl

/-- The value of `%49`. -/
def val_main_v49 : (⟨S2048x4352, .f32⟩ : BufTy).Contents (Elt F) :=
  broadcastInDim S2048x4352 ![] bcast_S_S2048x4352 (val_main_cst_8 (F := F))
abbrev idx_main_v49 (i : S2048x4352.Idx) : S_.Idx := fun a => a.elim0
/-- `%49` at an index. -/
theorem val_main_v49_apply (i : S2048x4352.Idx) :
    val_main_v49 (F := F) i = val_main_cst_8 (F := F) (idx_main_v49 i) := by
  unfold val_main_v49
  generalize val_main_cst_8 (F := F) = y
  exact broadcastInDim_apply _ bcast_S_S2048x4352 y i (idx_main_v49 i) (fun a => a.elim0)

/-- The value of `%50`. -/
def val_main_v50 (x13 : (⟨S2048x4352, .f32⟩ : BufTy).Contents (Elt F)) : (⟨S2048x4352, .f32⟩ : BufTy).Contents (Elt F) :=
  mulf (val_main_v49 (F := F)) (x13)
/-- `%50` at an index. -/
theorem val_main_v50_apply (x13 : (⟨S2048x4352, .f32⟩ : BufTy).Contents (Elt F)) (i : S2048x4352.Idx) :
    val_main_v50 (F := F) x13 i = FloatOps.mulf (val_main_v49 (F := F) i) (x13 i) := rfl

def val_main_cst_9 : (⟨S_, .f32⟩ : BufTy).Contents (Elt F) :=
  constant S_ .f32 0x3F800000#32
/-- `%cst_9` at an index. -/
theorem val_main_cst_9_apply (i : S_.Idx) :
    val_main_cst_9 (F := F) i = FloatOps.ofBits .f32 0x3F800000#32 := rfl

/-- The value of `%51`. -/
def val_main_v51 : (⟨S2048x4352, .f32⟩ : BufTy).Contents (Elt F) :=
  broadcastInDim S2048x4352 ![] bcast_S_S2048x4352 (val_main_cst_9 (F := F))
abbrev idx_main_v51 (i : S2048x4352.Idx) : S_.Idx := fun a => a.elim0
/-- `%51` at an index. -/
theorem val_main_v51_apply (i : S2048x4352.Idx) :
    val_main_v51 (F := F) i = val_main_cst_9 (F := F) (idx_main_v51 i) := by
  unfold val_main_v51
  generalize val_main_cst_9 (F := F) = y
  exact broadcastInDim_apply _ bcast_S_S2048x4352 y i (idx_main_v51 i) (fun a => a.elim0)

/-- The value of `%52`. -/
def val_main_v52 (x13 : (⟨S2048x4352, .f32⟩ : BufTy).Contents (Elt F)) : (⟨S2048x4352, .f32⟩ : BufTy).Contents (Elt F) :=
  subf (val_main_v50 (F := F) x13) (val_main_v51 (F := F))
/-- `%52` at an index. -/
theorem val_main_v52_apply (x13 : (⟨S2048x4352, .f32⟩ : BufTy).Contents (Elt F)) (i : S2048x4352.Idx) :
    val_main_v52 (F := F) x13 i = FloatOps.subf (val_main_v50 (F := F) x13 i) (val_main_v51 (F := F) i) := rfl

/-- The value of `%53`. -/
def val_main_v53 (x13 : (⟨S2048x4352, .f32⟩ : BufTy).Contents (Elt F)) : (⟨S2048x4352, .f32⟩ : BufTy).Contents (Elt F) :=
  mulf (val_main_v52 (F := F) x13) (val_main_v52 (F := F) x13)
/-- `%53` at an index. -/
theorem val_main_v53_apply (x13 : (⟨S2048x4352, .f32⟩ : BufTy).Contents (Elt F)) (i : S2048x4352.Idx) :
    val_main_v53 (F := F) x13 i = FloatOps.mulf (val_main_v52 (F := F) x13 i) (val_main_v52 (F := F) x13 i) := rfl

/-- The value of `%54`. -/
def val_main_v54 (x13 : (⟨S2048x4352, .f32⟩ : BufTy).Contents (Elt F)) : (⟨S2048x4352, .f32⟩ : BufTy).Contents (Elt F) :=
  mulf (val_main_v53 (F := F) x13) (val_main_v53 (F := F) x13)
/-- `%54` at an index. -/
theorem val_main_v54_apply (x13 : (⟨S2048x4352, .f32⟩ : BufTy).Contents (Elt F)) (i : S2048x4352.Idx) :
    val_main_v54 (F := F) x13 i = FloatOps.mulf (val_main_v53 (F := F) x13 i) (val_main_v53 (F := F) x13 i) := rfl

/-- The value of `%55`. -/
def val_main_v55 (x13 : (⟨S2048x4352, .f32⟩ : BufTy).Contents (Elt F)) : (⟨S2048x34x128, .f32⟩ : BufTy).Contents (Elt F) :=
  shapeCast _ (val_main_v54 (F := F) x13) shapeCasts_S2048x4352_S2048x34x128
set_option backward.proofsInPublic true in
abbrev idx_main_v55 (i : S2048x34x128.Idx) : S2048x4352.Idx := fun a => match a with
  | ⟨0, _⟩ => ⟨(((i 0).val * 34 + (i 1).val) * 128 + (i 2).val) / 4352, by have h0 : (i 0).val < 2048 := (i 0).isLt; have h1 : (i 1).val < 34 := (i 1).isLt; have h2 : (i 2).val < 128 := (i 2).isLt; show (((i 0).val * 34 + (i 1).val) * 128 + (i 2).val) / 4352 < 2048; omega⟩
  | ⟨1, _⟩ => ⟨(((i 0).val * 34 + (i 1).val) * 128 + (i 2).val) % 4352, by have h0 : (i 0).val < 2048 := (i 0).isLt; have h1 : (i 1).val < 34 := (i 1).isLt; have h2 : (i 2).val < 128 := (i 2).isLt; show (((i 0).val * 34 + (i 1).val) * 128 + (i 2).val) % 4352 < 4352; omega⟩
/-- `%55` at an index. -/
theorem val_main_v55_apply (x13 : (⟨S2048x4352, .f32⟩ : BufTy).Contents (Elt F)) (i : S2048x34x128.Idx) :
    val_main_v55 (F := F) x13 i = val_main_v54 (F := F) x13 (idx_main_v55 i) := by
  unfold val_main_v55
  generalize val_main_v54 (F := F) x13 = y
  exact shapeCast_apply y shapeCasts_S2048x4352_S2048x34x128 i (idx_main_v55 i)
    (by rewrite [Shape.rowMajor_val_two, Shape.rowMajor_val_three]; have h0 : (i 0).val < 2048 := (i 0).isLt; have h1 : (i 1).val < 34 := (i 1).isLt; have h2 : (i 2).val < 128 := (i 2).isLt; show (((i 0).val * 34 + (i 1).val) * 128 + (i 2).val) / 4352 * 4352 + (((i 0).val * 34 + (i 1).val) * 128 + (i 2).val) % 4352 = ((i 0).val * 34 + (i 1).val) * 128 + (i 2).val; omega)

def val_main_cst_10 : (⟨S_, .f32⟩ : BufTy).Contents (Elt F) :=
  constant S_ .f32 0x00000000#32
/-- `%cst_10` at an index. -/
theorem val_main_cst_10_apply (i : S_.Idx) :
    val_main_cst_10 (F := F) i = FloatOps.ofBits .f32 0x00000000#32 := rfl

/-- The value of `%56`. -/
def val_main_v56 (x13 : (⟨S2048x4352, .f32⟩ : BufTy).Contents (Elt F)) : (⟨S2048x34, .f32⟩ : BufTy).Contents (Elt F) :=
  Host.reduceAdd (val_main_v55 (F := F) x13) (val_main_cst_10 (F := F)) reducesTo_S2048x34x128_S2048x34_d2 h_S_
abbrev idx_main_v56 (i : S2048x34.Idx) (k : Fin 128) : S2048x34x128.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v56_apply (x13 : (⟨S2048x4352, .f32⟩ : BufTy).Contents (Elt Ideal)) (i : S2048x34.Idx) :
    val_main_v56 (F := Ideal) x13 i = (val_main_cst_10 (F := Ideal)) (Shape.Idx.first h_S_) + ∑ k : Fin 128, (val_main_v55 (F := Ideal) x13) (idx_main_v56 i k) := by
  unfold val_main_v56
  generalize val_main_v55 (F := Ideal) x13 = y0
  simp only [Host.reduceAdd, Ideal.hostReduceAdd_def]
  rw [Ideal.hostReduceAdd_single reducesTo_S2048x34x128_S2048x34_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

/-- The value of `%57`. -/
def val_main_v57 (x3 : (⟨S2048x34, .f32⟩ : BufTy).Contents (Elt F)) (x9 x10 : (⟨S2048x2176, .f32⟩ : BufTy).Contents (Elt F)) (x13 : (⟨S2048x4352, .f32⟩ : BufTy).Contents (Elt F)) : (⟨S2048x4352, .bf16⟩ : BufTy).Contents (Elt F) :=
  truncf .bf16 (val_main_v48 (F := F) x3 x9 x10 x13) bitsLt_bf16_f32
/-- `%57` at an index. -/
theorem val_main_v57_apply (x3 : (⟨S2048x34, .f32⟩ : BufTy).Contents (Elt F)) (x9 x10 : (⟨S2048x2176, .f32⟩ : BufTy).Contents (Elt F)) (x13 : (⟨S2048x4352, .f32⟩ : BufTy).Contents (Elt F)) (i : S2048x4352.Idx) :
    val_main_v57 (F := F) x3 x9 x10 x13 i = FloatOps.truncf .bf16 bitsLt_bf16_f32 (val_main_v48 (F := F) x3 x9 x10 x13 i) := rfl

/-- The value of `%58`. -/
def val_main_v58 (x0 : (⟨S6x768, .f32⟩ : BufTy).Contents (Elt F)) : (⟨S4608, .f32⟩ : BufTy).Contents (Elt F) :=
  shapeCast _ (x0) shapeCasts_S6x768_S4608
set_option backward.proofsInPublic true in
abbrev idx_main_v58 (i : S4608.Idx) : S6x768.Idx := fun a => match a with
  | ⟨0, _⟩ => ⟨((i 0).val) / 768, by have h0 : (i 0).val < 4608 := (i 0).isLt; show ((i 0).val) / 768 < 6; omega⟩
  | ⟨1, _⟩ => ⟨((i 0).val) % 768, by have h0 : (i 0).val < 4608 := (i 0).isLt; show ((i 0).val) % 768 < 768; omega⟩
/-- `%58` at an index. -/
theorem val_main_v58_apply (x0 : (⟨S6x768, .f32⟩ : BufTy).Contents (Elt F)) (i : S4608.Idx) :
    val_main_v58 (F := F) x0 i = x0 (idx_main_v58 i) := by
  unfold val_main_v58
  exact shapeCast_apply x0 shapeCasts_S6x768_S4608 i (idx_main_v58 i)
    (by rewrite [Shape.rowMajor_val_two, Shape.rowMajor_val_one]; have h0 : (i 0).val < 4608 := (i 0).isLt; show ((i 0).val) / 768 * 768 + ((i 0).val) % 768 = (i 0).val; omega)

/-- The value of `%59`. -/
def val_main_v59 (x0 : (⟨S6x768, .f32⟩ : BufTy).Contents (Elt F)) : (⟨S4608x1, .f32⟩ : BufTy).Contents (Elt F) :=
  broadcastInDim S4608x1 ![0] bcast_S4608_S4608x1_0 (val_main_v58 (F := F) x0)
abbrev idx_main_v59 (i : S4608x1.Idx) : S4608.Idx := fun a => match a with
  | ⟨0, _⟩ => ⟨(i 0).val, (i 0).isLt⟩
/-- `%59` at an index. -/
theorem val_main_v59_apply (x0 : (⟨S6x768, .f32⟩ : BufTy).Contents (Elt F)) (i : S4608x1.Idx) :
    val_main_v59 (F := F) x0 i = val_main_v58 (F := F) x0 (idx_main_v59 i) := by
  unfold val_main_v59
  generalize val_main_v58 (F := F) x0 = y
  exact broadcastInDim_apply _ bcast_S4608_S4608x1_0 y i (idx_main_v59 i) (fun a => match a with
    | ⟨0, _⟩ => by show (i 0).val = if (4608 : Nat) = 1 then 0 else (i 0).val; rw [if_neg (by decide)])

/-- The value of `%60`. -/
def val_main_v60 (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) : (⟨S4608x4352, .f32⟩ : BufTy).Contents (Elt F) :=
  Host.dotGeneral dot_S4608x2048_S4352x2048_S4608x4352_1_1_0_0_n_n none (x4) (val_main_v19 (F := F) x1 x5 x6 x11)
/-- Axis 0 of the left factor of `%60`. -/
theorem lhs_main_v60_0 (i : S4608x4352.Idx) (q : dot_S4608x2048_S4352x2048_S4608x4352_1_1_0_0_n_n.contr.Idx) :
    (dot_S4608x2048_S4352x2048_S4608x4352_1_1_0_0_n_n.lhsIdx i q 0).val = (i 0).val := by
  unfold DotDims.lhsIdx
  rw [dif_neg (show ¬(0 : Fin S4608x2048.rank) ∈ dot_S4608x2048_S4352x2048_S4608x4352_1_1_0_0_n_n.lhsBatch by decide), dif_pos (show (0 : Fin S4608x2048.rank) ∈ dot_S4608x2048_S4352x2048_S4608x4352_1_1_0_0_n_n.lhsNonContracting by decide)]
  rfl
/-- Axis 1 of the left factor of `%60`. -/
theorem lhs_main_v60_1 (i : S4608x4352.Idx) (q : dot_S4608x2048_S4352x2048_S4608x4352_1_1_0_0_n_n.contr.Idx) :
    (dot_S4608x2048_S4352x2048_S4608x4352_1_1_0_0_n_n.lhsIdx i q 1).val = (q ⟨0, by decide⟩).val :=
  dot_S4608x2048_S4352x2048_S4608x4352_1_1_0_0_n_n.lhsIdx_val_of_single rfl i q
/-- Axis 0 of the right factor of `%60`. -/
theorem rhs_main_v60_0 (i : S4608x4352.Idx) (q : dot_S4608x2048_S4352x2048_S4608x4352_1_1_0_0_n_n.contr.Idx) :
    (dot_S4608x2048_S4352x2048_S4608x4352_1_1_0_0_n_n.rhsIdx i q 0).val = (i 1).val := by
  unfold DotDims.rhsIdx
  rw [dif_neg (show ¬(0 : Fin S4352x2048.rank) ∈ dot_S4608x2048_S4352x2048_S4608x4352_1_1_0_0_n_n.rhsBatch by decide), dif_pos (show (0 : Fin S4352x2048.rank) ∈ dot_S4608x2048_S4352x2048_S4608x4352_1_1_0_0_n_n.rhsNonContracting by decide)]
  rfl
/-- Axis 1 of the right factor of `%60`. -/
theorem rhs_main_v60_1 (i : S4608x4352.Idx) (q : dot_S4608x2048_S4352x2048_S4608x4352_1_1_0_0_n_n.contr.Idx) :
    (dot_S4608x2048_S4352x2048_S4608x4352_1_1_0_0_n_n.rhsIdx i q 1).val = (q ⟨0, by decide⟩).val :=
  dot_S4608x2048_S4352x2048_S4608x4352_1_1_0_0_n_n.rhsIdx_val_of_single rfl i q
abbrev lidx_main_v60 (i : S4608x4352.Idx) (k : Fin 2048) : S4608x2048.Idx := fun a => match a with
  | ⟨0, _⟩ => ⟨(i 0).val, (i 0).isLt⟩
  | ⟨1, _⟩ => ⟨k.val, k.isLt⟩
abbrev ridx_main_v60 (i : S4608x4352.Idx) (k : Fin 2048) : S4352x2048.Idx := fun a => match a with
  | ⟨0, _⟩ => ⟨(i 1).val, (i 1).isLt⟩
  | ⟨1, _⟩ => ⟨k.val, k.isLt⟩
/-- Stated at `F := Ideal`, where the host's `dot_general` is this sum; at a bit-exact instance it is an opaque function of its operands. -/
theorem val_main_v60_apply (x1 : (⟨S4352x16, .f32⟩ : BufTy).Contents (Elt Ideal)) (x4 : (⟨S4608x2048, .bf16⟩ : BufTy).Contents (Elt Ideal)) (x5 x6 : (⟨S4352x1024, .f32⟩ : BufTy).Contents (Elt Ideal)) (x11 : (⟨S4352x2048, .f32⟩ : BufTy).Contents (Elt Ideal)) (i : S4608x4352.Idx) :
    val_main_v60 (F := Ideal) x1 x4 x5 x6 x11 i = ∑ k : Fin 2048, x4 (lidx_main_v60 i k) * (val_main_v19 (F := Ideal) x1 x5 x6 x11) (ridx_main_v60 i k) := by
  unfold val_main_v60
  generalize val_main_v19 (F := Ideal) x1 x5 x6 x11 = y0
  simp only [Host.dotGeneral]
  rw [Ideal.dotGeneral_apply, ← Equiv.sum_comp (ValueIdx.contrEquiv1 dot_S4608x2048_S4352x2048_S4608x4352_1_1_0_0_n_n 2048 rfl rfl).symm]
  refine Finset.sum_congr rfl fun k _ => ?_
  have hk := ValueIdx.contrEquiv1_symm_val dot_S4608x2048_S4352x2048_S4608x4352_1_1_0_0_n_n 2048 rfl rfl k
  have el : dot_S4608x2048_S4352x2048_S4608x4352_1_1_0_0_n_n.lhsIdx i ((ValueIdx.contrEquiv1 dot_S4608x2048_S4352x2048_S4608x4352_1_1_0_0_n_n 2048 rfl rfl).symm k) = lidx_main_v60 i k := funext fun a => Fin.ext (by
    match a with
    | ⟨0, _⟩ => exact lhs_main_v60_0 _ _
    | ⟨1, _⟩ => exact (lhs_main_v60_1 _ _).trans hk)
  have er : dot_S4608x2048_S4352x2048_S4608x4352_1_1_0_0_n_n.rhsIdx i ((ValueIdx.contrEquiv1 dot_S4608x2048_S4352x2048_S4608x4352_1_1_0_0_n_n 2048 rfl rfl).symm k) = ridx_main_v60 i k := funext fun a => Fin.ext (by
    match a with
    | ⟨0, _⟩ => exact rhs_main_v60_0 _ _
    | ⟨1, _⟩ => exact (rhs_main_v60_1 _ _).trans hk)
  rw [el, er]

/-- The value of `%61`. -/
def val_main_v61 (x0 : (⟨S6x768, .f32⟩ : BufTy).Contents (Elt F)) : (⟨S4608x4352, .f32⟩ : BufTy).Contents (Elt F) :=
  broadcastInDim S4608x4352 ![0, 1] bcast_S4608x1_S4608x4352_0_1 (val_main_v59 (F := F) x0)
abbrev idx_main_v61 (i : S4608x4352.Idx) : S4608x1.Idx := fun a => match a with
  | ⟨0, _⟩ => ⟨(i 0).val, (i 0).isLt⟩
  | ⟨1, _⟩ => ⟨0, Nat.one_pos⟩
/-- `%61` at an index. -/
theorem val_main_v61_apply (x0 : (⟨S6x768, .f32⟩ : BufTy).Contents (Elt F)) (i : S4608x4352.Idx) :
    val_main_v61 (F := F) x0 i = val_main_v59 (F := F) x0 (idx_main_v61 i) := by
  unfold val_main_v61
  generalize val_main_v59 (F := F) x0 = y
  exact broadcastInDim_apply _ bcast_S4608x1_S4608x4352_0_1 y i (idx_main_v61 i) (fun a => match a with
    | ⟨0, _⟩ => by show (i 0).val = if (4608 : Nat) = 1 then 0 else (i 0).val; rw [if_neg (by decide)]
    | ⟨1, _⟩ => by show 0 = if (1 : Nat) = 1 then 0 else (i 1).val; rw [if_pos rfl])

/-- The value of `%62`. -/
def val_main_v62 (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) : (⟨S4608x4352, .f32⟩ : BufTy).Contents (Elt F) :=
  mulf (val_main_v61 (F := F) x0) (val_main_v60 (F := F) x1 x4 x5 x6 x11)
/-- `%62` at an index. -/
theorem val_main_v62_apply (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) (i : S4608x4352.Idx) :
    val_main_v62 (F := F) x0 x1 x4 x5 x6 x11 i = FloatOps.mulf (val_main_v61 (F := F) x0 i) (val_main_v60 (F := F) x1 x4 x5 x6 x11 i) := rfl

/-- The value of `%63`. -/
def val_main_v63 (x2 : (⟨S4352x16, .f32⟩ : BufTy).Contents (Elt F)) (x4 : (⟨S4608x2048, .bf16⟩ : BufTy).Contents (Elt F)) (x7 x8 : (⟨S4352x1024, .f32⟩ : BufTy).Contents (Elt F)) (x12 : (⟨S4352x2048, .f32⟩ : BufTy).Contents (Elt F)) : (⟨S4608x4352, .f32⟩ : BufTy).Contents (Elt F) :=
  Host.dotGeneral dot_S4608x2048_S4352x2048_S4608x4352_1_1_0_0_n_n none (x4) (val_main_v19 (F := F) x2 x7 x8 x12)
/-- Axis 0 of the left factor of `%63`. -/
theorem lhs_main_v63_0 (i : S4608x4352.Idx) (q : dot_S4608x2048_S4352x2048_S4608x4352_1_1_0_0_n_n.contr.Idx) :
    (dot_S4608x2048_S4352x2048_S4608x4352_1_1_0_0_n_n.lhsIdx i q 0).val = (i 0).val := by
  unfold DotDims.lhsIdx
  rw [dif_neg (show ¬(0 : Fin S4608x2048.rank) ∈ dot_S4608x2048_S4352x2048_S4608x4352_1_1_0_0_n_n.lhsBatch by decide), dif_pos (show (0 : Fin S4608x2048.rank) ∈ dot_S4608x2048_S4352x2048_S4608x4352_1_1_0_0_n_n.lhsNonContracting by decide)]
  rfl
/-- Axis 1 of the left factor of `%63`. -/
theorem lhs_main_v63_1 (i : S4608x4352.Idx) (q : dot_S4608x2048_S4352x2048_S4608x4352_1_1_0_0_n_n.contr.Idx) :
    (dot_S4608x2048_S4352x2048_S4608x4352_1_1_0_0_n_n.lhsIdx i q 1).val = (q ⟨0, by decide⟩).val :=
  dot_S4608x2048_S4352x2048_S4608x4352_1_1_0_0_n_n.lhsIdx_val_of_single rfl i q
/-- Axis 0 of the right factor of `%63`. -/
theorem rhs_main_v63_0 (i : S4608x4352.Idx) (q : dot_S4608x2048_S4352x2048_S4608x4352_1_1_0_0_n_n.contr.Idx) :
    (dot_S4608x2048_S4352x2048_S4608x4352_1_1_0_0_n_n.rhsIdx i q 0).val = (i 1).val := by
  unfold DotDims.rhsIdx
  rw [dif_neg (show ¬(0 : Fin S4352x2048.rank) ∈ dot_S4608x2048_S4352x2048_S4608x4352_1_1_0_0_n_n.rhsBatch by decide), dif_pos (show (0 : Fin S4352x2048.rank) ∈ dot_S4608x2048_S4352x2048_S4608x4352_1_1_0_0_n_n.rhsNonContracting by decide)]
  rfl
/-- Axis 1 of the right factor of `%63`. -/
theorem rhs_main_v63_1 (i : S4608x4352.Idx) (q : dot_S4608x2048_S4352x2048_S4608x4352_1_1_0_0_n_n.contr.Idx) :
    (dot_S4608x2048_S4352x2048_S4608x4352_1_1_0_0_n_n.rhsIdx i q 1).val = (q ⟨0, by decide⟩).val :=
  dot_S4608x2048_S4352x2048_S4608x4352_1_1_0_0_n_n.rhsIdx_val_of_single rfl i q
abbrev lidx_main_v63 (i : S4608x4352.Idx) (k : Fin 2048) : S4608x2048.Idx := fun a => match a with
  | ⟨0, _⟩ => ⟨(i 0).val, (i 0).isLt⟩
  | ⟨1, _⟩ => ⟨k.val, k.isLt⟩
abbrev ridx_main_v63 (i : S4608x4352.Idx) (k : Fin 2048) : S4352x2048.Idx := fun a => match a with
  | ⟨0, _⟩ => ⟨(i 1).val, (i 1).isLt⟩
  | ⟨1, _⟩ => ⟨k.val, k.isLt⟩
/-- Stated at `F := Ideal`, where the host's `dot_general` is this sum; at a bit-exact instance it is an opaque function of its operands. -/
theorem val_main_v63_apply (x2 : (⟨S4352x16, .f32⟩ : BufTy).Contents (Elt Ideal)) (x4 : (⟨S4608x2048, .bf16⟩ : BufTy).Contents (Elt Ideal)) (x7 x8 : (⟨S4352x1024, .f32⟩ : BufTy).Contents (Elt Ideal)) (x12 : (⟨S4352x2048, .f32⟩ : BufTy).Contents (Elt Ideal)) (i : S4608x4352.Idx) :
    val_main_v63 (F := Ideal) x2 x4 x7 x8 x12 i = ∑ k : Fin 2048, x4 (lidx_main_v63 i k) * (val_main_v19 (F := Ideal) x2 x7 x8 x12) (ridx_main_v63 i k) := by
  unfold val_main_v63
  generalize val_main_v19 (F := Ideal) x2 x7 x8 x12 = y0
  simp only [Host.dotGeneral]
  rw [Ideal.dotGeneral_apply, ← Equiv.sum_comp (ValueIdx.contrEquiv1 dot_S4608x2048_S4352x2048_S4608x4352_1_1_0_0_n_n 2048 rfl rfl).symm]
  refine Finset.sum_congr rfl fun k _ => ?_
  have hk := ValueIdx.contrEquiv1_symm_val dot_S4608x2048_S4352x2048_S4608x4352_1_1_0_0_n_n 2048 rfl rfl k
  have el : dot_S4608x2048_S4352x2048_S4608x4352_1_1_0_0_n_n.lhsIdx i ((ValueIdx.contrEquiv1 dot_S4608x2048_S4352x2048_S4608x4352_1_1_0_0_n_n 2048 rfl rfl).symm k) = lidx_main_v63 i k := funext fun a => Fin.ext (by
    match a with
    | ⟨0, _⟩ => exact lhs_main_v63_0 _ _
    | ⟨1, _⟩ => exact (lhs_main_v63_1 _ _).trans hk)
  have er : dot_S4608x2048_S4352x2048_S4608x4352_1_1_0_0_n_n.rhsIdx i ((ValueIdx.contrEquiv1 dot_S4608x2048_S4352x2048_S4608x4352_1_1_0_0_n_n 2048 rfl rfl).symm k) = ridx_main_v63 i k := funext fun a => Fin.ext (by
    match a with
    | ⟨0, _⟩ => exact rhs_main_v63_0 _ _
    | ⟨1, _⟩ => exact (rhs_main_v63_1 _ _).trans hk)
  rw [el, er]

/-- The value of `%64`. -/
def val_main_v64 (x0 : (⟨S6x768, .f32⟩ : BufTy).Contents (Elt F)) : (⟨S4608x4352, .f32⟩ : BufTy).Contents (Elt F) :=
  broadcastInDim S4608x4352 ![0, 1] bcast_S4608x1_S4608x4352_0_1 (val_main_v59 (F := F) x0)
abbrev idx_main_v64 (i : S4608x4352.Idx) : S4608x1.Idx := fun a => match a with
  | ⟨0, _⟩ => ⟨(i 0).val, (i 0).isLt⟩
  | ⟨1, _⟩ => ⟨0, Nat.one_pos⟩
/-- `%64` at an index. -/
theorem val_main_v64_apply (x0 : (⟨S6x768, .f32⟩ : BufTy).Contents (Elt F)) (i : S4608x4352.Idx) :
    val_main_v64 (F := F) x0 i = val_main_v59 (F := F) x0 (idx_main_v64 i) := by
  unfold val_main_v64
  generalize val_main_v59 (F := F) x0 = y
  exact broadcastInDim_apply _ bcast_S4608x1_S4608x4352_0_1 y i (idx_main_v64 i) (fun a => match a with
    | ⟨0, _⟩ => by show (i 0).val = if (4608 : Nat) = 1 then 0 else (i 0).val; rw [if_neg (by decide)]
    | ⟨1, _⟩ => by show 0 = if (1 : Nat) = 1 then 0 else (i 1).val; rw [if_pos rfl])

/-- The value of `%65`. -/
def val_main_v65 (x0 : (⟨S6x768, .f32⟩ : BufTy).Contents (Elt F)) (x2 : (⟨S4352x16, .f32⟩ : BufTy).Contents (Elt F)) (x4 : (⟨S4608x2048, .bf16⟩ : BufTy).Contents (Elt F)) (x7 x8 : (⟨S4352x1024, .f32⟩ : BufTy).Contents (Elt F)) (x12 : (⟨S4352x2048, .f32⟩ : BufTy).Contents (Elt F)) : (⟨S4608x4352, .f32⟩ : BufTy).Contents (Elt F) :=
  mulf (val_main_v64 (F := F) x0) (val_main_v63 (F := F) x2 x4 x7 x8 x12)
/-- `%65` at an index. -/
theorem val_main_v65_apply (x0 : (⟨S6x768, .f32⟩ : BufTy).Contents (Elt F)) (x2 : (⟨S4352x16, .f32⟩ : BufTy).Contents (Elt F)) (x4 : (⟨S4608x2048, .bf16⟩ : BufTy).Contents (Elt F)) (x7 x8 : (⟨S4352x1024, .f32⟩ : BufTy).Contents (Elt F)) (x12 : (⟨S4352x2048, .f32⟩ : BufTy).Contents (Elt F)) (i : S4608x4352.Idx) :
    val_main_v65 (F := F) x0 x2 x4 x7 x8 x12 i = FloatOps.mulf (val_main_v64 (F := F) x0 i) (val_main_v63 (F := F) x2 x4 x7 x8 x12 i) := rfl

/-- The value of `%66`. -/
def val_main_v66 (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) : (⟨S4608x4352, .f32⟩ : BufTy).Contents (Elt F) :=
  Host.negf (val_main_v62 (F := F) x0 x1 x4 x5 x6 x11)
/-- `%66` at an index. -/
theorem val_main_v66_apply (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) (i : S4608x4352.Idx) :
    val_main_v66 (F := F) x0 x1 x4 x5 x6 x11 i = FloatOps.hostNegf (val_main_v62 (F := F) x0 x1 x4 x5 x6 x11 i) := rfl

/-- The value of `%67`. -/
def val_main_v67 (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) : (⟨S4608x4352, .f32⟩ : BufTy).Contents (Elt F) :=
  Host.exp (val_main_v66 (F := F) x0 x1 x4 x5 x6 x11)
/-- `%67` at an index. -/
theorem val_main_v67_apply (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) (i : S4608x4352.Idx) :
    val_main_v67 (F := F) x0 x1 x4 x5 x6 x11 i = FloatOps.hostUnary .exp (val_main_v66 (F := F) x0 x1 x4 x5 x6 x11 i) := rfl

def val_main_cst_11 : (⟨S_, .f32⟩ : BufTy).Contents (Elt F) :=
  constant S_ .f32 0x3F800000#32
/-- `%cst_11` at an index. -/
theorem val_main_cst_11_apply (i : S_.Idx) :
    val_main_cst_11 (F := F) i = FloatOps.ofBits .f32 0x3F800000#32 := rfl

/-- The value of `%68`. -/
def val_main_v68 : (⟨S4608x4352, .f32⟩ : BufTy).Contents (Elt F) :=
  broadcastInDim S4608x4352 ![] bcast_S_S4608x4352 (val_main_cst_11 (F := F))
abbrev idx_main_v68 (i : S4608x4352.Idx) : S_.Idx := fun a => a.elim0
/-- `%68` at an index. -/
theorem val_main_v68_apply (i : S4608x4352.Idx) :
    val_main_v68 (F := F) i = val_main_cst_11 (F := F) (idx_main_v68 i) := by
  unfold val_main_v68
  generalize val_main_cst_11 (F := F) = y
  exact broadcastInDim_apply _ bcast_S_S4608x4352 y i (idx_main_v68 i) (fun a => a.elim0)

/-- The value of `%69`. -/
def val_main_v69 (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) : (⟨S4608x4352, .f32⟩ : BufTy).Contents (Elt F) :=
  addf (val_main_v68 (F := F)) (val_main_v67 (F := F) x0 x1 x4 x5 x6 x11)
/-- `%69` at an index. -/
theorem val_main_v69_apply (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) (i : S4608x4352.Idx) :
    val_main_v69 (F := F) x0 x1 x4 x5 x6 x11 i = FloatOps.addf (val_main_v68 (F := F) i) (val_main_v67 (F := F) x0 x1 x4 x5 x6 x11 i) := rfl

def val_main_cst_12 : (⟨S_, .f32⟩ : BufTy).Contents (Elt F) :=
  constant S_ .f32 0x3F800000#32
/-- `%cst_12` at an index. -/
theorem val_main_cst_12_apply (i : S_.Idx) :
    val_main_cst_12 (F := F) i = FloatOps.ofBits .f32 0x3F800000#32 := rfl

/-- The value of `%70`. -/
def val_main_v70 : (⟨S4608x4352, .f32⟩ : BufTy).Contents (Elt F) :=
  broadcastInDim S4608x4352 ![] bcast_S_S4608x4352 (val_main_cst_12 (F := F))
abbrev idx_main_v70 (i : S4608x4352.Idx) : S_.Idx := fun a => a.elim0
/-- `%70` at an index. -/
theorem val_main_v70_apply (i : S4608x4352.Idx) :
    val_main_v70 (F := F) i = val_main_cst_12 (F := F) (idx_main_v70 i) := by
  unfold val_main_v70
  generalize val_main_cst_12 (F := F) = y
  exact broadcastInDim_apply _ bcast_S_S4608x4352 y i (idx_main_v70 i) (fun a => a.elim0)

/-- The value of `%71`. -/
def val_main_v71 (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) : (⟨S4608x4352, .f32⟩ : BufTy).Contents (Elt F) :=
  Host.divf (val_main_v70 (F := F)) (val_main_v69 (F := F) x0 x1 x4 x5 x6 x11)
/-- `%71` at an index. -/
theorem val_main_v71_apply (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) (i : S4608x4352.Idx) :
    val_main_v71 (F := F) x0 x1 x4 x5 x6 x11 i = FloatOps.hostDivf (val_main_v70 (F := F) i) (val_main_v69 (F := F) x0 x1 x4 x5 x6 x11 i) := rfl

/-- The value of `%72`. -/
def val_main_v72 (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) : (⟨S4608x4352, .f32⟩ : BufTy).Contents (Elt F) :=
  mulf (val_main_v62 (F := F) x0 x1 x4 x5 x6 x11) (val_main_v71 (F := F) x0 x1 x4 x5 x6 x11)
/-- `%72` at an index. -/
theorem val_main_v72_apply (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) (i : S4608x4352.Idx) :
    val_main_v72 (F := F) x0 x1 x4 x5 x6 x11 i = FloatOps.mulf (val_main_v62 (F := F) x0 x1 x4 x5 x6 x11 i) (val_main_v71 (F := F) x0 x1 x4 x5 x6 x11 i) := rfl

/-- The value of `%73`. -/
def val_main_v73 (x0 : (⟨S6x768, .f32⟩ : BufTy).Contents (Elt F)) (x1 x2 : (⟨S4352x16, .f32⟩ : BufTy).Contents (Elt F)) (x4 : (⟨S4608x2048, .bf16⟩ : BufTy).Contents (Elt F)) (x5 x6 x7 x8 : (⟨S4352x1024, .f32⟩ : BufTy).Contents (Elt F)) (x11 x12 : (⟨S4352x2048, .f32⟩ : BufTy).Contents (Elt F)) : (⟨S4608x4352, .f32⟩ : BufTy).Contents (Elt F) :=
  mulf (val_main_v72 (F := F) x0 x1 x4 x5 x6 x11) (val_main_v65 (F := F) x0 x2 x4 x7 x8 x12)
/-- `%73` at an index. -/
theorem val_main_v73_apply (x0 : (⟨S6x768, .f32⟩ : BufTy).Contents (Elt F)) (x1 x2 : (⟨S4352x16, .f32⟩ : BufTy).Contents (Elt F)) (x4 : (⟨S4608x2048, .bf16⟩ : BufTy).Contents (Elt F)) (x5 x6 x7 x8 : (⟨S4352x1024, .f32⟩ : BufTy).Contents (Elt F)) (x11 x12 : (⟨S4352x2048, .f32⟩ : BufTy).Contents (Elt F)) (i : S4608x4352.Idx) :
    val_main_v73 (F := F) x0 x1 x2 x4 x5 x6 x7 x8 x11 x12 i = FloatOps.mulf (val_main_v72 (F := F) x0 x1 x4 x5 x6 x11 i) (val_main_v65 (F := F) x0 x2 x4 x7 x8 x12 i) := rfl

/-- The value of `%74`. -/
def val_main_v74 (x0 : (⟨S6x768, .f32⟩ : BufTy).Contents (Elt F)) (x1 x2 : (⟨S4352x16, .f32⟩ : BufTy).Contents (Elt F)) (x4 : (⟨S4608x2048, .bf16⟩ : BufTy).Contents (Elt F)) (x5 x6 x7 x8 : (⟨S4352x1024, .f32⟩ : BufTy).Contents (Elt F)) (x11 x12 : (⟨S4352x2048, .f32⟩ : BufTy).Contents (Elt F)) : (⟨S4608x4352, .f32⟩ : BufTy).Contents (Elt F) :=
  mulf (val_main_v65 (F := F) x0 x2 x4 x7 x8 x12) (val_main_v71 (F := F) x0 x1 x4 x5 x6 x11)
/-- `%74` at an index. -/
theorem val_main_v74_apply (x0 : (⟨S6x768, .f32⟩ : BufTy).Contents (Elt F)) (x1 x2 : (⟨S4352x16, .f32⟩ : BufTy).Contents (Elt F)) (x4 : (⟨S4608x2048, .bf16⟩ : BufTy).Contents (Elt F)) (x5 x6 x7 x8 : (⟨S4352x1024, .f32⟩ : BufTy).Contents (Elt F)) (x11 x12 : (⟨S4352x2048, .f32⟩ : BufTy).Contents (Elt F)) (i : S4608x4352.Idx) :
    val_main_v74 (F := F) x0 x1 x2 x4 x5 x6 x7 x8 x11 x12 i = FloatOps.mulf (val_main_v65 (F := F) x0 x2 x4 x7 x8 x12 i) (val_main_v71 (F := F) x0 x1 x4 x5 x6 x11 i) := rfl

def val_main_cst_13 : (⟨S_, .f32⟩ : BufTy).Contents (Elt F) :=
  constant S_ .f32 0x3F800000#32
/-- `%cst_13` at an index. -/
theorem val_main_cst_13_apply (i : S_.Idx) :
    val_main_cst_13 (F := F) i = FloatOps.ofBits .f32 0x3F800000#32 := rfl

/-- The value of `%75`. -/
def val_main_v75 : (⟨S4608x4352, .f32⟩ : BufTy).Contents (Elt F) :=
  broadcastInDim S4608x4352 ![] bcast_S_S4608x4352 (val_main_cst_13 (F := F))
abbrev idx_main_v75 (i : S4608x4352.Idx) : S_.Idx := fun a => a.elim0
/-- `%75` at an index. -/
theorem val_main_v75_apply (i : S4608x4352.Idx) :
    val_main_v75 (F := F) i = val_main_cst_13 (F := F) (idx_main_v75 i) := by
  unfold val_main_v75
  generalize val_main_cst_13 (F := F) = y
  exact broadcastInDim_apply _ bcast_S_S4608x4352 y i (idx_main_v75 i) (fun a => a.elim0)

/-- The value of `%76`. -/
def val_main_v76 (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) : (⟨S4608x4352, .f32⟩ : BufTy).Contents (Elt F) :=
  subf (val_main_v75 (F := F)) (val_main_v71 (F := F) x0 x1 x4 x5 x6 x11)
/-- `%76` at an index. -/
theorem val_main_v76_apply (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) (i : S4608x4352.Idx) :
    val_main_v76 (F := F) x0 x1 x4 x5 x6 x11 i = FloatOps.subf (val_main_v75 (F := F) i) (val_main_v71 (F := F) x0 x1 x4 x5 x6 x11 i) := rfl

/-- The value of `%77`. -/
def val_main_v77 (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) : (⟨S4608x4352, .f32⟩ : BufTy).Contents (Elt F) :=
  mulf (val_main_v62 (F := F) x0 x1 x4 x5 x6 x11) (val_main_v76 (F := F) x0 x1 x4 x5 x6 x11)
/-- `%77` at an index. -/
theorem val_main_v77_apply (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) (i : S4608x4352.Idx) :
    val_main_v77 (F := F) x0 x1 x4 x5 x6 x11 i = FloatOps.mulf (val_main_v62 (F := F) x0 x1 x4 x5 x6 x11 i) (val_main_v76 (F := F) x0 x1 x4 x5 x6 x11 i) := rfl

def val_main_cst_14 : (⟨S_, .f32⟩ : BufTy).Contents (Elt F) :=
  constant S_ .f32 0x3F800000#32
/-- `%cst_14` at an index. -/
theorem val_main_cst_14_apply (i : S_.Idx) :
    val_main_cst_14 (F := F) i = FloatOps.ofBits .f32 0x3F800000#32 := rfl

/-- The value of `%78`. -/
def val_main_v78 : (⟨S4608x4352, .f32⟩ : BufTy).Contents (Elt F) :=
  broadcastInDim S4608x4352 ![] bcast_S_S4608x4352 (val_main_cst_14 (F := F))
abbrev idx_main_v78 (i : S4608x4352.Idx) : S_.Idx := fun a => a.elim0
/-- `%78` at an index. -/
theorem val_main_v78_apply (i : S4608x4352.Idx) :
    val_main_v78 (F := F) i = val_main_cst_14 (F := F) (idx_main_v78 i) := by
  unfold val_main_v78
  generalize val_main_cst_14 (F := F) = y
  exact broadcastInDim_apply _ bcast_S_S4608x4352 y i (idx_main_v78 i) (fun a => a.elim0)

/-- The value of `%79`. -/
def val_main_v79 (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) : (⟨S4608x4352, .f32⟩ : BufTy).Contents (Elt F) :=
  addf (val_main_v78 (F := F)) (val_main_v77 (F := F) x0 x1 x4 x5 x6 x11)
/-- `%79` at an index. -/
theorem val_main_v79_apply (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) (i : S4608x4352.Idx) :
    val_main_v79 (F := F) x0 x1 x4 x5 x6 x11 i = FloatOps.addf (val_main_v78 (F := F) i) (val_main_v77 (F := F) x0 x1 x4 x5 x6 x11 i) := rfl

/-- The value of `%80`. -/
def val_main_v80 (x0 : (⟨S6x768, .f32⟩ : BufTy).Contents (Elt F)) (x1 x2 : (⟨S4352x16, .f32⟩ : BufTy).Contents (Elt F)) (x4 : (⟨S4608x2048, .bf16⟩ : BufTy).Contents (Elt F)) (x5 x6 x7 x8 : (⟨S4352x1024, .f32⟩ : BufTy).Contents (Elt F)) (x11 x12 : (⟨S4352x2048, .f32⟩ : BufTy).Contents (Elt F)) : (⟨S4608x4352, .f32⟩ : BufTy).Contents (Elt F) :=
  mulf (val_main_v74 (F := F) x0 x1 x2 x4 x5 x6 x7 x8 x11 x12) (val_main_v79 (F := F) x0 x1 x4 x5 x6 x11)
/-- `%80` at an index. -/
theorem val_main_v80_apply (x0 : (⟨S6x768, .f32⟩ : BufTy).Contents (Elt F)) (x1 x2 : (⟨S4352x16, .f32⟩ : BufTy).Contents (Elt F)) (x4 : (⟨S4608x2048, .bf16⟩ : BufTy).Contents (Elt F)) (x5 x6 x7 x8 : (⟨S4352x1024, .f32⟩ : BufTy).Contents (Elt F)) (x11 x12 : (⟨S4352x2048, .f32⟩ : BufTy).Contents (Elt F)) (i : S4608x4352.Idx) :
    val_main_v80 (F := F) x0 x1 x2 x4 x5 x6 x7 x8 x11 x12 i = FloatOps.mulf (val_main_v74 (F := F) x0 x1 x2 x4 x5 x6 x7 x8 x11 x12 i) (val_main_v79 (F := F) x0 x1 x4 x5 x6 x11 i) := rfl

/-- The value of `%81`. -/
def val_main_v81 (x0 : (⟨S6x768, .f32⟩ : BufTy).Contents (Elt F)) : (⟨S4608x4352, .f32⟩ : BufTy).Contents (Elt F) :=
  broadcastInDim S4608x4352 ![0, 1] bcast_S4608x1_S4608x4352_0_1 (val_main_v59 (F := F) x0)
abbrev idx_main_v81 (i : S4608x4352.Idx) : S4608x1.Idx := fun a => match a with
  | ⟨0, _⟩ => ⟨(i 0).val, (i 0).isLt⟩
  | ⟨1, _⟩ => ⟨0, Nat.one_pos⟩
/-- `%81` at an index. -/
theorem val_main_v81_apply (x0 : (⟨S6x768, .f32⟩ : BufTy).Contents (Elt F)) (i : S4608x4352.Idx) :
    val_main_v81 (F := F) x0 i = val_main_v59 (F := F) x0 (idx_main_v81 i) := by
  unfold val_main_v81
  generalize val_main_v59 (F := F) x0 = y
  exact broadcastInDim_apply _ bcast_S4608x1_S4608x4352_0_1 y i (idx_main_v81 i) (fun a => match a with
    | ⟨0, _⟩ => by show (i 0).val = if (4608 : Nat) = 1 then 0 else (i 0).val; rw [if_neg (by decide)]
    | ⟨1, _⟩ => by show 0 = if (1 : Nat) = 1 then 0 else (i 1).val; rw [if_pos rfl])

/-- The value of `%82`. -/
def val_main_v82 (x0 : (⟨S6x768, .f32⟩ : BufTy).Contents (Elt F)) (x1 x2 : (⟨S4352x16, .f32⟩ : BufTy).Contents (Elt F)) (x4 : (⟨S4608x2048, .bf16⟩ : BufTy).Contents (Elt F)) (x5 x6 x7 x8 : (⟨S4352x1024, .f32⟩ : BufTy).Contents (Elt F)) (x11 x12 : (⟨S4352x2048, .f32⟩ : BufTy).Contents (Elt F)) : (⟨S4608x4352, .f32⟩ : BufTy).Contents (Elt F) :=
  mulf (val_main_v80 (F := F) x0 x1 x2 x4 x5 x6 x7 x8 x11 x12) (val_main_v81 (F := F) x0)
/-- `%82` at an index. -/
theorem val_main_v82_apply (x0 : (⟨S6x768, .f32⟩ : BufTy).Contents (Elt F)) (x1 x2 : (⟨S4352x16, .f32⟩ : BufTy).Contents (Elt F)) (x4 : (⟨S4608x2048, .bf16⟩ : BufTy).Contents (Elt F)) (x5 x6 x7 x8 : (⟨S4352x1024, .f32⟩ : BufTy).Contents (Elt F)) (x11 x12 : (⟨S4352x2048, .f32⟩ : BufTy).Contents (Elt F)) (i : S4608x4352.Idx) :
    val_main_v82 (F := F) x0 x1 x2 x4 x5 x6 x7 x8 x11 x12 i = FloatOps.mulf (val_main_v80 (F := F) x0 x1 x2 x4 x5 x6 x7 x8 x11 x12 i) (val_main_v81 (F := F) x0 i) := rfl

/-- The value of `%83`. -/
def val_main_v83 (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) : (⟨S4608x4352, .f32⟩ : BufTy).Contents (Elt F) :=
  mulf (val_main_v62 (F := F) x0 x1 x4 x5 x6 x11) (val_main_v71 (F := F) x0 x1 x4 x5 x6 x11)
/-- `%83` at an index. -/
theorem val_main_v83_apply (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) (i : S4608x4352.Idx) :
    val_main_v83 (F := F) x0 x1 x4 x5 x6 x11 i = FloatOps.mulf (val_main_v62 (F := F) x0 x1 x4 x5 x6 x11 i) (val_main_v71 (F := F) x0 x1 x4 x5 x6 x11 i) := rfl

/-- The value of `%84`. -/
def val_main_v84 (x0 : (⟨S6x768, .f32⟩ : BufTy).Contents (Elt F)) : (⟨S4608x4352, .f32⟩ : BufTy).Contents (Elt F) :=
  broadcastInDim S4608x4352 ![0, 1] bcast_S4608x1_S4608x4352_0_1 (val_main_v59 (F := F) x0)
abbrev idx_main_v84 (i : S4608x4352.Idx) : S4608x1.Idx := fun a => match a with
  | ⟨0, _⟩ => ⟨(i 0).val, (i 0).isLt⟩
  | ⟨1, _⟩ => ⟨0, Nat.one_pos⟩
/-- `%84` at an index. -/
theorem val_main_v84_apply (x0 : (⟨S6x768, .f32⟩ : BufTy).Contents (Elt F)) (i : S4608x4352.Idx) :
    val_main_v84 (F := F) x0 i = val_main_v59 (F := F) x0 (idx_main_v84 i) := by
  unfold val_main_v84
  generalize val_main_v59 (F := F) x0 = y
  exact broadcastInDim_apply _ bcast_S4608x1_S4608x4352_0_1 y i (idx_main_v84 i) (fun a => match a with
    | ⟨0, _⟩ => by show (i 0).val = if (4608 : Nat) = 1 then 0 else (i 0).val; rw [if_neg (by decide)]
    | ⟨1, _⟩ => by show 0 = if (1 : Nat) = 1 then 0 else (i 1).val; rw [if_pos rfl])

/-- The value of `%85`. -/
def val_main_v85 (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) : (⟨S4608x4352, .f32⟩ : BufTy).Contents (Elt F) :=
  mulf (val_main_v83 (F := F) x0 x1 x4 x5 x6 x11) (val_main_v84 (F := F) x0)
/-- `%85` at an index. -/
theorem val_main_v85_apply (x0 : (⟨S6x768, .f32⟩ : BufTy).Contents (Elt F)) (x1 : (⟨S4352x16, .f32⟩ : BufTy).Contents (Elt F)) (x4 : (⟨S4608x2048, .bf16⟩ : BufTy).Contents (Elt F)) (x5 x6 : (⟨S4352x1024, .f32⟩ : BufTy).Contents (Elt F)) (x11 : (⟨S4352x2048, .f32⟩ : BufTy).Contents (Elt F)) (i : S4608x4352.Idx) :
    val_main_v85 (F := F) x0 x1 x4 x5 x6 x11 i = FloatOps.mulf (val_main_v83 (F := F) x0 x1 x4 x5 x6 x11 i) (val_main_v84 (F := F) x0 i) := rfl

/-- The value of `%86`. -/
def val_main_v86 (x0 : (⟨S6x768, .f32⟩ : BufTy).Contents (Elt F)) (x1 x2 : (⟨S4352x16, .f32⟩ : BufTy).Contents (Elt F)) (x4 : (⟨S4608x2048, .bf16⟩ : BufTy).Contents (Elt F)) (x5 x6 x7 x8 : (⟨S4352x1024, .f32⟩ : BufTy).Contents (Elt F)) (x11 x12 : (⟨S4352x2048, .f32⟩ : BufTy).Contents (Elt F)) : (⟨S4608x4352, .bf16⟩ : BufTy).Contents (Elt F) :=
  truncf .bf16 (val_main_v73 (F := F) x0 x1 x2 x4 x5 x6 x7 x8 x11 x12) bitsLt_bf16_f32
/-- `%86` at an index. -/
theorem val_main_v86_apply (x0 : (⟨S6x768, .f32⟩ : BufTy).Contents (Elt F)) (x1 x2 : (⟨S4352x16, .f32⟩ : BufTy).Contents (Elt F)) (x4 : (⟨S4608x2048, .bf16⟩ : BufTy).Contents (Elt F)) (x5 x6 x7 x8 : (⟨S4352x1024, .f32⟩ : BufTy).Contents (Elt F)) (x11 x12 : (⟨S4352x2048, .f32⟩ : BufTy).Contents (Elt F)) (i : S4608x4352.Idx) :
    val_main_v86 (F := F) x0 x1 x2 x4 x5 x6 x7 x8 x11 x12 i = FloatOps.truncf .bf16 bitsLt_bf16_f32 (val_main_v73 (F := F) x0 x1 x2 x4 x5 x6 x7 x8 x11 x12 i) := rfl

/-- The value of `%87`. -/
def val_main_v87 (x0 : (⟨S6x768, .f32⟩ : BufTy).Contents (Elt F)) (x1 x2 : (⟨S4352x16, .f32⟩ : BufTy).Contents (Elt F)) (x4 : (⟨S4608x2048, .bf16⟩ : BufTy).Contents (Elt F)) (x5 x6 x7 x8 : (⟨S4352x1024, .f32⟩ : BufTy).Contents (Elt F)) (x11 x12 : (⟨S4352x2048, .f32⟩ : BufTy).Contents (Elt F)) : (⟨S4352x4608, .bf16⟩ : BufTy).Contents (Elt F) :=
  transpose S4352x4608 [1, 0] (val_main_v86 (F := F) x0 x1 x2 x4 x5 x6 x7 x8 x11 x12) transposes_S4608x4352_S4352x4608_1_0
abbrev idx_main_v87 (i : S4352x4608.Idx) : S4608x4352.Idx := fun a => match a with
  | ⟨0, _⟩ => ⟨(i 1).val, (i 1).isLt⟩
  | ⟨1, _⟩ => ⟨(i 0).val, (i 0).isLt⟩
/-- `%87` at an index. -/
theorem val_main_v87_apply (x0 : (⟨S6x768, .f32⟩ : BufTy).Contents (Elt F)) (x1 x2 : (⟨S4352x16, .f32⟩ : BufTy).Contents (Elt F)) (x4 : (⟨S4608x2048, .bf16⟩ : BufTy).Contents (Elt F)) (x5 x6 x7 x8 : (⟨S4352x1024, .f32⟩ : BufTy).Contents (Elt F)) (x11 x12 : (⟨S4352x2048, .f32⟩ : BufTy).Contents (Elt F)) (i : S4352x4608.Idx) :
    val_main_v87 (F := F) x0 x1 x2 x4 x5 x6 x7 x8 x11 x12 i = val_main_v86 (F := F) x0 x1 x2 x4 x5 x6 x7 x8 x11 x12 (idx_main_v87 i) := by
  unfold val_main_v87
  generalize val_main_v86 (F := F) x0 x1 x2 x4 x5 x6 x7 x8 x11 x12 = y
  exact transpose_apply [1, 0] y transposes_S4608x4352_S4352x4608_1_0 i (idx_main_v87 i) (fun b => match b with
    | ⟨0, _⟩ => rfl
    | ⟨1, _⟩ => rfl)

end Cert.FwdReferenceIdeal.Read

end
-- ==== Proof.FwdIdeal.Scalar.lean ====
/-
  The scalar identities between the forward kernel's arithmetic and the plain one: the kernel works with sixteen times a
  signed nibble and sixteen times the rounding offset, and takes the offset from a hyperbolic tangent; the plain form has
  the nibble, the logistic function and no factor sixteen.
-/
module

public import proofs.«01_k».proof.Proof.FwdIdeal.Tile

@[expose] public section

noncomputable section

namespace Cert.FwdIdeal.Scalar

open Cert.FwdIdeal.Tile Idealize.ShloMosaic

/-- The signed low nibble of a byte, as a word. -/
def lowN (b : BitVec 8) : BitVec 32 :=
  Scalar.select (IntOp.cmpi .sge (IntOp.andi (b.setWidth 32) 15#32) 8#32) (IntOp.subi (IntOp.andi (b.setWidth 32) 15#32) 16#32) (IntOp.andi (b.setWidth 32) 15#32)

/-- The signed high nibble of a byte, as a word. -/
def highN (b : BitVec 8) : BitVec 32 :=
  Scalar.select (IntOp.cmpi .sge (IntOp.shrsi .vector (b.setWidth 32) 4#32) 8#32) (IntOp.subi (IntOp.shrsi .vector (b.setWidth 32) 4#32) 16#32)
    (IntOp.shrsi .vector (b.setWidth 32) 4#32)

/-- The rounding offset of a variable: the stretched logistic, clipped to the unit interval. -/
def hid (v : EReal) : EReal :=
  min (Ideal.ofBits .f32 0x3F800000#32) (max (Ideal.ofBits .f32 0x00000000#32) (((6 / 5 : ℝ) : EReal) * Ideal.logistic v + ((-1 / 10 : ℝ) : EReal)))

/-- The value of a float32 constant. -/
theorem bits_16 : Ideal.ofBits .f32 0x41800000#32 = ((16 : ℝ) : EReal) := by
  simp [Ideal.ofBits, Ideal.ieee, -EReal.coe_mul]; norm_num
/-- The value of a float32 constant. -/
theorem bits_8 : Ideal.ofBits .f32 0x41000000#32 = ((8 : ℝ) : EReal) := by
  simp [Ideal.ofBits, Ideal.ieee, -EReal.coe_mul]; norm_num
/-- The value of a float32 constant. -/
theorem bits_half : Ideal.ofBits .f32 0x3F000000#32 = ((1 / 2 : ℝ) : EReal) := by
  simp [Ideal.ofBits, Ideal.ieee, -EReal.coe_mul]; norm_num
/-- The value of a float32 constant. -/
theorem bits_sixteenth : Ideal.ofBits .f32 0x3D800000#32 = ((1 / 16 : ℝ) : EReal) := by
  simp [Ideal.ofBits, Ideal.ieee, -EReal.coe_mul]; norm_num
/-- The value of a float32 constant. -/
theorem bits_112 : Ideal.ofBits .f32 0x42E00000#32 = ((112 : ℝ) : EReal) := by
  simp [Ideal.ofBits, Ideal.ieee, -EReal.coe_mul]; norm_num
/-- The value of a float32 constant. -/
theorem bits_eighth : Ideal.ofBits .f32 0x3E000000#32 = ((1 / 8 : ℝ) : EReal) := by
  simp [Ideal.ofBits, Ideal.ieee, -EReal.coe_mul]; norm_num
/-- The value of a float32 constant. -/
theorem bits_7 : Ideal.ofBits .f32 0x40E00000#32 = ((7 : ℝ) : EReal) := by
  simp [Ideal.ofBits, Ideal.ieee, -EReal.coe_mul]; norm_num
/-- The value of a float32 constant. -/
theorem bits_2 : Ideal.ofBits .f32 0x40000000#32 = ((2 : ℝ) : EReal) := by
  simp [Ideal.ofBits, Ideal.ieee, -EReal.coe_mul]; norm_num
/-- The value of a float32 constant. -/
theorem bits_1 : Ideal.ofBits .f32 0x3F800000#32 = ((1 : ℝ) : EReal) := by
  simp [Ideal.ofBits, Ideal.ieee, -EReal.coe_mul]; norm_num
/-- The value of a float32 constant. -/
theorem bits_0 : Ideal.ofBits .f32 0x00000000#32 = ((0 : ℝ) : EReal) := by
  rw [Ideal.ofBits_zero_f32]; norm_cast

/-- The minimum of reals among the extended reals. -/
theorem coe_min (a b : ℝ) : ((min a b : ℝ) : EReal) = min (a : EReal) (b : EReal) :=
  EReal.coe_strictMono.monotone.map_min
/-- The maximum of reals among the extended reals. -/
theorem coe_max (a b : ℝ) : ((max a b : ℝ) : EReal) = max (a : EReal) (b : EReal) :=
  EReal.coe_strictMono.monotone.map_max

/-- The hyperbolic tangent at half an argument, by the logistic function. -/
theorem tanh_half (r : ℝ) : Real.tanh (1 / 2 * r) = 2 * (1 + Real.exp (-r))⁻¹ - 1 := by
  have e : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  rw [Real.tanh_eq_sinh_div_cosh, Real.sinh_eq, Real.cosh_eq, e]
  have ha := Real.exp_pos (1 / 2 * r)
  have hb := Real.exp_pos (-(1 / 2 * r))
  have hab : Real.exp (1 / 2 * r) = (Real.exp (-(1 / 2 * r)))⁻¹ := eq_inv_of_mul_eq_one_left e2
  rw [hab]
  field_simp
  ring

/-- The two forms of the offset before the clip: a real `z`, and the kernel's is sixteen times it. -/
theorem offset (v : EReal) : ∃ z : ℝ, ((6 / 5 : ℝ) : EReal) * Ideal.logistic v + ((-1 / 10 : ℝ) : EReal) = (z : EReal)
    ∧ Ideal.ofBits .f32 0x41000000#32 + ((48 / 5 : ℝ) : EReal) * Ideal.tanh (Ideal.ofBits .f32 0x3F000000#32 * v) = ((16 * z : ℝ) : EReal) := by
  rw [bits_8, bits_half]
  induction v with
  | bot =>
    refine ⟨-1 / 10, ?_, ?_⟩
    · rw [Ideal.logistic_bot, mul_zero, zero_add]
    · rw [EReal.coe_mul_bot_of_pos (by norm_num), Ideal.tanh_bot, show (-1 : EReal) = ((-1 : ℝ) : EReal) from rfl, ← EReal.coe_mul, ← EReal.coe_add]
      norm_num
  | top =>
    refine ⟨11 / 10, ?_, ?_⟩
    · rw [Ideal.logistic_top, mul_one, ← EReal.coe_add]; norm_num
    · rw [EReal.coe_mul_top_of_pos (by norm_num), Ideal.tanh_top, mul_one, ← EReal.coe_add]; norm_num
  | coe r =>
    refine ⟨6 / 5 * (1 + Real.exp (-r))⁻¹ + -1 / 10, ?_, ?_⟩
    · rw [Ideal.logistic_coe, ← EReal.coe_mul, ← EReal.coe_add]
    · rw [← EReal.coe_mul, Ideal.tanh_coe, ← EReal.coe_mul, ← EReal.coe_add, tanh_half]
      congr 1; ring

/-- The offset is a real, and the kernel's is sixteen times it. -/
theorem hV_eq (v : EReal) : ∃ r : ℝ, hid v = (r : EReal) ∧ hV v = ((16 * r : ℝ) : EReal) := by
  obtain ⟨z, h1, h2⟩ := offset v
  refine ⟨min 1 (max 0 z), ?_, ?_⟩
  · rw [hid, h1, bits_1, bits_0, coe_min, coe_max]
  · rw [hV, h2, bits_16, bits_0, mul_min_of_nonneg _ _ (by norm_num), mul_max_of_nonneg _ _ (by norm_num), coe_min, coe_max]
    norm_num

/-- The byte the kernel reads signed is sixteen times the nibble. -/
theorem low_toInt : ∀ b : BitVec 8, (nibByte b False).toInt = 16 * (lowN b).toInt := by decide +kernel
/-- The same of the high nibble. -/
theorem high_toInt : ∀ b : BitVec 8, (nibByte b True).toInt = 16 * (highN b).toInt := by decide +kernel

/-- The softened weight: the scale times the nibble and its offset, no more than seven. -/
theorem wV_eq (n : ℤ) (x s v : EReal) (hx : x = (((16 * n : ℤ) : ℝ) : EReal)) :
    wV x s v = s * min (((n : ℝ) : EReal) + hid v) (Ideal.ofBits .f32 0x40E00000#32) := by
  obtain ⟨r, h1, h2⟩ := hV_eq v
  rw [wV, h1, h2, hx, bits_sixteenth, bits_112, bits_7, mul_assoc, ← EReal.coe_add, ← EReal.coe_add, ← coe_min, ← coe_min, ← EReal.coe_mul]
  congr 2
  rw [mul_min_of_nonneg _ _ (by norm_num)]
  congr 1
  · push_cast; ring
  · norm_num

/-- The softened weight of a low nibble. -/
theorem wV_low (b : BitVec 8) (p : Prop) [Decidable p] (hp : ¬ p) (s v : EReal) :
    wV (nib b p) s v = s * min ((((lowN b).toInt : ℝ) : EReal) + hid v) (Ideal.ofBits .f32 0x40E00000#32) := by
  refine wV_eq _ _ s v ?_
  have h := low_toInt b
  unfold nib
  rw [show nibByte b p = nibByte b False by simp [nibByte, hp], h]

/-- The softened weight of a high nibble. -/
theorem wV_high (b : BitVec 8) (p : Prop) [Decidable p] (hp : p) (s v : EReal) :
    wV (nib b p) s v = s * min ((((highN b).toInt : ℝ) : EReal) + hid v) (Ideal.ofBits .f32 0x40E00000#32) := by
  refine wV_eq _ _ s v ?_
  have h := high_toInt b
  unfold nib
  rw [show nibByte b p = nibByte b True by simp [nibByte, hp], h]

/-- A variable's regulariser, by its offset. -/
theorem rV_eq (v : EReal) :
    rV v = (Ideal.ofBits .f32 0x40000000#32 * hid v - Ideal.ofBits .f32 0x3F800000#32) * (Ideal.ofBits .f32 0x40000000#32 * hid v - Ideal.ofBits .f32 0x3F800000#32)
      * ((Ideal.ofBits .f32 0x40000000#32 * hid v - Ideal.ofBits .f32 0x3F800000#32) * (Ideal.ofBits .f32 0x40000000#32 * hid v - Ideal.ofBits .f32 0x3F800000#32)) := by
  obtain ⟨r, h1, h2⟩ := hV_eq v
  have e : Ideal.ofBits .f32 0x3E000000#32 * hV v = Ideal.ofBits .f32 0x40000000#32 * hid v := by
    rw [h1, h2, bits_eighth, bits_2, ← EReal.coe_mul, ← EReal.coe_mul]; congr 1; ring
  rw [rV, e]

end Cert.FwdIdeal.Scalar

end
-- ==== Proof.FwdReferenceIdeal.Value.lean ====
/-
  The reference's results over the extended reals are the forward kernel's, as `Spec` states them: given arrays that hold
  the signed nibbles of the codes and the offsets of the variables, the host operations' softened weights, regularisers and
  functions of the products are `Spec.W`, `Spec.R`, `Spec.WD`, `Spec.RD`, `Spec.Tok` and `Spec.TokT`.
-/
module

public import proofs.«01_k».proof.Proof.FwdReferenceIdeal.Read
public import proofs.«01_k».proof.Proof.FwdIdeal.Scalar
public import proofs.«01_k».proof.Proof.FwdIdeal.Spec

@[expose] public section

noncomputable section

namespace Cert.FwdReferenceIdeal.Value

open Idealize.ShloMosaic hiding ix2 ix3
open Cert.FwdReferenceIdeal Cert.FwdReferenceIdeal.Read
open Cert.FwdReferenceIdeal.Facts₀
open Idealize.ShloMosaic.ValueIdx
open Cert.FwdIdeal.Tile (nib wV rV gV aV qV pV)
open Cert.FwdIdeal.Scalar (lowN highN hid)

/-- A signed word as an extended real. -/
abbrev num (b : BitVec 32) : EReal := ((b.toInt : ℝ) : EReal)

section Up

variable (c : (⟨S4352x1024, .i8⟩ : BufTy).Contents (Elt Ideal)) (s : (⟨S4352x16, .f32⟩ : BufTy).Contents (Elt Ideal))
variable (v : (⟨S4352x2048, .bf16⟩ : BufTy).Contents (Elt Ideal))
variable (x5 x6 : (⟨S4352x1024, .f32⟩ : BufTy).Contents (Elt Ideal)) (x11 : (⟨S4352x2048, .f32⟩ : BufTy).Contents (Elt Ideal))

/-- The nibbles side by side, in the first half of a group the low ones. -/
theorem v4_low (y : S4352x2048.Idx) (h : ¬ 64 ≤ (y 1).val % 128) :
    val_main_v4 (F := Ideal) x5 x6 y = x5 (ix2 (y 0) ⟨(y 1).val / 128 * 64 + (y 1).val % 64, by have := idx2_lt1 y; omega⟩) := by
  have h1 := idx2_lt1 y
  rw [val_main_v4_apply, val_main_v3]
  refine (concatenate_pair_apply_left (s₁ := S4352x16x64) (s₂ := S4352x16x64) (t := S4352x16x128) 2 _ _ _ (idx_main_v4 y) rfl
    (ix3 (y 0) (⟨(y 1).val / 128, by omega⟩ : Fin 16) (⟨(y 1).val % 128, by omega⟩ : Fin 64)) fun b => ?_).trans ?_
  · match b with
    | ⟨0, _⟩ => show (y 0).val = ((y 0).val * 2048 + (y 1).val) / 2048; omega
    | ⟨1, _⟩ => show (y 1).val / 128 = ((y 0).val * 2048 + (y 1).val) / 128 % 16; omega
    | ⟨2, _⟩ => show (y 1).val % 128 = ((y 0).val * 2048 + (y 1).val) % 128; omega
  · rw [val_main_v1_apply]
    refine congrArg x5 (funext fun a => Fin.ext ?_)
    match a with
    | ⟨0, _⟩ => show (((y 0).val * 16 + (y 1).val / 128) * 64 + (y 1).val % 128) / 1024 = (y 0).val; omega
    | ⟨1, _⟩ => show (((y 0).val * 16 + (y 1).val / 128) * 64 + (y 1).val % 128) % 1024 = (y 1).val / 128 * 64 + (y 1).val % 64; omega

/-- In the second half the high ones. -/
theorem v4_high (y : S4352x2048.Idx) (h : 64 ≤ (y 1).val % 128) :
    val_main_v4 (F := Ideal) x5 x6 y = x6 (ix2 (y 0) ⟨(y 1).val / 128 * 64 + (y 1).val % 64, by have := idx2_lt1 y; omega⟩) := by
  have h1 := idx2_lt1 y
  rw [val_main_v4_apply, val_main_v3]
  refine (concatenate_pair_apply_right (s₁ := S4352x16x64) (s₂ := S4352x16x64) (t := S4352x16x128) 2 _ _ _ (idx_main_v4 y) rfl rfl
    (ix3 (y 0) (⟨(y 1).val / 128, by omega⟩ : Fin 16) (⟨(y 1).val % 128 - 64, by omega⟩ : Fin 64)) (fun b hb => ?_) ?_).trans ?_
  · match b, hb with
    | ⟨0, _⟩, _ => show (y 0).val = ((y 0).val * 2048 + (y 1).val) / 2048; omega
    | ⟨1, _⟩, _ => show (y 1).val / 128 = ((y 0).val * 2048 + (y 1).val) / 128 % 16; omega
    | ⟨2, _⟩, hb => exact absurd rfl hb
  · show (y 1).val % 128 - 64 + 64 = ((y 0).val * 2048 + (y 1).val) % 128; omega
  · rw [val_main_v2_apply]
    refine congrArg x6 (funext fun a => Fin.ext ?_)
    match a with
    | ⟨0, _⟩ => show (((y 0).val * 16 + (y 1).val / 128) * 64 + ((y 1).val % 128 - 64)) / 1024 = (y 0).val; omega
    | ⟨1, _⟩ => show (((y 0).val * 16 + (y 1).val / 128) * 64 + ((y 1).val % 128 - 64)) % 1024 = (y 1).val / 128 * 64 + (y 1).val % 64; omega

/-- The softened weights of the gate or of the up projection. -/
theorem weights (h5 : ∀ i, x5 i = num (lowN (c i))) (h6 : ∀ i, x6 i = num (highN (c i))) (h11 : ∀ i, x11 i = hid (v i)) :
    val_main_v19 (F := Ideal) s x5 x6 x11 = Cert.FwdIdeal.Spec.W c s v := by
  funext y
  have h1 := idx2_lt1 y
  have hs : val_main_v6 (F := Ideal) s y = s (ix2 (y 0) ⟨(y 1).val / 128, by omega⟩) := by
    rw [val_main_v6_apply, val_main_v5_apply]
    refine congrArg s (funext fun a => Fin.ext ?_)
    match a with
    | ⟨0, _⟩ => show ((y 0).val * 2048 + (y 1).val) / 2048 = (y 0).val; omega
    | ⟨1, _⟩ => show ((y 0).val * 2048 + (y 1).val) / 128 % 16 = (y 1).val / 128; omega
  have h8 : val_main_v8 (F := Ideal) y = Ideal.ofBits .f32 0x40E00000#32 := by rw [val_main_v8_apply]; rfl
  show (val_main_v6 (F := Ideal) s y : EReal) * min (val_main_v4 (F := Ideal) x5 x6 y + x11 y : EReal) (val_main_v8 (F := Ideal) y)
    = wV (nib (c (ix2 (y 0) ⟨(y 1).val / 128 * 64 + (y 1).val % 64, by omega⟩)) (64 ≤ (y 1).val % 128)) (s (ix2 (y 0) ⟨(y 1).val / 128, by omega⟩)) (v y)
  rw [hs, h8, h11]
  by_cases h : 64 ≤ (y 1).val % 128
  · rw [v4_high x5 x6 y h, h6, Cert.FwdIdeal.Scalar.wV_high _ _ h]
  · rw [v4_low x5 x6 y h, h5, Cert.FwdIdeal.Scalar.wV_low _ _ h]

/-- The regularisers of the gate or of the up projection. -/
theorem regs (h11 : ∀ i, x11 i = hid (v i)) : val_main_v18 (F := Ideal) x11 = Cert.FwdIdeal.Spec.R v := by
  funext y
  have h1 := idx2_lt1 y
  rw [val_main_v18_apply]
  refine (congrArg (fun z : EReal => z + _) (show (val_main_cst_2 (F := Ideal)) (Shape.Idx.first h_S_) = (0 : EReal) from Ideal.ofBits_zero_f32)).trans ?_
  refine (zero_add _).trans (Finset.sum_congr rfl fun l _ => ?_)
  have hl := l.isLt
  have hi : idx_main_v17 (idx_main_v18 y l) = ix2 (y 0) ⟨128 * (y 1).val + l.val, by omega⟩ := by
    refine funext fun a => Fin.ext ?_
    match a with
    | ⟨0, _⟩ => show (((y 0).val * 16 + (y 1).val) * 128 + l.val) / 2048 = (y 0).val; omega
    | ⟨1, _⟩ => show (((y 0).val * 16 + (y 1).val) * 128 + l.val) % 2048 = 128 * (y 1).val + l.val; omega
  rw [val_main_v17_apply, hi, Cert.FwdIdeal.Scalar.rV_eq, ← h11]
  have ht : ∀ i, val_main_v14 (F := Ideal) x11 i = Ideal.ofBits .f32 0x40000000#32 * x11 i - Ideal.ofBits .f32 0x3F800000#32 := fun i => by
    rw [val_main_v14_apply, val_main_v12_apply, val_main_v11_apply, val_main_v13_apply]; rfl
  show (val_main_v14 (F := Ideal) x11 _ * val_main_v14 (F := Ideal) x11 _ * (val_main_v14 (F := Ideal) x11 _ * val_main_v14 (F := Ideal) x11 _) : EReal) = _
  exact congrArg (fun z : EReal => z * z * (z * z)) (ht _)

end Up

section Down

variable (c : (⟨S2048x2176, .i8⟩ : BufTy).Contents (Elt Ideal)) (s : (⟨S2048x34, .f32⟩ : BufTy).Contents (Elt Ideal))
variable (v : (⟨S2048x4352, .bf16⟩ : BufTy).Contents (Elt Ideal))
variable (x9 x10 : (⟨S2048x2176, .f32⟩ : BufTy).Contents (Elt Ideal)) (x13 : (⟨S2048x4352, .f32⟩ : BufTy).Contents (Elt Ideal))

/-- The down projection's nibbles side by side, in the first half of a group the low ones. -/
theorem v42_low (y : S2048x4352.Idx) (h : ¬ 64 ≤ (y 1).val % 128) :
    val_main_v42 (F := Ideal) x9 x10 y = x9 (ix2 (y 0) ⟨(y 1).val / 128 * 64 + (y 1).val % 64, by have := idx2_lt1 y; omega⟩) := by
  have h1 := idx2_lt1 y
  rw [val_main_v42_apply, val_main_v41]
  refine (concatenate_pair_apply_left (s₁ := S2048x34x64) (s₂ := S2048x34x64) (t := S2048x34x128) 2 _ _ _ (idx_main_v42 y) rfl
    (ix3 (y 0) (⟨(y 1).val / 128, by omega⟩ : Fin 34) (⟨(y 1).val % 128, by omega⟩ : Fin 64)) fun b => ?_).trans ?_
  · match b with
    | ⟨0, _⟩ => show (y 0).val = ((y 0).val * 4352 + (y 1).val) / 4352; omega
    | ⟨1, _⟩ => show (y 1).val / 128 = ((y 0).val * 4352 + (y 1).val) / 128 % 34; omega
    | ⟨2, _⟩ => show (y 1).val % 128 = ((y 0).val * 4352 + (y 1).val) % 128; omega
  · rw [val_main_v39_apply]
    refine congrArg x9 (funext fun a => Fin.ext ?_)
    match a with
    | ⟨0, _⟩ => show (((y 0).val * 34 + (y 1).val / 128) * 64 + (y 1).val % 128) / 2176 = (y 0).val; omega
    | ⟨1, _⟩ => show (((y 0).val * 34 + (y 1).val / 128) * 64 + (y 1).val % 128) % 2176 = (y 1).val / 128 * 64 + (y 1).val % 64; omega

/-- In the second half the high ones. -/
theorem v42_high (y : S2048x4352.Idx) (h : 64 ≤ (y 1).val % 128) :
    val_main_v42 (F := Ideal) x9 x10 y = x10 (ix2 (y 0) ⟨(y 1).val / 128 * 64 + (y 1).val % 64, by have := idx2_lt1 y; omega⟩) := by
  have h1 := idx2_lt1 y
  rw [val_main_v42_apply, val_main_v41]
  refine (concatenate_pair_apply_right (s₁ := S2048x34x64) (s₂ := S2048x34x64) (t := S2048x34x128) 2 _ _ _ (idx_main_v42 y) rfl rfl
    (ix3 (y 0) (⟨(y 1).val / 128, by omega⟩ : Fin 34) (⟨(y 1).val % 128 - 64, by omega⟩ : Fin 64)) (fun b hb => ?_) ?_).trans ?_
  · match b, hb with
    | ⟨0, _⟩, _ => show (y 0).val = ((y 0).val * 4352 + (y 1).val) / 4352; omega
    | ⟨1, _⟩, _ => show (y 1).val / 128 = ((y 0).val * 4352 + (y 1).val) / 128 % 34; omega
    | ⟨2, _⟩, hb => exact absurd rfl hb
  · show (y 1).val % 128 - 64 + 64 = ((y 0).val * 4352 + (y 1).val) % 128; omega
  · rw [val_main_v40_apply]
    refine congrArg x10 (funext fun a => Fin.ext ?_)
    match a with
    | ⟨0, _⟩ => show (((y 0).val * 34 + (y 1).val / 128) * 64 + ((y 1).val % 128 - 64)) / 2176 = (y 0).val; omega
    | ⟨1, _⟩ => show (((y 0).val * 34 + (y 1).val / 128) * 64 + ((y 1).val % 128 - 64)) % 2176 = (y 1).val / 128 * 64 + (y 1).val % 64; omega

/-- The softened weights of the down projection. -/
theorem weightsD (h9 : ∀ i, x9 i = num (lowN (c i))) (h10 : ∀ i, x10 i = num (highN (c i))) (h13 : ∀ i, x13 i = hid (v i)) :
    val_main_v57 (F := Ideal) s x9 x10 x13 = Cert.FwdIdeal.Spec.WD c s v := by
  funext y
  have h1 := idx2_lt1 y
  have hs : val_main_v44 (F := Ideal) s y = s (ix2 (y 0) ⟨(y 1).val / 128, by omega⟩) := by
    rw [val_main_v44_apply, val_main_v43_apply]
    refine congrArg s (funext fun a => Fin.ext ?_)
    match a with
    | ⟨0, _⟩ => show ((y 0).val * 4352 + (y 1).val) / 4352 = (y 0).val; omega
    | ⟨1, _⟩ => show ((y 0).val * 4352 + (y 1).val) / 128 % 34 = (y 1).val / 128; omega
  have h8 : val_main_v46 (F := Ideal) y = Ideal.ofBits .f32 0x40E00000#32 := by rw [val_main_v46_apply]; rfl
  show (val_main_v44 (F := Ideal) s y : EReal) * min (val_main_v42 (F := Ideal) x9 x10 y + x13 y : EReal) (val_main_v46 (F := Ideal) y)
    = wV (nib (c (ix2 (y 0) ⟨(y 1).val / 128 * 64 + (y 1).val % 64, by omega⟩)) (64 ≤ (y 1).val % 128)) (s (ix2 (y 0) ⟨(y 1).val / 128, by omega⟩)) (v y)
  rw [hs, h8, h13]
  by_cases h : 64 ≤ (y 1).val % 128
  · rw [v42_high x9 x10 y h, h10, Cert.FwdIdeal.Scalar.wV_high _ _ h]
  · rw [v42_low x9 x10 y h, h9, Cert.FwdIdeal.Scalar.wV_low _ _ h]

/-- The regularisers of the down projection. -/
theorem regsD (h13 : ∀ i, x13 i = hid (v i)) : val_main_v56 (F := Ideal) x13 = Cert.FwdIdeal.Spec.RD v := by
  funext y
  have h1 := idx2_lt1 y
  rw [val_main_v56_apply]
  refine (congrArg (fun z : EReal => z + _) (show (val_main_cst_10 (F := Ideal)) (Shape.Idx.first h_S_) = (0 : EReal) from Ideal.ofBits_zero_f32)).trans ?_
  refine (zero_add _).trans (Finset.sum_congr rfl fun l _ => ?_)
  have hl := l.isLt
  have hi : idx_main_v55 (idx_main_v56 y l) = ix2 (y 0) ⟨128 * (y 1).val + l.val, by omega⟩ := by
    refine funext fun a => Fin.ext ?_
    match a with
    | ⟨0, _⟩ => show (((y 0).val * 34 + (y 1).val) * 128 + l.val) / 4352 = (y 0).val; omega
    | ⟨1, _⟩ => show (((y 0).val * 34 + (y 1).val) * 128 + l.val) % 4352 = 128 * (y 1).val + l.val; omega
  rw [val_main_v55_apply, hi, Cert.FwdIdeal.Scalar.rV_eq, ← h13]
  have ht : ∀ i, val_main_v52 (F := Ideal) x13 i = Ideal.ofBits .f32 0x40000000#32 * x13 i - Ideal.ofBits .f32 0x3F800000#32 := fun i => by
    rw [val_main_v52_apply, val_main_v50_apply, val_main_v49_apply, val_main_v51_apply]; rfl
  show (val_main_v52 (F := Ideal) x13 _ * val_main_v52 (F := Ideal) x13 _ * (val_main_v52 (F := Ideal) x13 _ * val_main_v52 (F := Ideal) x13 _) : EReal) = _
  exact congrArg (fun z : EReal => z * z * (z * z)) (ht _)

end Down

section Tokens

variable (x : (⟨S4608x2048, .fp8e4m3⟩ : BufTy).Contents (Elt Ideal)) (xs : (⟨S6x768, .f32⟩ : BufTy).Contents (Elt Ideal))
variable (s1 s2 : (⟨S4352x16, .f32⟩ : BufTy).Contents (Elt Ideal)) (x4 : (⟨S4608x2048, .bf16⟩ : BufTy).Contents (Elt Ideal))
variable (x5 x6 x7 x8 : (⟨S4352x1024, .f32⟩ : BufTy).Contents (Elt Ideal)) (x11 x12 : (⟨S4352x2048, .f32⟩ : BufTy).Contents (Elt Ideal))

/-- The two weights of the host operations. -/
abbrev wg : S4352x2048.Idx → EReal := val_main_v19 (F := Ideal) s1 x5 x6 x11

variable (h4 : ∀ i, x4 i = (x i : EReal))

/-- A token's scale. -/
theorem v59_eq (t : Fin 4608) (i : S4608x1.Idx) (h : (i 0).val = t.val) : val_main_v59 (F := Ideal) xs i = Cert.FwdIdeal.Spec.scale xs t := by
  rw [val_main_v59_apply, val_main_v58_apply]
  refine congrArg xs (funext fun a => Fin.ext ?_)
  match a with
  | ⟨0, _⟩ => show (i 0).val / 768 = t.val / 768; rw [h]
  | ⟨1, _⟩ => show (i 0).val % 768 = t.val % 768; rw [h]

include h4 in
/-- The gate's product, scaled. -/
theorem v62_eq (y : S4608x4352.Idx) : val_main_v62 (F := Ideal) xs s1 x4 x5 x6 x11 y
    = (Cert.FwdIdeal.Spec.scale xs (y 0) * Cert.FwdIdeal.Spec.dot x (wg s1 x5 x6 x11) (y 0) (y 1) : EReal) := by
  rw [val_main_v62_apply, val_main_v61_apply, v59_eq xs (y 0) _ rfl, val_main_v60_apply]
  refine congrArg (fun z : EReal => Cert.FwdIdeal.Spec.scale xs (y 0) * z) (Finset.sum_congr rfl fun k _ => ?_)
  have e1 : lidx_main_v60 y k = ix2 (y 0) k := funext fun a => Fin.ext (by match a with | ⟨0, _⟩ => rfl | ⟨1, _⟩ => rfl)
  have e2 : ridx_main_v60 y k = ix2 (y 1) k := funext fun a => Fin.ext (by match a with | ⟨0, _⟩ => rfl | ⟨1, _⟩ => rfl)
  exact congrArg₂ (fun a b : EReal => a * b) ((h4 _).trans (congrArg x e1)) (congrArg (wg s1 x5 x6 x11) e2)

include h4 in
/-- The up projection's product, scaled. -/
theorem v65_eq (y : S4608x4352.Idx) : val_main_v65 (F := Ideal) xs s2 x4 x7 x8 x12 y
    = (Cert.FwdIdeal.Spec.scale xs (y 0) * Cert.FwdIdeal.Spec.dot x (wg s2 x7 x8 x12) (y 0) (y 1) : EReal) := by
  rw [val_main_v65_apply, val_main_v64_apply, v59_eq xs (y 0) _ rfl, val_main_v63_apply]
  refine congrArg (fun z : EReal => Cert.FwdIdeal.Spec.scale xs (y 0) * z) (Finset.sum_congr rfl fun k _ => ?_)
  have e1 : lidx_main_v63 y k = ix2 (y 0) k := funext fun a => Fin.ext (by match a with | ⟨0, _⟩ => rfl | ⟨1, _⟩ => rfl)
  have e2 : ridx_main_v63 y k = ix2 (y 1) k := funext fun a => Fin.ext (by match a with | ⟨0, _⟩ => rfl | ⟨1, _⟩ => rfl)
  exact congrArg₂ (fun a b : EReal => a * b) ((h4 _).trans (congrArg x e1)) (congrArg (wg s2 x7 x8 x12) e2)

/-- The logistic function as the host computes it. -/
theorem v71_eq (y : S4608x4352.Idx) : val_main_v71 (F := Ideal) xs s1 x4 x5 x6 x11 y
    = Ideal.logistic (val_main_v62 (F := Ideal) xs s1 x4 x5 x6 x11 y) := by
  rw [val_main_v71_apply, val_main_v70_apply, val_main_v69_apply, val_main_v68_apply, val_main_v67_apply, val_main_v66_apply]
  generalize val_main_v62 (F := Ideal) xs s1 x4 x5 x6 x11 y = g
  show Ideal.div (Ideal.ofBits .f32 0x3F800000#32) (Ideal.ofBits .f32 0x3F800000#32 + Ideal.exp (-g)) = Ideal.div 1 (1 + Ideal.exp (-g))
  rw [Cert.FwdIdeal.Scalar.bits_1, EReal.coe_one]

include h4 in
/-- The activation. -/
theorem act (y : S4608x4352.Idx) : val_main_v73 (F := Ideal) xs s1 s2 x4 x5 x6 x7 x8 x11 x12 y
    = Cert.FwdIdeal.Spec.Tok aV x xs (wg s1 x5 x6 x11) (wg s2 x7 x8 x12) y := by
  rw [val_main_v73_apply, val_main_v72_apply, v71_eq, v62_eq x xs s1 x4 x5 x6 x11 h4, v65_eq x xs s2 x4 x7 x8 x12 h4]
  rfl

include h4 in
/-- Its derivative by the up projection's product. -/
theorem byUp (y : S4608x4352.Idx) : val_main_v85 (F := Ideal) xs s1 x4 x5 x6 x11 y
    = Cert.FwdIdeal.Spec.Tok (fun s g _ => qV s g) x xs (wg s1 x5 x6 x11) (wg s2 x7 x8 x12) y := by
  rw [val_main_v85_apply, val_main_v84_apply, v59_eq xs (y 0) _ rfl, val_main_v83_apply, v71_eq, v62_eq x xs s1 x4 x5 x6 x11 h4]
  rfl

include h4 in
/-- Its derivative by the gate's product. -/
theorem byGate (y : S4608x4352.Idx) : val_main_v82 (F := Ideal) xs s1 s2 x4 x5 x6 x7 x8 x11 x12 y
    = Cert.FwdIdeal.Spec.Tok pV x xs (wg s1 x5 x6 x11) (wg s2 x7 x8 x12) y := by
  rw [val_main_v82_apply, val_main_v81_apply, v59_eq xs (y 0) _ rfl, val_main_v80_apply, val_main_v79_apply, val_main_v78_apply, val_main_v77_apply, val_main_v76_apply,
    val_main_v75_apply, val_main_v74_apply, v71_eq, v62_eq x xs s1 x4 x5 x6 x11 h4, v65_eq x xs s2 x4 x7 x8 x12 h4]
  have e : ∀ a b q z : EReal, a * b * q * z = a * z * (b * q) := fun a b q z => by rw [mul_assoc a b q, mul_right_comm]
  exact e _ _ _ _

end Tokens

end Cert.FwdReferenceIdeal.Value

end
-- ==== Proof.FwdReferenceIdeal.Widen.lean ====
/-
  The reference's kernel at an index, over the extended reals: each of its ten result arrays is a function of one argument,
  element by element. The eighth-bit activations are widened, the packed bytes are split in signed nibbles, and the rounding
  variables are turned into offsets.
-/
module

public import proofs.«01_k».proof.Proof.Gen.FwdReferenceIdeal.Frame
public import proofs.«01_k».proof.Proof.FwdReferenceIdeal.Value
public import Idealize.ShloMosaic.Lib.Pipeline.ValueKit

@[expose] public section

noncomputable section

namespace Cert.FwdReferenceIdeal.Value

open Idealize.ShloMosaic hiding ix2 ix3
open Cert.FwdReferenceIdeal Cert.FwdReferenceIdeal.Gen Idealize.ShloMosaic.TcCoe Idealize.SL.Sem
open Idealize.ShloMosaic.Pipeline (Dat)
open Cert.FwdIdeal.Scalar (lowN highN hid)

/-- A widened activation is the activation. -/
theorem pay4_apply (x : Vec Ideal S4608x2048 .fp8e4m3) (i : S4608x2048.Idx) : k0_pay4 (F := Ideal) x i = (x i : EReal) := rfl
/-- The gate's low nibble, at an index. -/
theorem pay6_apply (x : Vec Ideal S4352x1024 .i8) (i : S4352x1024.Idx) : k0_pay6 (F := Ideal) x i = num (lowN (x i)) := rfl
/-- The gate's high nibble, at an index. -/
theorem pay7_apply (x : Vec Ideal S4352x1024 .i8) (i : S4352x1024.Idx) : k0_pay7 (F := Ideal) x i = num (highN (x i)) := rfl
/-- The up projection's low nibble, at an index. -/
theorem pay9_apply (x : Vec Ideal S4352x1024 .i8) (i : S4352x1024.Idx) : k0_pay9 (F := Ideal) x i = num (lowN (x i)) := rfl
/-- The up projection's high nibble, at an index. -/
theorem pay10_apply (x : Vec Ideal S4352x1024 .i8) (i : S4352x1024.Idx) : k0_pay10 (F := Ideal) (k0_pay8 (F := Ideal) x) i = num (highN (x i)) := rfl
/-- The down projection's low nibble, at an index. -/
theorem pay12_apply (x : Vec Ideal S2048x2176 .i8) (i : S2048x2176.Idx) : k0_pay12 (F := Ideal) x i = num (lowN (x i)) := rfl
/-- The down projection's high nibble, at an index. -/
theorem pay13_apply (x : Vec Ideal S2048x2176 .i8) (i : S2048x2176.Idx) : k0_pay13 (F := Ideal) x i = num (highN (x i)) := rfl
/-- The value of the stretch. -/
theorem stretch_eq : (Named.named κ "stretch" 0x3F99999A#32 : Ideal .f32) = ((6 / 5 : ℝ) : EReal) := IdealRules.named_const.ideal_named_scalar _ _ _ _ rfl
/-- The value of the shift. -/
theorem gamma_eq : (Named.named κ "gamma" 0xBDCCCCCD#32 : Ideal .f32) = ((-1 / 10 : ℝ) : EReal) := IdealRules.named_const.ideal_named_scalar _ _ _ _ rfl
/-- The gate's offset, at an index. -/
theorem pay1_apply (x : Vec Ideal S4352x2048 .bf16) (i : S4352x2048.Idx) : k0_pay1 (F := Ideal) (k0_pay14 (F := Ideal) x) (k0_pay15 (F := Ideal)) i = hid (x i) := by
  rw [hid, ← stretch_eq, ← gamma_eq]; rfl
/-- The up projection's offset, at an index. -/
theorem pay2_apply (x : Vec Ideal S4352x2048 .bf16) (i : S4352x2048.Idx) : k0_pay2 (F := Ideal) x i = hid (x i) := by
  rw [hid, ← stretch_eq, ← gamma_eq]; rfl
/-- The down projection's offset, at an index. -/
theorem pay3_apply (x : Vec Ideal S2048x4352 .bf16) (i : S2048x4352.Idx) : k0_pay3 (F := Ideal) x i = hid (x i) := by
  rw [hid, ← stretch_eq, ← gamma_eq]; rfl

variable (m : (ℓ : Loc nD τ sig) → Buf (Elt Ideal) ℓ) (c : Dev nD)

/-- Every window's block index at the one point (decided). -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] :=
  (by decide +kernel : ∀ t : Fin grid0.N, _)

/-- The widened activations. -/
theorem final7 (i : S4608x2048.Idx) : (dats m 0 c).arrAt 7 cfg0.N i = (m (c.tc.loc main_arg0) i : EReal) := by
  have h : (dats m 0 c).arrAt 7 cfg0.N = k0_pay4 (F := Ideal) (m (c.tc.loc main_arg0)) := by
    refine (dats m 0 c).arrAt_eq_of_after_last 7 t0_0 (by decide +kernel) _ fun j => ?_
    blk_simp
    rw [after0_7]
    frame_out
    blk_point [iblk, V, idx t0_0]
  exact (congrFun h i).trans (pay4_apply _ i)

/-- The gate's low nibbles. -/
theorem final8 (i : S4352x1024.Idx) : (dats m 0 c).arrAt 8 cfg0.N i = num (lowN (m (c.tc.loc main_arg2) i)) := by
  have h : (dats m 0 c).arrAt 8 cfg0.N = k0_pay6 (F := Ideal) (m (c.tc.loc main_arg2)) := by
    refine (dats m 0 c).arrAt_eq_of_after_last 8 t0_0 (by decide +kernel) _ fun j => ?_
    blk_simp
    rw [after0_8]
    frame_out
    blk_point [iblk, V, idx t0_0]
  exact (congrFun h i).trans (pay6_apply _ i)

/-- The gate's high nibbles. -/
theorem final9 (i : S4352x1024.Idx) : (dats m 0 c).arrAt 9 cfg0.N i = num (highN (m (c.tc.loc main_arg2) i)) := by
  have h : (dats m 0 c).arrAt 9 cfg0.N = k0_pay7 (F := Ideal) (m (c.tc.loc main_arg2)) := by
    refine (dats m 0 c).arrAt_eq_of_after_last 9 t0_0 (by decide +kernel) _ fun j => ?_
    blk_simp
    rw [after0_9]
    frame_out
    blk_point [iblk, V, idx t0_0]
  exact (congrFun h i).trans (pay7_apply _ i)

/-- The up projection's low nibbles. -/
theorem final10 (i : S4352x1024.Idx) : (dats m 0 c).arrAt 10 cfg0.N i = num (lowN (m (c.tc.loc main_arg5) i)) := by
  have h : (dats m 0 c).arrAt 10 cfg0.N = k0_pay9 (F := Ideal) (m (c.tc.loc main_arg5)) := by
    refine (dats m 0 c).arrAt_eq_of_after_last 10 t0_0 (by decide +kernel) _ fun j => ?_
    blk_simp
    rw [after0_10]
    frame_out
    blk_point [iblk, V, idx t0_0]
  exact (congrFun h i).trans (pay9_apply _ i)

/-- The up projection's high nibbles. -/
theorem final11 (i : S4352x1024.Idx) : (dats m 0 c).arrAt 11 cfg0.N i = num (highN (m (c.tc.loc main_arg5) i)) := by
  have h : (dats m 0 c).arrAt 11 cfg0.N = k0_pay10 (F := Ideal) (k0_pay8 (F := Ideal) (m (c.tc.loc main_arg5))) := by
    refine (dats m 0 c).arrAt_eq_of_after_last 11 t0_0 (by decide +kernel) _ fun j => ?_
    blk_simp
    rw [after0_11]
    frame_out
    blk_point [iblk, V, idx t0_0]
  exact (congrFun h i).trans (pay10_apply _ i)

/-- The down projection's low nibbles. -/
theorem final12 (i : S2048x2176.Idx) : (dats m 0 c).arrAt 12 cfg0.N i = num (lowN (m (c.tc.loc main_arg8) i)) := by
  have h : (dats m 0 c).arrAt 12 cfg0.N = k0_pay12 (F := Ideal) (m (c.tc.loc main_arg8)) := by
    refine (dats m 0 c).arrAt_eq_of_after_last 12 t0_0 (by decide +kernel) _ fun j => ?_
    blk_simp
    rw [after0_12]
    frame_out
    blk_point [iblk, V, idx t0_0]
  exact (congrFun h i).trans (pay12_apply _ i)

/-- The down projection's high nibbles. -/
theorem final13 (i : S2048x2176.Idx) : (dats m 0 c).arrAt 13 cfg0.N i = num (highN (m (c.tc.loc main_arg8) i)) := by
  have h : (dats m 0 c).arrAt 13 cfg0.N = k0_pay13 (F := Ideal) (m (c.tc.loc main_arg8)) := by
    refine (dats m 0 c).arrAt_eq_of_after_last 13 t0_0 (by decide +kernel) _ fun j => ?_
    blk_simp
    rw [after0_13]
    frame_out
    blk_point [iblk, V, idx t0_0]
  exact (congrFun h i).trans (pay13_apply _ i)

/-- The gate's rounding offsets. -/
theorem final14 (i : S4352x2048.Idx) : (dats m 0 c).arrAt 14 cfg0.N i = hid (m (c.tc.loc main_arg4) i) := by
  have h : (dats m 0 c).arrAt 14 cfg0.N = k0_pay1 (F := Ideal) (k0_pay14 (F := Ideal) (m (c.tc.loc main_arg4))) (k0_pay15 (F := Ideal)) := by
    refine (dats m 0 c).arrAt_eq_of_after_last 14 t0_0 (by decide +kernel) _ fun j => ?_
    blk_simp
    rw [after0_14]
    frame_out
    blk_point [iblk, V, idx t0_0]
  exact (congrFun h i).trans (pay1_apply _ i)

/-- The up projection's rounding offsets. -/
theorem final15 (i : S4352x2048.Idx) : (dats m 0 c).arrAt 15 cfg0.N i = hid (m (c.tc.loc main_arg7) i) := by
  have h : (dats m 0 c).arrAt 15 cfg0.N = k0_pay2 (F := Ideal) (m (c.tc.loc main_arg7)) := by
    refine (dats m 0 c).arrAt_eq_of_after_last 15 t0_0 (by decide +kernel) _ fun j => ?_
    blk_simp
    rw [after0_15]
    frame_out
    blk_point [iblk, V, idx t0_0]
  exact (congrFun h i).trans (pay2_apply _ i)

/-- The down projection's rounding offsets. -/
theorem final16 (i : S2048x4352.Idx) : (dats m 0 c).arrAt 16 cfg0.N i = hid (m (c.tc.loc main_arg10) i) := by
  have h : (dats m 0 c).arrAt 16 cfg0.N = k0_pay3 (F := Ideal) (m (c.tc.loc main_arg10)) := by
    refine (dats m 0 c).arrAt_eq_of_after_last 16 t0_0 (by decide +kernel) _ fun j => ?_
    blk_simp
    rw [after0_16]
    frame_out
    blk_point [iblk, V, idx t0_0]
  exact (congrFun h i).trans (pay3_apply _ i)

end Cert.FwdReferenceIdeal.Value

end
-- ==== Proof.FwdReferenceIdeal.Suffix.lean ====
/-
  What the reference's results hold after its host operations, as the functions of Read.lean of what the operations find.
-/
module

public import proofs.«01_k».proof.Proof.FwdReferenceIdeal.Read
public import Idealize.ShloMosaic.Lib.StableHlo.Run

@[expose] public section

noncomputable section

namespace Cert.FwdReferenceIdeal.Read

open Cert.FwdReferenceIdeal Cert.FwdReferenceIdeal.Gen Idealize.ShloMosaic Idealize.ShloMosaic.TcCoe Idealize.SL.Sem Idealize.ShloMosaic.StableHlo

variable {F : FTy → Type} [FloatOps F]

/-- The joining of low and high halves, named: its operands stand in a list of dependent pairs, which `simp` cannot rewrite. -/
def join : (⟨S4352x16x64, .f32⟩ : BufTy).Contents (Elt F) → (⟨S4352x16x64, .f32⟩ : BufTy).Contents (Elt F) → (⟨S4352x16x128, .f32⟩ : BufTy).Contents (Elt F) :=
  (fun a b => concatenate S4352x16x128 2 [⟨S4352x16x64, a⟩, ⟨S4352x16x64, b⟩] concatenates_S4352x16x64_S4352x16x64_S4352x16x128_d2)
/-- The same for the down projection. -/
def joinD : (⟨S2048x34x64, .f32⟩ : BufTy).Contents (Elt F) → (⟨S2048x34x64, .f32⟩ : BufTy).Contents (Elt F) → (⟨S2048x34x128, .f32⟩ : BufTy).Contents (Elt F) :=
  (fun a b => concatenate S2048x34x128 2 [⟨S2048x34x64, a⟩, ⟨S2048x34x64, b⟩] concatenates_S2048x34x64_S2048x34x64_S2048x34x128_d2)

/-- The host operations, with the joinings by name. -/
abbrev hostOps : List (HloOp τ sig (Elt F)) :=
  ( StableHlo.reshape main_v0_1 main_v1 (rfl : (.f32 : EltTy) = .f32) shapeCasts_S4352x1024_S4352x16x64
  :: StableHlo.reshape main_v0_2 main_v2 (rfl : (.f32 : EltTy) = .f32) shapeCasts_S4352x1024_S4352x16x64
  :: StableHlo.binary main_v1 main_v2 main_v3 (join (F := F))
  :: StableHlo.reshape main_v3 main_v4 (rfl : (.f32 : EltTy) = .f32) shapeCasts_S4352x16x128_S4352x2048
  :: StableHlo.unary main_arg3 main_v5 (broadcastInDim S4352x16x128 ![0, 1] bcast_S4352x16_S4352x16x128_0_1 : (⟨S4352x16, .f32⟩ : BufTy).Contents (Elt F) → (⟨S4352x16x128, .f32⟩ : BufTy).Contents (Elt F))
  :: StableHlo.reshape main_v5 main_v6 (rfl : (.f32 : EltTy) = .f32) shapeCasts_S4352x16x128_S4352x2048
  :: StableHlo.binary main_v4 main_v0_7 main_v7 (addf : (⟨S4352x2048, .f32⟩ : BufTy).Contents (Elt F) → (⟨S4352x2048, .f32⟩ : BufTy).Contents (Elt F) → (⟨S4352x2048, .f32⟩ : BufTy).Contents (Elt F))
  :: StableHlo.nullary main_cst (constant S_ .f32 0x40E00000#32)
  :: StableHlo.unary main_cst main_v8 (broadcastInDim S4352x2048 ![] bcast_S_S4352x2048 : (⟨S_, .f32⟩ : BufTy).Contents (Elt F) → (⟨S4352x2048, .f32⟩ : BufTy).Contents (Elt F))
  :: StableHlo.binary main_v7 main_v8 main_v9 (minimumf : (⟨S4352x2048, .f32⟩ : BufTy).Contents (Elt F) → (⟨S4352x2048, .f32⟩ : BufTy).Contents (Elt F) → (⟨S4352x2048, .f32⟩ : BufTy).Contents (Elt F))
  :: StableHlo.binary main_v6 main_v9 main_v10 (mulf : (⟨S4352x2048, .f32⟩ : BufTy).Contents (Elt F) → (⟨S4352x2048, .f32⟩ : BufTy).Contents (Elt F) → (⟨S4352x2048, .f32⟩ : BufTy).Contents (Elt F))
  :: StableHlo.nullary main_cst_0 (constant S_ .f32 0x40000000#32)
  :: StableHlo.unary main_cst_0 main_v11 (broadcastInDim S4352x2048 ![] bcast_S_S4352x2048 : (⟨S_, .f32⟩ : BufTy).Contents (Elt F) → (⟨S4352x2048, .f32⟩ : BufTy).Contents (Elt F))
  :: StableHlo.binary main_v11 main_v0_7 main_v12 (mulf : (⟨S4352x2048, .f32⟩ : BufTy).Contents (Elt F) → (⟨S4352x2048, .f32⟩ : BufTy).Contents (Elt F) → (⟨S4352x2048, .f32⟩ : BufTy).Contents (Elt F))
  :: StableHlo.nullary main_cst_1 (constant S_ .f32 0x3F800000#32)
  :: StableHlo.unary main_cst_1 main_v13 (broadcastInDim S4352x2048 ![] bcast_S_S4352x2048 : (⟨S_, .f32⟩ : BufTy).Contents (Elt F) → (⟨S4352x2048, .f32⟩ : BufTy).Contents (Elt F))
  :: StableHlo.binary main_v12 main_v13 main_v14 (subf : (⟨S4352x2048, .f32⟩ : BufTy).Contents (Elt F) → (⟨S4352x2048, .f32⟩ : BufTy).Contents (Elt F) → (⟨S4352x2048, .f32⟩ : BufTy).Contents (Elt F))
  :: StableHlo.binary main_v14 main_v14 main_v15 (mulf : (⟨S4352x2048, .f32⟩ : BufTy).Contents (Elt F) → (⟨S4352x2048, .f32⟩ : BufTy).Contents (Elt F) → (⟨S4352x2048, .f32⟩ : BufTy).Contents (Elt F))
  :: StableHlo.binary main_v15 main_v15 main_v16 (mulf : (⟨S4352x2048, .f32⟩ : BufTy).Contents (Elt F) → (⟨S4352x2048, .f32⟩ : BufTy).Contents (Elt F) → (⟨S4352x2048, .f32⟩ : BufTy).Contents (Elt F))
  :: StableHlo.reshape main_v16 main_v17 (rfl : (.f32 : EltTy) = .f32) shapeCasts_S4352x2048_S4352x16x128
  :: StableHlo.nullary main_cst_2 (constant S_ .f32 0x00000000#32)
  :: StableHlo.binary main_v17 main_cst_2 main_v18 ((fun x v => Host.reduceAdd x v reducesTo_S4352x16x128_S4352x16_d2 h_S_) : (⟨S4352x16x128, .f32⟩ : BufTy).Contents (Elt F) → (⟨S_, .f32⟩ : BufTy).Contents (Elt F) → (⟨S4352x16, .f32⟩ : BufTy).Contents (Elt F))
  :: StableHlo.unary main_v10 main_v19 ((truncf .bf16 · bitsLt_bf16_f32) : (⟨S4352x2048, .f32⟩ : BufTy).Contents (Elt F) → (⟨S4352x2048, .bf16⟩ : BufTy).Contents (Elt F))
  :: StableHlo.reshape main_v0_3 main_v20 (rfl : (.f32 : EltTy) = .f32) shapeCasts_S4352x1024_S4352x16x64
  :: StableHlo.reshape main_v0_4 main_v21 (rfl : (.f32 : EltTy) = .f32) shapeCasts_S4352x1024_S4352x16x64
  :: StableHlo.binary main_v20 main_v21 main_v22 (join (F := F))
  :: StableHlo.reshape main_v22 main_v23 (rfl : (.f32 : EltTy) = .f32) shapeCasts_S4352x16x128_S4352x2048
  :: StableHlo.unary main_arg6 main_v24 (broadcastInDim S4352x16x128 ![0, 1] bcast_S4352x16_S4352x16x128_0_1 : (⟨S4352x16, .f32⟩ : BufTy).Contents (Elt F) → (⟨S4352x16x128, .f32⟩ : BufTy).Contents (Elt F))
  :: StableHlo.reshape main_v24 main_v25 (rfl : (.f32 : EltTy) = .f32) shapeCasts_S4352x16x128_S4352x2048
  :: StableHlo.binary main_v23 main_v0_8 main_v26 (addf : (⟨S4352x2048, .f32⟩ : BufTy).Contents (Elt F) → (⟨S4352x2048, .f32⟩ : BufTy).Contents (Elt F) → (⟨S4352x2048, .f32⟩ : BufTy).Contents (Elt F))
  :: StableHlo.nullary main_cst_3 (constant S_ .f32 0x40E00000#32)
  :: StableHlo.unary main_cst_3 main_v27 (broadcastInDim S4352x2048 ![] bcast_S_S4352x2048 : (⟨S_, .f32⟩ : BufTy).Contents (Elt F) → (⟨S4352x2048, .f32⟩ : BufTy).Contents (Elt F))
  :: StableHlo.binary main_v26 main_v27 main_v28 (minimumf : (⟨S4352x2048, .f32⟩ : BufTy).Contents (Elt F) → (⟨S4352x2048, .f32⟩ : BufTy).Contents (Elt F) → (⟨S4352x2048, .f32⟩ : BufTy).Contents (Elt F))
  :: StableHlo.binary main_v25 main_v28 main_v29 (mulf : (⟨S4352x2048, .f32⟩ : BufTy).Contents (Elt F) → (⟨S4352x2048, .f32⟩ : BufTy).Contents (Elt F) → (⟨S4352x2048, .f32⟩ : BufTy).Contents (Elt F))
  :: StableHlo.nullary main_cst_4 (constant S_ .f32 0x40000000#32)
  :: StableHlo.unary main_cst_4 main_v30 (broadcastInDim S4352x2048 ![] bcast_S_S4352x2048 : (⟨S_, .f32⟩ : BufTy).Contents (Elt F) → (⟨S4352x2048, .f32⟩ : BufTy).Contents (Elt F))
  :: StableHlo.binary main_v30 main_v0_8 main_v31 (mulf : (⟨S4352x2048, .f32⟩ : BufTy).Contents (Elt F) → (⟨S4352x2048, .f32⟩ : BufTy).Contents (Elt F) → (⟨S4352x2048, .f32⟩ : BufTy).Contents (Elt F))
  :: StableHlo.nullary main_cst_5 (constant S_ .f32 0x3F800000#32)
  :: StableHlo.unary main_cst_5 main_v32 (broadcastInDim S4352x2048 ![] bcast_S_S4352x2048 : (⟨S_, .f32⟩ : BufTy).Contents (Elt F) → (⟨S4352x2048, .f32⟩ : BufTy).Contents (Elt F))
  :: StableHlo.binary main_v31 main_v32 main_v33 (subf : (⟨S4352x2048, .f32⟩ : BufTy).Contents (Elt F) → (⟨S4352x2048, .f32⟩ : BufTy).Contents (Elt F) → (⟨S4352x2048, .f32⟩ : BufTy).Contents (Elt F))
  :: StableHlo.binary main_v33 main_v33 main_v34 (mulf : (⟨S4352x2048, .f32⟩ : BufTy).Contents (Elt F) → (⟨S4352x2048, .f32⟩ : BufTy).Contents (Elt F) → (⟨S4352x2048, .f32⟩ : BufTy).Contents (Elt F))
  :: StableHlo.binary main_v34 main_v34 main_v35 (mulf : (⟨S4352x2048, .f32⟩ : BufTy).Contents (Elt F) → (⟨S4352x2048, .f32⟩ : BufTy).Contents (Elt F) → (⟨S4352x2048, .f32⟩ : BufTy).Contents (Elt F))
  :: StableHlo.reshape main_v35 main_v36 (rfl : (.f32 : EltTy) = .f32) shapeCasts_S4352x2048_S4352x16x128
  :: StableHlo.nullary main_cst_6 (constant S_ .f32 0x00000000#32)
  :: StableHlo.binary main_v36 main_cst_6 main_v37 ((fun x v => Host.reduceAdd x v reducesTo_S4352x16x128_S4352x16_d2 h_S_) : (⟨S4352x16x128, .f32⟩ : BufTy).Contents (Elt F) → (⟨S_, .f32⟩ : BufTy).Contents (Elt F) → (⟨S4352x16, .f32⟩ : BufTy).Contents (Elt F))
  :: StableHlo.unary main_v29 main_v38 ((truncf .bf16 · bitsLt_bf16_f32) : (⟨S4352x2048, .f32⟩ : BufTy).Contents (Elt F) → (⟨S4352x2048, .bf16⟩ : BufTy).Contents (Elt F))
  :: StableHlo.reshape main_v0_5 main_v39 (rfl : (.f32 : EltTy) = .f32) shapeCasts_S2048x2176_S2048x34x64
  :: StableHlo.reshape main_v0_6 main_v40 (rfl : (.f32 : EltTy) = .f32) shapeCasts_S2048x2176_S2048x34x64
  :: StableHlo.binary main_v39 main_v40 main_v41 (joinD (F := F))
  :: StableHlo.reshape main_v41 main_v42 (rfl : (.f32 : EltTy) = .f32) shapeCasts_S2048x34x128_S2048x4352
  :: StableHlo.unary main_arg9 main_v43 (broadcastInDim S2048x34x128 ![0, 1] bcast_S2048x34_S2048x34x128_0_1 : (⟨S2048x34, .f32⟩ : BufTy).Contents (Elt F) → (⟨S2048x34x128, .f32⟩ : BufTy).Contents (Elt F))
  :: StableHlo.reshape main_v43 main_v44 (rfl : (.f32 : EltTy) = .f32) shapeCasts_S2048x34x128_S2048x4352
  :: StableHlo.binary main_v42 main_v0_9 main_v45 (addf : (⟨S2048x4352, .f32⟩ : BufTy).Contents (Elt F) → (⟨S2048x4352, .f32⟩ : BufTy).Contents (Elt F) → (⟨S2048x4352, .f32⟩ : BufTy).Contents (Elt F))
  :: StableHlo.nullary main_cst_7 (constant S_ .f32 0x40E00000#32)
  :: StableHlo.unary main_cst_7 main_v46 (broadcastInDim S2048x4352 ![] bcast_S_S2048x4352 : (⟨S_, .f32⟩ : BufTy).Contents (Elt F) → (⟨S2048x4352, .f32⟩ : BufTy).Contents (Elt F))
  :: StableHlo.binary main_v45 main_v46 main_v47 (minimumf : (⟨S2048x4352, .f32⟩ : BufTy).Contents (Elt F) → (⟨S2048x4352, .f32⟩ : BufTy).Contents (Elt F) → (⟨S2048x4352, .f32⟩ : BufTy).Contents (Elt F))
  :: StableHlo.binary main_v44 main_v47 main_v48 (mulf : (⟨S2048x4352, .f32⟩ : BufTy).Contents (Elt F) → (⟨S2048x4352, .f32⟩ : BufTy).Contents (Elt F) → (⟨S2048x4352, .f32⟩ : BufTy).Contents (Elt F))
  :: StableHlo.nullary main_cst_8 (constant S_ .f32 0x40000000#32)
  :: StableHlo.unary main_cst_8 main_v49 (broadcastInDim S2048x4352 ![] bcast_S_S2048x4352 : (⟨S_, .f32⟩ : BufTy).Contents (Elt F) → (⟨S2048x4352, .f32⟩ : BufTy).Contents (Elt F))
  :: StableHlo.binary main_v49 main_v0_9 main_v50 (mulf : (⟨S2048x4352, .f32⟩ : BufTy).Contents (Elt F) → (⟨S2048x4352, .f32⟩ : BufTy).Contents (Elt F) → (⟨S2048x4352, .f32⟩ : BufTy).Contents (Elt F))
  :: StableHlo.nullary main_cst_9 (constant S_ .f32 0x3F800000#32)
  :: StableHlo.unary main_cst_9 main_v51 (broadcastInDim S2048x4352 ![] bcast_S_S2048x4352 : (⟨S_, .f32⟩ : BufTy).Contents (Elt F) → (⟨S2048x4352, .f32⟩ : BufTy).Contents (Elt F))
  :: StableHlo.binary main_v50 main_v51 main_v52 (subf : (⟨S2048x4352, .f32⟩ : BufTy).Contents (Elt F) → (⟨S2048x4352, .f32⟩ : BufTy).Contents (Elt F) → (⟨S2048x4352, .f32⟩ : BufTy).Contents (Elt F))
  :: StableHlo.binary main_v52 main_v52 main_v53 (mulf : (⟨S2048x4352, .f32⟩ : BufTy).Contents (Elt F) → (⟨S2048x4352, .f32⟩ : BufTy).Contents (Elt F) → (⟨S2048x4352, .f32⟩ : BufTy).Contents (Elt F))
  :: StableHlo.binary main_v53 main_v53 main_v54 (mulf : (⟨S2048x4352, .f32⟩ : BufTy).Contents (Elt F) → (⟨S2048x4352, .f32⟩ : BufTy).Contents (Elt F) → (⟨S2048x4352, .f32⟩ : BufTy).Contents (Elt F))
  :: StableHlo.reshape main_v54 main_v55 (rfl : (.f32 : EltTy) = .f32) shapeCasts_S2048x4352_S2048x34x128
  :: StableHlo.nullary main_cst_10 (constant S_ .f32 0x00000000#32)
  :: StableHlo.binary main_v55 main_cst_10 main_v56 ((fun x v => Host.reduceAdd x v reducesTo_S2048x34x128_S2048x34_d2 h_S_) : (⟨S2048x34x128, .f32⟩ : BufTy).Contents (Elt F) → (⟨S_, .f32⟩ : BufTy).Contents (Elt F) → (⟨S2048x34, .f32⟩ : BufTy).Contents (Elt F))
  :: StableHlo.unary main_v48 main_v57 ((truncf .bf16 · bitsLt_bf16_f32) : (⟨S2048x4352, .f32⟩ : BufTy).Contents (Elt F) → (⟨S2048x4352, .bf16⟩ : BufTy).Contents (Elt F))
  :: StableHlo.reshape main_arg1 main_v58 (rfl : (.f32 : EltTy) = .f32) shapeCasts_S6x768_S4608
  :: StableHlo.unary main_v58 main_v59 (broadcastInDim S4608x1 ![0] bcast_S4608_S4608x1_0 : (⟨S4608, .f32⟩ : BufTy).Contents (Elt F) → (⟨S4608x1, .f32⟩ : BufTy).Contents (Elt F))
  :: StableHlo.binary main_v0_0 main_v19 main_v60 ((fun l r => Host.dotGeneral dot_S4608x2048_S4352x2048_S4608x4352_1_1_0_0_n_n none l r) : (⟨S4608x2048, .bf16⟩ : BufTy).Contents (Elt F) → (⟨S4352x2048, .bf16⟩ : BufTy).Contents (Elt F) → (⟨S4608x4352, .f32⟩ : BufTy).Contents (Elt F))
  :: StableHlo.unary main_v59 main_v61 (broadcastInDim S4608x4352 ![0, 1] bcast_S4608x1_S4608x4352_0_1 : (⟨S4608x1, .f32⟩ : BufTy).Contents (Elt F) → (⟨S4608x4352, .f32⟩ : BufTy).Contents (Elt F))
  :: StableHlo.binary main_v61 main_v60 main_v62 (mulf : (⟨S4608x4352, .f32⟩ : BufTy).Contents (Elt F) → (⟨S4608x4352, .f32⟩ : BufTy).Contents (Elt F) → (⟨S4608x4352, .f32⟩ : BufTy).Contents (Elt F))
  :: StableHlo.binary main_v0_0 main_v38 main_v63 ((fun l r => Host.dotGeneral dot_S4608x2048_S4352x2048_S4608x4352_1_1_0_0_n_n none l r) : (⟨S4608x2048, .bf16⟩ : BufTy).Contents (Elt F) → (⟨S4352x2048, .bf16⟩ : BufTy).Contents (Elt F) → (⟨S4608x4352, .f32⟩ : BufTy).Contents (Elt F))
  :: StableHlo.unary main_v59 main_v64 (broadcastInDim S4608x4352 ![0, 1] bcast_S4608x1_S4608x4352_0_1 : (⟨S4608x1, .f32⟩ : BufTy).Contents (Elt F) → (⟨S4608x4352, .f32⟩ : BufTy).Contents (Elt F))
  :: StableHlo.binary main_v64 main_v63 main_v65 (mulf : (⟨S4608x4352, .f32⟩ : BufTy).Contents (Elt F) → (⟨S4608x4352, .f32⟩ : BufTy).Contents (Elt F) → (⟨S4608x4352, .f32⟩ : BufTy).Contents (Elt F))
  :: StableHlo.unary main_v62 main_v66 (Host.negf : (⟨S4608x4352, .f32⟩ : BufTy).Contents (Elt F) → (⟨S4608x4352, .f32⟩ : BufTy).Contents (Elt F))
  :: StableHlo.unary main_v66 main_v67 (Host.exp : (⟨S4608x4352, .f32⟩ : BufTy).Contents (Elt F) → (⟨S4608x4352, .f32⟩ : BufTy).Contents (Elt F))
  :: StableHlo.nullary main_cst_11 (constant S_ .f32 0x3F800000#32)
  :: StableHlo.unary main_cst_11 main_v68 (broadcastInDim S4608x4352 ![] bcast_S_S4608x4352 : (⟨S_, .f32⟩ : BufTy).Contents (Elt F) → (⟨S4608x4352, .f32⟩ : BufTy).Contents (Elt F))
  :: StableHlo.binary main_v68 main_v67 main_v69 (addf : (⟨S4608x4352, .f32⟩ : BufTy).Contents (Elt F) → (⟨S4608x4352, .f32⟩ : BufTy).Contents (Elt F) → (⟨S4608x4352, .f32⟩ : BufTy).Contents (Elt F))
  :: StableHlo.nullary main_cst_12 (constant S_ .f32 0x3F800000#32)
  :: StableHlo.unary main_cst_12 main_v70 (broadcastInDim S4608x4352 ![] bcast_S_S4608x4352 : (⟨S_, .f32⟩ : BufTy).Contents (Elt F) → (⟨S4608x4352, .f32⟩ : BufTy).Contents (Elt F))
  :: StableHlo.binary main_v70 main_v69 main_v71 (Host.divf : (⟨S4608x4352, .f32⟩ : BufTy).Contents (Elt F) → (⟨S4608x4352, .f32⟩ : BufTy).Contents (Elt F) → (⟨S4608x4352, .f32⟩ : BufTy).Contents (Elt F))
  :: StableHlo.binary main_v62 main_v71 main_v72 (mulf : (⟨S4608x4352, .f32⟩ : BufTy).Contents (Elt F) → (⟨S4608x4352, .f32⟩ : BufTy).Contents (Elt F) → (⟨S4608x4352, .f32⟩ : BufTy).Contents (Elt F))
  :: StableHlo.binary main_v72 main_v65 main_v73 (mulf : (⟨S4608x4352, .f32⟩ : BufTy).Contents (Elt F) → (⟨S4608x4352, .f32⟩ : BufTy).Contents (Elt F) → (⟨S4608x4352, .f32⟩ : BufTy).Contents (Elt F))
  :: StableHlo.binary main_v65 main_v71 main_v74 (mulf : (⟨S4608x4352, .f32⟩ : BufTy).Contents (Elt F) → (⟨S4608x4352, .f32⟩ : BufTy).Contents (Elt F) → (⟨S4608x4352, .f32⟩ : BufTy).Contents (Elt F))
  :: StableHlo.nullary main_cst_13 (constant S_ .f32 0x3F800000#32)
  :: StableHlo.unary main_cst_13 main_v75 (broadcastInDim S4608x4352 ![] bcast_S_S4608x4352 : (⟨S_, .f32⟩ : BufTy).Contents (Elt F) → (⟨S4608x4352, .f32⟩ : BufTy).Contents (Elt F))
  :: StableHlo.binary main_v75 main_v71 main_v76 (subf : (⟨S4608x4352, .f32⟩ : BufTy).Contents (Elt F) → (⟨S4608x4352, .f32⟩ : BufTy).Contents (Elt F) → (⟨S4608x4352, .f32⟩ : BufTy).Contents (Elt F))
  :: StableHlo.binary main_v62 main_v76 main_v77 (mulf : (⟨S4608x4352, .f32⟩ : BufTy).Contents (Elt F) → (⟨S4608x4352, .f32⟩ : BufTy).Contents (Elt F) → (⟨S4608x4352, .f32⟩ : BufTy).Contents (Elt F))
  :: StableHlo.nullary main_cst_14 (constant S_ .f32 0x3F800000#32)
  :: StableHlo.unary main_cst_14 main_v78 (broadcastInDim S4608x4352 ![] bcast_S_S4608x4352 : (⟨S_, .f32⟩ : BufTy).Contents (Elt F) → (⟨S4608x4352, .f32⟩ : BufTy).Contents (Elt F))
  :: StableHlo.binary main_v78 main_v77 main_v79 (addf : (⟨S4608x4352, .f32⟩ : BufTy).Contents (Elt F) → (⟨S4608x4352, .f32⟩ : BufTy).Contents (Elt F) → (⟨S4608x4352, .f32⟩ : BufTy).Contents (Elt F))
  :: StableHlo.binary main_v74 main_v79 main_v80 (mulf : (⟨S4608x4352, .f32⟩ : BufTy).Contents (Elt F) → (⟨S4608x4352, .f32⟩ : BufTy).Contents (Elt F) → (⟨S4608x4352, .f32⟩ : BufTy).Contents (Elt F))
  :: StableHlo.unary main_v59 main_v81 (broadcastInDim S4608x4352 ![0, 1] bcast_S4608x1_S4608x4352_0_1 : (⟨S4608x1, .f32⟩ : BufTy).Contents (Elt F) → (⟨S4608x4352, .f32⟩ : BufTy).Contents (Elt F))
  :: StableHlo.binary main_v80 main_v81 main_v82 (mulf : (⟨S4608x4352, .f32⟩ : BufTy).Contents (Elt F) → (⟨S4608x4352, .f32⟩ : BufTy).Contents (Elt F) → (⟨S4608x4352, .f32⟩ : BufTy).Contents (Elt F))
  :: StableHlo.binary main_v62 main_v71 main_v83 (mulf : (⟨S4608x4352, .f32⟩ : BufTy).Contents (Elt F) → (⟨S4608x4352, .f32⟩ : BufTy).Contents (Elt F) → (⟨S4608x4352, .f32⟩ : BufTy).Contents (Elt F))
  :: StableHlo.unary main_v59 main_v84 (broadcastInDim S4608x4352 ![0, 1] bcast_S4608x1_S4608x4352_0_1 : (⟨S4608x1, .f32⟩ : BufTy).Contents (Elt F) → (⟨S4608x4352, .f32⟩ : BufTy).Contents (Elt F))
  :: StableHlo.binary main_v83 main_v84 main_v85 (mulf : (⟨S4608x4352, .f32⟩ : BufTy).Contents (Elt F) → (⟨S4608x4352, .f32⟩ : BufTy).Contents (Elt F) → (⟨S4608x4352, .f32⟩ : BufTy).Contents (Elt F))
  :: StableHlo.unary main_v73 main_v86 ((truncf .bf16 · bitsLt_bf16_f32) : (⟨S4608x4352, .f32⟩ : BufTy).Contents (Elt F) → (⟨S4608x4352, .bf16⟩ : BufTy).Contents (Elt F))
  :: StableHlo.unary main_v86 main_v87 ((transpose S4352x4608 [1, 0] · transposes_S4608x4352_S4352x4608_1_0) : (⟨S4608x4352, .bf16⟩ : BufTy).Contents (Elt F) → (⟨S4352x4608, .bf16⟩ : BufTy).Contents (Elt F))
  :: [] )

/-- They are the program's. -/
theorem hostOps_eq : (hostOps1 : List (HloOp τ sig (Elt F))) = hostOps := rfl

variable (W : Valuation τ sig (Elt F))

set_option maxHeartbeats 8000000 in
set_option maxRecDepth 8192 in
/-- What `%82` holds at the end. -/
theorem after_main_v82 : after hostOps1 W (Proc.devRef .tc main_v82) = val_main_v82 (F := F) (W (Proc.devRef .tc main_arg1)) (W (Proc.devRef .tc main_arg3)) (W (Proc.devRef .tc main_arg6)) (W (Proc.devRef .tc main_v0_0)) (W (Proc.devRef .tc main_v0_1)) (W (Proc.devRef .tc main_v0_2)) (W (Proc.devRef .tc main_v0_3)) (W (Proc.devRef .tc main_v0_4)) (W (Proc.devRef .tc main_v0_7)) (W (Proc.devRef .tc main_v0_8)) := by
  rw [hostOps_eq]; after_results_simp <;> rfl

set_option maxHeartbeats 8000000 in
set_option maxRecDepth 8192 in
/-- What `%85` holds at the end. -/
theorem after_main_v85 : after hostOps1 W (Proc.devRef .tc main_v85) = val_main_v85 (F := F) (W (Proc.devRef .tc main_arg1)) (W (Proc.devRef .tc main_arg3)) (W (Proc.devRef .tc main_v0_0)) (W (Proc.devRef .tc main_v0_1)) (W (Proc.devRef .tc main_v0_2)) (W (Proc.devRef .tc main_v0_7)) := by
  rw [hostOps_eq]; after_results_simp <;> rfl

set_option maxHeartbeats 8000000 in
set_option maxRecDepth 8192 in
/-- What `%73` holds at the end. -/
theorem after_main_v73 : after hostOps1 W (Proc.devRef .tc main_v73) = val_main_v73 (F := F) (W (Proc.devRef .tc main_arg1)) (W (Proc.devRef .tc main_arg3)) (W (Proc.devRef .tc main_arg6)) (W (Proc.devRef .tc main_v0_0)) (W (Proc.devRef .tc main_v0_1)) (W (Proc.devRef .tc main_v0_2)) (W (Proc.devRef .tc main_v0_3)) (W (Proc.devRef .tc main_v0_4)) (W (Proc.devRef .tc main_v0_7)) (W (Proc.devRef .tc main_v0_8)) := by
  rw [hostOps_eq]; after_results_simp <;> rfl

set_option maxHeartbeats 8000000 in
set_option maxRecDepth 8192 in
/-- What `%86` holds at the end. -/
theorem after_main_v86 : after hostOps1 W (Proc.devRef .tc main_v86) = val_main_v86 (F := F) (W (Proc.devRef .tc main_arg1)) (W (Proc.devRef .tc main_arg3)) (W (Proc.devRef .tc main_arg6)) (W (Proc.devRef .tc main_v0_0)) (W (Proc.devRef .tc main_v0_1)) (W (Proc.devRef .tc main_v0_2)) (W (Proc.devRef .tc main_v0_3)) (W (Proc.devRef .tc main_v0_4)) (W (Proc.devRef .tc main_v0_7)) (W (Proc.devRef .tc main_v0_8)) := by
  rw [hostOps_eq]; after_results_simp <;> rfl

set_option maxHeartbeats 8000000 in
set_option maxRecDepth 8192 in
/-- What `%87` holds at the end. -/
theorem after_main_v87 : after hostOps1 W (Proc.devRef .tc main_v87) = val_main_v87 (F := F) (W (Proc.devRef .tc main_arg1)) (W (Proc.devRef .tc main_arg3)) (W (Proc.devRef .tc main_arg6)) (W (Proc.devRef .tc main_v0_0)) (W (Proc.devRef .tc main_v0_1)) (W (Proc.devRef .tc main_v0_2)) (W (Proc.devRef .tc main_v0_3)) (W (Proc.devRef .tc main_v0_4)) (W (Proc.devRef .tc main_v0_7)) (W (Proc.devRef .tc main_v0_8)) := by
  rw [hostOps_eq]; after_results_simp <;> rfl

set_option maxHeartbeats 8000000 in
set_option maxRecDepth 8192 in
/-- What `%57` holds at the end. -/
theorem after_main_v57 : after hostOps1 W (Proc.devRef .tc main_v57) = val_main_v57 (F := F) (W (Proc.devRef .tc main_arg9)) (W (Proc.devRef .tc main_v0_5)) (W (Proc.devRef .tc main_v0_6)) (W (Proc.devRef .tc main_v0_9)) := by
  rw [hostOps_eq]; after_results_simp <;> rfl

set_option maxHeartbeats 8000000 in
set_option maxRecDepth 8192 in
/-- What `%18` holds at the end. -/
theorem after_main_v18 : after hostOps1 W (Proc.devRef .tc main_v18) = val_main_v18 (F := F) (W (Proc.devRef .tc main_v0_7)) := by
  rw [hostOps_eq]; after_results_simp <;> rfl

set_option maxHeartbeats 8000000 in
set_option maxRecDepth 8192 in
/-- What `%37` holds at the end. -/
theorem after_main_v37 : after hostOps1 W (Proc.devRef .tc main_v37) = val_main_v18 (F := F) (W (Proc.devRef .tc main_v0_8)) := by
  rw [hostOps_eq]; after_results_simp <;> rfl

set_option maxHeartbeats 8000000 in
set_option maxRecDepth 8192 in
/-- What `%56` holds at the end. -/
theorem after_main_v56 : after hostOps1 W (Proc.devRef .tc main_v56) = val_main_v56 (F := F) (W (Proc.devRef .tc main_v0_9)) := by
  rw [hostOps_eq]; after_results_simp <;> rfl

end Cert.FwdReferenceIdeal.Read

end
-- ==== Proof.FwdReferenceIdeal.Results.lean ====
/-
  The reference's nine results after its run, over the extended reals: `Spec`'s functions of the arguments.
-/
module

public import proofs.«01_k».proof.Proof.FwdReferenceIdeal.Widen
public import proofs.«01_k».proof.Proof.FwdReferenceIdeal.Suffix
public import Idealize.ShloMosaic.Lib.Claim

@[expose] public section

noncomputable section

namespace Cert.FwdReferenceIdeal.Value

open Idealize.ShloMosaic hiding ix2 ix3
open Cert.FwdReferenceIdeal Cert.FwdReferenceIdeal.Gen Cert.FwdReferenceIdeal.Read Idealize.ShloMosaic.TcCoe Idealize.SL.Sem
open Cert.FwdIdeal.Tile (aV qV pV)

variable (m : (ℓ : Loc nD τ sig) → Buf (Elt Ideal) ℓ) (ρ : Dev nD → PrngReg) (c : Dev nD)

/-- What the host operations after the kernel find. -/
abbrev found : Valuation τ sig (Elt Ideal) := Pipeline.withArrays spec0 c (V0 m c) fun w => (dats m 0 c).arrAt w cfg0.N

/-- Argument 1 is found as it was. -/
theorem found_arg1 : found m c (Proc.devRef .tc main_arg1) = m (c.tc.loc main_arg1) :=
  (Pipeline.withArrays_of_ne _ c (V0 m c) _ main_arg1 (by exact (by decide : ∀ w, Pipeline.arrRef spec0 w ≠ main_arg1))).trans (V_main_arg1 m c)
/-- Argument 3 is found as it was. -/
theorem found_arg3 : found m c (Proc.devRef .tc main_arg3) = m (c.tc.loc main_arg3) :=
  (Pipeline.withArrays_of_ne _ c (V0 m c) _ main_arg3 (by exact (by decide : ∀ w, Pipeline.arrRef spec0 w ≠ main_arg3))).trans (V_main_arg3 m c)
/-- Argument 6 is found as it was. -/
theorem found_arg6 : found m c (Proc.devRef .tc main_arg6) = m (c.tc.loc main_arg6) :=
  (Pipeline.withArrays_of_ne _ c (V0 m c) _ main_arg6 (by exact (by decide : ∀ w, Pipeline.arrRef spec0 w ≠ main_arg6))).trans (V_main_arg6 m c)
/-- Argument 9 is found as it was. -/
theorem found_arg9 : found m c (Proc.devRef .tc main_arg9) = m (c.tc.loc main_arg9) :=
  (Pipeline.withArrays_of_ne _ c (V0 m c) _ main_arg9 (by exact (by decide : ∀ w, Pipeline.arrRef spec0 w ≠ main_arg9))).trans (V_main_arg9 m c)

/-- The windows have arrays of their own. -/
theorem arrRef_inj : Function.Injective (Pipeline.arrRef spec0) :=
  (by decide +kernel : Function.Injective (Pipeline.arrRef spec0))

/-- A window's array is found as the kernel leaves it. -/
theorem found_arr (w : Fin 17) : found m c (Proc.devRef .tc (Pipeline.arrRef spec0 w)) = (dats m 0 c).arrAt w cfg0.N :=
  Pipeline.withArrays_arr spec0 arrRef_inj c (V0 m c) _ w

/-- What is found in result 0 of the kernel, at an index. -/
theorem f4 (i : S4608x2048.Idx) : found m c (Proc.devRef .tc main_v0_0) i = (m (c.tc.loc main_arg0) i : EReal) :=
  (congrFun (found_arr m c 7) i).trans (final7 m c i)
/-- What is found in result 1 of the kernel, at an index. -/
theorem f5 (i : S4352x1024.Idx) : found m c (Proc.devRef .tc main_v0_1) i = num (Cert.FwdIdeal.Scalar.lowN (m (c.tc.loc main_arg2) i)) :=
  (congrFun (found_arr m c 8) i).trans (final8 m c i)
/-- What is found in result 2 of the kernel, at an index. -/
theorem f6 (i : S4352x1024.Idx) : found m c (Proc.devRef .tc main_v0_2) i = num (Cert.FwdIdeal.Scalar.highN (m (c.tc.loc main_arg2) i)) :=
  (congrFun (found_arr m c 9) i).trans (final9 m c i)
/-- What is found in result 3 of the kernel, at an index. -/
theorem f7 (i : S4352x1024.Idx) : found m c (Proc.devRef .tc main_v0_3) i = num (Cert.FwdIdeal.Scalar.lowN (m (c.tc.loc main_arg5) i)) :=
  (congrFun (found_arr m c 10) i).trans (final10 m c i)
/-- What is found in result 4 of the kernel, at an index. -/
theorem f8 (i : S4352x1024.Idx) : found m c (Proc.devRef .tc main_v0_4) i = num (Cert.FwdIdeal.Scalar.highN (m (c.tc.loc main_arg5) i)) :=
  (congrFun (found_arr m c 11) i).trans (final11 m c i)
/-- What is found in result 5 of the kernel, at an index. -/
theorem f9 (i : S2048x2176.Idx) : found m c (Proc.devRef .tc main_v0_5) i = num (Cert.FwdIdeal.Scalar.lowN (m (c.tc.loc main_arg8) i)) :=
  (congrFun (found_arr m c 12) i).trans (final12 m c i)
/-- What is found in result 6 of the kernel, at an index. -/
theorem f10 (i : S2048x2176.Idx) : found m c (Proc.devRef .tc main_v0_6) i = num (Cert.FwdIdeal.Scalar.highN (m (c.tc.loc main_arg8) i)) :=
  (congrFun (found_arr m c 13) i).trans (final13 m c i)
/-- What is found in result 7 of the kernel, at an index. -/
theorem f11 (i : S4352x2048.Idx) : found m c (Proc.devRef .tc main_v0_7) i = Cert.FwdIdeal.Scalar.hid (m (c.tc.loc main_arg4) i) :=
  (congrFun (found_arr m c 14) i).trans (final14 m c i)
/-- What is found in result 8 of the kernel, at an index. -/
theorem f12 (i : S4352x2048.Idx) : found m c (Proc.devRef .tc main_v0_8) i = Cert.FwdIdeal.Scalar.hid (m (c.tc.loc main_arg7) i) :=
  (congrFun (found_arr m c 15) i).trans (final15 m c i)
/-- What is found in result 9 of the kernel, at an index. -/
theorem f13 (i : S2048x4352.Idx) : found m c (Proc.devRef .tc main_v0_9) i = Cert.FwdIdeal.Scalar.hid (m (c.tc.loc main_arg10) i) :=
  (congrFun (found_arr m c 16) i).trans (final16 m c i)

/-- The gate's softened weights, of the arguments. -/
theorem found_wg : wg (m (c.tc.loc main_arg3)) (found m c (Proc.devRef .tc main_v0_1)) (found m c (Proc.devRef .tc main_v0_2)) (found m c (Proc.devRef .tc main_v0_7))
    = Cert.FwdIdeal.Spec.W (m (c.tc.loc main_arg2)) (m (c.tc.loc main_arg3)) (m (c.tc.loc main_arg4)) :=
  weights _ _ _ _ _ _ (f5 m c) (f6 m c) (f11 m c)

/-- The up projection's softened weights, of the arguments. -/
theorem found_wu : wg (m (c.tc.loc main_arg6)) (found m c (Proc.devRef .tc main_v0_3)) (found m c (Proc.devRef .tc main_v0_4)) (found m c (Proc.devRef .tc main_v0_8))
    = Cert.FwdIdeal.Spec.W (m (c.tc.loc main_arg5)) (m (c.tc.loc main_arg6)) (m (c.tc.loc main_arg7)) :=
  weights _ _ _ _ _ _ (f7 m c) (f8 m c) (f12 m c)

/-- A function of one token's two products, of the arguments. -/
abbrev TokR (φ : EReal → EReal → EReal → EReal) : S4608x4352.Idx → EReal :=
  Cert.FwdIdeal.Spec.Tok φ (m (c.tc.loc main_arg0)) (m (c.tc.loc main_arg1))
    (Cert.FwdIdeal.Spec.W (m (c.tc.loc main_arg2)) (m (c.tc.loc main_arg3)) (m (c.tc.loc main_arg4)))
    (Cert.FwdIdeal.Spec.W (m (c.tc.loc main_arg5)) (m (c.tc.loc main_arg6)) (m (c.tc.loc main_arg7)))
/-- The same, turned. -/
abbrev TokTR (φ : EReal → EReal → EReal → EReal) : S4352x4608.Idx → EReal :=
  Cert.FwdIdeal.Spec.TokT φ (m (c.tc.loc main_arg0)) (m (c.tc.loc main_arg1))
    (Cert.FwdIdeal.Spec.W (m (c.tc.loc main_arg2)) (m (c.tc.loc main_arg3)) (m (c.tc.loc main_arg4)))
    (Cert.FwdIdeal.Spec.W (m (c.tc.loc main_arg5)) (m (c.tc.loc main_arg6)) (m (c.tc.loc main_arg7)))

/-- The derivative by the gate's product. -/
theorem res82 : StableHlo.after hostOps1 (found m c) (Proc.devRef .tc main_v82) = TokR m c pV := by
  rw [after_main_v82, found_arg1, found_arg3, found_arg6]
  exact funext fun y => (byGate _ _ _ _ _ _ _ _ _ _ _ (f4 m c) y).trans (by rw [found_wg, found_wu])

/-- The derivative by the up projection's product. -/
theorem res85 : StableHlo.after hostOps1 (found m c) (Proc.devRef .tc main_v85) = TokR m c (fun s g _ => qV s g) := by
  rw [after_main_v85, found_arg1, found_arg3]
  exact funext fun y => (byUp (m (c.tc.loc main_arg0)) (m (c.tc.loc main_arg1)) (m (c.tc.loc main_arg3)) (m (c.tc.loc main_arg6)) _ _ _
    (found m c (Proc.devRef .tc main_v0_3)) (found m c (Proc.devRef .tc main_v0_4)) _ (found m c (Proc.devRef .tc main_v0_8)) (f4 m c) y).trans (by rw [found_wg, found_wu])

/-- The activation. -/
theorem res73 : StableHlo.after hostOps1 (found m c) (Proc.devRef .tc main_v73) = TokR m c aV := by
  rw [after_main_v73, found_arg1, found_arg3, found_arg6]
  exact funext fun y => (act _ _ _ _ _ _ _ _ _ _ _ (f4 m c) y).trans (by rw [found_wg, found_wu])

/-- The activation, narrowed: over the extended reals the same. -/
theorem res86 : StableHlo.after hostOps1 (found m c) (Proc.devRef .tc main_v86) = TokR m c aV := by
  rw [after_main_v86, found_arg1, found_arg3, found_arg6]
  exact funext fun y => (act _ _ _ _ _ _ _ _ _ _ _ (f4 m c) y).trans (by rw [found_wg, found_wu])

/-- The activation, narrowed and turned. -/
theorem res87 : StableHlo.after hostOps1 (found m c) (Proc.devRef .tc main_v87) = TokTR m c aV := by
  rw [after_main_v87, found_arg1, found_arg3, found_arg6]
  exact funext fun y => (val_main_v87_apply _ _ _ _ _ _ _ _ _ _ y).trans
    ((act _ _ _ _ _ _ _ _ _ _ _ (f4 m c) (idx_main_v87 y)).trans (by rw [found_wg, found_wu]; rfl))

/-- The softened weights of the down projection. -/
theorem res57 : StableHlo.after hostOps1 (found m c) (Proc.devRef .tc main_v57)
    = Cert.FwdIdeal.Spec.WD (m (c.tc.loc main_arg8)) (m (c.tc.loc main_arg9)) (m (c.tc.loc main_arg10)) := by
  rw [after_main_v57, found_arg9]
  exact weightsD _ _ _ _ _ _ (f9 m c) (f10 m c) (f13 m c)

/-- The regularisers of the gate. -/
theorem res18 : StableHlo.after hostOps1 (found m c) (Proc.devRef .tc main_v18) = Cert.FwdIdeal.Spec.R (m (c.tc.loc main_arg4)) := by
  rw [after_main_v18]
  exact regs _ _ (f11 m c)

/-- The regularisers of the up projection. -/
theorem res37 : StableHlo.after hostOps1 (found m c) (Proc.devRef .tc main_v37) = Cert.FwdIdeal.Spec.R (m (c.tc.loc main_arg7)) := by
  rw [after_main_v37]
  exact regs _ _ (f12 m c)

/-- The regularisers of the down projection. -/
theorem res56 : StableHlo.after hostOps1 (found m c) (Proc.devRef .tc main_v56) = Cert.FwdIdeal.Spec.RD (m (c.tc.loc main_arg10)) := by
  rw [after_main_v56]
  exact regsD _ _ (f13 m c)

/-- What follows the kernel leaves is what the host operations leave of what they find. -/
theorem tail_eq (b : Ref sig .tc) : Pipeline.afterTail₀ cfgs (dats m) 0 (V0 m) [hostOps1] c b = StableHlo.after hostOps1 (found m c) (Proc.devRef .tc b) := by
  unfold Pipeline.afterTail₀
  rw [List.flatten_cons, List.flatten_nil, List.append_nil]

/-- Every run of the reference ends with the nine results `Spec`'s functions of the arguments. -/
theorem run_results : θ_run defs (onTc (τ := τ) (main (F := Ideal))) ⟨m, fun _ => 0, ρ⟩ (fun r => ∀ c : Dev nD,
      r.2.mem (c.tc.loc main_v82) = TokR m c pV
      ∧ r.2.mem (c.tc.loc main_v85) = TokR m c (fun s g _ => qV s g)
      ∧ r.2.mem (c.tc.loc main_v73) = TokR m c aV
      ∧ r.2.mem (c.tc.loc main_v86) = TokR m c aV
      ∧ r.2.mem (c.tc.loc main_v87) = TokTR m c aV
      ∧ r.2.mem (c.tc.loc main_v57) = Cert.FwdIdeal.Spec.WD (m (c.tc.loc main_arg8)) (m (c.tc.loc main_arg9)) (m (c.tc.loc main_arg10))
      ∧ r.2.mem (c.tc.loc main_v18) = Cert.FwdIdeal.Spec.R (m (c.tc.loc main_arg4))
      ∧ r.2.mem (c.tc.loc main_v37) = Cert.FwdIdeal.Spec.R (m (c.tc.loc main_arg7))
      ∧ r.2.mem (c.tc.loc main_v56) = Cert.FwdIdeal.Spec.RD (m (c.tc.loc main_arg10))) :=
  (θ_run defs _ _).mono (fun _ h c =>
    ⟨((h c).2 main_v82 (Pipeline.mem_restRefs_of main_v82 (by decide) (by decide))).trans ((tail_eq m c main_v82).trans (res82 m c)),
     ((h c).2 main_v85 (Pipeline.mem_restRefs_of main_v85 (by decide) (by decide))).trans ((tail_eq m c main_v85).trans (res85 m c)),
     ((h c).2 main_v73 (Pipeline.mem_restRefs_of main_v73 (by decide) (by decide))).trans ((tail_eq m c main_v73).trans (res73 m c)),
     ((h c).2 main_v86 (Pipeline.mem_restRefs_of main_v86 (by decide) (by decide))).trans ((tail_eq m c main_v86).trans (res86 m c)),
     ((h c).2 main_v87 (Pipeline.mem_restRefs_of main_v87 (by decide) (by decide))).trans ((tail_eq m c main_v87).trans (res87 m c)),
     ((h c).2 main_v57 (Pipeline.mem_restRefs_of main_v57 (by decide) (by decide))).trans ((tail_eq m c main_v57).trans (res57 m c)),
     ((h c).2 main_v18 (Pipeline.mem_restRefs_of main_v18 (by decide) (by decide))).trans ((tail_eq m c main_v18).trans (res18 m c)),
     ((h c).2 main_v37 (Pipeline.mem_restRefs_of main_v37 (by decide) (by decide))).trans ((tail_eq m c main_v37).trans (res37 m c)),
     ((h c).2 main_v56 (Pipeline.mem_restRefs_of main_v56 (by decide) (by decide))).trans ((tail_eq m c main_v56).trans (res56 m c))⟩) (run_main m ρ)

end Cert.FwdReferenceIdeal.Value

end
-- ==== Proof.lean ====
module

public import proofs.«01_k».proof.Defs
public import proofs.«01_k».proof.Proof.Gen.DownIdeal.Value
public import proofs.«01_k».proof.Proof.DownIdeal.Final
public import proofs.«01_k».proof.Proof.DactIdeal.Final
public import proofs.«01_k».proof.Proof.Gen.DactIdeal.Value
public import proofs.«01_k».proof.Proof.Gen.DownReferenceIdeal.Run
public import proofs.«01_k».proof.Proof.Gen.DownReferenceIdeal.Read
public import proofs.«01_k».proof.Proof.Gen.DactReferenceIdeal.Run
public import proofs.«01_k».proof.Proof.Gen.DactReferenceIdeal.Read
public import proofs.«01_k».proof.Proof.Gen.Down.Frame
public import proofs.«01_k».proof.Proof.Gen.Dact.Frame
public import proofs.«01_k».proof.Proof.Fwd.Frame
public import proofs.«01_k».proof.Proof.FwdIdeal.Results
public import proofs.«01_k».proof.Proof.FwdReferenceIdeal.Results
public import proofs.«01_k».proof.Proof.Gen.FwdReferenceIdeal.Frame
public import Idealize.ShloMosaic.Adequacy
public import Idealize.ShloMosaic.Init

@[expose] public section

noncomputable section

namespace Cert.Proof

open Idealize.ShloMosaic Idealize.SL.Sem Cert.Down

/-- The down projection's results and the reference's are the same functions of the arguments. -/
theorem algebraic_down : Cert.algebraic_DownIdeal_DownReferenceIdeal := by
  intro m ρ m' ρ' _ hagree
  refine ⟨fun c => DownIdeal.Final.Y (m (c.tc.loc DownIdeal.main_arg0)) (m (c.tc.loc DownIdeal.main_arg1)),
    fun c => DownIdeal.Final.DY (m (c.tc.loc DownIdeal.main_arg0)) (m (c.tc.loc DownIdeal.main_arg1)) (m (c.tc.loc DownIdeal.main_arg2)),
    fun c => DownIdeal.Final.Loss (m (c.tc.loc DownIdeal.main_arg0)) (m (c.tc.loc DownIdeal.main_arg1)) (m (c.tc.loc DownIdeal.main_arg2)),
    ?_, ?_⟩
  · refine (θ_run DownIdeal.defs _ _).mono (fun _ h c => ?_) (DownIdeal.Value.run_blocks (F := Ideal) m ρ)
    obtain ⟨h3, h4, h5, ha⟩ := h c
    exact ⟨h3.trans (DownIdeal.Final.final3 m c), h4.trans (DownIdeal.Final.final4 m c), h5.trans (DownIdeal.Final.final5 m c), ha⟩
  · refine (θ_run DownReferenceIdeal.defs _ _).mono (fun _ h c => ?_) (DownReferenceIdeal.Value.run (F := Ideal) m' ρ')
    obtain ⟨h0, h1, h2, ha⟩ := h c
    obtain ⟨e0, e1, e2⟩ := hagree c
    rw [e0, e1] at h0
    rw [e0, e1, e2] at h1 h2
    exact ⟨h0.trans (DownIdeal.Final.ref_y _ _), h1.trans (DownIdeal.Final.ref_dy _ _ _), h2.trans (DownIdeal.Final.ref_loss _ _ _), ha⟩

/-- The activation gradient's result and the reference's are the same function of the arguments. -/
theorem algebraic_dact : Cert.algebraic_DactIdeal_DactReferenceIdeal := by
  intro m ρ m' ρ' _ hagree
  refine ⟨fun c => DactIdeal.Final.G (m (c.tc.loc DactIdeal.main_arg0)) (m (c.tc.loc DactIdeal.main_arg1))
      (m (c.tc.loc DactIdeal.main_arg2)) (m (c.tc.loc DactIdeal.main_arg3)), ?_, ?_⟩
  · refine (θ_run DactIdeal.defs _ _).mono (fun _ h c => ?_) (DactIdeal.Value.run_blocks (F := Ideal) m ρ)
    obtain ⟨h4, ha⟩ := h c
    exact ⟨h4.trans (DactIdeal.Final.final m c), ha⟩
  · refine (θ_run DactReferenceIdeal.defs _ _).mono (fun _ h c => ?_) (DactReferenceIdeal.Value.run (F := Ideal) m' ρ')
    obtain ⟨h0, ha⟩ := h c
    obtain ⟨e0, e1, e2, e3⟩ := hagree c
    rw [e0, e1, e2, e3] at h0
    exact ⟨h0.trans (DactIdeal.Final.ref_eq _ _ _ _), ha⟩

/-- The forward kernel's results and the reference's are the same functions of the arguments. -/
theorem algebraic_fwd : Cert.algebraic_FwdIdeal_FwdReferenceIdeal := by
  intro m ρ m' ρ' _ hagree
  refine ⟨fun c => FwdIdeal.Gen.TokS m c FwdIdeal.Tile.pV, fun c => FwdIdeal.Gen.TokS m c (fun s g _ => FwdIdeal.Tile.qV s g),
    fun c => FwdIdeal.Gen.TokS m c FwdIdeal.Tile.aV, fun c => FwdIdeal.Gen.TokS m c FwdIdeal.Tile.aV, fun c => FwdIdeal.Gen.TokTS m c FwdIdeal.Tile.aV,
    fun c => FwdIdeal.Gen.WDS m c, fun c => FwdIdeal.Spec.R (m (c.tc.loc FwdIdeal.main_arg4)), fun c => FwdIdeal.Spec.R (m (c.tc.loc FwdIdeal.main_arg7)),
    fun c => FwdIdeal.Spec.RD (m (c.tc.loc FwdIdeal.main_arg10)), ?_, ?_⟩
  · refine (θ_run FwdIdeal.defs _ _).mono (fun _ h c => ?_) (θ_run_and (FwdIdeal.Final.run_results m ρ) (FwdIdeal.Gen.unchanged m ρ))
    obtain ⟨h0, h1, h2, h3, h4, h5, h6, h7, h8⟩ := h.1 c
    exact ⟨h0, h1, h2, h3, h4, h5, h6, h7, h8, h.2 c⟩
  · refine (θ_run FwdReferenceIdeal.defs _ _).mono (fun _ h c => ?_) (θ_run_and (FwdReferenceIdeal.Value.run_results m' ρ') (FwdReferenceIdeal.Gen.unchanged m' ρ'))
    obtain ⟨h0, h1, h2, h3, h4, h5, h6, h7, h8⟩ := h.1 c
    obtain ⟨e0, e1, e2, e3, e4, e5, e6, e7, e8, e9, e10⟩ := hagree c
    rw [FwdReferenceIdeal.Value.TokR, e0, e1, e2, e3, e4, e5, e6, e7] at h0 h1 h2 h3
    rw [FwdReferenceIdeal.Value.TokTR, e0, e1, e2, e3, e4, e5, e6, e7] at h4
    rw [e8, e9, e10] at h5
    rw [e4] at h6
    rw [e7] at h7
    rw [e10] at h8
    exact ⟨h0, h1, h2, h3, h4, h5, h6, h7, h8, h.2 c⟩

/-- Everything this certificate claims. -/
theorem claim : Cert.Claim := ⟨Cert.Down.Gen.facts, Cert.DownIdeal.Gen.facts, Cert.DownReferenceIdeal.Gen.facts, Cert.Dact.Gen.facts, Cert.DactIdeal.Gen.facts, Cert.DactReferenceIdeal.Gen.facts,
  Cert.Fwd.Gen.facts, Cert.FwdIdeal.Gen.facts, Cert.FwdReferenceIdeal.Gen.facts,
  fun m ρ _ => Cert.Down.Gen.frame m ρ, fun m ρ _ => Cert.DownIdeal.Gen.frame m ρ, fun m ρ _ => (θ_run DownReferenceIdeal.defs _ _).mono (fun r h => ⟨fun c => (h c).2.2.2, sem_eq_zero_of_no_sems (by decide) r.2⟩) (DownReferenceIdeal.Value.run m ρ),
  fun m ρ _ => Cert.Dact.Gen.frame m ρ, fun m ρ _ => Cert.DactIdeal.Gen.frame m ρ, fun m ρ _ => (θ_run DactReferenceIdeal.defs _ _).mono (fun r h => ⟨fun c => (h c).2, sem_eq_zero_of_no_sems (by decide) r.2⟩) (DactReferenceIdeal.Value.run m ρ),
  fun m ρ _ => Cert.Fwd.Gen.frame m ρ, fun m ρ _ => Cert.FwdIdeal.Gen.frame m ρ, fun m ρ _ => Cert.FwdReferenceIdeal.Gen.frame m ρ,
  trivial, algebraic_down, trivial, algebraic_dact, IdealRules.named_const.statement _ _ _ _ _ rfl, algebraic_fwd⟩

end Cert.Proof

end
